-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_Wxo (m : (ℓ : Loc Cert.Wxo.nD Cert.Wxo.τ Cert.Wxo.sig) → Buf (Elt Bits) ℓ) : Prop :=
  True

def Pre_WxoIdeal (m : (ℓ : Loc Cert.WxoIdeal.nD Cert.WxoIdeal.τ Cert.WxoIdeal.sig) → Buf (Elt Ideal) ℓ) : Prop :=
  True

def Pre_WxoRefIdeal (m : (ℓ : Loc Cert.WxoRefIdeal.nD Cert.WxoRefIdeal.τ Cert.WxoRefIdeal.sig) → Buf (Elt Ideal) ℓ) : Prop :=
  True

def Pre_Wxq (m : (ℓ : Loc Cert.Wxq.nD Cert.Wxq.τ Cert.Wxq.sig) → Buf (Elt Bits) ℓ) : Prop :=
  True

def Pre_WxqIdeal (m : (ℓ : Loc Cert.WxqIdeal.nD Cert.WxqIdeal.τ Cert.WxqIdeal.sig) → Buf (Elt Ideal) ℓ) : Prop :=
  True

def Pre_WxqRefIdeal (m : (ℓ : Loc Cert.WxqRefIdeal.nD Cert.WxqRefIdeal.τ Cert.WxqRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_Dh3Ideal_finite_mlp [hPre_finite_mlp : Cert.Pre_finite_mlp.Facts] (m : (ℓ : Loc Cert.Dh3Ideal.nD Cert.Dh3Ideal.τ Cert.Dh3Ideal.sig) → Buf (Elt Ideal) ℓ) : Prop :=
  ∀ c : Dev Cert.Dh3Ideal.nD,
    (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).1 = (fun _ => 1#1)
    ∧ (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).2.1 = (fun _ => 1#1)
    ∧ (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).2.2.1 = (fun _ => 1#1)
    ∧ (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).2.2.2.1 = (fun _ => 1#1)
    ∧ (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).2.2.2.2.1 = (fun _ => 1#1)
    ∧ (Cert.Pre_finite_mlp.fn (F := Ideal) (m ((c.tc : Thread Cert.Dh3Ideal.nD Cert.Dh3Ideal.τ).loc Cert.Dh3Ideal.main_arg0)) (m ((c.tc : Thread Cert.Dh3Ideal.nD Cert.Dh3Ideal.τ).loc Cert.Dh3Ideal.main_arg1)) (m ((c.tc : Thread Cert.Dh3Ideal.nD Cert.Dh3Ideal.τ).loc Cert.Dh3Ideal.main_arg2)) (m ((c.tc : Thread Cert.Dh3Ideal.nD Cert.Dh3Ideal.τ).loc Cert.Dh3Ideal.main_arg3)) (m ((c.tc : Thread Cert.Dh3Ideal.nD Cert.Dh3Ideal.τ).loc Cert.Dh3Ideal.main_arg4)) (m ((c.tc : Thread Cert.Dh3Ideal.nD Cert.Dh3Ideal.τ).loc Cert.Dh3Ideal.main_arg5)) (m ((c.tc : Thread Cert.Dh3Ideal.nD Cert.Dh3Ideal.τ).loc Cert.Dh3Ideal.main_arg6))).2.2.2.2.2 = (fun _ => 1#1)

def Pre_Dh3RefIdeal (m : (ℓ : Loc Cert.Dh3RefIdeal.nD Cert.Dh3RefIdeal.τ Cert.Dh3RefIdeal.sig) → Buf (Elt Ideal) ℓ) : Prop :=
  True

def Pre_Dh3RefIdeal_finite_mlp [hPre_finite_mlp : Cert.Pre_finite_mlp.Facts] (m : (ℓ : Loc Cert.Dh3RefIdeal.nD Cert.Dh3RefIdeal.τ Cert.Dh3RefIdeal.sig) → Buf (Elt Ideal) ℓ) : Prop :=
  ∀ c : Dev Cert.Dh3RefIdeal.nD,
    (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).1 = (fun _ => 1#1)
    ∧ (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).2.1 = (fun _ => 1#1)
    ∧ (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).2.2.1 = (fun _ => 1#1)
    ∧ (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).2.2.2.1 = (fun _ => 1#1)
    ∧ (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).2.2.2.2.1 = (fun _ => 1#1)
    ∧ (Cert.Pre_finite_mlp.fn (F := Ideal) (m ((c.tc : Thread Cert.Dh3RefIdeal.nD Cert.Dh3RefIdeal.τ).loc Cert.Dh3RefIdeal.main_arg0)) (m ((c.tc : Thread Cert.Dh3RefIdeal.nD Cert.Dh3RefIdeal.τ).loc Cert.Dh3RefIdeal.main_arg1)) (m ((c.tc : Thread Cert.Dh3RefIdeal.nD Cert.Dh3RefIdeal.τ).loc Cert.Dh3RefIdeal.main_arg2)) (m ((c.tc : Thread Cert.Dh3RefIdeal.nD Cert.Dh3RefIdeal.τ).loc Cert.Dh3RefIdeal.main_arg3)) (m ((c.tc : Thread Cert.Dh3RefIdeal.nD Cert.Dh3RefIdeal.τ).loc Cert.Dh3RefIdeal.main_arg4)) (m ((c.tc : Thread Cert.Dh3RefIdeal.nD Cert.Dh3RefIdeal.τ).loc Cert.Dh3RefIdeal.main_arg5)) (m ((c.tc : Thread Cert.Dh3RefIdeal.nD Cert.Dh3RefIdeal.τ).loc Cert.Dh3RefIdeal.main_arg6))).2.2.2.2.2 = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2Ideal_finite_xattn [hPre_finite_xattn : Cert.Pre_finite_xattn.Facts] (m : (ℓ : Loc Cert.Dh2Ideal.nD Cert.Dh2Ideal.τ Cert.Dh2Ideal.sig) → Buf (Elt Ideal) ℓ) : Prop :=
  ∀ c : Dev Cert.Dh2Ideal.nD,
    (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).1 = (fun _ => 1#1)
    ∧ (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).2.1 = (fun _ => 1#1)
    ∧ (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).2.2.1 = (fun _ => 1#1)
    ∧ (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).2.2.2.1 = (fun _ => 1#1)
    ∧ (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).2.2.2.2.1 = (fun _ => 1#1)
    ∧ (Cert.Pre_finite_xattn.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6))).2.2.2.2.2 = (fun _ => 1#1)

def Pre_Dh2RefIdeal (m : (ℓ : Loc Cert.Dh2RefIdeal.nD Cert.Dh2RefIdeal.τ Cert.Dh2RefIdeal.sig) → Buf (Elt Ideal) ℓ) : Prop :=
  True

def Pre_Dh2RefIdeal_finite_xattn [hPre_finite_xattn : Cert.Pre_finite_xattn.Facts] (m : (ℓ : Loc Cert.Dh2RefIdeal.nD Cert.Dh2RefIdeal.τ Cert.Dh2RefIdeal.sig) → Buf (Elt Ideal) ℓ) : Prop :=
  ∀ c : Dev Cert.Dh2RefIdeal.nD,
    (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).1 = (fun _ => 1#1)
    ∧ (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).2.1 = (fun _ => 1#1)
    ∧ (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).2.2.1 = (fun _ => 1#1)
    ∧ (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).2.2.2.1 = (fun _ => 1#1)
    ∧ (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).2.2.2.2.1 = (fun _ => 1#1)
    ∧ (Cert.Pre_finite_xattn.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6))).2.2.2.2.2 = (fun _ => 1#1)

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemIdeal_finite_memory [hPre_finite_memory : Cert.Pre_finite_memory.Facts] (m : (ℓ : Loc Cert.DmemIdeal.nD Cert.DmemIdeal.τ Cert.DmemIdeal.sig) → Buf (Elt Ideal) ℓ) : Prop :=
  ∀ c : Dev Cert.DmemIdeal.nD,
    (Cert.Pre_finite_memory.fn (F := Ideal) (m ((c.tc : Thread Cert.DmemIdeal.nD Cert.DmemIdeal.τ).loc Cert.DmemIdeal.main_arg0)) (m ((c.tc : Thread Cert.DmemIdeal.nD Cert.DmemIdeal.τ).loc Cert.DmemIdeal.main_arg1)) (m ((c.tc : Thread Cert.DmemIdeal.nD Cert.DmemIdeal.τ).loc Cert.DmemIdeal.main_arg2)) (m ((c.tc : Thread Cert.DmemIdeal.nD Cert.DmemIdeal.τ).loc Cert.DmemIdeal.main_arg3))).1 = (fun _ => 1#1)
    ∧ (Cert.Pre_finite_memory.fn (F := Ideal) (m ((c.tc : Thread Cert.DmemIdeal.nD Cert.DmemIdeal.τ).loc Cert.DmemIdeal.main_arg0)) (m ((c.tc : Thread Cert.DmemIdeal.nD Cert.DmemIdeal.τ).loc Cert.DmemIdeal.main_arg1)) (m ((c.tc : Thread Cert.DmemIdeal.nD Cert.DmemIdeal.τ).loc Cert.DmemIdeal.main_arg2)) (m ((c.tc : Thread Cert.DmemIdeal.nD Cert.DmemIdeal.τ).loc Cert.DmemIdeal.main_arg3))).2.1 = (fun _ => 1#1)
    ∧ (Cert.Pre_finite_memory.fn (F := Ideal) (m ((c.tc : Thread Cert.DmemIdeal.nD Cert.DmemIdeal.τ).loc Cert.DmemIdeal.main_arg0)) (m ((c.tc : Thread Cert.DmemIdeal.nD Cert.DmemIdeal.τ).loc Cert.DmemIdeal.main_arg1)) (m ((c.tc : Thread Cert.DmemIdeal.nD Cert.DmemIdeal.τ).loc Cert.DmemIdeal.main_arg2)) (m ((c.tc : Thread Cert.DmemIdeal.nD Cert.DmemIdeal.τ).loc Cert.DmemIdeal.main_arg3))).2.2.1 = (fun _ => 1#1)
    ∧ (Cert.Pre_finite_memory.fn (F := Ideal) (m ((c.tc : Thread Cert.DmemIdeal.nD Cert.DmemIdeal.τ).loc Cert.DmemIdeal.main_arg0)) (m ((c.tc : Thread Cert.DmemIdeal.nD Cert.DmemIdeal.τ).loc Cert.DmemIdeal.main_arg1)) (m ((c.tc : Thread Cert.DmemIdeal.nD Cert.DmemIdeal.τ).loc Cert.DmemIdeal.main_arg2)) (m ((c.tc : Thread Cert.DmemIdeal.nD Cert.DmemIdeal.τ).loc Cert.DmemIdeal.main_arg3))).2.2.2 = (fun _ => 1#1)

def Pre_DmemRefIdeal (m : (ℓ : Loc Cert.DmemRefIdeal.nD Cert.DmemRefIdeal.τ Cert.DmemRefIdeal.sig) → Buf (Elt Ideal) ℓ) : Prop :=
  True

def Pre_DmemRefIdeal_finite_memory [hPre_finite_memory : Cert.Pre_finite_memory.Facts] (m : (ℓ : Loc Cert.DmemRefIdeal.nD Cert.DmemRefIdeal.τ Cert.DmemRefIdeal.sig) → Buf (Elt Ideal) ℓ) : Prop :=
  ∀ c : Dev Cert.DmemRefIdeal.nD,
    (Cert.Pre_finite_memory.fn (F := Ideal) (m ((c.tc : Thread Cert.DmemRefIdeal.nD Cert.DmemRefIdeal.τ).loc Cert.DmemRefIdeal.main_arg0)) (m ((c.tc : Thread Cert.DmemRefIdeal.nD Cert.DmemRefIdeal.τ).loc Cert.DmemRefIdeal.main_arg1)) (m ((c.tc : Thread Cert.DmemRefIdeal.nD Cert.DmemRefIdeal.τ).loc Cert.DmemRefIdeal.main_arg2)) (m ((c.tc : Thread Cert.DmemRefIdeal.nD Cert.DmemRefIdeal.τ).loc Cert.DmemRefIdeal.main_arg3))).1 = (fun _ => 1#1)
    ∧ (Cert.Pre_finite_memory.fn (F := Ideal) (m ((c.tc : Thread Cert.DmemRefIdeal.nD Cert.DmemRefIdeal.τ).loc Cert.DmemRefIdeal.main_arg0)) (m ((c.tc : Thread Cert.DmemRefIdeal.nD Cert.DmemRefIdeal.τ).loc Cert.DmemRefIdeal.main_arg1)) (m ((c.tc : Thread Cert.DmemRefIdeal.nD Cert.DmemRefIdeal.τ).loc Cert.DmemRefIdeal.main_arg2)) (m ((c.tc : Thread Cert.DmemRefIdeal.nD Cert.DmemRefIdeal.τ).loc Cert.DmemRefIdeal.main_arg3))).2.1 = (fun _ => 1#1)
    ∧ (Cert.Pre_finite_memory.fn (F := Ideal) (m ((c.tc : Thread Cert.DmemRefIdeal.nD Cert.DmemRefIdeal.τ).loc Cert.DmemRefIdeal.main_arg0)) (m ((c.tc : Thread Cert.DmemRefIdeal.nD Cert.DmemRefIdeal.τ).loc Cert.DmemRefIdeal.main_arg1)) (m ((c.tc : Thread Cert.DmemRefIdeal.nD Cert.DmemRefIdeal.τ).loc Cert.DmemRefIdeal.main_arg2)) (m ((c.tc : Thread Cert.DmemRefIdeal.nD Cert.DmemRefIdeal.τ).loc Cert.DmemRefIdeal.main_arg3))).2.2.1 = (fun _ => 1#1)
    ∧ (Cert.Pre_finite_memory.fn (F := Ideal) (m ((c.tc : Thread Cert.DmemRefIdeal.nD Cert.DmemRefIdeal.τ).loc Cert.DmemRefIdeal.main_arg0)) (m ((c.tc : Thread Cert.DmemRefIdeal.nD Cert.DmemRefIdeal.τ).loc Cert.DmemRefIdeal.main_arg1)) (m ((c.tc : Thread Cert.DmemRefIdeal.nD Cert.DmemRefIdeal.τ).loc Cert.DmemRefIdeal.main_arg2)) (m ((c.tc : Thread Cert.DmemRefIdeal.nD Cert.DmemRefIdeal.τ).loc Cert.DmemRefIdeal.main_arg3))).2.2.2 = (fun _ => 1#1)

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1Ideal_finite_input [hPre_finite_input : Cert.Pre_finite_input.Facts] (m : (ℓ : Loc Cert.Dh1Ideal.nD Cert.Dh1Ideal.τ Cert.Dh1Ideal.sig) → Buf (Elt Ideal) ℓ) : Prop :=
  ∀ c : Dev Cert.Dh1Ideal.nD,
    (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.2.2.2.2.1 = (fun _ => 1#1)
    ∧ (Cert.Pre_finite_input.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9)) (m ((c.tc : Thread Cert.Dh1Ideal.nD Cert.Dh1Ideal.τ).loc Cert.Dh1Ideal.main_arg10))).2.2.2.2.2.2.2.2.2 = (fun _ => 1#1)

def Pre_Dh1RefIdeal (m : (ℓ : Loc Cert.Dh1RefIdeal.nD Cert.Dh1RefIdeal.τ Cert.Dh1RefIdeal.sig) → Buf (Elt Ideal) ℓ) : Prop :=
  True

def Pre_Dh1RefIdeal_finite_input [hPre_finite_input : Cert.Pre_finite_input.Facts] (m : (ℓ : Loc Cert.Dh1RefIdeal.nD Cert.Dh1RefIdeal.τ Cert.Dh1RefIdeal.sig) → Buf (Elt Ideal) ℓ) : Prop :=
  ∀ c : Dev Cert.Dh1RefIdeal.nD,
    (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.2.2.2.2.1 = (fun _ => 1#1)
    ∧ (Cert.Pre_finite_input.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9)) (m ((c.tc : Thread Cert.Dh1RefIdeal.nD Cert.Dh1RefIdeal.τ).loc Cert.Dh1RefIdeal.main_arg10))).2.2.2.2.2.2.2.2.2 = (fun _ => 1#1)

def Pre_WinDil (m : (ℓ : Loc Cert.WinDil.nD Cert.WinDil.τ Cert.WinDil.sig) → Buf (Elt Bits) ℓ) : Prop :=
  True

def Pre_WinDilIdeal (m : (ℓ : Loc Cert.WinDilIdeal.nD Cert.WinDilIdeal.τ Cert.WinDilIdeal.sig) → Buf (Elt Ideal) ℓ) : Prop :=
  True

def Pre_WinDilRefIdeal (m : (ℓ : Loc Cert.WinDilRefIdeal.nD Cert.WinDilRefIdeal.τ Cert.WinDilRefIdeal.sig) → Buf (Elt Ideal) ℓ) : Prop :=
  True

def Pre_WinFox (m : (ℓ : Loc Cert.WinFox.nD Cert.WinFox.τ Cert.WinFox.sig) → Buf (Elt Bits) ℓ) : Prop :=
  True

def Pre_WinFoxIdeal (m : (ℓ : Loc Cert.WinFoxIdeal.nD Cert.WinFoxIdeal.τ Cert.WinFoxIdeal.sig) → Buf (Elt Ideal) ℓ) : Prop :=
  True

def Pre_WinFoxRefIdeal (m : (ℓ : Loc Cert.WinFoxRefIdeal.nD Cert.WinFoxRefIdeal.τ Cert.WinFoxRefIdeal.sig) → Buf (Elt Ideal) ℓ) : Prop :=
  True

def Pre_Fxo (m : (ℓ : Loc Cert.Fxo.nD Cert.Fxo.τ Cert.Fxo.sig) → Buf (Elt Bits) ℓ) : Prop :=
  True

def Pre_FxoIdeal (m : (ℓ : Loc Cert.FxoIdeal.nD Cert.FxoIdeal.τ Cert.FxoIdeal.sig) → Buf (Elt Ideal) ℓ) : Prop :=
  True

def Pre_FxoRefIdeal (m : (ℓ : Loc Cert.FxoRefIdeal.nD Cert.FxoRefIdeal.τ Cert.FxoRefIdeal.sig) → Buf (Elt Ideal) ℓ) : Prop :=
  True

def Pre_Fout (m : (ℓ : Loc Cert.Fout.nD Cert.Fout.τ Cert.Fout.sig) → Buf (Elt Bits) ℓ) : Prop :=
  True

def Pre_FoutIdeal (m : (ℓ : Loc Cert.FoutIdeal.nD Cert.FoutIdeal.τ Cert.FoutIdeal.sig) → Buf (Elt Ideal) ℓ) : Prop :=
  True

def Pre_FoutRefIdeal (m : (ℓ : Loc Cert.FoutRefIdeal.nD Cert.FoutRefIdeal.τ Cert.FoutRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Fdown (m : (ℓ : Loc Cert.Fdown.nD Cert.Fdown.τ Cert.Fdown.sig) → Buf (Elt Bits) ℓ) : Prop :=
  True

def Pre_FdownIdeal (m : (ℓ : Loc Cert.FdownIdeal.nD Cert.FdownIdeal.τ Cert.FdownIdeal.sig) → Buf (Elt Ideal) ℓ) : Prop :=
  True

def Pre_FdownIdeal_finite_loss [hPre_finite_loss : Cert.Pre_finite_loss.Facts] (m : (ℓ : Loc Cert.FdownIdeal.nD Cert.FdownIdeal.τ Cert.FdownIdeal.sig) → Buf (Elt Ideal) ℓ) : Prop :=
  ∀ c : Dev Cert.FdownIdeal.nD,
    (Cert.Pre_finite_loss.fn (F := Ideal) (m ((c.tc : Thread Cert.FdownIdeal.nD Cert.FdownIdeal.τ).loc Cert.FdownIdeal.main_arg0)) (m ((c.tc : Thread Cert.FdownIdeal.nD Cert.FdownIdeal.τ).loc Cert.FdownIdeal.main_arg1)) (m ((c.tc : Thread Cert.FdownIdeal.nD Cert.FdownIdeal.τ).loc Cert.FdownIdeal.main_arg2)) (m ((c.tc : Thread Cert.FdownIdeal.nD Cert.FdownIdeal.τ).loc Cert.FdownIdeal.main_arg3)) (m ((c.tc : Thread Cert.FdownIdeal.nD Cert.FdownIdeal.τ).loc Cert.FdownIdeal.main_arg4))).1 = (fun _ => 1#1)
    ∧ (Cert.Pre_finite_loss.fn (F := Ideal) (m ((c.tc : Thread Cert.FdownIdeal.nD Cert.FdownIdeal.τ).loc Cert.FdownIdeal.main_arg0)) (m ((c.tc : Thread Cert.FdownIdeal.nD Cert.FdownIdeal.τ).loc Cert.FdownIdeal.main_arg1)) (m ((c.tc : Thread Cert.FdownIdeal.nD Cert.FdownIdeal.τ).loc Cert.FdownIdeal.main_arg2)) (m ((c.tc : Thread Cert.FdownIdeal.nD Cert.FdownIdeal.τ).loc Cert.FdownIdeal.main_arg3)) (m ((c.tc : Thread Cert.FdownIdeal.nD Cert.FdownIdeal.τ).loc Cert.FdownIdeal.main_arg4))).2.1 = (fun _ => 1#1)
    ∧ (Cert.Pre_finite_loss.fn (F := Ideal) (m ((c.tc : Thread Cert.FdownIdeal.nD Cert.FdownIdeal.τ).loc Cert.FdownIdeal.main_arg0)) (m ((c.tc : Thread Cert.FdownIdeal.nD Cert.FdownIdeal.τ).loc Cert.FdownIdeal.main_arg1)) (m ((c.tc : Thread Cert.FdownIdeal.nD Cert.FdownIdeal.τ).loc Cert.FdownIdeal.main_arg2)) (m ((c.tc : Thread Cert.FdownIdeal.nD Cert.FdownIdeal.τ).loc Cert.FdownIdeal.main_arg3)) (m ((c.tc : Thread Cert.FdownIdeal.nD Cert.FdownIdeal.τ).loc Cert.FdownIdeal.main_arg4))).2.2.1 = (fun _ => 1#1)
    ∧ (Cert.Pre_finite_loss.fn (F := Ideal) (m ((c.tc : Thread Cert.FdownIdeal.nD Cert.FdownIdeal.τ).loc Cert.FdownIdeal.main_arg0)) (m ((c.tc : Thread Cert.FdownIdeal.nD Cert.FdownIdeal.τ).loc Cert.FdownIdeal.main_arg1)) (m ((c.tc : Thread Cert.FdownIdeal.nD Cert.FdownIdeal.τ).loc Cert.FdownIdeal.main_arg2)) (m ((c.tc : Thread Cert.FdownIdeal.nD Cert.FdownIdeal.τ).loc Cert.FdownIdeal.main_arg3)) (m ((c.tc : Thread Cert.FdownIdeal.nD Cert.FdownIdeal.τ).loc Cert.FdownIdeal.main_arg4))).2.2.2.1 = (fun _ => 1#1)
    ∧ (Cert.Pre_finite_loss.fn (F := Ideal) (m ((c.tc : Thread Cert.FdownIdeal.nD Cert.FdownIdeal.τ).loc Cert.FdownIdeal.main_arg0)) (m ((c.tc : Thread Cert.FdownIdeal.nD Cert.FdownIdeal.τ).loc Cert.FdownIdeal.main_arg1)) (m ((c.tc : Thread Cert.FdownIdeal.nD Cert.FdownIdeal.τ).loc Cert.FdownIdeal.main_arg2)) (m ((c.tc : Thread Cert.FdownIdeal.nD Cert.FdownIdeal.τ).loc Cert.FdownIdeal.main_arg3)) (m ((c.tc : Thread Cert.FdownIdeal.nD Cert.FdownIdeal.τ).loc Cert.FdownIdeal.main_arg4))).2.2.2.2 = (fun _ => 1#1)

def Pre_FdownRefIdeal (m : (ℓ : Loc Cert.FdownRefIdeal.nD Cert.FdownRefIdeal.τ Cert.FdownRefIdeal.sig) → Buf (Elt Ideal) ℓ) : Prop :=
  True

def Pre_FdownRefIdeal_finite_loss [hPre_finite_loss : Cert.Pre_finite_loss.Facts] (m : (ℓ : Loc Cert.FdownRefIdeal.nD Cert.FdownRefIdeal.τ Cert.FdownRefIdeal.sig) → Buf (Elt Ideal) ℓ) : Prop :=
  ∀ c : Dev Cert.FdownRefIdeal.nD,
    (Cert.Pre_finite_loss.fn (F := Ideal) (m ((c.tc : Thread Cert.FdownRefIdeal.nD Cert.FdownRefIdeal.τ).loc Cert.FdownRefIdeal.main_arg0)) (m ((c.tc : Thread Cert.FdownRefIdeal.nD Cert.FdownRefIdeal.τ).loc Cert.FdownRefIdeal.main_arg1)) (m ((c.tc : Thread Cert.FdownRefIdeal.nD Cert.FdownRefIdeal.τ).loc Cert.FdownRefIdeal.main_arg2)) (m ((c.tc : Thread Cert.FdownRefIdeal.nD Cert.FdownRefIdeal.τ).loc Cert.FdownRefIdeal.main_arg3)) (m ((c.tc : Thread Cert.FdownRefIdeal.nD Cert.FdownRefIdeal.τ).loc Cert.FdownRefIdeal.main_arg4))).1 = (fun _ => 1#1)
    ∧ (Cert.Pre_finite_loss.fn (F := Ideal) (m ((c.tc : Thread Cert.FdownRefIdeal.nD Cert.FdownRefIdeal.τ).loc Cert.FdownRefIdeal.main_arg0)) (m ((c.tc : Thread Cert.FdownRefIdeal.nD Cert.FdownRefIdeal.τ).loc Cert.FdownRefIdeal.main_arg1)) (m ((c.tc : Thread Cert.FdownRefIdeal.nD Cert.FdownRefIdeal.τ).loc Cert.FdownRefIdeal.main_arg2)) (m ((c.tc : Thread Cert.FdownRefIdeal.nD Cert.FdownRefIdeal.τ).loc Cert.FdownRefIdeal.main_arg3)) (m ((c.tc : Thread Cert.FdownRefIdeal.nD Cert.FdownRefIdeal.τ).loc Cert.FdownRefIdeal.main_arg4))).2.1 = (fun _ => 1#1)
    ∧ (Cert.Pre_finite_loss.fn (F := Ideal) (m ((c.tc : Thread Cert.FdownRefIdeal.nD Cert.FdownRefIdeal.τ).loc Cert.FdownRefIdeal.main_arg0)) (m ((c.tc : Thread Cert.FdownRefIdeal.nD Cert.FdownRefIdeal.τ).loc Cert.FdownRefIdeal.main_arg1)) (m ((c.tc : Thread Cert.FdownRefIdeal.nD Cert.FdownRefIdeal.τ).loc Cert.FdownRefIdeal.main_arg2)) (m ((c.tc : Thread Cert.FdownRefIdeal.nD Cert.FdownRefIdeal.τ).loc Cert.FdownRefIdeal.main_arg3)) (m ((c.tc : Thread Cert.FdownRefIdeal.nD Cert.FdownRefIdeal.τ).loc Cert.FdownRefIdeal.main_arg4))).2.2.1 = (fun _ => 1#1)
    ∧ (Cert.Pre_finite_loss.fn (F := Ideal) (m ((c.tc : Thread Cert.FdownRefIdeal.nD Cert.FdownRefIdeal.τ).loc Cert.FdownRefIdeal.main_arg0)) (m ((c.tc : Thread Cert.FdownRefIdeal.nD Cert.FdownRefIdeal.τ).loc Cert.FdownRefIdeal.main_arg1)) (m ((c.tc : Thread Cert.FdownRefIdeal.nD Cert.FdownRefIdeal.τ).loc Cert.FdownRefIdeal.main_arg2)) (m ((c.tc : Thread Cert.FdownRefIdeal.nD Cert.FdownRefIdeal.τ).loc Cert.FdownRefIdeal.main_arg3)) (m ((c.tc : Thread Cert.FdownRefIdeal.nD Cert.FdownRefIdeal.τ).loc Cert.FdownRefIdeal.main_arg4))).2.2.2.1 = (fun _ => 1#1)
    ∧ (Cert.Pre_finite_loss.fn (F := Ideal) (m ((c.tc : Thread Cert.FdownRefIdeal.nD Cert.FdownRefIdeal.τ).loc Cert.FdownRefIdeal.main_arg0)) (m ((c.tc : Thread Cert.FdownRefIdeal.nD Cert.FdownRefIdeal.τ).loc Cert.FdownRefIdeal.main_arg1)) (m ((c.tc : Thread Cert.FdownRefIdeal.nD Cert.FdownRefIdeal.τ).loc Cert.FdownRefIdeal.main_arg2)) (m ((c.tc : Thread Cert.FdownRefIdeal.nD Cert.FdownRefIdeal.τ).loc Cert.FdownRefIdeal.main_arg3)) (m ((c.tc : Thread Cert.FdownRefIdeal.nD Cert.FdownRefIdeal.τ).loc Cert.FdownRefIdeal.main_arg4))).2.2.2.2 = (fun _ => 1#1)

def Pre_Fxattn (m : (ℓ : Loc Cert.Fxattn.nD Cert.Fxattn.τ Cert.Fxattn.sig) → Buf (Elt Bits) ℓ) : Prop :=
  True

def Pre_FxattnIdeal (m : (ℓ : Loc Cert.FxattnIdeal.nD Cert.FxattnIdeal.τ Cert.FxattnIdeal.sig) → Buf (Elt Ideal) ℓ) : Prop :=
  True

def Pre_FxattnIdeal_finite_scores [hPre_finite_scores : Cert.Pre_finite_scores.Facts] (m : (ℓ : Loc Cert.FxattnIdeal.nD Cert.FxattnIdeal.τ Cert.FxattnIdeal.sig) → Buf (Elt Ideal) ℓ) : Prop :=
  ∀ c : Dev Cert.FxattnIdeal.nD,
    (Cert.Pre_finite_scores.fn (F := Ideal) (m ((c.tc : Thread Cert.FxattnIdeal.nD Cert.FxattnIdeal.τ).loc Cert.FxattnIdeal.main_arg0)) (m ((c.tc : Thread Cert.FxattnIdeal.nD Cert.FxattnIdeal.τ).loc Cert.FxattnIdeal.main_arg1))).1 = (fun _ => 1#1)
    ∧ (Cert.Pre_finite_scores.fn (F := Ideal) (m ((c.tc : Thread Cert.FxattnIdeal.nD Cert.FxattnIdeal.τ).loc Cert.FxattnIdeal.main_arg0)) (m ((c.tc : Thread Cert.FxattnIdeal.nD Cert.FxattnIdeal.τ).loc Cert.FxattnIdeal.main_arg1))).2 = (fun _ => 1#1)

def Pre_FxattnRefIdeal (m : (ℓ : Loc Cert.FxattnRefIdeal.nD Cert.FxattnRefIdeal.τ Cert.FxattnRefIdeal.sig) → Buf (Elt Ideal) ℓ) : Prop :=
  True

def Pre_FxattnRefIdeal_finite_scores [hPre_finite_scores : Cert.Pre_finite_scores.Facts] (m : (ℓ : Loc Cert.FxattnRefIdeal.nD Cert.FxattnRefIdeal.τ Cert.FxattnRefIdeal.sig) → Buf (Elt Ideal) ℓ) : Prop :=
  ∀ c : Dev Cert.FxattnRefIdeal.nD,
    (Cert.Pre_finite_scores.fn (F := Ideal) (m ((c.tc : Thread Cert.FxattnRefIdeal.nD Cert.FxattnRefIdeal.τ).loc Cert.FxattnRefIdeal.main_arg0)) (m ((c.tc : Thread Cert.FxattnRefIdeal.nD Cert.FxattnRefIdeal.τ).loc Cert.FxattnRefIdeal.main_arg1))).1 = (fun _ => 1#1)
    ∧ (Cert.Pre_finite_scores.fn (F := Ideal) (m ((c.tc : Thread Cert.FxattnRefIdeal.nD Cert.FxattnRefIdeal.τ).loc Cert.FxattnRefIdeal.main_arg0)) (m ((c.tc : Thread Cert.FxattnRefIdeal.nD Cert.FxattnRefIdeal.τ).loc Cert.FxattnRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1)
      ∧ r.2.mem ((c.tc : Thread Cert.Wdown.nD Cert.Wdown.τ).loc Cert.Wdown.main_arg2) = m ((c.tc : Thread Cert.Wdown.nD Cert.Wdown.τ).loc Cert.Wdown.main_arg2))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
      ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1)
      ∧ r.2.mem ((c.tc : Thread Cert.WdownRefIdeal.nD Cert.WdownRefIdeal.τ).loc Cert.WdownRefIdeal.main_arg2) = m ((c.tc : Thread Cert.WdownRefIdeal.nD Cert.WdownRefIdeal.τ).loc Cert.WdownRefIdeal.main_arg2))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2))
      ∧ r.2.sem = fun _ => 0)

def quiescent_Wxo [hWxo : Cert.Wxo.Facts] : Prop :=
  ∀ (m : (ℓ : Loc Cert.Wxo.nD Cert.Wxo.τ Cert.Wxo.sig) → Buf (Elt Bits) ℓ) (g : Dev Cert.Wxo.nD → PrngReg), Pre_Wxo m →
    θ_run (Cert.Wxo.defs (F := Bits)) (onTc (τ := Cert.Wxo.τ) (Cert.Wxo.main (F := Bits))) ⟨m, fun _ => 0, g⟩ (fun r => (∀ c : Dev Cert.Wxo.nD,
      r.2.mem ((c.tc : Thread Cert.Wxo.nD Cert.Wxo.τ).loc Cert.Wxo.main_arg0) = m ((c.tc : Thread Cert.Wxo.nD Cert.Wxo.τ).loc Cert.Wxo.main_arg0)
      ∧ r.2.mem ((c.tc : Thread Cert.Wxo.nD Cert.Wxo.τ).loc Cert.Wxo.main_arg1) = m ((c.tc : Thread Cert.Wxo.nD Cert.Wxo.τ).loc Cert.Wxo.main_arg1)
      ∧ r.2.mem ((c.tc : Thread Cert.Wxo.nD Cert.Wxo.τ).loc Cert.Wxo.main_arg2) = m ((c.tc : Thread Cert.Wxo.nD Cert.Wxo.τ).loc Cert.Wxo.main_arg2))
      ∧ r.2.sem = fun _ => 0)

def quiescent_WxoIdeal [hWxoIdeal : Cert.WxoIdeal.Facts] : Prop :=
  ∀ (m : (ℓ : Loc Cert.WxoIdeal.nD Cert.WxoIdeal.τ Cert.WxoIdeal.sig) → Buf (Elt Ideal) ℓ) (g : Dev Cert.WxoIdeal.nD → PrngReg), Pre_WxoIdeal m →
    θ_run (Cert.WxoIdeal.defs (F := Ideal)) (onTc (τ := Cert.WxoIdeal.τ) (Cert.WxoIdeal.main (F := Ideal))) ⟨m, fun _ => 0, g⟩ (fun r => (∀ c : Dev Cert.WxoIdeal.nD,
      r.2.mem ((c.tc : Thread Cert.WxoIdeal.nD Cert.WxoIdeal.τ).loc Cert.WxoIdeal.main_arg0) = m ((c.tc : Thread Cert.WxoIdeal.nD Cert.WxoIdeal.τ).loc Cert.WxoIdeal.main_arg0)
      ∧ r.2.mem ((c.tc : Thread Cert.WxoIdeal.nD Cert.WxoIdeal.τ).loc Cert.WxoIdeal.main_arg1) = m ((c.tc : Thread Cert.WxoIdeal.nD Cert.WxoIdeal.τ).loc Cert.WxoIdeal.main_arg1)
      ∧ r.2.mem ((c.tc : Thread Cert.WxoIdeal.nD Cert.WxoIdeal.τ).loc Cert.WxoIdeal.main_arg2) = m ((c.tc : Thread Cert.WxoIdeal.nD Cert.WxoIdeal.τ).loc Cert.WxoIdeal.main_arg2))
      ∧ r.2.sem = fun _ => 0)

def quiescent_WxoRefIdeal [hWxoRefIdeal : Cert.WxoRefIdeal.Facts] : Prop :=
  ∀ (m : (ℓ : Loc Cert.WxoRefIdeal.nD Cert.WxoRefIdeal.τ Cert.WxoRefIdeal.sig) → Buf (Elt Ideal) ℓ) (g : Dev Cert.WxoRefIdeal.nD → PrngReg), Pre_WxoRefIdeal m →
    θ_run (Cert.WxoRefIdeal.defs (F := Ideal)) (onTc (τ := Cert.WxoRefIdeal.τ) (Cert.WxoRefIdeal.main (F := Ideal))) ⟨m, fun _ => 0, g⟩ (fun r => (∀ c : Dev Cert.WxoRefIdeal.nD,
      r.2.mem ((c.tc : Thread Cert.WxoRefIdeal.nD Cert.WxoRefIdeal.τ).loc Cert.WxoRefIdeal.main_arg0) = m ((c.tc : Thread Cert.WxoRefIdeal.nD Cert.WxoRefIdeal.τ).loc Cert.WxoRefIdeal.main_arg0)
      ∧ r.2.mem ((c.tc : Thread Cert.WxoRefIdeal.nD Cert.WxoRefIdeal.τ).loc Cert.WxoRefIdeal.main_arg1) = m ((c.tc : Thread Cert.WxoRefIdeal.nD Cert.WxoRefIdeal.τ).loc Cert.WxoRefIdeal.main_arg1)
      ∧ r.2.mem ((c.tc : Thread Cert.WxoRefIdeal.nD Cert.WxoRefIdeal.τ).loc Cert.WxoRefIdeal.main_arg2) = m ((c.tc : Thread Cert.WxoRefIdeal.nD Cert.WxoRefIdeal.τ).loc Cert.WxoRefIdeal.main_arg2))
      ∧ r.2.sem = fun _ => 0)

def quiescent_Wxq [hWxq : Cert.Wxq.Facts] : Prop :=
  ∀ (m : (ℓ : Loc Cert.Wxq.nD Cert.Wxq.τ Cert.Wxq.sig) → Buf (Elt Bits) ℓ) (g : Dev Cert.Wxq.nD → PrngReg), Pre_Wxq m →
    θ_run (Cert.Wxq.defs (F := Bits)) (onTc (τ := Cert.Wxq.τ) (Cert.Wxq.main (F := Bits))) ⟨m, fun _ => 0, g⟩ (fun r => (∀ c : Dev Cert.Wxq.nD,
      r.2.mem ((c.tc : Thread Cert.Wxq.nD Cert.Wxq.τ).loc Cert.Wxq.main_arg0) = m ((c.tc : Thread Cert.Wxq.nD Cert.Wxq.τ).loc Cert.Wxq.main_arg0)
      ∧ r.2.mem ((c.tc : Thread Cert.Wxq.nD Cert.Wxq.τ).loc Cert.Wxq.main_arg1) = m ((c.tc : Thread Cert.Wxq.nD Cert.Wxq.τ).loc Cert.Wxq.main_arg1)
      ∧ r.2.mem ((c.tc : Thread Cert.Wxq.nD Cert.Wxq.τ).loc Cert.Wxq.main_arg2) = m ((c.tc : Thread Cert.Wxq.nD Cert.Wxq.τ).loc Cert.Wxq.main_arg2))
      ∧ r.2.sem = fun _ => 0)

def quiescent_WxqIdeal [hWxqIdeal : Cert.WxqIdeal.Facts] : Prop :=
  ∀ (m : (ℓ : Loc Cert.WxqIdeal.nD Cert.WxqIdeal.τ Cert.WxqIdeal.sig) → Buf (Elt Ideal) ℓ) (g : Dev Cert.WxqIdeal.nD → PrngReg), Pre_WxqIdeal m →
    θ_run (Cert.WxqIdeal.defs (F := Ideal)) (onTc (τ := Cert.WxqIdeal.τ) (Cert.WxqIdeal.main (F := Ideal))) ⟨m, fun _ => 0, g⟩ (fun r => (∀ c : Dev Cert.WxqIdeal.nD,
      r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
      ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1)
      ∧ r.2.mem ((c.tc : Thread Cert.WxqIdeal.nD Cert.WxqIdeal.τ).loc Cert.WxqIdeal.main_arg2) = m ((c.tc : Thread Cert.WxqIdeal.nD Cert.WxqIdeal.τ).loc Cert.WxqIdeal.main_arg2))
      ∧ r.2.sem = fun _ => 0)

def quiescent_WxqRefIdeal [hWxqRefIdeal : Cert.WxqRefIdeal.Facts] : Prop :=
  ∀ (m : (ℓ : Loc Cert.WxqRefIdeal.nD Cert.WxqRefIdeal.τ Cert.WxqRefIdeal.sig) → Buf (Elt Ideal) ℓ) (g : Dev Cert.WxqRefIdeal.nD → PrngReg), Pre_WxqRefIdeal m →
    θ_run (Cert.WxqRefIdeal.defs (F := Ideal)) (onTc (τ := Cert.WxqRefIdeal.τ) (Cert.WxqRefIdeal.main (F := Ideal))) ⟨m, fun _ => 0, g⟩ (fun r => (∀ c : Dev Cert.WxqRefIdeal.nD,
      r.2.mem ((c.tc : Thread Cert.WxqRefIdeal.nD Cert.WxqRefIdeal.τ).loc Cert.WxqRefIdeal.main_arg0) = m ((c.tc : Thread Cert.WxqRefIdeal.nD Cert.WxqRefIdeal.τ).loc Cert.WxqRefIdeal.main_arg0)
      ∧ r.2.mem ((c.tc : Thread Cert.WxqRefIdeal.nD Cert.WxqRefIdeal.τ).loc Cert.WxqRefIdeal.main_arg1) = m ((c.tc : Thread Cert.WxqRefIdeal.nD Cert.WxqRefIdeal.τ).loc Cert.WxqRefIdeal.main_arg1)
      ∧ r.2.mem ((c.tc : Thread Cert.WxqRefIdeal.nD Cert.WxqRefIdeal.τ).loc Cert.WxqRefIdeal.main_arg2) = m ((c.tc : Thread Cert.WxqRefIdeal.nD Cert.WxqRefIdeal.τ).loc Cert.WxqRefIdeal.main_arg2))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1)
      ∧ r.2.mem ((c.tc : Thread Cert.Dh3.nD Cert.Dh3.τ).loc Cert.Dh3.main_arg2) = m ((c.tc : Thread Cert.Dh3.nD Cert.Dh3.τ).loc Cert.Dh3.main_arg2)
      ∧ r.2.mem ((c.tc : Thread Cert.Dh3.nD Cert.Dh3.τ).loc Cert.Dh3.main_arg3) = m ((c.tc : Thread Cert.Dh3.nD Cert.Dh3.τ).loc Cert.Dh3.main_arg3)
      ∧ r.2.mem ((c.tc : Thread Cert.Dh3.nD Cert.Dh3.τ).loc Cert.Dh3.main_arg4) = m ((c.tc : Thread Cert.Dh3.nD Cert.Dh3.τ).loc Cert.Dh3.main_arg4)
      ∧ r.2.mem ((c.tc : Thread Cert.Dh3.nD Cert.Dh3.τ).loc Cert.Dh3.main_arg5) = m ((c.tc : Thread Cert.Dh3.nD Cert.Dh3.τ).loc Cert.Dh3.main_arg5)
      ∧ r.2.mem ((c.tc : Thread Cert.Dh3.nD Cert.Dh3.τ).loc Cert.Dh3.main_arg6) = m ((c.tc : Thread Cert.Dh3.nD Cert.Dh3.τ).loc Cert.Dh3.main_arg6))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
      ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2)
      ∧ r.2.mem ((c.tc : Thread Cert.Dh3Ideal.nD Cert.Dh3Ideal.τ).loc Cert.Dh3Ideal.main_arg3) = m ((c.tc : Thread Cert.Dh3Ideal.nD Cert.Dh3Ideal.τ).loc Cert.Dh3Ideal.main_arg3)
      ∧ r.2.mem ((c.tc : Thread Cert.Dh3Ideal.nD Cert.Dh3Ideal.τ).loc Cert.Dh3Ideal.main_arg4) = m ((c.tc : Thread Cert.Dh3Ideal.nD Cert.Dh3Ideal.τ).loc Cert.Dh3Ideal.main_arg4)
      ∧ r.2.mem ((c.tc : Thread Cert.Dh3Ideal.nD Cert.Dh3Ideal.τ).loc Cert.Dh3Ideal.main_arg5) = m ((c.tc : Thread Cert.Dh3Ideal.nD Cert.Dh3Ideal.τ).loc Cert.Dh3Ideal.main_arg5)
      ∧ r.2.mem ((c.tc : Thread Cert.Dh3Ideal.nD Cert.Dh3Ideal.τ).loc Cert.Dh3Ideal.main_arg6) = m ((c.tc : Thread Cert.Dh3Ideal.nD Cert.Dh3Ideal.τ).loc Cert.Dh3Ideal.main_arg6))
      ∧ r.2.sem = fun _ => 0)

def quiescent_Dh3Ideal_pre_finite_mlp [hDh3Ideal : Cert.Dh3Ideal.Facts] [hPre_finite_mlp : Cert.Pre_finite_mlp.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal_finite_mlp m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
      ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2)
      ∧ r.2.mem ((c.tc : Thread Cert.Dh3Ideal.nD Cert.Dh3Ideal.τ).loc Cert.Dh3Ideal.main_arg3) = m ((c.tc : Thread Cert.Dh3Ideal.nD Cert.Dh3Ideal.τ).loc Cert.Dh3Ideal.main_arg3)
      ∧ r.2.mem ((c.tc : Thread Cert.Dh3Ideal.nD Cert.Dh3Ideal.τ).loc Cert.Dh3Ideal.main_arg4) = m ((c.tc : Thread Cert.Dh3Ideal.nD Cert.Dh3Ideal.τ).loc Cert.Dh3Ideal.main_arg4)
      ∧ r.2.mem ((c.tc : Thread Cert.Dh3Ideal.nD Cert.Dh3Ideal.τ).loc Cert.Dh3Ideal.main_arg5) = m ((c.tc : Thread Cert.Dh3Ideal.nD Cert.Dh3Ideal.τ).loc Cert.Dh3Ideal.main_arg5)
      ∧ r.2.mem ((c.tc : Thread Cert.Dh3Ideal.nD Cert.Dh3Ideal.τ).loc Cert.Dh3Ideal.main_arg6) = m ((c.tc : Thread Cert.Dh3Ideal.nD Cert.Dh3Ideal.τ).loc Cert.Dh3Ideal.main_arg6))
      ∧ r.2.sem = fun _ => 0)

def quiescent_Dh3RefIdeal [hDh3RefIdeal : Cert.Dh3RefIdeal.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1)
      ∧ r.2.mem ((c.tc : Thread Cert.Dh3RefIdeal.nD Cert.Dh3RefIdeal.τ).loc Cert.Dh3RefIdeal.main_arg2) = m ((c.tc : Thread Cert.Dh3RefIdeal.nD Cert.Dh3RefIdeal.τ).loc Cert.Dh3RefIdeal.main_arg2)
      ∧ r.2.mem ((c.tc : Thread Cert.Dh3RefIdeal.nD Cert.Dh3RefIdeal.τ).loc Cert.Dh3RefIdeal.main_arg3) = m ((c.tc : Thread Cert.Dh3RefIdeal.nD Cert.Dh3RefIdeal.τ).loc Cert.Dh3RefIdeal.main_arg3)
      ∧ r.2.mem ((c.tc : Thread Cert.Dh3RefIdeal.nD Cert.Dh3RefIdeal.τ).loc Cert.Dh3RefIdeal.main_arg4) = m ((c.tc : Thread Cert.Dh3RefIdeal.nD Cert.Dh3RefIdeal.τ).loc Cert.Dh3RefIdeal.main_arg4)
      ∧ r.2.mem ((c.tc : Thread Cert.Dh3RefIdeal.nD Cert.Dh3RefIdeal.τ).loc Cert.Dh3RefIdeal.main_arg5) = m ((c.tc : Thread Cert.Dh3RefIdeal.nD Cert.Dh3RefIdeal.τ).loc Cert.Dh3RefIdeal.main_arg5)
      ∧ r.2.mem ((c.tc : Thread Cert.Dh3RefIdeal.nD Cert.Dh3RefIdeal.τ).loc Cert.Dh3RefIdeal.main_arg6) = m ((c.tc : Thread Cert.Dh3RefIdeal.nD Cert.Dh3RefIdeal.τ).loc Cert.Dh3RefIdeal.main_arg6))
      ∧ r.2.sem = fun _ => 0)

def quiescent_Dh3RefIdeal_pre_finite_mlp [hDh3RefIdeal : Cert.Dh3RefIdeal.Facts] [hPre_finite_mlp : Cert.Pre_finite_mlp.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal_finite_mlp m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1)
      ∧ r.2.mem ((c.tc : Thread Cert.Dh3RefIdeal.nD Cert.Dh3RefIdeal.τ).loc Cert.Dh3RefIdeal.main_arg2) = m ((c.tc : Thread Cert.Dh3RefIdeal.nD Cert.Dh3RefIdeal.τ).loc Cert.Dh3RefIdeal.main_arg2)
      ∧ r.2.mem ((c.tc : Thread Cert.Dh3RefIdeal.nD Cert.Dh3RefIdeal.τ).loc Cert.Dh3RefIdeal.main_arg3) = m ((c.tc : Thread Cert.Dh3RefIdeal.nD Cert.Dh3RefIdeal.τ).loc Cert.Dh3RefIdeal.main_arg3)
      ∧ r.2.mem ((c.tc : Thread Cert.Dh3RefIdeal.nD Cert.Dh3RefIdeal.τ).loc Cert.Dh3RefIdeal.main_arg4) = m ((c.tc : Thread Cert.Dh3RefIdeal.nD Cert.Dh3RefIdeal.τ).loc Cert.Dh3RefIdeal.main_arg4)
      ∧ r.2.mem ((c.tc : Thread Cert.Dh3RefIdeal.nD Cert.Dh3RefIdeal.τ).loc Cert.Dh3RefIdeal.main_arg5) = m ((c.tc : Thread Cert.Dh3RefIdeal.nD Cert.Dh3RefIdeal.τ).loc Cert.Dh3RefIdeal.main_arg5)
      ∧ r.2.mem ((c.tc : Thread Cert.Dh3RefIdeal.nD Cert.Dh3RefIdeal.τ).loc Cert.Dh3RefIdeal.main_arg6) = m ((c.tc : Thread Cert.Dh3RefIdeal.nD Cert.Dh3RefIdeal.τ).loc Cert.Dh3RefIdeal.main_arg6))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4)
      ∧ r.2.mem ((c.tc : Thread Cert.Dh2.nD Cert.Dh2.τ).loc Cert.Dh2.main_arg5) = m ((c.tc : Thread Cert.Dh2.nD Cert.Dh2.τ).loc Cert.Dh2.main_arg5)
      ∧ r.2.mem ((c.tc : Thread Cert.Dh2.nD Cert.Dh2.τ).loc Cert.Dh2.main_arg6) = m ((c.tc : Thread Cert.Dh2.nD Cert.Dh2.τ).loc Cert.Dh2.main_arg6))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
      ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6))
      ∧ r.2.sem = fun _ => 0)

def quiescent_Dh2Ideal_pre_finite_xattn [hDh2Ideal : Cert.Dh2Ideal.Facts] [hPre_finite_xattn : Cert.Pre_finite_xattn.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal_finite_xattn m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
      ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4)
      ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5)
      ∧ r.2.mem ((c.tc : Thread Cert.Dh2RefIdeal.nD Cert.Dh2RefIdeal.τ).loc Cert.Dh2RefIdeal.main_arg6) = m ((c.tc : Thread Cert.Dh2RefIdeal.nD Cert.Dh2RefIdeal.τ).loc Cert.Dh2RefIdeal.main_arg6))
      ∧ r.2.sem = fun _ => 0)

def quiescent_Dh2RefIdeal_pre_finite_xattn [hDh2RefIdeal : Cert.Dh2RefIdeal.Facts] [hPre_finite_xattn : Cert.Pre_finite_xattn.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal_finite_xattn m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4)
      ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5)
      ∧ r.2.mem ((c.tc : Thread Cert.Dh2RefIdeal.nD Cert.Dh2RefIdeal.τ).loc Cert.Dh2RefIdeal.main_arg6) = m ((c.tc : Thread Cert.Dh2RefIdeal.nD Cert.Dh2RefIdeal.τ).loc Cert.Dh2RefIdeal.main_arg6))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1)
      ∧ r.2.mem ((c.tc : Thread Cert.Dmem.nD Cert.Dmem.τ).loc Cert.Dmem.main_arg2) = m ((c.tc : Thread Cert.Dmem.nD Cert.Dmem.τ).loc Cert.Dmem.main_arg2)
      ∧ r.2.mem ((c.tc : Thread Cert.Dmem.nD Cert.Dmem.τ).loc Cert.Dmem.main_arg3) = m ((c.tc : Thread Cert.Dmem.nD Cert.Dmem.τ).loc Cert.Dmem.main_arg3))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
      ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2)
      ∧ r.2.mem ((c.tc : Thread Cert.DmemIdeal.nD Cert.DmemIdeal.τ).loc Cert.DmemIdeal.main_arg3) = m ((c.tc : Thread Cert.DmemIdeal.nD Cert.DmemIdeal.τ).loc Cert.DmemIdeal.main_arg3))
      ∧ r.2.sem = fun _ => 0)

def quiescent_DmemIdeal_pre_finite_memory [hDmemIdeal : Cert.DmemIdeal.Facts] [hPre_finite_memory : Cert.Pre_finite_memory.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal_finite_memory m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
      ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2)
      ∧ r.2.mem ((c.tc : Thread Cert.DmemIdeal.nD Cert.DmemIdeal.τ).loc Cert.DmemIdeal.main_arg3) = m ((c.tc : Thread Cert.DmemIdeal.nD Cert.DmemIdeal.τ).loc Cert.DmemIdeal.main_arg3))
      ∧ r.2.sem = fun _ => 0)

def quiescent_DmemRefIdeal [hDmemRefIdeal : Cert.DmemRefIdeal.Facts] : Prop :=
  ∀ (m : (ℓ : Loc Cert.DmemRefIdeal.nD Cert.DmemRefIdeal.τ Cert.DmemRefIdeal.sig) → Buf (Elt Ideal) ℓ) (g : Dev Cert.DmemRefIdeal.nD → PrngReg), Pre_DmemRefIdeal m →
    θ_run (Cert.DmemRefIdeal.defs (F := Ideal)) (onTc (τ := Cert.DmemRefIdeal.τ) (Cert.DmemRefIdeal.main (F := Ideal))) ⟨m, fun _ => 0, g⟩ (fun r => (∀ c : Dev Cert.DmemRefIdeal.nD,
      r.2.mem ((c.tc : Thread Cert.DmemRefIdeal.nD Cert.DmemRefIdeal.τ).loc Cert.DmemRefIdeal.main_arg0) = m ((c.tc : Thread Cert.DmemRefIdeal.nD Cert.DmemRefIdeal.τ).loc Cert.DmemRefIdeal.main_arg0)
      ∧ r.2.mem ((c.tc : Thread Cert.DmemRefIdeal.nD Cert.DmemRefIdeal.τ).loc Cert.DmemRefIdeal.main_arg1) = m ((c.tc : Thread Cert.DmemRefIdeal.nD Cert.DmemRefIdeal.τ).loc Cert.DmemRefIdeal.main_arg1)
      ∧ r.2.mem ((c.tc : Thread Cert.DmemRefIdeal.nD Cert.DmemRefIdeal.τ).loc Cert.DmemRefIdeal.main_arg2) = m ((c.tc : Thread Cert.DmemRefIdeal.nD Cert.DmemRefIdeal.τ).loc Cert.DmemRefIdeal.main_arg2)
      ∧ r.2.mem ((c.tc : Thread Cert.DmemRefIdeal.nD Cert.DmemRefIdeal.τ).loc Cert.DmemRefIdeal.main_arg3) = m ((c.tc : Thread Cert.DmemRefIdeal.nD Cert.DmemRefIdeal.τ).loc Cert.DmemRefIdeal.main_arg3))
      ∧ r.2.sem = fun _ => 0)

def quiescent_DmemRefIdeal_pre_finite_memory [hDmemRefIdeal : Cert.DmemRefIdeal.Facts] [hPre_finite_memory : Cert.Pre_finite_memory.Facts] : Prop :=
  ∀ (m : (ℓ : Loc Cert.DmemRefIdeal.nD Cert.DmemRefIdeal.τ Cert.DmemRefIdeal.sig) → Buf (Elt Ideal) ℓ) (g : Dev Cert.DmemRefIdeal.nD → PrngReg), Pre_DmemRefIdeal_finite_memory m →
    θ_run (Cert.DmemRefIdeal.defs (F := Ideal)) (onTc (τ := Cert.DmemRefIdeal.τ) (Cert.DmemRefIdeal.main (F := Ideal))) ⟨m, fun _ => 0, g⟩ (fun r => (∀ c : Dev Cert.DmemRefIdeal.nD,
      r.2.mem ((c.tc : Thread Cert.DmemRefIdeal.nD Cert.DmemRefIdeal.τ).loc Cert.DmemRefIdeal.main_arg0) = m ((c.tc : Thread Cert.DmemRefIdeal.nD Cert.DmemRefIdeal.τ).loc Cert.DmemRefIdeal.main_arg0)
      ∧ r.2.mem ((c.tc : Thread Cert.DmemRefIdeal.nD Cert.DmemRefIdeal.τ).loc Cert.DmemRefIdeal.main_arg1) = m ((c.tc : Thread Cert.DmemRefIdeal.nD Cert.DmemRefIdeal.τ).loc Cert.DmemRefIdeal.main_arg1)
      ∧ r.2.mem ((c.tc : Thread Cert.DmemRefIdeal.nD Cert.DmemRefIdeal.τ).loc Cert.DmemRefIdeal.main_arg2) = m ((c.tc : Thread Cert.DmemRefIdeal.nD Cert.DmemRefIdeal.τ).loc Cert.DmemRefIdeal.main_arg2)
      ∧ r.2.mem ((c.tc : Thread Cert.DmemRefIdeal.nD Cert.DmemRefIdeal.τ).loc Cert.DmemRefIdeal.main_arg3) = m ((c.tc : Thread Cert.DmemRefIdeal.nD Cert.DmemRefIdeal.τ).loc Cert.DmemRefIdeal.main_arg3))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4)
      ∧ r.2.mem ((c.tc : Thread Cert.Dh1.nD Cert.Dh1.τ).loc Cert.Dh1.main_arg5) = m ((c.tc : Thread Cert.Dh1.nD Cert.Dh1.τ).loc Cert.Dh1.main_arg5)
      ∧ r.2.mem ((c.tc : Thread Cert.Dh1.nD Cert.Dh1.τ).loc Cert.Dh1.main_arg6) = m ((c.tc : Thread Cert.Dh1.nD Cert.Dh1.τ).loc Cert.Dh1.main_arg6)
      ∧ r.2.mem ((c.tc : Thread Cert.Dh1.nD Cert.Dh1.τ).loc Cert.Dh1.main_arg7) = m ((c.tc : Thread Cert.Dh1.nD Cert.Dh1.τ).loc Cert.Dh1.main_arg7)
      ∧ r.2.mem ((c.tc : Thread Cert.Dh1.nD Cert.Dh1.τ).loc Cert.Dh1.main_arg8) = m ((c.tc : Thread Cert.Dh1.nD Cert.Dh1.τ).loc Cert.Dh1.main_arg8)
      ∧ r.2.mem ((c.tc : Thread Cert.Dh1.nD Cert.Dh1.τ).loc Cert.Dh1.main_arg9) = m ((c.tc : Thread Cert.Dh1.nD Cert.Dh1.τ).loc Cert.Dh1.main_arg9)
      ∧ r.2.mem ((c.tc : Thread Cert.Dh1.nD Cert.Dh1.τ).loc Cert.Dh1.main_arg10) = m ((c.tc : Thread Cert.Dh1.nD Cert.Dh1.τ).loc Cert.Dh1.main_arg10))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
      ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
      ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9)
      ∧ r.2.mem ((c.tc : Thread Cert.Dh1Ideal.nD Cert.Dh1Ideal.τ).loc Cert.Dh1Ideal.main_arg10) = m ((c.tc : Thread Cert.Dh1Ideal.nD Cert.Dh1Ideal.τ).loc Cert.Dh1Ideal.main_arg10))
      ∧ r.2.sem = fun _ => 0)

def quiescent_Dh1Ideal_pre_finite_input [hDh1Ideal : Cert.Dh1Ideal.Facts] [hPre_finite_input : Cert.Pre_finite_input.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal_finite_input m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
      ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
      ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9)
      ∧ r.2.mem ((c.tc : Thread Cert.Dh1Ideal.nD Cert.Dh1Ideal.τ).loc Cert.Dh1Ideal.main_arg10) = m ((c.tc : Thread Cert.Dh1Ideal.nD Cert.Dh1Ideal.τ).loc Cert.Dh1Ideal.main_arg10))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)
      ∧ r.2.mem ((c.tc : Thread Cert.Dh1RefIdeal.nD Cert.Dh1RefIdeal.τ).loc Cert.Dh1RefIdeal.main_arg5) = m ((c.tc : Thread Cert.Dh1RefIdeal.nD Cert.Dh1RefIdeal.τ).loc Cert.Dh1RefIdeal.main_arg5)
      ∧ r.2.mem ((c.tc : Thread Cert.Dh1RefIdeal.nD Cert.Dh1RefIdeal.τ).loc Cert.Dh1RefIdeal.main_arg6) = m ((c.tc : Thread Cert.Dh1RefIdeal.nD Cert.Dh1RefIdeal.τ).loc Cert.Dh1RefIdeal.main_arg6)
      ∧ r.2.mem ((c.tc : Thread Cert.Dh1RefIdeal.nD Cert.Dh1RefIdeal.τ).loc Cert.Dh1RefIdeal.main_arg7) = m ((c.tc : Thread Cert.Dh1RefIdeal.nD Cert.Dh1RefIdeal.τ).loc Cert.Dh1RefIdeal.main_arg7)
      ∧ r.2.mem ((c.tc : Thread Cert.Dh1RefIdeal.nD Cert.Dh1RefIdeal.τ).loc Cert.Dh1RefIdeal.main_arg8) = m ((c.tc : Thread Cert.Dh1RefIdeal.nD Cert.Dh1RefIdeal.τ).loc Cert.Dh1RefIdeal.main_arg8)
      ∧ r.2.mem ((c.tc : Thread Cert.Dh1RefIdeal.nD Cert.Dh1RefIdeal.τ).loc Cert.Dh1RefIdeal.main_arg9) = m ((c.tc : Thread Cert.Dh1RefIdeal.nD Cert.Dh1RefIdeal.τ).loc Cert.Dh1RefIdeal.main_arg9)
      ∧ r.2.mem ((c.tc : Thread Cert.Dh1RefIdeal.nD Cert.Dh1RefIdeal.τ).loc Cert.Dh1RefIdeal.main_arg10) = m ((c.tc : Thread Cert.Dh1RefIdeal.nD Cert.Dh1RefIdeal.τ).loc Cert.Dh1RefIdeal.main_arg10))
      ∧ r.2.sem = fun _ => 0)

def quiescent_Dh1RefIdeal_pre_finite_input [hDh1RefIdeal : Cert.Dh1RefIdeal.Facts] [hPre_finite_input : Cert.Pre_finite_input.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal_finite_input m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)
      ∧ r.2.mem ((c.tc : Thread Cert.Dh1RefIdeal.nD Cert.Dh1RefIdeal.τ).loc Cert.Dh1RefIdeal.main_arg5) = m ((c.tc : Thread Cert.Dh1RefIdeal.nD Cert.Dh1RefIdeal.τ).loc Cert.Dh1RefIdeal.main_arg5)
      ∧ r.2.mem ((c.tc : Thread Cert.Dh1RefIdeal.nD Cert.Dh1RefIdeal.τ).loc Cert.Dh1RefIdeal.main_arg6) = m ((c.tc : Thread Cert.Dh1RefIdeal.nD Cert.Dh1RefIdeal.τ).loc Cert.Dh1RefIdeal.main_arg6)
      ∧ r.2.mem ((c.tc : Thread Cert.Dh1RefIdeal.nD Cert.Dh1RefIdeal.τ).loc Cert.Dh1RefIdeal.main_arg7) = m ((c.tc : Thread Cert.Dh1RefIdeal.nD Cert.Dh1RefIdeal.τ).loc Cert.Dh1RefIdeal.main_arg7)
      ∧ r.2.mem ((c.tc : Thread Cert.Dh1RefIdeal.nD Cert.Dh1RefIdeal.τ).loc Cert.Dh1RefIdeal.main_arg8) = m ((c.tc : Thread Cert.Dh1RefIdeal.nD Cert.Dh1RefIdeal.τ).loc Cert.Dh1RefIdeal.main_arg8)
      ∧ r.2.mem ((c.tc : Thread Cert.Dh1RefIdeal.nD Cert.Dh1RefIdeal.τ).loc Cert.Dh1RefIdeal.main_arg9) = m ((c.tc : Thread Cert.Dh1RefIdeal.nD Cert.Dh1RefIdeal.τ).loc Cert.Dh1RefIdeal.main_arg9)
      ∧ r.2.mem ((c.tc : Thread Cert.Dh1RefIdeal.nD Cert.Dh1RefIdeal.τ).loc Cert.Dh1RefIdeal.main_arg10) = m ((c.tc : Thread Cert.Dh1RefIdeal.nD Cert.Dh1RefIdeal.τ).loc Cert.Dh1RefIdeal.main_arg10))
      ∧ r.2.sem = fun _ => 0)

def quiescent_WinDil [hWinDil : Cert.WinDil.Facts] : Prop :=
  ∀ (m : (ℓ : Loc Cert.WinDil.nD Cert.WinDil.τ Cert.WinDil.sig) → Buf (Elt Bits) ℓ) (g : Dev Cert.WinDil.nD → PrngReg), Pre_WinDil m →
    θ_run (Cert.WinDil.defs (F := Bits)) (onTc (τ := Cert.WinDil.τ) (Cert.WinDil.main (F := Bits))) ⟨m, fun _ => 0, g⟩ (fun r => (∀ c : Dev Cert.WinDil.nD,
      r.2.mem ((c.tc : Thread Cert.WinDil.nD Cert.WinDil.τ).loc Cert.WinDil.main_arg0) = m ((c.tc : Thread Cert.WinDil.nD Cert.WinDil.τ).loc Cert.WinDil.main_arg0)
      ∧ r.2.mem ((c.tc : Thread Cert.WinDil.nD Cert.WinDil.τ).loc Cert.WinDil.main_arg1) = m ((c.tc : Thread Cert.WinDil.nD Cert.WinDil.τ).loc Cert.WinDil.main_arg1)
      ∧ r.2.mem ((c.tc : Thread Cert.WinDil.nD Cert.WinDil.τ).loc Cert.WinDil.main_arg2) = m ((c.tc : Thread Cert.WinDil.nD Cert.WinDil.τ).loc Cert.WinDil.main_arg2)
      ∧ r.2.mem ((c.tc : Thread Cert.WinDil.nD Cert.WinDil.τ).loc Cert.WinDil.main_arg3) = m ((c.tc : Thread Cert.WinDil.nD Cert.WinDil.τ).loc Cert.WinDil.main_arg3)
      ∧ r.2.mem ((c.tc : Thread Cert.WinDil.nD Cert.WinDil.τ).loc Cert.WinDil.main_arg4) = m ((c.tc : Thread Cert.WinDil.nD Cert.WinDil.τ).loc Cert.WinDil.main_arg4))
      ∧ r.2.sem = fun _ => 0)

def quiescent_WinDilIdeal [hWinDilIdeal : Cert.WinDilIdeal.Facts] : Prop :=
  ∀ (m : (ℓ : Loc Cert.WinDilIdeal.nD Cert.WinDilIdeal.τ Cert.WinDilIdeal.sig) → Buf (Elt Ideal) ℓ) (g : Dev Cert.WinDilIdeal.nD → PrngReg), Pre_WinDilIdeal m →
    θ_run (Cert.WinDilIdeal.defs (F := Ideal)) (onTc (τ := Cert.WinDilIdeal.τ) (Cert.WinDilIdeal.main (F := Ideal))) ⟨m, fun _ => 0, g⟩ (fun r => (∀ c : Dev Cert.WinDilIdeal.nD,
      r.2.mem ((c.tc : Thread Cert.WinDilIdeal.nD Cert.WinDilIdeal.τ).loc Cert.WinDilIdeal.main_arg0) = m ((c.tc : Thread Cert.WinDilIdeal.nD Cert.WinDilIdeal.τ).loc Cert.WinDilIdeal.main_arg0)
      ∧ r.2.mem ((c.tc : Thread Cert.WinDilIdeal.nD Cert.WinDilIdeal.τ).loc Cert.WinDilIdeal.main_arg1) = m ((c.tc : Thread Cert.WinDilIdeal.nD Cert.WinDilIdeal.τ).loc Cert.WinDilIdeal.main_arg1)
      ∧ r.2.mem ((c.tc : Thread Cert.WinDilIdeal.nD Cert.WinDilIdeal.τ).loc Cert.WinDilIdeal.main_arg2) = m ((c.tc : Thread Cert.WinDilIdeal.nD Cert.WinDilIdeal.τ).loc Cert.WinDilIdeal.main_arg2)
      ∧ r.2.mem ((c.tc : Thread Cert.WinDilIdeal.nD Cert.WinDilIdeal.τ).loc Cert.WinDilIdeal.main_arg3) = m ((c.tc : Thread Cert.WinDilIdeal.nD Cert.WinDilIdeal.τ).loc Cert.WinDilIdeal.main_arg3)
      ∧ r.2.mem ((c.tc : Thread Cert.WinDilIdeal.nD Cert.WinDilIdeal.τ).loc Cert.WinDilIdeal.main_arg4) = m ((c.tc : Thread Cert.WinDilIdeal.nD Cert.WinDilIdeal.τ).loc Cert.WinDilIdeal.main_arg4))
      ∧ r.2.sem = fun _ => 0)

def quiescent_WinDilRefIdeal [hWinDilRefIdeal : Cert.WinDilRefIdeal.Facts] : Prop :=
  ∀ (m : (ℓ : Loc Cert.WinDilRefIdeal.nD Cert.WinDilRefIdeal.τ Cert.WinDilRefIdeal.sig) → Buf (Elt Ideal) ℓ) (g : Dev Cert.WinDilRefIdeal.nD → PrngReg), Pre_WinDilRefIdeal m →
    θ_run (Cert.WinDilRefIdeal.defs (F := Ideal)) (onTc (τ := Cert.WinDilRefIdeal.τ) (Cert.WinDilRefIdeal.main (F := Ideal))) ⟨m, fun _ => 0, g⟩ (fun r => (∀ c : Dev Cert.WinDilRefIdeal.nD,
      r.2.mem ((c.tc : Thread Cert.WinDilRefIdeal.nD Cert.WinDilRefIdeal.τ).loc Cert.WinDilRefIdeal.main_arg0) = m ((c.tc : Thread Cert.WinDilRefIdeal.nD Cert.WinDilRefIdeal.τ).loc Cert.WinDilRefIdeal.main_arg0)
      ∧ r.2.mem ((c.tc : Thread Cert.WinDilRefIdeal.nD Cert.WinDilRefIdeal.τ).loc Cert.WinDilRefIdeal.main_arg1) = m ((c.tc : Thread Cert.WinDilRefIdeal.nD Cert.WinDilRefIdeal.τ).loc Cert.WinDilRefIdeal.main_arg1)
      ∧ r.2.mem ((c.tc : Thread Cert.WinDilRefIdeal.nD Cert.WinDilRefIdeal.τ).loc Cert.WinDilRefIdeal.main_arg2) = m ((c.tc : Thread Cert.WinDilRefIdeal.nD Cert.WinDilRefIdeal.τ).loc Cert.WinDilRefIdeal.main_arg2)
      ∧ r.2.mem ((c.tc : Thread Cert.WinDilRefIdeal.nD Cert.WinDilRefIdeal.τ).loc Cert.WinDilRefIdeal.main_arg3) = m ((c.tc : Thread Cert.WinDilRefIdeal.nD Cert.WinDilRefIdeal.τ).loc Cert.WinDilRefIdeal.main_arg3)
      ∧ r.2.mem ((c.tc : Thread Cert.WinDilRefIdeal.nD Cert.WinDilRefIdeal.τ).loc Cert.WinDilRefIdeal.main_arg4) = m ((c.tc : Thread Cert.WinDilRefIdeal.nD Cert.WinDilRefIdeal.τ).loc Cert.WinDilRefIdeal.main_arg4))
      ∧ r.2.sem = fun _ => 0)

def quiescent_WinFox [hWinFox : Cert.WinFox.Facts] : Prop :=
  ∀ (m : (ℓ : Loc Cert.WinFox.nD Cert.WinFox.τ Cert.WinFox.sig) → Buf (Elt Bits) ℓ) (g : Dev Cert.WinFox.nD → PrngReg), Pre_WinFox m →
    θ_run (Cert.WinFox.defs (F := Bits)) (onTc (τ := Cert.WinFox.τ) (Cert.WinFox.main (F := Bits))) ⟨m, fun _ => 0, g⟩ (fun r => (∀ c : Dev Cert.WinFox.nD,
      r.2.mem ((c.tc : Thread Cert.WinFox.nD Cert.WinFox.τ).loc Cert.WinFox.main_arg0) = m ((c.tc : Thread Cert.WinFox.nD Cert.WinFox.τ).loc Cert.WinFox.main_arg0)
      ∧ r.2.mem ((c.tc : Thread Cert.WinFox.nD Cert.WinFox.τ).loc Cert.WinFox.main_arg1) = m ((c.tc : Thread Cert.WinFox.nD Cert.WinFox.τ).loc Cert.WinFox.main_arg1)
      ∧ r.2.mem ((c.tc : Thread Cert.WinFox.nD Cert.WinFox.τ).loc Cert.WinFox.main_arg2) = m ((c.tc : Thread Cert.WinFox.nD Cert.WinFox.τ).loc Cert.WinFox.main_arg2)
      ∧ r.2.mem ((c.tc : Thread Cert.WinFox.nD Cert.WinFox.τ).loc Cert.WinFox.main_arg3) = m ((c.tc : Thread Cert.WinFox.nD Cert.WinFox.τ).loc Cert.WinFox.main_arg3)
      ∧ r.2.mem ((c.tc : Thread Cert.WinFox.nD Cert.WinFox.τ).loc Cert.WinFox.main_arg4) = m ((c.tc : Thread Cert.WinFox.nD Cert.WinFox.τ).loc Cert.WinFox.main_arg4)
      ∧ r.2.mem ((c.tc : Thread Cert.WinFox.nD Cert.WinFox.τ).loc Cert.WinFox.main_arg5) = m ((c.tc : Thread Cert.WinFox.nD Cert.WinFox.τ).loc Cert.WinFox.main_arg5))
      ∧ r.2.sem = fun _ => 0)

def quiescent_WinFoxIdeal [hWinFoxIdeal : Cert.WinFoxIdeal.Facts] : Prop :=
  ∀ (m : (ℓ : Loc Cert.WinFoxIdeal.nD Cert.WinFoxIdeal.τ Cert.WinFoxIdeal.sig) → Buf (Elt Ideal) ℓ) (g : Dev Cert.WinFoxIdeal.nD → PrngReg), Pre_WinFoxIdeal m →
    θ_run (Cert.WinFoxIdeal.defs (F := Ideal)) (onTc (τ := Cert.WinFoxIdeal.τ) (Cert.WinFoxIdeal.main (F := Ideal))) ⟨m, fun _ => 0, g⟩ (fun r => (∀ c : Dev Cert.WinFoxIdeal.nD,
      r.2.mem ((c.tc : Thread Cert.WinFoxIdeal.nD Cert.WinFoxIdeal.τ).loc Cert.WinFoxIdeal.main_arg0) = m ((c.tc : Thread Cert.WinFoxIdeal.nD Cert.WinFoxIdeal.τ).loc Cert.WinFoxIdeal.main_arg0)
      ∧ r.2.mem ((c.tc : Thread Cert.WinFoxIdeal.nD Cert.WinFoxIdeal.τ).loc Cert.WinFoxIdeal.main_arg1) = m ((c.tc : Thread Cert.WinFoxIdeal.nD Cert.WinFoxIdeal.τ).loc Cert.WinFoxIdeal.main_arg1)
      ∧ r.2.mem ((c.tc : Thread Cert.WinFoxIdeal.nD Cert.WinFoxIdeal.τ).loc Cert.WinFoxIdeal.main_arg2) = m ((c.tc : Thread Cert.WinFoxIdeal.nD Cert.WinFoxIdeal.τ).loc Cert.WinFoxIdeal.main_arg2)
      ∧ r.2.mem ((c.tc : Thread Cert.WinFoxIdeal.nD Cert.WinFoxIdeal.τ).loc Cert.WinFoxIdeal.main_arg3) = m ((c.tc : Thread Cert.WinFoxIdeal.nD Cert.WinFoxIdeal.τ).loc Cert.WinFoxIdeal.main_arg3)
      ∧ r.2.mem ((c.tc : Thread Cert.WinFoxIdeal.nD Cert.WinFoxIdeal.τ).loc Cert.WinFoxIdeal.main_arg4) = m ((c.tc : Thread Cert.WinFoxIdeal.nD Cert.WinFoxIdeal.τ).loc Cert.WinFoxIdeal.main_arg4)
      ∧ r.2.mem ((c.tc : Thread Cert.WinFoxIdeal.nD Cert.WinFoxIdeal.τ).loc Cert.WinFoxIdeal.main_arg5) = m ((c.tc : Thread Cert.WinFoxIdeal.nD Cert.WinFoxIdeal.τ).loc Cert.WinFoxIdeal.main_arg5))
      ∧ r.2.sem = fun _ => 0)

def quiescent_WinFoxRefIdeal [hWinFoxRefIdeal : Cert.WinFoxRefIdeal.Facts] : Prop :=
  ∀ (m : (ℓ : Loc Cert.WinFoxRefIdeal.nD Cert.WinFoxRefIdeal.τ Cert.WinFoxRefIdeal.sig) → Buf (Elt Ideal) ℓ) (g : Dev Cert.WinFoxRefIdeal.nD → PrngReg), Pre_WinFoxRefIdeal m →
    θ_run (Cert.WinFoxRefIdeal.defs (F := Ideal)) (onTc (τ := Cert.WinFoxRefIdeal.τ) (Cert.WinFoxRefIdeal.main (F := Ideal))) ⟨m, fun _ => 0, g⟩ (fun r => (∀ c : Dev Cert.WinFoxRefIdeal.nD,
      r.2.mem ((c.tc : Thread Cert.WinFoxRefIdeal.nD Cert.WinFoxRefIdeal.τ).loc Cert.WinFoxRefIdeal.main_arg0) = m ((c.tc : Thread Cert.WinFoxRefIdeal.nD Cert.WinFoxRefIdeal.τ).loc Cert.WinFoxRefIdeal.main_arg0)
      ∧ r.2.mem ((c.tc : Thread Cert.WinFoxRefIdeal.nD Cert.WinFoxRefIdeal.τ).loc Cert.WinFoxRefIdeal.main_arg1) = m ((c.tc : Thread Cert.WinFoxRefIdeal.nD Cert.WinFoxRefIdeal.τ).loc Cert.WinFoxRefIdeal.main_arg1)
      ∧ r.2.mem ((c.tc : Thread Cert.WinFoxRefIdeal.nD Cert.WinFoxRefIdeal.τ).loc Cert.WinFoxRefIdeal.main_arg2) = m ((c.tc : Thread Cert.WinFoxRefIdeal.nD Cert.WinFoxRefIdeal.τ).loc Cert.WinFoxRefIdeal.main_arg2)
      ∧ r.2.mem ((c.tc : Thread Cert.WinFoxRefIdeal.nD Cert.WinFoxRefIdeal.τ).loc Cert.WinFoxRefIdeal.main_arg3) = m ((c.tc : Thread Cert.WinFoxRefIdeal.nD Cert.WinFoxRefIdeal.τ).loc Cert.WinFoxRefIdeal.main_arg3)
      ∧ r.2.mem ((c.tc : Thread Cert.WinFoxRefIdeal.nD Cert.WinFoxRefIdeal.τ).loc Cert.WinFoxRefIdeal.main_arg4) = m ((c.tc : Thread Cert.WinFoxRefIdeal.nD Cert.WinFoxRefIdeal.τ).loc Cert.WinFoxRefIdeal.main_arg4)
      ∧ r.2.mem ((c.tc : Thread Cert.WinFoxRefIdeal.nD Cert.WinFoxRefIdeal.τ).loc Cert.WinFoxRefIdeal.main_arg5) = m ((c.tc : Thread Cert.WinFoxRefIdeal.nD Cert.WinFoxRefIdeal.τ).loc Cert.WinFoxRefIdeal.main_arg5))
      ∧ r.2.sem = fun _ => 0)

def quiescent_Fxo [hFxo : Cert.Fxo.Facts] : Prop :=
  ∀ (m : (ℓ : Loc Cert.Fxo.nD Cert.Fxo.τ Cert.Fxo.sig) → Buf (Elt Bits) ℓ) (g : Dev Cert.Fxo.nD → PrngReg), Pre_Fxo m →
    θ_run (Cert.Fxo.defs (F := Bits)) (onTc (τ := Cert.Fxo.τ) (Cert.Fxo.main (F := Bits))) ⟨m, fun _ => 0, g⟩ (fun r => (∀ c : Dev Cert.Fxo.nD,
      r.2.mem ((c.tc : Thread Cert.Fxo.nD Cert.Fxo.τ).loc Cert.Fxo.main_arg0) = m ((c.tc : Thread Cert.Fxo.nD Cert.Fxo.τ).loc Cert.Fxo.main_arg0)
      ∧ r.2.mem ((c.tc : Thread Cert.Fxo.nD Cert.Fxo.τ).loc Cert.Fxo.main_arg1) = m ((c.tc : Thread Cert.Fxo.nD Cert.Fxo.τ).loc Cert.Fxo.main_arg1)
      ∧ r.2.mem ((c.tc : Thread Cert.Fxo.nD Cert.Fxo.τ).loc Cert.Fxo.main_arg2) = m ((c.tc : Thread Cert.Fxo.nD Cert.Fxo.τ).loc Cert.Fxo.main_arg2)
      ∧ r.2.mem ((c.tc : Thread Cert.Fxo.nD Cert.Fxo.τ).loc Cert.Fxo.main_arg3) = m ((c.tc : Thread Cert.Fxo.nD Cert.Fxo.τ).loc Cert.Fxo.main_arg3)
      ∧ r.2.mem ((c.tc : Thread Cert.Fxo.nD Cert.Fxo.τ).loc Cert.Fxo.main_arg4) = m ((c.tc : Thread Cert.Fxo.nD Cert.Fxo.τ).loc Cert.Fxo.main_arg4))
      ∧ r.2.sem = fun _ => 0)

def quiescent_FxoIdeal [hFxoIdeal : Cert.FxoIdeal.Facts] : Prop :=
  ∀ (m : (ℓ : Loc Cert.FxoIdeal.nD Cert.FxoIdeal.τ Cert.FxoIdeal.sig) → Buf (Elt Ideal) ℓ) (g : Dev Cert.FxoIdeal.nD → PrngReg), Pre_FxoIdeal m →
    θ_run (Cert.FxoIdeal.defs (F := Ideal)) (onTc (τ := Cert.FxoIdeal.τ) (Cert.FxoIdeal.main (F := Ideal))) ⟨m, fun _ => 0, g⟩ (fun r => (∀ c : Dev Cert.FxoIdeal.nD,
      r.2.mem ((c.tc : Thread Cert.FxoIdeal.nD Cert.FxoIdeal.τ).loc Cert.FxoIdeal.main_arg0) = m ((c.tc : Thread Cert.FxoIdeal.nD Cert.FxoIdeal.τ).loc Cert.FxoIdeal.main_arg0)
      ∧ r.2.mem ((c.tc : Thread Cert.FxoIdeal.nD Cert.FxoIdeal.τ).loc Cert.FxoIdeal.main_arg1) = m ((c.tc : Thread Cert.FxoIdeal.nD Cert.FxoIdeal.τ).loc Cert.FxoIdeal.main_arg1)
      ∧ r.2.mem ((c.tc : Thread Cert.FxoIdeal.nD Cert.FxoIdeal.τ).loc Cert.FxoIdeal.main_arg2) = m ((c.tc : Thread Cert.FxoIdeal.nD Cert.FxoIdeal.τ).loc Cert.FxoIdeal.main_arg2)
      ∧ r.2.mem ((c.tc : Thread Cert.FxoIdeal.nD Cert.FxoIdeal.τ).loc Cert.FxoIdeal.main_arg3) = m ((c.tc : Thread Cert.FxoIdeal.nD Cert.FxoIdeal.τ).loc Cert.FxoIdeal.main_arg3)
      ∧ r.2.mem ((c.tc : Thread Cert.FxoIdeal.nD Cert.FxoIdeal.τ).loc Cert.FxoIdeal.main_arg4) = m ((c.tc : Thread Cert.FxoIdeal.nD Cert.FxoIdeal.τ).loc Cert.FxoIdeal.main_arg4))
      ∧ r.2.sem = fun _ => 0)

def quiescent_FxoRefIdeal [hFxoRefIdeal : Cert.FxoRefIdeal.Facts] : Prop :=
  ∀ (m : (ℓ : Loc Cert.FxoRefIdeal.nD Cert.FxoRefIdeal.τ Cert.FxoRefIdeal.sig) → Buf (Elt Ideal) ℓ) (g : Dev Cert.FxoRefIdeal.nD → PrngReg), Pre_FxoRefIdeal m →
    θ_run (Cert.FxoRefIdeal.defs (F := Ideal)) (onTc (τ := Cert.FxoRefIdeal.τ) (Cert.FxoRefIdeal.main (F := Ideal))) ⟨m, fun _ => 0, g⟩ (fun r => (∀ c : Dev Cert.FxoRefIdeal.nD,
      r.2.mem ((c.tc : Thread Cert.FxoRefIdeal.nD Cert.FxoRefIdeal.τ).loc Cert.FxoRefIdeal.main_arg0) = m ((c.tc : Thread Cert.FxoRefIdeal.nD Cert.FxoRefIdeal.τ).loc Cert.FxoRefIdeal.main_arg0)
      ∧ r.2.mem ((c.tc : Thread Cert.FxoRefIdeal.nD Cert.FxoRefIdeal.τ).loc Cert.FxoRefIdeal.main_arg1) = m ((c.tc : Thread Cert.FxoRefIdeal.nD Cert.FxoRefIdeal.τ).loc Cert.FxoRefIdeal.main_arg1)
      ∧ r.2.mem ((c.tc : Thread Cert.FxoRefIdeal.nD Cert.FxoRefIdeal.τ).loc Cert.FxoRefIdeal.main_arg2) = m ((c.tc : Thread Cert.FxoRefIdeal.nD Cert.FxoRefIdeal.τ).loc Cert.FxoRefIdeal.main_arg2)
      ∧ r.2.mem ((c.tc : Thread Cert.FxoRefIdeal.nD Cert.FxoRefIdeal.τ).loc Cert.FxoRefIdeal.main_arg3) = m ((c.tc : Thread Cert.FxoRefIdeal.nD Cert.FxoRefIdeal.τ).loc Cert.FxoRefIdeal.main_arg3)
      ∧ r.2.mem ((c.tc : Thread Cert.FxoRefIdeal.nD Cert.FxoRefIdeal.τ).loc Cert.FxoRefIdeal.main_arg4) = m ((c.tc : Thread Cert.FxoRefIdeal.nD Cert.FxoRefIdeal.τ).loc Cert.FxoRefIdeal.main_arg4))
      ∧ r.2.sem = fun _ => 0)

def quiescent_Fout [hFout : Cert.Fout.Facts] : Prop :=
  ∀ (m : (ℓ : Loc Cert.Fout.nD Cert.Fout.τ Cert.Fout.sig) → Buf (Elt Bits) ℓ) (g : Dev Cert.Fout.nD → PrngReg), Pre_Fout m →
    θ_run (Cert.Fout.defs (F := Bits)) (onTc (τ := Cert.Fout.τ) (Cert.Fout.main (F := Bits))) ⟨m, fun _ => 0, g⟩ (fun r => (∀ c : Dev Cert.Fout.nD,
      r.2.mem ((c.tc : Thread Cert.Fout.nD Cert.Fout.τ).loc Cert.Fout.main_arg0) = m ((c.tc : Thread Cert.Fout.nD Cert.Fout.τ).loc Cert.Fout.main_arg0)
      ∧ r.2.mem ((c.tc : Thread Cert.Fout.nD Cert.Fout.τ).loc Cert.Fout.main_arg1) = m ((c.tc : Thread Cert.Fout.nD Cert.Fout.τ).loc Cert.Fout.main_arg1)
      ∧ r.2.mem ((c.tc : Thread Cert.Fout.nD Cert.Fout.τ).loc Cert.Fout.main_arg2) = m ((c.tc : Thread Cert.Fout.nD Cert.Fout.τ).loc Cert.Fout.main_arg2)
      ∧ r.2.mem ((c.tc : Thread Cert.Fout.nD Cert.Fout.τ).loc Cert.Fout.main_arg3) = m ((c.tc : Thread Cert.Fout.nD Cert.Fout.τ).loc Cert.Fout.main_arg3)
      ∧ r.2.mem ((c.tc : Thread Cert.Fout.nD Cert.Fout.τ).loc Cert.Fout.main_arg4) = m ((c.tc : Thread Cert.Fout.nD Cert.Fout.τ).loc Cert.Fout.main_arg4))
      ∧ r.2.sem = fun _ => 0)

def quiescent_FoutIdeal [hFoutIdeal : Cert.FoutIdeal.Facts] : Prop :=
  ∀ (m : (ℓ : Loc Cert.FoutIdeal.nD Cert.FoutIdeal.τ Cert.FoutIdeal.sig) → Buf (Elt Ideal) ℓ) (g : Dev Cert.FoutIdeal.nD → PrngReg), Pre_FoutIdeal m →
    θ_run (Cert.FoutIdeal.defs (F := Ideal)) (onTc (τ := Cert.FoutIdeal.τ) (Cert.FoutIdeal.main (F := Ideal))) ⟨m, fun _ => 0, g⟩ (fun r => (∀ c : Dev Cert.FoutIdeal.nD,
      r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
      ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1)
      ∧ r.2.mem ((c.tc : Thread Cert.FoutIdeal.nD Cert.FoutIdeal.τ).loc Cert.FoutIdeal.main_arg2) = m ((c.tc : Thread Cert.FoutIdeal.nD Cert.FoutIdeal.τ).loc Cert.FoutIdeal.main_arg2)
      ∧ r.2.mem ((c.tc : Thread Cert.FoutIdeal.nD Cert.FoutIdeal.τ).loc Cert.FoutIdeal.main_arg3) = m ((c.tc : Thread Cert.FoutIdeal.nD Cert.FoutIdeal.τ).loc Cert.FoutIdeal.main_arg3)
      ∧ r.2.mem ((c.tc : Thread Cert.FoutIdeal.nD Cert.FoutIdeal.τ).loc Cert.FoutIdeal.main_arg4) = m ((c.tc : Thread Cert.FoutIdeal.nD Cert.FoutIdeal.τ).loc Cert.FoutIdeal.main_arg4))
      ∧ r.2.sem = fun _ => 0)

def quiescent_FoutRefIdeal [hFoutRefIdeal : Cert.FoutRefIdeal.Facts] : Prop :=
  ∀ (m : (ℓ : Loc Cert.FoutRefIdeal.nD Cert.FoutRefIdeal.τ Cert.FoutRefIdeal.sig) → Buf (Elt Ideal) ℓ) (g : Dev Cert.FoutRefIdeal.nD → PrngReg), Pre_FoutRefIdeal m →
    θ_run (Cert.FoutRefIdeal.defs (F := Ideal)) (onTc (τ := Cert.FoutRefIdeal.τ) (Cert.FoutRefIdeal.main (F := Ideal))) ⟨m, fun _ => 0, g⟩ (fun r => (∀ c : Dev Cert.FoutRefIdeal.nD,
      r.2.mem ((c.tc : Thread Cert.FoutRefIdeal.nD Cert.FoutRefIdeal.τ).loc Cert.FoutRefIdeal.main_arg0) = m ((c.tc : Thread Cert.FoutRefIdeal.nD Cert.FoutRefIdeal.τ).loc Cert.FoutRefIdeal.main_arg0)
      ∧ r.2.mem ((c.tc : Thread Cert.FoutRefIdeal.nD Cert.FoutRefIdeal.τ).loc Cert.FoutRefIdeal.main_arg1) = m ((c.tc : Thread Cert.FoutRefIdeal.nD Cert.FoutRefIdeal.τ).loc Cert.FoutRefIdeal.main_arg1)
      ∧ r.2.mem ((c.tc : Thread Cert.FoutRefIdeal.nD Cert.FoutRefIdeal.τ).loc Cert.FoutRefIdeal.main_arg2) = m ((c.tc : Thread Cert.FoutRefIdeal.nD Cert.FoutRefIdeal.τ).loc Cert.FoutRefIdeal.main_arg2)
      ∧ r.2.mem ((c.tc : Thread Cert.FoutRefIdeal.nD Cert.FoutRefIdeal.τ).loc Cert.FoutRefIdeal.main_arg3) = m ((c.tc : Thread Cert.FoutRefIdeal.nD Cert.FoutRefIdeal.τ).loc Cert.FoutRefIdeal.main_arg3)
      ∧ r.2.mem ((c.tc : Thread Cert.FoutRefIdeal.nD Cert.FoutRefIdeal.τ).loc Cert.FoutRefIdeal.main_arg4) = m ((c.tc : Thread Cert.FoutRefIdeal.nD Cert.FoutRefIdeal.τ).loc Cert.FoutRefIdeal.main_arg4))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_Fdown [hFdown : Cert.Fdown.Facts] : Prop :=
  ∀ (m : (ℓ : Loc Cert.Fdown.nD Cert.Fdown.τ Cert.Fdown.sig) → Buf (Elt Bits) ℓ) (g : Dev Cert.Fdown.nD → PrngReg), Pre_Fdown m →
    θ_run (Cert.Fdown.defs (F := Bits)) (onTc (τ := Cert.Fdown.τ) (Cert.Fdown.main (F := Bits))) ⟨m, fun _ => 0, g⟩ (fun r => (∀ c : Dev Cert.Fdown.nD,
      r.2.mem ((c.tc : Thread Cert.Fdown.nD Cert.Fdown.τ).loc Cert.Fdown.main_arg0) = m ((c.tc : Thread Cert.Fdown.nD Cert.Fdown.τ).loc Cert.Fdown.main_arg0)
      ∧ r.2.mem ((c.tc : Thread Cert.Fdown.nD Cert.Fdown.τ).loc Cert.Fdown.main_arg1) = m ((c.tc : Thread Cert.Fdown.nD Cert.Fdown.τ).loc Cert.Fdown.main_arg1)
      ∧ r.2.mem ((c.tc : Thread Cert.Fdown.nD Cert.Fdown.τ).loc Cert.Fdown.main_arg2) = m ((c.tc : Thread Cert.Fdown.nD Cert.Fdown.τ).loc Cert.Fdown.main_arg2)
      ∧ r.2.mem ((c.tc : Thread Cert.Fdown.nD Cert.Fdown.τ).loc Cert.Fdown.main_arg3) = m ((c.tc : Thread Cert.Fdown.nD Cert.Fdown.τ).loc Cert.Fdown.main_arg3)
      ∧ r.2.mem ((c.tc : Thread Cert.Fdown.nD Cert.Fdown.τ).loc Cert.Fdown.main_arg4) = m ((c.tc : Thread Cert.Fdown.nD Cert.Fdown.τ).loc Cert.Fdown.main_arg4))
      ∧ r.2.sem = fun _ => 0)

def quiescent_FdownIdeal [hFdownIdeal : Cert.FdownIdeal.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
      ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2)
      ∧ r.2.mem ((c.tc : Thread Cert.FdownIdeal.nD Cert.FdownIdeal.τ).loc Cert.FdownIdeal.main_arg3) = m ((c.tc : Thread Cert.FdownIdeal.nD Cert.FdownIdeal.τ).loc Cert.FdownIdeal.main_arg3)
      ∧ r.2.mem ((c.tc : Thread Cert.FdownIdeal.nD Cert.FdownIdeal.τ).loc Cert.FdownIdeal.main_arg4) = m ((c.tc : Thread Cert.FdownIdeal.nD Cert.FdownIdeal.τ).loc Cert.FdownIdeal.main_arg4))
      ∧ r.2.sem = fun _ => 0)

def quiescent_FdownIdeal_pre_finite_loss [hFdownIdeal : Cert.FdownIdeal.Facts] [hPre_finite_loss : Cert.Pre_finite_loss.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal_finite_loss m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
      ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2)
      ∧ r.2.mem ((c.tc : Thread Cert.FdownIdeal.nD Cert.FdownIdeal.τ).loc Cert.FdownIdeal.main_arg3) = m ((c.tc : Thread Cert.FdownIdeal.nD Cert.FdownIdeal.τ).loc Cert.FdownIdeal.main_arg3)
      ∧ r.2.mem ((c.tc : Thread Cert.FdownIdeal.nD Cert.FdownIdeal.τ).loc Cert.FdownIdeal.main_arg4) = m ((c.tc : Thread Cert.FdownIdeal.nD Cert.FdownIdeal.τ).loc Cert.FdownIdeal.main_arg4))
      ∧ r.2.sem = fun _ => 0)

def quiescent_FdownRefIdeal [hFdownRefIdeal : Cert.FdownRefIdeal.Facts] : Prop :=
  ∀ (m : (ℓ : Loc Cert.FdownRefIdeal.nD Cert.FdownRefIdeal.τ Cert.FdownRefIdeal.sig) → Buf (Elt Ideal) ℓ) (g : Dev Cert.FdownRefIdeal.nD → PrngReg), Pre_FdownRefIdeal m →
    θ_run (Cert.FdownRefIdeal.defs (F := Ideal)) (onTc (τ := Cert.FdownRefIdeal.τ) (Cert.FdownRefIdeal.main (F := Ideal))) ⟨m, fun _ => 0, g⟩ (fun r => (∀ c : Dev Cert.FdownRefIdeal.nD,
      r.2.mem ((c.tc : Thread Cert.FdownRefIdeal.nD Cert.FdownRefIdeal.τ).loc Cert.FdownRefIdeal.main_arg0) = m ((c.tc : Thread Cert.FdownRefIdeal.nD Cert.FdownRefIdeal.τ).loc Cert.FdownRefIdeal.main_arg0)
      ∧ r.2.mem ((c.tc : Thread Cert.FdownRefIdeal.nD Cert.FdownRefIdeal.τ).loc Cert.FdownRefIdeal.main_arg1) = m ((c.tc : Thread Cert.FdownRefIdeal.nD Cert.FdownRefIdeal.τ).loc Cert.FdownRefIdeal.main_arg1)
      ∧ r.2.mem ((c.tc : Thread Cert.FdownRefIdeal.nD Cert.FdownRefIdeal.τ).loc Cert.FdownRefIdeal.main_arg2) = m ((c.tc : Thread Cert.FdownRefIdeal.nD Cert.FdownRefIdeal.τ).loc Cert.FdownRefIdeal.main_arg2)
      ∧ r.2.mem ((c.tc : Thread Cert.FdownRefIdeal.nD Cert.FdownRefIdeal.τ).loc Cert.FdownRefIdeal.main_arg3) = m ((c.tc : Thread Cert.FdownRefIdeal.nD Cert.FdownRefIdeal.τ).loc Cert.FdownRefIdeal.main_arg3)
      ∧ r.2.mem ((c.tc : Thread Cert.FdownRefIdeal.nD Cert.FdownRefIdeal.τ).loc Cert.FdownRefIdeal.main_arg4) = m ((c.tc : Thread Cert.FdownRefIdeal.nD Cert.FdownRefIdeal.τ).loc Cert.FdownRefIdeal.main_arg4))
      ∧ r.2.sem = fun _ => 0)

def quiescent_FdownRefIdeal_pre_finite_loss [hFdownRefIdeal : Cert.FdownRefIdeal.Facts] [hPre_finite_loss : Cert.Pre_finite_loss.Facts] : Prop :=
  ∀ (m : (ℓ : Loc Cert.FdownRefIdeal.nD Cert.FdownRefIdeal.τ Cert.FdownRefIdeal.sig) → Buf (Elt Ideal) ℓ) (g : Dev Cert.FdownRefIdeal.nD → PrngReg), Pre_FdownRefIdeal_finite_loss m →
    θ_run (Cert.FdownRefIdeal.defs (F := Ideal)) (onTc (τ := Cert.FdownRefIdeal.τ) (Cert.FdownRefIdeal.main (F := Ideal))) ⟨m, fun _ => 0, g⟩ (fun r => (∀ c : Dev Cert.FdownRefIdeal.nD,
      r.2.mem ((c.tc : Thread Cert.FdownRefIdeal.nD Cert.FdownRefIdeal.τ).loc Cert.FdownRefIdeal.main_arg0) = m ((c.tc : Thread Cert.FdownRefIdeal.nD Cert.FdownRefIdeal.τ).loc Cert.FdownRefIdeal.main_arg0)
      ∧ r.2.mem ((c.tc : Thread Cert.FdownRefIdeal.nD Cert.FdownRefIdeal.τ).loc Cert.FdownRefIdeal.main_arg1) = m ((c.tc : Thread Cert.FdownRefIdeal.nD Cert.FdownRefIdeal.τ).loc Cert.FdownRefIdeal.main_arg1)
      ∧ r.2.mem ((c.tc : Thread Cert.FdownRefIdeal.nD Cert.FdownRefIdeal.τ).loc Cert.FdownRefIdeal.main_arg2) = m ((c.tc : Thread Cert.FdownRefIdeal.nD Cert.FdownRefIdeal.τ).loc Cert.FdownRefIdeal.main_arg2)
      ∧ r.2.mem ((c.tc : Thread Cert.FdownRefIdeal.nD Cert.FdownRefIdeal.τ).loc Cert.FdownRefIdeal.main_arg3) = m ((c.tc : Thread Cert.FdownRefIdeal.nD Cert.FdownRefIdeal.τ).loc Cert.FdownRefIdeal.main_arg3)
      ∧ r.2.mem ((c.tc : Thread Cert.FdownRefIdeal.nD Cert.FdownRefIdeal.τ).loc Cert.FdownRefIdeal.main_arg4) = m ((c.tc : Thread Cert.FdownRefIdeal.nD Cert.FdownRefIdeal.τ).loc Cert.FdownRefIdeal.main_arg4))
      ∧ r.2.sem = fun _ => 0)

def quiescent_Fxattn [hFxattn : Cert.Fxattn.Facts] : Prop :=
  ∀ (m : (ℓ : Loc Cert.Fxattn.nD Cert.Fxattn.τ Cert.Fxattn.sig) → Buf (Elt Bits) ℓ) (g : Dev Cert.Fxattn.nD → PrngReg), Pre_Fxattn m →
    θ_run (Cert.Fxattn.defs (F := Bits)) (onTc (τ := Cert.Fxattn.τ) (Cert.Fxattn.main (F := Bits))) ⟨m, fun _ => 0, g⟩ (fun r => (∀ c : Dev Cert.Fxattn.nD,
      r.2.mem ((c.tc : Thread Cert.Fxattn.nD Cert.Fxattn.τ).loc Cert.Fxattn.main_arg0) = m ((c.tc : Thread Cert.Fxattn.nD Cert.Fxattn.τ).loc Cert.Fxattn.main_arg0)
      ∧ r.2.mem ((c.tc : Thread Cert.Fxattn.nD Cert.Fxattn.τ).loc Cert.Fxattn.main_arg1) = m ((c.tc : Thread Cert.Fxattn.nD Cert.Fxattn.τ).loc Cert.Fxattn.main_arg1))
      ∧ r.2.sem = fun _ => 0)

def quiescent_FxattnIdeal [hFxattnIdeal : Cert.FxattnIdeal.Facts] : Prop :=
  ∀ (m : (ℓ : Loc Cert.FxattnIdeal.nD Cert.FxattnIdeal.τ Cert.FxattnIdeal.sig) → Buf (Elt Ideal) ℓ) (g : Dev Cert.FxattnIdeal.nD → PrngReg), Pre_FxattnIdeal m →
    θ_run (Cert.FxattnIdeal.defs (F := Ideal)) (onTc (τ := Cert.FxattnIdeal.τ) (Cert.FxattnIdeal.main (F := Ideal))) ⟨m, fun _ => 0, g⟩ (fun r => (∀ c : Dev Cert.FxattnIdeal.nD,
      r.2.mem ((c.tc : Thread Cert.FxattnIdeal.nD Cert.FxattnIdeal.τ).loc Cert.FxattnIdeal.main_arg0) = m ((c.tc : Thread Cert.FxattnIdeal.nD Cert.FxattnIdeal.τ).loc Cert.FxattnIdeal.main_arg0)
      ∧ r.2.mem ((c.tc : Thread Cert.FxattnIdeal.nD Cert.FxattnIdeal.τ).loc Cert.FxattnIdeal.main_arg1) = m ((c.tc : Thread Cert.FxattnIdeal.nD Cert.FxattnIdeal.τ).loc Cert.FxattnIdeal.main_arg1))
      ∧ r.2.sem = fun _ => 0)

def quiescent_FxattnIdeal_pre_finite_scores [hFxattnIdeal : Cert.FxattnIdeal.Facts] [hPre_finite_scores : Cert.Pre_finite_scores.Facts] : Prop :=
  ∀ (m : (ℓ : Loc Cert.FxattnIdeal.nD Cert.FxattnIdeal.τ Cert.FxattnIdeal.sig) → Buf (Elt Ideal) ℓ) (g : Dev Cert.FxattnIdeal.nD → PrngReg), Pre_FxattnIdeal_finite_scores m →
    θ_run (Cert.FxattnIdeal.defs (F := Ideal)) (onTc (τ := Cert.FxattnIdeal.τ) (Cert.FxattnIdeal.main (F := Ideal))) ⟨m, fun _ => 0, g⟩ (fun r => (∀ c : Dev Cert.FxattnIdeal.nD,
      r.2.mem ((c.tc : Thread Cert.FxattnIdeal.nD Cert.FxattnIdeal.τ).loc Cert.FxattnIdeal.main_arg0) = m ((c.tc : Thread Cert.FxattnIdeal.nD Cert.FxattnIdeal.τ).loc Cert.FxattnIdeal.main_arg0)
      ∧ r.2.mem ((c.tc : Thread Cert.FxattnIdeal.nD Cert.FxattnIdeal.τ).loc Cert.FxattnIdeal.main_arg1) = m ((c.tc : Thread Cert.FxattnIdeal.nD Cert.FxattnIdeal.τ).loc Cert.FxattnIdeal.main_arg1))
      ∧ r.2.sem = fun _ => 0)

def quiescent_FxattnRefIdeal [hFxattnRefIdeal : Cert.FxattnRefIdeal.Facts] : Prop :=
  ∀ (m : (ℓ : Loc Cert.FxattnRefIdeal.nD Cert.FxattnRefIdeal.τ Cert.FxattnRefIdeal.sig) → Buf (Elt Ideal) ℓ) (g : Dev Cert.FxattnRefIdeal.nD → PrngReg), Pre_FxattnRefIdeal m →
    θ_run (Cert.FxattnRefIdeal.defs (F := Ideal)) (onTc (τ := Cert.FxattnRefIdeal.τ) (Cert.FxattnRefIdeal.main (F := Ideal))) ⟨m, fun _ => 0, g⟩ (fun r => (∀ c : Dev Cert.FxattnRefIdeal.nD,
      r.2.mem ((c.tc : Thread Cert.FxattnRefIdeal.nD Cert.FxattnRefIdeal.τ).loc Cert.FxattnRefIdeal.main_arg0) = m ((c.tc : Thread Cert.FxattnRefIdeal.nD Cert.FxattnRefIdeal.τ).loc Cert.FxattnRefIdeal.main_arg0)
      ∧ r.2.mem ((c.tc : Thread Cert.FxattnRefIdeal.nD Cert.FxattnRefIdeal.τ).loc Cert.FxattnRefIdeal.main_arg1) = m ((c.tc : Thread Cert.FxattnRefIdeal.nD Cert.FxattnRefIdeal.τ).loc Cert.FxattnRefIdeal.main_arg1))
      ∧ r.2.sem = fun _ => 0)

def quiescent_FxattnRefIdeal_pre_finite_scores [hFxattnRefIdeal : Cert.FxattnRefIdeal.Facts] [hPre_finite_scores : Cert.Pre_finite_scores.Facts] : Prop :=
  ∀ (m : (ℓ : Loc Cert.FxattnRefIdeal.nD Cert.FxattnRefIdeal.τ Cert.FxattnRefIdeal.sig) → Buf (Elt Ideal) ℓ) (g : Dev Cert.FxattnRefIdeal.nD → PrngReg), Pre_FxattnRefIdeal_finite_scores m →
    θ_run (Cert.FxattnRefIdeal.defs (F := Ideal)) (onTc (τ := Cert.FxattnRefIdeal.τ) (Cert.FxattnRefIdeal.main (F := Ideal))) ⟨m, fun _ => 0, g⟩ (fun r => (∀ c : Dev Cert.FxattnRefIdeal.nD,
      r.2.mem ((c.tc : Thread Cert.FxattnRefIdeal.nD Cert.FxattnRefIdeal.τ).loc Cert.FxattnRefIdeal.main_arg0) = m ((c.tc : Thread Cert.FxattnRefIdeal.nD Cert.FxattnRefIdeal.τ).loc Cert.FxattnRefIdeal.main_arg0)
      ∧ r.2.mem ((c.tc : Thread Cert.FxattnRefIdeal.nD Cert.FxattnRefIdeal.τ).loc Cert.FxattnRefIdeal.main_arg1) = m ((c.tc : Thread Cert.FxattnRefIdeal.nD Cert.FxattnRefIdeal.τ).loc Cert.FxattnRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v14) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)
      ∧ m' ((c.tc : Thread Cert.WdownRefIdeal.nD Cert.WdownRefIdeal.τ).loc Cert.WdownRefIdeal.main_arg2) = m ((c.tc : Thread Cert.WdownIdeal.nD Cert.WdownIdeal.τ).loc Cert.WdownIdeal.main_arg2)) →
    ∃ (v0 : (c : Dev Cert.WdownIdeal.nD) → Buf (Elt Ideal) ((c.tc : Thread Cert.WdownIdeal.nD Cert.WdownIdeal.τ).loc Cert.WdownIdeal.main_v3)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v3) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
          ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v7) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1)
          ∧ r.2.mem ((c.tc : Thread Cert.WdownRefIdeal.nD Cert.WdownRefIdeal.τ).loc Cert.WdownRefIdeal.main_arg2) = m' ((c.tc : Thread Cert.WdownRefIdeal.nD Cert.WdownRefIdeal.τ).loc Cert.WdownRefIdeal.main_arg2))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)) →
    ∃ (v0 : (c : Dev Cert.WupIdeal.nD) → Buf (Elt Ideal) ((c.tc : Thread Cert.WupIdeal.nD Cert.WupIdeal.τ).loc Cert.WupIdeal.main_v0)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v0) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v6) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2))

def preserves_Wxo_WxoIdeal : Prop :=
  True

def algebraic_WxoIdeal_WxoRefIdeal [hWxoIdeal : Cert.WxoIdeal.Facts] [hWxoRefIdeal : Cert.WxoRefIdeal.Facts] : Prop :=
  ∀ (m : (ℓ : Loc Cert.WxoIdeal.nD Cert.WxoIdeal.τ Cert.WxoIdeal.sig) → Buf (Elt Ideal) ℓ) (g : Dev Cert.WxoIdeal.nD → PrngReg)
    (m' : (ℓ : Loc Cert.WxoRefIdeal.nD Cert.WxoRefIdeal.τ Cert.WxoRefIdeal.sig) → Buf (Elt Ideal) ℓ) (g' : Dev Cert.WxoRefIdeal.nD → PrngReg), Pre_WxoIdeal m →
    (∀ c : Dev Cert.WxoIdeal.nD,
      m' ((c.tc : Thread Cert.WxoRefIdeal.nD Cert.WxoRefIdeal.τ).loc Cert.WxoRefIdeal.main_arg0) = m ((c.tc : Thread Cert.WxoIdeal.nD Cert.WxoIdeal.τ).loc Cert.WxoIdeal.main_arg0)
      ∧ m' ((c.tc : Thread Cert.WxoRefIdeal.nD Cert.WxoRefIdeal.τ).loc Cert.WxoRefIdeal.main_arg1) = m ((c.tc : Thread Cert.WxoIdeal.nD Cert.WxoIdeal.τ).loc Cert.WxoIdeal.main_arg1)
      ∧ m' ((c.tc : Thread Cert.WxoRefIdeal.nD Cert.WxoRefIdeal.τ).loc Cert.WxoRefIdeal.main_arg2) = m ((c.tc : Thread Cert.WxoIdeal.nD Cert.WxoIdeal.τ).loc Cert.WxoIdeal.main_arg2)) →
    ∃ (v0 : (c : Dev Cert.WxoIdeal.nD) → Buf (Elt Ideal) ((c.tc : Thread Cert.WxoIdeal.nD Cert.WxoIdeal.τ).loc Cert.WxoIdeal.main_v0)),
      θ_run (Cert.WxoIdeal.defs (F := Ideal)) (onTc (τ := Cert.WxoIdeal.τ) (Cert.WxoIdeal.main (F := Ideal))) ⟨m, fun _ => 0, g⟩ (fun r => ∀ c : Dev Cert.WxoIdeal.nD,
          r.2.mem ((c.tc : Thread Cert.WxoIdeal.nD Cert.WxoIdeal.τ).loc Cert.WxoIdeal.main_v0) = v0 c
          ∧ r.2.mem ((c.tc : Thread Cert.WxoIdeal.nD Cert.WxoIdeal.τ).loc Cert.WxoIdeal.main_arg0) = m ((c.tc : Thread Cert.WxoIdeal.nD Cert.WxoIdeal.τ).loc Cert.WxoIdeal.main_arg0)
          ∧ r.2.mem ((c.tc : Thread Cert.WxoIdeal.nD Cert.WxoIdeal.τ).loc Cert.WxoIdeal.main_arg1) = m ((c.tc : Thread Cert.WxoIdeal.nD Cert.WxoIdeal.τ).loc Cert.WxoIdeal.main_arg1)
          ∧ r.2.mem ((c.tc : Thread Cert.WxoIdeal.nD Cert.WxoIdeal.τ).loc Cert.WxoIdeal.main_arg2) = m ((c.tc : Thread Cert.WxoIdeal.nD Cert.WxoIdeal.τ).loc Cert.WxoIdeal.main_arg2))
      ∧ θ_run (Cert.WxoRefIdeal.defs (F := Ideal)) (onTc (τ := Cert.WxoRefIdeal.τ) (Cert.WxoRefIdeal.main (F := Ideal))) ⟨m', fun _ => 0, g'⟩ (fun r => ∀ c : Dev Cert.WxoRefIdeal.nD,
          r.2.mem ((c.tc : Thread Cert.WxoRefIdeal.nD Cert.WxoRefIdeal.τ).loc Cert.WxoRefIdeal.main_v5) = v0 c
          ∧ r.2.mem ((c.tc : Thread Cert.WxoRefIdeal.nD Cert.WxoRefIdeal.τ).loc Cert.WxoRefIdeal.main_arg0) = m' ((c.tc : Thread Cert.WxoRefIdeal.nD Cert.WxoRefIdeal.τ).loc Cert.WxoRefIdeal.main_arg0)
          ∧ r.2.mem ((c.tc : Thread Cert.WxoRefIdeal.nD Cert.WxoRefIdeal.τ).loc Cert.WxoRefIdeal.main_arg1) = m' ((c.tc : Thread Cert.WxoRefIdeal.nD Cert.WxoRefIdeal.τ).loc Cert.WxoRefIdeal.main_arg1)
          ∧ r.2.mem ((c.tc : Thread Cert.WxoRefIdeal.nD Cert.WxoRefIdeal.τ).loc Cert.WxoRefIdeal.main_arg2) = m' ((c.tc : Thread Cert.WxoRefIdeal.nD Cert.WxoRefIdeal.τ).loc Cert.WxoRefIdeal.main_arg2))

def preserves_Wxq_WxqIdeal : Prop :=
  True

def algebraic_WxqIdeal_WxqRefIdeal [hWxqIdeal : Cert.WxqIdeal.Facts] [hWxqRefIdeal : Cert.WxqRefIdeal.Facts] : Prop :=
  ∀ (m : (ℓ : Loc Cert.WxqIdeal.nD Cert.WxqIdeal.τ Cert.WxqIdeal.sig) → Buf (Elt Ideal) ℓ) (g : Dev Cert.WxqIdeal.nD → PrngReg)
    (m' : (ℓ : Loc Cert.WxqRefIdeal.nD Cert.WxqRefIdeal.τ Cert.WxqRefIdeal.sig) → Buf (Elt Ideal) ℓ) (g' : Dev Cert.WxqRefIdeal.nD → PrngReg), Pre_WxqIdeal m →
    (∀ c : Dev Cert.WxqIdeal.nD,
      m' ((c.tc : Thread Cert.WxqRefIdeal.nD Cert.WxqRefIdeal.τ).loc Cert.WxqRefIdeal.main_arg0) = m ((c.tc : Thread Cert.WxqIdeal.nD Cert.WxqIdeal.τ).loc Cert.WxqIdeal.main_arg0)
      ∧ m' ((c.tc : Thread Cert.WxqRefIdeal.nD Cert.WxqRefIdeal.τ).loc Cert.WxqRefIdeal.main_arg1) = m ((c.tc : Thread Cert.WxqIdeal.nD Cert.WxqIdeal.τ).loc Cert.WxqIdeal.main_arg1)
      ∧ m' ((c.tc : Thread Cert.WxqRefIdeal.nD Cert.WxqRefIdeal.τ).loc Cert.WxqRefIdeal.main_arg2) = m ((c.tc : Thread Cert.WxqIdeal.nD Cert.WxqIdeal.τ).loc Cert.WxqIdeal.main_arg2)) →
    ∃ (v0 : (c : Dev Cert.WxqIdeal.nD) → Buf (Elt Ideal) ((c.tc : Thread Cert.WxqIdeal.nD Cert.WxqIdeal.τ).loc Cert.WxqIdeal.main_v0)),
      θ_run (Cert.WxqIdeal.defs (F := Ideal)) (onTc (τ := Cert.WxqIdeal.τ) (Cert.WxqIdeal.main (F := Ideal))) ⟨m, fun _ => 0, g⟩ (fun r => ∀ c : Dev Cert.WxqIdeal.nD,
          r.2.mem ((c.tc : Thread Cert.WxqIdeal.nD Cert.WxqIdeal.τ).loc Cert.WxqIdeal.main_v0) = v0 c
          ∧ r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
          ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1)
          ∧ r.2.mem ((c.tc : Thread Cert.WxqIdeal.nD Cert.WxqIdeal.τ).loc Cert.WxqIdeal.main_arg2) = m ((c.tc : Thread Cert.WxqIdeal.nD Cert.WxqIdeal.τ).loc Cert.WxqIdeal.main_arg2))
      ∧ θ_run (Cert.WxqRefIdeal.defs (F := Ideal)) (onTc (τ := Cert.WxqRefIdeal.τ) (Cert.WxqRefIdeal.main (F := Ideal))) ⟨m', fun _ => 0, g'⟩ (fun r => ∀ c : Dev Cert.WxqRefIdeal.nD,
          r.2.mem ((c.tc : Thread Cert.WxqRefIdeal.nD Cert.WxqRefIdeal.τ).loc Cert.WxqRefIdeal.main_v6) = v0 c
          ∧ r.2.mem ((c.tc : Thread Cert.WxqRefIdeal.nD Cert.WxqRefIdeal.τ).loc Cert.WxqRefIdeal.main_arg0) = m' ((c.tc : Thread Cert.WxqRefIdeal.nD Cert.WxqRefIdeal.τ).loc Cert.WxqRefIdeal.main_arg0)
          ∧ r.2.mem ((c.tc : Thread Cert.WxqRefIdeal.nD Cert.WxqRefIdeal.τ).loc Cert.WxqRefIdeal.main_arg1) = m' ((c.tc : Thread Cert.WxqRefIdeal.nD Cert.WxqRefIdeal.τ).loc Cert.WxqRefIdeal.main_arg1)
          ∧ r.2.mem ((c.tc : Thread Cert.WxqRefIdeal.nD Cert.WxqRefIdeal.τ).loc Cert.WxqRefIdeal.main_arg2) = m' ((c.tc : Thread Cert.WxqRefIdeal.nD Cert.WxqRefIdeal.τ).loc Cert.WxqRefIdeal.main_arg2))

def preserves_Wkv_WkvIdeal : Prop :=
  True

def algebraic_WkvIdeal_WkvRefIdeal [hWkvIdeal : Cert.WkvIdeal.Facts] [hWkvRefIdeal : Cert.WkvRefIdeal.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)
      ∧ m' ((c.tc : Thread Cert.WkvRefIdeal.nD Cert.WkvRefIdeal.τ).loc Cert.WkvRefIdeal.main_arg2) = m ((c.tc : Thread Cert.WkvIdeal.nD Cert.WkvIdeal.τ).loc Cert.WkvIdeal.main_arg2)) →
    ∃ (v0 : (c : Dev Cert.WkvIdeal.nD) → Buf (Elt Ideal) ((c.tc : Thread Cert.WkvIdeal.nD Cert.WkvIdeal.τ).loc Cert.WkvIdeal.main_v0)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v0) = v0 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v5) = v0 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1)
          ∧ r.2.mem ((c.tc : Thread Cert.WkvRefIdeal.nD Cert.WkvRefIdeal.τ).loc Cert.WkvRefIdeal.main_arg2) = m' ((c.tc : Thread Cert.WkvRefIdeal.nD Cert.WkvRefIdeal.τ).loc Cert.WkvRefIdeal.main_arg2))

def preserves_Dh3_Dh3Ideal : Prop :=
  True

def algebraic_Dh3Ideal_Dh3RefIdeal_pre_finite_mlp [hDh3Ideal : Cert.Dh3Ideal.Facts] [hDh3RefIdeal : Cert.Dh3RefIdeal.Facts] [hPre_finite_mlp : Cert.Pre_finite_mlp.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.Dh3RefIdeal.nD Cert.Dh3RefIdeal.τ Cert.Dh3RefIdeal.sig) → Buf (Elt Ideal) ℓ) (g' : Dev Cert.Dh3RefIdeal.nD → PrngReg), Pre_Dh3Ideal_finite_mlp m →
    (∀ c : Dev Cert.Dh3Ideal.nD,
      m' ((c.tc : Thread Cert.Dh3RefIdeal.nD Cert.Dh3RefIdeal.τ).loc Cert.Dh3RefIdeal.main_arg0) = m ((c.tc : Thread Cert.Dh3Ideal.nD Cert.Dh3Ideal.τ).loc Cert.Dh3Ideal.main_arg0)
      ∧ m' ((c.tc : Thread Cert.Dh3RefIdeal.nD Cert.Dh3RefIdeal.τ).loc Cert.Dh3RefIdeal.main_arg1) = m ((c.tc : Thread Cert.Dh3Ideal.nD Cert.Dh3Ideal.τ).loc Cert.Dh3Ideal.main_arg1)
      ∧ m' ((c.tc : Thread Cert.Dh3RefIdeal.nD Cert.Dh3RefIdeal.τ).loc Cert.Dh3RefIdeal.main_arg2) = m ((c.tc : Thread Cert.Dh3Ideal.nD Cert.Dh3Ideal.τ).loc Cert.Dh3Ideal.main_arg2)
      ∧ m' ((c.tc : Thread Cert.Dh3RefIdeal.nD Cert.Dh3RefIdeal.τ).loc Cert.Dh3RefIdeal.main_arg3) = m ((c.tc : Thread Cert.Dh3Ideal.nD Cert.Dh3Ideal.τ).loc Cert.Dh3Ideal.main_arg3)
      ∧ m' ((c.tc : Thread Cert.Dh3RefIdeal.nD Cert.Dh3RefIdeal.τ).loc Cert.Dh3RefIdeal.main_arg4) = m ((c.tc : Thread Cert.Dh3Ideal.nD Cert.Dh3Ideal.τ).loc Cert.Dh3Ideal.main_arg4)
      ∧ m' ((c.tc : Thread Cert.Dh3RefIdeal.nD Cert.Dh3RefIdeal.τ).loc Cert.Dh3RefIdeal.main_arg5) = m ((c.tc : Thread Cert.Dh3Ideal.nD Cert.Dh3Ideal.τ).loc Cert.Dh3Ideal.main_arg5)
      ∧ m' ((c.tc : Thread Cert.Dh3RefIdeal.nD Cert.Dh3RefIdeal.τ).loc Cert.Dh3RefIdeal.main_arg6) = m ((c.tc : Thread Cert.Dh3Ideal.nD Cert.Dh3Ideal.τ).loc Cert.Dh3Ideal.main_arg6)) →
    ∃ (v0 : (c : Dev Cert.Dh3Ideal.nD) → Buf (Elt Ideal) ((c.tc : Thread Cert.Dh3Ideal.nD Cert.Dh3Ideal.τ).loc Cert.Dh3Ideal.main_v5_0)) (v1 : (c : Dev Cert.Dh3Ideal.nD) → Buf (Elt Ideal) ((c.tc : Thread Cert.Dh3Ideal.nD Cert.Dh3Ideal.τ).loc Cert.Dh3Ideal.main_v5_1)) (v2 : (c : Dev Cert.Dh3Ideal.nD) → Buf (Elt Ideal) ((c.tc : Thread Cert.Dh3Ideal.nD Cert.Dh3Ideal.τ).loc Cert.Dh3Ideal.main_v5_2)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v5_0) = v0 c
          ∧ r.2.mem ((c.tc : Thread Cert.Dh3Ideal.nD Cert.Dh3Ideal.τ).loc Cert.Dh3Ideal.main_v5_1) = v1 c
          ∧ r.2.mem ((c.tc : Thread Cert.Dh3Ideal.nD Cert.Dh3Ideal.τ).loc Cert.Dh3Ideal.main_v5_2) = v2 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
          ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2)
          ∧ r.2.mem ((c.tc : Thread Cert.Dh3Ideal.nD Cert.Dh3Ideal.τ).loc Cert.Dh3Ideal.main_arg3) = m ((c.tc : Thread Cert.Dh3Ideal.nD Cert.Dh3Ideal.τ).loc Cert.Dh3Ideal.main_arg3)
          ∧ r.2.mem ((c.tc : Thread Cert.Dh3Ideal.nD Cert.Dh3Ideal.τ).loc Cert.Dh3Ideal.main_arg4) = m ((c.tc : Thread Cert.Dh3Ideal.nD Cert.Dh3Ideal.τ).loc Cert.Dh3Ideal.main_arg4)
          ∧ r.2.mem ((c.tc : Thread Cert.Dh3Ideal.nD Cert.Dh3Ideal.τ).loc Cert.Dh3Ideal.main_arg5) = m ((c.tc : Thread Cert.Dh3Ideal.nD Cert.Dh3Ideal.τ).loc Cert.Dh3Ideal.main_arg5)
          ∧ r.2.mem ((c.tc : Thread Cert.Dh3Ideal.nD Cert.Dh3Ideal.τ).loc Cert.Dh3Ideal.main_arg6) = m ((c.tc : Thread Cert.Dh3Ideal.nD Cert.Dh3Ideal.τ).loc Cert.Dh3Ideal.main_arg6))
      ∧ θ_run (Cert.Dh3RefIdeal.defs (F := Ideal)) (onTc (τ := Cert.Dh3RefIdeal.τ) (Cert.Dh3RefIdeal.main (F := Ideal))) ⟨m', fun _ => 0, g'⟩ (fun r => ∀ c : Dev Cert.Dh3RefIdeal.nD,
          r.2.mem ((c.tc : Thread Cert.Dh3RefIdeal.nD Cert.Dh3RefIdeal.τ).loc Cert.Dh3RefIdeal.main_v44) = v0 c
          ∧ r.2.mem ((c.tc : Thread Cert.Dh3RefIdeal.nD Cert.Dh3RefIdeal.τ).loc Cert.Dh3RefIdeal.main_v47) = v1 c
          ∧ r.2.mem ((c.tc : Thread Cert.Dh3RefIdeal.nD Cert.Dh3RefIdeal.τ).loc Cert.Dh3RefIdeal.main_v48) = v2 c
          ∧ r.2.mem ((c.tc : Thread Cert.Dh3RefIdeal.nD Cert.Dh3RefIdeal.τ).loc Cert.Dh3RefIdeal.main_arg0) = m' ((c.tc : Thread Cert.Dh3RefIdeal.nD Cert.Dh3RefIdeal.τ).loc Cert.Dh3RefIdeal.main_arg0)
          ∧ r.2.mem ((c.tc : Thread Cert.Dh3RefIdeal.nD Cert.Dh3RefIdeal.τ).loc Cert.Dh3RefIdeal.main_arg1) = m' ((c.tc : Thread Cert.Dh3RefIdeal.nD Cert.Dh3RefIdeal.τ).loc Cert.Dh3RefIdeal.main_arg1)
          ∧ r.2.mem ((c.tc : Thread Cert.Dh3RefIdeal.nD Cert.Dh3RefIdeal.τ).loc Cert.Dh3RefIdeal.main_arg2) = m' ((c.tc : Thread Cert.Dh3RefIdeal.nD Cert.Dh3RefIdeal.τ).loc Cert.Dh3RefIdeal.main_arg2)
          ∧ r.2.mem ((c.tc : Thread Cert.Dh3RefIdeal.nD Cert.Dh3RefIdeal.τ).loc Cert.Dh3RefIdeal.main_arg3) = m' ((c.tc : Thread Cert.Dh3RefIdeal.nD Cert.Dh3RefIdeal.τ).loc Cert.Dh3RefIdeal.main_arg3)
          ∧ r.2.mem ((c.tc : Thread Cert.Dh3RefIdeal.nD Cert.Dh3RefIdeal.τ).loc Cert.Dh3RefIdeal.main_arg4) = m' ((c.tc : Thread Cert.Dh3RefIdeal.nD Cert.Dh3RefIdeal.τ).loc Cert.Dh3RefIdeal.main_arg4)
          ∧ r.2.mem ((c.tc : Thread Cert.Dh3RefIdeal.nD Cert.Dh3RefIdeal.τ).loc Cert.Dh3RefIdeal.main_arg5) = m' ((c.tc : Thread Cert.Dh3RefIdeal.nD Cert.Dh3RefIdeal.τ).loc Cert.Dh3RefIdeal.main_arg5)
          ∧ r.2.mem ((c.tc : Thread Cert.Dh3RefIdeal.nD Cert.Dh3RefIdeal.τ).loc Cert.Dh3RefIdeal.main_arg6) = m' ((c.tc : Thread Cert.Dh3RefIdeal.nD Cert.Dh3RefIdeal.τ).loc Cert.Dh3RefIdeal.main_arg6))

def preserves_Dh2_Dh2Ideal : Prop :=
  True

def algebraic_Dh2Ideal_Dh2RefIdeal_pre_finite_xattn [hDh2Ideal : Cert.Dh2Ideal.Facts] [hDh2RefIdeal : Cert.Dh2RefIdeal.Facts] [hPre_finite_xattn : Cert.Pre_finite_xattn.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal_finite_xattn m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)
      ∧ m' ((c.tc : Thread Cert.Dh2RefIdeal.nD Cert.Dh2RefIdeal.τ).loc Cert.Dh2RefIdeal.main_arg4) = m ((c.tc : Thread Cert.Dh2Ideal.nD Cert.Dh2Ideal.τ).loc Cert.Dh2Ideal.main_arg4)
      ∧ m' ((c.tc : Thread Cert.Dh2RefIdeal.nD Cert.Dh2RefIdeal.τ).loc Cert.Dh2RefIdeal.main_arg5) = m ((c.tc : Thread Cert.Dh2Ideal.nD Cert.Dh2Ideal.τ).loc Cert.Dh2Ideal.main_arg5)
      ∧ m' ((c.tc : Thread Cert.Dh2RefIdeal.nD Cert.Dh2RefIdeal.τ).loc Cert.Dh2RefIdeal.main_arg6) = m ((c.tc : Thread Cert.Dh2Ideal.nD Cert.Dh2Ideal.τ).loc Cert.Dh2Ideal.main_arg6)) →
    ∃ (v0 : (c : Dev Cert.Dh2Ideal.nD) → Buf (Elt Ideal) ((c.tc : Thread Cert.Dh2Ideal.nD Cert.Dh2Ideal.τ).loc Cert.Dh2Ideal.main_v5_0)) (v1 : (c : Dev Cert.Dh2Ideal.nD) → Buf (Elt Ideal) ((c.tc : Thread Cert.Dh2Ideal.nD Cert.Dh2Ideal.τ).loc Cert.Dh2Ideal.main_v5_1)) (v2 : (c : Dev Cert.Dh2Ideal.nD) → Buf (Elt Ideal) ((c.tc : Thread Cert.Dh2Ideal.nD Cert.Dh2Ideal.τ).loc Cert.Dh2Ideal.main_v5_2)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v5_0) = v0 c
          ∧ r.2.mem ((c.tc : Thread Cert.Dh2Ideal.nD Cert.Dh2Ideal.τ).loc Cert.Dh2Ideal.main_v5_1) = v1 c
          ∧ r.2.mem ((c.tc : Thread Cert.Dh2Ideal.nD Cert.Dh2Ideal.τ).loc Cert.Dh2Ideal.main_v5_2) = v2 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
          ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
          ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v44) = v0 c
          ∧ r.2.mem ((c.tc : Thread Cert.Dh2RefIdeal.nD Cert.Dh2RefIdeal.τ).loc Cert.Dh2RefIdeal.main_v47) = v1 c
          ∧ r.2.mem ((c.tc : Thread Cert.Dh2RefIdeal.nD Cert.Dh2RefIdeal.τ).loc Cert.Dh2RefIdeal.main_v48) = v2 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3)
          ∧ r.2.mem ((c.tc : Thread Cert.Dh2RefIdeal.nD Cert.Dh2RefIdeal.τ).loc Cert.Dh2RefIdeal.main_arg4) = m' ((c.tc : Thread Cert.Dh2RefIdeal.nD Cert.Dh2RefIdeal.τ).loc Cert.Dh2RefIdeal.main_arg4)
          ∧ r.2.mem ((c.tc : Thread Cert.Dh2RefIdeal.nD Cert.Dh2RefIdeal.τ).loc Cert.Dh2RefIdeal.main_arg5) = m' ((c.tc : Thread Cert.Dh2RefIdeal.nD Cert.Dh2RefIdeal.τ).loc Cert.Dh2RefIdeal.main_arg5)
          ∧ r.2.mem ((c.tc : Thread Cert.Dh2RefIdeal.nD Cert.Dh2RefIdeal.τ).loc Cert.Dh2RefIdeal.main_arg6) = m' ((c.tc : Thread Cert.Dh2RefIdeal.nD Cert.Dh2RefIdeal.τ).loc Cert.Dh2RefIdeal.main_arg6))

def preserves_Dmem_DmemIdeal : Prop :=
  True

def algebraic_DmemIdeal_DmemRefIdeal_pre_finite_memory [hDmemIdeal : Cert.DmemIdeal.Facts] [hDmemRefIdeal : Cert.DmemRefIdeal.Facts] [hPre_finite_memory : Cert.Pre_finite_memory.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemRefIdeal.nD Cert.DmemRefIdeal.τ Cert.DmemRefIdeal.sig) → Buf (Elt Ideal) ℓ) (g' : Dev Cert.DmemRefIdeal.nD → PrngReg), Pre_DmemIdeal_finite_memory m →
    (∀ c : Dev Cert.DmemIdeal.nD,
      m' ((c.tc : Thread Cert.DmemRefIdeal.nD Cert.DmemRefIdeal.τ).loc Cert.DmemRefIdeal.main_arg0) = m ((c.tc : Thread Cert.DmemIdeal.nD Cert.DmemIdeal.τ).loc Cert.DmemIdeal.main_arg0)
      ∧ m' ((c.tc : Thread Cert.DmemRefIdeal.nD Cert.DmemRefIdeal.τ).loc Cert.DmemRefIdeal.main_arg1) = m ((c.tc : Thread Cert.DmemIdeal.nD Cert.DmemIdeal.τ).loc Cert.DmemIdeal.main_arg1)
      ∧ m' ((c.tc : Thread Cert.DmemRefIdeal.nD Cert.DmemRefIdeal.τ).loc Cert.DmemRefIdeal.main_arg2) = m ((c.tc : Thread Cert.DmemIdeal.nD Cert.DmemIdeal.τ).loc Cert.DmemIdeal.main_arg2)
      ∧ m' ((c.tc : Thread Cert.DmemRefIdeal.nD Cert.DmemRefIdeal.τ).loc Cert.DmemRefIdeal.main_arg3) = m ((c.tc : Thread Cert.DmemIdeal.nD Cert.DmemIdeal.τ).loc Cert.DmemIdeal.main_arg3)) →
    ∃ (v0 : (c : Dev Cert.DmemIdeal.nD) → Buf (Elt Ideal) ((c.tc : Thread Cert.DmemIdeal.nD Cert.DmemIdeal.τ).loc Cert.DmemIdeal.main_v1_0)) (v1 : (c : Dev Cert.DmemIdeal.nD) → Buf (Elt Ideal) ((c.tc : Thread Cert.DmemIdeal.nD Cert.DmemIdeal.τ).loc Cert.DmemIdeal.main_v1_1)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v1_0) = v0 c
          ∧ r.2.mem ((c.tc : Thread Cert.DmemIdeal.nD Cert.DmemIdeal.τ).loc Cert.DmemIdeal.main_v1_1) = v1 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
          ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2)
          ∧ r.2.mem ((c.tc : Thread Cert.DmemIdeal.nD Cert.DmemIdeal.τ).loc Cert.DmemIdeal.main_arg3) = m ((c.tc : Thread Cert.DmemIdeal.nD Cert.DmemIdeal.τ).loc Cert.DmemIdeal.main_arg3))
      ∧ θ_run (Cert.DmemRefIdeal.defs (F := Ideal)) (onTc (τ := Cert.DmemRefIdeal.τ) (Cert.DmemRefIdeal.main (F := Ideal))) ⟨m', fun _ => 0, g'⟩ (fun r => ∀ c : Dev Cert.DmemRefIdeal.nD,
          r.2.mem ((c.tc : Thread Cert.DmemRefIdeal.nD Cert.DmemRefIdeal.τ).loc Cert.DmemRefIdeal.main_v38) = v0 c
          ∧ r.2.mem ((c.tc : Thread Cert.DmemRefIdeal.nD Cert.DmemRefIdeal.τ).loc Cert.DmemRefIdeal.main_v39) = v1 c
          ∧ r.2.mem ((c.tc : Thread Cert.DmemRefIdeal.nD Cert.DmemRefIdeal.τ).loc Cert.DmemRefIdeal.main_arg0) = m' ((c.tc : Thread Cert.DmemRefIdeal.nD Cert.DmemRefIdeal.τ).loc Cert.DmemRefIdeal.main_arg0)
          ∧ r.2.mem ((c.tc : Thread Cert.DmemRefIdeal.nD Cert.DmemRefIdeal.τ).loc Cert.DmemRefIdeal.main_arg1) = m' ((c.tc : Thread Cert.DmemRefIdeal.nD Cert.DmemRefIdeal.τ).loc Cert.DmemRefIdeal.main_arg1)
          ∧ r.2.mem ((c.tc : Thread Cert.DmemRefIdeal.nD Cert.DmemRefIdeal.τ).loc Cert.DmemRefIdeal.main_arg2) = m' ((c.tc : Thread Cert.DmemRefIdeal.nD Cert.DmemRefIdeal.τ).loc Cert.DmemRefIdeal.main_arg2)
          ∧ r.2.mem ((c.tc : Thread Cert.DmemRefIdeal.nD Cert.DmemRefIdeal.τ).loc Cert.DmemRefIdeal.main_arg3) = m' ((c.tc : Thread Cert.DmemRefIdeal.nD Cert.DmemRefIdeal.τ).loc Cert.DmemRefIdeal.main_arg3))

def preserves_Dh1_Dh1Ideal : Prop :=
  True

def algebraic_Dh1Ideal_Dh1RefIdeal_pre_finite_input [hDh1Ideal : Cert.Dh1Ideal.Facts] [hDh1RefIdeal : Cert.Dh1RefIdeal.Facts] [hPre_finite_input : Cert.Pre_finite_input.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal_finite_input m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)
      ∧ m' ((c.tc : Thread Cert.Dh1RefIdeal.nD Cert.Dh1RefIdeal.τ).loc Cert.Dh1RefIdeal.main_arg5) = m ((c.tc : Thread Cert.Dh1Ideal.nD Cert.Dh1Ideal.τ).loc Cert.Dh1Ideal.main_arg5)
      ∧ m' ((c.tc : Thread Cert.Dh1RefIdeal.nD Cert.Dh1RefIdeal.τ).loc Cert.Dh1RefIdeal.main_arg6) = m ((c.tc : Thread Cert.Dh1Ideal.nD Cert.Dh1Ideal.τ).loc Cert.Dh1Ideal.main_arg6)
      ∧ m' ((c.tc : Thread Cert.Dh1RefIdeal.nD Cert.Dh1RefIdeal.τ).loc Cert.Dh1RefIdeal.main_arg7) = m ((c.tc : Thread Cert.Dh1Ideal.nD Cert.Dh1Ideal.τ).loc Cert.Dh1Ideal.main_arg7)
      ∧ m' ((c.tc : Thread Cert.Dh1RefIdeal.nD Cert.Dh1RefIdeal.τ).loc Cert.Dh1RefIdeal.main_arg8) = m ((c.tc : Thread Cert.Dh1Ideal.nD Cert.Dh1Ideal.τ).loc Cert.Dh1Ideal.main_arg8)
      ∧ m' ((c.tc : Thread Cert.Dh1RefIdeal.nD Cert.Dh1RefIdeal.τ).loc Cert.Dh1RefIdeal.main_arg9) = m ((c.tc : Thread Cert.Dh1Ideal.nD Cert.Dh1Ideal.τ).loc Cert.Dh1Ideal.main_arg9)
      ∧ m' ((c.tc : Thread Cert.Dh1RefIdeal.nD Cert.Dh1RefIdeal.τ).loc Cert.Dh1RefIdeal.main_arg10) = m ((c.tc : Thread Cert.Dh1Ideal.nD Cert.Dh1Ideal.τ).loc Cert.Dh1Ideal.main_arg10)) →
    ∃ (v0 : (c : Dev Cert.Dh1Ideal.nD) → Buf (Elt Ideal) ((c.tc : Thread Cert.Dh1Ideal.nD Cert.Dh1Ideal.τ).loc Cert.Dh1Ideal.main_v2_0)) (v1 : (c : Dev Cert.Dh1Ideal.nD) → Buf (Elt Ideal) ((c.tc : Thread Cert.Dh1Ideal.nD Cert.Dh1Ideal.τ).loc Cert.Dh1Ideal.main_v2_1)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v2_0) = v0 c
          ∧ r.2.mem ((c.tc : Thread Cert.Dh1Ideal.nD Cert.Dh1Ideal.τ).loc Cert.Dh1Ideal.main_v2_1) = v1 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
          ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
          ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
          ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
          ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
          ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9)
          ∧ r.2.mem ((c.tc : Thread Cert.Dh1Ideal.nD Cert.Dh1Ideal.τ).loc Cert.Dh1Ideal.main_arg10) = m ((c.tc : Thread Cert.Dh1Ideal.nD Cert.Dh1Ideal.τ).loc Cert.Dh1Ideal.main_arg10))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v42) = v0 c
          ∧ r.2.mem ((c.tc : Thread Cert.Dh1RefIdeal.nD Cert.Dh1RefIdeal.τ).loc Cert.Dh1RefIdeal.main_v43) = v1 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4)
          ∧ r.2.mem ((c.tc : Thread Cert.Dh1RefIdeal.nD Cert.Dh1RefIdeal.τ).loc Cert.Dh1RefIdeal.main_arg5) = m' ((c.tc : Thread Cert.Dh1RefIdeal.nD Cert.Dh1RefIdeal.τ).loc Cert.Dh1RefIdeal.main_arg5)
          ∧ r.2.mem ((c.tc : Thread Cert.Dh1RefIdeal.nD Cert.Dh1RefIdeal.τ).loc Cert.Dh1RefIdeal.main_arg6) = m' ((c.tc : Thread Cert.Dh1RefIdeal.nD Cert.Dh1RefIdeal.τ).loc Cert.Dh1RefIdeal.main_arg6)
          ∧ r.2.mem ((c.tc : Thread Cert.Dh1RefIdeal.nD Cert.Dh1RefIdeal.τ).loc Cert.Dh1RefIdeal.main_arg7) = m' ((c.tc : Thread Cert.Dh1RefIdeal.nD Cert.Dh1RefIdeal.τ).loc Cert.Dh1RefIdeal.main_arg7)
          ∧ r.2.mem ((c.tc : Thread Cert.Dh1RefIdeal.nD Cert.Dh1RefIdeal.τ).loc Cert.Dh1RefIdeal.main_arg8) = m' ((c.tc : Thread Cert.Dh1RefIdeal.nD Cert.Dh1RefIdeal.τ).loc Cert.Dh1RefIdeal.main_arg8)
          ∧ r.2.mem ((c.tc : Thread Cert.Dh1RefIdeal.nD Cert.Dh1RefIdeal.τ).loc Cert.Dh1RefIdeal.main_arg9) = m' ((c.tc : Thread Cert.Dh1RefIdeal.nD Cert.Dh1RefIdeal.τ).loc Cert.Dh1RefIdeal.main_arg9)
          ∧ r.2.mem ((c.tc : Thread Cert.Dh1RefIdeal.nD Cert.Dh1RefIdeal.τ).loc Cert.Dh1RefIdeal.main_arg10) = m' ((c.tc : Thread Cert.Dh1RefIdeal.nD Cert.Dh1RefIdeal.τ).loc Cert.Dh1RefIdeal.main_arg10))

def preserves_WinDil_WinDilIdeal : Prop :=
  True

def algebraic_WinDilIdeal_WinDilRefIdeal [hWinDilIdeal : Cert.WinDilIdeal.Facts] [hWinDilRefIdeal : Cert.WinDilRefIdeal.Facts] : Prop :=
  ∀ (m : (ℓ : Loc Cert.WinDilIdeal.nD Cert.WinDilIdeal.τ Cert.WinDilIdeal.sig) → Buf (Elt Ideal) ℓ) (g : Dev Cert.WinDilIdeal.nD → PrngReg)
    (m' : (ℓ : Loc Cert.WinDilRefIdeal.nD Cert.WinDilRefIdeal.τ Cert.WinDilRefIdeal.sig) → Buf (Elt Ideal) ℓ) (g' : Dev Cert.WinDilRefIdeal.nD → PrngReg), Pre_WinDilIdeal m →
    (∀ c : Dev Cert.WinDilIdeal.nD,
      m' ((c.tc : Thread Cert.WinDilRefIdeal.nD Cert.WinDilRefIdeal.τ).loc Cert.WinDilRefIdeal.main_arg0) = m ((c.tc : Thread Cert.WinDilIdeal.nD Cert.WinDilIdeal.τ).loc Cert.WinDilIdeal.main_arg0)
      ∧ m' ((c.tc : Thread Cert.WinDilRefIdeal.nD Cert.WinDilRefIdeal.τ).loc Cert.WinDilRefIdeal.main_arg1) = m ((c.tc : Thread Cert.WinDilIdeal.nD Cert.WinDilIdeal.τ).loc Cert.WinDilIdeal.main_arg1)
      ∧ m' ((c.tc : Thread Cert.WinDilRefIdeal.nD Cert.WinDilRefIdeal.τ).loc Cert.WinDilRefIdeal.main_arg2) = m ((c.tc : Thread Cert.WinDilIdeal.nD Cert.WinDilIdeal.τ).loc Cert.WinDilIdeal.main_arg2)
      ∧ m' ((c.tc : Thread Cert.WinDilRefIdeal.nD Cert.WinDilRefIdeal.τ).loc Cert.WinDilRefIdeal.main_arg3) = m ((c.tc : Thread Cert.WinDilIdeal.nD Cert.WinDilIdeal.τ).loc Cert.WinDilIdeal.main_arg3)
      ∧ m' ((c.tc : Thread Cert.WinDilRefIdeal.nD Cert.WinDilRefIdeal.τ).loc Cert.WinDilRefIdeal.main_arg4) = m ((c.tc : Thread Cert.WinDilIdeal.nD Cert.WinDilIdeal.τ).loc Cert.WinDilIdeal.main_arg4)) →
    ∃ (v0 : (c : Dev Cert.WinDilIdeal.nD) → Buf (Elt Ideal) ((c.tc : Thread Cert.WinDilIdeal.nD Cert.WinDilIdeal.τ).loc Cert.WinDilIdeal.main_v0)),
      θ_run (Cert.WinDilIdeal.defs (F := Ideal)) (onTc (τ := Cert.WinDilIdeal.τ) (Cert.WinDilIdeal.main (F := Ideal))) ⟨m, fun _ => 0, g⟩ (fun r => ∀ c : Dev Cert.WinDilIdeal.nD,
          r.2.mem ((c.tc : Thread Cert.WinDilIdeal.nD Cert.WinDilIdeal.τ).loc Cert.WinDilIdeal.main_v0) = v0 c
          ∧ r.2.mem ((c.tc : Thread Cert.WinDilIdeal.nD Cert.WinDilIdeal.τ).loc Cert.WinDilIdeal.main_arg0) = m ((c.tc : Thread Cert.WinDilIdeal.nD Cert.WinDilIdeal.τ).loc Cert.WinDilIdeal.main_arg0)
          ∧ r.2.mem ((c.tc : Thread Cert.WinDilIdeal.nD Cert.WinDilIdeal.τ).loc Cert.WinDilIdeal.main_arg1) = m ((c.tc : Thread Cert.WinDilIdeal.nD Cert.WinDilIdeal.τ).loc Cert.WinDilIdeal.main_arg1)
          ∧ r.2.mem ((c.tc : Thread Cert.WinDilIdeal.nD Cert.WinDilIdeal.τ).loc Cert.WinDilIdeal.main_arg2) = m ((c.tc : Thread Cert.WinDilIdeal.nD Cert.WinDilIdeal.τ).loc Cert.WinDilIdeal.main_arg2)
          ∧ r.2.mem ((c.tc : Thread Cert.WinDilIdeal.nD Cert.WinDilIdeal.τ).loc Cert.WinDilIdeal.main_arg3) = m ((c.tc : Thread Cert.WinDilIdeal.nD Cert.WinDilIdeal.τ).loc Cert.WinDilIdeal.main_arg3)
          ∧ r.2.mem ((c.tc : Thread Cert.WinDilIdeal.nD Cert.WinDilIdeal.τ).loc Cert.WinDilIdeal.main_arg4) = m ((c.tc : Thread Cert.WinDilIdeal.nD Cert.WinDilIdeal.τ).loc Cert.WinDilIdeal.main_arg4))
      ∧ θ_run (Cert.WinDilRefIdeal.defs (F := Ideal)) (onTc (τ := Cert.WinDilRefIdeal.τ) (Cert.WinDilRefIdeal.main (F := Ideal))) ⟨m', fun _ => 0, g'⟩ (fun r => ∀ c : Dev Cert.WinDilRefIdeal.nD,
          r.2.mem ((c.tc : Thread Cert.WinDilRefIdeal.nD Cert.WinDilRefIdeal.τ).loc Cert.WinDilRefIdeal.main_v7) = v0 c
          ∧ r.2.mem ((c.tc : Thread Cert.WinDilRefIdeal.nD Cert.WinDilRefIdeal.τ).loc Cert.WinDilRefIdeal.main_arg0) = m' ((c.tc : Thread Cert.WinDilRefIdeal.nD Cert.WinDilRefIdeal.τ).loc Cert.WinDilRefIdeal.main_arg0)
          ∧ r.2.mem ((c.tc : Thread Cert.WinDilRefIdeal.nD Cert.WinDilRefIdeal.τ).loc Cert.WinDilRefIdeal.main_arg1) = m' ((c.tc : Thread Cert.WinDilRefIdeal.nD Cert.WinDilRefIdeal.τ).loc Cert.WinDilRefIdeal.main_arg1)
          ∧ r.2.mem ((c.tc : Thread Cert.WinDilRefIdeal.nD Cert.WinDilRefIdeal.τ).loc Cert.WinDilRefIdeal.main_arg2) = m' ((c.tc : Thread Cert.WinDilRefIdeal.nD Cert.WinDilRefIdeal.τ).loc Cert.WinDilRefIdeal.main_arg2)
          ∧ r.2.mem ((c.tc : Thread Cert.WinDilRefIdeal.nD Cert.WinDilRefIdeal.τ).loc Cert.WinDilRefIdeal.main_arg3) = m' ((c.tc : Thread Cert.WinDilRefIdeal.nD Cert.WinDilRefIdeal.τ).loc Cert.WinDilRefIdeal.main_arg3)
          ∧ r.2.mem ((c.tc : Thread Cert.WinDilRefIdeal.nD Cert.WinDilRefIdeal.τ).loc Cert.WinDilRefIdeal.main_arg4) = m' ((c.tc : Thread Cert.WinDilRefIdeal.nD Cert.WinDilRefIdeal.τ).loc Cert.WinDilRefIdeal.main_arg4))

def preserves_WinFox_WinFoxIdeal : Prop :=
  True

def algebraic_WinFoxIdeal_WinFoxRefIdeal [hWinFoxIdeal : Cert.WinFoxIdeal.Facts] [hWinFoxRefIdeal : Cert.WinFoxRefIdeal.Facts] : Prop :=
  ∀ (m : (ℓ : Loc Cert.WinFoxIdeal.nD Cert.WinFoxIdeal.τ Cert.WinFoxIdeal.sig) → Buf (Elt Ideal) ℓ) (g : Dev Cert.WinFoxIdeal.nD → PrngReg)
    (m' : (ℓ : Loc Cert.WinFoxRefIdeal.nD Cert.WinFoxRefIdeal.τ Cert.WinFoxRefIdeal.sig) → Buf (Elt Ideal) ℓ) (g' : Dev Cert.WinFoxRefIdeal.nD → PrngReg), Pre_WinFoxIdeal m →
    (∀ c : Dev Cert.WinFoxIdeal.nD,
      m' ((c.tc : Thread Cert.WinFoxRefIdeal.nD Cert.WinFoxRefIdeal.τ).loc Cert.WinFoxRefIdeal.main_arg0) = m ((c.tc : Thread Cert.WinFoxIdeal.nD Cert.WinFoxIdeal.τ).loc Cert.WinFoxIdeal.main_arg0)
      ∧ m' ((c.tc : Thread Cert.WinFoxRefIdeal.nD Cert.WinFoxRefIdeal.τ).loc Cert.WinFoxRefIdeal.main_arg1) = m ((c.tc : Thread Cert.WinFoxIdeal.nD Cert.WinFoxIdeal.τ).loc Cert.WinFoxIdeal.main_arg1)
      ∧ m' ((c.tc : Thread Cert.WinFoxRefIdeal.nD Cert.WinFoxRefIdeal.τ).loc Cert.WinFoxRefIdeal.main_arg2) = m ((c.tc : Thread Cert.WinFoxIdeal.nD Cert.WinFoxIdeal.τ).loc Cert.WinFoxIdeal.main_arg2)
      ∧ m' ((c.tc : Thread Cert.WinFoxRefIdeal.nD Cert.WinFoxRefIdeal.τ).loc Cert.WinFoxRefIdeal.main_arg3) = m ((c.tc : Thread Cert.WinFoxIdeal.nD Cert.WinFoxIdeal.τ).loc Cert.WinFoxIdeal.main_arg3)
      ∧ m' ((c.tc : Thread Cert.WinFoxRefIdeal.nD Cert.WinFoxRefIdeal.τ).loc Cert.WinFoxRefIdeal.main_arg4) = m ((c.tc : Thread Cert.WinFoxIdeal.nD Cert.WinFoxIdeal.τ).loc Cert.WinFoxIdeal.main_arg4)
      ∧ m' ((c.tc : Thread Cert.WinFoxRefIdeal.nD Cert.WinFoxRefIdeal.τ).loc Cert.WinFoxRefIdeal.main_arg5) = m ((c.tc : Thread Cert.WinFoxIdeal.nD Cert.WinFoxIdeal.τ).loc Cert.WinFoxIdeal.main_arg5)) →
    ∃ (v0 : (c : Dev Cert.WinFoxIdeal.nD) → Buf (Elt Ideal) ((c.tc : Thread Cert.WinFoxIdeal.nD Cert.WinFoxIdeal.τ).loc Cert.WinFoxIdeal.main_v0)),
      θ_run (Cert.WinFoxIdeal.defs (F := Ideal)) (onTc (τ := Cert.WinFoxIdeal.τ) (Cert.WinFoxIdeal.main (F := Ideal))) ⟨m, fun _ => 0, g⟩ (fun r => ∀ c : Dev Cert.WinFoxIdeal.nD,
          r.2.mem ((c.tc : Thread Cert.WinFoxIdeal.nD Cert.WinFoxIdeal.τ).loc Cert.WinFoxIdeal.main_v0) = v0 c
          ∧ r.2.mem ((c.tc : Thread Cert.WinFoxIdeal.nD Cert.WinFoxIdeal.τ).loc Cert.WinFoxIdeal.main_arg0) = m ((c.tc : Thread Cert.WinFoxIdeal.nD Cert.WinFoxIdeal.τ).loc Cert.WinFoxIdeal.main_arg0)
          ∧ r.2.mem ((c.tc : Thread Cert.WinFoxIdeal.nD Cert.WinFoxIdeal.τ).loc Cert.WinFoxIdeal.main_arg1) = m ((c.tc : Thread Cert.WinFoxIdeal.nD Cert.WinFoxIdeal.τ).loc Cert.WinFoxIdeal.main_arg1)
          ∧ r.2.mem ((c.tc : Thread Cert.WinFoxIdeal.nD Cert.WinFoxIdeal.τ).loc Cert.WinFoxIdeal.main_arg2) = m ((c.tc : Thread Cert.WinFoxIdeal.nD Cert.WinFoxIdeal.τ).loc Cert.WinFoxIdeal.main_arg2)
          ∧ r.2.mem ((c.tc : Thread Cert.WinFoxIdeal.nD Cert.WinFoxIdeal.τ).loc Cert.WinFoxIdeal.main_arg3) = m ((c.tc : Thread Cert.WinFoxIdeal.nD Cert.WinFoxIdeal.τ).loc Cert.WinFoxIdeal.main_arg3)
          ∧ r.2.mem ((c.tc : Thread Cert.WinFoxIdeal.nD Cert.WinFoxIdeal.τ).loc Cert.WinFoxIdeal.main_arg4) = m ((c.tc : Thread Cert.WinFoxIdeal.nD Cert.WinFoxIdeal.τ).loc Cert.WinFoxIdeal.main_arg4)
          ∧ r.2.mem ((c.tc : Thread Cert.WinFoxIdeal.nD Cert.WinFoxIdeal.τ).loc Cert.WinFoxIdeal.main_arg5) = m ((c.tc : Thread Cert.WinFoxIdeal.nD Cert.WinFoxIdeal.τ).loc Cert.WinFoxIdeal.main_arg5))
      ∧ θ_run (Cert.WinFoxRefIdeal.defs (F := Ideal)) (onTc (τ := Cert.WinFoxRefIdeal.τ) (Cert.WinFoxRefIdeal.main (F := Ideal))) ⟨m', fun _ => 0, g'⟩ (fun r => ∀ c : Dev Cert.WinFoxRefIdeal.nD,
          r.2.mem ((c.tc : Thread Cert.WinFoxRefIdeal.nD Cert.WinFoxRefIdeal.τ).loc Cert.WinFoxRefIdeal.main_v7) = v0 c
          ∧ r.2.mem ((c.tc : Thread Cert.WinFoxRefIdeal.nD Cert.WinFoxRefIdeal.τ).loc Cert.WinFoxRefIdeal.main_arg0) = m' ((c.tc : Thread Cert.WinFoxRefIdeal.nD Cert.WinFoxRefIdeal.τ).loc Cert.WinFoxRefIdeal.main_arg0)
          ∧ r.2.mem ((c.tc : Thread Cert.WinFoxRefIdeal.nD Cert.WinFoxRefIdeal.τ).loc Cert.WinFoxRefIdeal.main_arg1) = m' ((c.tc : Thread Cert.WinFoxRefIdeal.nD Cert.WinFoxRefIdeal.τ).loc Cert.WinFoxRefIdeal.main_arg1)
          ∧ r.2.mem ((c.tc : Thread Cert.WinFoxRefIdeal.nD Cert.WinFoxRefIdeal.τ).loc Cert.WinFoxRefIdeal.main_arg2) = m' ((c.tc : Thread Cert.WinFoxRefIdeal.nD Cert.WinFoxRefIdeal.τ).loc Cert.WinFoxRefIdeal.main_arg2)
          ∧ r.2.mem ((c.tc : Thread Cert.WinFoxRefIdeal.nD Cert.WinFoxRefIdeal.τ).loc Cert.WinFoxRefIdeal.main_arg3) = m' ((c.tc : Thread Cert.WinFoxRefIdeal.nD Cert.WinFoxRefIdeal.τ).loc Cert.WinFoxRefIdeal.main_arg3)
          ∧ r.2.mem ((c.tc : Thread Cert.WinFoxRefIdeal.nD Cert.WinFoxRefIdeal.τ).loc Cert.WinFoxRefIdeal.main_arg4) = m' ((c.tc : Thread Cert.WinFoxRefIdeal.nD Cert.WinFoxRefIdeal.τ).loc Cert.WinFoxRefIdeal.main_arg4)
          ∧ r.2.mem ((c.tc : Thread Cert.WinFoxRefIdeal.nD Cert.WinFoxRefIdeal.τ).loc Cert.WinFoxRefIdeal.main_arg5) = m' ((c.tc : Thread Cert.WinFoxRefIdeal.nD Cert.WinFoxRefIdeal.τ).loc Cert.WinFoxRefIdeal.main_arg5))

def preserves_Fxo_FxoIdeal : Prop :=
  True

def algebraic_FxoIdeal_FxoRefIdeal [hFxoIdeal : Cert.FxoIdeal.Facts] [hFxoRefIdeal : Cert.FxoRefIdeal.Facts] : Prop :=
  ∀ (m : (ℓ : Loc Cert.FxoIdeal.nD Cert.FxoIdeal.τ Cert.FxoIdeal.sig) → Buf (Elt Ideal) ℓ) (g : Dev Cert.FxoIdeal.nD → PrngReg)
    (m' : (ℓ : Loc Cert.FxoRefIdeal.nD Cert.FxoRefIdeal.τ Cert.FxoRefIdeal.sig) → Buf (Elt Ideal) ℓ) (g' : Dev Cert.FxoRefIdeal.nD → PrngReg), Pre_FxoIdeal m →
    (∀ c : Dev Cert.FxoIdeal.nD,
      m' ((c.tc : Thread Cert.FxoRefIdeal.nD Cert.FxoRefIdeal.τ).loc Cert.FxoRefIdeal.main_arg0) = m ((c.tc : Thread Cert.FxoIdeal.nD Cert.FxoIdeal.τ).loc Cert.FxoIdeal.main_arg0)
      ∧ m' ((c.tc : Thread Cert.FxoRefIdeal.nD Cert.FxoRefIdeal.τ).loc Cert.FxoRefIdeal.main_arg1) = m ((c.tc : Thread Cert.FxoIdeal.nD Cert.FxoIdeal.τ).loc Cert.FxoIdeal.main_arg1)
      ∧ m' ((c.tc : Thread Cert.FxoRefIdeal.nD Cert.FxoRefIdeal.τ).loc Cert.FxoRefIdeal.main_arg2) = m ((c.tc : Thread Cert.FxoIdeal.nD Cert.FxoIdeal.τ).loc Cert.FxoIdeal.main_arg2)
      ∧ m' ((c.tc : Thread Cert.FxoRefIdeal.nD Cert.FxoRefIdeal.τ).loc Cert.FxoRefIdeal.main_arg3) = m ((c.tc : Thread Cert.FxoIdeal.nD Cert.FxoIdeal.τ).loc Cert.FxoIdeal.main_arg3)
      ∧ m' ((c.tc : Thread Cert.FxoRefIdeal.nD Cert.FxoRefIdeal.τ).loc Cert.FxoRefIdeal.main_arg4) = m ((c.tc : Thread Cert.FxoIdeal.nD Cert.FxoIdeal.τ).loc Cert.FxoIdeal.main_arg4)) →
    ∃ (v0 : (c : Dev Cert.FxoIdeal.nD) → Buf (Elt Ideal) ((c.tc : Thread Cert.FxoIdeal.nD Cert.FxoIdeal.τ).loc Cert.FxoIdeal.main_v1_0)) (v1 : (c : Dev Cert.FxoIdeal.nD) → Buf (Elt Ideal) ((c.tc : Thread Cert.FxoIdeal.nD Cert.FxoIdeal.τ).loc Cert.FxoIdeal.main_v1_1)) (v2 : (c : Dev Cert.FxoIdeal.nD) → Buf (Elt Ideal) ((c.tc : Thread Cert.FxoIdeal.nD Cert.FxoIdeal.τ).loc Cert.FxoIdeal.main_v1_2)),
      θ_run (Cert.FxoIdeal.defs (F := Ideal)) (onTc (τ := Cert.FxoIdeal.τ) (Cert.FxoIdeal.main (F := Ideal))) ⟨m, fun _ => 0, g⟩ (fun r => ∀ c : Dev Cert.FxoIdeal.nD,
          r.2.mem ((c.tc : Thread Cert.FxoIdeal.nD Cert.FxoIdeal.τ).loc Cert.FxoIdeal.main_v1_0) = v0 c
          ∧ r.2.mem ((c.tc : Thread Cert.FxoIdeal.nD Cert.FxoIdeal.τ).loc Cert.FxoIdeal.main_v1_1) = v1 c
          ∧ r.2.mem ((c.tc : Thread Cert.FxoIdeal.nD Cert.FxoIdeal.τ).loc Cert.FxoIdeal.main_v1_2) = v2 c
          ∧ r.2.mem ((c.tc : Thread Cert.FxoIdeal.nD Cert.FxoIdeal.τ).loc Cert.FxoIdeal.main_arg0) = m ((c.tc : Thread Cert.FxoIdeal.nD Cert.FxoIdeal.τ).loc Cert.FxoIdeal.main_arg0)
          ∧ r.2.mem ((c.tc : Thread Cert.FxoIdeal.nD Cert.FxoIdeal.τ).loc Cert.FxoIdeal.main_arg1) = m ((c.tc : Thread Cert.FxoIdeal.nD Cert.FxoIdeal.τ).loc Cert.FxoIdeal.main_arg1)
          ∧ r.2.mem ((c.tc : Thread Cert.FxoIdeal.nD Cert.FxoIdeal.τ).loc Cert.FxoIdeal.main_arg2) = m ((c.tc : Thread Cert.FxoIdeal.nD Cert.FxoIdeal.τ).loc Cert.FxoIdeal.main_arg2)
          ∧ r.2.mem ((c.tc : Thread Cert.FxoIdeal.nD Cert.FxoIdeal.τ).loc Cert.FxoIdeal.main_arg3) = m ((c.tc : Thread Cert.FxoIdeal.nD Cert.FxoIdeal.τ).loc Cert.FxoIdeal.main_arg3)
          ∧ r.2.mem ((c.tc : Thread Cert.FxoIdeal.nD Cert.FxoIdeal.τ).loc Cert.FxoIdeal.main_arg4) = m ((c.tc : Thread Cert.FxoIdeal.nD Cert.FxoIdeal.τ).loc Cert.FxoIdeal.main_arg4))
      ∧ θ_run (Cert.FxoRefIdeal.defs (F := Ideal)) (onTc (τ := Cert.FxoRefIdeal.τ) (Cert.FxoRefIdeal.main (F := Ideal))) ⟨m', fun _ => 0, g'⟩ (fun r => ∀ c : Dev Cert.FxoRefIdeal.nD,
          r.2.mem ((c.tc : Thread Cert.FxoRefIdeal.nD Cert.FxoRefIdeal.τ).loc Cert.FxoRefIdeal.main_v4) = v0 c
          ∧ r.2.mem ((c.tc : Thread Cert.FxoRefIdeal.nD Cert.FxoRefIdeal.τ).loc Cert.FxoRefIdeal.main_v18) = v1 c
          ∧ r.2.mem ((c.tc : Thread Cert.FxoRefIdeal.nD Cert.FxoRefIdeal.τ).loc Cert.FxoRefIdeal.main_v21) = v2 c
          ∧ r.2.mem ((c.tc : Thread Cert.FxoRefIdeal.nD Cert.FxoRefIdeal.τ).loc Cert.FxoRefIdeal.main_arg0) = m' ((c.tc : Thread Cert.FxoRefIdeal.nD Cert.FxoRefIdeal.τ).loc Cert.FxoRefIdeal.main_arg0)
          ∧ r.2.mem ((c.tc : Thread Cert.FxoRefIdeal.nD Cert.FxoRefIdeal.τ).loc Cert.FxoRefIdeal.main_arg1) = m' ((c.tc : Thread Cert.FxoRefIdeal.nD Cert.FxoRefIdeal.τ).loc Cert.FxoRefIdeal.main_arg1)
          ∧ r.2.mem ((c.tc : Thread Cert.FxoRefIdeal.nD Cert.FxoRefIdeal.τ).loc Cert.FxoRefIdeal.main_arg2) = m' ((c.tc : Thread Cert.FxoRefIdeal.nD Cert.FxoRefIdeal.τ).loc Cert.FxoRefIdeal.main_arg2)
          ∧ r.2.mem ((c.tc : Thread Cert.FxoRefIdeal.nD Cert.FxoRefIdeal.τ).loc Cert.FxoRefIdeal.main_arg3) = m' ((c.tc : Thread Cert.FxoRefIdeal.nD Cert.FxoRefIdeal.τ).loc Cert.FxoRefIdeal.main_arg3)
          ∧ r.2.mem ((c.tc : Thread Cert.FxoRefIdeal.nD Cert.FxoRefIdeal.τ).loc Cert.FxoRefIdeal.main_arg4) = m' ((c.tc : Thread Cert.FxoRefIdeal.nD Cert.FxoRefIdeal.τ).loc Cert.FxoRefIdeal.main_arg4))

def preserves_Fout_FoutIdeal : Prop :=
  True

def algebraic_FoutIdeal_FoutRefIdeal [hFoutIdeal : Cert.FoutIdeal.Facts] [hFoutRefIdeal : Cert.FoutRefIdeal.Facts] : Prop :=
  ∀ (m : (ℓ : Loc Cert.FoutIdeal.nD Cert.FoutIdeal.τ Cert.FoutIdeal.sig) → Buf (Elt Ideal) ℓ) (g : Dev Cert.FoutIdeal.nD → PrngReg)
    (m' : (ℓ : Loc Cert.FoutRefIdeal.nD Cert.FoutRefIdeal.τ Cert.FoutRefIdeal.sig) → Buf (Elt Ideal) ℓ) (g' : Dev Cert.FoutRefIdeal.nD → PrngReg), Pre_FoutIdeal m →
    (∀ c : Dev Cert.FoutIdeal.nD,
      m' ((c.tc : Thread Cert.FoutRefIdeal.nD Cert.FoutRefIdeal.τ).loc Cert.FoutRefIdeal.main_arg0) = m ((c.tc : Thread Cert.FoutIdeal.nD Cert.FoutIdeal.τ).loc Cert.FoutIdeal.main_arg0)
      ∧ m' ((c.tc : Thread Cert.FoutRefIdeal.nD Cert.FoutRefIdeal.τ).loc Cert.FoutRefIdeal.main_arg1) = m ((c.tc : Thread Cert.FoutIdeal.nD Cert.FoutIdeal.τ).loc Cert.FoutIdeal.main_arg1)
      ∧ m' ((c.tc : Thread Cert.FoutRefIdeal.nD Cert.FoutRefIdeal.τ).loc Cert.FoutRefIdeal.main_arg2) = m ((c.tc : Thread Cert.FoutIdeal.nD Cert.FoutIdeal.τ).loc Cert.FoutIdeal.main_arg2)
      ∧ m' ((c.tc : Thread Cert.FoutRefIdeal.nD Cert.FoutRefIdeal.τ).loc Cert.FoutRefIdeal.main_arg3) = m ((c.tc : Thread Cert.FoutIdeal.nD Cert.FoutIdeal.τ).loc Cert.FoutIdeal.main_arg3)
      ∧ m' ((c.tc : Thread Cert.FoutRefIdeal.nD Cert.FoutRefIdeal.τ).loc Cert.FoutRefIdeal.main_arg4) = m ((c.tc : Thread Cert.FoutIdeal.nD Cert.FoutIdeal.τ).loc Cert.FoutIdeal.main_arg4)) →
    ∃ (v0 : (c : Dev Cert.FoutIdeal.nD) → Buf (Elt Ideal) ((c.tc : Thread Cert.FoutIdeal.nD Cert.FoutIdeal.τ).loc Cert.FoutIdeal.main_v1_0)) (v1 : (c : Dev Cert.FoutIdeal.nD) → Buf (Elt Ideal) ((c.tc : Thread Cert.FoutIdeal.nD Cert.FoutIdeal.τ).loc Cert.FoutIdeal.main_v1_1)) (v2 : (c : Dev Cert.FoutIdeal.nD) → Buf (Elt Ideal) ((c.tc : Thread Cert.FoutIdeal.nD Cert.FoutIdeal.τ).loc Cert.FoutIdeal.main_v1_2)),
      θ_run (Cert.FoutIdeal.defs (F := Ideal)) (onTc (τ := Cert.FoutIdeal.τ) (Cert.FoutIdeal.main (F := Ideal))) ⟨m, fun _ => 0, g⟩ (fun r => ∀ c : Dev Cert.FoutIdeal.nD,
          r.2.mem ((c.tc : Thread Cert.FoutIdeal.nD Cert.FoutIdeal.τ).loc Cert.FoutIdeal.main_v1_0) = v0 c
          ∧ r.2.mem ((c.tc : Thread Cert.FoutIdeal.nD Cert.FoutIdeal.τ).loc Cert.FoutIdeal.main_v1_1) = v1 c
          ∧ r.2.mem ((c.tc : Thread Cert.FoutIdeal.nD Cert.FoutIdeal.τ).loc Cert.FoutIdeal.main_v1_2) = v2 c
          ∧ r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
          ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1)
          ∧ r.2.mem ((c.tc : Thread Cert.FoutIdeal.nD Cert.FoutIdeal.τ).loc Cert.FoutIdeal.main_arg2) = m ((c.tc : Thread Cert.FoutIdeal.nD Cert.FoutIdeal.τ).loc Cert.FoutIdeal.main_arg2)
          ∧ r.2.mem ((c.tc : Thread Cert.FoutIdeal.nD Cert.FoutIdeal.τ).loc Cert.FoutIdeal.main_arg3) = m ((c.tc : Thread Cert.FoutIdeal.nD Cert.FoutIdeal.τ).loc Cert.FoutIdeal.main_arg3)
          ∧ r.2.mem ((c.tc : Thread Cert.FoutIdeal.nD Cert.FoutIdeal.τ).loc Cert.FoutIdeal.main_arg4) = m ((c.tc : Thread Cert.FoutIdeal.nD Cert.FoutIdeal.τ).loc Cert.FoutIdeal.main_arg4))
      ∧ θ_run (Cert.FoutRefIdeal.defs (F := Ideal)) (onTc (τ := Cert.FoutRefIdeal.τ) (Cert.FoutRefIdeal.main (F := Ideal))) ⟨m', fun _ => 0, g'⟩ (fun r => ∀ c : Dev Cert.FoutRefIdeal.nD,
          r.2.mem ((c.tc : Thread Cert.FoutRefIdeal.nD Cert.FoutRefIdeal.τ).loc Cert.FoutRefIdeal.main_v4) = v0 c
          ∧ r.2.mem ((c.tc : Thread Cert.FoutRefIdeal.nD Cert.FoutRefIdeal.τ).loc Cert.FoutRefIdeal.main_v18) = v1 c
          ∧ r.2.mem ((c.tc : Thread Cert.FoutRefIdeal.nD Cert.FoutRefIdeal.τ).loc Cert.FoutRefIdeal.main_v20) = v2 c
          ∧ r.2.mem ((c.tc : Thread Cert.FoutRefIdeal.nD Cert.FoutRefIdeal.τ).loc Cert.FoutRefIdeal.main_arg0) = m' ((c.tc : Thread Cert.FoutRefIdeal.nD Cert.FoutRefIdeal.τ).loc Cert.FoutRefIdeal.main_arg0)
          ∧ r.2.mem ((c.tc : Thread Cert.FoutRefIdeal.nD Cert.FoutRefIdeal.τ).loc Cert.FoutRefIdeal.main_arg1) = m' ((c.tc : Thread Cert.FoutRefIdeal.nD Cert.FoutRefIdeal.τ).loc Cert.FoutRefIdeal.main_arg1)
          ∧ r.2.mem ((c.tc : Thread Cert.FoutRefIdeal.nD Cert.FoutRefIdeal.τ).loc Cert.FoutRefIdeal.main_arg2) = m' ((c.tc : Thread Cert.FoutRefIdeal.nD Cert.FoutRefIdeal.τ).loc Cert.FoutRefIdeal.main_arg2)
          ∧ r.2.mem ((c.tc : Thread Cert.FoutRefIdeal.nD Cert.FoutRefIdeal.τ).loc Cert.FoutRefIdeal.main_arg3) = m' ((c.tc : Thread Cert.FoutRefIdeal.nD Cert.FoutRefIdeal.τ).loc Cert.FoutRefIdeal.main_arg3)
          ∧ r.2.mem ((c.tc : Thread Cert.FoutRefIdeal.nD Cert.FoutRefIdeal.τ).loc Cert.FoutRefIdeal.main_arg4) = m' ((c.tc : Thread Cert.FoutRefIdeal.nD Cert.FoutRefIdeal.τ).loc Cert.FoutRefIdeal.main_arg4))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v4_0)) (v1 : (c : Dev Cert.FinIdeal.nD) → Buf (Elt Ideal) ((c.tc : Thread Cert.FinIdeal.nD Cert.FinIdeal.τ).loc Cert.FinIdeal.main_v4_1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v4_0) = v0 c
          ∧ r.2.mem ((c.tc : Thread Cert.FinIdeal.nD Cert.FinIdeal.τ).loc Cert.FinIdeal.main_v4_1) = v1 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v4) = v0 c
          ∧ r.2.mem ((c.tc : Thread Cert.FinRefIdeal.nD Cert.FinRefIdeal.τ).loc Cert.FinRefIdeal.main_v6) = v1 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_Fdown_FdownIdeal : Prop :=
  True

def algebraic_FdownIdeal_FdownRefIdeal_pre_finite_loss [hFdownIdeal : Cert.FdownIdeal.Facts] [hFdownRefIdeal : Cert.FdownRefIdeal.Facts] [hPre_finite_loss : Cert.Pre_finite_loss.Facts] : Prop :=
  ∀ (m : (ℓ : Loc Cert.FdownIdeal.nD Cert.FdownIdeal.τ Cert.FdownIdeal.sig) → Buf (Elt Ideal) ℓ) (g : Dev Cert.FdownIdeal.nD → PrngReg)
    (m' : (ℓ : Loc Cert.FdownRefIdeal.nD Cert.FdownRefIdeal.τ Cert.FdownRefIdeal.sig) → Buf (Elt Ideal) ℓ) (g' : Dev Cert.FdownRefIdeal.nD → PrngReg), Pre_FdownIdeal_finite_loss m →
    (∀ c : Dev Cert.FdownIdeal.nD,
      m' ((c.tc : Thread Cert.FdownRefIdeal.nD Cert.FdownRefIdeal.τ).loc Cert.FdownRefIdeal.main_arg0) = m ((c.tc : Thread Cert.FdownIdeal.nD Cert.FdownIdeal.τ).loc Cert.FdownIdeal.main_arg0)
      ∧ m' ((c.tc : Thread Cert.FdownRefIdeal.nD Cert.FdownRefIdeal.τ).loc Cert.FdownRefIdeal.main_arg1) = m ((c.tc : Thread Cert.FdownIdeal.nD Cert.FdownIdeal.τ).loc Cert.FdownIdeal.main_arg1)
      ∧ m' ((c.tc : Thread Cert.FdownRefIdeal.nD Cert.FdownRefIdeal.τ).loc Cert.FdownRefIdeal.main_arg2) = m ((c.tc : Thread Cert.FdownIdeal.nD Cert.FdownIdeal.τ).loc Cert.FdownIdeal.main_arg2)
      ∧ m' ((c.tc : Thread Cert.FdownRefIdeal.nD Cert.FdownRefIdeal.τ).loc Cert.FdownRefIdeal.main_arg3) = m ((c.tc : Thread Cert.FdownIdeal.nD Cert.FdownIdeal.τ).loc Cert.FdownIdeal.main_arg3)
      ∧ m' ((c.tc : Thread Cert.FdownRefIdeal.nD Cert.FdownRefIdeal.τ).loc Cert.FdownRefIdeal.main_arg4) = m ((c.tc : Thread Cert.FdownIdeal.nD Cert.FdownIdeal.τ).loc Cert.FdownIdeal.main_arg4)) →
    ∃ (v0 : (c : Dev Cert.FdownIdeal.nD) → Buf (Elt Ideal) ((c.tc : Thread Cert.FdownIdeal.nD Cert.FdownIdeal.τ).loc Cert.FdownIdeal.main_v1_0)) (v1 : (c : Dev Cert.FdownIdeal.nD) → Buf (Elt Ideal) ((c.tc : Thread Cert.FdownIdeal.nD Cert.FdownIdeal.τ).loc Cert.FdownIdeal.main_v1_1)) (v2 : (c : Dev Cert.FdownIdeal.nD) → Buf (Elt Ideal) ((c.tc : Thread Cert.FdownIdeal.nD Cert.FdownIdeal.τ).loc Cert.FdownIdeal.main_v1_2)) (v3 : (c : Dev Cert.FdownIdeal.nD) → Buf (Elt Ideal) ((c.tc : Thread Cert.FdownIdeal.nD Cert.FdownIdeal.τ).loc Cert.FdownIdeal.main_v1_3)),
      θ_run (Cert.FdownIdeal.defs (F := Ideal)) (onTc (τ := Cert.FdownIdeal.τ) (Cert.FdownIdeal.main (F := Ideal))) ⟨m, fun _ => 0, g⟩ (fun r => ∀ c : Dev Cert.FdownIdeal.nD,
          r.2.mem ((c.tc : Thread Cert.FdownIdeal.nD Cert.FdownIdeal.τ).loc Cert.FdownIdeal.main_v1_0) = v0 c
          ∧ r.2.mem ((c.tc : Thread Cert.FdownIdeal.nD Cert.FdownIdeal.τ).loc Cert.FdownIdeal.main_v1_1) = v1 c
          ∧ r.2.mem ((c.tc : Thread Cert.FdownIdeal.nD Cert.FdownIdeal.τ).loc Cert.FdownIdeal.main_v1_2) = v2 c
          ∧ r.2.mem ((c.tc : Thread Cert.FdownIdeal.nD Cert.FdownIdeal.τ).loc Cert.FdownIdeal.main_v1_3) = v3 c
          ∧ r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
          ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
          ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2)
          ∧ r.2.mem ((c.tc : Thread Cert.FdownIdeal.nD Cert.FdownIdeal.τ).loc Cert.FdownIdeal.main_arg3) = m ((c.tc : Thread Cert.FdownIdeal.nD Cert.FdownIdeal.τ).loc Cert.FdownIdeal.main_arg3)
          ∧ r.2.mem ((c.tc : Thread Cert.FdownIdeal.nD Cert.FdownIdeal.τ).loc Cert.FdownIdeal.main_arg4) = m ((c.tc : Thread Cert.FdownIdeal.nD Cert.FdownIdeal.τ).loc Cert.FdownIdeal.main_arg4))
      ∧ θ_run (Cert.FdownRefIdeal.defs (F := Ideal)) (onTc (τ := Cert.FdownRefIdeal.τ) (Cert.FdownRefIdeal.main (F := Ideal))) ⟨m', fun _ => 0, g'⟩ (fun r => ∀ c : Dev Cert.FdownRefIdeal.nD,
          r.2.mem ((c.tc : Thread Cert.FdownRefIdeal.nD Cert.FdownRefIdeal.τ).loc Cert.FdownRefIdeal.main_v55) = v0 c
          ∧ r.2.mem ((c.tc : Thread Cert.FdownRefIdeal.nD Cert.FdownRefIdeal.τ).loc Cert.FdownRefIdeal.main_v56) = v1 c
          ∧ r.2.mem ((c.tc : Thread Cert.FdownRefIdeal.nD Cert.FdownRefIdeal.τ).loc Cert.FdownRefIdeal.main_v57) = v2 c
          ∧ r.2.mem ((c.tc : Thread Cert.FdownRefIdeal.nD Cert.FdownRefIdeal.τ).loc Cert.FdownRefIdeal.main_v58) = v3 c
          ∧ r.2.mem ((c.tc : Thread Cert.FdownRefIdeal.nD Cert.FdownRefIdeal.τ).loc Cert.FdownRefIdeal.main_arg0) = m' ((c.tc : Thread Cert.FdownRefIdeal.nD Cert.FdownRefIdeal.τ).loc Cert.FdownRefIdeal.main_arg0)
          ∧ r.2.mem ((c.tc : Thread Cert.FdownRefIdeal.nD Cert.FdownRefIdeal.τ).loc Cert.FdownRefIdeal.main_arg1) = m' ((c.tc : Thread Cert.FdownRefIdeal.nD Cert.FdownRefIdeal.τ).loc Cert.FdownRefIdeal.main_arg1)
          ∧ r.2.mem ((c.tc : Thread Cert.FdownRefIdeal.nD Cert.FdownRefIdeal.τ).loc Cert.FdownRefIdeal.main_arg2) = m' ((c.tc : Thread Cert.FdownRefIdeal.nD Cert.FdownRefIdeal.τ).loc Cert.FdownRefIdeal.main_arg2)
          ∧ r.2.mem ((c.tc : Thread Cert.FdownRefIdeal.nD Cert.FdownRefIdeal.τ).loc Cert.FdownRefIdeal.main_arg3) = m' ((c.tc : Thread Cert.FdownRefIdeal.nD Cert.FdownRefIdeal.τ).loc Cert.FdownRefIdeal.main_arg3)
          ∧ r.2.mem ((c.tc : Thread Cert.FdownRefIdeal.nD Cert.FdownRefIdeal.τ).loc Cert.FdownRefIdeal.main_arg4) = m' ((c.tc : Thread Cert.FdownRefIdeal.nD Cert.FdownRefIdeal.τ).loc Cert.FdownRefIdeal.main_arg4))

def preserves_Fxattn_FxattnIdeal : Prop :=
  True

def algebraic_FxattnIdeal_FxattnRefIdeal_pre_finite_scores [hFxattnIdeal : Cert.FxattnIdeal.Facts] [hFxattnRefIdeal : Cert.FxattnRefIdeal.Facts] [hPre_finite_scores : Cert.Pre_finite_scores.Facts] : Prop :=
  ∀ (m : (ℓ : Loc Cert.FxattnIdeal.nD Cert.FxattnIdeal.τ Cert.FxattnIdeal.sig) → Buf (Elt Ideal) ℓ) (g : Dev Cert.FxattnIdeal.nD → PrngReg)
    (m' : (ℓ : Loc Cert.FxattnRefIdeal.nD Cert.FxattnRefIdeal.τ Cert.FxattnRefIdeal.sig) → Buf (Elt Ideal) ℓ) (g' : Dev Cert.FxattnRefIdeal.nD → PrngReg), Pre_FxattnIdeal_finite_scores m →
    (∀ c : Dev Cert.FxattnIdeal.nD,
      m' ((c.tc : Thread Cert.FxattnRefIdeal.nD Cert.FxattnRefIdeal.τ).loc Cert.FxattnRefIdeal.main_arg0) = m ((c.tc : Thread Cert.FxattnIdeal.nD Cert.FxattnIdeal.τ).loc Cert.FxattnIdeal.main_arg0)
      ∧ m' ((c.tc : Thread Cert.FxattnRefIdeal.nD Cert.FxattnRefIdeal.τ).loc Cert.FxattnRefIdeal.main_arg1) = m ((c.tc : Thread Cert.FxattnIdeal.nD Cert.FxattnIdeal.τ).loc Cert.FxattnIdeal.main_arg1)) →
    ∃ (v0 : (c : Dev Cert.FxattnIdeal.nD) → Buf (Elt Ideal) ((c.tc : Thread Cert.FxattnIdeal.nD Cert.FxattnIdeal.τ).loc Cert.FxattnIdeal.main_v0)),
      θ_run (Cert.FxattnIdeal.defs (F := Ideal)) (onTc (τ := Cert.FxattnIdeal.τ) (Cert.FxattnIdeal.main (F := Ideal))) ⟨m, fun _ => 0, g⟩ (fun r => ∀ c : Dev Cert.FxattnIdeal.nD,
          r.2.mem ((c.tc : Thread Cert.FxattnIdeal.nD Cert.FxattnIdeal.τ).loc Cert.FxattnIdeal.main_v0) = v0 c
          ∧ r.2.mem ((c.tc : Thread Cert.FxattnIdeal.nD Cert.FxattnIdeal.τ).loc Cert.FxattnIdeal.main_arg0) = m ((c.tc : Thread Cert.FxattnIdeal.nD Cert.FxattnIdeal.τ).loc Cert.FxattnIdeal.main_arg0)
          ∧ r.2.mem ((c.tc : Thread Cert.FxattnIdeal.nD Cert.FxattnIdeal.τ).loc Cert.FxattnIdeal.main_arg1) = m ((c.tc : Thread Cert.FxattnIdeal.nD Cert.FxattnIdeal.τ).loc Cert.FxattnIdeal.main_arg1))
      ∧ θ_run (Cert.FxattnRefIdeal.defs (F := Ideal)) (onTc (τ := Cert.FxattnRefIdeal.τ) (Cert.FxattnRefIdeal.main (F := Ideal))) ⟨m', fun _ => 0, g'⟩ (fun r => ∀ c : Dev Cert.FxattnRefIdeal.nD,
          r.2.mem ((c.tc : Thread Cert.FxattnRefIdeal.nD Cert.FxattnRefIdeal.τ).loc Cert.FxattnRefIdeal.main_v24) = v0 c
          ∧ r.2.mem ((c.tc : Thread Cert.FxattnRefIdeal.nD Cert.FxattnRefIdeal.τ).loc Cert.FxattnRefIdeal.main_arg0) = m' ((c.tc : Thread Cert.FxattnRefIdeal.nD Cert.FxattnRefIdeal.τ).loc Cert.FxattnRefIdeal.main_arg0)
          ∧ r.2.mem ((c.tc : Thread Cert.FxattnRefIdeal.nD Cert.FxattnRefIdeal.τ).loc Cert.FxattnRefIdeal.main_arg1) = m' ((c.tc : Thread Cert.FxattnRefIdeal.nD Cert.FxattnRefIdeal.τ).loc Cert.FxattnRefIdeal.main_arg1))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hWdown : Cert.Wdown.Facts) (hWdownIdeal : Cert.WdownIdeal.Facts) (hWdownRefIdeal : Cert.WdownRefIdeal.Facts) (hWup : Cert.Wup.Facts) (hWupIdeal : Cert.WupIdeal.Facts) (hWupRefIdeal : Cert.WupRefIdeal.Facts) (hWxo : Cert.Wxo.Facts) (hWxoIdeal : Cert.WxoIdeal.Facts) (hWxoRefIdeal : Cert.WxoRefIdeal.Facts) (hWxq : Cert.Wxq.Facts) (hWxqIdeal : Cert.WxqIdeal.Facts) (hWxqRefIdeal : Cert.WxqRefIdeal.Facts) (hWkv : Cert.Wkv.Facts) (hWkvIdeal : Cert.WkvIdeal.Facts) (hWkvRefIdeal : Cert.WkvRefIdeal.Facts) (hDh3 : Cert.Dh3.Facts) (hDh3Ideal : Cert.Dh3Ideal.Facts) (hDh3RefIdeal : Cert.Dh3RefIdeal.Facts) (hDh2 : Cert.Dh2.Facts) (hDh2Ideal : Cert.Dh2Ideal.Facts) (hDh2RefIdeal : Cert.Dh2RefIdeal.Facts) (hDmem : Cert.Dmem.Facts) (hDmemIdeal : Cert.DmemIdeal.Facts) (hDmemRefIdeal : Cert.DmemRefIdeal.Facts) (hDh1 : Cert.Dh1.Facts) (hDh1Ideal : Cert.Dh1Ideal.Facts) (hDh1RefIdeal : Cert.Dh1RefIdeal.Facts) (hWinDil : Cert.WinDil.Facts) (hWinDilIdeal : Cert.WinDilIdeal.Facts) (hWinDilRefIdeal : Cert.WinDilRefIdeal.Facts) (hWinFox : Cert.WinFox.Facts) (hWinFoxIdeal : Cert.WinFoxIdeal.Facts) (hWinFoxRefIdeal : Cert.WinFoxRefIdeal.Facts) (hFxo : Cert.Fxo.Facts) (hFxoIdeal : Cert.FxoIdeal.Facts) (hFxoRefIdeal : Cert.FxoRefIdeal.Facts) (hFout : Cert.Fout.Facts) (hFoutIdeal : Cert.FoutIdeal.Facts) (hFoutRefIdeal : Cert.FoutRefIdeal.Facts) (hFin : Cert.Fin.Facts) (hFinIdeal : Cert.FinIdeal.Facts) (hFinRefIdeal : Cert.FinRefIdeal.Facts) (hFdown : Cert.Fdown.Facts) (hFdownIdeal : Cert.FdownIdeal.Facts) (hFdownRefIdeal : Cert.FdownRefIdeal.Facts) (hFxattn : Cert.Fxattn.Facts) (hFxattnIdeal : Cert.FxattnIdeal.Facts) (hFxattnRefIdeal : Cert.FxattnRefIdeal.Facts) (hPre_finite : Cert.Pre_finite.Facts) (hPre_finite_mlp : Cert.Pre_finite_mlp.Facts) (hPre_finite_xattn : Cert.Pre_finite_xattn.Facts) (hPre_finite_memory : Cert.Pre_finite_memory.Facts) (hPre_finite_input : Cert.Pre_finite_input.Facts) (hPre_finite_loss : Cert.Pre_finite_loss.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Wup (hWup := hWup)
    ∧ quiescent_WupIdeal (hWupIdeal := hWupIdeal)
    ∧ quiescent_WupRefIdeal (hWupRefIdeal := hWupRefIdeal)
    ∧ quiescent_Wxo (hWxo := hWxo)
    ∧ quiescent_WxoIdeal (hWxoIdeal := hWxoIdeal)
    ∧ quiescent_WxoRefIdeal (hWxoRefIdeal := hWxoRefIdeal)
    ∧ quiescent_Wxq (hWxq := hWxq)
    ∧ quiescent_WxqIdeal (hWxqIdeal := hWxqIdeal)
    ∧ quiescent_WxqRefIdeal (hWxqRefIdeal := hWxqRefIdeal)
    ∧ quiescent_Wkv (hWkv := hWkv)
    ∧ quiescent_WkvIdeal (hWkvIdeal := hWkvIdeal)
    ∧ quiescent_WkvRefIdeal (hWkvRefIdeal := hWkvRefIdeal)
    ∧ quiescent_Dh3 (hDh3 := hDh3)
    ∧ quiescent_Dh3Ideal (hDh3Ideal := hDh3Ideal)
    ∧ quiescent_Dh3Ideal_pre_finite_mlp (hDh3Ideal := hDh3Ideal) (hPre_finite_mlp := hPre_finite_mlp)
    ∧ quiescent_Dh3RefIdeal (hDh3RefIdeal := hDh3RefIdeal)
    ∧ quiescent_Dh3RefIdeal_pre_finite_mlp (hDh3RefIdeal := hDh3RefIdeal) (hPre_finite_mlp := hPre_finite_mlp)
    ∧ quiescent_Dh2 (hDh2 := hDh2)
    ∧ quiescent_Dh2Ideal (hDh2Ideal := hDh2Ideal)
    ∧ quiescent_Dh2Ideal_pre_finite_xattn (hDh2Ideal := hDh2Ideal) (hPre_finite_xattn := hPre_finite_xattn)
    ∧ quiescent_Dh2RefIdeal (hDh2RefIdeal := hDh2RefIdeal)
    ∧ quiescent_Dh2RefIdeal_pre_finite_xattn (hDh2RefIdeal := hDh2RefIdeal) (hPre_finite_xattn := hPre_finite_xattn)
    ∧ quiescent_Dmem (hDmem := hDmem)
    ∧ quiescent_DmemIdeal (hDmemIdeal := hDmemIdeal)
    ∧ quiescent_DmemIdeal_pre_finite_memory (hDmemIdeal := hDmemIdeal) (hPre_finite_memory := hPre_finite_memory)
    ∧ quiescent_DmemRefIdeal (hDmemRefIdeal := hDmemRefIdeal)
    ∧ quiescent_DmemRefIdeal_pre_finite_memory (hDmemRefIdeal := hDmemRefIdeal) (hPre_finite_memory := hPre_finite_memory)
    ∧ quiescent_Dh1 (hDh1 := hDh1)
    ∧ quiescent_Dh1Ideal (hDh1Ideal := hDh1Ideal)
    ∧ quiescent_Dh1Ideal_pre_finite_input (hDh1Ideal := hDh1Ideal) (hPre_finite_input := hPre_finite_input)
    ∧ quiescent_Dh1RefIdeal (hDh1RefIdeal := hDh1RefIdeal)
    ∧ quiescent_Dh1RefIdeal_pre_finite_input (hDh1RefIdeal := hDh1RefIdeal) (hPre_finite_input := hPre_finite_input)
    ∧ quiescent_WinDil (hWinDil := hWinDil)
    ∧ quiescent_WinDilIdeal (hWinDilIdeal := hWinDilIdeal)
    ∧ quiescent_WinDilRefIdeal (hWinDilRefIdeal := hWinDilRefIdeal)
    ∧ quiescent_WinFox (hWinFox := hWinFox)
    ∧ quiescent_WinFoxIdeal (hWinFoxIdeal := hWinFoxIdeal)
    ∧ quiescent_WinFoxRefIdeal (hWinFoxRefIdeal := hWinFoxRefIdeal)
    ∧ quiescent_Fxo (hFxo := hFxo)
    ∧ quiescent_FxoIdeal (hFxoIdeal := hFxoIdeal)
    ∧ quiescent_FxoRefIdeal (hFxoRefIdeal := hFxoRefIdeal)
    ∧ quiescent_Fout (hFout := hFout)
    ∧ quiescent_FoutIdeal (hFoutIdeal := hFoutIdeal)
    ∧ quiescent_FoutRefIdeal (hFoutRefIdeal := hFoutRefIdeal)
    ∧ quiescent_Fin (hFin := hFin)
    ∧ quiescent_FinIdeal (hFinIdeal := hFinIdeal)
    ∧ quiescent_FinRefIdeal (hFinRefIdeal := hFinRefIdeal)
    ∧ quiescent_Fdown (hFdown := hFdown)
    ∧ quiescent_FdownIdeal (hFdownIdeal := hFdownIdeal)
    ∧ quiescent_FdownIdeal_pre_finite_loss (hFdownIdeal := hFdownIdeal) (hPre_finite_loss := hPre_finite_loss)
    ∧ quiescent_FdownRefIdeal (hFdownRefIdeal := hFdownRefIdeal)
    ∧ quiescent_FdownRefIdeal_pre_finite_loss (hFdownRefIdeal := hFdownRefIdeal) (hPre_finite_loss := hPre_finite_loss)
    ∧ quiescent_Fxattn (hFxattn := hFxattn)
    ∧ quiescent_FxattnIdeal (hFxattnIdeal := hFxattnIdeal)
    ∧ quiescent_FxattnIdeal_pre_finite_scores (hFxattnIdeal := hFxattnIdeal) (hPre_finite_scores := hPre_finite_scores)
    ∧ quiescent_FxattnRefIdeal (hFxattnRefIdeal := hFxattnRefIdeal)
    ∧ quiescent_FxattnRefIdeal_pre_finite_scores (hFxattnRefIdeal := hFxattnRefIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Wdown_WdownIdeal
    ∧ algebraic_WdownIdeal_WdownRefIdeal (hWdownIdeal := hWdownIdeal) (hWdownRefIdeal := hWdownRefIdeal)
    ∧ preserves_Wup_WupIdeal
    ∧ algebraic_WupIdeal_WupRefIdeal (hWupIdeal := hWupIdeal) (hWupRefIdeal := hWupRefIdeal)
    ∧ preserves_Wxo_WxoIdeal
    ∧ algebraic_WxoIdeal_WxoRefIdeal (hWxoIdeal := hWxoIdeal) (hWxoRefIdeal := hWxoRefIdeal)
    ∧ preserves_Wxq_WxqIdeal
    ∧ algebraic_WxqIdeal_WxqRefIdeal (hWxqIdeal := hWxqIdeal) (hWxqRefIdeal := hWxqRefIdeal)
    ∧ preserves_Wkv_WkvIdeal
    ∧ algebraic_WkvIdeal_WkvRefIdeal (hWkvIdeal := hWkvIdeal) (hWkvRefIdeal := hWkvRefIdeal)
    ∧ preserves_Dh3_Dh3Ideal
    ∧ algebraic_Dh3Ideal_Dh3RefIdeal_pre_finite_mlp (hDh3Ideal := hDh3Ideal) (hDh3RefIdeal := hDh3RefIdeal) (hPre_finite_mlp := hPre_finite_mlp)
    ∧ preserves_Dh2_Dh2Ideal
    ∧ algebraic_Dh2Ideal_Dh2RefIdeal_pre_finite_xattn (hDh2Ideal := hDh2Ideal) (hDh2RefIdeal := hDh2RefIdeal) (hPre_finite_xattn := hPre_finite_xattn)
    ∧ preserves_Dmem_DmemIdeal
    ∧ algebraic_DmemIdeal_DmemRefIdeal_pre_finite_memory (hDmemIdeal := hDmemIdeal) (hDmemRefIdeal := hDmemRefIdeal) (hPre_finite_memory := hPre_finite_memory)
    ∧ preserves_Dh1_Dh1Ideal
    ∧ algebraic_Dh1Ideal_Dh1RefIdeal_pre_finite_input (hDh1Ideal := hDh1Ideal) (hDh1RefIdeal := hDh1RefIdeal) (hPre_finite_input := hPre_finite_input)
    ∧ preserves_WinDil_WinDilIdeal
    ∧ algebraic_WinDilIdeal_WinDilRefIdeal (hWinDilIdeal := hWinDilIdeal) (hWinDilRefIdeal := hWinDilRefIdeal)
    ∧ preserves_WinFox_WinFoxIdeal
    ∧ algebraic_WinFoxIdeal_WinFoxRefIdeal (hWinFoxIdeal := hWinFoxIdeal) (hWinFoxRefIdeal := hWinFoxRefIdeal)
    ∧ preserves_Fxo_FxoIdeal
    ∧ algebraic_FxoIdeal_FxoRefIdeal (hFxoIdeal := hFxoIdeal) (hFxoRefIdeal := hFxoRefIdeal)
    ∧ preserves_Fout_FoutIdeal
    ∧ algebraic_FoutIdeal_FoutRefIdeal (hFoutIdeal := hFoutIdeal) (hFoutRefIdeal := hFoutRefIdeal)
    ∧ preserves_Fin_FinIdeal
    ∧ algebraic_FinIdeal_FinRefIdeal (hFinIdeal := hFinIdeal) (hFinRefIdeal := hFinRefIdeal)
    ∧ preserves_Fdown_FdownIdeal
    ∧ algebraic_FdownIdeal_FdownRefIdeal_pre_finite_loss (hFdownIdeal := hFdownIdeal) (hFdownRefIdeal := hFdownRefIdeal) (hPre_finite_loss := hPre_finite_loss)
    ∧ preserves_Fxattn_FxattnIdeal
    ∧ algebraic_FxattnIdeal_FxattnRefIdeal_pre_finite_scores (hFxattnIdeal := hFxattnIdeal) (hFxattnRefIdeal := hFxattnRefIdeal) (hPre_finite_scores := hPre_finite_scores)
-- ==== Pre_finite.lean ====
abbrev S8192x3072 : Shape := ⟨2, ![8192, 3072]⟩
abbrev S4x2048x8 : Shape := ⟨3, ![4, 2048, 8]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S4x2048x8 : S_.BroadcastsInDim S4x2048x8 (![] : Fin 0 → Fin S4x2048x8.rank)
  bcast_S_S8192x1024 : S_.BroadcastsInDim S8192x1024 (![] : Fin 0 → Fin S8192x1024.rank)

variable [Facts]

def fn {F : FTy → Type} [FloatOps F] (main_arg0 : FVec F S8192x3072 .bf16) (main_arg1 : FVec F S4x2048x8 .f32) (main_arg2 : FVec F S8192x1024 .bf16) : IVec S8192x3072 1 × IVec S4x2048x8 1 × IVec S8192x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S4x2048x8 .f32 := Host.absf main_arg1
  let main_cst_0 : FVec F S_ .f32 := constant S_ .f32 0x7F800000#32
  let main_v5 : FVec F S4x2048x8 .f32 := broadcastInDim S4x2048x8 ![] bcast_S_S4x2048x8 main_cst_0
  let main_v6 : IVec S4x2048x8 1 := cmpf .olt main_v4 main_v5
  let main_v7 : FVec F S8192x1024 .f32 := (extf .f32 · bitsLt_bf16_f32) main_arg2
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  (main_v3, main_v6, main_v10)
-- ==== Pre_finite_input.lean ====
abbrev S8192x1024 : Shape := ⟨2, ![8192, 1024]⟩
abbrev S1024 : Shape := ⟨1, ![1024]⟩
abbrev S1024x3080 : Shape := ⟨2, ![1024, 3080]⟩
abbrev S8192x512 : Shape := ⟨2, ![8192, 512]⟩
abbrev S8192x128 : Shape := ⟨2, ![8192, 128]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bitsLt_bf16_f32 : FTy.bits .bf16 < FTy.bits .f32
  bcast_S_S1024x3080 : S_.BroadcastsInDim S1024x3080 (![] : Fin 0 → Fin S1024x3080.rank)
  bcast_S_S8192x512 : S_.BroadcastsInDim S8192x512 (![] : Fin 0 → Fin S8192x512.rank)
  bcast_S_S8192x128 : S_.BroadcastsInDim S8192x128 (![] : Fin 0 → Fin S8192x128.rank)

variable [Facts]

def fn_part1 {F : FTy → Type} [FloatOps F] (main_arg7 : FVec F S8192x512 .bf16) (main_arg8 : FVec F S8192x512 .bf16) (main_arg9 : FVec F S8192x512 .bf16) (main_arg10 : FVec F S8192x128 .bf16) (main_v2 : IVec S8192x1024 1) (main_v5 : IVec S1024 1) (main_v9 : IVec S1024x3080 1) (main_v13 : IVec S8192x512 1) (main_v17 : IVec S8192x512 1) (main_v18 : FVec F S8192x512 .f32) : IVec S8192x1024 1 × IVec S1024 1 × IVec S1024x3080 1 × IVec S8192x512 1 × IVec S8192x512 1 × IVec S8192x512 1 × IVec S8192x512 1 × IVec S8192x512 1 × IVec S8192x512 1 × IVec S8192x128 1 :=
  let main_v19 : FVec F S8192x512 .f32 := Host.absf main_v18
  let main_cst_4 : FVec F S_ .f32 := constant S_ .f32 0x7F800000#32
  let main_v20 : FVec F S8192x512 .f32 := broadcastInDim S8192x512 ![] bcast_S_S8192x512 main_cst_4
  let main_v21 : IVec S8192x512 1 := cmpf .olt main_v19 main_v20
  let main_v22 : FVec F S8192x512 .f32 := (extf .f32 · bitsLt_bf16_f32) main_arg7
  let main_v23 : FVec F S8192x512 .f32 := Host.absf main_v22
  let main_cst_5 : FVec F S_ .f32 := constant S_ .f32 0x7F800000#32
  let main_v24 : FVec F S8192x512 .f32 := broadcastInDim S8192x512 ![] bcast_S_S8192x512 main_cst_5
  let main_v25 : IVec S8192x512 1 := cmpf .olt main_v23 main_v24
  let main_v26 : FVec F S8192x512 .f32 := (extf .f32 · bitsLt_bf16_f32) main_arg8
  let main_v27 : FVec F S8192x512 .f32 := Host.absf main_v26
  let main_cst_6 : FVec F S_ .f32 := constant S_ .f32 0x7F800000#32
  let main_v28 : FVec F S8192x512 .f32 := broadcastInDim S8192x512 ![] bcast_S_S8192x512 main_cst_6
  let main_v29 : IVec S8192x512 1 := cmpf .olt main_v27 main_v28
  let main_v30 : FVec F S8192x512 .f32 := (extf .f32 · bitsLt_bf16_f32) main_arg9
  let main_v31 : FVec F S8192x512 .f32 := Host.absf main_v30
  let main_cst_7 : FVec F S_ .f32 := constant S_ .f32 0x7F800000#32
  let main_v32 : FVec F S8192x512 .f32 := broadcastInDim S8192x512 ![] bcast_S_S8192x512 main_cst_7
  let main_v33 : IVec S8192x512 1 := cmpf .olt main_v31 main_v32
  let main_v34 : FVec F S8192x128 .f32 := (extf .f32 · bitsLt_bf16_f32) main_arg10
  let main_v35 : FVec F S8192x128 .f32 := Host.absf main_v34
  let main_cst_8 : FVec F S_ .f32 := constant S_ .f32 0x7F800000#32
  let main_v36 : FVec F S8192x128 .f32 := broadcastInDim S8192x128 ![] bcast_S_S8192x128 main_cst_8
  let main_v37 : IVec S8192x128 1 := cmpf .olt main_v35 main_v36
  (main_v2, main_v5, main_v9, main_v13, main_v17, main_v21, main_v25, main_v29, main_v33, main_v37)

def fn {F : FTy → Type} [FloatOps F] (main_arg0 : FVec F S8192x1024 .f32) (main_arg1 : FVec F S1024 .f32) (main_arg2 : FVec F S1024x3080 .bf16) (main_arg3 : FVec F S8192x1024 .f32) (main_arg4 : FVec F S8192x512 .bf16) (main_arg5 : FVec F S8192x512 .bf16) (main_arg6 : FVec F S8192x512 .bf16) (main_arg7 : FVec F S8192x512 .bf16) (main_arg8 : FVec F S8192x512 .bf16) (main_arg9 : FVec F S8192x512 .bf16) (main_arg10 : FVec F S8192x128 .bf16) : IVec S8192x1024 1 × IVec S1024 1 × IVec S1024x3080 1 × IVec S8192x512 1 × IVec S8192x512 1 × IVec S8192x512 1 × IVec S8192x512 1 × IVec S8192x512 1 × IVec S8192x512 1 × IVec S8192x128 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3080 .f32 := (extf .f32 · bitsLt_bf16_f32) main_arg2
  let main_v7 : FVec F S1024x3080 .f32 := Host.absf main_v6
  let main_cst_1 : FVec F S_ .f32 := constant S_ .f32 0x7F800000#32
  let main_v8 : FVec F S1024x3080 .f32 := broadcastInDim S1024x3080 ![] bcast_S_S1024x3080 main_cst_1
  let main_v9 : IVec S1024x3080 1 := cmpf .olt main_v7 main_v8
  let main_v10 : FVec F S8192x512 .f32 := (extf .f32 · bitsLt_bf16_f32) main_arg4
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_v14 : FVec F S8192x512 .f32 := (extf .f32 · bitsLt_bf16_f32) main_arg5
  let main_v15 : FVec F S8192x512 .f32 := Host.absf main_v14
  let main_cst_3 : FVec F S_ .f32 := constant S_ .f32 0x7F800000#32
  let main_v16 : FVec F S8192x512 .f32 := broadcastInDim S8192x512 ![] bcast_S_S8192x512 main_cst_3
  let main_v17 : IVec S8192x512 1 := cmpf .olt main_v15 main_v16
  let main_v18 : FVec F S8192x512 .f32 := (extf .f32 · bitsLt_bf16_f32) main_arg6
  fn_part1 (F := F) main_arg7 main_arg8 main_arg9 main_arg10 main_v2 main_v5 main_v9 main_v13 main_v17 main_v18
-- ==== Pre_finite_loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .bf16) (main_arg1 : FVec F S4096x1024 .bf16) (main_arg2 : FVec F S8192x1024 .f32) (main_arg3 : FVec F S1024 .f32) (main_arg4 : FVec F S8192x1024 .f32) : IVec S8192x4096 1 × IVec S4096x1024 1 × IVec S8192x1024 1 × IVec S1024 1 × IVec S8192x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_finite_memory.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S1024x1024 : S_.BroadcastsInDim S1024x1024 (![] : Fin 0 → Fin S1024x1024.rank)
  bcast_S_S1024 : S_.BroadcastsInDim S1024 (![] : Fin 0 → Fin S1024.rank)
  bitsLt_bf16_f32 : FTy.bits .bf16 < FTy.bits .f32
  bcast_S_S1024x2048 : S_.BroadcastsInDim S1024x2048 (![] : Fin 0 → Fin S1024x2048.rank)

variable [Facts]

def fn {F : FTy → Type} [FloatOps F] (main_arg0 : FVec F S1024x1024 .f32) (main_arg1 : FVec F S1024 .f32) (main_arg2 : FVec F S1024x2048 .bf16) (main_arg3 : FVec F S1024x2048 .f32) : IVec S1024x1024 1 × IVec S1024 1 × IVec S1024x2048 1 × IVec S1024x2048 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := (extf .f32 · bitsLt_bf16_f32) main_arg2
  let main_v7 : FVec F S1024x2048 .f32 := Host.absf main_v6
  let main_cst_1 : FVec F S_ .f32 := constant S_ .f32 0x7F800000#32
  let main_v8 : FVec F S1024x2048 .f32 := broadcastInDim S1024x2048 ![] bcast_S_S1024x2048 main_cst_1
  let main_v9 : IVec S1024x2048 1 := cmpf .olt main_v7 main_v8
  let main_v10 : FVec F S1024x2048 .f32 := Host.absf main_arg3
  let main_cst_2 : FVec F S_ .f32 := constant S_ .f32 0x7F800000#32
  let main_v11 : FVec F S1024x2048 .f32 := broadcastInDim S1024x2048 ![] bcast_S_S1024x2048 main_cst_2
  let main_v12 : IVec S1024x2048 1 := cmpf .olt main_v10 main_v11
  (main_v2, main_v5, main_v9, main_v12)
-- ==== Pre_finite_mlp.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn_part1 {F : FTy → Type} [FloatOps F] (main_v3 : IVec S8192x1024 1) (main_v6 : IVec S8192x1024 1) (main_v10 : IVec S1024x1024 1) (main_v13 : IVec S1024 1) (main_v17 : IVec S1024x4096 1) (main_v18 : FVec F S8192x4096 .f32) : IVec S8192x1024 1 × IVec S8192x1024 1 × IVec S1024x1024 1 × IVec S1024 1 × IVec S1024x4096 1 × IVec S8192x4096 1 :=
  let main_v19 : FVec F S8192x4096 .f32 := Host.absf main_v18
  let main_cst_4 : FVec F S_ .f32 := constant S_ .f32 0x7F800000#32
  let main_v20 : FVec F S8192x4096 .f32 := broadcastInDim S8192x4096 ![] bcast_S_S8192x4096 main_cst_4
  let main_v21 : IVec S8192x4096 1 := cmpf .olt main_v19 main_v20
  (main_v3, main_v6, main_v10, main_v13, main_v17, main_v21)

def fn {F : FTy → Type} [FloatOps F] (main_arg0 : FVec F S8192x1024 .bf16) (main_arg1 : FVec F S8192x1024 .f32) (main_arg2 : FVec F S1024x1024 .bf16) (main_arg3 : FVec F S1024 .f32) (main_arg4 : FVec F S1024x4096 .bf16) (main_arg5 : FVec F S8192x1024 .f32) (main_arg6 : FVec F S8192x4096 .bf16) : IVec S8192x1024 1 × IVec S8192x1024 1 × IVec S1024x1024 1 × IVec S1024 1 × IVec S1024x4096 1 × IVec S8192x4096 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1024x1024 .f32 := (extf .f32 · bitsLt_bf16_f32) main_arg2
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024x4096 .f32 := (extf .f32 · bitsLt_bf16_f32) main_arg4
  let main_v15 : FVec F S1024x4096 .f32 := Host.absf main_v14
  let main_cst_3 : FVec F S_ .f32 := constant S_ .f32 0x7F800000#32
  let main_v16 : FVec F S1024x4096 .f32 := broadcastInDim S1024x4096 ![] bcast_S_S1024x4096 main_cst_3
  let main_v17 : IVec S1024x4096 1 := cmpf .olt main_v15 main_v16
  let main_v18 : FVec F S8192x4096 .f32 := (extf .f32 · bitsLt_bf16_f32) main_arg6
  fn_part1 (F := F) main_v3 main_v6 main_v10 main_v13 main_v17 main_v18
-- ==== Pre_finite_scores.lean ====
abbrev S8192x1024 : Shape := ⟨2, ![8192, 1024]⟩
abbrev S1024x2048 : Shape := ⟨2, ![1024, 2048]⟩
abbrev S1024x1024 : Shape := ⟨2, ![1024, 1024]⟩
abbrev S_ : Shape := ⟨0, ![]⟩

class Facts : Prop where
  slices_S1024x2048_S1024x1024_0_0 : S1024x2048.Slices ![0, 0] S1024x1024
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) : IVec S8192x1024 1 × IVec S1024x1024 1 :=
  let main_v0 : FVec F S1024x1024 .bf16 := (extractStridedSlice S1024x1024 ![0, 0] · slices_S1024x2048_S1024x1024_0_0) main_arg1
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024x1024 .f32 := (extf .f32 · bitsLt_bf16_f32) main_v0
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v4, main_v8)
-- ==== Pre_finite_xattn.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_v3 : IVec S8192x1024 1) (main_v6 : IVec S8192x1024 1) (main_v10 : IVec S1024x1024 1) (main_v13 : IVec S1024 1) (main_v17 : IVec S1024x1024 1) (main_v18 : FVec F S8192x1024 .f32) : IVec S8192x1024 1 × IVec S8192x1024 1 × IVec S1024x1024 1 × IVec S1024 1 × IVec S1024x1024 1 × IVec S8192x1024 1 :=
  let main_v19 : FVec F S8192x1024 .f32 := Host.absf main_v18
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  (main_v3, main_v6, main_v10, main_v13, main_v17, main_v21)

def fn {F : FTy → Type} [FloatOps F] (main_arg0 : FVec F S8192x1024 .bf16) (main_arg1 : FVec F S8192x1024 .f32) (main_arg2 : FVec F S1024x1024 .bf16) (main_arg3 : FVec F S1024 .f32) (main_arg4 : FVec F S1024x1024 .bf16) (main_arg5 : FVec F S8192x1024 .f32) (main_arg6 : FVec F S8192x1024 .bf16) : IVec S8192x1024 1 × IVec S8192x1024 1 × IVec S1024x1024 1 × IVec S1024 1 × IVec S1024x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1024x1024 .f32 := (extf .f32 · bitsLt_bf16_f32) main_arg2
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024x1024 .f32 := (extf .f32 · bitsLt_bf16_f32) main_arg4
  let main_v15 : FVec F S1024x1024 .f32 := Host.absf main_v14
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : FVec F S8192x1024 .f32 := (extf .f32 · bitsLt_bf16_f32) main_arg6
  fn_part1 (F := F) main_v3 main_v6 main_v10 main_v13 main_v17 main_v18
-- ==== Kernel.lean ====
abbrev S8192x3072 : Shape := ⟨2, ![8192, 3072]⟩
abbrev S4x2048x8 : Shape := ⟨3, ![4, 2048, 8]⟩
abbrev S8192x1024 : Shape := ⟨2, ![8192, 1024]⟩
abbrev S8192x512 : Shape := ⟨2, ![8192, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x2048x8x1 : Shape := ⟨4, ![4, 2048, 8, 1]⟩
abbrev S2048x128 : Shape := ⟨2, ![2048, 128]⟩
abbrev S2x2048x128 : Shape := ⟨3, ![2, 2048, 128]⟩
abbrev S1x128 : Shape := ⟨2, ![1, 128]⟩
abbrev S1x2048x128 : Shape := ⟨3, ![1, 2048, 128]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S1x256 : Shape := ⟨2, ![1, 256]⟩
abbrev S256x1 : Shape := ⟨2, ![256, 1]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S768x256 : Shape := ⟨2, ![768, 256]⟩
abbrev S1x768x128 : Shape := ⟨3, ![1, 768, 128]⟩
abbrev S768x128 : Shape := ⟨2, ![768, 128]⟩
abbrev S768 : Shape := ⟨1, ![768]⟩
abbrev S768x1 : Shape := ⟨2, ![768, 1]⟩
abbrev S1024x256 : Shape := ⟨2, ![1024, 256]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1280x256 : Shape := ⟨2, ![1280, 256]⟩
abbrev S1x1280x128 : Shape := ⟨3, ![1, 1280, 128]⟩
abbrev S1280x128 : Shape := ⟨2, ![1280, 128]⟩
abbrev S1280 : Shape := ⟨1, ![1280]⟩
abbrev S1280x1 : Shape := ⟨2, ![1280, 1]⟩
abbrev S1536x256 : Shape := ⟨2, ![1536, 256]⟩
abbrev S1x1536x128 : Shape := ⟨3, ![1, 1536, 128]⟩
abbrev S1536x128 : Shape := ⟨2, ![1536, 128]⟩
abbrev S1536 : Shape := ⟨1, ![1536]⟩
abbrev S1536x1 : Shape := ⟨2, ![1536, 1]⟩
abbrev S1792x256 : Shape := ⟨2, ![1792, 256]⟩
abbrev S1x1792x128 : Shape := ⟨3, ![1, 1792, 128]⟩
abbrev S1792x128 : Shape := ⟨2, ![1792, 128]⟩
abbrev S1792 : Shape := ⟨1, ![1792]⟩
abbrev S1792x1 : Shape := ⟨2, ![1792, 1]⟩
abbrev S2048x256 : Shape := ⟨2, ![2048, 256]⟩

abbrev nBuf : Space → Nat
  | .hbm => 52
  | .vmem => 29
  | .smem => 0
  | _ => 0

abbrev bufTy : (tb : Table) → Fin (tcTables nBuf tb) → BufTy
  | .hbm, ⟨0, _⟩ => ⟨S8192x3072, .bf16⟩
  | .hbm, ⟨1, _⟩ => ⟨S4x2048x8, .f32⟩
  | .hbm, ⟨2, _⟩ => ⟨S8192x1024, .bf16⟩
  | .hbm, ⟨3, _⟩ => ⟨S8192x3072, .f32⟩
  | .hbm, ⟨4, _⟩ => ⟨S8192x512, .f32⟩
  | .hbm, ⟨5, _⟩ => ⟨S4x2048x8x64, .f32⟩
  | .hbm, ⟨6, _⟩ => ⟨S8192x512, .f32⟩
  | .hbm, ⟨7, _⟩ => ⟨S4x2048x8x64, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S4x8x2048, .f32⟩
  | .hbm, ⟨13, _⟩ => ⟨S4x8x2048x1, .f32⟩
  | .hbm, ⟨14, _⟩ => ⟨S4x8x1x2048, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | .hbm, ⟨18, _⟩ => ⟨S4x8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x1x2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048x1, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048, .f32⟩
  | .hbm, ⟨41, _⟩ => ⟨S4x2048x8, .f32⟩
  | .hbm, ⟨42, _⟩ => ⟨S4x2048x8x1, .f32⟩
  | .hbm, ⟨43, _⟩ => ⟨S4x2048x8x64, .f32⟩
  | .hbm, ⟨44, _⟩ => ⟨S8192x512, .f32⟩
  | .hbm, ⟨45, _⟩ => ⟨S4x2048x8x1, .f32⟩
  | .hbm, ⟨46, _⟩ => ⟨S4x2048x8x64, .f32⟩
  | .hbm, ⟨47, _⟩ => ⟨S8192x512, .f32⟩
  | .hbm, ⟨48, _⟩ => ⟨S8192x512, .bf16⟩
  | .hbm, ⟨49, _⟩ => ⟨S8192x512, .bf16⟩
  | .hbm, ⟨50, _⟩ => ⟨S8192x512, .bf16⟩
  | .hbm, ⟨51, _⟩ => ⟨S8192x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2x2048x128, .bf16⟩
  | .local _ .vmem, ⟨21, _⟩ => ⟨S2x2048x128, .bf16⟩
  | .local _ .vmem, ⟨22, _⟩ => ⟨S2x2048x128, .bf16⟩
  | .local _ .vmem, ⟨23, _⟩ => ⟨S2x2048x128, .bf16⟩
  | .local _ .vmem, ⟨24, _⟩ => ⟨S2x2048x128, .bf16⟩
  | .local _ .vmem, ⟨25, _⟩ => ⟨S2x2048x128, .bf16⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x3072 : Shape := ⟨2, ![8192, 3072]⟩
abbrev S4x2048x8 : Shape := ⟨3, ![4, 2048, 8]⟩
abbrev S8192x1024 : Shape := ⟨2, ![8192, 1024]⟩
abbrev S8192x512 : Shape := ⟨2, ![8192, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩
abbrev S4x8x2048x64 : Shape := ⟨4, ![4, 8, 2048, 64]⟩
abbrev S4x2048x8x1 : Shape := ⟨4, ![4, 2048, 8, 1]⟩

abbrev nBuf : Space → Nat
  | .hbm => 129
  | .vmem => 0
  | .smem => 0
  | _ => 0

abbrev hbmTy0_0 (i : Nat) : BufTy := match i % 128 with
  | 0 => ⟨S8192x3072, .bf16⟩
  | 1 => ⟨S4x2048x8, .f32⟩
  | 2 => ⟨S8192x1024, .bf16⟩
  | 3 => ⟨S8192x3072, .f32⟩
  | 4 => ⟨S8192x512, .f32⟩
  | 5 => ⟨S8192x512, .f32⟩
  | 6 => ⟨S8192x512, .f32⟩
  | 7 => ⟨S4x2048x8x64, .f32⟩
  | 8 => ⟨S4x2048x8x64, .f32⟩
  | 9 => ⟨S4x8x2048x2048, .f32⟩
  | 10 => ⟨S_, .f32⟩
  | 11 => ⟨S4x8x2048x2048, .f32⟩
  | 12 => ⟨S4x8x2048x2048, .f32⟩
  | 13 => ⟨S4x8x2048, .f32⟩
  | 14 => ⟨S4x8x2048x1, .f32⟩
  | 15 => ⟨S4x8x1x2048, .f32⟩
  | 16 => ⟨S4x8x2048x2048, .f32⟩
  | 17 => ⟨S4x8x2048x2048, .f32⟩
  | 18 => ⟨S4x8x2048x2048, .f32⟩
  | 19 => ⟨S4x8x2048x2048, .f32⟩
  | 20 => ⟨S2048, .i32⟩
  | 21 => ⟨S1x2048, .i32⟩
  | 22 => ⟨S2048x1, .i32⟩
  | 23 => ⟨S2048x2048, .i32⟩
  | 24 => ⟨S2048x2048, .i32⟩
  | 25 => ⟨S2048x2048, .i1⟩
  | 26 => ⟨S1x1x2048x2048, .i1⟩
  | 27 => ⟨S_, .f32⟩
  | 28 => ⟨S_, .f32⟩
  | 29 => ⟨S4x8x2048x2048, .i1⟩
  | 30 => ⟨S4x8x2048x2048, .f32⟩
  | 31 => ⟨S4x8x2048x2048, .f32⟩
  | 32 => ⟨S_, .f32⟩
  | 33 => ⟨S4x8x2048x2048, .f32⟩
  | 34 => ⟨S_, .f32⟩
  | 35 => ⟨S4x8x2048, .f32⟩
  | 36 => ⟨S4x8x2048x1, .f32⟩
  | 37 => ⟨S4x8x2048x2048, .f32⟩
  | 38 => ⟨S4x8x2048x2048, .i1⟩
  | 39 => ⟨S4x8x2048x2048, .f32⟩
  | 40 => ⟨S_, .f32⟩
  | 41 => ⟨S4x8x2048, .f32⟩
  | 42 => ⟨S_, .f32⟩
  | 43 => ⟨S4x8x2048, .f32⟩
  | 44 => ⟨S4x8x2048, .f32⟩
  | 45 => ⟨S_, .f32⟩
  | 46 => ⟨S4x8x2048, .f32⟩
  | 47 => ⟨S4x8x2048, .i1⟩
  | 48 => ⟨S_, .f32⟩
  | 49 => ⟨S4x8x2048, .f32⟩
  | 50 => ⟨S4x8x2048, .i1⟩
  | 51 => ⟨S_, .f32⟩
  | 52 => ⟨S4x8x2048, .f32⟩
  | 53 => ⟨S_, .f32⟩
  | 54 => ⟨S4x8x2048, .f32⟩
  | 55 => ⟨S_, .f32⟩
  | 56 => ⟨S4x8x2048, .f32⟩
  | 57 => ⟨S4x8x2048, .f32⟩
  | 58 => ⟨S4x8x2048, .f32⟩
  | 59 => ⟨S4x8x2048x1, .f32⟩
  | 60 => ⟨S4x8x2048x2048, .f32⟩
  | 61 => ⟨S4x8x2048x2048, .f32⟩
  | 62 => ⟨S4x8x2048x2048, .f32⟩
  | 63 => ⟨S_, .f32⟩
  | 64 => ⟨S4x8x2048, .f32⟩
  | 65 => ⟨S4x8x2048x1, .f32⟩
  | 66 => ⟨S4x8x2048x2048, .f32⟩
  | 67 => ⟨S4x8x2048x2048, .f32⟩
  | 68 => ⟨S4x8x2048x1, .f32⟩
  | 69 => ⟨S_, .f32⟩
  | 70 => ⟨S4x8x2048x1, .f32⟩
  | 71 => ⟨S4x8x2048x1, .f32⟩
  | 72 => ⟨S4x2048x8x64, .f32⟩
  | 73 => ⟨S4x8x64x2048, .f32⟩
  | 74 => ⟨S4x2048x8x64, .f32⟩
  | 75 => ⟨S8192x512, .f32⟩
  | 76 => ⟨S8192x512, .bf16⟩
  | 77 => ⟨S8192x512, .f32⟩
  | 78 => ⟨S4x2048x8x64, .f32⟩
  | 79 => ⟨S4x8x64x2048, .f32⟩
  | 80 => ⟨S4x8x2048x2048, .f32⟩
  | 81 => ⟨S4x8x64x2048, .f32⟩
  | 82 => ⟨S4x2048x8x64, .f32⟩
  | 83 => ⟨S8192x512, .f32⟩
  | 84 => ⟨S4x8x2048x2048, .f32⟩
  | 85 => ⟨S4x8x2048x2048, .f32⟩
  | 86 => ⟨S4x8x2048x2048, .f32⟩
  | 87 => ⟨S_, .f32⟩
  | 88 => ⟨S4x8x2048, .f32⟩
  | 89 => ⟨S4x8x2048x1, .f32⟩
  | 90 => ⟨S4x8x2048x1, .f32⟩
  | 91 => ⟨S4x8x2048x2048, .f32⟩
  | 92 => ⟨S4x8x2048x2048, .f32⟩
  | 93 => ⟨S_, .f32⟩
  | 94 => ⟨S4x8x2048, .f32⟩
  | 95 => ⟨S4x8x2048x2048, .f32⟩
  | 96 => ⟨S4x8x2048x2048, .f32⟩
  | 97 => ⟨S4x8x2048x2048, .f32⟩
  | 98 => ⟨S_, .f32⟩
  | 99 => ⟨S4x8x2048x2048, .f32⟩
  | 100 => ⟨S4x8x2048x2048, .f32⟩
  | 101 => ⟨S_, .f32⟩
  | 102 => ⟨S4x8x2048, .f32⟩
  | 103 => ⟨S4x8x2048x1, .f32⟩
  | 104 => ⟨S4x8x2048x2048, .f32⟩
  | 105 => ⟨S_, .f32⟩
  | 106 => ⟨S4x8x2048, .f32⟩
  | 107 => ⟨S4x8x1x2048, .f32⟩
  | 108 => ⟨S_, .f32⟩
  | 109 => ⟨S4x8x2048, .f32⟩
  | 110 => ⟨S_, .f32⟩
  | 111 => ⟨S4x8x2048, .f32⟩
  | 112 => ⟨S4x8x2048, .f32⟩
  | 113 => ⟨S4x2048x8, .f32⟩
  | 114 => ⟨S_, .f32⟩
  | 115 => ⟨S4x8x2048x2048, .f32⟩
  | 116 => ⟨S4x8x2048x2048, .f32⟩
  | 117 => ⟨S4x8x2048x64, .f32⟩
  | 118 => ⟨S4x2048x8x64, .f32⟩
  | 119 => ⟨S4x8x2048x64, .f32⟩
  | 120 => ⟨S4x2048x8x64, .f32⟩
  | 121 => ⟨S8192x512, .f32⟩
  | 122 => ⟨S8192x512, .f32⟩
  | 123 => ⟨S8192x512, .bf16⟩
  | 124 => ⟨S8192x512, .bf16⟩
  | 125 => ⟨S8192x512, .bf16⟩
  | 126 => ⟨S4x2048x8x1, .f32⟩
  | 127 => ⟨S4x2048x8x64, .f32⟩
  | _ => ⟨S8192x3072, .bf16⟩

abbrev hbmTy0_1 (i : Nat) : BufTy := match i % 128 with
  | 0 => ⟨S8192x512, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_v23_1 : Ref sig .tc := ⟨.hbm, 29, rfl⟩
abbrev main_call0_v2 : Ref sig .tc := ⟨.hbm, 30, rfl⟩
abbrev main_v23_0 : Ref sig .tc := ⟨.hbm, 31, rfl⟩
abbrev main_call0_cst : Ref sig .tc := ⟨.hbm, 32, rfl⟩
abbrev main_v23_2 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Dact.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S512x1024 : Shape := ⟨2, ![512, 1024]⟩
abbrev S512x4096 : Shape := ⟨2, ![512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Wdown.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v15 : BitVec 1 := Scalar.cmpi .eq arg2 c1_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Wup.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WupRefIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wxo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WxoRefIdeal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wxq.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WxqRefIdeal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wkv.lean ====
abbrev S1024x1024 : Shape := ⟨2, ![1024, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .f32⟩
  | .hbm, ⟨3, _⟩ => ⟨S1024x2048, .bf16⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WkvRefIdeal.lean ====
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh3.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_22 : BitVec 32 := 0#32
  let v42 : BitVec 1 := Scalar.cmpi .ne v41 c0_i32_22
  v42

def k0_cond2 (i : grid0.Coords) : BitVec 1 :=
  let arg0 : BitVec 32 := BitVec.ofNat 32 (i 0).val
  let c0_i32_23 : BitVec 32 := 0#32
  let v43 : BitVec 1 := Scalar.cmpi .sgt arg0 c0_i32_23
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Dh3RefIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S8192x4096, .bf16⟩
  | .hbm, ⟨7, _⟩ => ⟨S8192x1024, .f32⟩
  | .hbm, ⟨8, _⟩ => ⟨S1024x1024, .f32⟩
  | .hbm, ⟨9, _⟩ => ⟨S1024x4096, .f32⟩
  | .hbm, ⟨10, _⟩ => ⟨S8192x4096, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Dh2.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_22 : BitVec 32 := 0#32
  let v42 : BitVec 1 := Scalar.cmpi .ne v41 c0_i32_22
  v42

def k0_cond2 (i : grid0.Coords) : BitVec 1 :=
  let arg0 : BitVec 32 := BitVec.ofNat 32 (i 0).val
  let c0_i32_23 : BitVec 32 := 0#32
  let v43 : BitVec 1 := Scalar.cmpi .sgt arg0 c0_i32_23
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Dh2RefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Dmem.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .bf16⟩
  | .hbm, ⟨3, _⟩ => ⟨S1024x2048, .f32⟩
  | .hbm, ⟨4, _⟩ => ⟨S1x1024, .f32⟩
  | .hbm, ⟨5, _⟩ => ⟨S1024x1024, .f32⟩
  | .hbm, ⟨6, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32_16 : BitVec 32 := 0#32
  let v36 : BitVec 1 := Scalar.cmpi .sgt arg0 c0_i32_16
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DmemRefIdeal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .bf16⟩
  | .hbm, ⟨3, _⟩ => ⟨S1024x2048, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1x1024, .f32⟩
  | .hbm, ⟨22, _⟩ => ⟨S1024x1024, .f32⟩
  | .hbm, ⟨23, _⟩ => ⟨S1024x1024, .f32⟩
  | .hbm, ⟨24, _⟩ => ⟨S1024x2048, .f32⟩
  | .hbm, ⟨25, _⟩ => ⟨S1024x2048, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S1024x1024, .f32⟩
  | .hbm, ⟨40, _⟩ => ⟨S1024x1024, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Dh1.lean ====
abbrev S8192x1024 : Shape := ⟨2, ![8192, 1024]⟩
abbrev S1024 : Shape := ⟨1, ![1024]⟩
abbrev S1024x3080 : Shape := ⟨2, ![1024, 3080]⟩
abbrev S8192x512 : Shape := ⟨2, ![8192, 512]⟩
abbrev S8192x128 : Shape := ⟨2, ![8192, 128]⟩
abbrev S_ : Shape := ⟨0, ![]⟩
abbrev S1024x3200 : Shape := ⟨2, ![1024, 3200]⟩
abbrev S1x1024 : Shape := ⟨2, ![1, 1024]⟩
abbrev S512x512 : Shape := ⟨2, ![512, 512]⟩
abbrev S512x128 : Shape := ⟨2, ![512, 128]⟩
abbrev S512x1024 : Shape := ⟨2, ![512, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x128, .bf16⟩
  | .hbm, ⟨11, _⟩ => ⟨S_, .i32⟩
  | .hbm, ⟨12, _⟩ => ⟨S_, .bf16⟩
  | .hbm, ⟨13, _⟩ => ⟨S1024x3200, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S1024x3200, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_41 : BitVec 32 := 0#32
  let v67 : BitVec 1 := Scalar.cmpi .ne v66 c0_i32_41
  v67

def k0_cond2 (i : grid0.Coords) : BitVec 1 :=
  let arg0 : BitVec 32 := BitVec.ofNat 32 (i 0).val
  let c0_i32_42 : BitVec 32 := 0#32
  let v68 : BitVec 1 := Scalar.cmpi .sgt arg0 c0_i32_42
  let v69 : BitVec 32 := Scalar.extui v68
  let c0_i32_43 : BitVec 32 := 0#32
  let v70 : BitVec 1 := Scalar.cmpi .ne v69 c0_i32_43
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x3200 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Dh1RefIdeal.lean ====
abbrev S8192x1024 : Shape := ⟨2, ![8192, 1024]⟩
abbrev S1024 : Shape := ⟨1, ![1024]⟩
abbrev S1024x3080 : Shape := ⟨2, ![1024, 3080]⟩
abbrev S8192x512 : Shape := ⟨2, ![8192, 512]⟩
abbrev S8192x128 : Shape := ⟨2, ![8192, 128]⟩
abbrev S8192x8 : Shape := ⟨2, ![8192, 8]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x128, .bf16⟩
  | .hbm, ⟨11, _⟩ => ⟨S8192x8, .bf16⟩
  | .hbm, ⟨12, _⟩ => ⟨S8192x3080, .bf16⟩
  | .hbm, ⟨13, _⟩ => ⟨S8192x3080, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1024x3080, .f32⟩
  | .hbm, ⟨35, _⟩ => ⟨S8192x3080, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== WinDil.lean ====
abbrev S8192x1024 : Shape := ⟨2, ![8192, 1024]⟩
abbrev S1024x1536 : Shape := ⟨2, ![1024, 1536]⟩
abbrev S8192x512 : Shape := ⟨2, ![8192, 512]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x1536, .bf16⟩
  | .local _ .vmem, ⟨9, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond7 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== WinDilRefIdeal.lean ====
abbrev S8192x1024 : Shape := ⟨2, ![8192, 1024]⟩
abbrev S1024x1536 : Shape := ⟨2, ![1024, 1536]⟩
abbrev S8192x512 : Shape := ⟨2, ![8192, 512]⟩
abbrev S8192x1536 : Shape := ⟨2, ![8192, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x1536, .bf16⟩
  | .hbm, ⟨6, _⟩ => ⟨S1024x1536, .f32⟩
  | .hbm, ⟨7, _⟩ => ⟨S8192x1024, .f32⟩
  | .hbm, ⟨8, _⟩ => ⟨S8192x1536, .f32⟩
  | .hbm, ⟨9, _⟩ => ⟨S8192x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== WinFox.lean ====
abbrev S8192x1024 : Shape := ⟨2, ![8192, 1024]⟩
abbrev S1024x1664 : Shape := ⟨2, ![1024, 1664]⟩
abbrev S8192x512 : Shape := ⟨2, ![8192, 512]⟩
abbrev S8192x128 : Shape := ⟨2, ![8192, 128]⟩
abbrev S2048x1024 : Shape := ⟨2, ![2048, 1024]⟩
abbrev S2048x512 : Shape := ⟨2, ![2048, 512]⟩
abbrev S2048x128 : Shape := ⟨2, ![2048, 128]⟩
abbrev S1024x512 : Shape := ⟨2, ![1024, 512]⟩
abbrev S1024x128 : Shape := ⟨2, ![1024, 128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1664, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x128, .bf16⟩
  | .hbm, ⟨6, _⟩ => ⟨S1024x1664, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S2048x128, .bf16⟩
  | .local _ .vmem, ⟨10, _⟩ => ⟨S1024x1664, .bf16⟩
  | .local _ .vmem, ⟨11, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond9 (i : grid0.Coords) : BitVec 1 :=
  let arg0 : BitVec 32 := BitVec.ofNat 32 (i 0).val
  let c3_i32 : BitVec 32 := 3#32
  let v33 : BitVec 1 := Scalar.cmpi .eq arg0 c3_i32
  let v34 : BitVec 32 := Scalar.extui v33
  let c0_i32_27 : BitVec 32 := 0#32
  let v35 : BitVec 1 := Scalar.cmpi .ne v34 c0_i32_27
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== WinFoxRefIdeal.lean ====
abbrev S8192x1024 : Shape := ⟨2, ![8192, 1024]⟩
abbrev S1024x1664 : Shape := ⟨2, ![1024, 1664]⟩
abbrev S8192x512 : Shape := ⟨2, ![8192, 512]⟩
abbrev S8192x128 : Shape := ⟨2, ![8192, 128]⟩
abbrev S8192x1664 : Shape := ⟨2, ![8192, 1664]⟩
abbrev S1664x1024 : Shape := ⟨2, ![1664, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1664, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x128, .bf16⟩
  | .hbm, ⟨6, _⟩ => ⟨S8192x1664, .bf16⟩
  | .hbm, ⟨7, _⟩ => ⟨S1024x1664, .f32⟩
  | .hbm, ⟨8, _⟩ => ⟨S8192x1024, .f32⟩
  | .hbm, ⟨9, _⟩ => ⟨S8192x1664, .f32⟩
  | .hbm, ⟨10, _⟩ => ⟨S8192x1664, .f32⟩
  | .hbm, ⟨11, _⟩ => ⟨S1664x1024, .f32⟩
  | .hbm, ⟨12, _⟩ => ⟨S1024x1664, .f32⟩
  | .hbm, ⟨13, _⟩ => ⟨S1024x1664, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Fxo.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FxoRefIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S8192x1024, .f32⟩
  | .hbm, ⟨6, _⟩ => ⟨S1024x1024, .f32⟩
  | .hbm, ⟨7, _⟩ => ⟨S1024x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Fout.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FoutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Fin.lean ====
abbrev S8192x1024 : Shape := ⟨2, ![8192, 1024]⟩
abbrev S1024 : Shape := ⟨1, ![1024]⟩
abbrev S1024x3080 : Shape := ⟨2, ![1024, 3080]⟩
abbrev S_ : Shape := ⟨0, ![]⟩
abbrev S1024x3200 : Shape := ⟨2, ![1024, 3200]⟩
abbrev S1024x3072 : Shape := ⟨2, ![1024, 3072]⟩
abbrev S1024x128 : Shape := ⟨2, ![1024, 128]⟩
abbrev S1x1024 : Shape := ⟨2, ![1, 1024]⟩
abbrev S8192x3072 : Shape := ⟨2, ![8192, 3072]⟩
abbrev S8192x128 : Shape := ⟨2, ![8192, 128]⟩
abbrev S512x1024 : Shape := ⟨2, ![512, 1024]⟩
abbrev S512x3072 : Shape := ⟨2, ![512, 3072]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S1024x3080, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S1024x3072, .bf16⟩
  | .hbm, ⟨7, _⟩ => ⟨S1024x128, .bf16⟩
  | .hbm, ⟨8, _⟩ => ⟨S1x1024, .f32⟩
  | .hbm, ⟨9, _⟩ => ⟨S8192x3072, .bf16⟩
  | .hbm, ⟨10, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S512x3072, .bf16⟩
  | .local _ .vmem, ⟨6, _⟩ => ⟨S512x3072, .bf16⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FinRefIdeal.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S8192x3072 : Shape := ⟨2, ![8192, 3072]⟩
abbrev S8192x8 : Shape := ⟨2, ![8192, 8]⟩
abbrev S_ : Shape := ⟨0, ![]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024, .f32⟩
  | .hbm, ⟨2, _⟩ => ⟨S1024x3080, .bf16⟩
  | .hbm, ⟨3, _⟩ => ⟨S8192x1024, .f32⟩
  | .hbm, ⟨4, _⟩ => ⟨S1024x3080, .f32⟩
  | .hbm, ⟨5, _⟩ => ⟨S8192x3080, .f32⟩
  | .hbm, ⟨6, _⟩ => ⟨S8192x3072, .f32⟩
  | .hbm, ⟨7, _⟩ => ⟨S8192x3072, .bf16⟩
  | .hbm, ⟨8, _⟩ => ⟨S8192x8, .f32⟩
  | .hbm, ⟨9, _⟩ => ⟨S_, .i32⟩
  | .hbm, ⟨10, _⟩ => ⟨S_, .f32⟩
  | .hbm, ⟨11, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Fdown.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_24 : BitVec 32 := 0#32
  let v57 : BitVec 1 := Scalar.cmpi .ne v56 c0_i32_24
  v57

def k0_cond2 (i : grid0.Coords) : BitVec 1 :=
  let arg0 : BitVec 32 := BitVec.ofNat 32 (i 0).val
  let c0_i32_25 : BitVec 32 := 0#32
  let v58 : BitVec 1 := Scalar.cmpi .sgt arg0 c0_i32_25
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FdownRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .f32⟩
  | .hbm, ⟨6, _⟩ => ⟨S4096x1024, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S1x1024, .f32⟩
  | .hbm, ⟨80, _⟩ => ⟨S8x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Fxattn.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FxattnRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S1024x1024 : Shape := ⟨2, ![1024, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S4x2048x4x256, .f32⟩
  | .hbm, ⟨5, _⟩ => ⟨S1024x1024, .f32⟩
  | .hbm, ⟨6, _⟩ => ⟨S1024x1024, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Fox.Coe.lean ====
/-
  Real numbers inside the extended reals: finite sums, quotients and products.
-/
module

public import Idealize.ShloMosaic.PureOps.Ideal
public import Mathlib.Data.EReal.Operations
public import Mathlib.Algebra.BigOperators.Group.Finset.Basic

@[expose] public section

namespace Cert.Fox

open Idealize.ShloMosaic
open scoped BigOperators

/-- A finite sum of real numbers, taken in the extended reals. -/
theorem coe_sum {ι : Type*} (f : ι → ℝ) (A : Finset ι) : ((∑ i ∈ A, f i : ℝ) : EReal) = ∑ i ∈ A, ((f i : ℝ) : EReal) := by
  classical
  induction A using Finset.induction_on with
  | empty => simp
  | insert a A ha ih => rw [Finset.sum_insert ha, Finset.sum_insert ha, EReal.coe_add, ih]

/-- A sum all of whose terms are real numbers is one. -/
theorem sum_eq_coe {ι : Type*} {A : Finset ι} {F : ι → EReal} {f : ι → ℝ} (h : ∀ i ∈ A, F i = ((f i : ℝ) : EReal)) :
    ∑ i ∈ A, F i = ((∑ i ∈ A, f i : ℝ) : EReal) :=
  (Finset.sum_congr rfl h).trans (coe_sum f A).symm

/-- The same over the numbers below `n`. -/
theorem sum_fin_eq_coe {n : ℕ} {F : Fin n → EReal} {f : ℕ → ℝ} (h : ∀ i : Fin n, F i = ((f i.val : ℝ) : EReal)) :
    ∑ i : Fin n, F i = ((∑ i ∈ Finset.range n, f i : ℝ) : EReal) := by
  rw [← Fin.sum_univ_eq_sum_range]
  exact sum_eq_coe fun i _ => h i

/-- The quotient of two real numbers. -/
theorem div_coe_coe (x : ℝ) {y : ℝ} (h : y ≠ 0) : Ideal.div ((x : ℝ) : EReal) ((y : ℝ) : EReal) = ((x / y : ℝ) : EReal) := by
  rw [Ideal.div_coe h, ← EReal.coe_mul, div_eq_mul_one_div x y]

/-- The 32-bit pattern of an eighth. -/
theorem eighth_f32 : Ideal.ofBits .f32 0x3E000000#32 = ((1 / 8 : ℝ) : EReal) := by
  simp [Ideal.ofBits, Ideal.ieee, -EReal.coe_mul]; norm_num

/-- The 16-bit pattern of an eighth. -/
theorem eighth_bf16 : Ideal.ofBits .bf16 0x3E00#16 = ((1 / 8 : ℝ) : EReal) := by
  simp [Ideal.ofBits, Ideal.ieee, -EReal.coe_mul]; norm_num

end Cert.Fox
-- ==== Proof.Fox.Head.lean ====
/-
  The gradients of one attention head over real numbers: the form the kernel computes, the form the differentiated
  reference computes, and that the two agree when the row normalisers are the softmax's own.
-/
module

public import Mathlib.Analysis.SpecialFunctions.Log.Basic
public import Mathlib.Algebra.BigOperators.Ring.Finset
public import Mathlib.Tactic.Ring
public import Mathlib.Tactic.FieldSimp
public import Mathlib.Tactic.LinearCombination

@[expose] public section

noncomputable section

namespace Cert.Fox

open scoped BigOperators

/-- One head: its queries, keys, values and output gradients by row and lane, and its cumulated log gates. -/
structure Head where
  (q k v g : ℕ → ℕ → ℝ)
  c : ℕ → ℝ

namespace Head

variable (h : Head)

/-- The gradient of the weight of key `s` for query `t`. -/
def dpt (s t : ℕ) : ℝ := ∑ d ∈ Finset.range 64, h.v s d * h.g t d

/-! ### The kernel's form, from given row normalisers -/

section Kernel

variable (lse : ℕ → ℝ)

/-- The normalised weight. -/
def pt (s t : ℕ) : ℝ :=
  if s ≤ t then Real.exp ((∑ d ∈ Finset.range 64, h.k s d * (h.q t d * (1 / 8))) + (h.c t - lse t) - h.c s) else 0

/-- The weighted mean of the weights' gradients. -/
def mean (t : ℕ) : ℝ := (∑ s ∈ Finset.range 2048, h.pt lse s t * h.dpt s t) / ∑ s ∈ Finset.range 2048, h.pt lse s t

/-- The gradient of the score. -/
def dst (s t : ℕ) : ℝ := h.pt lse s t * (h.dpt s t - h.mean lse t)

def dq (t d : ℕ) : ℝ := (∑ s ∈ Finset.range 2048, h.dst lse s t * h.k s d) * (1 / 8)
def dk (s d : ℕ) : ℝ := ∑ t ∈ Finset.range 2048, h.dst lse s t * h.q t d * (1 / 8)
def dv (s d : ℕ) : ℝ := ∑ t ∈ Finset.range 2048, h.pt lse s t * h.g t d
def dc (s : ℕ) : ℝ := ∑ t ∈ Finset.range 2048, -h.dst lse s t

end Kernel

/-! ### The reference's form -/

/-- The score of query `t` against key `s`. -/
def score (t s : ℕ) : ℝ := (∑ d ∈ Finset.range 64, h.q t d * h.k s d) * (1 / 8) + (h.c t - h.c s)

section Reference

variable (m : ℕ → ℝ)

/-- The weight before normalisation, the row's shift `m` taken off the score. -/
def E (t s : ℕ) : ℝ := if s ≤ t then Real.exp (h.score t s - m t) else 0

/-- The row's normaliser. -/
def Z (t : ℕ) : ℝ := ∑ s ∈ Finset.range 2048, h.E m t s

/-- The row's normaliser as the kernel is handed it. -/
def lse (t : ℕ) : ℝ := m t + Real.log (h.Z m t)

/-- The pull-back of the quotient's denominator. -/
def u (t : ℕ) : ℝ := ∑ s ∈ Finset.range 2048, h.dpt s t * (1 / (h.Z m t * h.Z m t)) * h.E m t s

/-- The gradient of the score. -/
def G (t s : ℕ) : ℝ := if s ≤ t then (h.dpt s t / h.Z m t + -h.u m t) * h.E m t s else 0

def rdq (t d : ℕ) : ℝ := ∑ s ∈ Finset.range 2048, h.G m t s * (1 / 8) * h.k s d
def rdk (s d : ℕ) : ℝ := ∑ t ∈ Finset.range 2048, h.G m t s * (1 / 8) * h.q t d
def rdv (s d : ℕ) : ℝ := ∑ t ∈ Finset.range 2048, h.g t d * (h.E m t s / h.Z m t)
def rdc (s : ℕ) : ℝ := (∑ t ∈ Finset.range 2048, -h.G m t s) + ∑ j ∈ Finset.range 2048, h.G m s j

theorem E_nonneg (t s : ℕ) : 0 ≤ h.E m t s := by
  unfold E
  split
  · exact (Real.exp_pos _).le
  · exact le_rfl

theorem Z_pos {t : ℕ} (ht : t < 2048) : 0 < h.Z m t := by
  refine Finset.sum_pos' (fun s _ => h.E_nonneg m t s) ⟨t, Finset.mem_range.mpr ht, ?_⟩
  rw [E, if_pos le_rfl]
  exact Real.exp_pos _

/-! ### The two agree -/

theorem pt_eq {t : ℕ} (ht : t < 2048) (s : ℕ) : h.pt (h.lse m) s t = h.E m t s / h.Z m t := by
  unfold pt E
  by_cases hs : s ≤ t
  · rw [if_pos hs, if_pos hs]
    have hZ := h.Z_pos m ht
    have hd : (∑ d ∈ Finset.range 64, h.k s d * (h.q t d * (1 / 8))) = (∑ d ∈ Finset.range 64, h.q t d * h.k s d) * (1 / 8) := by
      rw [Finset.sum_mul]
      exact Finset.sum_congr rfl fun d _ => by ring
    rw [hd, show ∀ x : ℝ, x + (h.c t - h.lse m t) - h.c s = (x + (h.c t - h.c s) - m t) - Real.log (h.Z m t) from
      fun x => by unfold lse; ring, Real.exp_sub, Real.exp_log hZ]
    rfl
  · rw [if_neg hs, if_neg hs, zero_div]

theorem sum_pt {t : ℕ} (ht : t < 2048) : ∑ s ∈ Finset.range 2048, h.pt (h.lse m) s t = 1 := by
  rw [Finset.sum_congr rfl fun s _ => (h.pt_eq m ht s).trans (div_eq_mul_inv _ _), ← Finset.sum_mul]
  exact mul_inv_cancel₀ (h.Z_pos m ht).ne'

theorem mean_eq {t : ℕ} (ht : t < 2048) : h.mean (h.lse m) t = h.u m t * h.Z m t := by
  have hZ := (h.Z_pos m ht).ne'
  unfold mean u
  rw [h.sum_pt m ht, div_one, Finset.sum_mul]
  refine Finset.sum_congr rfl fun s _ => ?_
  rw [h.pt_eq m ht]
  field_simp

theorem dst_eq {t : ℕ} (ht : t < 2048) (s : ℕ) : h.dst (h.lse m) s t = h.G m t s := by
  have hZ := (h.Z_pos m ht).ne'
  unfold dst G
  rw [h.pt_eq m ht, h.mean_eq m ht]
  by_cases hs : s ≤ t
  · rw [if_pos hs]
    field_simp
    ring
  · rw [if_neg hs, E, if_neg hs, zero_div, zero_mul]

/-- The score's gradients over one query row add up to nothing. -/
theorem sum_dst {t : ℕ} (ht : t < 2048) : ∑ s ∈ Finset.range 2048, h.dst (h.lse m) s t = 0 := by
  have h1 := h.sum_pt m ht
  unfold dst
  simp only [mul_sub]
  rw [Finset.sum_sub_distrib, ← Finset.sum_mul, h1, one_mul]
  unfold mean
  rw [h1, div_one, sub_self]

theorem dq_eq {t : ℕ} (ht : t < 2048) (d : ℕ) : h.dq (h.lse m) t d = h.rdq m t d := by
  unfold dq rdq
  rw [Finset.sum_mul]
  exact Finset.sum_congr rfl fun s _ => by rw [h.dst_eq m ht]; ring

theorem dk_eq (s d : ℕ) : h.dk (h.lse m) s d = h.rdk m s d :=
  Finset.sum_congr rfl fun t ht => by rw [h.dst_eq m (Finset.mem_range.mp ht)]; ring

theorem dv_eq (s d : ℕ) : h.dv (h.lse m) s d = h.rdv m s d :=
  Finset.sum_congr rfl fun t ht => by rw [h.pt_eq m (Finset.mem_range.mp ht)]; ring

theorem dc_eq {s : ℕ} (hs : s < 2048) : h.dc (h.lse m) s = h.rdc m s := by
  unfold dc rdc
  rw [← Finset.sum_congr rfl fun j _ => h.dst_eq m hs j, h.sum_dst m hs, add_zero]
  exact Finset.sum_congr rfl fun t ht => by rw [h.dst_eq m (Finset.mem_range.mp ht)]

end Reference

end Head

end Cert.Fox

end
-- ==== Proof.Fox.Args.lean ====
/-
  The arguments as real numbers: a precondition that every element is below infinity in size makes each array real,
  and the arrays' real numbers give the heads.
-/
module

public import proofs.«01_k».proof.Pre_finite
public import proofs.«01_k».proof.Proof.Fox.Coe
public import proofs.«01_k».proof.Proof.Fox.Head
public import Idealize.ShloMosaic.Lib.Pipeline.ValueKit

@[expose] public section

set_option maxRecDepth 16384

noncomputable section

namespace Cert.Fox

open Idealize.ShloMosaic Cert.Pre_finite
open scoped BigOperators

/-- The side conditions the precondition states. -/
theorem preFacts : Cert.Pre_finite.Facts where
  bitsLt_bf16_f32 := by decide
  bcast_S_S8192x3072 := by decide
  bcast_S_S4x2048x8 := by decide
  bcast_S_S8192x1024 := by decide

theorem inf_f32 : Ideal.ofBits .f32 0x7F800000#32 = ⊤ := by
  simp [Ideal.ofBits, Ideal.ieee]

theorem neg_inf_f32 : Ideal.ofBits .f32 0xFF800000#32 = ⊥ := by
  simp [Ideal.ofBits, Ideal.ieee]

/-- An extended real smaller than infinity in size is a real number. -/
theorem coe_toReal_of_size {x : EReal} (h : max x (-x) < ⊤) : x = ((x.toReal : ℝ) : EReal) := by
  refine (EReal.coe_toReal ?_ ?_).symm
  · rintro rfl; simp at h
  · rintro rfl; simp at h

/-- The real numbers an array of two axes holds, by row and column. -/
def real2 {n k : ℕ} (x : Shape.Idx ⟨2, ![n, k]⟩ → EReal) (r c : ℕ) : ℝ :=
  if h : r < n ∧ c < k then (x (fun a => match a with | ⟨0, _⟩ => ⟨r, h.1⟩ | ⟨1, _⟩ => ⟨c, h.2⟩)).toReal else 0

theorem real2_eq {n k : ℕ} {x : Shape.Idx ⟨2, ![n, k]⟩ → EReal} (h : ∀ i, max (x i) (-(x i)) < ⊤) (i : Shape.Idx ⟨2, ![n, k]⟩) :
    x i = ((real2 x (i 0).val (i 1).val : ℝ) : EReal) := by
  unfold real2
  rw [dif_pos ⟨(i 0).isLt, (i 1).isLt⟩]
  refine (coe_toReal_of_size (h i)).trans ?_
  congr 2
  refine congrArg x (funext fun a => ?_)
  match a with
  | ⟨0, _⟩ => rfl
  | ⟨1, _⟩ => rfl

/-- The real numbers an array of three axes holds. -/
def real3 {n k l : ℕ} (x : Shape.Idx ⟨3, ![n, k, l]⟩ → EReal) (r c d : ℕ) : ℝ :=
  if h : r < n ∧ c < k ∧ d < l then
    (x (fun a => match a with | ⟨0, _⟩ => ⟨r, h.1⟩ | ⟨1, _⟩ => ⟨c, h.2.1⟩ | ⟨2, _⟩ => ⟨d, h.2.2⟩)).toReal else 0

theorem real3_eq {n k l : ℕ} {x : Shape.Idx ⟨3, ![n, k, l]⟩ → EReal} (h : ∀ i, max (x i) (-(x i)) < ⊤)
    (i : Shape.Idx ⟨3, ![n, k, l]⟩) : x i = ((real3 x (i 0).val (i 1).val (i 2).val : ℝ) : EReal) := by
  unfold real3
  rw [dif_pos ⟨(i 0).isLt, (i 1).isLt, (i 2).isLt⟩]
  refine (coe_toReal_of_size (h i)).trans ?_
  congr 2
  refine congrArg x (funext fun a => ?_)
  match a with
  | ⟨0, _⟩ => rfl
  | ⟨1, _⟩ => rfl
  | ⟨2, _⟩ => rfl

/-- The three arguments' real numbers. -/
structure Nums where
  (z : ℕ → ℕ → ℝ)
  (c : ℕ → ℕ → ℕ → ℝ)
  (y : ℕ → ℕ → ℝ)

/-- Three arrays hold the numbers `N`. -/
structure Hold (x0 : S8192x3072.Idx → EReal) (x1 : S4x2048x8.Idx → EReal) (x2 : S8192x1024.Idx → EReal) (N : Nums) : Prop where
  z : ∀ i, x0 i = ((N.z (i 0).val (i 1).val : ℝ) : EReal)
  c : ∀ i, x1 i = ((N.c (i 0).val (i 1).val (i 2).val : ℝ) : EReal)
  y : ∀ i, x2 i = ((N.y (i 0).val (i 1).val : ℝ) : EReal)

/-- Head `h` of batch `b`. -/
def Nums.head (N : Nums) (b h : ℕ) : Head where
  q t d := N.z (2048 * b + t) (1536 + (64 * h + d))
  k t d := N.z (2048 * b + t) (2048 + (64 * h + d))
  v t d := N.z (2048 * b + t) (2560 + (64 * h + d))
  g t d := N.y (2048 * b + t) (512 + (64 * h + d))
  c t := N.c b t h

/-- Under the precondition the arguments hold real numbers. -/
theorem hold_of_pre (x0 : S8192x3072.Idx → EReal) (x1 : S4x2048x8.Idx → EReal) (x2 : S8192x1024.Idx → EReal)
    (h0 : (@Cert.Pre_finite.fn preFacts Ideal _ x0 x1 x2).1 = fun _ => 1#1)
    (h1 : (@Cert.Pre_finite.fn preFacts Ideal _ x0 x1 x2).2.1 = fun _ => 1#1)
    (h2 : (@Cert.Pre_finite.fn preFacts Ideal _ x0 x1 x2).2.2 = fun _ => 1#1) :
    Hold x0 x1 x2 ⟨real2 x0, real3 x1, real2 x2⟩ := by
  have key : ∀ x : EReal, Ideal.cmp .olt (max x (-x)) (Ideal.ofBits .f32 0x7F800000#32) = 1#1 → max x (-x) < ⊤ := by
    intro x h
    rw [inf_f32] at h
    by_contra hc
    replace h : BitVec.ofBool (decide (max x (-x) < ⊤)) = 1#1 := h
    rw [decide_eq_false hc] at h
    exact absurd h (by decide)
  exact ⟨real2_eq fun i => key _ (congrFun h0 i), real3_eq fun i => key _ (congrFun h1 i), real2_eq fun i => key _ (congrFun h2 i)⟩

/-- The greatest of a row, when no element is `⊤` and one is a real number. -/
theorem fold_max_real {n : ℕ} (f : Fin n → EReal) (h : ∀ k, f k ≠ ⊤) (k0 : Fin n) (h0 : f k0 ≠ ⊥) :
    Finset.univ.fold max ⊥ f = (((Finset.univ.fold max ⊥ f).toReal : ℝ) : EReal) := by
  refine (EReal.coe_toReal ?_ ?_).symm
  · refine ne_of_lt ((Finset.fold_max_lt (s := Finset.univ) (b := (⊥ : EReal)) (f := f) ⊤).mpr ⟨bot_lt_top, fun k _ => lt_top_iff_ne_top.mpr (h k)⟩)
  · have : f k0 ≤ Finset.univ.fold max ⊥ f := (Finset.le_fold_max (s := Finset.univ) (b := (⊥ : EReal)) (f := f) (f k0)).mpr (Or.inr ⟨k0, Finset.mem_univ _, le_rfl⟩)
    intro hc
    rw [hc] at this
    exact h0 (le_bot_iff.mp this)

/-- The logarithm of a positive real number. -/
theorem log_coe_pos {x : ℝ} (h : 0 < x) : Ideal.log ((x : ℝ) : EReal) = ((Real.log x : ℝ) : EReal) := by
  rw [Ideal.log_coe, if_neg (not_le.mpr h)]

/-- The reduction of the last of four axes by the maximum. -/
theorem reduce_max (y : FVec Ideal ⟨4, ![4, 8, 2048, 2048]⟩ .f32) (v : FVec Ideal ⟨0, ![]⟩ .f32)
    (h : (⟨4, ![4, 8, 2048, 2048]⟩ : Shape).ReducesTo [3] ⟨3, ![4, 8, 2048]⟩) (hu : 0 < (⟨0, ![]⟩ : Shape).numel)
    (i : Shape.Idx ⟨3, ![4, 8, 2048]⟩) (f : Fin 2048 → EReal)
    (hv : v (Shape.Idx.first hu) = (⊥ : EReal)) (hf : ∀ k : Fin 2048, y (ix4 (i 0) (i 1) (i 2) k) = f k) :
    Host.reduce (FloatOps.maximumf (F := Ideal)) y v h hu i = Finset.univ.fold max ⊥ f := by
  idx_vars i
  pointwise
  rw [hv, show (fun x => y (ix4 i0 i1 i2 x)) = f from funext hf]

/-- A query's scores, the keys after it at minus infinity. -/
def Head.row (h : Head) (t : ℕ) (s : Fin 2048) : EReal := if s.val ≤ t then ((h.score t s.val : ℝ) : EReal) else ⊥

/-- The greatest of a query's scores. -/
def Head.top (h : Head) (t : ℕ) : ℝ := (Finset.univ.fold max ⊥ (h.row t)).toReal

theorem Head.top_eq (h : Head) {t : ℕ} (ht : t < 2048) : Finset.univ.fold max ⊥ (h.row t) = ((h.top t : ℝ) : EReal) := by
  refine fold_max_real _ (fun k => ?_) ⟨t, ht⟩ ?_
  · unfold row; split
    · exact EReal.coe_ne_top _
    · exact bot_ne_top
  · unfold row
    rw [if_pos le_rfl]
    exact EReal.coe_ne_bot _

/-- The exponential of a masked score less a number. -/
theorem Head.exp_row (h : Head) (m : ℕ → ℝ) (t : ℕ) (s : Fin 2048) :
    Ideal.exp (h.row t s - ((m t : ℝ) : EReal)) = ((h.E m t s.val : ℝ) : EReal) := by
  unfold row E
  split
  · rw [← EReal.coe_sub]; rfl
  · rw [EReal.bot_sub]; rfl

namespace Nums

variable (N : Nums) (b h : ℕ)

/-- The reference's quantities for one head, each row less its own greatest score. -/
def m : ℕ → ℝ := (N.head b h).top
def u (t : ℕ) : ℝ := (N.head b h).u (N.m b h) t
def dq (t d : ℕ) : ℝ := (N.head b h).rdq (N.m b h) t d
def dk (s d : ℕ) : ℝ := (N.head b h).rdk (N.m b h) s d
def dv (s d : ℕ) : ℝ := (N.head b h).rdv (N.m b h) s d
def dc (s : ℕ) : ℝ := (N.head b h).rdc (N.m b h) s
def rowG (t : ℕ) : ℝ := ∑ s ∈ Finset.range 2048, (N.head b h).G (N.m b h) t s
def colG (s : ℕ) : ℝ := ∑ t ∈ Finset.range 2048, -(N.head b h).G (N.m b h) t s
/-- The rows' normalisers: the logarithm of the sum of the exponentials. -/
def lse (t : ℕ) : ℝ := (N.head b h).lse (N.m b h) t

end Nums

end Cert.Fox

end
-- ==== Proof.Fox.Ref.lean ====
/-
  The reference's results read at an element, when the arguments hold real numbers: each is the differentiated
  form of one head's gradient.
-/
module

public import proofs.«01_k».proof.Proof.Gen.ReferenceIdeal.Read
public import Idealize.ShloMosaic.Lib.WordCmp
public import proofs.«01_k».proof.Proof.Fox.Args

@[expose] public section

set_option maxRecDepth 16384

noncomputable section

namespace Cert.ReferenceIdeal.Fox

open Cert.ReferenceIdeal Cert.ReferenceIdeal.Gen Cert.ReferenceIdeal.Read Idealize.ShloMosaic
open Cert.Fox
open scoped BigOperators

variable {x0 : (⟨S8192x3072, .bf16⟩ : BufTy).Contents (Elt Ideal)} {x1 : (⟨S4x2048x8, .f32⟩ : BufTy).Contents (Elt Ideal)}
  {x2 : (⟨S8192x1024, .bf16⟩ : BufTy).Contents (Elt Ideal)} {N : Nums}

/-- Row and lane of the reshape of the heads' lanes. -/
theorem split_lane {a b c d : ℕ} (hb : b < 2048) (hc : c < 8) (hd : d < 64) :
    (((a * 2048 + b) * 8 + c) * 64 + d) / 512 = 2048 * a + b ∧ (((a * 2048 + b) * 8 + c) * 64 + d) % 512 = 64 * c + d := by
  omega

/-- Batch, position, head and lane of a result's element. -/
theorem join_lane {r l : ℕ} (hl : l < 512) :
    (r * 512 + l) / 1048576 = r / 2048 ∧ (r * 512 + l) / 512 % 2048 = r % 2048 ∧ (r * 512 + l) / 64 % 8 = l / 64
      ∧ (r * 512 + l) % 64 = l % 64 := by
  omega

section
variable (H : Hold x0 x1 x2 N)
include H

theorem v4 (i : S4x2048x8x64.Idx) : val_main_v4 (F := Ideal) x0 i = (((N.head (i 0).val (i 2).val).q (i 1).val (i 3).val : ℝ) : EReal) := by
  rw [val_main_v4_apply, val_main_v1_apply, val_main_v0_apply]
  refine (H.z _).trans ?_
  obtain ⟨h1, h2⟩ := split_lane (a := (i 0).val) (i 1).isLt (i 2).isLt (i 3).isLt
  show ((N.z (((((i 0).val * 2048 + (i 1).val) * 8 + (i 2).val) * 64 + (i 3).val) / 512)
    (1536 + ((((i 0).val * 2048 + (i 1).val) * 8 + (i 2).val) * 64 + (i 3).val) % 512) : ℝ) : EReal) = _
  rw [h1, h2]; rfl

theorem v5 (i : S4x2048x8x64.Idx) : val_main_v5 (F := Ideal) x0 i = (((N.head (i 0).val (i 2).val).k (i 1).val (i 3).val : ℝ) : EReal) := by
  rw [val_main_v5_apply, val_main_v2_apply, val_main_v0_apply]
  refine (H.z _).trans ?_
  obtain ⟨h1, h2⟩ := split_lane (a := (i 0).val) (i 1).isLt (i 2).isLt (i 3).isLt
  show ((N.z (((((i 0).val * 2048 + (i 1).val) * 8 + (i 2).val) * 64 + (i 3).val) / 512)
    (2048 + ((((i 0).val * 2048 + (i 1).val) * 8 + (i 2).val) * 64 + (i 3).val) % 512) : ℝ) : EReal) = _
  rw [h1, h2]; rfl

theorem v52 (i : S4x2048x8x64.Idx) : val_main_v52 (F := Ideal) x0 i = (((N.head (i 0).val (i 2).val).v (i 1).val (i 3).val : ℝ) : EReal) := by
  rw [val_main_v52_apply, val_main_v3_apply, val_main_v0_apply]
  refine (H.z _).trans ?_
  obtain ⟨h1, h2⟩ := split_lane (a := (i 0).val) (i 1).isLt (i 2).isLt (i 3).isLt
  show ((N.z (((((i 0).val * 2048 + (i 1).val) * 8 + (i 2).val) * 64 + (i 3).val) / 512)
    (2560 + ((((i 0).val * 2048 + (i 1).val) * 8 + (i 2).val) * 64 + (i 3).val) % 512) : ℝ) : EReal) = _
  rw [h1, h2]; rfl

theorem v58 (i : S4x2048x8x64.Idx) : val_main_v58 (F := Ideal) x2 i = (((N.head (i 0).val (i 2).val).g (i 1).val (i 3).val : ℝ) : EReal) := by
  rw [val_main_v58_apply, val_main_v57_apply, val_main_v56_apply]
  refine (H.y _).trans ?_
  obtain ⟨h1, h2⟩ := split_lane (a := (i 0).val) (i 1).isLt (i 2).isLt (i 3).isLt
  show ((N.y (((((i 0).val * 2048 + (i 1).val) * 8 + (i 2).val) * 64 + (i 3).val) / 512)
    (512 + ((((i 0).val * 2048 + (i 1).val) * 8 + (i 2).val) * 64 + (i 3).val) % 512) : ℝ) : EReal) = _
  rw [h1, h2]; rfl

/-- The gradient of the output, by batch, head, lane and position. -/
theorem v59 (i : S4x8x64x2048.Idx) : val_main_v59 (F := Ideal) x2 i = (((N.head (i 0).val (i 1).val).g (i 3).val (i 2).val : ℝ) : EReal) := by
  rw [val_main_v59_apply]; exact v58 H _

/-- The scores. -/
theorem v15 (i : S4x8x2048x2048.Idx) :
    val_main_v15 (F := Ideal) x0 x1 i = (((N.head (i 0).val (i 1).val).score (i 2).val (i 3).val : ℝ) : EReal) := by
  rw [val_main_v15_apply, val_main_v8_apply, val_main_v14_apply, val_main_v7_apply, val_main_cst_apply, val_main_v12_apply, val_main_v13_apply,
    val_main_v10_apply, val_main_v11_apply, val_main_v9_apply, val_main_v9_apply, val_main_v6_apply,
    sum_fin_eq_coe (f := fun d => (N.head (i 0).val (i 1).val).q (i 2).val d * (N.head (i 0).val (i 1).val).k (i 3).val d) fun d => by
      rw [v4 H, v5 H, ← EReal.coe_mul]]
  show (_ : EReal) * Ideal.ofBits .f32 0x3E000000#32 + (x1 _ - x1 _) = _
  rw [eighth_f32, H.c, H.c, ← EReal.coe_mul, ← EReal.coe_sub, ← EReal.coe_add]
  rfl

omit H in
/-- The causal mask. -/
theorem v23_1 (i : S4x8x2048x2048.Idx) : val_main_v23_1 (F := Ideal) i = if (i 3).val ≤ (i 2).val then 1#1 else 0#1 := by
  rw [val_main_v23_1_apply, val_main_v22_apply, val_main_v21_apply, val_main_v19_apply, val_main_v20_apply, val_main_v17_apply, val_main_v18_apply,
    val_main_v16_apply, val_main_v16_apply]
  show IntOp.cmpi .sle (BitVec.ofNat 32 (i 3).val) (BitVec.ofNat 32 (i 2).val) = _
  have h3 : (i 3).val < 2048 := (i 3).isLt
  have h2 : (i 2).val < 2048 := (i 2).isLt
  have e3 : (BitVec.ofNat 32 (i 3).val).toNat = (i 3).val := by rw [BitVec.toNat_ofNat]; exact Nat.mod_eq_of_lt (by omega)
  have e2 : (BitVec.ofNat 32 (i 2).val).toNat = (i 2).val := by rw [BitVec.toNat_ofNat]; exact Nat.mod_eq_of_lt (by omega)
  rw [WordCmp.cmpi_sle_of_lt (by rw [e3]; omega) (by rw [e2]; omega), e3, e2]
  by_cases h : (i 3).val ≤ (i 2).val
  · rw [if_pos h, decide_eq_true h]; rfl
  · rw [if_neg h, decide_eq_false h]; rfl

/-- The masked scores. -/
theorem v23 (i : S4x8x2048x2048.Idx) :
    val_main_v23_0 (F := Ideal) x0 x1 i = (N.head (i 0).val (i 1).val).row (i 2).val ⟨(i 3).val, (i 3).isLt⟩ := by
  rw [val_main_v23_0_apply, v23_1, v15 H]
  unfold Head.row
  by_cases h : (i 3).val ≤ (i 2).val
  · rw [if_pos h, if_pos h]; rfl
  · rw [if_neg h, if_neg h, val_main_call0_v2_apply, val_main_call0_v0_apply, val_main_cst_0_apply]
    exact neg_inf_f32

/-- The greatest score of each query. -/
theorem v24 (i : S4x8x2048.Idx) : val_main_v24 (F := Ideal) x0 x1 i = (((N.head (i 0).val (i 1).val).top (i 2).val : ℝ) : EReal) := by
  unfold val_main_v24
  refine (reduce_max _ _ _ _ i ((N.head (i 0).val (i 1).val).row (i 2).val) neg_inf_f32 fun k => v23 H _).trans ?_
  exact Head.top_eq _ (i 2).isLt

theorem v31 (i : S4x8x2048.Idx) : val_main_v31 (F := Ideal) x0 x1 i = (((N.head (i 0).val (i 1).val).top (i 2).val : ℝ) : EReal) := by
  rw [val_main_v31_apply, val_main_v30_apply, val_main_cst_3_apply, v24 H]
  show max (Ideal.ofBits .f32 0xFF800000#32) _ = _
  rw [neg_inf_f32, max_eq_right bot_le]

/-- The exponentials. -/
theorem v44 (i : S4x8x2048x2048.Idx) :
    val_main_v44 (F := Ideal) x0 x1 i
      = (((N.head (i 0).val (i 1).val).E (N.head (i 0).val (i 1).val).top (i 2).val (i 3).val : ℝ) : EReal) := by
  rw [val_main_v44_apply, val_main_v43_apply, v23 H, val_main_v42_apply, val_main_v41_apply, v31 H]
  exact Head.exp_row _ _ _ _

/-- Their sums. -/
theorem v45 (i : S4x8x2048.Idx) :
    val_main_v45 (F := Ideal) x0 x1 i = (((N.head (i 0).val (i 1).val).Z (N.head (i 0).val (i 1).val).top (i 2).val : ℝ) : EReal) := by
  rw [val_main_v45_apply, sum_fin_eq_coe (f := fun s => (N.head (i 0).val (i 1).val).E (N.head (i 0).val (i 1).val).top (i 2).val s) fun s => v44 H (idx_main_v45 i s), val_main_cst_9_apply]
  show Ideal.ofBits .f32 0x00000000#32 + _ = _
  rw [Ideal.ofBits_zero_f32, zero_add]
  rfl

/-- The weights. -/
theorem v48 (i : S4x8x2048x2048.Idx) :
    val_main_v48 (F := Ideal) x0 x1 i
      = (((N.head (i 0).val (i 1).val).E (N.head (i 0).val (i 1).val).top (i 2).val (i 3).val
          / (N.head (i 0).val (i 1).val).Z (N.head (i 0).val (i 1).val).top (i 2).val : ℝ) : EReal) := by
  rw [val_main_v48_apply, v44 H, val_main_v47_apply, val_main_v46_apply, v45 H]
  exact div_coe_coe _ (Head.Z_pos _ _ (i 2).isLt).ne'

/-- One over the square of the sum. -/
theorem v51 (i : S4x8x2048x1.Idx) :
    val_main_v51 (F := Ideal) x0 x1 i
      = ((1 / ((N.head (i 0).val (i 1).val).Z (N.head (i 0).val (i 1).val).top (i 2).val
          * (N.head (i 0).val (i 1).val).Z (N.head (i 0).val (i 1).val).top (i 2).val) : ℝ) : EReal) := by
  rw [val_main_v51_apply, val_main_v50_apply, val_main_cst_10_apply, val_main_v49_apply, val_main_v46_apply, v45 H]
  show Ideal.div (Ideal.ofBits .f32 0x3F800000#32) (((_ : ℝ) : EReal) * ((_ : ℝ) : EReal)) = _
  rw [Ideal.ofBits_one_f32, ← EReal.coe_mul]
  exact div_coe_coe 1 (mul_pos (Head.Z_pos _ _ (i 2).isLt) (Head.Z_pos _ _ (i 2).isLt)).ne'

/-- The gradient of the weights. -/
theorem v60 (i : S4x8x2048x2048.Idx) :
    val_main_v60 (F := Ideal) x0 x2 i = (((N.head (i 0).val (i 1).val).dpt (i 3).val (i 2).val : ℝ) : EReal) := by
  rw [val_main_v60_apply, sum_fin_eq_coe (f := fun d => (N.head (i 0).val (i 1).val).v (i 3).val d * (N.head (i 0).val (i 1).val).g (i 2).val d) fun d => by
      rw [v59 H, v52 H, ← EReal.coe_mul, mul_comm]]
  rfl

/-- The sum the normaliser's gradient takes. -/
theorem v67 (i : S4x8x2048.Idx) :
    val_main_v67 (F := Ideal) x0 x1 x2 i = (((N.head (i 0).val (i 1).val).u (N.head (i 0).val (i 1).val).top (i 2).val : ℝ) : EReal) := by
  rw [val_main_v67_apply, val_main_cst_11_apply,
    sum_fin_eq_coe (f := fun s => (N.head (i 0).val (i 1).val).dpt s (i 2).val
      * (1 / ((N.head (i 0).val (i 1).val).Z (N.head (i 0).val (i 1).val).top (i 2).val
          * (N.head (i 0).val (i 1).val).Z (N.head (i 0).val (i 1).val).top (i 2).val))
      * (N.head (i 0).val (i 1).val).E (N.head (i 0).val (i 1).val).top (i 2).val s) fun s => by
      rw [val_main_v66_apply, val_main_v65_apply, v60 H, val_main_v64_apply, v51 H, v44 H]
      show ((_ : ℝ) : EReal) * ((_ : ℝ) : EReal) * ((_ : ℝ) : EReal) = _
      rw [← EReal.coe_mul, ← EReal.coe_mul]]
  show Ideal.ofBits .f32 0x00000000#32 + _ = _
  rw [Ideal.ofBits_zero_f32, zero_add]
  rfl

omit H in
/-- Batch, head and position of the reshape that adds a last axis of one. -/
theorem split_row {a b c d : ℕ} (hb : b < 8) (hc : c < 2048) (hd : d < 1) :
    (((a * 8 + b) * 2048 + c) * 1 + d) / 16384 = a ∧ (((a * 8 + b) * 2048 + c) * 1 + d) / 2048 % 8 = b
      ∧ (((a * 8 + b) * 2048 + c) * 1 + d) % 2048 = c := by
  omega

omit H in
/-- The same, the axis of one before the last. -/
theorem split_col {a b c d : ℕ} (hb : b < 8) (hc : c < 1) (hd : d < 2048) :
    (((a * 8 + b) * 1 + c) * 2048 + d) / 16384 = a ∧ (((a * 8 + b) * 1 + c) * 2048 + d) / 2048 % 8 = b
      ∧ (((a * 8 + b) * 1 + c) * 2048 + d) % 2048 = d := by
  omega

theorem v72 (i : S4x8x2048.Idx) :
    val_main_v72 (F := Ideal) x0 x1 x2 i = ((-N.u (i 0).val (i 1).val (i 2).val : ℝ) : EReal) := by
  rw [val_main_v72_apply, val_main_cst_12_apply, Fin.sum_univ_one, val_main_v69_apply, val_main_v68_apply, v67 H]
  obtain ⟨h1, h2, h3⟩ := split_row (a := (i 0).val) (d := 0) (i 1).isLt (i 2).isLt Nat.one_pos
  show Ideal.ofBits .f32 0x00000000#32 + -((N.u (((((i 0).val * 8 + (i 1).val) * 2048 + (i 2).val) * 1 + 0) / 16384)
    (((((i 0).val * 8 + (i 1).val) * 2048 + (i 2).val) * 1 + 0) / 2048 % 8)
    (((((i 0).val * 8 + (i 1).val) * 2048 + (i 2).val) * 1 + 0) % 2048) : ℝ) : EReal) = _
  rw [h1, h2, h3, Ideal.ofBits_zero_f32, zero_add, ← EReal.coe_neg]

/-- The gradient of the scores. -/
theorem v76 (i : S4x8x2048x2048.Idx) :
    val_main_v76 (F := Ideal) x0 x1 x2 i
      = (((N.head (i 0).val (i 1).val).G (N.head (i 0).val (i 1).val).top (i 2).val (i 3).val : ℝ) : EReal) := by
  rw [val_main_v76_apply, v23_1]
  unfold Head.G
  by_cases h : (i 3).val ≤ (i 2).val
  · rw [if_pos h, if_pos h]
    show val_main_v75 (F := Ideal) x0 x1 x2 i = _
    rw [val_main_v75_apply, val_main_v74_apply, val_main_v71_apply, val_main_v70_apply, val_main_v46_apply, val_main_v73_apply, v60 H, v45 H, v72 H, v44 H]
    show (Ideal.div ((_ : ℝ) : EReal) ((_ : ℝ) : EReal) + ((_ : ℝ) : EReal)) * ((_ : ℝ) : EReal) = _
    rw [div_coe_coe _ (Head.Z_pos _ _ (i 2).isLt).ne', ← EReal.coe_add, ← EReal.coe_mul]
    rfl
  · rw [if_neg h, if_neg h]
    show val_main_call1_v0 (F := Ideal) i = _
    rw [val_main_call1_v0_apply, val_main_call1_cst_apply]
    exact Ideal.ofBits_zero_f32

theorem v87 (i : S4x8x2048x2048.Idx) :
    val_main_v87 (F := Ideal) x0 x1 x2 i
      = (((N.head (i 0).val (i 1).val).G (N.head (i 0).val (i 1).val).top (i 2).val (i 3).val * (1 / 8) : ℝ) : EReal) := by
  rw [val_main_v87_apply, v76 H, val_main_v86_apply, val_main_cst_17_apply]
  show ((_ : ℝ) : EReal) * Ideal.ofBits .f32 0x3E000000#32 = _
  rw [eighth_f32, ← EReal.coe_mul]

theorem v90 (i : S4x8x2048x64.Idx) :
    val_main_v90 (F := Ideal) x0 x1 x2 i = ((N.dq (i 0).val (i 1).val (i 2).val (i 3).val : ℝ) : EReal) := by
  rw [val_main_v90_apply, sum_fin_eq_coe (f := fun s => (N.head (i 0).val (i 1).val).G (N.head (i 0).val (i 1).val).top (i 2).val s * (1 / 8) * (N.head (i 0).val (i 1).val).k s (i 3).val)
    fun s => by rw [v87 H, v5 H, ← EReal.coe_mul]]
  rfl

theorem v88 (i : S4x8x2048x64.Idx) :
    val_main_v88 (F := Ideal) x0 x1 x2 i = ((N.dk (i 0).val (i 1).val (i 2).val (i 3).val : ℝ) : EReal) := by
  rw [val_main_v88_apply, sum_fin_eq_coe (f := fun t => (N.head (i 0).val (i 1).val).G (N.head (i 0).val (i 1).val).top t (i 2).val * (1 / 8) * (N.head (i 0).val (i 1).val).q t (i 3).val)
    fun s => by rw [v87 H, v4 H, ← EReal.coe_mul]]
  rfl

theorem v61 (i : S4x8x64x2048.Idx) :
    val_main_v61 (F := Ideal) x0 x1 x2 i = ((N.dv (i 0).val (i 1).val (i 3).val (i 2).val : ℝ) : EReal) := by
  rw [val_main_v61_apply, sum_fin_eq_coe (f := fun t => (N.head (i 0).val (i 1).val).g t (i 2).val * ((N.head (i 0).val (i 1).val).E (N.head (i 0).val (i 1).val).top t (i 3).val / (N.head (i 0).val (i 1).val).Z (N.head (i 0).val (i 1).val).top t))
    fun s => by rw [v59 H, v48 H, ← EReal.coe_mul]]
  rfl

theorem v77 (i : S4x8x2048.Idx) : val_main_v77 (F := Ideal) x0 x1 x2 i = ((N.rowG (i 0).val (i 1).val (i 2).val : ℝ) : EReal) := by
  rw [val_main_v77_apply, val_main_cst_13_apply, sum_fin_eq_coe (f := fun s => (N.head (i 0).val (i 1).val).G (N.head (i 0).val (i 1).val).top (i 2).val s) fun s => v76 H _]
  show Ideal.ofBits .f32 0x00000000#32 + _ = _
  rw [Ideal.ofBits_zero_f32, zero_add]
  rfl

theorem v80 (i : S4x8x2048.Idx) : val_main_v80 (F := Ideal) x0 x1 x2 i = ((N.colG (i 0).val (i 1).val (i 2).val : ℝ) : EReal) := by
  rw [val_main_v80_apply, val_main_cst_14_apply, sum_fin_eq_coe (f := fun t => -(N.head (i 0).val (i 1).val).G (N.head (i 0).val (i 1).val).top t (i 2).val) fun t => by
    rw [val_main_v79_apply, v76 H]; exact (EReal.coe_neg _).symm]
  show Ideal.ofBits .f32 0x00000000#32 + _ = _
  rw [Ideal.ofBits_zero_f32, zero_add]
  rfl

theorem v83 (i : S4x8x2048.Idx) : val_main_v83 (F := Ideal) x0 x1 x2 i = ((N.rowG (i 0).val (i 1).val (i 2).val : ℝ) : EReal) := by
  rw [val_main_v83_apply, val_main_cst_16_apply, Fin.sum_univ_one, val_main_v78_apply, v77 H]
  obtain ⟨h1, h2, h3⟩ := split_row (a := (i 0).val) (d := 0) (i 1).isLt (i 2).isLt Nat.one_pos
  show Ideal.ofBits .f32 0x00000000#32 + ((N.rowG (((((i 0).val * 8 + (i 1).val) * 2048 + (i 2).val) * 1 + 0) / 16384)
    (((((i 0).val * 8 + (i 1).val) * 2048 + (i 2).val) * 1 + 0) / 2048 % 8)
    (((((i 0).val * 8 + (i 1).val) * 2048 + (i 2).val) * 1 + 0) % 2048) : ℝ) : EReal) = _
  rw [h1, h2, h3, Ideal.ofBits_zero_f32, zero_add]

theorem v82 (i : S4x8x2048.Idx) : val_main_v82 (F := Ideal) x0 x1 x2 i = ((N.colG (i 0).val (i 1).val (i 2).val : ℝ) : EReal) := by
  rw [val_main_v82_apply, val_main_cst_15_apply, Fin.sum_univ_one, val_main_v81_apply, v80 H]
  obtain ⟨h1, h2, h3⟩ := split_col (a := (i 0).val) (c := 0) (i 1).isLt Nat.one_pos (i 2).isLt
  show Ideal.ofBits .f32 0x00000000#32 + ((N.colG (((((i 0).val * 8 + (i 1).val) * 1 + 0) * 2048 + (i 2).val) / 16384)
    (((((i 0).val * 8 + (i 1).val) * 1 + 0) * 2048 + (i 2).val) / 2048 % 8)
    (((((i 0).val * 8 + (i 1).val) * 1 + 0) * 2048 + (i 2).val) % 2048) : ℝ) : EReal) = _
  rw [h1, h2, h3, Ideal.ofBits_zero_f32, zero_add]

theorem v84 (i : S4x8x2048.Idx) : val_main_v84 (F := Ideal) x0 x1 x2 i = ((N.dc (i 0).val (i 1).val (i 2).val : ℝ) : EReal) := by
  rw [val_main_v84_apply, v82 H, v83 H]
  exact (EReal.coe_add _ _).symm

/-- The gradient of the queries. -/
theorem v94 (i : S8192x512.Idx) :
    val_main_v94 (F := Ideal) x0 x1 x2 i
      = ((N.dq ((i 0).val / 2048) ((i 1).val / 64) ((i 0).val % 2048) ((i 1).val % 64) : ℝ) : EReal) := by
  rw [val_main_v94_apply, val_main_v93_apply, val_main_v91_apply, v90 H]
  obtain ⟨h1, h2, h3, h4⟩ := join_lane (r := (i 0).val) (i 1).isLt
  show ((N.dq (((i 0).val * 512 + (i 1).val) / 1048576) (((i 0).val * 512 + (i 1).val) / 64 % 8) (((i 0).val * 512 + (i 1).val) / 512 % 2048)
    (((i 0).val * 512 + (i 1).val) % 64) : ℝ) : EReal) = _
  rw [h1, h2, h3, h4]

/-- The gradient of the keys. -/
theorem v95 (i : S8192x512.Idx) :
    val_main_v95 (F := Ideal) x0 x1 x2 i
      = ((N.dk ((i 0).val / 2048) ((i 1).val / 64) ((i 0).val % 2048) ((i 1).val % 64) : ℝ) : EReal) := by
  rw [val_main_v95_apply, val_main_v92_apply, val_main_v89_apply, v88 H]
  obtain ⟨h1, h2, h3, h4⟩ := join_lane (r := (i 0).val) (i 1).isLt
  show ((N.dk (((i 0).val * 512 + (i 1).val) / 1048576) (((i 0).val * 512 + (i 1).val) / 64 % 8) (((i 0).val * 512 + (i 1).val) / 512 % 2048)
    (((i 0).val * 512 + (i 1).val) % 64) : ℝ) : EReal) = _
  rw [h1, h2, h3, h4]

/-- The gradient of the values. -/
theorem v96 (i : S8192x512.Idx) :
    val_main_v96 (F := Ideal) x0 x1 x2 i
      = ((N.dv ((i 0).val / 2048) ((i 1).val / 64) ((i 0).val % 2048) ((i 1).val % 64) : ℝ) : EReal) := by
  rw [val_main_v96_apply, val_main_v63_apply, val_main_v62_apply, v61 H]
  obtain ⟨h1, h2, h3, h4⟩ := join_lane (r := (i 0).val) (i 1).isLt
  show ((N.dv (((i 0).val * 512 + (i 1).val) / 1048576) (((i 0).val * 512 + (i 1).val) / 64 % 8) (((i 0).val * 512 + (i 1).val) / 512 % 2048)
    (((i 0).val * 512 + (i 1).val) % 64) : ℝ) : EReal) = _
  rw [h1, h2, h3, h4]

/-- The gradient of the cumulated log gates, on each of the head's lanes. -/
theorem v99 (i : S8192x512.Idx) :
    val_main_v99 (F := Ideal) x0 x1 x2 i = ((N.dc ((i 0).val / 2048) ((i 1).val / 64) ((i 0).val % 2048) : ℝ) : EReal) := by
  rw [val_main_v99_apply, val_main_v98_apply, val_main_v97_apply, val_main_v85_apply, v84 H]
  obtain ⟨h1, h2, h3, _⟩ := join_lane (r := (i 0).val) (i 1).isLt
  show ((N.dc (((i 0).val * 512 + (i 1).val) / 1048576) (((i 0).val * 512 + (i 1).val) / 64 % 8) (((i 0).val * 512 + (i 1).val) / 512 % 2048) : ℝ) : EReal) = _
  rw [h1, h2, h3]

end

end Cert.ReferenceIdeal.Fox

end
-- ==== Proof.Fox.Host.lean ====
/-
  What the kernel's host lines leave in the arrays of the rows' normalisers and of the cumulated log gates.
-/
module

public import proofs.«01_k».proof.Proof.Gen.KernelIdeal.Frame
public import proofs.«01_k».proof.Proof.Gen.KernelIdeal.Value
public import proofs.«01_k».proof.Proof.Fox.Ref
public import Idealize.ShloMosaic.Lib.Pipeline.ValueKit
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe
open Cert.Fox
open scoped BigOperators

/-- One number per batch, position and head, repeated on the head's lanes. -/
def lanes (x : FVec Ideal S4x2048x8 .f32) : FVec Ideal S8192x512 .f32 :=
  shapeCast _ (broadcastInDim S4x2048x8x64 ![0, 1, 2, 3] bcast_S4x2048x8x1_S4x2048x8x64_0_1_2_3
    (broadcastInDim S4x2048x8x1 ![0, 1, 2] bcast_S4x2048x8_S4x2048x8x1_0_1_2 x)) shapeCasts_S4x2048x8x64_S8192x512

theorem lanes_at (x : FVec Ideal S4x2048x8 .f32) (i : S8192x512.Idx) (h0 : (i 0).val / 2048 < 4) (h1 : (i 0).val % 2048 < 2048) (h2 : (i 1).val / 64 < 8) :
    lanes x i = x (ix3 ⟨(i 0).val / 2048, h0⟩ ⟨(i 0).val % 2048, h1⟩ ⟨(i 1).val / 64, h2⟩) := by
  obtain ⟨e0, e1, e2, _⟩ := Cert.ReferenceIdeal.Fox.join_lane (r := (i 0).val) (i 1).isLt
  unfold lanes
  idx_vars i
  pointwise

/-- The rows' greatest scores. -/
def rowMax (s : FVec Ideal S4x8x2048x2048 .f32) : FVec Ideal S4x8x2048 .f32 :=
  Host.reduce FloatOps.maximumf s (constant S_ .f32 0xFF800000#32) reducesTo_S4x8x2048x2048_S4x8x2048_d3 h_S_

/-- The sums of the exponentials. -/
def rowSum (s : FVec Ideal S4x8x2048x2048 .f32) : FVec Ideal S4x8x2048 .f32 :=
  Host.reduceAdd (Host.exp (subf s (broadcastInDim S4x8x2048x2048 ![0, 1, 2, 3] bcast_S4x8x2048x1_S4x8x2048x2048_0_1_2_3
    (broadcastInDim S4x8x2048x1 ![0, 1, 2] bcast_S4x8x2048_S4x8x2048x1_0_1_2 (rowMax s))))) (constant S_ .f32 0x00000000#32)
    reducesTo_S4x8x2048x2048_S4x8x2048_d3 h_S_

/-- The normalisers of the rows of the masked scores `s`. -/
def norms (s : FVec Ideal S4x8x2048x2048 .f32) : FVec Ideal S4x2048x8 .f32 :=
  transpose S4x2048x8 [0, 2, 1] (addf (rowMax s) (Host.log (rowSum s))) transposes_S4x8x2048_S4x2048x8_0_2_1

variable {x0 : (⟨S8192x3072, .bf16⟩ : BufTy).Contents (Elt Ideal)} {x1 : (⟨S4x2048x8, .f32⟩ : BufTy).Contents (Elt Ideal)}
  {x2 : (⟨S8192x1024, .bf16⟩ : BufTy).Contents (Elt Ideal)} {N : Nums}

theorem rowMax_at (s : FVec Ideal S4x8x2048x2048 .f32) (hs : ∀ i, s i = (N.head (i 0).val (i 1).val).row (i 2).val ⟨(i 3).val, (i 3).isLt⟩)
    (i : S4x8x2048.Idx) : rowMax s i = ((N.m (i 0).val (i 1).val (i 2).val : ℝ) : EReal) :=
  (reduce_max _ _ _ _ i ((N.head (i 0).val (i 1).val).row (i 2).val) neg_inf_f32 fun k => hs _).trans (Head.top_eq _ (i 2).isLt)

theorem sumExp_at (s : FVec Ideal S4x8x2048x2048 .f32) (y : FVec Ideal S4x8x2048 .f32) (i0 : Fin 4) (i1 : Fin 8) (i2 : Fin 2048) :
    (Host.reduceAdd (Host.exp (subf s (broadcastInDim S4x8x2048x2048 ![0, 1, 2, 3] bcast_S4x8x2048x1_S4x8x2048x2048_0_1_2_3
      (broadcastInDim S4x8x2048x1 ![0, 1, 2] bcast_S4x8x2048_S4x8x2048x1_0_1_2 y)))) (constant S_ .f32 0x00000000#32)
      reducesTo_S4x8x2048x2048_S4x8x2048_d3 h_S_ : FVec Ideal S4x8x2048 .f32) (ix3 i0 i1 i2)
      = ∑ k : Fin 2048, Ideal.exp (s (ix4 i0 i1 i2 k) - y (ix3 i0 i1 i2)) := by
  pointwise

theorem rowSum_at (s : FVec Ideal S4x8x2048x2048 .f32) (hs : ∀ i, s i = (N.head (i 0).val (i 1).val).row (i 2).val ⟨(i 3).val, (i 3).isLt⟩)
    (i0 : Fin 4) (i1 : Fin 8) (i2 : Fin 2048) :
    rowSum s (ix3 i0 i1 i2) = (((N.head i0.val i1.val).Z (N.m i0.val i1.val) i2.val : ℝ) : EReal) := by
  refine (sumExp_at s (rowMax s) i0 i1 i2).trans ?_
  rw [rowMax_at s hs (ix3 i0 i1 i2)]
  exact sum_fin_eq_coe fun k => by
    rw [hs (ix4 i0 i1 i2 k)]
    exact Head.exp_row _ _ _ _

theorem addLog_at (y z : FVec Ideal S4x8x2048 .f32) (i0 : Fin 4) (i1 : Fin 2048) (i2 : Fin 8) :
    (transpose S4x2048x8 [0, 2, 1] (addf y (Host.log z)) transposes_S4x8x2048_S4x2048x8_0_2_1 : FVec Ideal S4x2048x8 .f32) (ix3 i0 i1 i2)
      = y (ix3 i0 i2 i1) + Ideal.log (z (ix3 i0 i2 i1)) := by
  pointwise

theorem norms_at (s : FVec Ideal S4x8x2048x2048 .f32) (hs : ∀ i, s i = (N.head (i 0).val (i 1).val).row (i 2).val ⟨(i 3).val, (i 3).isLt⟩)
    (i0 : Fin 4) (i1 : Fin 2048) (i2 : Fin 8) :
    norms s (ix3 i0 i1 i2) = ((N.lse i0.val i2.val i1.val : ℝ) : EReal) := by
  refine (addLog_at (rowMax s) (rowSum s) i0 i1 i2).trans ?_
  rw [rowMax_at s hs (ix3 i0 i2 i1), rowSum_at s hs, log_coe_pos (Head.Z_pos _ _ i1.isLt), ← EReal.coe_add]
  rfl

end Cert.KernelIdeal.Fox

end
-- ==== Proof.Fox.HostV.lean ====
/-
  The kernel's host lines computed: the arrays the kernel's call finds.
-/
module

public import proofs.«01_k».proof.Proof.Gen.KernelIdeal.Frame
public import proofs.«01_k».proof.Proof.Gen.KernelIdeal.Value
public import proofs.«01_k».proof.Proof.Fox.Host
public import Idealize.ShloMosaic.Lib.Pipeline.ValueKit
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe
open Cert.Fox
open scoped BigOperators

/-- The causal mask. -/
def causal : IVec S4x8x2048x2048 1 :=
  broadcastInDim S4x8x2048x2048 ![0, 1, 2, 3] bcast_S1x1x2048x2048_S4x8x2048x2048_0_1_2_3
    (broadcastInDim S1x1x2048x2048 ![2, 3] bcast_S2048x2048_S1x1x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))

/-- The products of queries and keys, an eighth of them. -/
def products (x0 : FVec Ideal S8192x3072 .bf16) : FVec Ideal S4x8x2048x2048 .f32 :=
  mulf (Host.dotGeneral dot_S4x2048x8x64_S4x2048x8x64_S4x8x2048x2048_3_3_1_1_02_02 none
      (shapeCast S4x2048x8x64 (extractStridedSlice S8192x512 ![0, 1536] (extf .f32 x0 bitsLt_bf16_f32) slices_S8192x3072_S8192x512_0_1536)
        shapeCasts_S8192x512_S4x2048x8x64 : FVec Ideal S4x2048x8x64 .f32)
      (shapeCast S4x2048x8x64 (extractStridedSlice S8192x512 ![0, 2048] (extf .f32 x0 bitsLt_bf16_f32) slices_S8192x3072_S8192x512_0_2048)
        shapeCasts_S8192x512_S4x2048x8x64 : FVec Ideal S4x2048x8x64 .f32))
    (broadcastInDim S4x8x2048x2048 ![] bcast_S_S4x8x2048x2048 (constant S_ .f32 0x3E000000#32))

/-- The differences of the cumulated log gates. -/
def gates (x1 : FVec Ideal S4x2048x8 .f32) : FVec Ideal S4x8x2048x2048 .f32 :=
  subf (broadcastInDim S4x8x2048x2048 ![0, 1, 2, 3] bcast_S4x8x2048x1_S4x8x2048x2048_0_1_2_3
      (broadcastInDim S4x8x2048x1 ![0, 1, 2] bcast_S4x8x2048_S4x8x2048x1_0_1_2 (transpose S4x8x2048 [0, 2, 1] x1 transposes_S4x2048x8_S4x8x2048_0_2_1)))
    (broadcastInDim S4x8x2048x2048 ![0, 1, 2, 3] bcast_S4x8x1x2048_S4x8x2048x2048_0_1_2_3
      (broadcastInDim S4x8x1x2048 ![0, 1, 3] bcast_S4x8x2048_S4x8x1x2048_0_1_3 (transpose S4x8x2048 [0, 2, 1] x1 transposes_S4x2048x8_S4x8x2048_0_2_1)))

/-- The masked scores. -/
def masked (x0 : FVec Ideal S8192x3072 .bf16) (x1 : FVec Ideal S4x2048x8 .f32) : FVec Ideal S4x8x2048x2048 .f32 :=
  select causal (addf (products x0) (gates x1)) (broadcastInDim S4x8x2048x2048 ![] bcast_S_S4x8x2048x2048 (constant S_ .f32 0xFF800000#32))

theorem causal_eq : causal = Cert.ReferenceIdeal.Read.val_main_v23_1 (F := Ideal) := rfl

theorem products_eq (x0 : FVec Ideal S8192x3072 .bf16) : products x0 = Cert.ReferenceIdeal.Read.val_main_v8 (F := Ideal) x0 := rfl

theorem gates_eq (x1 : FVec Ideal S4x2048x8 .f32) : gates x1 = Cert.ReferenceIdeal.Read.val_main_v14 (F := Ideal) x1 := rfl

/-- They are the reference's. -/
theorem masked_eq (x0 : FVec Ideal S8192x3072 .bf16) (x1 : FVec Ideal S4x2048x8 .f32) :
    masked x0 x1 = Cert.ReferenceIdeal.Read.val_main_v23_0 (F := Ideal) x0 x1 := by
  unfold masked
  rw [causal_eq, products_eq, gates_eq]
  rfl

section

variable (m : (ℓ : Loc nD τ sig) → Buf (Elt Ideal) ℓ) (c : Dev nD)

set_option maxHeartbeats 1600000 in
theorem V_main_v34 : V m c main_v34
    = lanes (norms (masked (m ((c : Thread nD τ).loc main_arg0)) (m ((c : Thread nD τ).loc main_arg1)))) := by
  unfold V
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  entry_read
  unfold lanes norms rowSum rowMax masked causal products gates
  rfl

set_option maxHeartbeats 1600000 in
theorem V_main_v37 : V m c main_v37 = lanes (m ((c : Thread nD τ).loc main_arg1)) := by
  unfold V
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  entry_read
  rfl

end

end Cert.KernelIdeal.Fox

end
-- ==== Proof.Fox.Tile.lean ====
/-
  One tile of the backward pass, for any number `K` of key rows. A tile takes 256 query rows, starting at row `r0`, and
  the first `K` key rows. The definitions spell what the kernel's body does on a tile as vector operations with `K` and
  `r0` left variable; the theorems read each of them at one element.
-/
module

public import proofs.«01_k».proof.Proof.Gen.KernelIdeal
public import Idealize.ShloMosaic.Lib.Pointwise
public import Idealize.ShloMosaic.Lib.MatmulPlain
public import Idealize.ShloMosaic.Lib.ValueLayoutCasts
public import Idealize.ShloMosaic.Lib.ValueLayout
public import Idealize.ShloMosaic.Lib.WordCmp

@[expose] public section

set_option maxRecDepth 16384

noncomputable section

namespace Cert.KernelIdeal.Fox

open Cert.KernelIdeal Cert.KernelIdeal.Gen Idealize.ShloMosaic Idealize.ShloMosaic.TcCoe
open scoped BigOperators

/-- `[K,M]ᵀ × [K,N]`: both operands contracted on their first axis. -/
def dotTN (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- `[K,M]ᵀ × [K,N]` read at (r, c): the accumulator plus the sum over the first axis. -/
theorem matmul_dotTN_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (dotTN M K N) prec lhs rhs acc (ix2 r c) = acc (ix2 r c) + ∑ k : Fin K, lhs (ix2 k r) * rhs (ix2 k c) := by
  have hr : (dotTN M K N).contr.rank = 1 := rfl
  have hs : (dotTN M K N).contr.size ⟨0, by rw [hr]; exact Nat.one_pos⟩ = K := rfl
  rw [Ideal.matmul_apply, ← Equiv.sum_comp (ValueIdx.contrEquiv1 _ K hr hs).symm]
  refine congrArg (acc (ix2 r c) + ·) (Finset.sum_congr rfl fun k _ => ?_)
  have hk := ValueIdx.contrEquiv1_symm_val _ K hr hs k
  have el : (dotTN M K N).lhsIdx (ix2 r c) ((ValueIdx.contrEquiv1 _ K hr hs).symm k) = ix2 k r := by
    funext a; apply Fin.ext
    match a with
    | ⟨0, _⟩ => exact hk
    | ⟨1, _⟩ => rfl
  have er : (dotTN M K N).rhsIdx (ix2 r c) ((ValueIdx.contrEquiv1 _ K hr hs).symm k) = ix2 k c := by
    funext a; apply Fin.ext
    match a with
    | ⟨0, _⟩ => exact hk
    | ⟨1, _⟩ => rfl
  rw [el, er]

/-- What the operations of a tile ask of its shapes. -/
structure TileFacts (K : ℕ) : Prop where
  iota0 : (⟨2, ![K, 256]⟩ : Shape).Iotas .tc 32 [0]
  iota1 : (⟨2, ![K, 256]⟩ : Shape).Iotas .tc 32 [1]
  castK : (⟨3, ![1, K, 128]⟩ : Shape).ShapeCasts ⟨2, ![K, 128]⟩
  castQ : (⟨3, ![1, 256, 128]⟩ : Shape).ShapeCasts ⟨2, ![256, 128]⟩
  red0 : (⟨2, ![K, 256]⟩ : Shape).Reduces [0] ⟨1, ![256]⟩
  castRow : (⟨1, ![256]⟩ : Shape).ShapeCasts ⟨2, ![1, 256]⟩
  bcRow : (⟨2, ![1, 256]⟩ : Shape).Broadcasts ⟨2, ![K, 256]⟩
  castSame : (⟨2, ![K, 128]⟩ : Shape).ShapeCasts ⟨2, ![K, 128]⟩
  red1 : (⟨2, ![K, 256]⟩ : Shape).Reduces [1] ⟨1, ![K]⟩
  castCol : (⟨1, ![K]⟩ : Shape).ShapeCasts ⟨2, ![K, 1]⟩
  castCol' : (⟨2, ![K, 1]⟩ : Shape).ShapeCasts ⟨2, ![K, 1]⟩
  bcCol : (⟨2, ![K, 1]⟩ : Shape).Broadcasts ⟨2, ![K, 128]⟩
  castMask : (⟨2, ![1, 128]⟩ : Shape).ShapeCasts ⟨2, ![1, 128]⟩
  bcMask : (⟨2, ![1, 128]⟩ : Shape).Broadcasts ⟨2, ![K, 128]⟩

variable {K : ℕ} (h : TileFacts K) (r0 : ℕ)

/-- The tile's causal mask: key row at most the query row. -/
def causalG : IVec ⟨2, ![K, 256]⟩ 1 :=
  cmpi .sle (iota .tc ⟨2, ![K, 256]⟩ 32 [0] h.iota0)
    (addi (iota .tc ⟨2, ![K, 256]⟩ 32 [1] h.iota1) (broadcast ⟨2, ![K, 256]⟩ (BitVec.ofNat 32 r0)))

/-- A product over the 128 lanes of the tile's key rows with its query rows. -/
def lanesG (a : Vec Ideal ⟨3, ![1, K, 128]⟩ .bf16) (b : Vec Ideal ⟨3, ![1, 256, 128]⟩ .bf16) : FVec Ideal ⟨2, ![K, 256]⟩ .f32 :=
  matmul (DotDims.transposedRhs K 128 256) none (shapeCast ⟨2, ![K, 128]⟩ a h.castK : FVec Ideal ⟨2, ![K, 128]⟩ .bf16)
    (shapeCast ⟨2, ![256, 128]⟩ b h.castQ : FVec Ideal ⟨2, ![256, 128]⟩ .bf16)
    (constant (F := Ideal) ⟨2, ![K, 256]⟩ .f32 0x00000000#32)

/-- The tile's attention weights. -/
def ptG (ka : Vec Ideal ⟨3, ![1, K, 128]⟩ .bf16) (qa : Vec Ideal ⟨3, ![1, 256, 128]⟩ .bf16) : FVec Ideal ⟨2, ![K, 256]⟩ .f32 :=
  select (causalG h r0) (exp (lanesG h ka qa)) (broadcast ⟨2, ![K, 256]⟩ (Scalar.ofBits (F := Ideal) .f32 0x00000000#32))

/-- The sum of a tile over its key rows, as one row. -/
def colSumG (x : FVec Ideal ⟨2, ![K, 256]⟩ .f32) : FVec Ideal ⟨2, ![1, 256]⟩ .f32 :=
  shapeCast ⟨2, ![1, 256]⟩
    (multiReduction .add [0] ⟨1, ![256]⟩ x 0x00000000#32 h.red0 (.inl rfl) rfl : FVec Ideal ⟨1, ![256]⟩ .f32) h.castRow

/-- The tile's score gradients from its weights and the gradients of the weights. -/
def dstG (pt dpt : FVec Ideal ⟨2, ![K, 256]⟩ .f32) : FVec Ideal ⟨2, ![K, 256]⟩ .f32 :=
  mulf pt (subf dpt (broadcastTo ⟨2, ![K, 256]⟩ (divf (colSumG h (mulf pt dpt)) (colSumG h pt)) h.bcRow))

/-- The product of the tile with its query rows. -/
def rowsG (x : FVec Ideal ⟨2, ![K, 256]⟩ .f32) (b : Vec Ideal ⟨3, ![1, 256, 128]⟩ .bf16) : FVec Ideal ⟨2, ![K, 128]⟩ .f32 :=
  matmul (DotDims.plain K 256 128) none (truncf .bf16 x bitsLt_bf16_f32)
    (shapeCast ⟨2, ![256, 128]⟩ b h.castQ : FVec Ideal ⟨2, ![256, 128]⟩ .bf16)
    (constant (F := Ideal) ⟨2, ![K, 128]⟩ .f32 0x00000000#32)

/-- The sum of a tile over its query rows, as one column. -/
def rowSumG (x : FVec Ideal ⟨2, ![K, 256]⟩ .f32) : FVec Ideal ⟨2, ![K, 1]⟩ .f32 :=
  shapeCast ⟨2, ![K, 1]⟩ (multiReduction .add [1] ⟨1, ![K]⟩ x 0x00000000#32 h.red1 (.inl rfl) rfl : FVec Ideal ⟨1, ![K]⟩ .f32) h.castCol

/-- A column spread over the 128 lanes. -/
def spreadG (x : FVec Ideal ⟨2, ![K, 1]⟩ .f32) : FVec Ideal ⟨2, ![K, 128]⟩ .f32 :=
  broadcastTo ⟨2, ![K, 128]⟩ (shapeCast ⟨2, ![K, 1]⟩ x h.castCol') h.bcCol

/-- What the tile adds to the value gradients, added to what was there. -/
def dvG (pt : FVec Ideal ⟨2, ![K, 256]⟩ .f32) (old : Vec Ideal ⟨2, ![K, 128]⟩ .f32) (b : Vec Ideal ⟨3, ![1, 256, 128]⟩ .bf16) :
    FVec Ideal ⟨2, ![K, 128]⟩ .f32 :=
  shapeCast ⟨2, ![K, 128]⟩ (addf old (rowsG h pt b) : FVec Ideal ⟨2, ![K, 128]⟩ .f32) h.castSame

/-- What the tile adds to the key gradients, added to what was there. -/
def dkG (dst : FVec Ideal ⟨2, ![K, 256]⟩ .f32) (old : Vec Ideal ⟨2, ![K, 128]⟩ .f32) (b : Vec Ideal ⟨3, ![1, 256, 128]⟩ .bf16) :
    FVec Ideal ⟨2, ![K, 128]⟩ .f32 :=
  shapeCast ⟨2, ![K, 128]⟩ (addf old (mulf (rowsG h dst b)
    (broadcast ⟨2, ![K, 128]⟩ (Scalar.ofBits (F := Ideal) .f32 0x3E000000#32))) : FVec Ideal ⟨2, ![K, 128]⟩ .f32) h.castSame

/-- The product of the transposed tile with its key rows. -/
def keysG (x : FVec Ideal ⟨2, ![K, 256]⟩ .f32) (a : Vec Ideal ⟨3, ![1, K, 128]⟩ .bf16) : FVec Ideal ⟨2, ![256, 128]⟩ .f32 :=
  matmul (dotTN 256 K 128) none (truncf .bf16 x bitsLt_bf16_f32)
    (shapeCast ⟨2, ![K, 128]⟩ a h.castK : FVec Ideal ⟨2, ![K, 128]⟩ .bf16)
    (constant (F := Ideal) ⟨2, ![256, 128]⟩ .f32 0x00000000#32)

/-- What the tile adds to the query gradients of its 256 rows. -/
def dqG (dst : FVec Ideal ⟨2, ![K, 256]⟩ .f32) (acc : FVec Ideal ⟨2, ![256, 128]⟩ .f32) (a : Vec Ideal ⟨3, ![1, K, 128]⟩ .bf16) :
    FVec Ideal ⟨2, ![256, 128]⟩ .f32 :=
  addf acc (keysG h dst a)

/-- What the tile adds to the gate gradients, on the lanes of `mask`, added to what was there. -/
def dcG (dst : FVec Ideal ⟨2, ![K, 256]⟩ .f32) (mask : IVec ⟨2, ![1, 128]⟩ 1) (old : Vec Ideal ⟨2, ![K, 128]⟩ .f32) :
    FVec Ideal ⟨2, ![K, 128]⟩ .f32 :=
  shapeCast ⟨2, ![K, 128]⟩ (addf old (select
    (broadcastTo ⟨2, ![K, 128]⟩ (shapeCast ⟨2, ![1, 128]⟩ mask h.castMask) h.bcMask)
    (spreadG h (subf (broadcast ⟨2, ![K, 1]⟩ (Scalar.ofBits (F := Ideal) .f32 0x00000000#32)) (rowSumG h dst)))
    (broadcast ⟨2, ![K, 128]⟩ (Scalar.ofBits (F := Ideal) .f32 0x00000000#32))) : FVec Ideal ⟨2, ![K, 128]⟩ .f32) h.castSame

theorem tileFacts (n : ℕ) (hn : n < 8) : TileFacts (256 * (n + 1)) := by
  obtain rfl | rfl | rfl | rfl | rfl | rfl | rfl | rfl : n = 0 ∨ n = 1 ∨ n = 2 ∨ n = 3 ∨ n = 4 ∨ n = 5 ∨ n = 6 ∨ n = 7 := by omega
  all_goals constructor <;> decide

theorem dropUnit_apply {n : ℕ} (x : Vec Ideal ⟨3, ![1, n, 128]⟩ .bf16) (hx : (⟨3, ![1, n, 128]⟩ : Shape).ShapeCasts ⟨2, ![n, 128]⟩)
    (i : Fin n) (l : Fin 128) : shapeCast ⟨2, ![n, 128]⟩ x hx (ix2 i l) = x (ix3 0 i l) :=
  ValueIdx.shapeCast_1ab_ab_apply _ _ _ _

theorem lanesG_apply (a : Vec Ideal ⟨3, ![1, K, 128]⟩ .bf16) (b : Vec Ideal ⟨3, ![1, 256, 128]⟩ .bf16) (s : Fin K) (t : Fin 256) :
    lanesG h a b (ix2 s t) = ∑ l : Fin 128, (a (ix3 0 s l) * b (ix3 0 t l) : EReal) := by
  unfold lanesG
  refine (Ideal.matmul_transposedRhs_apply _ _ _ _ _ _).trans ((congrArg₂ (· + ·) Ideal.ofBits_zero_f32 (Finset.sum_congr rfl fun l _ =>
    congrArg₂ (· * ·) (dropUnit_apply a h.castK s l) (dropUnit_apply b h.castQ t l))).trans (zero_add _))

/-- The causal mask's bit, for row numbers that fit a signed word. -/
theorem causal_bit {k t r : ℕ} (hk : k < 2 ^ 30) (ht : t < 2 ^ 29) (hr : r < 2 ^ 29) :
    IntOp.cmpi .sle (BitVec.ofNat 32 k) (IntOp.addi (BitVec.ofNat 32 t) (BitVec.ofNat 32 r)) = 1#1 ↔ k ≤ r + t := by
  rw [show IntOp.addi (BitVec.ofNat 32 t) (BitVec.ofNat 32 r) = BitVec.ofNat 32 (t + r) from (BitVec.ofNat_add t r).symm, IntOp.cmpi_sle,
    BitVec.toInt_eq_toNat_of_lt (by rw [BitVec.toNat_ofNat]; omega), BitVec.toInt_eq_toNat_of_lt (by rw [BitVec.toNat_ofNat]; omega),
    BitVec.toNat_ofNat, BitVec.toNat_ofNat]
  omega

theorem ptG_apply (hK : K ≤ 2048) (hr : r0 ≤ 2048) (a : Vec Ideal ⟨3, ![1, K, 128]⟩ .bf16) (b : Vec Ideal ⟨3, ![1, 256, 128]⟩ .bf16) (s : Fin K) (t : Fin 256) :
    ptG h r0 a b (ix2 s t) = if s.val ≤ r0 + t.val then Ideal.exp (∑ l : Fin 128, (a (ix3 0 s l) * b (ix3 0 t l) : EReal)) else 0 := by
  unfold ptG causalG
  pointwise [lanesG_apply]
  unfold Scalar.select
  exact if_congr (causal_bit (by omega) (by omega) (by omega)) rfl rfl

theorem colSumG_apply (x : FVec Ideal ⟨2, ![K, 256]⟩ .f32) (u : Fin 1) (t : Fin 256) :
    colSumG h x (ix2 u t) = ∑ s : Fin K, (x (ix2 s t) : EReal) := by
  unfold colSumG
  pointwise

theorem dstG_apply (pt dpt : FVec Ideal ⟨2, ![K, 256]⟩ .f32) (s : Fin K) (t : Fin 256) :
    dstG h pt dpt (ix2 s t) = (pt (ix2 s t) : EReal) * (dpt (ix2 s t)
      - Ideal.div (∑ u : Fin K, (pt (ix2 u t) * dpt (ix2 u t) : EReal)) (∑ u : Fin K, (pt (ix2 u t) : EReal))) := by
  unfold dstG
  pointwise [colSumG_apply]

theorem rowsG_apply (x : FVec Ideal ⟨2, ![K, 256]⟩ .f32) (b : Vec Ideal ⟨3, ![1, 256, 128]⟩ .bf16) (s : Fin K) (l : Fin 128) :
    rowsG h x b (ix2 s l) = ∑ t : Fin 256, (x (ix2 s t) * b (ix3 0 t l) : EReal) := by
  unfold rowsG
  refine (Ideal.matmul_plain_apply _ _ _ _ _ _).trans ((congrArg₂ (· + ·) Ideal.ofBits_zero_f32 (Finset.sum_congr rfl fun t _ =>
    congrArg (x (ix2 s t) * ·) (dropUnit_apply b h.castQ t l))).trans (zero_add _))

theorem keysG_apply (x : FVec Ideal ⟨2, ![K, 256]⟩ .f32) (a : Vec Ideal ⟨3, ![1, K, 128]⟩ .bf16) (t : Fin 256) (l : Fin 128) :
    keysG h x a (ix2 t l) = ∑ s : Fin K, (x (ix2 s t) * a (ix3 0 s l) : EReal) := by
  unfold keysG
  refine (matmul_dotTN_apply _ _ _ _ _ _).trans ((congrArg₂ (· + ·) Ideal.ofBits_zero_f32 (Finset.sum_congr rfl fun s _ =>
    congrArg (x (ix2 s t) * ·) (dropUnit_apply a h.castK s l))).trans (zero_add _))

theorem rowSumG_apply (x : FVec Ideal ⟨2, ![K, 256]⟩ .f32) (s : Fin K) (u : Fin 1) :
    rowSumG h x (ix2 s u) = ∑ t : Fin 256, (x (ix2 s t) : EReal) := by
  unfold rowSumG
  refine (ValueIdx.shapeCast_a_a1_apply _ _ _ _).trans ?_
  pointwise

theorem spreadG_apply (x : FVec Ideal ⟨2, ![K, 1]⟩ .f32) (s : Fin K) (l : Fin 128) : spreadG h x (ix2 s l) = x (ix2 s 0) := by
  unfold spreadG
  refine (broadcastTo_apply _ _ _ (ix2 s 0) fun i => ?_).trans (shapeCast_apply _ _ _ (ix2 s 0) rfl)
  match i with
  | ⟨0, _⟩ =>
    show s.val = if K = 1 then 0 else s.val
    split
    · have := s.isLt
      omega
    · rfl
  | ⟨1, _⟩ => rfl

theorem dvG_apply (pt : FVec Ideal ⟨2, ![K, 256]⟩ .f32) (old : Vec Ideal ⟨2, ![K, 128]⟩ .f32) (b : Vec Ideal ⟨3, ![1, 256, 128]⟩ .bf16)
    (s : Fin K) (l : Fin 128) :
    dvG h pt old b (ix2 s l) = (old (ix2 s l) : EReal) + ∑ t : Fin 256, (pt (ix2 s t) * b (ix3 0 t l) : EReal) := by
  unfold dvG
  pointwise [rowsG_apply]

theorem dkG_apply (dst : FVec Ideal ⟨2, ![K, 256]⟩ .f32) (old : Vec Ideal ⟨2, ![K, 128]⟩ .f32) (b : Vec Ideal ⟨3, ![1, 256, 128]⟩ .bf16)
    (s : Fin K) (l : Fin 128) :
    dkG h dst old b (ix2 s l) = (old (ix2 s l) : EReal) + (∑ t : Fin 256, (dst (ix2 s t) * b (ix3 0 t l) : EReal)) * Ideal.ofBits .f32 0x3E000000#32 := by
  unfold dkG
  pointwise [rowsG_apply]

theorem dqG_apply (dst : FVec Ideal ⟨2, ![K, 256]⟩ .f32) (acc : FVec Ideal ⟨2, ![256, 128]⟩ .f32) (a : Vec Ideal ⟨3, ![1, K, 128]⟩ .bf16)
    (t : Fin 256) (l : Fin 128) :
    dqG h dst acc a (ix2 t l) = (acc (ix2 t l) : EReal) + ∑ s : Fin K, (dst (ix2 s t) * a (ix3 0 s l) : EReal) := by
  unfold dqG
  pointwise [keysG_apply]

theorem dcG_apply (dst : FVec Ideal ⟨2, ![K, 256]⟩ .f32) (mask : IVec ⟨2, ![1, 128]⟩ 1) (old : Vec Ideal ⟨2, ![K, 128]⟩ .f32)
    (s : Fin K) (l : Fin 128) :
    dcG h dst mask old (ix2 s l) = (old (ix2 s l) : EReal) + if mask (ix2 0 l) = 1#1 then 0 - ∑ t : Fin 256, (dst (ix2 s t) : EReal) else 0 := by
  unfold dcG
  pointwise [spreadG_apply, rowSumG_apply]
  rfl

end Cert.KernelIdeal.Fox

end
-- ==== Proof.Fox.Pieces.lean ====
/-
  What the kernel's body stores, written with a tile's operations: the three accumulators' stores as one list built step
  by step (step `j` is tile `j / 2`, head `j % 2`), and the query gradients of one tile. Each equation with the recorded
  run holds by definition.
-/
module

public import proofs.«01_k».proof.Proof.Fox.Tile
public import proofs.«01_k».proof.Proof.Gen.KernelIdeal.Value

@[expose] public section

set_option maxRecDepth 16384

noncomputable section

namespace Cert.KernelIdeal.Fox

open Cert.KernelIdeal Cert.KernelIdeal.Gen Idealize.ShloMosaic Idealize.ShloMosaic.TcCoe
open scoped BigOperators

/-- A scratch array of two heads: the view it is read through and what was stored into it. -/
structure HeadBuf where
  view : View sig .tc .vmem S2x2048x128 .bf16
  stored : List (View.Piece (Elt Ideal) S2x2048x128 .bf16)

theorem inbHead (e r0 K : ℕ) (he : e < 2) (hr : r0 + K ≤ 2048) :
    ∀ a, (![e, r0, 0] : Fin 3 → ℕ) a + (⟨3, ![1, K, 128]⟩ : Shape).size a ≤ S2x2048x128.size a := by
  intro a
  match a with
  | ⟨0, _⟩ => show e + 1 ≤ 2; omega
  | ⟨1, _⟩ => exact hr
  | ⟨2, _⟩ => exact le_rfl

theorem inbRow (K : ℕ) (hr : K ≤ 2048) : ∀ a, (![0, 0] : Fin 2 → ℕ) a + (⟨2, ![K, 128]⟩ : Shape).size a ≤ S2048x128.size a := by
  intro a
  match a with
  | ⟨0, _⟩ => show 0 + K ≤ 2048; omega
  | ⟨1, _⟩ => exact le_rfl

theorem inbTile (r0 : ℕ) (hr : r0 + 256 ≤ 2048) : ∀ a, (![r0, 0] : Fin 2 → ℕ) a + (⟨2, ![256, 128]⟩ : Shape).size a ≤ S2048x128.size a := by
  intro a
  match a with
  | ⟨0, _⟩ => exact hr
  | ⟨1, _⟩ => exact le_rfl

/-- `K` rows of head `e` of such an array, from row `r0` on. -/
def HeadBuf.rd (b : HeadBuf) (e r0 K : ℕ) (he : e < 2) (hr : r0 + K ≤ 2048) : Vec Ideal ⟨3, ![1, K, 128]⟩ .bf16 :=
  b.view.readCov b.stored (Rect.unit (s := S2x2048x128) ![e, r0, 0] (⟨3, ![1, K, 128]⟩ : Shape).size (inbHead e r0 K he hr)).toLoadRect

/-- The six scratch arrays. -/
structure Bufs where
  (qa ka qp kp vp dp : HeadBuf)

variable (B : Bufs)

/-- Tile `i` of head `e`: its weights. -/
def ptT (i e : ℕ) (hi : i < 8) (he : e < 2) : FVec Ideal ⟨2, ![256 * (i + 1), 256]⟩ .f32 :=
  ptG (tileFacts i hi) (256 * i) (B.ka.rd e 0 (256 * (i + 1)) he (by omega)) (B.qa.rd e (256 * i) 256 he (by omega))

/-- … the gradients of its weights … -/
def dptT (i e : ℕ) (hi : i < 8) (he : e < 2) : FVec Ideal ⟨2, ![256 * (i + 1), 256]⟩ .f32 :=
  lanesG (tileFacts i hi) (B.vp.rd e 0 (256 * (i + 1)) he (by omega)) (B.dp.rd e (256 * i) 256 he (by omega))

/-- … and the gradients of its scores. -/
def dstT (i e : ℕ) (hi : i < 8) (he : e < 2) : FVec Ideal ⟨2, ![256 * (i + 1), 256]⟩ .f32 :=
  dstG (tileFacts i hi) (ptT B i e hi he) (dptT B i e hi he)

/-- Step `j` writes its payload, a function of the rows it reads back, over the first rows of the accumulator. -/
def stepPieces (v : View sig .tc .vmem S2048x128 .f32)
    (pay : ∀ i e : ℕ, i < 8 → e < 2 → Vec Ideal ⟨2, ![256 * (i + 1), 128]⟩ .f32 → FVec Ideal ⟨2, ![256 * (i + 1), 128]⟩ .f32) :
    (n : ℕ) → n ≤ 16 → List (View.Piece (Elt Ideal) S2048x128 .f32)
  | 0, _ => [⟨Rect.unit (s := S2048x128) ![0, 0] S2048x128.size inb_S2048x128_S2048x128_0_0, fun _ => Ideal.ofBits .f32 0x00000000#32⟩]
  | j + 1, h =>
    ⟨Rect.unit (s := S2048x128) ![0, 0] (⟨2, ![256 * (j / 2 + 1), 128]⟩ : Shape).size (inbRow _ (by omega)),
      pay (j / 2) (j % 2) (by omega) (by omega) (v.readCov (stepPieces v pay j (by omega))
        (Rect.unit (s := S2048x128) ![0, 0] (⟨2, ![256 * (j / 2 + 1), 128]⟩ : Shape).size (inbRow _ (by omega))).toLoadRect)⟩
      :: stepPieces v pay j (by omega)

/-- The lanes of head `e`. -/
def headMask (e : ℕ) : IVec S1x128 1 :=
  if e = 0 then k0_pay1 else xori k0_pay1 (constantI S1x128 1 1#1)

def dvPay (i e : ℕ) (hi : i < 8) (he : e < 2) (old : Vec Ideal ⟨2, ![256 * (i + 1), 128]⟩ .f32) : FVec Ideal ⟨2, ![256 * (i + 1), 128]⟩ .f32 :=
  dvG (tileFacts i hi) (ptT B i e hi he) old (B.dp.rd e (256 * i) 256 he (by omega))

def dkPay (i e : ℕ) (hi : i < 8) (he : e < 2) (old : Vec Ideal ⟨2, ![256 * (i + 1), 128]⟩ .f32) : FVec Ideal ⟨2, ![256 * (i + 1), 128]⟩ .f32 :=
  dkG (tileFacts i hi) (dstT B i e hi he) old (B.qp.rd e (256 * i) 256 he (by omega))

def dcPay (i e : ℕ) (hi : i < 8) (he : e < 2) (old : Vec Ideal ⟨2, ![256 * (i + 1), 128]⟩ .f32) : FVec Ideal ⟨2, ![256 * (i + 1), 128]⟩ .f32 :=
  dcG (tileFacts i hi) (dstT B i e hi he) (headMask e) old

/-- The query gradients of tile `i`. -/
def dqTile (i : ℕ) (hi : i < 8) : FVec Ideal ⟨2, ![256, 128]⟩ .f32 :=
  dqG (tileFacts i hi) (dstT B i 1 hi (by omega))
    (dqG (tileFacts i hi) (dstT B i 0 hi (by omega)) (broadcast ⟨2, ![256, 128]⟩ (Scalar.ofBits (F := Ideal) .f32 0x00000000#32))
      (B.kp.rd 0 0 (256 * (i + 1)) (by omega) (by omega)))
    (B.kp.rd 1 0 (256 * (i + 1)) (by omega) (by omega))

/-- … as stored: scaled by an eighth and cast. -/
def dqStore (i : ℕ) (hi : i < 8) : FVec Ideal ⟨2, ![256, 128]⟩ .bf16 :=
  truncf .bf16 (mulf (dqTile B i hi) (broadcast ⟨2, ![256, 128]⟩ (Scalar.ofBits (F := Ideal) .f32 0x3E000000#32))) bitsLt_bf16_f32

/-- The stores of the query gradients, tile after tile. -/
def tilePieces : (n : ℕ) → n ≤ 8 → List (View.Piece (Elt Ideal) S2048x128 .bf16)
  | 0, _ => []
  | j + 1, h =>
    ⟨Rect.unit (s := S2048x128) ![256 * j, 0] (⟨2, ![256, 128]⟩ : Shape).size (inbTile _ (by omega)), dqStore B j (by omega)⟩
      :: tilePieces j (by omega)

/-- The whole of a block. -/
abbrev wholeRect : Rect S2048x128 := Rect.unit (s := S2048x128) ![0, 0] S2048x128.size inb_S2048x128_S2048x128_0_0

/-- A block cast to the narrow format. -/
def castBlock (x : Vec Ideal S2048x128 .f32) : FVec Ideal S2048x128 .bf16 := truncf (F := Ideal) .bf16 x bitsLt_bf16_f32

section Run

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2x2048x128 .bf16) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .bf16) (harg16 : arg16.IsWhole) (arg17 : Memref sig .tc .vmem S2x2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole)
  (x0 x1 x2 x3 : Vec Ideal S2048x128 .bf16) (x4 x5 : Vec Ideal S2048x128 .f32)

/-- The six scratch arrays of a run. -/
def runBufs : Bufs where
  qa := ⟨arg12.view, kernelRun0_A.sl.HS0_2 c arg2 harg2 arg6 harg6 arg7 harg7 arg14 x0 x4 x5⟩
  ka := ⟨arg13.view, kernelRun0_A.sl.HS1_2 c arg3 harg3 arg7 harg7 arg15 x1 x5⟩
  qp := ⟨arg14.view, kernelRun0_A.sl.HS2_2 c arg2 harg2 x0⟩
  kp := ⟨arg15.view, kernelRun0_A.sl.HS3_2 c arg3 harg3 x1⟩
  vp := ⟨arg16.view, kernelRun0_A.sl.HS4_2 c arg4 harg4 x2⟩
  dp := ⟨arg17.view, kernelRun0_A.sl.HS5_2 c arg5 harg5 x3⟩

/-- The value gradients' accumulator. -/
theorem dv_pieces : kernelRun0_A.sl.HS7_17 (F := Ideal) c arg2 harg2 arg3 harg3 arg5 harg5 arg6 harg6 arg7 harg7 arg12 arg13 arg14 arg15 arg17 arg19 x0 x1 x3 x4 x5
    = stepPieces arg19.view (dvPay (runBufs c arg2 harg2 arg3 harg3 arg4 harg4 arg5 harg5 arg6 harg6 arg7 harg7 arg12 arg13 arg14 arg15 arg16 arg17 x0 x1 x2 x3 x4 x5)) 16 le_rfl := rfl

/-- The key gradients' accumulator. -/
theorem dk_pieces : kernelRun0_A.sl.HS6_17 (F := Ideal) c arg2 harg2 arg3 harg3 arg4 harg4 arg5 harg5 arg6 harg6 arg7 harg7 arg12 arg13 arg14 arg15 arg16 arg17 arg18 x0 x1 x2 x3 x4 x5
    = stepPieces arg18.view (dkPay (runBufs c arg2 harg2 arg3 harg3 arg4 harg4 arg5 harg5 arg6 harg6 arg7 harg7 arg12 arg13 arg14 arg15 arg16 arg17 x0 x1 x2 x3 x4 x5)) 16 le_rfl := rfl

/-- The gate gradients' accumulator. -/
theorem dc_pieces : kernelRun0_A.sl.HS8_17 (F := Ideal) c arg2 harg2 arg3 harg3 arg4 harg4 arg5 harg5 arg6 harg6 arg7 harg7 arg12 arg13 arg14 arg15 arg16 arg17 arg20 x0 x1 x2 x3 x4 x5
    = stepPieces arg20.view (dcPay (runBufs c arg2 harg2 arg3 harg3 arg4 harg4 arg5 harg5 arg6 harg6 arg7 harg7 arg12 arg13 arg14 arg15 arg16 arg17 x0 x1 x2 x3 x4 x5)) 16 le_rfl := rfl

/-- The block of query gradients the run leaves. -/
theorem out_dq : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 = View.canon (tilePieces (runBufs c arg2 harg2 arg3 harg3 arg4 harg4 arg5 harg5 arg6 harg6 arg7 harg7 arg12 arg13 arg14 arg15 arg16 arg17 x0 x1 x2 x3 x4 x5) 8 le_rfl) :=
  View.read_writes_junk_eq_canon _ _

/-- The block of key gradients. -/
theorem out_dk : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5
    = View.canon (Val := Elt Ideal) (e := .bf16) [⟨wholeRect, castBlock (arg18.view.readCov (stepPieces arg18.view (dkPay (runBufs c arg2 harg2 arg3 harg3 arg4 harg4 arg5 harg5 arg6 harg6 arg7 harg7 arg12 arg13 arg14 arg15 arg16 arg17 x0 x1 x2 x3 x4 x5)) 16 le_rfl)
        wholeRect.toLoadRect)⟩] := by
  rw [← dk_pieces (arg18 := arg18)]
  exact View.read_writes_junk_eq_canon _ _

/-- The block of value gradients. -/
theorem out_dv : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5
    = View.canon (Val := Elt Ideal) (e := .bf16) [⟨wholeRect, castBlock (arg19.view.readCov (stepPieces arg19.view (dvPay (runBufs c arg2 harg2 arg3 harg3 arg4 harg4 arg5 harg5 arg6 harg6 arg7 harg7 arg12 arg13 arg14 arg15 arg16 arg17 x0 x1 x2 x3 x4 x5)) 16 le_rfl)
        wholeRect.toLoadRect)⟩] := by
  rw [← dv_pieces (arg19 := arg19)]
  exact View.read_writes_junk_eq_canon _ _

/-- The block of gate gradients. -/
theorem out_dc : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5
    = View.canon (Val := Elt Ideal) (e := .f32) [⟨wholeRect, arg20.view.readCov (stepPieces arg20.view (dcPay (runBufs c arg2 harg2 arg3 harg3 arg4 harg4 arg5 harg5 arg6 harg6 arg7 harg7 arg12 arg13 arg14 arg15 arg16 arg17 x0 x1 x2 x3 x4 x5)) 16 le_rfl) wholeRect.toLoadRect⟩] := by
  rw [← dc_pieces (arg20 := arg20)]
  exact View.read_writes_junk_eq_canon _ _

end Run

end Cert.KernelIdeal.Fox

end
-- ==== Proof.Fox.Contents.lean ====
/-
  What the accumulators, the scratch arrays and the stored blocks hold, element by element.
-/
module

public import proofs.«01_k».proof.Proof.Fox.Pieces
public import Idealize.ShloMosaic.Lib.Pipeline.ValueKit.Basic

@[expose] public section

set_option maxRecDepth 16384

noncomputable section

namespace Cert.KernelIdeal.Fox

open Cert.KernelIdeal Cert.KernelIdeal.Gen Idealize.ShloMosaic Idealize.ShloMosaic.TcCoe
open scoped BigOperators

/-- An index of the first `K` rows of a block, as the block's index. -/
theorem emb_row (K : ℕ) (hK : K ≤ 2048) (s : Fin K) (l : Fin 128) :
    (Rect.unit (s := S2048x128) ![0, 0] (⟨2, ![K, 128]⟩ : Shape).size (inbRow K hK)).emb (ix2 s l) = ix2 (⟨s.val, by omega⟩ : Fin 2048) l := by
  funext a
  apply Fin.ext
  match a with
  | ⟨0, _⟩ => show 0 + 1 * s.val = s.val; omega
  | ⟨1, _⟩ => show 0 + 1 * l.val = l.val; omega

/-- An index of a tile of 256 rows of a block, as the block's index. -/
theorem emb_tile (r0 : ℕ) (hr : r0 + 256 ≤ 2048) (t : Fin 256) (l : Fin 128) :
    (Rect.unit (s := S2048x128) ![r0, 0] (⟨2, ![256, 128]⟩ : Shape).size (inbTile r0 hr)).emb (ix2 t l) = ix2 (⟨r0 + t.val, by omega⟩ : Fin 2048) l := by
  funext a
  apply Fin.ext
  match a with
  | ⟨0, _⟩ => show r0 + 1 * t.val = r0 + t.val; omega
  | ⟨1, _⟩ => show 0 + 1 * l.val = l.val; omega

/-- An index of some rows of one head, as the scratch array's index. -/
theorem emb_head (e r0 K : ℕ) (he : e < 2) (hr : r0 + K ≤ 2048) (u : Fin 1) (s : Fin K) (l : Fin 128) :
    (Rect.unit (s := S2x2048x128) ![e, r0, 0] (⟨3, ![1, K, 128]⟩ : Shape).size (inbHead e r0 K he hr)).emb (ix3 u s l)
      = ix3 (⟨e, he⟩ : Fin 2) (⟨r0 + s.val, by omega⟩ : Fin 2048) l := by
  funext a
  apply Fin.ext
  match a with
  | ⟨0, _⟩ => show e + 1 * u.val = e; omega
  | ⟨1, _⟩ => show r0 + 1 * s.val = r0 + s.val; omega
  | ⟨2, _⟩ => show 0 + 1 * l.val = l.val; omega

/-- An accumulator after `n` steps that each add `g` on their own rows: the sum of what they added. -/
theorem canon_stepPieces (v : View sig .tc .vmem S2048x128 .f32)
    (pay : ∀ i e : ℕ, i < 8 → e < 2 → Vec Ideal ⟨2, ![256 * (i + 1), 128]⟩ .f32 → FVec Ideal ⟨2, ![256 * (i + 1), 128]⟩ .f32)
    (s : Fin 2048) (l : Fin 128) (g : ℕ → ℕ → EReal)
    (hg : ∀ i e hi he old (hs : s.val < 256 * (i + 1)), pay i e hi he old (ix2 ⟨s.val, hs⟩ l) = (old (ix2 ⟨s.val, hs⟩ l) : EReal) + g i e) :
    ∀ (n : ℕ) (hn : n ≤ 16),
    View.canon (stepPieces v pay n hn) (ix2 s l) = ∑ j ∈ Finset.range n, if s.val < 256 * (j / 2 + 1) then g (j / 2) (j % 2) else 0
  | 0, _ => by
    show View.canon (Val := Elt Ideal) (e := .f32) [_] _ = _
    rw [View.canon_cons_unit_lit _ _ _ (by decide)]
    exact Ideal.ofBits_zero_f32
  | j + 1, hn => by
    rw [Finset.sum_range_succ, ← canon_stepPieces v pay s l g hg j (by omega)]
    have hK : 256 * (j / 2 + 1) ≤ 2048 := by omega
    by_cases hs : s.val < 256 * (j / 2 + 1)
    · rw [if_pos hs]
      have e := emb_row (256 * (j / 2 + 1)) hK ⟨s.val, hs⟩ l
      have e' : ix2 s l = (Rect.unit (s := S2048x128) ![0, 0] (⟨2, ![256 * (j / 2 + 1), 128]⟩ : Shape).size (inbRow _ hK)).emb (ix2 ⟨s.val, hs⟩ l) := e.symm
      refine (congrArg _ e').trans ((View.canon_cons_emb _ _ _ _).trans ((hg _ _ _ _ _ hs).trans ?_))
      rw [View.readCov_eq_canon']
      exact congrArg (fun x => View.canon (stepPieces v pay j (by omega)) x + g (j / 2) (j % 2)) e
    · rw [if_neg hs, add_zero]
      refine View.canon_cons_of_not_mem _ _ fun h => hs ?_
      have := (Rect.mem_set_unit (inb := inbRow _ hK).mp h 0).2
      have h2 : s.val < 0 + 256 * (j / 2 + 1) := this
      omega

/-- The block of query gradients: row `t` was stored by tile `t / 256`. -/
theorem canon_tilePieces (B : Bufs) (t : Fin 2048) (l : Fin 128) : ∀ (n : ℕ) (hn : n ≤ 8) (ht : t.val < 256 * n),
    View.canon (tilePieces B n hn) (ix2 t l) = dqStore B (t.val / 256) (by omega) (ix2 (⟨t.val % 256, by omega⟩ : Fin 256) l)
  | 0, _, ht => absurd ht (by omega)
  | j + 1, hn, ht => by
    by_cases hs : 256 * j ≤ t.val
    · obtain ⟨q, hq, hj⟩ : ∃ q, q < 256 ∧ t.val = 256 * j + q := ⟨t.val - 256 * j, by omega, by omega⟩
      have e := emb_tile (256 * j) (by omega) ⟨q, hq⟩ l
      have e' : ix2 t l = (Rect.unit (s := S2048x128) ![256 * j, 0] (⟨2, ![256, 128]⟩ : Shape).size (inbTile _ (by omega))).emb (ix2 ⟨q, hq⟩ l) := by
        rw [e]; congr 1; exact Fin.ext hj
      refine (congrArg _ e').trans ((View.canon_cons_emb _ _ _ _).trans ?_)
      have key : ∀ (n r : ℕ) (hn : n < 8) (hr : r < 256), n = j → r = q →
          dqStore B j (by omega) (ix2 (⟨q, hq⟩ : Fin 256) l) = dqStore B n hn (ix2 (⟨r, hr⟩ : Fin 256) l) := by
        rintro _ _ _ _ rfl rfl
        rfl
      exact key _ _ _ _ (by omega) (by omega)
    · rw [← canon_tilePieces B t l j (by omega) (by omega)]
      refine View.canon_cons_of_not_mem _ _ fun h => hs ?_
      exact (Rect.mem_set_unit (inb := inbTile _ (by omega)).mp h 0).1

/-- A scratch array stored head by head, read at head `e`. -/
theorem canon_heads (P0 P1 : FVec Ideal S1x2048x128 .bf16) (e : Fin 2) (s : Fin 2048) (l : Fin 128) :
    View.canon (Val := Elt Ideal) (e := .bf16) [⟨Rect.unit (s := S2x2048x128) ![1, 0, 0] S1x2048x128.size inb_S2x2048x128_S1x2048x128_1_0_0, P1⟩,
        ⟨Rect.unit (s := S2x2048x128) ![0, 0, 0] S1x2048x128.size inb_S2x2048x128_S1x2048x128_0_0_0, P0⟩] (ix3 e s l)
      = if e.val = 0 then P0 (ix3 0 s l) else P1 (ix3 0 s l) := by
  by_cases he : e.val = 0
  · rw [if_pos he, View.canon_cons_of_not_mem]
    · have e' := emb_head 0 0 2048 (by omega) (by omega) 0 s l
      have e'' : ix3 e s l = (Rect.unit (s := S2x2048x128) ![0, 0, 0] S1x2048x128.size inb_S2x2048x128_S1x2048x128_0_0_0).emb (ix3 0 s l) := by
        refine Eq.trans ?_ e'.symm
        congr 1
        · exact Fin.ext he
        · exact Fin.ext (by show s.val = 0 + s.val; omega)
      exact (congrArg _ e'').trans (View.canon_cons_emb _ _ _ _)
    · intro h
      have h1 : 1 ≤ e.val := (Rect.mem_set_unit (inb := inb_S2x2048x128_S1x2048x128_1_0_0).mp h 0).1
      omega
  · rw [if_neg he]
    have e' := emb_head 1 0 2048 (by omega) (by omega) 0 s l
    have e'' : ix3 e s l = (Rect.unit (s := S2x2048x128) ![1, 0, 0] S1x2048x128.size inb_S2x2048x128_S1x2048x128_1_0_0).emb (ix3 0 s l) := by
      refine Eq.trans ?_ e'.symm
      congr 1
      · exact Fin.ext (by show e.val = 1; omega)
      · exact Fin.ext (by show s.val = 0 + s.val; omega)
    exact (congrArg _ e'').trans (View.canon_cons_emb _ _ _ _)

/-- Some rows of a head, read from the scratch array's contents. -/
theorem HeadBuf.rd_apply (b : HeadBuf) (e r0 K : ℕ) (he : e < 2) (hr : r0 + K ≤ 2048) (u : Fin 1) (s : Fin K) (l : Fin 128) :
    b.rd e r0 K he hr (ix3 u s l) = View.canon b.stored (ix3 (⟨e, he⟩ : Fin 2) (⟨r0 + s.val, by omega⟩ : Fin 2048) l) := by
  unfold HeadBuf.rd
  rw [View.readCov_eq_canon']
  exact congrArg (View.canon b.stored) (emb_head e r0 K he hr u s l)

/-- A block stored whole is what was stored. -/
theorem canon_whole {e : EltTy} (w : Vec Ideal S2048x128 e) :
    View.canon (Val := Elt Ideal) (e := e) [⟨wholeRect, w⟩] = w := View.canon_cons_unit_lit _ _ _ (by decide)

/-- An accumulator read back whole is its contents. -/
theorem readCov_whole (v : View sig .tc .vmem S2048x128 .f32) (L : List (View.Piece (Elt Ideal) S2048x128 .f32)) (s : Fin 2048) (l : Fin 128) :
    v.readCov L wholeRect.toLoadRect (ix2 s l) = View.canon L (ix2 s l) := by
  rw [View.readCov_eq_canon']
  exact congrArg (View.canon L) (emb_row 2048 le_rfl s l)

end Cert.KernelIdeal.Fox

end
-- ==== Proof.Fox.Buffers.lean ====
/-
  What the body puts into its scratch arrays, element by element: a head's lanes of the operands, and the two arrays of
  the scores' product, whose spare lanes carry the gate terms.
-/
module

public import proofs.«01_k».proof.Proof.Fox.Contents
public import Idealize.ShloMosaic.Lib.WholeRead

@[expose] public section

set_option maxRecDepth 16384

noncomputable section

namespace Cert.KernelIdeal.Fox

open Cert.KernelIdeal Cert.KernelIdeal.Gen Idealize.ShloMosaic Idealize.ShloMosaic.TcCoe
open scoped BigOperators

/-- A lane's weight in head `e`: one on the head's 64 lanes, zero off them. -/
def hm (e : ℕ) (l : Fin 128) : EReal := if l.val / 64 = e then 1 else 0

theorem pay1_apply (l : Fin 128) : k0_pay1 (ix2 0 l) = 1#1 ↔ l.val / 64 = 0 := by
  revert l
  decide +kernel

theorem pay1_not_apply (l : Fin 128) : xori k0_pay1 (constantI S1x128 1 1#1) (ix2 0 l) = 1#1 ↔ l.val / 64 = 1 := by
  revert l
  decide +kernel

theorem headMask_apply (e : ℕ) (he : e < 2) (l : Fin 128) : headMask e (ix2 0 l) = 1#1 ↔ l.val / 64 = e := by
  obtain rfl | rfl : e = 0 ∨ e = 1 := by omega
  · exact pay1_apply l
  · exact pay1_not_apply l

/-- A one-bit word widened and read as a number. -/
theorem sitofp_word (w : BitVec 1) : FloatOps.sitofp (F := Ideal) .f32 (BitVec.setWidth 32 w) = if w = 1#1 then (1 : EReal) else 0 := by
  show (((BitVec.setWidth 32 w).toInt : ℝ) : EReal) = _
  obtain rfl | rfl : w = 0#1 ∨ w = 1#1 := by revert w; decide
  all_goals simp

theorem pay2_apply (l : Fin 128) : k0_pay2 (F := Ideal) (ix2 0 l) = hm 0 l := by
  unfold k0_pay2
  pointwise
  by_cases h : k0_pay1 (ix2 0 l) = 1#1
  · rw [h, hm, if_pos ((pay1_apply l).mp h)]
    exact sitofp_word _
  · have h0 : k0_pay1 (ix2 0 l) = 0#1 := by
      generalize k0_pay1 (ix2 0 l) = w at *
      revert w; decide
    rw [h0, hm, if_neg (fun h' => h ((pay1_apply l).mpr h'))]
    exact sitofp_word _

theorem pay3_apply (l : Fin 128) : k0_pay3 (F := Ideal) (ix2 0 l) = hm 1 l := by
  unfold k0_pay3
  pointwise
  by_cases h : IntOp.xori (k0_pay1 (ix2 0 l)) 1#1 = 1#1
  · rw [h, hm, if_pos ((pay1_not_apply l).mp h)]
    exact sitofp_word _
  · have h0 : IntOp.xori (k0_pay1 (ix2 0 l)) 1#1 = 0#1 := by
      generalize IntOp.xori (k0_pay1 (ix2 0 l)) 1#1 = w at *
      revert w; decide
    rw [h0, hm, if_neg (fun h' => h ((pay1_not_apply l).mpr h'))]
    exact sitofp_word _

/-- A selection on one lane's number. -/
theorem select_lane {α : Type} (l : Fin 128) (n : ℕ) (hn : n < 2 ^ 32) (x y : α) :
    Scalar.select (IntOp.cmpi .eq (BitVec.ofNat 32 l.val) (BitVec.ofNat 32 n)) x y = if l.val = n then x else y := by
  unfold Scalar.select
  refine if_congr ?_ rfl rfl
  rw [show (1 : BitVec 1) = 1#1 from rfl, IntOp.cmpi_eq]
  constructor
  · intro h
    have := congrArg BitVec.toNat h
    rw [BitVec.toNat_ofNat, BitVec.toNat_ofNat, Nat.mod_eq_of_lt (by omega), Nat.mod_eq_of_lt hn] at this
    exact this
  · intro h
    rw [h]

/-- Six values on six consecutive lanes from `off` on, zero elsewhere. -/
def spare (off : ℕ) (c0 c1 c2 c3 c4 c5 : EReal) (l : Fin 128) : EReal :=
  if l.val = off + 5 then c5 else if l.val = off + 4 then c4 else if l.val = off + 3 then c3 else
    if l.val = off + 2 then c2 else if l.val = off + 1 then c1 else if l.val = off then c0 else 0

/-- The three parts a value is split into. -/
def hiP (d : EReal) : EReal := d
def midP (d : EReal) : EReal := d - d
def loP (d : EReal) : EReal := d - d - (d - d)

/-- An input block as the body reads it. -/
def inp {e : EltTy} (m : Memref sig .tc .vmem S2048x128 e) (hm : m.IsWhole) (x : Vec Ideal S2048x128 e) : Vec Ideal S2048x128 e :=
  View.readAt (Elt Ideal) m.view wholeRect.toLoadRect (hm.unread x)

theorem inp_eq {e : EltTy} (m : Memref sig .tc .vmem S2048x128 e) (hm : m.IsWhole) (x : Vec Ideal S2048x128 e) : inp m hm x = x := by
  funext y
  refine (Memref.IsWhole.readAt_unread hm x wholeRect.toLoadRect y).trans (congrArg x (funext fun a => Fin.ext ?_))
  match a with
  | ⟨0, _⟩ => show 0 + 1 * (y 0).val = (y 0).val; omega
  | ⟨1, _⟩ => show 0 + 1 * (y 1).val = (y 1).val; omega

section Values

variable (c : Dev nD) (m : Memref sig .tc .vmem S2048x128 .bf16) (hw : m.IsWhole) (x : Vec Ideal S2048x128 .bf16)
  (m6 m7 : Memref sig .tc .vmem S2048x128 .f32) (h6 : m6.IsWhole) (h7 : m7.IsWhole) (x4 x5 : Vec Ideal S2048x128 .f32)
  (mq : Memref sig .tc .vmem S2x2048x128 .bf16) (e : Fin 2) (s : Fin 2048) (l : Fin 128)

/-- Two heads' payloads that are each the operand on the head's lanes. -/
theorem heads_masked (P0 P1 : FVec Ideal S1x2048x128 .bf16) (h0 : ∀ s l, P0 (ix3 0 s l) = (x (ix2 s l) : EReal) * hm 0 l)
    (h1 : ∀ s l, P1 (ix3 0 s l) = (x (ix2 s l) : EReal) * hm 1 l) :
    (if e.val = 0 then P0 (ix3 0 s l) else P1 (ix3 0 s l)) = (x (ix2 s l) : EReal) * hm e.val l := by
  by_cases he : e.val = 0
  · rw [if_pos he, h0, he]
  · rw [if_neg he, h1, show e.val = 1 by omega]

theorem qp_val : View.canon (kernelRun0_A.sl.HS2_2 (F := Ideal) c m hw x) (ix3 e s l) = (x (ix2 s l) : EReal) * hm e.val l := by
  refine (canon_heads (k0_pay8 (inp m hw x)) (k0_pay25 k0_pay3 (inp m hw x)) e s l).trans ?_
  rw [inp_eq]
  refine heads_masked x e s l _ _ (fun s l => ?_) (fun s l => ?_)
  · pointwise [k0_pay8, pay2_apply]
  · pointwise [k0_pay25, pay3_apply]

theorem kp_val : View.canon (kernelRun0_A.sl.HS3_2 (F := Ideal) c m hw x) (ix3 e s l) = (x (ix2 s l) : EReal) * hm e.val l := by
  refine (canon_heads (k0_pay9 (inp m hw x)) (k0_pay26 k0_pay3 (inp m hw x)) e s l).trans ?_
  rw [inp_eq]
  refine heads_masked x e s l _ _ (fun s l => ?_) (fun s l => ?_)
  · pointwise [k0_pay9, pay2_apply]
  · pointwise [k0_pay26, pay3_apply]

theorem vp_val : View.canon (kernelRun0_A.sl.HS4_2 (F := Ideal) c m hw x) (ix3 e s l) = (x (ix2 s l) : EReal) * hm e.val l := by
  refine (canon_heads (k0_pay22 k0_pay2 (inp m hw x)) (k0_pay40 k0_pay3 (inp m hw x)) e s l).trans ?_
  rw [inp_eq]
  refine heads_masked x e s l _ _ (fun s l => ?_) (fun s l => ?_)
  · pointwise [k0_pay22, pay2_apply]
  · pointwise [k0_pay40, pay3_apply]

theorem dp_val : View.canon (kernelRun0_A.sl.HS5_2 (F := Ideal) c m hw x) (ix3 e s l) = (x (ix2 s l) : EReal) * hm e.val l := by
  refine (canon_heads (k0_pay11 (k0_pay10 (inp m hw x))) (k0_pay27 k0_pay3 (inp m hw x)) e s l).trans ?_
  rw [inp_eq]
  refine heads_masked x e s l _ _ (fun s l => ?_) (fun s l => ?_)
  · pointwise [k0_pay11, k0_pay10, pay2_apply]
  · pointwise [k0_pay27, pay3_apply]

/-- A whole head read back from a scratch array whose two heads were stored. -/
theorem readBack (L : List (View.Piece (Elt Ideal) S2x2048x128 .bf16)) (e' : ℕ) (he : e' < 2) (inb) :
    mq.view.readCov L (Rect.unit (s := S2x2048x128) ![e', 0, 0] S1x2048x128.size inb).toLoadRect (ix3 0 s l)
      = View.canon L (ix3 (⟨e', he⟩ : Fin 2) s l) := by
  refine (HeadBuf.rd_apply ⟨mq.view, L⟩ e' 0 2048 he (by omega) 0 s l).trans (congrArg (View.canon L) ?_)
  congr 1
  exact Fin.ext (by show 0 + s.val = s.val; omega)

/-- Head 0 stored alone, read back. -/
theorem readBack0 (P0 : FVec Ideal S1x2048x128 .bf16) :
    mq.view.readCov (Val := Elt Ideal) [⟨Rect.unit (s := S2x2048x128) ![0, 0, 0] S1x2048x128.size inb_S2x2048x128_S1x2048x128_0_0_0, P0⟩]
        (Rect.unit (s := S2x2048x128) ![0, 0, 0] S1x2048x128.size inb_S2x2048x128_S1x2048x128_0_0_0).toLoadRect (ix3 0 s l) = P0 (ix3 0 s l) := by
  rw [View.readCov_eq_canon']
  have e' := emb_head 0 0 2048 (by omega) (by omega) 0 s l
  have e1 := View.canon_cons_emb (Val := Elt Ideal) (e := .bf16)
    (Rect.unit (s := S2x2048x128) ![0, 0, 0] (⟨3, ![1, 2048, 128]⟩ : Shape).size (inbHead 0 0 2048 (by omega) (by omega))) P0 [] (ix3 0 s l)
  rw [e'] at e1
  exact (congrArg (View.canon (Val := Elt Ideal) (e := .bf16)
    [⟨Rect.unit (s := S2x2048x128) ![0, 0, 0] S1x2048x128.size inb_S2x2048x128_S1x2048x128_0_0_0, P0⟩]) e').trans e1

/-- The query side of the scores: the head's queries scaled by an eighth, and the gate less the row's normaliser on the
spare lanes. -/
def qaVal (e : ℕ) (s : Fin 2048) (l : Fin 128) : EReal :=
  (x (ix2 s l) : EReal) * hm e l * Ideal.ofBits .bf16 0x3E00#16
    + spare (64 * (1 - e)) (hiP (x5 (ix2 s ⟨64 * e % 128, by omega⟩) - x4 (ix2 s ⟨64 * e % 128, by omega⟩)))
        (midP (x5 (ix2 s ⟨64 * e % 128, by omega⟩) - x4 (ix2 s ⟨64 * e % 128, by omega⟩)))
        (loP (x5 (ix2 s ⟨64 * e % 128, by omega⟩) - x4 (ix2 s ⟨64 * e % 128, by omega⟩))) 1 1 1 l

/-- The key side of the scores: the head's keys, and minus the gate on the spare lanes. -/
def kaVal (e : ℕ) (s : Fin 2048) (l : Fin 128) : EReal :=
  (x (ix2 s l) : EReal) * hm e l
    + spare (64 * (1 - e)) 1 1 1 (hiP (0 - x5 (ix2 s ⟨64 * e % 128, by omega⟩))) (midP (0 - x5 (ix2 s ⟨64 * e % 128, by omega⟩)))
        (loP (0 - x5 (ix2 s ⟨64 * e % 128, by omega⟩))) l

theorem qa_val : View.canon (kernelRun0_A.sl.HS0_2 (F := Ideal) c m hw m6 h6 m7 h7 mq x x4 x5) (ix3 e s l) = qaVal x x4 x5 e.val s l := by
  refine (canon_heads (k0_pay14 (k0_pay12 (kernelRun0_A.sl.v38 c m hw mq x)) (iota Kind.tc S1x128 32 [1] iota_S1x128_d1_w32)
      (k0_pay13 (k0_pay6 (inp m7 h7 x5)) (k0_pay7 (inp m6 h6 x4))) 69#32)
    (k0_pay30 (k0_pay28 (kernelRun0_A.sl.v175 c m hw mq x)) (iota Kind.tc S1x128 32 [1] iota_S1x128_d1_w32)
      (k0_pay29 (k0_pay23 (k0_pay4 (inp m7 h7 x5))) (k0_pay24 (k0_pay5 (inp m6 h6 x4))))) e s l).trans ?_
  rw [inp_eq, inp_eq]
  by_cases he : e.val = 0
  · rw [if_pos he, he]
    have hv : kernelRun0_A.sl.v38 (F := Ideal) c m hw mq x (ix3 0 s l) = (x (ix2 s l) : EReal) * hm 0 l := by
      refine (readBack0 mq s l (k0_pay8 (inp m hw x))).trans ?_
      rw [inp_eq]
      pointwise [k0_pay8, pay2_apply]
    unfold qaVal spare hiP midP loP
    pointwise [k0_pay14, k0_pay12, k0_pay13, k0_pay6, k0_pay7, k0_pay4, k0_pay5]
    simp only [hv, select_lane l 64 (by norm_num), select_lane l 65 (by norm_num), select_lane l 66 (by norm_num), select_lane l 67 (by norm_num), select_lane l 68 (by norm_num), select_lane l 69 (by norm_num)]
  · rw [if_neg he, show e.val = 1 by omega]
    have hv : kernelRun0_A.sl.v175 (F := Ideal) c m hw mq x (ix3 0 s l) = (x (ix2 s l) : EReal) * hm 1 l :=
      (readBack mq s l _ 1 (by omega) _).trans (qp_val c m hw x 1 s l)
    unfold qaVal spare hiP midP loP
    pointwise [k0_pay30, k0_pay28, k0_pay29, k0_pay23, k0_pay24, k0_pay4, k0_pay5]
    simp only [hv, select_lane l 0 (by norm_num), select_lane l 1 (by norm_num), select_lane l 2 (by norm_num), select_lane l 3 (by norm_num), select_lane l 4 (by norm_num), select_lane l 5 (by norm_num)]

theorem ka_val : View.canon (kernelRun0_A.sl.HS1_2 (F := Ideal) c m hw m7 h7 mq x x5) (ix3 e s l) = kaVal x x5 e.val s l := by
  refine (canon_heads (k0_pay21 (k0_pay15 (kernelRun0_A.sl.v92 c m hw mq x)) (k0_pay17 (k0_pay6 (inp m7 h7 x5)))
      (k0_pay18 (k0_pay6 (inp m7 h7 x5))) (k0_pay19 (k0_pay6 (inp m7 h7 x5))) (iota Kind.tc S1x128 32 [1] iota_S1x128_d1_w32) k0_pay20)
    (k0_pay39 (k0_pay31 (kernelRun0_A.sl.v229 c m hw mq x)) (k0_pay33 (k0_pay23 (k0_pay4 (inp m7 h7 x5))))
      (k0_pay34 (k0_pay23 (k0_pay4 (inp m7 h7 x5)))) (k0_pay35 (k0_pay23 (k0_pay4 (inp m7 h7 x5)))) (iota Kind.tc S1x128 32 [1] iota_S1x128_d1_w32)
      k0_pay36 k0_pay37 k0_pay38) e s l).trans ?_
  rw [inp_eq]
  by_cases he : e.val = 0
  · rw [if_pos he, he]
    have hv : kernelRun0_A.sl.v92 (F := Ideal) c m hw mq x (ix3 0 s l) = (x (ix2 s l) : EReal) * hm 0 l := by
      refine (readBack0 mq s l (k0_pay9 (inp m hw x))).trans ?_
      rw [inp_eq]
      pointwise [k0_pay9, pay2_apply]
    unfold kaVal spare hiP midP loP
    pointwise [k0_pay21, k0_pay15, k0_pay17, k0_pay18, k0_pay19, k0_pay20, k0_pay16, k0_pay6, k0_pay4]
    simp only [hv, select_lane l 64 (by norm_num), select_lane l 65 (by norm_num), select_lane l 66 (by norm_num), select_lane l 67 (by norm_num), select_lane l 68 (by norm_num), select_lane l 69 (by norm_num)]
  · rw [if_neg he, show e.val = 1 by omega]
    have hv : kernelRun0_A.sl.v229 (F := Ideal) c m hw mq x (ix3 0 s l) = (x (ix2 s l) : EReal) * hm 1 l :=
      (readBack mq s l _ 1 (by omega) _).trans (kp_val c m hw x 1 s l)
    unfold kaVal spare hiP midP loP
    pointwise [k0_pay39, k0_pay31, k0_pay33, k0_pay34, k0_pay35, k0_pay32, k0_pay36, k0_pay37, k0_pay38, k0_pay23, k0_pay4]
    simp only [hv, select_lane l 0 (by norm_num), select_lane l 1 (by norm_num), select_lane l 2 (by norm_num), select_lane l 3 (by norm_num), select_lane l 4 (by norm_num), select_lane l 5 (by norm_num)]

end Values

end Cert.KernelIdeal.Fox

end
-- ==== Proof.Fox.Block.lean ====
/-
  What the kernel's body leaves in its four result blocks when its scratch arrays hold real numbers: the value, key,
  query and gate gradients of two heads as real sums over all the rows.
-/
module

public import proofs.«01_k».proof.Proof.Fox.Contents
public import proofs.«01_k».proof.Proof.Fox.Buffers
public import proofs.«01_k».proof.Proof.Fox.Coe

@[expose] public section

set_option maxRecDepth 16384

noncomputable section

namespace Cert.KernelIdeal.Fox

open Cert.KernelIdeal Cert.KernelIdeal.Gen Idealize.ShloMosaic Idealize.ShloMosaic.TcCoe
open Cert.Fox
open scoped BigOperators

/-- The scratch arrays' contents as real numbers: array, head, row, lane. -/
structure Reals where
  (qa ka qp kp vp dp : ℕ → ℕ → Fin 128 → ℝ)

/-- The scratch arrays hold these numbers. -/
structure Holds (B : Bufs) (R : Reals) : Prop where
  qa : ∀ (e : Fin 2) (s : Fin 2048) (l : Fin 128), View.canon B.qa.stored (ix3 e s l) = ((R.qa e.val s.val l : ℝ) : EReal)
  ka : ∀ (e : Fin 2) (s : Fin 2048) (l : Fin 128), View.canon B.ka.stored (ix3 e s l) = ((R.ka e.val s.val l : ℝ) : EReal)
  qp : ∀ (e : Fin 2) (s : Fin 2048) (l : Fin 128), View.canon B.qp.stored (ix3 e s l) = ((R.qp e.val s.val l : ℝ) : EReal)
  kp : ∀ (e : Fin 2) (s : Fin 2048) (l : Fin 128), View.canon B.kp.stored (ix3 e s l) = ((R.kp e.val s.val l : ℝ) : EReal)
  vp : ∀ (e : Fin 2) (s : Fin 2048) (l : Fin 128), View.canon B.vp.stored (ix3 e s l) = ((R.vp e.val s.val l : ℝ) : EReal)
  dp : ∀ (e : Fin 2) (s : Fin 2048) (l : Fin 128), View.canon B.dp.stored (ix3 e s l) = ((R.dp e.val s.val l : ℝ) : EReal)

namespace Reals

variable (R : Reals)

/-- The weight of key row `s` for query row `t`, in head `e`. -/
def pt (e s t : ℕ) : ℝ := if s ≤ t then Real.exp (∑ l : Fin 128, R.ka e s l * R.qa e t l) else 0

/-- The gradient of that weight. -/
def dpt (e s t : ℕ) : ℝ := ∑ l : Fin 128, R.vp e s l * R.dp e t l

/-- The mean of the weights' gradients over the key rows. -/
def mean (e t : ℕ) : ℝ := (∑ s ∈ Finset.range 2048, R.pt e s t * R.dpt e s t) / ∑ s ∈ Finset.range 2048, R.pt e s t

/-- The gradient of the score. -/
def dst (e s t : ℕ) : ℝ := R.pt e s t * (R.dpt e s t - R.mean e t)

theorem pt_of_lt {e s t : ℕ} (h : t < s) : R.pt e s t = 0 := if_neg (by omega)

theorem dst_of_lt {e s t : ℕ} (h : t < s) : R.dst e s t = 0 := by rw [dst, R.pt_of_lt h, zero_mul]

theorem pt_nonneg (e s t : ℕ) : 0 ≤ R.pt e s t := by
  unfold pt
  split
  · exact (Real.exp_pos _).le
  · exact le_rfl

theorem sum_pt_pos (e t n : ℕ) (h : t < n) : 0 < ∑ s ∈ Finset.range n, R.pt e s t := by
  refine Finset.sum_pos' (fun s _ => R.pt_nonneg e s t) ⟨t, Finset.mem_range.mpr h, ?_⟩
  rw [pt, if_pos le_rfl]
  exact Real.exp_pos _

/-- A sum over the first `n` key rows that ends past the query row is the sum over all of them. -/
theorem sum_rows (f : ℕ → ℝ) (t n : ℕ) (hf : ∀ s, t < s → f s = 0) (hn : t < n) (hn' : n ≤ 2048) :
    ∑ s ∈ Finset.range n, f s = ∑ s ∈ Finset.range 2048, f s := by
  refine Finset.sum_subset (fun s hs => Finset.mem_range.mpr (by have := Finset.mem_range.mp hs; omega)) fun s _ hs => hf s ?_
  have : ¬ s < n := fun h => hs (Finset.mem_range.mpr h)
  omega

end Reals

/-- A sum over `n` tiles of 256 rows. -/
theorem sum_tiles (f : ℕ → ℝ) : ∀ n : ℕ, ∑ t ∈ Finset.range (256 * n), f t = ∑ i ∈ Finset.range n, ∑ t ∈ Finset.range 256, f (256 * i + t)
  | 0 => by simp
  | n + 1 => by rw [Nat.mul_succ, Finset.sum_range_add, sum_tiles f n, Finset.sum_range_succ _ n]

/-- The sixteen steps of an accumulator whose steps add `g`, nothing past their rows: both heads' sums over all the tiles. -/
theorem sum_steps (s : ℕ) (g : ℕ → ℕ → ℝ) (hg : ∀ i e, 256 * (i + 1) ≤ s → g i e = 0) :
    (∑ j ∈ Finset.range 16, if s < 256 * (j / 2 + 1) then ((g (j / 2) (j % 2) : ℝ) : EReal) else 0)
      = ((∑ e ∈ Finset.range 2, ∑ i ∈ Finset.range 8, g i e : ℝ) : EReal) := by
  have h1 : ∀ j ∈ Finset.range 16, (if s < 256 * (j / 2 + 1) then ((g (j / 2) (j % 2) : ℝ) : EReal) else 0) = ((g (j / 2) (j % 2) : ℝ) : EReal) := by
    intro j _
    split
    · rfl
    · rw [hg _ _ (by omega)]; rfl
  rw [Finset.sum_congr rfl h1]
  push_cast
  simp only [Finset.sum_range_succ, Finset.sum_range_zero]
  norm_num
  abel

variable {B : Bufs} {R : Reals} (H : Holds B R)
include H

theorem ptT_apply (i e : ℕ) (hi : i < 8) (he : e < 2) (s : Fin (256 * (i + 1))) (t : Fin 256) :
    ptT B i e hi he (ix2 s t) = ((R.pt e s.val (256 * i + t.val) : ℝ) : EReal) := by
  have hs := s.isLt
  unfold ptT Reals.pt
  rw [ptG_apply _ _ (by omega) (by omega)]
  split
  · have h1 : ∀ l : Fin 128, ((B.ka.rd e 0 (256 * (i + 1)) he (by omega) (ix3 0 s l) : EReal) * B.qa.rd e (256 * i) 256 he (by omega) (ix3 0 t l))
        = ((R.ka e s.val l * R.qa e (256 * i + t.val) l : ℝ) : EReal) := fun l => by
      rw [HeadBuf.rd_apply, HeadBuf.rd_apply, H.ka, H.qa, ← EReal.coe_mul]
      simp only [Nat.zero_add]
    rw [sum_eq_coe fun l _ => h1 l]
    rfl
  · rfl

theorem dptT_apply (i e : ℕ) (hi : i < 8) (he : e < 2) (s : Fin (256 * (i + 1))) (t : Fin 256) :
    dptT B i e hi he (ix2 s t) = ((R.dpt e s.val (256 * i + t.val) : ℝ) : EReal) := by
  have hs := s.isLt
  unfold dptT Reals.dpt
  rw [lanesG_apply]
  have h1 : ∀ l : Fin 128, ((B.vp.rd e 0 (256 * (i + 1)) he (by omega) (ix3 0 s l) : EReal) * B.dp.rd e (256 * i) 256 he (by omega) (ix3 0 t l))
      = ((R.vp e s.val l * R.dp e (256 * i + t.val) l : ℝ) : EReal) := fun l => by
    rw [HeadBuf.rd_apply, HeadBuf.rd_apply, H.vp, H.dp, ← EReal.coe_mul]
    simp only [Nat.zero_add]
  exact sum_eq_coe fun l _ => h1 l

theorem dstT_apply (i e : ℕ) (hi : i < 8) (he : e < 2) (s : Fin (256 * (i + 1))) (t : Fin 256) :
    dstT B i e hi he (ix2 s t) = ((R.dst e s.val (256 * i + t.val) : ℝ) : EReal) := by
  have hs := s.isLt
  have ht := t.isLt
  unfold dstT Reals.dst Reals.mean
  rw [dstG_apply, ptT_apply H, dptT_apply H]
  have h1 : (∑ u : Fin (256 * (i + 1)), (ptT B i e hi he (ix2 u t) * dptT B i e hi he (ix2 u t) : EReal))
      = ((∑ u ∈ Finset.range 2048, R.pt e u (256 * i + t.val) * R.dpt e u (256 * i + t.val) : ℝ) : EReal) := by
    rw [← Reals.sum_rows (fun u => R.pt e u (256 * i + t.val) * R.dpt e u (256 * i + t.val)) (256 * i + t.val) (256 * (i + 1))
      (fun u hu => by rw [R.pt_of_lt hu, zero_mul]) (by omega) (by omega)]
    exact sum_fin_eq_coe fun u => by rw [ptT_apply H, dptT_apply H, EReal.coe_mul]
  have h2 : (∑ u : Fin (256 * (i + 1)), (ptT B i e hi he (ix2 u t) : EReal))
      = ((∑ u ∈ Finset.range 2048, R.pt e u (256 * i + t.val) : ℝ) : EReal) := by
    rw [← Reals.sum_rows (fun u => R.pt e u (256 * i + t.val)) (256 * i + t.val) (256 * (i + 1))
      (fun u hu => R.pt_of_lt hu) (by omega) (by omega)]
    exact sum_fin_eq_coe fun u => ptT_apply H i e hi he u t
  rw [h1, h2]
  rw [div_coe_coe _ (R.sum_pt_pos e (256 * i + t.val) 2048 (by omega)).ne', ← EReal.coe_sub, ← EReal.coe_mul]

/-- What the value gradients' accumulator holds after its sixteen steps. -/
theorem dv_canon (v) (s : Fin 2048) (l : Fin 128) :
    View.canon (stepPieces v (dvPay B) 16 le_rfl) (ix2 s l)
      = ((∑ e ∈ Finset.range 2, ∑ t ∈ Finset.range 2048, R.pt e s.val t * R.dp e t l : ℝ) : EReal) := by
  rw [canon_stepPieces v (dvPay B) s l
    (fun i e => ((∑ t ∈ Finset.range 256, R.pt e s.val (256 * i + t) * R.dp e (256 * i + t) l : ℝ) : EReal)) _ 16 le_rfl,
    sum_steps s.val (fun i e => ∑ t ∈ Finset.range 256, R.pt e s.val (256 * i + t) * R.dp e (256 * i + t) l)]
  · refine congrArg _ (Finset.sum_congr rfl fun e _ => ?_)
    exact (sum_tiles (fun t => R.pt e s.val t * R.dp e t l) 8).symm
  · intro i e h
    refine Finset.sum_eq_zero fun t ht => ?_
    rw [R.pt_of_lt (by have := Finset.mem_range.mp ht; omega), zero_mul]
  · intro i e hi he old hs
    unfold dvPay
    rw [dvG_apply]
    refine congrArg _ (sum_fin_eq_coe fun t => ?_)
    rw [ptT_apply H, HeadBuf.rd_apply, H.dp, EReal.coe_mul]

/-- What the key gradients' accumulator holds after its sixteen steps. -/
theorem dk_canon (v) (s : Fin 2048) (l : Fin 128) :
    View.canon (stepPieces v (dkPay B) 16 le_rfl) (ix2 s l)
      = ((∑ e ∈ Finset.range 2, ∑ t ∈ Finset.range 2048, R.dst e s.val t * R.qp e t l * (1 / 8) : ℝ) : EReal) := by
  rw [canon_stepPieces v (dkPay B) s l
    (fun i e => ((∑ t ∈ Finset.range 256, R.dst e s.val (256 * i + t) * R.qp e (256 * i + t) l * (1 / 8) : ℝ) : EReal)) _ 16 le_rfl,
    sum_steps s.val (fun i e => ∑ t ∈ Finset.range 256, R.dst e s.val (256 * i + t) * R.qp e (256 * i + t) l * (1 / 8))]
  · refine congrArg _ (Finset.sum_congr rfl fun e _ => ?_)
    exact (sum_tiles (fun t => R.dst e s.val t * R.qp e t l * (1 / 8)) 8).symm
  · intro i e h
    refine Finset.sum_eq_zero fun t ht => ?_
    rw [R.dst_of_lt (by have := Finset.mem_range.mp ht; omega), zero_mul, zero_mul]
  · intro i e hi he old hs
    unfold dkPay
    rw [dkG_apply, ← Finset.sum_mul, EReal.coe_mul, eighth_f32]
    refine congrArg _ (congrArg (· * _) (sum_fin_eq_coe fun t => ?_))
    rw [dstT_apply H, HeadBuf.rd_apply, H.qp, EReal.coe_mul]

/-- What the gates' accumulator holds after its sixteen steps. -/
theorem dc_canon (v) (s : Fin 2048) (l : Fin 128) :
    View.canon (stepPieces v (dcPay B) 16 le_rfl) (ix2 s l)
      = ((∑ e ∈ Finset.range 2, if l.val / 64 = e then ∑ t ∈ Finset.range 2048, -R.dst e s.val t else 0 : ℝ) : EReal) := by
  rw [canon_stepPieces v (dcPay B) s l
    (fun i e => ((if l.val / 64 = e then ∑ t ∈ Finset.range 256, -R.dst e s.val (256 * i + t) else 0 : ℝ) : EReal)) _ 16 le_rfl,
    sum_steps s.val (fun i e => if l.val / 64 = e then ∑ t ∈ Finset.range 256, -R.dst e s.val (256 * i + t) else 0)]
  · refine congrArg _ (Finset.sum_congr rfl fun e _ => ?_)
    split
    · exact (sum_tiles (fun t => -R.dst e s.val t) 8).symm
    · simp
  · intro i e h
    split
    · refine Finset.sum_eq_zero fun t ht => ?_
      rw [R.dst_of_lt (by have := Finset.mem_range.mp ht; omega), neg_zero]
    · rfl
  · intro i e hi he old hs
    unfold dcPay
    rw [dcG_apply]
    refine congrArg _ ?_
    by_cases hl : l.val / 64 = e
    · rw [if_pos ((headMask_apply e he l).mpr hl), if_pos hl, sum_fin_eq_coe (f := fun t => R.dst e s.val (256 * i + t)) fun t => dstT_apply H i e hi he ⟨s.val, hs⟩ t,
        ← EReal.coe_zero, ← EReal.coe_sub, Finset.sum_neg_distrib, zero_sub]
    · rw [if_neg fun h => hl ((headMask_apply e he l).mp h), if_neg hl, EReal.coe_zero]

/-- What the query gradients' block holds once its eight tiles are stored. -/
theorem dq_canon (t : Fin 2048) (l : Fin 128) :
    View.canon (tilePieces B 8 le_rfl) (ix2 t l)
      = (((∑ e ∈ Finset.range 2, ∑ s ∈ Finset.range 2048, R.dst e s t.val * R.kp e s l) * (1 / 8) : ℝ) : EReal) := by
  have ht := t.isLt
  have h8 : t.val / 256 < 8 := by omega
  rw [canon_tilePieces B t l 8 le_rfl (by omega)]
  have h1 : ∀ (e : ℕ) (he : e < 2) (u : Fin 256), 256 * (t.val / 256) + u.val = t.val →
      (∑ s : Fin (256 * (t.val / 256 + 1)), (dstT B (t.val / 256) e h8 he (ix2 s u) * B.kp.rd e 0 (256 * (t.val / 256 + 1)) he (by omega) (ix3 0 s l) : EReal))
        = ((∑ s ∈ Finset.range 2048, R.dst e s t.val * R.kp e s l : ℝ) : EReal) := by
    intro e he u hu
    rw [← Reals.sum_rows (fun s => R.dst e s t.val * R.kp e s l) t.val (256 * (t.val / 256 + 1))
      (fun s hs => by rw [R.dst_of_lt hs, zero_mul]) (by omega) (by omega)]
    refine sum_fin_eq_coe fun s => ?_
    rw [dstT_apply H, HeadBuf.rd_apply, H.kp, ← EReal.coe_mul, hu]
    simp only [Nat.zero_add]
  have hu : 256 * (t.val / 256) + t.val % 256 = t.val := by omega
  show (dqTile B (t.val / 256) h8 (ix2 ⟨t.val % 256, _⟩ l) : EReal) * Ideal.ofBits .f32 0x3E000000#32 = _
  unfold dqTile
  rw [dqG_apply, dqG_apply, h1 0 (by omega) _ hu, h1 1 (by omega) _ hu, eighth_f32]
  show (Ideal.ofBits .f32 0x00000000#32 + _ + _ : EReal) * _ = _
  rw [Ideal.ofBits_zero_f32, zero_add, ← EReal.coe_add, ← EReal.coe_mul, Finset.sum_range_succ (fun e => ∑ s ∈ Finset.range 2048, R.dst e s t.val * R.kp e s l), Finset.sum_range_one]

end Cert.KernelIdeal.Fox

end
-- ==== Proof.Fox.Scores.lean ====
/-
  The kernel's blocks when its input blocks hold real numbers: the spare lanes add the gate terms to the scores, the
  masks leave each head its own lanes, and each block of gradients is the two heads' side by side.
-/
module

public import proofs.«01_k».proof.Proof.Fox.Block
public import proofs.«01_k».proof.Proof.Fox.Head

@[expose] public section

set_option maxRecDepth 16384

noncomputable section

namespace Cert.KernelIdeal.Fox

open Cert.KernelIdeal Cert.KernelIdeal.Gen Idealize.ShloMosaic Idealize.ShloMosaic.TcCoe
open Cert.Fox
open scoped BigOperators

/-- One on a head's lanes, zero on the other head's. -/
def hmR (e : ℕ) (l : Fin 128) : ℝ := if l.val / 64 = e then 1 else 0

theorem hm_eq (e : ℕ) (l : Fin 128) : hm e l = ((hmR e l : ℝ) : EReal) := by
  unfold hm hmR
  split <;> rfl

/-- Six numbers on six consecutive lanes, zero elsewhere. -/
def spareR (off : ℕ) (c0 c1 c2 c3 c4 c5 : ℝ) (l : Fin 128) : ℝ :=
  if l.val = off + 5 then c5 else if l.val = off + 4 then c4 else if l.val = off + 3 then c3 else
    if l.val = off + 2 then c2 else if l.val = off + 1 then c1 else if l.val = off then c0 else 0

theorem spare_eq (off : ℕ) (c0 c1 c2 c3 c4 c5 : ℝ) (l : Fin 128) :
    spare off (c0 : EReal) (c1 : EReal) (c2 : EReal) (c3 : EReal) (c4 : EReal) (c5 : EReal) l = ((spareR off c0 c1 c2 c3 c4 c5 l : ℝ) : EReal) := by
  unfold spare spareR
  split_ifs <;> rfl

theorem spareR_mul (off : ℕ) (a0 a1 a2 a3 a4 a5 b0 b1 b2 b3 b4 b5 : ℝ) (l : Fin 128) :
    spareR off a0 a1 a2 a3 a4 a5 l * spareR off b0 b1 b2 b3 b4 b5 l
      = spareR off (a0 * b0) (a1 * b1) (a2 * b2) (a3 * b3) (a4 * b4) (a5 * b5) l := by
  unfold spareR
  split_ifs <;> simp

theorem sum_lane (off : ℕ) (h : off < 128) (c : ℝ) : (∑ l : Fin 128, if l.val = off then c else 0) = c := by
  rw [Finset.sum_congr rfl fun l _ => if_congr (show l.val = off ↔ l = ⟨off, h⟩ from ⟨fun h' => Fin.ext h', fun h' => congrArg Fin.val h'⟩) rfl rfl]
  simp

/-- The spare lanes' total. -/
theorem sum_spareR (off : ℕ) (h : off + 5 < 128) (c0 c1 c2 c3 c4 c5 : ℝ) :
    ∑ l : Fin 128, spareR off c0 c1 c2 c3 c4 c5 l = c0 + c1 + c2 + c3 + c4 + c5 := by
  have h1 : ∀ l : Fin 128, spareR off c0 c1 c2 c3 c4 c5 l
      = (((((if l.val = off then c0 else 0) + if l.val = off + 1 then c1 else 0) + if l.val = off + 2 then c2 else 0)
        + if l.val = off + 3 then c3 else 0) + if l.val = off + 4 then c4 else 0) + if l.val = off + 5 then c5 else 0 := by
    intro l
    unfold spareR
    split_ifs <;> first | omega | simp
  rw [Finset.sum_congr rfl fun l _ => h1 l]
  simp only [Finset.sum_add_distrib]
  rw [sum_lane _ (by omega), sum_lane _ (by omega), sum_lane _ (by omega), sum_lane _ (by omega), sum_lane _ (by omega), sum_lane _ (by omega)]

/-- The spare lanes are the other head's. -/
theorem spareR_mul_hmR (e : ℕ) (he : e < 2) (c0 c1 c2 c3 c4 c5 : ℝ) (l : Fin 128) : spareR (64 * (1 - e)) c0 c1 c2 c3 c4 c5 l * hmR e l = 0 := by
  unfold spareR hmR
  have hl := l.isLt
  by_cases h : l.val / 64 = e
  · rw [if_neg (by omega), if_neg (by omega), if_neg (by omega), if_neg (by omega), if_neg (by omega), if_neg (by omega), zero_mul]
  · rw [if_neg h, mul_zero]

theorem hmR_mul_self (e : ℕ) (l : Fin 128) : hmR e l * hmR e l = hmR e l := by
  unfold hmR
  split <;> simp

/-- A sum over a head's lanes. -/
theorem sum_hmR (e : ℕ) (he : e < 2) (f : ℕ → ℝ) : ∑ l : Fin 128, f l.val * hmR e l = ∑ d ∈ Finset.range 64, f (64 * e + d) := by
  have h0 : ∑ l : Fin 128, f l.val * hmR e l = ∑ l ∈ Finset.range 128, f l * if l / 64 = e then 1 else 0 :=
    Fin.sum_univ_eq_sum_range (fun l => f l * if l / 64 = e then 1 else 0) 128
  rw [h0, show (128 : ℕ) = 64 + 64 from rfl, Finset.sum_range_add]
  have ha : ∀ d ∈ Finset.range 64, f d * (if d / 64 = e then (1 : ℝ) else 0) = if e = 0 then f d else 0 := fun d hd => by
    have := Finset.mem_range.mp hd
    by_cases h : e = 0
    · rw [if_pos h, if_pos (by omega), mul_one]
    · rw [if_neg h, if_neg (by omega), mul_zero]
  have hb : ∀ d ∈ Finset.range 64, f (64 + d) * (if (64 + d) / 64 = e then (1 : ℝ) else 0) = if e = 1 then f (64 + d) else 0 := fun d hd => by
    have := Finset.mem_range.mp hd
    by_cases h : e = 1
    · rw [if_pos h, if_pos (by omega), mul_one]
    · rw [if_neg h, if_neg (by omega), mul_zero]
  rw [Finset.sum_congr rfl ha, Finset.sum_congr rfl hb]
  obtain rfl | rfl : e = 0 ∨ e = 1 := by omega
  · simp
  · simp

/-- Real numbers for the six input blocks, by row and lane. -/
structure Ins where
  (X0 X1 X2 X3 X4 X5 : ℕ → ℕ → ℝ)

namespace Ins

variable (I : Ins)

/-- Head `e` of the pair. -/
def head (e : ℕ) : Head where
  q t d := I.X0 t (64 * e + d)
  k s d := I.X1 s (64 * e + d)
  v s d := I.X2 s (64 * e + d)
  g t d := I.X3 t (64 * e + d)
  c t := I.X5 t (64 * e)

/-- The row normalisers of head `e`. -/
def lse (e : ℕ) : ℕ → ℝ := fun t => I.X4 t (64 * e)

/-- What the scratch arrays hold. -/
def reals : Reals where
  qa e t l := I.X0 t l.val * hmR e l * (1 / 8) + spareR (64 * (1 - e)) (I.X5 t (64 * e) - I.X4 t (64 * e)) 0 0 1 1 1 l
  ka e s l := I.X1 s l.val * hmR e l + spareR (64 * (1 - e)) 1 1 1 (0 - I.X5 s (64 * e)) 0 0 l
  qp e t l := I.X0 t l.val * hmR e l
  kp e s l := I.X1 s l.val * hmR e l
  vp e s l := I.X2 s l.val * hmR e l
  dp e t l := I.X3 t l.val * hmR e l

theorem pt_eq (e : ℕ) (he : e < 2) (s t : ℕ) : I.reals.pt e s t = (I.head e).pt (I.lse e) s t := by
  unfold Reals.pt Head.pt
  refine if_congr Iff.rfl (congrArg Real.exp ?_) rfl
  have h1 : ∀ l : Fin 128, I.reals.ka e s l * I.reals.qa e t l
      = (I.X1 s l.val * (I.X0 t l.val * (1 / 8))) * hmR e l
        + spareR (64 * (1 - e)) (1 * (I.X5 t (64 * e) - I.X4 t (64 * e))) (1 * 0) (1 * 0) ((0 - I.X5 s (64 * e)) * 1) (0 * 1) (0 * 1) l := by
    intro l
    have a := spareR_mul_hmR e he (I.X5 t (64 * e) - I.X4 t (64 * e)) 0 0 1 1 1 l
    have b := spareR_mul_hmR e he 1 1 1 (0 - I.X5 s (64 * e)) 0 0 l
    have d := hmR_mul_self e l
    rw [← spareR_mul]
    unfold reals
    linear_combination (I.X1 s l.val) * a + (I.X0 t l.val * (1 / 8)) * b + (I.X1 s l.val * I.X0 t l.val * (1 / 8)) * d
  rw [Finset.sum_congr rfl fun l _ => h1 l, Finset.sum_add_distrib, sum_spareR _ (by omega),
    sum_hmR e he fun l => I.X1 s l * (I.X0 t l * (1 / 8))]
  unfold head lse
  ring

theorem dpt_eq (e : ℕ) (he : e < 2) (s t : ℕ) : I.reals.dpt e s t = (I.head e).dpt s t := by
  unfold Reals.dpt Head.dpt
  refine Eq.trans (Finset.sum_congr rfl fun l _ => ?_) (sum_hmR e he fun l => I.X2 s l * I.X3 t l)
  have d := hmR_mul_self e l
  unfold reals
  linear_combination (I.X2 s l.val * I.X3 t l.val) * d

theorem dst_eq (e : ℕ) (he : e < 2) (s t : ℕ) : I.reals.dst e s t = (I.head e).dst (I.lse e) s t := by
  unfold Reals.dst Head.dst Reals.mean Head.mean
  simp only [I.pt_eq e he, I.dpt_eq e he]

/-- Of the two heads only the one whose lane it is counts. -/
theorem sum_heads (f : ℕ → ℝ) (l : Fin 128) : ∑ e ∈ Finset.range 2, f e * hmR e l = f (l.val / 64) := by
  have hl := l.isLt
  unfold hmR
  rw [Finset.sum_eq_single (l.val / 64)]
  · rw [if_pos rfl, mul_one]
  · intro e _ he
    rw [if_neg (Ne.symm he), mul_zero]
  · intro h
    exact absurd (Finset.mem_range.mpr (by omega)) h

theorem lane_eq (l : Fin 128) : 64 * (l.val / 64) + l.val % 64 = l.val := by omega

theorem dv_eq (s : ℕ) (l : Fin 128) : (∑ e ∈ Finset.range 2, ∑ t ∈ Finset.range 2048, I.reals.pt e s t * I.reals.dp e t l)
    = (I.head (l.val / 64)).dv (I.lse (l.val / 64)) s (l.val % 64) := by
  refine Eq.trans (Finset.sum_congr rfl fun e he => ?_)
    (sum_heads (fun e => ∑ t ∈ Finset.range 2048, (I.head e).pt (I.lse e) s t * I.X3 t l.val) l)
    |>.trans (Finset.sum_congr rfl fun t _ => ?_)
  · rw [Finset.sum_mul]
    refine Finset.sum_congr rfl fun t _ => ?_
    rw [I.pt_eq e (Finset.mem_range.mp he)]
    unfold reals
    ring
  · exact congrArg _ (congrArg (I.X3 t) (lane_eq l).symm)

theorem dk_eq (s : ℕ) (l : Fin 128) : (∑ e ∈ Finset.range 2, ∑ t ∈ Finset.range 2048, I.reals.dst e s t * I.reals.qp e t l * (1 / 8))
    = (I.head (l.val / 64)).dk (I.lse (l.val / 64)) s (l.val % 64) := by
  refine Eq.trans (Finset.sum_congr rfl fun e he => ?_)
    (sum_heads (fun e => ∑ t ∈ Finset.range 2048, (I.head e).dst (I.lse e) s t * I.X0 t l.val * (1 / 8)) l)
    |>.trans (Finset.sum_congr rfl fun t _ => ?_)
  · rw [Finset.sum_mul]
    refine Finset.sum_congr rfl fun t _ => ?_
    rw [I.dst_eq e (Finset.mem_range.mp he)]
    unfold reals
    ring
  · exact congrArg (fun x => (I.head (l.val / 64)).dst (I.lse (l.val / 64)) s t * x * (1 / 8)) (congrArg (I.X0 t) (lane_eq l).symm)

theorem dq_eq (t : ℕ) (l : Fin 128) : ((∑ e ∈ Finset.range 2, ∑ s ∈ Finset.range 2048, I.reals.dst e s t * I.reals.kp e s l) * (1 / 8))
    = (I.head (l.val / 64)).dq (I.lse (l.val / 64)) t (l.val % 64) := by
  refine congrArg (· * (1 / 8 : ℝ)) (Eq.trans (Finset.sum_congr rfl fun e he => ?_)
    (sum_heads (fun e => ∑ s ∈ Finset.range 2048, (I.head e).dst (I.lse e) s t * I.X1 s l.val) l)
    |>.trans (Finset.sum_congr rfl fun s _ => ?_))
  · rw [Finset.sum_mul]
    refine Finset.sum_congr rfl fun s _ => ?_
    rw [I.dst_eq e (Finset.mem_range.mp he)]
    unfold reals
    ring
  · exact congrArg _ (congrArg (I.X1 s) (lane_eq l).symm)

theorem dc_eq (s : ℕ) (l : Fin 128) : (∑ e ∈ Finset.range 2, if l.val / 64 = e then ∑ t ∈ Finset.range 2048, -I.reals.dst e s t else 0)
    = (I.head (l.val / 64)).dc (I.lse (l.val / 64)) s := by
  refine Eq.trans (Finset.sum_congr rfl fun e he => ?_) (sum_heads (fun e => (I.head e).dc (I.lse e) s) l)
  unfold hmR
  split
  · rw [mul_one]
    exact Finset.sum_congr rfl fun t _ => by rw [I.dst_eq e (Finset.mem_range.mp he)]
  · rw [mul_zero]

end Ins

section Run

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2x2048x128 .bf16) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .bf16) (harg16 : arg16.IsWhole) (arg17 : Memref sig .tc .vmem S2x2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole)
  (x0 x1 x2 x3 : Vec Ideal S2048x128 .bf16) (x4 x5 : Vec Ideal S2048x128 .f32) (I : Ins)

/-- The input blocks hold these numbers. -/
structure InsHold : Prop where
  h0 : ∀ (s : Fin 2048) (l : Fin 128), x0 (ix2 s l) = ((I.X0 s.val l.val : ℝ) : EReal)
  h1 : ∀ (s : Fin 2048) (l : Fin 128), x1 (ix2 s l) = ((I.X1 s.val l.val : ℝ) : EReal)
  h2 : ∀ (s : Fin 2048) (l : Fin 128), x2 (ix2 s l) = ((I.X2 s.val l.val : ℝ) : EReal)
  h3 : ∀ (s : Fin 2048) (l : Fin 128), x3 (ix2 s l) = ((I.X3 s.val l.val : ℝ) : EReal)
  h4 : ∀ (s : Fin 2048) (l : Fin 128), x4 (ix2 s l) = ((I.X4 s.val l.val : ℝ) : EReal)
  h5 : ∀ (s : Fin 2048) (l : Fin 128), x5 (ix2 s l) = ((I.X5 s.val l.val : ℝ) : EReal)

variable {x0 x1 x2 x3 x4 x5 I} (H : InsHold x0 x1 x2 x3 x4 x5 I)
include H

/-- … and then the scratch arrays hold theirs. -/
theorem holds : Holds (runBufs c arg2 harg2 arg3 harg3 arg4 harg4 arg5 harg5 arg6 harg6 arg7 harg7 arg12 arg13 arg14 arg15 arg16 arg17 x0 x1 x2 x3 x4 x5) I.reals where
  qa e s l := by
    have he := e.isLt
    refine (qa_val c arg2 harg2 x0 arg6 arg7 harg6 harg7 x4 x5 arg14 e s l).trans ?_
    unfold qaVal hiP midP loP Ins.reals
    rw [H.h0, H.h4, H.h5, hm_eq, eighth_bf16]
    simp only [Nat.mod_eq_of_lt (show 64 * e.val < 128 by omega)]
    rw [← EReal.coe_sub, ← EReal.coe_sub, ← EReal.coe_sub, sub_self, sub_self, ← EReal.coe_one, spare_eq, ← EReal.coe_mul, ← EReal.coe_mul, ← EReal.coe_add]
  ka e s l := by
    have he := e.isLt
    refine (ka_val c arg3 harg3 x1 arg7 harg7 x5 arg15 e s l).trans ?_
    unfold kaVal hiP midP loP Ins.reals
    rw [H.h1, H.h5, hm_eq]
    simp only [Nat.mod_eq_of_lt (show 64 * e.val < 128 by omega)]
    rw [← EReal.coe_zero, ← EReal.coe_sub, ← EReal.coe_sub, ← EReal.coe_sub, sub_self, sub_self, ← EReal.coe_one, spare_eq, ← EReal.coe_mul, ← EReal.coe_add]
  qp e s l := (qp_val c arg2 harg2 x0 e s l).trans (by rw [H.h0, hm_eq, ← EReal.coe_mul]; rfl)
  kp e s l := (kp_val c arg3 harg3 x1 e s l).trans (by rw [H.h1, hm_eq, ← EReal.coe_mul]; rfl)
  vp e s l := (vp_val c arg4 harg4 x2 e s l).trans (by rw [H.h2, hm_eq, ← EReal.coe_mul]; rfl)
  dp e s l := (dp_val c arg5 harg5 x3 e s l).trans (by rw [H.h3, hm_eq, ← EReal.coe_mul]; rfl)

/-- The block of query gradients. -/
theorem out_dq_val (s : Fin 2048) (l : Fin 128) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix2 s l)
      = (((I.head (l.val / 64)).dq (I.lse (l.val / 64)) s.val (l.val % 64) : ℝ) : EReal) := by
  rw [out_dq, dq_canon (holds c arg2 harg2 arg3 harg3 arg4 harg4 arg5 harg5 arg6 harg6 arg7 harg7 arg12 arg13 arg14 arg15 arg16 arg17 H), Ins.dq_eq]

/-- The block of key gradients. -/
theorem out_dk_val (s : Fin 2048) (l : Fin 128) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix2 s l)
      = (((I.head (l.val / 64)).dk (I.lse (l.val / 64)) s.val (l.val % 64) : ℝ) : EReal) := by
  rw [out_dk, canon_whole]
  refine (readCov_whole _ _ s l).trans ?_
  rw [dk_canon (holds c arg2 harg2 arg3 harg3 arg4 harg4 arg5 harg5 arg6 harg6 arg7 harg7 arg12 arg13 arg14 arg15 arg16 arg17 H), Ins.dk_eq]

/-- The block of value gradients. -/
theorem out_dv_val (s : Fin 2048) (l : Fin 128) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix2 s l)
      = (((I.head (l.val / 64)).dv (I.lse (l.val / 64)) s.val (l.val % 64) : ℝ) : EReal) := by
  rw [out_dv, canon_whole]
  refine (readCov_whole _ _ s l).trans ?_
  rw [dv_canon (holds c arg2 harg2 arg3 harg3 arg4 harg4 arg5 harg5 arg6 harg6 arg7 harg7 arg12 arg13 arg14 arg15 arg16 arg17 H), Ins.dv_eq]

/-- The block of gate gradients. -/
theorem out_dc_val (s : Fin 2048) (l : Fin 128) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 (ix2 s l)
      = (((I.head (l.val / 64)).dc (I.lse (l.val / 64)) s.val : ℝ) : EReal) := by
  rw [out_dc, canon_whole]
  refine (readCov_whole _ _ s l).trans ?_
  rw [dc_canon (holds c arg2 harg2 arg3 harg3 arg4 harg4 arg5 harg5 arg6 harg6 arg7 harg7 arg12 arg13 arg14 arg15 arg16 arg17 H), Ins.dc_eq]

end Run

end Cert.KernelIdeal.Fox

end
-- ==== Proof.Fox.Arrays.lean ====
/-
  The kernel's result arrays: each grid point's blocks hold two heads' gradients, and together they are the arrays.
-/
module

public import proofs.«01_k».proof.Proof.Gen.KernelIdeal.Frame
public import proofs.«01_k».proof.Proof.Gen.KernelIdeal.Value
public import proofs.«01_k».proof.Proof.Fox.HostV
public import proofs.«01_k».proof.Proof.Fox.Scores
public import Idealize.ShloMosaic.Lib.Pipeline.ValueKit
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe
open Cert.Fox
open scoped BigOperators

variable (m : (ℓ : Loc nD τ sig) → Buf (Elt Ideal) ℓ) (c : Dev nD)

/-- Every window's block index: the batch, and the head pair after the columns before it. -/
theorem idx : ∀ t : Fin cfg0.N, win0_0.index t = ![t.val / 4, 12 + t.val % 4] ∧ win0_1.index t = ![t.val / 4, 16 + t.val % 4]
    ∧ win0_2.index t = ![t.val / 4, 20 + t.val % 4] ∧ win0_3.index t = ![t.val / 4, 4 + t.val % 4]
    ∧ win0_4.index t = ![t.val / 4, t.val % 4] ∧ win0_5.index t = ![t.val / 4, t.val % 4]
    ∧ win0_6.index t = ![t.val / 4, t.val % 4] ∧ win0_7.index t = ![t.val / 4, t.val % 4]
    ∧ win0_8.index t = ![t.val / 4, t.val % 4] ∧ win0_9.index t = ![t.val / 4, t.val % 4] :=
  (by decide +kernel : ∀ t : Fin grid0.N, _)

theorem lt16 : ∀ t : Fin cfg0.N, t.val < 16 := (by decide +kernel : ∀ t : Fin grid0.N, t.val < 16)

/-- The real numbers of batch `b`'s head pair `p`. -/
def pairIns (N : Nums) (b p : ℕ) : Ins where
  X0 s l := N.z (2048 * b + s) (1536 + (128 * p + l))
  X1 s l := N.z (2048 * b + s) (2048 + (128 * p + l))
  X2 s l := N.z (2048 * b + s) (2560 + (128 * p + l))
  X3 s l := N.y (2048 * b + s) (512 + (128 * p + l))
  X4 s l := N.lse b (2 * p + l / 64) s
  X5 s l := N.c b s (2 * p + l / 64)

theorem pairIns_head (N : Nums) (b p e : ℕ) : (pairIns N b p).head e = N.head b (2 * p + e) := by
  unfold Ins.head pairIns Nums.head
  have h1 : ∀ d, 128 * p + (64 * e + d) = 64 * (2 * p + e) + d := fun d => by omega
  have h2 : 64 * e / 64 = e := by omega
  simp only [h1, h2]

theorem pairIns_lse (N : Nums) (b p e : ℕ) : (pairIns N b p).lse e = N.lse b (2 * p + e) := by
  funext t
  unfold Ins.lse pairIns
  have h2 : 64 * e / 64 = e := by omega
  simp only [h2]

/-- Window 0's block at a grid point, in its array's coordinates. -/
theorem read0 (t : Fin cfg0.N) (s : Fin 2048) (l : Fin 128) (x : FVec Ideal S8192x3072 .bf16) (ht : t.val < 16) :
    (win0_0.blk t).view.read (Elt Ideal) x (ix2 s l)
      = x (ix2 (n0 := 8192) (n1 := 3072) ⟨2048 * (t.val / 4) + s.val, by omega⟩ ⟨1536 + (128 * (t.val % 4) + l.val), by omega⟩) := by
  have hs := s.isLt
  have hl := l.isLt
  blk_ext [idx t]

theorem iblk0 (t : Fin cfg0.N) : iblk m c 0 t = (win0_0.blk t).view.read (Elt Ideal) (V m c main_arg0) := rfl

/-- Window 1's block at a grid point, in its array's coordinates. -/
theorem read1 (t : Fin cfg0.N) (s : Fin 2048) (l : Fin 128) (x : FVec Ideal S8192x3072 .bf16) (ht : t.val < 16) :
    (win0_1.blk t).view.read (Elt Ideal) x (ix2 s l)
      = x (ix2 (n0 := 8192) (n1 := 3072) ⟨2048 * (t.val / 4) + s.val, by omega⟩ ⟨2048 + (128 * (t.val % 4) + l.val), by omega⟩) := by
  have hs := s.isLt
  have hl := l.isLt
  blk_ext [idx t]

theorem iblk1 (t : Fin cfg0.N) : iblk m c 1 t = (win0_1.blk t).view.read (Elt Ideal) (V m c main_arg0) := rfl

/-- Window 2's block at a grid point, in its array's coordinates. -/
theorem read2 (t : Fin cfg0.N) (s : Fin 2048) (l : Fin 128) (x : FVec Ideal S8192x3072 .bf16) (ht : t.val < 16) :
    (win0_2.blk t).view.read (Elt Ideal) x (ix2 s l)
      = x (ix2 (n0 := 8192) (n1 := 3072) ⟨2048 * (t.val / 4) + s.val, by omega⟩ ⟨2560 + (128 * (t.val % 4) + l.val), by omega⟩) := by
  have hs := s.isLt
  have hl := l.isLt
  blk_ext [idx t]

theorem iblk2 (t : Fin cfg0.N) : iblk m c 2 t = (win0_2.blk t).view.read (Elt Ideal) (V m c main_arg0) := rfl

/-- Window 3's block at a grid point, in its array's coordinates. -/
theorem read3 (t : Fin cfg0.N) (s : Fin 2048) (l : Fin 128) (x : FVec Ideal S8192x1024 .bf16) (ht : t.val < 16) :
    (win0_3.blk t).view.read (Elt Ideal) x (ix2 s l)
      = x (ix2 (n0 := 8192) (n1 := 1024) ⟨2048 * (t.val / 4) + s.val, by omega⟩ ⟨512 + (128 * (t.val % 4) + l.val), by omega⟩) := by
  have hs := s.isLt
  have hl := l.isLt
  blk_ext [idx t]

theorem iblk3 (t : Fin cfg0.N) : iblk m c 3 t = (win0_3.blk t).view.read (Elt Ideal) (V m c main_arg2) := rfl

/-- Window 4's block at a grid point, in its array's coordinates. -/
theorem read4 (t : Fin cfg0.N) (s : Fin 2048) (l : Fin 128) (x : FVec Ideal S8192x512 .f32) (ht : t.val < 16) :
    (win0_4.blk t).view.read (Elt Ideal) x (ix2 s l)
      = x (ix2 (n0 := 8192) (n1 := 512) ⟨2048 * (t.val / 4) + s.val, by omega⟩ ⟨128 * (t.val % 4) + l.val, by omega⟩) := by
  have hs := s.isLt
  have hl := l.isLt
  blk_ext [idx t]

theorem iblk4 (t : Fin cfg0.N) : iblk m c 4 t = (win0_4.blk t).view.read (Elt Ideal) (V m c main_v34) := rfl

/-- Window 5's block at a grid point, in its array's coordinates. -/
theorem read5 (t : Fin cfg0.N) (s : Fin 2048) (l : Fin 128) (x : FVec Ideal S8192x512 .f32) (ht : t.val < 16) :
    (win0_5.blk t).view.read (Elt Ideal) x (ix2 s l)
      = x (ix2 (n0 := 8192) (n1 := 512) ⟨2048 * (t.val / 4) + s.val, by omega⟩ ⟨128 * (t.val % 4) + l.val, by omega⟩) := by
  have hs := s.isLt
  have hl := l.isLt
  blk_ext [idx t]

theorem iblk5 (t : Fin cfg0.N) : iblk m c 5 t = (win0_5.blk t).view.read (Elt Ideal) (V m c main_v37) := rfl

/-- Window 6's block at a grid point, in its array's coordinates. -/
theorem put6 (N : Nums) (t : Fin cfg0.N) (s : Fin 2048) (l : Fin 128) (ht : t.val < 16) :
    (fun i : S8192x512.Idx => ((N.dq ((i 0).val / 2048) ((i 1).val / 64) ((i 0).val % 2048) ((i 1).val % 64) : ℝ) : EReal)) ((win0_6.blk t).view.emb (ix2 s l))
      = ((N.dq (t.val / 4) (2 * (t.val % 4) + l.val / 64) s.val (l.val % 64) : ℝ) : EReal) := by
  have hs := s.isLt
  have hl := l.isLt
  have e0 : (((win0_6.blk t).view.emb (ix2 s l)) 0).val = 2048 * (t.val / 4) + s.val := by
    blk_simp [idx t]; omega
  have e1 : (((win0_6.blk t).view.emb (ix2 s l)) 1).val = 128 * (t.val % 4) + l.val := by
    blk_simp [idx t]; omega
  have f1 : (2048 * (t.val / 4) + s.val) / 2048 = t.val / 4 := by omega
  have f2 : (2048 * (t.val / 4) + s.val) % 2048 = s.val := by omega
  have f3 : (128 * (t.val % 4) + l.val) / 64 = 2 * (t.val % 4) + l.val / 64 := by omega
  have f4 : (128 * (t.val % 4) + l.val) % 64 = l.val % 64 := by omega
  show ((N.dq _ _ _ _ : ℝ) : EReal) = _
  rw [e0, e1, f1, f2, f3, f4]

/-- Window 7's block at a grid point, in its array's coordinates. -/
theorem put7 (N : Nums) (t : Fin cfg0.N) (s : Fin 2048) (l : Fin 128) (ht : t.val < 16) :
    (fun i : S8192x512.Idx => ((N.dk ((i 0).val / 2048) ((i 1).val / 64) ((i 0).val % 2048) ((i 1).val % 64) : ℝ) : EReal)) ((win0_7.blk t).view.emb (ix2 s l))
      = ((N.dk (t.val / 4) (2 * (t.val % 4) + l.val / 64) s.val (l.val % 64) : ℝ) : EReal) := by
  have hs := s.isLt
  have hl := l.isLt
  have e0 : (((win0_7.blk t).view.emb (ix2 s l)) 0).val = 2048 * (t.val / 4) + s.val := by
    blk_simp [idx t]; omega
  have e1 : (((win0_7.blk t).view.emb (ix2 s l)) 1).val = 128 * (t.val % 4) + l.val := by
    blk_simp [idx t]; omega
  have f1 : (2048 * (t.val / 4) + s.val) / 2048 = t.val / 4 := by omega
  have f2 : (2048 * (t.val / 4) + s.val) % 2048 = s.val := by omega
  have f3 : (128 * (t.val % 4) + l.val) / 64 = 2 * (t.val % 4) + l.val / 64 := by omega
  have f4 : (128 * (t.val % 4) + l.val) % 64 = l.val % 64 := by omega
  show ((N.dk _ _ _ _ : ℝ) : EReal) = _
  rw [e0, e1, f1, f2, f3, f4]

/-- Window 8's block at a grid point, in its array's coordinates. -/
theorem put8 (N : Nums) (t : Fin cfg0.N) (s : Fin 2048) (l : Fin 128) (ht : t.val < 16) :
    (fun i : S8192x512.Idx => ((N.dv ((i 0).val / 2048) ((i 1).val / 64) ((i 0).val % 2048) ((i 1).val % 64) : ℝ) : EReal)) ((win0_8.blk t).view.emb (ix2 s l))
      = ((N.dv (t.val / 4) (2 * (t.val % 4) + l.val / 64) s.val (l.val % 64) : ℝ) : EReal) := by
  have hs := s.isLt
  have hl := l.isLt
  have e0 : (((win0_8.blk t).view.emb (ix2 s l)) 0).val = 2048 * (t.val / 4) + s.val := by
    blk_simp [idx t]; omega
  have e1 : (((win0_8.blk t).view.emb (ix2 s l)) 1).val = 128 * (t.val % 4) + l.val := by
    blk_simp [idx t]; omega
  have f1 : (2048 * (t.val / 4) + s.val) / 2048 = t.val / 4 := by omega
  have f2 : (2048 * (t.val / 4) + s.val) % 2048 = s.val := by omega
  have f3 : (128 * (t.val % 4) + l.val) / 64 = 2 * (t.val % 4) + l.val / 64 := by omega
  have f4 : (128 * (t.val % 4) + l.val) % 64 = l.val % 64 := by omega
  show ((N.dv _ _ _ _ : ℝ) : EReal) = _
  rw [e0, e1, f1, f2, f3, f4]

/-- Window 9's block at a grid point, in its array's coordinates. -/
theorem put9 (N : Nums) (t : Fin cfg0.N) (s : Fin 2048) (l : Fin 128) (ht : t.val < 16) :
    (fun i : S8192x512.Idx => ((N.dc ((i 0).val / 2048) ((i 1).val / 64) ((i 0).val % 2048) : ℝ) : EReal)) ((win0_9.blk t).view.emb (ix2 s l))
      = ((N.dc (t.val / 4) (2 * (t.val % 4) + l.val / 64) s.val : ℝ) : EReal) := by
  have hs := s.isLt
  have hl := l.isLt
  have e0 : (((win0_9.blk t).view.emb (ix2 s l)) 0).val = 2048 * (t.val / 4) + s.val := by
    blk_simp [idx t]; omega
  have e1 : (((win0_9.blk t).view.emb (ix2 s l)) 1).val = 128 * (t.val % 4) + l.val := by
    blk_simp [idx t]; omega
  have f1 : (2048 * (t.val / 4) + s.val) / 2048 = t.val / 4 := by omega
  have f2 : (2048 * (t.val / 4) + s.val) % 2048 = s.val := by omega
  have f3 : (128 * (t.val % 4) + l.val) / 64 = 2 * (t.val % 4) + l.val / 64 := by omega
  have f4 : (128 * (t.val % 4) + l.val) % 64 = l.val % 64 := by omega
  show ((N.dc _ _ _ : ℝ) : EReal) = _
  rw [e0, e1, f1, f2, f3]

section
variable {N : Nums} (H : Hold (m ((c : Thread nD τ).loc main_arg0)) (m ((c : Thread nD τ).loc main_arg1)) (m ((c : Thread nD τ).loc main_arg2)) N)
include H

theorem hold_masked (i : S4x8x2048x2048.Idx) :
    masked (m ((c : Thread nD τ).loc main_arg0)) (m ((c : Thread nD τ).loc main_arg1)) i
      = (N.head (i 0).val (i 1).val).row (i 2).val ⟨(i 3).val, (i 3).isLt⟩ := by
  rw [masked_eq]
  exact Cert.ReferenceIdeal.Fox.v23 H i

/-- The normalisers' array. -/
theorem lse_at (i : S8192x512.Idx) : (V m c main_v34 : FVec Ideal S8192x512 .f32) i = ((N.lse ((i 0).val / 2048) ((i 1).val / 64) ((i 0).val % 2048) : ℝ) : EReal) := by
  have b0 : (i 0).val < 8192 := (i 0).isLt
  have b1 : (i 1).val < 512 := (i 1).isLt
  rw [V_main_v34]
  refine (lanes_at _ i (by omega) (by omega) (by omega)).trans ?_
  exact norms_at _ (hold_masked m c H) _ _ _

/-- The gates' array. -/
theorem gate_at (i : S8192x512.Idx) : (V m c main_v37 : FVec Ideal S8192x512 .f32) i = ((N.c ((i 0).val / 2048) ((i 0).val % 2048) ((i 1).val / 64) : ℝ) : EReal) := by
  have b0 : (i 0).val < 8192 := (i 0).isLt
  have b1 : (i 1).val < 512 := (i 1).isLt
  rw [V_main_v37]
  refine (lanes_at _ i (by omega) (by omega) (by omega)).trans ?_
  exact H.c _

theorem ins0 (t : Fin cfg0.N) (s : Fin 2048) (l : Fin 128) :
    (iblk m c 0 t : FVec Ideal S2048x128 .bf16) (ix2 s l) = (((pairIns N (t.val / 4) (t.val % 4)).X0 s.val l.val : ℝ) : EReal) := by
  rw [iblk0]
  exact (read0 t s l _ (lt16 t)).trans ((congrFun (V_main_arg0 m c) _).trans (H.z _))

theorem ins1 (t : Fin cfg0.N) (s : Fin 2048) (l : Fin 128) :
    (iblk m c 1 t : FVec Ideal S2048x128 .bf16) (ix2 s l) = (((pairIns N (t.val / 4) (t.val % 4)).X1 s.val l.val : ℝ) : EReal) := by
  rw [iblk1]
  exact (read1 t s l _ (lt16 t)).trans ((congrFun (V_main_arg0 m c) _).trans (H.z _))

theorem ins2 (t : Fin cfg0.N) (s : Fin 2048) (l : Fin 128) :
    (iblk m c 2 t : FVec Ideal S2048x128 .bf16) (ix2 s l) = (((pairIns N (t.val / 4) (t.val % 4)).X2 s.val l.val : ℝ) : EReal) := by
  rw [iblk2]
  exact (read2 t s l _ (lt16 t)).trans ((congrFun (V_main_arg0 m c) _).trans (H.z _))

theorem ins3 (t : Fin cfg0.N) (s : Fin 2048) (l : Fin 128) :
    (iblk m c 3 t : FVec Ideal S2048x128 .bf16) (ix2 s l) = (((pairIns N (t.val / 4) (t.val % 4)).X3 s.val l.val : ℝ) : EReal) := by
  rw [iblk3]
  exact (read3 t s l _ (lt16 t)).trans ((congrFun (V_main_arg2 m c) _).trans (H.y _))

theorem ins4 (t : Fin cfg0.N) (s : Fin 2048) (l : Fin 128) :
    (iblk m c 4 t : FVec Ideal S2048x128 .f32) (ix2 s l) = (((pairIns N (t.val / 4) (t.val % 4)).X4 s.val l.val : ℝ) : EReal) := by
  rw [iblk4]
  refine ((read4 t s l _ (lt16 t)).trans (lse_at m c H _)).trans ?_
  have hs := s.isLt
  have hl := l.isLt
  have e1 : (2048 * (t.val / 4) + s.val) / 2048 = t.val / 4 := by omega
  have e2 : (2048 * (t.val / 4) + s.val) % 2048 = s.val := by omega
  have e3 : (128 * (t.val % 4) + l.val) / 64 = 2 * (t.val % 4) + l.val / 64 := by omega
  simp only [pairIns, ix2_0, ix2_1, e1, e2, e3]

theorem ins5 (t : Fin cfg0.N) (s : Fin 2048) (l : Fin 128) :
    (iblk m c 5 t : FVec Ideal S2048x128 .f32) (ix2 s l) = (((pairIns N (t.val / 4) (t.val % 4)).X5 s.val l.val : ℝ) : EReal) := by
  rw [iblk5]
  refine ((read5 t s l _ (lt16 t)).trans (gate_at m c H _)).trans ?_
  have hs := s.isLt
  have hl := l.isLt
  have e1 : (2048 * (t.val / 4) + s.val) / 2048 = t.val / 4 := by omega
  have e2 : (2048 * (t.val / 4) + s.val) % 2048 = s.val := by omega
  have e3 : (128 * (t.val % 4) + l.val) / 64 = 2 * (t.val % 4) + l.val / 64 := by omega
  simp only [pairIns, ix2_0, ix2_1, e1, e2, e3]

/-- What grid point `t` reads. -/
theorem ins (t : Fin cfg0.N) :
    InsHold (iblk m c 0 t) (iblk m c 1 t) (iblk m c 2 t) (iblk m c 3 t) (iblk m c 4 t) (iblk m c 5 t) (pairIns N (t.val / 4) (t.val % 4)) where
  h0 := ins0 m c H t
  h1 := ins1 m c H t
  h2 := ins2 m c H t
  h3 := ins3 m c H t
  h4 := ins4 m c H t
  h5 := ins5 m c H t

/-- What grid point `t` leaves in window 6. -/
theorem left6 (t : Fin cfg0.N) (s : Fin 2048) (l : Fin 128) :
    ((dats m 0 c).after 6 t : FVec Ideal S2048x128 .bf16) (ix2 s l) = ((N.dq (t.val / 4) (2 * (t.val % 4) + l.val / 64) s.val (l.val % 64) : ℝ) : EReal) := by
  rw [after0_6]
  simp only [outsAt0]
  refine (out_dq_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (ins m c H t) s l).trans ?_
  rw [pairIns_head, pairIns_lse]
  exact congrArg (fun r : ℝ => (r : EReal)) ((N.head _ _).dq_eq _ s.isLt _)

theorem arr6 : (dats m 0 c).arrAt 6 cfg0.N
    = (fun i : S8192x512.Idx => ((N.dq ((i 0).val / 2048) ((i 1).val / 64) ((i 0).val % 2048) ((i 1).val % 64) : ℝ) : EReal)) := by
  refine (dats m 0 c).arrAt_eq_of_covers 6 _ (by decide +kernel) fun t _ y => ?_
  obtain ⟨s, l, rfl⟩ : ∃ (s : Fin 2048) (l : Fin 128), y = ix2 s l := ⟨y 0, y 1, (ix2_eta y).symm⟩
  exact (left6 m c H t s l).trans (put6 N t s l (lt16 t)).symm

/-- What grid point `t` leaves in window 7. -/
theorem left7 (t : Fin cfg0.N) (s : Fin 2048) (l : Fin 128) :
    ((dats m 0 c).after 7 t : FVec Ideal S2048x128 .bf16) (ix2 s l) = ((N.dk (t.val / 4) (2 * (t.val % 4) + l.val / 64) s.val (l.val % 64) : ℝ) : EReal) := by
  rw [after0_7]
  simp only [outsAt0]
  refine (out_dk_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (ins m c H t) s l).trans ?_
  rw [pairIns_head, pairIns_lse]
  exact congrArg (fun r : ℝ => (r : EReal)) ((N.head _ _).dk_eq _ _ _)

theorem arr7 : (dats m 0 c).arrAt 7 cfg0.N
    = (fun i : S8192x512.Idx => ((N.dk ((i 0).val / 2048) ((i 1).val / 64) ((i 0).val % 2048) ((i 1).val % 64) : ℝ) : EReal)) := by
  refine (dats m 0 c).arrAt_eq_of_covers 7 _ (by decide +kernel) fun t _ y => ?_
  obtain ⟨s, l, rfl⟩ : ∃ (s : Fin 2048) (l : Fin 128), y = ix2 s l := ⟨y 0, y 1, (ix2_eta y).symm⟩
  exact (left7 m c H t s l).trans (put7 N t s l (lt16 t)).symm

/-- What grid point `t` leaves in window 8. -/
theorem left8 (t : Fin cfg0.N) (s : Fin 2048) (l : Fin 128) :
    ((dats m 0 c).after 8 t : FVec Ideal S2048x128 .bf16) (ix2 s l) = ((N.dv (t.val / 4) (2 * (t.val % 4) + l.val / 64) s.val (l.val % 64) : ℝ) : EReal) := by
  rw [after0_8]
  simp only [outsAt0]
  refine (out_dv_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (ins m c H t) s l).trans ?_
  rw [pairIns_head, pairIns_lse]
  exact congrArg (fun r : ℝ => (r : EReal)) ((N.head _ _).dv_eq _ _ _)

theorem arr8 : (dats m 0 c).arrAt 8 cfg0.N
    = (fun i : S8192x512.Idx => ((N.dv ((i 0).val / 2048) ((i 1).val / 64) ((i 0).val % 2048) ((i 1).val % 64) : ℝ) : EReal)) := by
  refine (dats m 0 c).arrAt_eq_of_covers 8 _ (by decide +kernel) fun t _ y => ?_
  obtain ⟨s, l, rfl⟩ : ∃ (s : Fin 2048) (l : Fin 128), y = ix2 s l := ⟨y 0, y 1, (ix2_eta y).symm⟩
  exact (left8 m c H t s l).trans (put8 N t s l (lt16 t)).symm

/-- What grid point `t` leaves in window 9. -/
theorem left9 (t : Fin cfg0.N) (s : Fin 2048) (l : Fin 128) :
    ((dats m 0 c).after 9 t : FVec Ideal S2048x128 .f32) (ix2 s l) = ((N.dc (t.val / 4) (2 * (t.val % 4) + l.val / 64) s.val : ℝ) : EReal) := by
  rw [after0_9]
  simp only [outsAt0]
  refine (out_dc_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (ins m c H t) s l).trans ?_
  rw [pairIns_head, pairIns_lse]
  exact congrArg (fun r : ℝ => (r : EReal)) ((N.head _ _).dc_eq _ s.isLt)

theorem arr9 : (dats m 0 c).arrAt 9 cfg0.N
    = (fun i : S8192x512.Idx => ((N.dc ((i 0).val / 2048) ((i 1).val / 64) ((i 0).val % 2048) : ℝ) : EReal)) := by
  refine (dats m 0 c).arrAt_eq_of_covers 9 _ (by decide +kernel) fun t _ y => ?_
  obtain ⟨s, l, rfl⟩ : ∃ (s : Fin 2048) (l : Fin 128), y = ix2 s l := ⟨y 0, y 1, (ix2_eta y).symm⟩
  exact (left9 m c H t s l).trans (put9 N t s l (lt16 t)).symm

end

end Cert.KernelIdeal.Fox

end
-- ==== Proof.Fox.Claims.lean ====
/-
  The forgetting attention's backward call: its frames, and its value against the reference's gradients.
-/
module

public import proofs.«01_k».proof.Defs
public import proofs.«01_k».proof.Proof.Gen.Kernel.Frame
public import proofs.«01_k».proof.Proof.Gen.ReferenceIdeal.Run
public import proofs.«01_k».proof.Proof.Gen.ReferenceIdeal.Read
public import proofs.«01_k».proof.Proof.Fox.Args
public import proofs.«01_k».proof.Proof.Fox.Ref
public import proofs.«01_k».proof.Proof.Fox.Arrays

@[expose] public section

set_option maxRecDepth 16384

noncomputable section

namespace Cert.Fox

open Idealize.ShloMosaic Idealize.SL.Sem

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_pi_pre : Cert.quiescent_KernelIdeal_pre_finite (hKernelIdeal := Cert.KernelIdeal.Gen.facts) (hPre_finite := preFacts) :=
  fun m ρ _ => Cert.KernelIdeal.Gen.frame m ρ

/-- The reference's frame: host operations only, no semaphore. -/
theorem frame_ri : Cert.quiescent_ReferenceIdeal (hReferenceIdeal := Cert.ReferenceIdeal.Gen.facts) := fun m ρ _ =>
  (θ_run (Cert.ReferenceIdeal.defs (F := Ideal)) _ _).mono (fun r h => ⟨fun c => (h c).2.2.2.2,
      Idealize.ShloMosaic.sem_eq_zero_of_no_sems (by decide) r.2⟩)
    (Cert.ReferenceIdeal.Value.run (F := Ideal) m ρ)

theorem frame_ri_pre : Cert.quiescent_ReferenceIdeal_pre_finite (hReferenceIdeal := Cert.ReferenceIdeal.Gen.facts) (hPre_finite := preFacts) :=
  fun m ρ _ => frame_ri m ρ trivial

section
open Cert.KernelIdeal Cert.KernelIdeal.Gen Idealize.ShloMosaic.TcCoe

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
  {N : Nums} (H : Hold (m ((c : Thread nD τ).loc main_arg0)) (m ((c : Thread nD τ).loc main_arg1)) (m ((c : Thread nD τ).loc main_arg2)) N)
  (e0 : m' ((c.tc : Thread Cert.ReferenceIdeal.nD Cert.ReferenceIdeal.τ).loc Cert.ReferenceIdeal.main_arg0) = m ((c : Thread nD τ).loc main_arg0))
  (e1 : m' ((c.tc : Thread Cert.ReferenceIdeal.nD Cert.ReferenceIdeal.τ).loc Cert.ReferenceIdeal.main_arg1) = m ((c : Thread nD τ).loc main_arg1))
  (e2 : m' ((c.tc : Thread Cert.ReferenceIdeal.nD Cert.ReferenceIdeal.τ).loc Cert.ReferenceIdeal.main_arg2) = m ((c : Thread nD τ).loc main_arg2))
include H e0 e1 e2

/-- The two programs' query gradients. -/
theorem same94 : Cert.ReferenceIdeal.Value.res_main_v94 m' c = (dats m 0 c).arrAt 6 cfg0.N := by
  rw [Cert.ReferenceIdeal.Read.val_main_v94_eq, e0, e1, e2, Cert.KernelIdeal.Fox.arr6 m c H]
  exact funext fun i => Cert.ReferenceIdeal.Fox.v94 H i

/-- The two programs' key gradients. -/
theorem same95 : Cert.ReferenceIdeal.Value.res_main_v95 m' c = (dats m 0 c).arrAt 7 cfg0.N := by
  rw [Cert.ReferenceIdeal.Read.val_main_v95_eq, e0, e1, e2, Cert.KernelIdeal.Fox.arr7 m c H]
  exact funext fun i => Cert.ReferenceIdeal.Fox.v95 H i

/-- The two programs' value gradients. -/
theorem same96 : Cert.ReferenceIdeal.Value.res_main_v96 m' c = (dats m 0 c).arrAt 8 cfg0.N := by
  rw [Cert.ReferenceIdeal.Read.val_main_v96_eq, e0, e1, e2, Cert.KernelIdeal.Fox.arr8 m c H]
  exact funext fun i => Cert.ReferenceIdeal.Fox.v96 H i

/-- The two programs' gate gradients. -/
theorem same99 : Cert.ReferenceIdeal.Value.res_main_v99 m' c = (dats m 0 c).arrAt 9 cfg0.N := by
  rw [Cert.ReferenceIdeal.Read.val_main_v99_eq, e0, e1, e2, Cert.KernelIdeal.Fox.arr9 m c H]
  exact funext fun i => Cert.ReferenceIdeal.Fox.v99 H i

end

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  have H := fun c => hold_of_pre _ _ _ (hpre c).1 (hpre c).2.1 (hpre c).2.2
  refine ⟨_, _, _, _, Cert.KernelIdeal.Value.run_blocks m ρ, ?_⟩
  refine (θ_run (Cert.ReferenceIdeal.defs (F := Ideal)) _ _).mono (fun r h c => ?_) (Cert.ReferenceIdeal.Value.run (F := Ideal) m' ρ')
  obtain ⟨e0, e1, e2⟩ := hagree c
  obtain ⟨h0, h1, h2, h3, k⟩ := h c
  exact ⟨h0.trans (same94 m m' c (H c) e0 e1 e2), h1.trans (same95 m m' c (H c) e0 e1 e2),
    h2.trans (same96 m m' c (H c) e0 e1 e2), h3.trans (same99 m m' c (H c) e0 e1 e2), k⟩

end Cert.Fox

end
-- ==== Proof.Prod.Sums.lean ====
/-
  Sums over the tokens, taken a piece at a time.
-/
module

public import proofs.«01_k».proof.Proof.Fox.Tile
public import Idealize.ShloMosaic.Lib.Claim

@[expose] public section

noncomputable section

namespace Cert.Prod

open Idealize.ShloMosaic
open scoped BigOperators

/-- A sum over 8192 tokens, half of them at a time. -/
theorem sum_halves (f : Fin 8192 → EReal) :
    (∑ k : Fin 4096, f ⟨k.val, by omega⟩) + (∑ k : Fin 4096, f ⟨4096 + k.val, by omega⟩) = ∑ k : Fin 8192, f k :=
  (Fin.sum_univ_add (M := EReal) (a := 4096) (b := 4096) f).symm

/-- A sum over 8192 tokens, a quarter of them at a time. -/
theorem sum_quarters (f : Fin 8192 → EReal) :
    (((∑ k : Fin 2048, f ⟨k.val, by omega⟩) + (∑ k : Fin 2048, f ⟨2048 + k.val, by omega⟩)) + (∑ k : Fin 2048, f ⟨4096 + k.val, by omega⟩))
      + (∑ k : Fin 2048, f ⟨6144 + k.val, by omega⟩) = ∑ k : Fin 8192, f k := by
  rw [← sum_halves f]
  have h0 := Fin.sum_univ_add (M := EReal) (a := 2048) (b := 2048) fun k : Fin 4096 => f ⟨k.val, by omega⟩
  have h1 := Fin.sum_univ_add (M := EReal) (a := 2048) (b := 2048) fun k : Fin 4096 => f ⟨4096 + k.val, by omega⟩
  refine Eq.trans ?_ (congrArg₂ (· + ·) h0 h1).symm
  rw [add_assoc]
  refine congrArg₂ (· + ·) rfl (congrArg₂ (· + ·) rfl (Finset.sum_congr rfl fun k _ => congrArg f (Fin.ext ?_)))
  show 6144 + k.val = 4096 + (2048 + k.val)
  omega

end Cert.Prod

end
-- ==== Proof.Prod.Dact.lean ====
/-
  The gradient of the hidden layer: each block of tokens' product with the narrowing weight, by twice the rectified activation.
-/
module

public import proofs.«01_k».proof.Defs
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import proofs.«01_k».proof.Proof.Prod.Sums
public import Idealize.ShloMosaic.Lib.Pipeline.ValueKit
public import Idealize.ShloMosaic.Lib.MatmulPlain
public import Idealize.ShloMosaic.Lib.Claim

@[expose] public section

set_option maxRecDepth 16384

noncomputable section

namespace Cert.Prod

/-- The square's derivative where the activation is positive: the product by twice it is the product by it, twice; elsewhere nothing. -/
theorem mul_twice_max (x u : EReal) : x * (2 * max u 0) = if 0 < u then max u 0 * x + x * max u 0 else 0 := by
  split
  · rename_i h
    have h0 : (0 : EReal) ≤ max u 0 := le_max_right _ _
    have e : (2 : EReal) * max u 0 = max u 0 + max u 0 := by
      rw [show (2 : EReal) = 1 + 1 by norm_num, EReal.right_distrib_of_nonneg zero_le_one zero_le_one, one_mul]
    rw [e, mul_comm x (max u 0 + max u 0), EReal.right_distrib_of_nonneg h0 h0, mul_comm x]
  · rename_i h
    rw [max_eq_right (not_lt.mp h), mul_zero, mul_zero]

theorem two_f32 : Idealize.ShloMosaic.Ideal.ofBits .f32 0x40000000#32 = (2 : EReal) := by
  simp [Idealize.ShloMosaic.Ideal.ofBits, Idealize.ShloMosaic.Ideal.ieee, -EReal.coe_mul]; norm_num; rfl

end Cert.Prod

namespace Cert.DactIdeal.Prod

open Cert.DactIdeal Cert.DactIdeal.Gen Idealize.ShloMosaic Idealize.ShloMosaic.TcCoe Idealize.SL.Sem
open scoped BigOperators

/-- The gradient at an entry. -/
def grad (u : FVec Ideal S8192x4096 .f32) (w : FVec Ideal S4096x1024 .bf16) (dy : FVec Ideal S8192x1024 .bf16) : FVec Ideal S8192x4096 .bf16 :=
  fun i => (∑ k : Fin 1024, (dy (ix2 (n0 := 8192) (n1 := 1024) (i 0) k) : EReal) * w (ix2 (n0 := 4096) (n1 := 1024) (i 1) k)) * (2 * max (u i : EReal) 0)

/-- A point's block. -/
theorem part (a : FVec Ideal S512x1024 .bf16) (b : FVec Ideal S4096x1024 .bf16) (x : FVec Ideal S512x4096 .bf16) (s : Fin 512) (l : Fin 4096) :
    k0_pay1 (F := Ideal) a b x (ix2 s l) = (∑ k : Fin 1024, (a (ix2 s k) : EReal) * b (ix2 l k)) * (2 * (x (ix2 s l) : EReal)) := by
  unfold k0_pay1
  rw [shapeCast_self]
  refine congrArg₂ (fun p q : EReal => p * q) ((Ideal.matmul_transposedRhs_apply _ _ _ _ _ _).trans ((congrArg₂ (· + ·) Ideal.ofBits_zero_f32 rfl).trans (zero_add _)))
    (congrArg₂ (fun p q : EReal => p * q) ?_ rfl)
  exact Cert.Prod.two_f32

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem lt : ∀ t : Fin cfg0.N, t.val < 16 := (by decide +kernel : ∀ t : Fin grid0.N, t.val < 16)

/-- Window 0's block at a grid point, in its array's coordinates. -/
theorem read0 (t : Fin cfg0.N) (s : Fin 512) (k : Fin 1024) (x : FVec Ideal S8192x1024 .bf16) (ht : t.val < 16) :
    (win0_0.blk t).view.read (Elt Ideal) x (ix2 s k) = x (ix2 (n0 := 8192) (n1 := 1024) ⟨512 * t.val + s.val, by omega⟩ k) := by
  have hs := s.isLt
  have hk := k.isLt
  blk_ext [idx t]

/-- Window 1's block at a grid point, in its array's coordinates. -/
theorem read1 (t : Fin cfg0.N) (l : Fin 4096) (k : Fin 1024) (x : FVec Ideal S4096x1024 .bf16) :
    (win0_1.blk t).view.read (Elt Ideal) x (ix2 l k) = x (ix2 (n0 := 4096) (n1 := 1024) l k) := by
  have hl := l.isLt
  have hk := k.isLt
  blk_ext [idx t]

/-- Window 2's block at a grid point, in its array's coordinates. -/
theorem read2 (t : Fin cfg0.N) (s : Fin 512) (l : Fin 4096) (x : FVec Ideal S8192x4096 .bf16) (ht : t.val < 16) :
    (win0_2.blk t).view.read (Elt Ideal) x (ix2 s l) = x (ix2 (n0 := 8192) (n1 := 4096) ⟨512 * t.val + s.val, by omega⟩ l) := by
  have hs := s.isLt
  have hl := l.isLt
  blk_ext [idx t]

/-- The rectified activation, as the call finds it. -/
def act (u : FVec Ideal S8192x4096 .f32) : FVec Ideal S8192x4096 .bf16 := fun i => max (u i : EReal) 0

theorem V_host : V m c main_v2 = act (m ((c : Thread nD τ).loc main_arg0)) := by
  unfold V
  entry_read
  exact funext fun i => congrArg₂ (fun p q : EReal => max p q) rfl Ideal.ofBits_zero_f32

theorem iblk0 (t : Fin cfg0.N) : iblk m c 0 t = (win0_0.blk t).view.read (Elt Ideal) (m ((c : Thread nD τ).loc main_arg2)) := by
  rw [← V_main_arg2 m c]
  rfl

theorem iblk1 (t : Fin cfg0.N) : iblk m c 1 t = (win0_1.blk t).view.read (Elt Ideal) (m ((c : Thread nD τ).loc main_arg1)) := by
  rw [← V_main_arg1 m c]
  rfl

theorem iblk2 (t : Fin cfg0.N) : iblk m c 2 t = (win0_2.blk t).view.read (Elt Ideal) (act (m ((c : Thread nD τ).loc main_arg0))) := by
  rw [← V_host]
  rfl

/-- The kernel's result is the gradient. -/
theorem arr : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN := lt t
  obtain ⟨s, l, rfl⟩ : ∃ (s : Fin 512) (l : Fin 4096), y = ix2 s l := ⟨y 0, y 1, (ix2_eta y).symm⟩
  have hs := s.isLt
  have hl := l.isLt
  have e : (win0_3.blk t).view.emb (ix2 s l) = ix2 (n0 := 8192) (n1 := 4096) ⟨512 * t.val + s.val, by omega⟩ l := by
    blk_ext [idx t]
  refine Eq.trans ?_ (congrArg (grad _ _ _) e.symm)
  show ((dats m 0 c).after 3 t : FVec Ideal S512x4096 .bf16) (ix2 s l) = _
  rw [after0_3]
  frame_out
  refine (part _ _ _ s l).trans ?_
  rw [iblk0, iblk1, iblk2]
  exact congrArg₂ (fun p q : EReal => p * q) (Finset.sum_congr rfl fun k _ => congrArg₂ (fun p q : EReal => p * q) (read0 t s k _ hN) (read1 t l k _))
    (congrArg (fun q : EReal => 2 * q) (read2 t s l _ hN))

end Cert.DactIdeal.Prod

namespace Cert.DactRefIdeal.Prod

open Cert.DactRefIdeal Cert.DactRefIdeal.Gen Cert.DactRefIdeal.Read Idealize.ShloMosaic Idealize.SL.Sem
open scoped BigOperators

/-- The reference's gradient at an entry. -/
theorem value (x0 : (⟨S8192x4096, .f32⟩ : BufTy).Contents (Elt Ideal)) (x1 : (⟨S4096x1024, .bf16⟩ : BufTy).Contents (Elt Ideal))
    (x2 : (⟨S8192x1024, .bf16⟩ : BufTy).Contents (Elt Ideal)) (i : S8192x4096.Idx) :
    val_main_v14 (F := Ideal) x0 x1 x2 i = Cert.DactIdeal.Prod.grad x0 x1 x2 i := by
  have h8 : val_main_v8 (F := Ideal) x1 x2 i
      = ∑ k : Fin 1024, (x2 (ix2 (n0 := 8192) (n1 := 1024) (i 0) k) : EReal) * x1 (ix2 (n0 := 4096) (n1 := 1024) (i 1) k) := by
    rw [val_main_v8_apply]
    refine Finset.sum_congr rfl fun k _ => congrArg₂ (· * ·) ?_ ?_
    · exact congrArg x2 (funext fun a => Fin.ext (by match a with | ⟨0, _⟩ => rfl | ⟨1, _⟩ => rfl))
    · exact congrArg x1 (funext fun a => Fin.ext (by match a with | ⟨0, _⟩ => rfl | ⟨1, _⟩ => rfl))
  have h1 : val_main_v1 (F := Ideal) x0 i = max (x0 i : EReal) 0 := by
    rw [val_main_v1_apply, val_main_call0_v0_apply, val_main_call0_cst_apply]
    exact congrArg (fun q : EReal => max (x0 i : EReal) q) Ideal.ofBits_zero_f32
  have h2 : val_main_v2 (F := Ideal) i = (0 : EReal) := by
    rw [val_main_v2_apply, val_main_cst_apply]
    exact Ideal.ofBits_zero_f32
  have h12 : val_main_v12 (F := Ideal) i = (0 : EReal) := by
    rw [val_main_v12_apply, val_main_cst_1_apply]
    exact Ideal.ofBits_zero_f32
  rw [val_main_v14_apply]
  show val_main_v13 (F := Ideal) x0 x1 x2 i = _
  rw [val_main_v13_apply, val_main_v11_apply, val_main_v9_apply, val_main_v10_apply, val_main_v3_apply, h1, h2, h12, h8]
  unfold Cert.DactIdeal.Prod.grad
  rw [Cert.Prod.mul_twice_max]
  generalize (∑ k : Fin 1024, (x2 (ix2 (n0 := 8192) (n1 := 1024) (i 0) k) : EReal) * x1 (ix2 (n0 := 4096) (n1 := 1024) (i 1) k)) = X
  show Scalar.select (BitVec.ofBool (decide ((0 : EReal) < x0 i))) _ _ = _
  by_cases h : (0 : EReal) < x0 i
  · rw [if_pos h, decide_eq_true h]
    rfl
  · rw [if_neg h, decide_eq_false h]
    rfl

end Cert.DactRefIdeal.Prod

namespace Cert.DactIdeal.Prod

open Cert.DactIdeal Cert.DactIdeal.Gen Idealize.ShloMosaic Idealize.ShloMosaic.TcCoe Idealize.SL.Sem

theorem frame_p : Cert.quiescent_Dact (hDact := Cert.Dact.Gen.facts) := fun m ρ _ => Cert.Dact.Gen.frame m ρ

theorem frame_pi : Cert.quiescent_DactIdeal (hDactIdeal := Cert.DactIdeal.Gen.facts) := fun m ρ _ => Cert.DactIdeal.Gen.frame m ρ

/-- The reference's frame: host operations only, no semaphore. -/
theorem frame_ri : Cert.quiescent_DactRefIdeal (hDactRefIdeal := Cert.DactRefIdeal.Gen.facts) := fun m ρ _ =>
  (θ_run (Cert.DactRefIdeal.defs (F := Ideal)) _ _).mono (fun r h => ⟨fun c => (h c).2, Idealize.ShloMosaic.sem_eq_zero_of_no_sems (by decide) r.2⟩)
    (Cert.DactRefIdeal.Value.run (F := Ideal) m ρ)

theorem algebraic : Cert.algebraic_DactIdeal_DactRefIdeal (hDactIdeal := Cert.DactIdeal.Gen.facts) (hDactRefIdeal := Cert.DactRefIdeal.Gen.facts) := by
  intro m ρ m' ρ' _ hagree
  refine ⟨_, Cert.DactIdeal.Value.run_blocks m ρ, ?_⟩
  refine (θ_run (Cert.DactRefIdeal.defs (F := Ideal)) _ _).mono (fun r h c => ?_) (Cert.DactRefIdeal.Value.run (F := Ideal) m' ρ')
  obtain ⟨e0, e1, e2⟩ := hagree c
  obtain ⟨h0, k⟩ := h c
  refine ⟨h0.trans ?_, k⟩
  rw [Cert.DactRefIdeal.Read.val_main_v14_eq, e0, e1, e2, arr m c]
  exact funext fun i => Cert.DactRefIdeal.Prod.value _ _ _ i

end Cert.DactIdeal.Prod

end
-- ==== Proof.Prod.Wdown.lean ====
/-
  The gradient of the narrowing weight: the two halves of the tokens, added up block by block, are the product over all of them.
-/
module

public import proofs.«01_k».proof.Defs
public import proofs.«01_k».proof.Proof.Gen.Wdown.Frame
public import proofs.«01_k».proof.Proof.Gen.WdownIdeal.Value
public import proofs.«01_k».proof.Proof.Gen.WdownRefIdeal.Run
public import proofs.«01_k».proof.Proof.Gen.WdownRefIdeal.Read
public import proofs.«01_k».proof.Proof.Prod.Sums
public import Idealize.ShloMosaic.Lib.Pipeline.ValueKit
public import Idealize.ShloMosaic.Lib.Claim

@[expose] public section

set_option maxRecDepth 16384

noncomputable section

namespace Cert.WdownIdeal.Prod

open Cert.WdownIdeal Cert.WdownIdeal.Gen Idealize.ShloMosaic Idealize.ShloMosaic.TcCoe Idealize.SL.Sem
open scoped BigOperators

/-- The product of the squared activation's transpose and the cotangent, at an entry. -/
def prod (x : FVec Ideal S8192x4096 .bf16) (y : FVec Ideal S8192x1024 .bf16) : FVec Ideal S4096x1024 .bf16 :=
  fun i => ∑ k : Fin 8192, (x (ix2 (n0 := 8192) (n1 := 4096) k (i 0)) * x (ix2 (n0 := 8192) (n1 := 4096) k (i 0))) * y (ix2 (n0 := 8192) (n1 := 1024) k (i 1))

/-- The part of the product one block of tokens gives. -/
theorem part (a : FVec Ideal S4096x1024 .bf16) (b : FVec Ideal S4096x1024 .bf16) (r : Fin 1024) (l : Fin 1024) :
    (k0_pay1 (F := Ideal) a b) (ix2 r l) = ∑ k : Fin 4096, (a (ix2 k r) * a (ix2 k r)) * b (ix2 k l) := by
  unfold k0_pay1
  rw [shapeCast_self]
  exact (Cert.KernelIdeal.Fox.matmul_dotTN_apply _ _ _ _ _ _).trans ((congrArg₂ (· + ·) Ideal.ofBits_zero_f32 rfl).trans (zero_add _))

theorem first (a : FVec Ideal S4096x1024 .bf16) (b : FVec Ideal S4096x1024 .bf16) (y : S1024x1024.Idx) :
    k0_pay2 (F := Ideal) a b y = k0_pay1 (F := Ideal) a b y := by
  pointwise [k0_pay2]

theorem last (a : FVec Ideal S4096x1024 .bf16) (b : FVec Ideal S4096x1024 .bf16) (x : FVec Ideal S1024x1024 .f32) (y : S1024x1024.Idx) :
    k0_pay4 (F := Ideal) a b x y = x y + k0_pay1 (F := Ideal) a b y := by
  pointwise [k0_pay4]

variable (m : (ℓ : Loc nD τ sig) → Buf (Elt Ideal) ℓ) (c : Dev nD)

/-- Every window's block index. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem lt : ∀ t : Fin cfg0.N, t.val < 8 := (by decide +kernel : ∀ t : Fin grid0.N, t.val < 8)

/-- Window 0's block at a grid point, in its array's coordinates. -/
theorem read0 (t : Fin cfg0.N) (k : Fin 4096) (r : Fin 1024) (x : FVec Ideal S8192x4096 .bf16) (ht : t.val < 8) :
    (win0_0.blk t).view.read (Elt Ideal) x (ix2 k r) = x (ix2 (n0 := 8192) (n1 := 4096) ⟨4096 * (t.val % 2) + k.val, by omega⟩ ⟨1024 * (t.val / 2) + r.val, by omega⟩) := by
  have hk := k.isLt
  have hr := r.isLt
  blk_ext [idx t]

/-- Window 1's block at a grid point, in its array's coordinates. -/
theorem read1 (t : Fin cfg0.N) (k : Fin 4096) (l : Fin 1024) (x : FVec Ideal S8192x1024 .bf16) (ht : t.val < 8) :
    (win0_1.blk t).view.read (Elt Ideal) x (ix2 k l) = x (ix2 (n0 := 8192) (n1 := 1024) ⟨4096 * (t.val % 2) + k.val, by omega⟩ l) := by
  have hk := k.isLt
  have hl := l.isLt
  blk_ext [idx t]

/-- The rectified activation, as the call finds it. -/
def act (u : FVec Ideal S8192x4096 .f32) : FVec Ideal S8192x4096 .bf16 := fun i => FloatOps.maximumf (φ := .f32) (u i) (FloatOps.ofBits (F := Ideal) .f32 0x00000000#32)

theorem V_host : V m c main_v2 = act (m ((c : Thread nD τ).loc main_arg0)) := by
  unfold V
  entry_read
  rfl

/-- The arrays multiplied. -/
abbrev left_arr : FVec Ideal S8192x4096 .bf16 := (act (m ((c : Thread nD τ).loc main_arg0)))

abbrev right_arr : FVec Ideal S8192x1024 .bf16 := (m ((c : Thread nD τ).loc main_arg2))

theorem iblk0 (t : Fin cfg0.N) : iblk m c 0 t = (win0_0.blk t).view.read (Elt Ideal) (left_arr m c) := by
  unfold left_arr
  rw [← V_host]
  rfl

theorem iblk1 (t : Fin cfg0.N) : iblk m c 1 t = (win0_1.blk t).view.read (Elt Ideal) (right_arr m c) := rfl

/-- A point's part of the product, read off the arrays. -/
theorem at_point (t : Fin cfg0.N) (r : Fin 1024) (l : Fin 1024) (ht : t.val < 8) :
    (k0_pay1 (F := Ideal) (iblk m c 0 t) (iblk m c 1 t)) (ix2 r l)
      = ∑ k : Fin 4096, ((left_arr m c) (ix2 (n0 := 8192) (n1 := 4096) ⟨4096 * (t.val % 2) + k.val, by omega⟩ ⟨1024 * (t.val / 2) + r.val, by omega⟩) * (left_arr m c) (ix2 (n0 := 8192) (n1 := 4096) ⟨4096 * (t.val % 2) + k.val, by omega⟩ ⟨1024 * (t.val / 2) + r.val, by omega⟩))
        * (right_arr m c) (ix2 (n0 := 8192) (n1 := 1024) ⟨4096 * (t.val % 2) + k.val, by omega⟩ l) := by
  rw [part, iblk0, iblk1]
  exact Finset.sum_congr rfl fun k _ => congrArg₂ (· * ·) (congrArg₂ (· * ·) (read0 t k r _ ht) (read0 t k r _ ht)) (read1 t k l _ ht)

/-- What a run's last point leaves: the parts of its two points. -/
theorem left (t : Fin cfg0.N) (h : t.val % 2 = 1) (y : S1024x1024.Idx) :
    ((dats m 0 c).after 2 t : FVec Ideal S1024x1024 .bf16) y
      = k0_pay1 (F := Ideal) (iblk m c 0 ⟨t.val - 1, by omega⟩) (iblk m c 1 ⟨t.val - 1, by omega⟩) y + k0_pay1 (F := Ideal) (iblk m c 0 t) (iblk m c 1 t) y := by
  have h0 : (t.val - 1) % 2 = 0 := by omega
  rw [after0_2, outsAt0_B m c t (by omega) h]
  frame_out
  rw [last, outsAt0_A m c ⟨t.val - 1, by omega⟩ h0 (by show ¬(t.val - 1) % 2 = 1; omega)]
  frame_out
  exact congrArg₂ (· + ·) ((congrFun ((Memref.isWhole_whole cc0_scratch0).read_unread _) y).trans (first _ _ _)) rfl

/-- The kernel's result is the product. -/
theorem arr : (dats m 0 c).arrAt 2 cfg0.N = prod (left_arr m c) (right_arr m c) := by
  refine (dats m 0 c).arrAt_eq_of_covers 2 _ (by decide +kernel) fun t hf y => ?_
  have hN := lt t
  have h := (flush0_2 t).mp hf
  obtain ⟨r, l, rfl⟩ : ∃ (r : Fin 1024) (l : Fin 1024), y = ix2 r l := ⟨y 0, y 1, (ix2_eta y).symm⟩
  refine (left m c t h (ix2 r l)).trans ?_
  have hr := r.isLt
  have hl := l.isLt
  have e : (win0_2.blk t).view.emb (ix2 r l) = ix2 (n0 := 4096) (n1 := 1024) ⟨1024 * (t.val / 2) + r.val, by omega⟩ l := by
    blk_ext [idx t]
  refine Eq.trans ?_ (congrArg (prod _ _) e.symm)
  refine (congrArg₂ (· + ·) (at_point m c ⟨t.val - 1, by omega⟩ r l (by show t.val - 1 < 8; omega)) (at_point m c t r l hN)).trans ?_
  unfold prod
  rw [← Cert.Prod.sum_halves]
  have g1 : (4096 * ((t.val - 1) % 2)) = 0 := by omega
  have d1 : (t.val - 1) / 2 = t.val / 2 := by omega
  have g0 : (4096 * (t.val % 2)) = 4096 := by omega
  simp only [g1, g0, d1, Nat.zero_add, ix2_0, ix2_1]

end Cert.WdownIdeal.Prod

namespace Cert.WdownRefIdeal.Prod

open Cert.WdownRefIdeal Cert.WdownRefIdeal.Gen Cert.WdownRefIdeal.Read Idealize.ShloMosaic Idealize.SL.Sem
open scoped BigOperators

/-- The reference's weight gradient at an entry. -/
theorem value (x0 : (⟨S8192x4096, .f32⟩ : BufTy).Contents (Elt Ideal)) (x2 : (⟨S8192x1024, .bf16⟩ : BufTy).Contents (Elt Ideal)) (i : S4096x1024.Idx) :
    val_main_v7 (F := Ideal) x0 x2 i = Cert.WdownIdeal.Prod.prod (Cert.WdownIdeal.Prod.act x0) x2 i := by
  rw [val_main_v7_apply]
  show val_main_v6 (F := Ideal) x0 x2 i = _
  rw [val_main_v6_apply, val_main_v5_apply]
  unfold Cert.WdownIdeal.Prod.prod
  refine Finset.sum_congr rfl fun k _ => (mul_comm _ _).trans (congrArg₂ (· * ·) ?_ ?_)
  · rw [val_main_v2_apply, val_main_v1_apply, val_main_call0_v0_apply, val_main_call0_cst_apply]
    have e : ridx_main_v5 (idx_main_v6 i) k = ix2 (n0 := 8192) (n1 := 4096) k (i 0) := funext fun a => Fin.ext (by match a with | ⟨0, _⟩ => rfl | ⟨1, _⟩ => rfl)
    rw [e]
    rfl
  · exact congrArg x2 (funext fun a => Fin.ext (by match a with | ⟨0, _⟩ => rfl | ⟨1, _⟩ => rfl))

end Cert.WdownRefIdeal.Prod

namespace Cert.WdownIdeal.Prod

open Cert.WdownIdeal Cert.WdownIdeal.Gen Idealize.ShloMosaic Idealize.ShloMosaic.TcCoe Idealize.SL.Sem

theorem frame_p : Cert.quiescent_Wdown (hWdown := Cert.Wdown.Gen.facts) := fun m ρ _ => Cert.Wdown.Gen.frame m ρ

theorem frame_pi : Cert.quiescent_WdownIdeal (hWdownIdeal := Cert.WdownIdeal.Gen.facts) := fun m ρ _ => Cert.WdownIdeal.Gen.frame m ρ

/-- The reference's frame: host operations only, no semaphore. -/
theorem frame_ri : Cert.quiescent_WdownRefIdeal (hWdownRefIdeal := Cert.WdownRefIdeal.Gen.facts) := fun m ρ _ =>
  (θ_run (Cert.WdownRefIdeal.defs (F := Ideal)) _ _).mono (fun r h => ⟨fun c => (h c).2, Idealize.ShloMosaic.sem_eq_zero_of_no_sems (by decide) r.2⟩)
    (Cert.WdownRefIdeal.Value.run (F := Ideal) m ρ)

theorem algebraic : Cert.algebraic_WdownIdeal_WdownRefIdeal (hWdownIdeal := Cert.WdownIdeal.Gen.facts) (hWdownRefIdeal := Cert.WdownRefIdeal.Gen.facts) := by
  intro m ρ m' ρ' _ hagree
  refine ⟨_, Cert.WdownIdeal.Value.run_blocks m ρ, ?_⟩
  refine (θ_run (Cert.WdownRefIdeal.defs (F := Ideal)) _ _).mono (fun r h c => ?_) (Cert.WdownRefIdeal.Value.run (F := Ideal) m' ρ')
  obtain ⟨e0, e1, e2⟩ := hagree c
  obtain ⟨h0, k⟩ := h c
  refine ⟨h0.trans ?_, k⟩
  rw [Cert.WdownRefIdeal.Read.val_main_v7_eq, e0, e2, arr m c]
  exact funext fun i => Cert.WdownRefIdeal.Prod.value _ _ i

end Cert.WdownIdeal.Prod

end
-- ==== Proof.Prod.Wup.lean ====
/-
  The gradient of the widening weight: the two halves of the tokens, added up block by block, are the product over all of them.
-/
module

public import proofs.«01_k».proof.Defs
public import proofs.«01_k».proof.Proof.Gen.Wup.Frame
public import proofs.«01_k».proof.Proof.Gen.WupIdeal.Value
public import proofs.«01_k».proof.Proof.Gen.WupRefIdeal.Run
public import proofs.«01_k».proof.Proof.Gen.WupRefIdeal.Read
public import proofs.«01_k».proof.Proof.Prod.Sums
public import Idealize.ShloMosaic.Lib.Pipeline.ValueKit
public import Idealize.ShloMosaic.Lib.Claim

@[expose] public section

set_option maxRecDepth 16384

noncomputable section

namespace Cert.WupIdeal.Prod

open Cert.WupIdeal Cert.WupIdeal.Gen Idealize.ShloMosaic Idealize.ShloMosaic.TcCoe Idealize.SL.Sem
open scoped BigOperators

/-- The product, at an entry. -/
def prod (x : FVec Ideal S8192x1024 .bf16) (y : FVec Ideal S8192x4096 .bf16) : FVec Ideal S1024x4096 .bf16 :=
  fun i => ∑ k : Fin 8192, x (ix2 (n0 := 8192) (n1 := 1024) k (i 0)) * y (ix2 (n0 := 8192) (n1 := 4096) k (i 1))

/-- The part of the product one block of tokens gives. -/
theorem part (a : FVec Ideal S4096x1024 .bf16) (b : FVec Ideal S4096x1024 .bf16) (r : Fin 1024) (l : Fin 1024) :
    (k0_pay1 (F := Ideal) a b) (ix2 r l) = ∑ k : Fin 4096, a (ix2 k r) * b (ix2 k l) := by
  unfold k0_pay1
  exact (Cert.KernelIdeal.Fox.matmul_dotTN_apply _ _ _ _ _ _).trans ((congrArg₂ (· + ·) Ideal.ofBits_zero_f32 rfl).trans (zero_add _))

theorem first (a : FVec Ideal S4096x1024 .bf16) (b : FVec Ideal S4096x1024 .bf16) (y : S1024x1024.Idx) :
    k0_pay2 (F := Ideal) a b y = k0_pay1 (F := Ideal) a b y := by
  pointwise [k0_pay2]

theorem last (a : FVec Ideal S4096x1024 .bf16) (b : FVec Ideal S4096x1024 .bf16) (x : FVec Ideal S1024x1024 .f32) (y : S1024x1024.Idx) :
    k0_pay4 (F := Ideal) a b x y = x y + k0_pay1 (F := Ideal) a b y := by
  pointwise [k0_pay4]

variable (m : (ℓ : Loc nD τ sig) → Buf (Elt Ideal) ℓ) (c : Dev nD)

/-- Every window's block index. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

theorem lt : ∀ t : Fin cfg0.N, t.val < 8 := (by decide +kernel : ∀ t : Fin grid0.N, t.val < 8)

/-- Window 0's block at a grid point, in its array's coordinates. -/
theorem read0 (t : Fin cfg0.N) (k : Fin 4096) (r : Fin 1024) (x : FVec Ideal S8192x1024 .bf16) (ht : t.val < 8) :
    (win0_0.blk t).view.read (Elt Ideal) x (ix2 k r) = x (ix2 (n0 := 8192) (n1 := 1024) ⟨4096 * (t.val % 2) + k.val, by omega⟩ r) := by
  have hk := k.isLt
  have hr := r.isLt
  blk_ext [idx t]

/-- Window 1's block at a grid point, in its array's coordinates. -/
theorem read1 (t : Fin cfg0.N) (k : Fin 4096) (l : Fin 1024) (x : FVec Ideal S8192x4096 .bf16) (ht : t.val < 8) :
    (win0_1.blk t).view.read (Elt Ideal) x (ix2 k l) = x (ix2 (n0 := 8192) (n1 := 4096) ⟨4096 * (t.val % 2) + k.val, by omega⟩ ⟨1024 * (t.val / 2) + l.val, by omega⟩) := by
  have hk := k.isLt
  have hl := l.isLt
  blk_ext [idx t]

/-- The arrays multiplied. -/
abbrev left_arr : FVec Ideal S8192x1024 .bf16 := (m ((c : Thread nD τ).loc main_arg0))

abbrev right_arr : FVec Ideal S8192x4096 .bf16 := (m ((c : Thread nD τ).loc main_arg2))

theorem iblk0 (t : Fin cfg0.N) : iblk m c 0 t = (win0_0.blk t).view.read (Elt Ideal) (left_arr m c) := rfl

theorem iblk1 (t : Fin cfg0.N) : iblk m c 1 t = (win0_1.blk t).view.read (Elt Ideal) (right_arr m c) := rfl

/-- A point's part of the product, read off the arrays. -/
theorem at_point (t : Fin cfg0.N) (r : Fin 1024) (l : Fin 1024) (ht : t.val < 8) :
    (k0_pay1 (F := Ideal) (iblk m c 0 t) (iblk m c 1 t)) (ix2 r l)
      = ∑ k : Fin 4096, (left_arr m c) (ix2 (n0 := 8192) (n1 := 1024) ⟨4096 * (t.val % 2) + k.val, by omega⟩ r)
        * (right_arr m c) (ix2 (n0 := 8192) (n1 := 4096) ⟨4096 * (t.val % 2) + k.val, by omega⟩ ⟨1024 * (t.val / 2) + l.val, by omega⟩) := by
  rw [part, iblk0, iblk1]
  exact Finset.sum_congr rfl fun k _ => congrArg₂ (· * ·) (read0 t k r _ ht) (read1 t k l _ ht)

/-- What a run's last point leaves: the parts of its two points. -/
theorem left (t : Fin cfg0.N) (h : t.val % 2 = 1) (y : S1024x1024.Idx) :
    ((dats m 0 c).after 2 t : FVec Ideal S1024x1024 .bf16) y
      = k0_pay1 (F := Ideal) (iblk m c 0 ⟨t.val - 1, by omega⟩) (iblk m c 1 ⟨t.val - 1, by omega⟩) y + k0_pay1 (F := Ideal) (iblk m c 0 t) (iblk m c 1 t) y := by
  have h0 : (t.val - 1) % 2 = 0 := by omega
  rw [after0_2, outsAt0_B m c t (by omega) h]
  frame_out
  rw [last, outsAt0_A m c ⟨t.val - 1, by omega⟩ h0 (by show ¬(t.val - 1) % 2 = 1; omega)]
  frame_out
  exact congrArg₂ (· + ·) ((congrFun ((Memref.isWhole_whole cc0_scratch0).read_unread _) y).trans (first _ _ _)) rfl

/-- The kernel's result is the product. -/
theorem arr : (dats m 0 c).arrAt 2 cfg0.N = prod (left_arr m c) (right_arr m c) := by
  refine (dats m 0 c).arrAt_eq_of_covers 2 _ (by decide +kernel) fun t hf y => ?_
  have hN := lt t
  have h := (flush0_2 t).mp hf
  obtain ⟨r, l, rfl⟩ : ∃ (r : Fin 1024) (l : Fin 1024), y = ix2 r l := ⟨y 0, y 1, (ix2_eta y).symm⟩
  refine (left m c t h (ix2 r l)).trans ?_
  have hr := r.isLt
  have hl := l.isLt
  have e : (win0_2.blk t).view.emb (ix2 r l) = ix2 (n0 := 1024) (n1 := 4096) r ⟨1024 * (t.val / 2) + l.val, by omega⟩ := by
    blk_ext [idx t]
  refine Eq.trans ?_ (congrArg (prod _ _) e.symm)
  refine (congrArg₂ (· + ·) (at_point m c ⟨t.val - 1, by omega⟩ r l (by show t.val - 1 < 8; omega)) (at_point m c t r l hN)).trans ?_
  unfold prod
  rw [← Cert.Prod.sum_halves]
  have g1 : (4096 * ((t.val - 1) % 2)) = 0 := by omega
  have d1 : (t.val - 1) / 2 = t.val / 2 := by omega
  have g0 : (4096 * (t.val % 2)) = 4096 := by omega
  simp only [g1, g0, d1, Nat.zero_add, ix2_0, ix2_1]

end Cert.WupIdeal.Prod

namespace Cert.WupRefIdeal.Prod

open Cert.WupRefIdeal Cert.WupRefIdeal.Gen Cert.WupRefIdeal.Read Idealize.ShloMosaic Idealize.SL.Sem
open scoped BigOperators

/-- The reference's weight gradient at an entry. -/
theorem value (x0 : (⟨S8192x1024, .bf16⟩ : BufTy).Contents (Elt Ideal)) (x2 : (⟨S8192x4096, .bf16⟩ : BufTy).Contents (Elt Ideal)) (i : S1024x4096.Idx) :
    val_main_v6 (F := Ideal) x0 x2 i = Cert.WupIdeal.Prod.prod x0 x2 i := by
  rw [val_main_v6_apply]
  show val_main_v5 (F := Ideal) x0 x2 i = _
  rw [val_main_v5_apply, val_main_v4_apply]
  unfold Cert.WupIdeal.Prod.prod
  refine Finset.sum_congr rfl fun k _ => (mul_comm _ _).trans (congrArg₂ (· * ·) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

end Cert.WupRefIdeal.Prod

namespace Cert.WupIdeal.Prod

open Cert.WupIdeal Cert.WupIdeal.Gen Idealize.ShloMosaic Idealize.ShloMosaic.TcCoe Idealize.SL.Sem

theorem frame_p : Cert.quiescent_Wup (hWup := Cert.Wup.Gen.facts) := fun m ρ _ => Cert.Wup.Gen.frame m ρ

theorem frame_pi : Cert.quiescent_WupIdeal (hWupIdeal := Cert.WupIdeal.Gen.facts) := fun m ρ _ => Cert.WupIdeal.Gen.frame m ρ

/-- The reference's frame: host operations only, no semaphore. -/
theorem frame_ri : Cert.quiescent_WupRefIdeal (hWupRefIdeal := Cert.WupRefIdeal.Gen.facts) := fun m ρ _ =>
  (θ_run (Cert.WupRefIdeal.defs (F := Ideal)) _ _).mono (fun r h => ⟨fun c => (h c).2, Idealize.ShloMosaic.sem_eq_zero_of_no_sems (by decide) r.2⟩)
    (Cert.WupRefIdeal.Value.run (F := Ideal) m ρ)

theorem algebraic : Cert.algebraic_WupIdeal_WupRefIdeal (hWupIdeal := Cert.WupIdeal.Gen.facts) (hWupRefIdeal := Cert.WupRefIdeal.Gen.facts) := by
  intro m ρ m' ρ' _ hagree
  refine ⟨_, Cert.WupIdeal.Value.run_blocks m ρ, ?_⟩
  refine (θ_run (Cert.WupRefIdeal.defs (F := Ideal)) _ _).mono (fun r h c => ?_) (Cert.WupRefIdeal.Value.run (F := Ideal) m' ρ')
  obtain ⟨e0, e1, e2⟩ := hagree c
  obtain ⟨h0, k⟩ := h c
  refine ⟨h0.trans ?_, k⟩
  rw [Cert.WupRefIdeal.Read.val_main_v6_eq, e0, e2, arr m c]
  exact funext fun i => Cert.WupRefIdeal.Prod.value _ _ i

end Cert.WupIdeal.Prod

end
-- ==== Proof.Prod.Wxo.lean ====
/-
  The gradient of the cross attention's output weight: the four quarters of the tokens, added up, are the product over all of them.
-/
module

public import proofs.«01_k».proof.Defs
public import proofs.«01_k».proof.Proof.Gen.Wxo.Frame
public import proofs.«01_k».proof.Proof.Gen.WxoIdeal.Value
public import proofs.«01_k».proof.Proof.Gen.WxoRefIdeal.Run
public import proofs.«01_k».proof.Proof.Gen.WxoRefIdeal.Read
public import proofs.«01_k».proof.Proof.Prod.Sums
public import Idealize.ShloMosaic.Lib.Pipeline.ValueKit
public import Idealize.ShloMosaic.Lib.Claim

@[expose] public section

set_option maxRecDepth 16384

noncomputable section

namespace Cert.WxoIdeal.Prod

open Cert.WxoIdeal Cert.WxoIdeal.Gen Idealize.ShloMosaic Idealize.ShloMosaic.TcCoe Idealize.SL.Sem
open scoped BigOperators

/-- The product, at an entry. -/
def prod (x : FVec Ideal S8192x1024 .bf16) (y : FVec Ideal S8192x1024 .f32) : FVec Ideal S1024x1024 .bf16 :=
  fun i => ∑ k : Fin 8192, x (ix2 (n0 := 8192) (n1 := 1024) k (i 0)) * y (ix2 (n0 := 8192) (n1 := 1024) k (i 1))

/-- The part of the product one block of tokens gives. -/
theorem part (a : FVec Ideal S2048x1024 .bf16) (b : FVec Ideal S2048x1024 .f32) (r : Fin 1024) (l : Fin 1024) :
    (k0_pay1 (F := Ideal) a b) (ix2 r l) = ∑ k : Fin 2048, a (ix2 k r) * b (ix2 k l) := by
  unfold k0_pay1
  exact (Cert.KernelIdeal.Fox.matmul_dotTN_apply _ _ _ _ _ _).trans ((congrArg₂ (· + ·) Ideal.ofBits_zero_f32 rfl).trans (zero_add _))

theorem first (a : FVec Ideal S2048x1024 .bf16) (b : FVec Ideal S2048x1024 .f32) (y : S1024x1024.Idx) :
    k0_pay2 (F := Ideal) a b y = k0_pay1 (F := Ideal) a b y := by
  pointwise [k0_pay2]

theorem next (a : FVec Ideal S2048x1024 .bf16) (b : FVec Ideal S2048x1024 .f32) (x : FVec Ideal S1024x1024 .f32) (y : S1024x1024.Idx) :
    k0_pay3 (F := Ideal) a b x y = x y + k0_pay1 (F := Ideal) a b y := by
  pointwise [k0_pay3]

theorem last (a : FVec Ideal S2048x1024 .bf16) (b : FVec Ideal S2048x1024 .f32) (x : FVec Ideal S1024x1024 .f32) (y : S1024x1024.Idx) :
    k0_pay4 (F := Ideal) a b x y = x y + k0_pay1 (F := Ideal) a b y := by
  pointwise [k0_pay4]

variable (m : (ℓ : Loc nD τ sig) → Buf (Elt Ideal) ℓ) (c : Dev nD)

/-- Every window's block index. -/
theorem idx : ∀ t : Fin cfg0.N, win0_0.index t = ![t.val % 4, 0] ∧ win0_1.index t = ![t.val % 4, 0] ∧ win0_2.index t = ![0, 0] :=
  (by decide +kernel : ∀ t : Fin grid0.N, _)

theorem lt : ∀ t : Fin cfg0.N, t.val < 4 := (by decide +kernel : ∀ t : Fin grid0.N, t.val < 4)

/-- Window 0's block at a grid point, in its array's coordinates. -/
theorem read0 (t : Fin cfg0.N) (k : Fin 2048) (r : Fin 1024) (x : FVec Ideal S8192x1024 .bf16) (ht : t.val < 4) :
    (win0_0.blk t).view.read (Elt Ideal) x (ix2 k r) = x (ix2 (n0 := 8192) (n1 := 1024) ⟨2048 * (t.val % 4) + k.val, by omega⟩ r) := by
  have hk := k.isLt
  have hr := r.isLt
  blk_ext [idx t]

/-- Window 1's block at a grid point, in its array's coordinates. -/
theorem read1 (t : Fin cfg0.N) (k : Fin 2048) (l : Fin 1024) (x : FVec Ideal S8192x1024 .f32) (ht : t.val < 4) :
    (win0_1.blk t).view.read (Elt Ideal) x (ix2 k l) = x (ix2 (n0 := 8192) (n1 := 1024) ⟨2048 * (t.val % 4) + k.val, by omega⟩ l) := by
  have hk := k.isLt
  have hl := l.isLt
  blk_ext [idx t]

/-- The arrays multiplied. -/
abbrev left_arr : FVec Ideal S8192x1024 .bf16 := (m ((c : Thread nD τ).loc main_arg0))

abbrev right_arr : FVec Ideal S8192x1024 .f32 := (m ((c : Thread nD τ).loc main_arg2))

theorem iblk0 (t : Fin cfg0.N) : iblk m c 0 t = (win0_0.blk t).view.read (Elt Ideal) (left_arr m c) := rfl

theorem iblk1 (t : Fin cfg0.N) : iblk m c 1 t = (win0_1.blk t).view.read (Elt Ideal) (right_arr m c) := rfl

/-- A point's part of the product, read off the arrays. -/
theorem at_point (t : Fin cfg0.N) (r : Fin 1024) (l : Fin 1024) (ht : t.val < 4) :
    (k0_pay1 (F := Ideal) (iblk m c 0 t) (iblk m c 1 t)) (ix2 r l)
      = ∑ k : Fin 2048, (left_arr m c) (ix2 (n0 := 8192) (n1 := 1024) ⟨2048 * (t.val % 4) + k.val, by omega⟩ r)
        * (right_arr m c) (ix2 (n0 := 8192) (n1 := 1024) ⟨2048 * (t.val % 4) + k.val, by omega⟩ l) := by
  rw [part, iblk0, iblk1]
  exact Finset.sum_congr rfl fun k _ => congrArg₂ (· * ·) (read0 t k r _ ht) (read1 t k l _ ht)

/-- What a run's first three points leave in the accumulator. -/
theorem acc0 (t : Fin cfg0.N) (h : t.val % 4 = 0) (y : S1024x1024.Idx) :
    (outsAt0 m c t.val t.isLt).2 y = k0_pay1 (F := Ideal) (iblk m c 0 t) (iblk m c 1 t) y := by
  rw [outsAt0_A m c t h (by omega) (by omega)]
  frame_out
  exact first _ _ _

theorem acc_next (t : Fin cfg0.N) (h : 1 ≤ t.val % 4 ∧ t.val % 4 ≤ 2) (y : S1024x1024.Idx) :
    (outsAt0 m c t.val t.isLt).2 y
      = (outsAt0 m c (t.val - 1) (Nat.lt_of_le_of_lt (Nat.sub_le _ _) t.isLt)).2 y + k0_pay1 (F := Ideal) (iblk m c 0 t) (iblk m c 1 t) y := by
  rw [outsAt0_B m c t (by omega) h (by omega)]
  frame_out
  exact (next _ _ _ _).trans (congrArg₂ (· + ·) (congrFun ((Memref.isWhole_whole cc0_scratch0).read_unread _) y) rfl)

/-- What a run's last point leaves: the parts of its four points. -/
theorem left (t : Fin cfg0.N) (h : t.val % 4 = 3) (y : S1024x1024.Idx) :
    ((dats m 0 c).after 2 t : FVec Ideal S1024x1024 .bf16) y
      = ((k0_pay1 (F := Ideal) (iblk m c 0 ⟨t.val - 3, by omega⟩) (iblk m c 1 ⟨t.val - 3, by omega⟩) y
          + k0_pay1 (F := Ideal) (iblk m c 0 ⟨t.val - 2, by omega⟩) (iblk m c 1 ⟨t.val - 2, by omega⟩) y)
          + k0_pay1 (F := Ideal) (iblk m c 0 ⟨t.val - 1, by omega⟩) (iblk m c 1 ⟨t.val - 1, by omega⟩) y)
          + k0_pay1 (F := Ideal) (iblk m c 0 t) (iblk m c 1 t) y := by
  rw [after0_2, outsAt0_C m c t (by omega) (by omega) h]
  frame_out
  rw [last]
  have e1 := acc_next m c ⟨t.val - 1, by omega⟩ (by show 1 ≤ (t.val - 1) % 4 ∧ (t.val - 1) % 4 ≤ 2; omega) y
  have e2 := acc_next m c ⟨t.val - 2, by omega⟩ (by show 1 ≤ (t.val - 2) % 4 ∧ (t.val - 2) % 4 ≤ 2; omega) y
  have e3 := acc0 m c ⟨t.val - 3, by omega⟩ (by show (t.val - 3) % 4 = 0; omega) y
  exact congrArg₂ (· + ·) ((congrFun ((Memref.isWhole_whole cc0_scratch0).read_unread _) y).trans (e1.trans (congrArg₂ (· + ·) (e2.trans (congrArg₂ (· + ·) e3 rfl)) rfl))) rfl

/-- The kernel's result is the product. -/
theorem arr : (dats m 0 c).arrAt 2 cfg0.N = prod (left_arr m c) (right_arr m c) := by
  refine (dats m 0 c).arrAt_eq_of_covers 2 _ (by decide +kernel) fun t hf y => ?_
  have hN := lt t
  have h := (flush0_2 t).mp hf
  obtain ⟨r, l, rfl⟩ : ∃ (r : Fin 1024) (l : Fin 1024), y = ix2 r l := ⟨y 0, y 1, (ix2_eta y).symm⟩
  refine (left m c t h (ix2 r l)).trans ?_
  have hr := r.isLt
  have hl := l.isLt
  have e : (win0_2.blk t).view.emb (ix2 r l) = ix2 (n0 := 1024) (n1 := 1024) r l := by
    blk_ext [idx t]
  refine Eq.trans ?_ (congrArg (prod _ _) e.symm)
  refine (congrArg₂ (· + ·) (congrArg₂ (· + ·) (congrArg₂ (· + ·) (at_point m c ⟨t.val - 3, by omega⟩ r l (by show t.val - 3 < 4; omega)) (at_point m c ⟨t.val - 2, by omega⟩ r l (by show t.val - 2 < 4; omega))) (at_point m c ⟨t.val - 1, by omega⟩ r l (by show t.val - 1 < 4; omega))) (at_point m c t r l hN)).trans ?_
  unfold prod
  rw [← Cert.Prod.sum_quarters]
  have g3 : (2048 * ((t.val - 3) % 4)) = 0 := by omega
  have d3 : (t.val - 3) / 4 = t.val / 4 := by omega
  have g2 : (2048 * ((t.val - 2) % 4)) = 2048 := by omega
  have d2 : (t.val - 2) / 4 = t.val / 4 := by omega
  have g1 : (2048 * ((t.val - 1) % 4)) = 4096 := by omega
  have d1 : (t.val - 1) / 4 = t.val / 4 := by omega
  have g0 : (2048 * (t.val % 4)) = 6144 := by omega
  simp only [g3, g2, g1, g0, d3, d2, d1, Nat.zero_add, ix2_0, ix2_1]

end Cert.WxoIdeal.Prod

namespace Cert.WxoRefIdeal.Prod

open Cert.WxoRefIdeal Cert.WxoRefIdeal.Gen Cert.WxoRefIdeal.Read Idealize.ShloMosaic Idealize.SL.Sem
open scoped BigOperators

/-- The reference's weight gradient at an entry. -/
theorem value (x0 : (⟨S8192x1024, .bf16⟩ : BufTy).Contents (Elt Ideal)) (x2 : (⟨S8192x1024, .f32⟩ : BufTy).Contents (Elt Ideal)) (i : S1024x1024.Idx) :
    val_main_v5 (F := Ideal) x0 x2 i = Cert.WxoIdeal.Prod.prod x0 x2 i := by
  rw [val_main_v5_apply]
  show val_main_v4 (F := Ideal) x0 x2 i = _
  rw [val_main_v4_apply, val_main_v3_apply]
  unfold Cert.WxoIdeal.Prod.prod
  refine Finset.sum_congr rfl fun k _ => (mul_comm _ _).trans (congrArg₂ (· * ·) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

end Cert.WxoRefIdeal.Prod

namespace Cert.WxoIdeal.Prod

open Cert.WxoIdeal Cert.WxoIdeal.Gen Idealize.ShloMosaic Idealize.ShloMosaic.TcCoe Idealize.SL.Sem

theorem frame_p : Cert.quiescent_Wxo (hWxo := Cert.Wxo.Gen.facts) := fun m ρ _ => Cert.Wxo.Gen.frame m ρ

theorem frame_pi : Cert.quiescent_WxoIdeal (hWxoIdeal := Cert.WxoIdeal.Gen.facts) := fun m ρ _ => Cert.WxoIdeal.Gen.frame m ρ

/-- The reference's frame: host operations only, no semaphore. -/
theorem frame_ri : Cert.quiescent_WxoRefIdeal (hWxoRefIdeal := Cert.WxoRefIdeal.Gen.facts) := fun m ρ _ =>
  (θ_run (Cert.WxoRefIdeal.defs (F := Ideal)) _ _).mono (fun r h => ⟨fun c => (h c).2, Idealize.ShloMosaic.sem_eq_zero_of_no_sems (by decide) r.2⟩)
    (Cert.WxoRefIdeal.Value.run (F := Ideal) m ρ)

theorem algebraic : Cert.algebraic_WxoIdeal_WxoRefIdeal (hWxoIdeal := Cert.WxoIdeal.Gen.facts) (hWxoRefIdeal := Cert.WxoRefIdeal.Gen.facts) := by
  intro m ρ m' ρ' _ hagree
  refine ⟨_, Cert.WxoIdeal.Value.run_blocks m ρ, ?_⟩
  refine (θ_run (Cert.WxoRefIdeal.defs (F := Ideal)) _ _).mono (fun r h c => ?_) (Cert.WxoRefIdeal.Value.run (F := Ideal) m' ρ')
  obtain ⟨e0, e1, e2⟩ := hagree c
  obtain ⟨h0, k⟩ := h c
  refine ⟨h0.trans ?_, k⟩
  rw [Cert.WxoRefIdeal.Read.val_main_v5_eq, e0, e2, arr m c]
  exact funext fun i => Cert.WxoRefIdeal.Prod.value _ _ i

end Cert.WxoIdeal.Prod

end
-- ==== Proof.Prod.Wxq.lean ====
/-
  The gradient of the cross attention's query weight: the two halves of the tokens, added up, are the product over all of them.
-/
module

public import proofs.«01_k».proof.Defs
public import proofs.«01_k».proof.Proof.Gen.Wxq.Frame
public import proofs.«01_k».proof.Proof.Gen.WxqIdeal.Value
public import proofs.«01_k».proof.Proof.Gen.WxqRefIdeal.Run
public import proofs.«01_k».proof.Proof.Gen.WxqRefIdeal.Read
public import proofs.«01_k».proof.Proof.Prod.Sums
public import Idealize.ShloMosaic.Lib.Pipeline.ValueKit
public import Idealize.ShloMosaic.Lib.Claim

@[expose] public section

set_option maxRecDepth 16384

noncomputable section

namespace Cert.WxqIdeal.Prod

open Cert.WxqIdeal Cert.WxqIdeal.Gen Idealize.ShloMosaic Idealize.ShloMosaic.TcCoe Idealize.SL.Sem
open scoped BigOperators

/-- The product, at an entry. -/
def prod (x : FVec Ideal S8192x1024 .bf16) (y : FVec Ideal S8192x1024 .bf16) : FVec Ideal S1024x1024 .bf16 :=
  fun i => ∑ k : Fin 8192, x (ix2 (n0 := 8192) (n1 := 1024) k (i 0)) * y (ix2 (n0 := 8192) (n1 := 1024) k (i 1))

/-- The part of the product one block of tokens gives. -/
theorem part (a : FVec Ideal S4096x1024 .bf16) (b : FVec Ideal S4096x1024 .bf16) (r : Fin 1024) (l : Fin 1024) :
    (k0_pay1 (F := Ideal) a b) (ix2 r l) = ∑ k : Fin 4096, a (ix2 k r) * b (ix2 k l) := by
  unfold k0_pay1
  exact (Cert.KernelIdeal.Fox.matmul_dotTN_apply _ _ _ _ _ _).trans ((congrArg₂ (· + ·) Ideal.ofBits_zero_f32 rfl).trans (zero_add _))

theorem first (a : FVec Ideal S4096x1024 .bf16) (b : FVec Ideal S4096x1024 .bf16) (y : S1024x1024.Idx) :
    k0_pay2 (F := Ideal) a b y = k0_pay1 (F := Ideal) a b y := by
  pointwise [k0_pay2]

theorem last (a : FVec Ideal S4096x1024 .bf16) (b : FVec Ideal S4096x1024 .bf16) (x : FVec Ideal S1024x1024 .f32) (y : S1024x1024.Idx) :
    k0_pay4 (F := Ideal) a b x y = x y + k0_pay1 (F := Ideal) a b y := by
  pointwise [k0_pay4]

variable (m : (ℓ : Loc nD τ sig) → Buf (Elt Ideal) ℓ) (c : Dev nD)

/-- Every window's block index. -/
theorem idx : ∀ t : Fin cfg0.N, win0_0.index t = ![t.val % 2, 0] ∧ win0_1.index t = ![t.val % 2, 0] ∧ win0_2.index t = ![0, 0] :=
  (by decide +kernel : ∀ t : Fin grid0.N, _)

theorem lt : ∀ t : Fin cfg0.N, t.val < 2 := (by decide +kernel : ∀ t : Fin grid0.N, t.val < 2)

/-- Window 0's block at a grid point, in its array's coordinates. -/
theorem read0 (t : Fin cfg0.N) (k : Fin 4096) (r : Fin 1024) (x : FVec Ideal S8192x1024 .bf16) (ht : t.val < 2) :
    (win0_0.blk t).view.read (Elt Ideal) x (ix2 k r) = x (ix2 (n0 := 8192) (n1 := 1024) ⟨4096 * (t.val % 2) + k.val, by omega⟩ r) := by
  have hk := k.isLt
  have hr := r.isLt
  blk_ext [idx t]

/-- Window 1's block at a grid point, in its array's coordinates. -/
theorem read1 (t : Fin cfg0.N) (k : Fin 4096) (l : Fin 1024) (x : FVec Ideal S8192x1024 .bf16) (ht : t.val < 2) :
    (win0_1.blk t).view.read (Elt Ideal) x (ix2 k l) = x (ix2 (n0 := 8192) (n1 := 1024) ⟨4096 * (t.val % 2) + k.val, by omega⟩ l) := by
  have hk := k.isLt
  have hl := l.isLt
  blk_ext [idx t]

/-- The arrays multiplied. -/
abbrev left_arr : FVec Ideal S8192x1024 .bf16 := (m ((c : Thread nD τ).loc main_arg0))

abbrev right_arr : FVec Ideal S8192x1024 .bf16 := (m ((c : Thread nD τ).loc main_arg2))

theorem iblk0 (t : Fin cfg0.N) : iblk m c 0 t = (win0_0.blk t).view.read (Elt Ideal) (left_arr m c) := rfl

theorem iblk1 (t : Fin cfg0.N) : iblk m c 1 t = (win0_1.blk t).view.read (Elt Ideal) (right_arr m c) := rfl

/-- A point's part of the product, read off the arrays. -/
theorem at_point (t : Fin cfg0.N) (r : Fin 1024) (l : Fin 1024) (ht : t.val < 2) :
    (k0_pay1 (F := Ideal) (iblk m c 0 t) (iblk m c 1 t)) (ix2 r l)
      = ∑ k : Fin 4096, (left_arr m c) (ix2 (n0 := 8192) (n1 := 1024) ⟨4096 * (t.val % 2) + k.val, by omega⟩ r)
        * (right_arr m c) (ix2 (n0 := 8192) (n1 := 1024) ⟨4096 * (t.val % 2) + k.val, by omega⟩ l) := by
  rw [part, iblk0, iblk1]
  exact Finset.sum_congr rfl fun k _ => congrArg₂ (· * ·) (read0 t k r _ ht) (read1 t k l _ ht)

/-- What a run's last point leaves: the parts of its two points. -/
theorem left (t : Fin cfg0.N) (h : t.val % 2 = 1) (y : S1024x1024.Idx) :
    ((dats m 0 c).after 2 t : FVec Ideal S1024x1024 .bf16) y
      = k0_pay1 (F := Ideal) (iblk m c 0 ⟨t.val - 1, by omega⟩) (iblk m c 1 ⟨t.val - 1, by omega⟩) y + k0_pay1 (F := Ideal) (iblk m c 0 t) (iblk m c 1 t) y := by
  have h0 : (t.val - 1) % 2 = 0 := by omega
  rw [after0_2, outsAt0_B m c t (by omega) h]
  frame_out
  rw [last, outsAt0_A m c ⟨t.val - 1, by omega⟩ h0 (by show ¬(t.val - 1) % 2 = 1; omega)]
  frame_out
  exact congrArg₂ (· + ·) ((congrFun ((Memref.isWhole_whole cc0_scratch0).read_unread _) y).trans (first _ _ _)) rfl

/-- The kernel's result is the product. -/
theorem arr : (dats m 0 c).arrAt 2 cfg0.N = prod (left_arr m c) (right_arr m c) := by
  refine (dats m 0 c).arrAt_eq_of_covers 2 _ (by decide +kernel) fun t hf y => ?_
  have hN := lt t
  have h := (flush0_2 t).mp hf
  obtain ⟨r, l, rfl⟩ : ∃ (r : Fin 1024) (l : Fin 1024), y = ix2 r l := ⟨y 0, y 1, (ix2_eta y).symm⟩
  refine (left m c t h (ix2 r l)).trans ?_
  have hr := r.isLt
  have hl := l.isLt
  have e : (win0_2.blk t).view.emb (ix2 r l) = ix2 (n0 := 1024) (n1 := 1024) r l := by
    blk_ext [idx t]
  refine Eq.trans ?_ (congrArg (prod _ _) e.symm)
  refine (congrArg₂ (· + ·) (at_point m c ⟨t.val - 1, by omega⟩ r l (by show t.val - 1 < 2; omega)) (at_point m c t r l hN)).trans ?_
  unfold prod
  rw [← Cert.Prod.sum_halves]
  have g1 : (4096 * ((t.val - 1) % 2)) = 0 := by omega
  have d1 : (t.val - 1) / 2 = t.val / 2 := by omega
  have g0 : (4096 * (t.val % 2)) = 4096 := by omega
  simp only [g1, g0, d1, Nat.zero_add, ix2_0, ix2_1]

end Cert.WxqIdeal.Prod

namespace Cert.WxqRefIdeal.Prod

open Cert.WxqRefIdeal Cert.WxqRefIdeal.Gen Cert.WxqRefIdeal.Read Idealize.ShloMosaic Idealize.SL.Sem
open scoped BigOperators

/-- The reference's weight gradient at an entry. -/
theorem value (x0 : (⟨S8192x1024, .bf16⟩ : BufTy).Contents (Elt Ideal)) (x2 : (⟨S8192x1024, .bf16⟩ : BufTy).Contents (Elt Ideal)) (i : S1024x1024.Idx) :
    val_main_v6 (F := Ideal) x0 x2 i = Cert.WxqIdeal.Prod.prod x0 x2 i := by
  rw [val_main_v6_apply]
  show val_main_v5 (F := Ideal) x0 x2 i = _
  rw [val_main_v5_apply, val_main_v4_apply]
  unfold Cert.WxqIdeal.Prod.prod
  refine Finset.sum_congr rfl fun k _ => (mul_comm _ _).trans (congrArg₂ (· * ·) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

end Cert.WxqRefIdeal.Prod

namespace Cert.WxqIdeal.Prod

open Cert.WxqIdeal Cert.WxqIdeal.Gen Idealize.ShloMosaic Idealize.ShloMosaic.TcCoe Idealize.SL.Sem

theorem frame_p : Cert.quiescent_Wxq (hWxq := Cert.Wxq.Gen.facts) := fun m ρ _ => Cert.Wxq.Gen.frame m ρ

theorem frame_pi : Cert.quiescent_WxqIdeal (hWxqIdeal := Cert.WxqIdeal.Gen.facts) := fun m ρ _ => Cert.WxqIdeal.Gen.frame m ρ

/-- The reference's frame: host operations only, no semaphore. -/
theorem frame_ri : Cert.quiescent_WxqRefIdeal (hWxqRefIdeal := Cert.WxqRefIdeal.Gen.facts) := fun m ρ _ =>
  (θ_run (Cert.WxqRefIdeal.defs (F := Ideal)) _ _).mono (fun r h => ⟨fun c => (h c).2, Idealize.ShloMosaic.sem_eq_zero_of_no_sems (by decide) r.2⟩)
    (Cert.WxqRefIdeal.Value.run (F := Ideal) m ρ)

theorem algebraic : Cert.algebraic_WxqIdeal_WxqRefIdeal (hWxqIdeal := Cert.WxqIdeal.Gen.facts) (hWxqRefIdeal := Cert.WxqRefIdeal.Gen.facts) := by
  intro m ρ m' ρ' _ hagree
  refine ⟨_, Cert.WxqIdeal.Value.run_blocks m ρ, ?_⟩
  refine (θ_run (Cert.WxqRefIdeal.defs (F := Ideal)) _ _).mono (fun r h c => ?_) (Cert.WxqRefIdeal.Value.run (F := Ideal) m' ρ')
  obtain ⟨e0, e1, e2⟩ := hagree c
  obtain ⟨h0, k⟩ := h c
  refine ⟨h0.trans ?_, k⟩
  rw [Cert.WxqRefIdeal.Read.val_main_v6_eq, e0, e2, arr m c]
  exact funext fun i => Cert.WxqRefIdeal.Prod.value _ _ i

end Cert.WxqIdeal.Prod

end
-- ==== Proof.Prod.Wkv.lean ====
/-
  The gradient of the cross attention's key and value weight: each block of columns is the product over all the memory slots.
-/
module

public import proofs.«01_k».proof.Defs
public import proofs.«01_k».proof.Proof.Gen.Wkv.Frame
public import proofs.«01_k».proof.Proof.Gen.WkvIdeal.Value
public import proofs.«01_k».proof.Proof.Gen.WkvRefIdeal.Run
public import proofs.«01_k».proof.Proof.Gen.WkvRefIdeal.Read
public import proofs.«01_k».proof.Proof.Prod.Sums
public import Idealize.ShloMosaic.Lib.Pipeline.ValueKit
public import Idealize.ShloMosaic.Lib.Claim

@[expose] public section

set_option maxRecDepth 16384

noncomputable section

namespace Cert.WkvIdeal.Prod

open Cert.WkvIdeal Cert.WkvIdeal.Gen Idealize.ShloMosaic Idealize.ShloMosaic.TcCoe Idealize.SL.Sem
open scoped BigOperators

/-- The product, at an entry. -/
def prod (x : FVec Ideal S1024x1024 .bf16) (y : FVec Ideal S1024x2048 .f32) : FVec Ideal S1024x2048 .bf16 :=
  fun i => ∑ k : Fin 1024, x (ix2 (n0 := 1024) (n1 := 1024) k (i 0)) * y (ix2 (n0 := 1024) (n1 := 2048) k (i 1))

/-- The part of the product one block of tokens gives. -/
theorem part (a : FVec Ideal S1024x1024 .bf16) (b : FVec Ideal S1024x1024 .f32) (r : Fin 1024) (l : Fin 1024) :
    (k0_pay1 (F := Ideal) a b) (ix2 r l) = ∑ k : Fin 1024, a (ix2 k r) * b (ix2 k l) := by
  unfold k0_pay1
  show FloatOps.matmul (Cert.KernelIdeal.Fox.dotTN 1024 1024 1024) none a (truncf .bf16 b bitsLt_bf16_f32) (constant S1024x1024 .f32 0x00000000#32) (ix2 r l) = _
  exact (Cert.KernelIdeal.Fox.matmul_dotTN_apply _ _ _ _ _ _).trans ((congrArg₂ (· + ·) Ideal.ofBits_zero_f32 rfl).trans (zero_add _))

variable (m : (ℓ : Loc nD τ sig) → Buf (Elt Ideal) ℓ) (c : Dev nD)

/-- Every window's block index. -/
theorem idx : ∀ t : Fin cfg0.N, win0_0.index t = ![0, 0] ∧ win0_1.index t = ![0, t.val] ∧ win0_2.index t = ![0, t.val] :=
  (by decide +kernel : ∀ t : Fin grid0.N, _)

theorem lt : ∀ t : Fin cfg0.N, t.val < 2 := (by decide +kernel : ∀ t : Fin grid0.N, t.val < 2)

/-- Window 0's block at a grid point, in its array's coordinates. -/
theorem read0 (t : Fin cfg0.N) (k : Fin 1024) (r : Fin 1024) (x : FVec Ideal S1024x1024 .bf16) (ht : t.val < 2) :
    (win0_0.blk t).view.read (Elt Ideal) x (ix2 k r) = x (ix2 (n0 := 1024) (n1 := 1024) k r) := by
  have hk := k.isLt
  have hr := r.isLt
  blk_ext [idx t]

/-- Window 1's block at a grid point, in its array's coordinates. -/
theorem read1 (t : Fin cfg0.N) (k : Fin 1024) (l : Fin 1024) (x : FVec Ideal S1024x2048 .f32) (ht : t.val < 2) :
    (win0_1.blk t).view.read (Elt Ideal) x (ix2 k l) = x (ix2 (n0 := 1024) (n1 := 2048) k ⟨1024 * (t.val) + l.val, by omega⟩) := by
  have hk := k.isLt
  have hl := l.isLt
  blk_ext [idx t]

/-- The arrays multiplied. -/
abbrev left_arr : FVec Ideal S1024x1024 .bf16 := (m ((c : Thread nD τ).loc main_arg0))

abbrev right_arr : FVec Ideal S1024x2048 .f32 := (m ((c : Thread nD τ).loc main_arg2))

theorem iblk0 (t : Fin cfg0.N) : iblk m c 0 t = (win0_0.blk t).view.read (Elt Ideal) (left_arr m c) := rfl

theorem iblk1 (t : Fin cfg0.N) : iblk m c 1 t = (win0_1.blk t).view.read (Elt Ideal) (right_arr m c) := rfl

/-- A point's part of the product, read off the arrays. -/
theorem at_point (t : Fin cfg0.N) (r : Fin 1024) (l : Fin 1024) (ht : t.val < 2) :
    (k0_pay1 (F := Ideal) (iblk m c 0 t) (iblk m c 1 t)) (ix2 r l)
      = ∑ k : Fin 1024, (left_arr m c) (ix2 (n0 := 1024) (n1 := 1024) k r)
        * (right_arr m c) (ix2 (n0 := 1024) (n1 := 2048) k ⟨1024 * (t.val) + l.val, by omega⟩) := by
  rw [part, iblk0, iblk1]
  exact Finset.sum_congr rfl fun k _ => congrArg₂ (· * ·) (read0 t k r _ ht) (read1 t k l _ ht)

theorem left (t : Fin cfg0.N) (y : S1024x1024.Idx) :
    ((dats m 0 c).after 2 t : FVec Ideal S1024x1024 .bf16) y = k0_pay1 (F := Ideal) (iblk m c 0 t) (iblk m c 1 t) y := by
  rw [after0_2]
  unfold outsAt0
  frame_out

/-- The kernel's result is the product. -/
theorem arr : (dats m 0 c).arrAt 2 cfg0.N = prod (left_arr m c) (right_arr m c) := by
  refine (dats m 0 c).arrAt_eq_of_covers 2 _ (by decide +kernel) fun t hf y => ?_
  have hN := lt t
  obtain ⟨r, l, rfl⟩ : ∃ (r : Fin 1024) (l : Fin 1024), y = ix2 r l := ⟨y 0, y 1, (ix2_eta y).symm⟩
  refine (left m c t (ix2 r l)).trans ?_
  have hr := r.isLt
  have hl := l.isLt
  have e : (win0_2.blk t).view.emb (ix2 r l) = ix2 (n0 := 1024) (n1 := 2048) r ⟨1024 * (t.val) + l.val, by omega⟩ := by
    blk_ext [idx t]
  refine Eq.trans ?_ (congrArg (prod _ _) e.symm)
  exact at_point m c t r l hN

end Cert.WkvIdeal.Prod

namespace Cert.WkvRefIdeal.Prod

open Cert.WkvRefIdeal Cert.WkvRefIdeal.Gen Cert.WkvRefIdeal.Read Idealize.ShloMosaic Idealize.SL.Sem
open scoped BigOperators

/-- The reference's weight gradient at an entry. -/
theorem value (x0 : (⟨S1024x1024, .bf16⟩ : BufTy).Contents (Elt Ideal)) (x2 : (⟨S1024x2048, .f32⟩ : BufTy).Contents (Elt Ideal)) (i : S1024x2048.Idx) :
    val_main_v5 (F := Ideal) x0 x2 i = Cert.WkvIdeal.Prod.prod x0 x2 i := by
  rw [val_main_v5_apply]
  show val_main_v4 (F := Ideal) x0 x2 i = _
  rw [val_main_v4_apply, val_main_v3_apply]
  unfold Cert.WkvIdeal.Prod.prod
  refine Finset.sum_congr rfl fun k _ => (mul_comm _ _).trans (congrArg₂ (· * ·) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

end Cert.WkvRefIdeal.Prod

namespace Cert.WkvIdeal.Prod

open Cert.WkvIdeal Cert.WkvIdeal.Gen Idealize.ShloMosaic Idealize.ShloMosaic.TcCoe Idealize.SL.Sem

theorem frame_p : Cert.quiescent_Wkv (hWkv := Cert.Wkv.Gen.facts) := fun m ρ _ => Cert.Wkv.Gen.frame m ρ

theorem frame_pi : Cert.quiescent_WkvIdeal (hWkvIdeal := Cert.WkvIdeal.Gen.facts) := fun m ρ _ => Cert.WkvIdeal.Gen.frame m ρ

/-- The reference's frame: host operations only, no semaphore. -/
theorem frame_ri : Cert.quiescent_WkvRefIdeal (hWkvRefIdeal := Cert.WkvRefIdeal.Gen.facts) := fun m ρ _ =>
  (θ_run (Cert.WkvRefIdeal.defs (F := Ideal)) _ _).mono (fun r h => ⟨fun c => (h c).2, Idealize.ShloMosaic.sem_eq_zero_of_no_sems (by decide) r.2⟩)
    (Cert.WkvRefIdeal.Value.run (F := Ideal) m ρ)

theorem algebraic : Cert.algebraic_WkvIdeal_WkvRefIdeal (hWkvIdeal := Cert.WkvIdeal.Gen.facts) (hWkvRefIdeal := Cert.WkvRefIdeal.Gen.facts) := by
  intro m ρ m' ρ' _ hagree
  refine ⟨_, Cert.WkvIdeal.Value.run_blocks m ρ, ?_⟩
  refine (θ_run (Cert.WkvRefIdeal.defs (F := Ideal)) _ _).mono (fun r h c => ?_) (Cert.WkvRefIdeal.Value.run (F := Ideal) m' ρ')
  obtain ⟨e0, e1, e2⟩ := hagree c
  obtain ⟨h0, k⟩ := h c
  refine ⟨h0.trans ?_, k⟩
  rw [Cert.WkvRefIdeal.Read.val_main_v5_eq, e0, e2, arr m c]
  exact funext fun i => Cert.WkvRefIdeal.Prod.value _ _ i

end Cert.WkvIdeal.Prod

end
-- ==== Proof.Rms.Row.lean ====
/-
  One row of the root-mean-square norm's gradient. The kernel takes the incoming gradient's mean against the normed row;
  the reference differentiates the mean of squares, its inverse root, and the product. On real numbers they agree.
-/
module

public import proofs.«01_k».proof.Proof.Fox.Args
public import proofs.«01_k».proof.Proof.Fox.Coe
public import proofs.«01_k».proof.Proof.Prod.Sums

@[expose] public section

noncomputable section

namespace Cert.Rms

open Idealize.ShloMosaic
open scoped BigOperators

/-- A real number, among the extended reals. -/
def IsNum (x : EReal) : Prop := ∃ r : ℝ, x = ((r : ℝ) : EReal)

theorem IsNum.of_size {x : EReal} (h : max x (-x) < ⊤) : IsNum x := ⟨_, Cert.Fox.coe_toReal_of_size h⟩

/-- The precondition's test of an element. -/
theorem IsNum.of_bit {x : EReal} (h : Ideal.cmp .olt (max x (-x)) (Ideal.ofBits .f32 0x7F800000#32) = 1#1) : IsNum x := by
  refine IsNum.of_size ?_
  rw [Cert.Fox.inf_f32] at h
  by_contra hc
  replace h : BitVec.ofBool (decide (max x (-x) < ⊤)) = 1#1 := h
  rw [decide_eq_false hc] at h
  exact absurd h (by decide)

theorem IsNum.zero : IsNum 0 := ⟨0, rfl⟩

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.sum {n : ℕ} {f : Fin n → EReal} (h : ∀ k, IsNum (f k)) : IsNum (∑ k, f k) := by
  choose r hr using h
  exact ⟨∑ k, r k, Cert.Fox.sum_eq_coe fun i _ => hr i⟩

/-- A row of real numbers. -/
theorem row_coe {n : ℕ} {f : Fin n → EReal} (h : ∀ k, IsNum (f k)) : ∃ r : Fin n → ℝ, f = fun k => ((r k : ℝ) : EReal) := by
  choose r hr using h
  exact ⟨r, funext hr⟩

/-- The row's length, and the norm's small addend. -/
def len : EReal := Ideal.ofBits .f32 0x44800000#32

def eps : EReal := Ideal.ofBits .f32 0x358637BD#32

def minusHalf : EReal := Ideal.ofBits .f32 0xBF000000#32

theorem len_eq : len = ((1024 : ℝ) : EReal) := by
  unfold len
  simp [Ideal.ofBits, Ideal.ieee, -EReal.coe_mul]; norm_num

theorem eps_eq : ∃ e : ℝ, 0 < e ∧ eps = ((e : ℝ) : EReal) := by
  refine ⟨(Ideal.ofBits .f32 0x358637BD#32).toReal, ?_, ?_⟩
  · simp [Ideal.ofBits, Ideal.ieee, -EReal.coe_mul]
  · unfold eps
    simp [Ideal.ofBits, Ideal.ieee, -EReal.coe_mul]

theorem minusHalf_eq : minusHalf = ((-(1 / 2) : ℝ) : EReal) := by
  unfold minusHalf
  simp [Ideal.ofBits, Ideal.ieee, -EReal.coe_mul]; norm_num

/-- The mean of the squares with the small addend, and its inverse root. -/
def ms (x : Fin 1024 → EReal) : EReal := Ideal.div (∑ k, x k * x k) len + eps

def rstd (x : Fin 1024 → EReal) : EReal := Ideal.rsqrt (ms x)

/-- The kernel's gradient of a row, from the gradient `e` of the normed row. -/
def dxRow (e x : Fin 1024 → EReal) (k : Fin 1024) : EReal :=
  rstd x * (e k - (x k * rstd x) * Ideal.div (∑ j, e j * (x j * rstd x)) len)

/-- The gradient of the mean of squares, by the reference's lines. -/
def dms (e x : Fin 1024 → EReal) : EReal :=
  Ideal.div ((∑ j, x j * e j) * (minusHalf * Ideal.div (rstd x) (ms x))) len

theorem ms_coe (x : Fin 1024 → ℝ) : ∃ m : ℝ, 0 < m ∧ ms (fun k => ((x k : ℝ) : EReal)) = ((m : ℝ) : EReal) := by
  obtain ⟨e, he, h⟩ := eps_eq
  refine ⟨(∑ k, x k * x k) / 1024 + e, ?_, ?_⟩
  · have : 0 ≤ ∑ k, x k * x k := Finset.sum_nonneg fun k _ => mul_self_nonneg _
    positivity
  · unfold ms
    rw [h, len_eq, Cert.Fox.sum_eq_coe (f := fun k => x k * x k) (fun i _ => (EReal.coe_mul _ _).symm), Cert.Fox.div_coe_coe _ (by norm_num), EReal.coe_add]

theorem rstd_coe {x : Fin 1024 → EReal} {m : ℝ} (hm : 0 < m) (h : ms x = ((m : ℝ) : EReal)) : rstd x = (((Real.sqrt m)⁻¹ : ℝ) : EReal) := by
  unfold rstd
  rw [h, Ideal.rsqrt_coe, if_neg (not_lt.mpr hm.le), if_neg hm.ne']

theorem rstd_num {x : Fin 1024 → EReal} (hx : ∀ k, IsNum (x k)) : IsNum (rstd x) := by
  obtain ⟨x', rfl⟩ := row_coe hx
  obtain ⟨m, hm, h⟩ := ms_coe x'
  exact ⟨_, rstd_coe hm h⟩

/-- The two gradients agree, whatever is added to them. -/
theorem dxRow_eq (e x : Fin 1024 → EReal) (he : ∀ k, IsNum (e k)) (hx : ∀ k, IsNum (x k)) (k : Fin 1024) :
    (e k * rstd x + x k * dms e x) + dms e x * x k = dxRow e x k := by
  obtain ⟨e', rfl⟩ := row_coe he
  obtain ⟨x', rfl⟩ := row_coe hx
  obtain ⟨m, hm, h⟩ := ms_coe x'
  have hr := rstd_coe hm h
  unfold dms dxRow
  rw [hr, h, len_eq, minusHalf_eq]
  generalize hρ : (Real.sqrt m)⁻¹ = ρ
  have hρm : ρ * ρ * m = 1 := by
    have hs : Real.sqrt m ≠ 0 := (Real.sqrt_pos.mpr hm).ne'
    have hq := Real.mul_self_sqrt hm.le
    subst hρ
    field_simp
    nlinarith [hq]
  rw [Cert.Fox.sum_eq_coe (F := fun j => ((x' j : ℝ) : EReal) * ((e' j : ℝ) : EReal)) (f := fun j => x' j * e' j) (fun i _ => (EReal.coe_mul _ _).symm),
    Cert.Fox.sum_eq_coe (F := fun j => ((e' j : ℝ) : EReal) * (((x' j : ℝ) : EReal) * ((ρ : ℝ) : EReal))) (f := fun j => e' j * (x' j * ρ))
      (fun i _ => by rw [EReal.coe_mul, EReal.coe_mul]),
    Cert.Fox.div_coe_coe _ hm.ne']
  simp only [← EReal.coe_mul, ← EReal.coe_add, ← EReal.coe_sub, Cert.Fox.div_coe_coe _ (by norm_num : (1024 : ℝ) ≠ 0)]
  refine congrArg _ ?_
  have hs : ∑ j, e' j * (x' j * ρ) = ρ * ∑ j, x' j * e' j := by
    rw [Finset.mul_sum]
    exact Finset.sum_congr rfl fun j _ => by ring
  rw [hs]
  have hd : ρ / m = ρ * ρ * ρ := by
    rw [div_eq_iff hm.ne']
    linear_combination (-ρ) * hρm
  rw [hd]
  ring

/-- The same with the incoming gradient of the residual stream added first, as both add it. -/
theorem dxRow_add (d : EReal) (e x : Fin 1024 → EReal) (he : ∀ k, IsNum (e k)) (hx : ∀ k, IsNum (x k)) (k : Fin 1024) :
    ((d + e k * rstd x) + x k * dms e x) + dms e x * x k = d + dxRow e x k := by
  rw [← dxRow_eq e x he hx k, add_assoc d, add_assoc d]

/-- A function on the tokens, carried on by nothing. -/
def onNat {n : ℕ} (f : Fin n → EReal) (r : ℕ) : EReal := if h : r < n then f ⟨r, h⟩ else 0

theorem sum_onNat {n : ℕ} (f : Fin n → EReal) : ∑ r ∈ Finset.range n, onNat f r = ∑ k, f k := by
  rw [← Fin.sum_univ_eq_sum_range]
  exact Finset.sum_congr rfl fun k _ => dif_pos k.isLt

/-- A tile's sum, after those before it. -/
theorem sum_tile {n w : ℕ} (f : Fin n → EReal) (a : ℕ) (h : a + w ≤ n) :
    ∑ r ∈ Finset.range (a + w), onNat f r = (∑ r ∈ Finset.range a, onNat f r) + ∑ s : Fin w, f ⟨a + s.val, by omega⟩ := by
  rw [Finset.sum_range_add]
  refine congrArg₂ (· + ·) rfl ?_
  rw [← Fin.sum_univ_eq_sum_range (fun s => onNat f (a + s))]
  exact Finset.sum_congr rfl fun s _ => dif_pos (by omega)

end Cert.Rms

end
-- ==== Proof.Rms.Dh3.lean ====
/-
  The gradient of the residual stream behind the last layer's norm, tile by tile of tokens: the kernel's side.
-/
module

public import proofs.«01_k».proof.Defs
public import proofs.«01_k».proof.Proof.Gen.Dh3.Frame
public import proofs.«01_k».proof.Proof.Gen.Dh3Ideal.Value
public import proofs.«01_k».proof.Proof.Gen.Dh3RefIdeal.Run
public import proofs.«01_k».proof.Proof.Gen.Dh3RefIdeal.Read
public import proofs.«01_k».proof.Proof.Rms.Row
public import Idealize.ShloMosaic.Lib.Pipeline.ValueKit
public import Idealize.ShloMosaic.Lib.MatmulPlain
public import Idealize.ShloMosaic.Lib.Claim

@[expose] public section

set_option maxRecDepth 16384

noncomputable section

namespace Cert.Dh3Ideal.Rms

open Cert.Dh3Ideal Cert.Dh3Ideal.Gen Idealize.ShloMosaic Idealize.ShloMosaic.TcCoe Idealize.SL.Sem
open Cert.Rms
open scoped BigOperators

/-- The gradient of the normed row. -/
def dh (du : FVec Ideal S8192x4096 .bf16) (w : FVec Ideal S1024x4096 .bf16) (t : Fin 8192) (k : Fin 1024) : EReal :=
  ∑ j : Fin 4096, (du (ix2 (n0 := 8192) (n1 := 4096) t j) : EReal) * w (ix2 (n0 := 1024) (n1 := 4096) k j)

/-- A row of the residual stream. -/
def row (x : FVec Ideal S8192x1024 .f32) (t : Fin 8192) (k : Fin 1024) : EReal := x (ix2 (n0 := 8192) (n1 := 1024) t k)

/-- The gradient of the residual stream. -/
def dx (du : FVec Ideal S8192x4096 .bf16) (w : FVec Ideal S1024x4096 .bf16) (x : FVec Ideal S8192x1024 .f32) (g : FVec Ideal S1024 .f32)
    (d : FVec Ideal S8192x1024 .f32) : FVec Ideal S8192x1024 .f32 := fun i =>
  (d i : EReal) + dxRow (fun k => dh du w (i 0) k * g (ix1 (n0 := 1024) k)) (row x (i 0)) (i 1)

/-- The gradient of the norm's gain. -/
def dg (du : FVec Ideal S8192x4096 .bf16) (w : FVec Ideal S1024x4096 .bf16) (x : FVec Ideal S8192x1024 .f32) : FVec Ideal S1x1024 .f32 := fun i =>
  ∑ t : Fin 8192, dh du w t (i 1) * (row x t (i 1) * rstd (row x t))

/-- The gradient of what the product before the residual stream multiplies. -/
def da (du : FVec Ideal S8192x4096 .bf16) (w : FVec Ideal S1024x4096 .bf16) (x : FVec Ideal S8192x1024 .f32) (g : FVec Ideal S1024 .f32)
    (d : FVec Ideal S8192x1024 .f32) (wo : FVec Ideal S1024x1024 .bf16) : FVec Ideal S8192x1024 .bf16 := fun i =>
  ∑ k : Fin 1024, (dx du w x g d (ix2 (n0 := 8192) (n1 := 1024) (i 0) k) : EReal) * wo (ix2 (n0 := 1024) (n1 := 1024) (i 1) k)

/-! A tile's blocks, entry by entry. -/

theorem pay3 (a : FVec Ideal S512x4096 .bf16) (b : FVec Ideal S1024x4096 .bf16) (s : Fin 512) (k : Fin 1024) :
    k0_pay3 (F := Ideal) a b (ix2 s k) = ∑ j : Fin 4096, (a (ix2 s j) : EReal) * b (ix2 k j) := by
  unfold k0_pay3
  exact (Ideal.matmul_transposedRhs_apply _ _ _ _ _ _).trans ((congrArg₂ (· + ·) Ideal.ofBits_zero_f32 rfl).trans (zero_add _))

theorem pay5 (x : FVec Ideal S512x1024 .f32) (s : Fin 512) (u : Fin 1) :
    k0_pay5 (F := Ideal) x (ix2 s u) = rstd fun k => x (ix2 s k) := by
  unfold rstd ms len eps
  pointwise [k0_pay5, k0_pay4]

theorem pay6 (x : FVec Ideal S512x1024 .f32) (s : Fin 512) (k : Fin 1024) :
    k0_pay6 (F := Ideal) x (ix2 s k) = (x (ix2 s k) : EReal) * rstd fun k => x (ix2 s k) := by
  rw [← pay5 x s 0]
  pointwise [k0_pay6, k0_pay4]

theorem pay7 (a : FVec Ideal S512x4096 .bf16) (b : FVec Ideal S1024x4096 .bf16) (x : FVec Ideal S512x1024 .f32) (u : Fin 1) (k : Fin 1024) :
    k0_pay7 (F := Ideal) a b x (ix2 u k)
      = ∑ s : Fin 512, (k0_pay3 (F := Ideal) a b (ix2 s k) : EReal) * k0_pay6 (F := Ideal) x (ix2 s k) := by
  unfold k0_pay7
  generalize k0_pay3 (F := Ideal) a b = p
  generalize k0_pay6 (F := Ideal) x = q
  pointwise

theorem pay8 (a : FVec Ideal S512x4096 .bf16) (b : FVec Ideal S1024x4096 .bf16) (x : FVec Ideal S512x1024 .f32) (g : FVec Ideal S1x1024 .f32)
    (d : FVec Ideal S512x1024 .f32) (s : Fin 512) (k : Fin 1024) :
    k0_pay8 (F := Ideal) a b x g d (ix2 s k)
      = (d (ix2 s k) : EReal) + dxRow (fun k => (k0_pay3 (F := Ideal) a b (ix2 s k) : EReal) * g (ix2 0 k)) (fun k => x (ix2 s k)) k := by
  unfold dxRow
  simp only [← pay6 x s]
  rw [← pay5 x s 0]
  unfold k0_pay8 len
  generalize k0_pay3 (F := Ideal) a b = p
  generalize k0_pay6 (F := Ideal) x = q
  generalize k0_pay5 (F := Ideal) x = r
  pointwise

theorem pay1 (a : FVec Ideal S512x4096 .bf16) (b : FVec Ideal S1024x4096 .bf16) (x : FVec Ideal S512x1024 .f32) (g : FVec Ideal S1x1024 .f32)
    (d : FVec Ideal S512x1024 .f32) (wo : FVec Ideal S1024x1024 .bf16) (s : Fin 512) (l : Fin 1024) :
    k0_pay1 (F := Ideal) (k0_pay9 (F := Ideal) a b x g d) wo (ix2 s l)
      = ∑ k : Fin 1024, (k0_pay8 (F := Ideal) a b x g d (ix2 s k) : EReal) * wo (ix2 l k) := by
  unfold k0_pay1 k0_pay9
  exact (Ideal.matmul_transposedRhs_apply none (k0_pay8 (F := Ideal) a b x g d) _ _ _ _).trans ((congrArg₂ (· + ·) Ideal.ofBits_zero_f32 rfl).trans (zero_add _))

theorem pay2 (p q : FVec Ideal S1x1024 .f32) (y : S1x1024.Idx) : k0_pay2 (F := Ideal) p q y = (q y : EReal) + p y := by
  pointwise [k0_pay2]

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] ∧ win0_8.index t = ![t.val, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (j : Fin 4096) (x : FVec Ideal S8192x4096 .bf16) (ht : t.val < 16) :
    (win0_0.blk t).view.read (Elt Ideal) x (ix2 s j) = x (ix2 (n0 := 8192) (n1 := 4096) ⟨512 * t.val + s.val, by omega⟩ j) := by
  have hs := s.isLt
  have hj := j.isLt
  blk_ext [idx t]

theorem read1 (t : Fin cfg0.N) (k : Fin 1024) (j : Fin 4096) (x : FVec Ideal S1024x4096 .bf16) :
    (win0_1.blk t).view.read (Elt Ideal) x (ix2 k j) = x (ix2 (n0 := 1024) (n1 := 4096) k j) := by
  have hk := k.isLt
  have hj := j.isLt
  blk_ext [idx t]

theorem read2 (t : Fin cfg0.N) (s : Fin 512) (k : Fin 1024) (x : FVec Ideal S8192x1024 .f32) (ht : t.val < 16) :
    (win0_2.blk t).view.read (Elt Ideal) x (ix2 s k) = x (ix2 (n0 := 8192) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

theorem read4 (t : Fin cfg0.N) (s : Fin 512) (k : Fin 1024) (x : FVec Ideal S8192x1024 .f32) (ht : t.val < 16) :
    (win0_4.blk t).view.read (Elt Ideal) x (ix2 s k) = x (ix2 (n0 := 8192) (n1 := 1024) ⟨512 * t.val + s.val, by omega⟩ k) := by
  have hs := s.isLt
  have hk := k.isLt
  blk_ext [idx t]

theorem read5 (t : Fin cfg0.N) (l : Fin 1024) (k : Fin 1024) (x : FVec Ideal S1024x1024 .bf16) :
    (win0_5.blk t).view.read (Elt Ideal) x (ix2 l k) = x (ix2 (n0 := 1024) (n1 := 1024) l k) := by
  have hl := l.isLt
  have hk := k.isLt
  blk_ext [idx t]

/-- The arrays the call reads: the residual stream is made by the host, the gain only reshaped. -/
abbrev duA : FVec Ideal S8192x4096 .bf16 := m ((c : Thread nD τ).loc main_arg6)

abbrev wA : FVec Ideal S1024x4096 .bf16 := m ((c : Thread nD τ).loc main_arg4)

abbrev xA : FVec Ideal S8192x1024 .f32 := Cert.Dh3RefIdeal.Read.val_main_v5 (F := Ideal) (m ((c : Thread nD τ).loc main_arg0))
  (m ((c : Thread nD τ).loc main_arg1)) (m ((c : Thread nD τ).loc main_arg2))

abbrev gA : FVec Ideal S1024 .f32 := m ((c : Thread nD τ).loc main_arg3)

abbrev dA : FVec Ideal S8192x1024 .f32 := m ((c : Thread nD τ).loc main_arg5)

abbrev woA : FVec Ideal S1024x1024 .bf16 := m ((c : Thread nD τ).loc main_arg2)

def gRow (g : FVec Ideal S1024 .f32) : FVec Ideal S1x1024 .f32 := fun i => g (ix1 (n0 := 1024) (i 1))

theorem V_stream : V m c main_v3 = xA m c := by
  unfold V
  entry_read
  rfl

theorem V_gain : V m c main_v4 = gRow (gA m c) := by
  unfold V
  entry_read
  funext i
  idx_vars i
  pointwise [gRow]

theorem iblk0 (t : Fin cfg0.N) : iblk m c 0 t = (win0_0.blk t).view.read (Elt Ideal) (duA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := by
  rw [← V_stream]
  rfl

theorem iblk3 (t : Fin cfg0.N) : iblk m c 3 t = (win0_3.blk t).view.read (Elt Ideal) (gRow (gA m c)) := by
  rw [← V_gain]
  rfl

theorem iblk4 (t : Fin cfg0.N) : iblk m c 4 t = (win0_4.blk t).view.read (Elt Ideal) (dA m c) := rfl

theorem iblk5 (t : Fin cfg0.N) : iblk m c 5 t = (win0_5.blk t).view.read (Elt Ideal) (woA m c) := rfl

/-- A point's normed rows' gradient. -/
theorem at3 (t : Fin cfg0.N) (ht : t.val < 16) (s : Fin 512) (k : Fin 1024) :
    k0_pay3 (F := Ideal) (iblk m c 0 t) (iblk m c 1 t) (ix2 s k) = dh (duA m c) (wA m c) ⟨512 * t.val + s.val, by omega⟩ k := by
  rw [pay3, iblk0, iblk1]
  exact Finset.sum_congr rfl fun j _ => congrArg₂ (fun p q : EReal => p * q) (read0 t s j _ ht) (read1 t k j _)

theorem atRow (t : Fin cfg0.N) (ht : t.val < 16) (s : Fin 512) :
    (fun k : Fin 1024 => ((iblk m c 2 t : FVec Ideal S512x1024 .f32) (ix2 s k) : EReal)) = row (xA m c) ⟨512 * t.val + s.val, by omega⟩ := by
  rw [iblk2]
  exact funext fun k => read2 t s k _ ht

/-- A point's rows of the residual stream's gradient. -/
theorem at8 (t : Fin cfg0.N) (ht : t.val < 16) (s : Fin 512) (k : Fin 1024) :
    k0_pay8 (F := Ideal) (iblk m c 0 t) (iblk m c 1 t) (iblk m c 2 t) (iblk m c 3 t) (iblk m c 4 t) (ix2 s k)
      = dx (duA m c) (wA m c) (xA m c) (gA m c) (dA m c) (ix2 (n0 := 8192) (n1 := 1024) ⟨512 * t.val + s.val, by omega⟩ k) := by
  rw [pay8, atRow m c t ht s]
  simp only [at3 m c t ht s]
  have e3 : ∀ j : Fin 1024, ((iblk m c 3 t : FVec Ideal S1x1024 .f32) (ix2 0 j) : EReal) = gA m c (ix1 (n0 := 1024) j) := fun j => by
    rw [iblk3]
    exact read3 t 0 j _
  have e4 : ((iblk m c 4 t : FVec Ideal S512x1024 .f32) (ix2 s k) : EReal) = dA m c (ix2 (n0 := 8192) (n1 := 1024) ⟨512 * t.val + s.val, by omega⟩ k) := by
    rw [iblk4]
    exact read4 t s k _ ht
  simp only [e3]
  exact congrArg (fun q : EReal => q + _) e4

/-- A point's part of the gain's gradient. -/
theorem at7 (t : Fin cfg0.N) (ht : t.val < 16) (u : Fin 1) (k : Fin 1024) :
    k0_pay7 (F := Ideal) (iblk m c 0 t) (iblk m c 1 t) (iblk m c 2 t) (ix2 u k)
      = ∑ s : Fin 512, (fun r : Fin 8192 => dh (duA m c) (wA m c) r k * (row (xA m c) r k * rstd (row (xA m c) r)))
        ⟨512 * t.val + s.val, by omega⟩ := by
  rw [pay7]
  refine Finset.sum_congr rfl fun s _ => ?_
  rw [at3 m c t ht s k, pay6, atRow m c t ht s, congrFun (atRow m c t ht s) k]

/-- What the points up to one leave of the gain's gradient. -/
theorem acc : ∀ (n : ℕ) (h : n < cfg0.N) (u : Fin 1) (k : Fin 1024), ((outsAt0 m c n h).2.1 : FVec Ideal S1x1024 .f32) (ix2 u k)
      = ∑ r ∈ Finset.range (512 * n + 512), onNat (fun r : Fin 8192 => dh (duA m c) (wA m c) r k * (row (xA m c) r k * rstd (row (xA m c) r))) r
  | 0, h, u, k => by
    have e := outsAt0_A m c ⟨0, h⟩ (by norm_num) (by norm_num)
    have ht := lt ⟨0, h⟩
    rw [sum_tile _ _ (by omega), show outsAt0 m c 0 h = _ from e]
    frame_out
    refine (at7 m c ⟨0, h⟩ ht u k).trans ?_
    simp
  | n + 1, h, u, k => by
    have ht := lt ⟨n + 1, h⟩
    have ht' : n + 1 < 16 := ht
    have e := outsAt0_B m c ⟨n + 1, h⟩ (by show ¬(n + 1) % 16 = 0; omega) (by show 1 ≤ n + 1; omega)
    rw [sum_tile _ _ (by omega), show outsAt0 m c (n + 1) h = _ from e]
    frame_out
    rw [pay2]
    refine congrArg₂ (fun p q : EReal => p + q) ?_ (at7 m c ⟨n + 1, h⟩ ht u k)
    exact (acc n (by omega) u k)

/-- The kernel's results. -/
theorem arr6 : (dats m 0 c).arrAt 6 cfg0.N = dx (duA m c) (wA m c) (xA m c) (gA m c) (dA m c) := by
  refine (dats m 0 c).arrAt_eq_of_covers 6 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_6.blk t).view.emb (ix2 s l) = ix2 (n0 := 8192) (n1 := 1024) ⟨512 * t.val + s.val, by omega⟩ l := by
    blk_ext [idx t]
  refine Eq.trans ?_ (congrArg (dx _ _ _ _ _) e.symm)
  show ((dats m 0 c).after 6 t : FVec Ideal S512x1024 .f32) (ix2 s l) = _
  rw [after0_6]
  by_cases h : t.val % 16 = 0
  · rw [outsAt0_A m c t h (by omega)]
    frame_out
    exact at8 m c t hN s l
  · rw [outsAt0_B m c t h (by omega)]
    frame_out
    exact at8 m c t hN s l

theorem arr7 : (dats m 0 c).arrAt 7 cfg0.N = dg (duA m c) (wA m c) (xA m c) := by
  refine (dats m 0 c).arrAt_eq_of_covers 7 _ (by decide +kernel) fun t hf y => ?_
  have hN := lt t
  have h := (flush0_7 t).mp hf
  obtain ⟨u, l, rfl⟩ : ∃ (u : Fin 1) (l : Fin 1024), y = ix2 u l := ⟨y 0, y 1, (ix2_eta y).symm⟩
  have hu := u.isLt
  have hl := l.isLt
  have e : (win0_7.blk t).view.emb (ix2 u l) = ix2 (n0 := 1) (n1 := 1024) u l := by
    blk_ext [idx t]
  refine Eq.trans ?_ (congrArg (dg _ _ _) e.symm)
  show ((dats m 0 c).after 7 t : FVec Ideal S1x1024 .f32) (ix2 u l) = _
  rw [after0_7, acc m c t.val t.isLt u l, show 512 * t.val + 512 = 8192 by omega]
  exact sum_onNat _

theorem arr8 : (dats m 0 c).arrAt 8 cfg0.N = da (duA m c) (wA m c) (xA m c) (gA m c) (dA m c) (woA m c) := by
  refine (dats m 0 c).arrAt_eq_of_covers 8 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_8.blk t).view.emb (ix2 s l) = ix2 (n0 := 8192) (n1 := 1024) ⟨512 * t.val + s.val, by omega⟩ l := by
    blk_ext [idx t]
  refine Eq.trans ?_ (congrArg (da _ _ _ _ _ _) e.symm)
  have key : (k0_pay1 (F := Ideal) (k0_pay9 (F := Ideal) (iblk m c 0 t) (iblk m c 1 t) (iblk m c 2 t) (iblk m c 3 t) (iblk m c 4 t)) (iblk m c 5 t)) (ix2 s l)
      = da (duA m c) (wA m c) (xA m c) (gA m c) (dA m c) (woA m c) (ix2 (n0 := 8192) (n1 := 1024) ⟨512 * t.val + s.val, by omega⟩ l) := by
    rw [pay1, iblk5]
    exact Finset.sum_congr rfl fun k _ => congrArg₂ (fun p q : EReal => p * q) (at8 m c t hN s k) (read5 t l k _)
  show ((dats m 0 c).after 8 t : FVec Ideal S512x1024 .bf16) (ix2 s l) = _
  rw [after0_8]
  by_cases h : t.val % 16 = 0
  · rw [outsAt0_A m c t h (by omega)]
    frame_out
    exact key
  · rw [outsAt0_B m c t h (by omega)]
    frame_out
    exact key

end Cert.Dh3Ideal.Rms

end
-- ==== Proof.Rms.Dh3Ref.lean ====
/-
  The reference's gradient behind the last layer's norm, and the claims of the call.
-/
module

public import proofs.«01_k».proof.Proof.Rms.Dh3
public import proofs.«01_k».proof.Pre_finite_mlp

@[expose] public section

set_option maxRecDepth 16384

noncomputable section

namespace Cert.Dh3RefIdeal.Rms

open Cert.Dh3RefIdeal Cert.Dh3RefIdeal.Gen Cert.Dh3RefIdeal.Read Idealize.ShloMosaic Idealize.SL.Sem
open Cert.Rms Cert.Dh3Ideal.Rms
open scoped BigOperators

variable (x0 : (⟨S8192x1024, .bf16⟩ : BufTy).Contents (Elt Ideal)) (x1 : (⟨S8192x1024, .f32⟩ : BufTy).Contents (Elt Ideal))
  (x2 : (⟨S1024x1024, .bf16⟩ : BufTy).Contents (Elt Ideal)) (x3 : (⟨S1024, .f32⟩ : BufTy).Contents (Elt Ideal))
  (x4 : (⟨S1024x4096, .bf16⟩ : BufTy).Contents (Elt Ideal)) (x5 : (⟨S8192x1024, .f32⟩ : BufTy).Contents (Elt Ideal))
  (x6 : (⟨S8192x4096, .bf16⟩ : BufTy).Contents (Elt Ideal))

/-- The residual stream. -/
abbrev X : FVec Ideal S8192x1024 .f32 := val_main_v5 (F := Ideal) x0 x1 x2

/-- The gradient of the normed row, times the gain. -/
abbrev e (t : Fin 8192) : Fin 1024 → EReal := fun k => dh x6 x4 t k * x3 (ix1 (n0 := 1024) k)

theorem v12 (t : Fin 8192) (u : Fin 1) : val_main_v12 (F := Ideal) x0 x1 x2 (ix2 (n0 := 8192) (n1 := 1) t u) = ms (row (X x0 x1 x2) t) := by
  rw [val_main_v12_apply, val_main_v10_apply, val_main_v8_apply, val_main_v7_apply, val_main_v9_apply, val_main_v11_apply]
  refine congrArg₂ (fun p q : EReal => Ideal.div p len + q) ?_ rfl
  refine (congrArg₂ (fun p q : EReal => p + q) Ideal.ofBits_zero_f32 (Finset.sum_congr rfl fun k _ => ?_)).trans (zero_add _)
  rw [val_main_v6_apply]
  have h : idx_main_v7 (idx_main_v8 (ix2 (n0 := 8192) (n1 := 1) t u)) k = ix2 (n0 := 8192) (n1 := 1024) t k :=
    funext fun a => Fin.ext (by match a with | ⟨0, _⟩ => rfl | ⟨1, _⟩ => rfl)
  rw [h]
  rfl

theorem v13 (t : Fin 8192) (u : Fin 1) : val_main_v13 (F := Ideal) x0 x1 x2 (ix2 (n0 := 8192) (n1 := 1) t u) = rstd (row (X x0 x1 x2) t) := by
  rw [val_main_v13_apply, v12]
  rfl

theorem v16 (t : Fin 8192) (u : Fin 1) : val_main_v16 (F := Ideal) x0 x1 x2 (ix2 (n0 := 8192) (n1 := 1) t u)
    = minusHalf * Ideal.div (rstd (row (X x0 x1 x2) t)) (ms (row (X x0 x1 x2) t)) := by
  rw [val_main_v16_apply, val_main_v14_apply, v12, v13, val_main_v15_apply]
  rfl

theorem v18 (t : Fin 8192) (k : Fin 1024) : val_main_v18 (F := Ideal) x0 x1 x2 (ix2 (n0 := 8192) (n1 := 1024) t k)
    = row (X x0 x1 x2) t k * rstd (row (X x0 x1 x2) t) := by
  rw [val_main_v18_apply, val_main_v17_apply]
  have h : idx_main_v17 (ix2 (n0 := 8192) (n1 := 1024) t k) = ix2 (n0 := 8192) (n1 := 1) t 0 :=
    funext fun a => Fin.ext (by match a with | ⟨0, _⟩ => rfl | ⟨1, _⟩ => rfl)
  rw [h, v13]
  rfl

theorem v23 (t : Fin 8192) (k : Fin 1024) : val_main_v23 (F := Ideal) x4 x6 (ix2 (n0 := 8192) (n1 := 1024) t k) = dh x6 x4 t k := by
  rw [val_main_v23_apply]
  refine Finset.sum_congr rfl fun j _ => congrArg₂ (fun p q : EReal => p * q) ?_ ?_
  · exact congrArg x6 (funext fun a => Fin.ext (by match a with | ⟨0, _⟩ => rfl | ⟨1, _⟩ => rfl))
  · exact congrArg x4 (funext fun a => Fin.ext (by match a with | ⟨0, _⟩ => rfl | ⟨1, _⟩ => rfl))

theorem v28 (t : Fin 8192) (k : Fin 1024) : val_main_v28 (F := Ideal) x3 x4 x6 (ix2 (n0 := 8192) (n1 := 1024) t k) = e x3 x4 x6 t k := by
  rw [val_main_v28_apply, v23, val_main_v27_apply, val_main_v19_apply]
  exact congrArg (fun q : EReal => dh x6 x4 t k * q) (congrArg x3 (funext fun a => Fin.ext (by match a with | ⟨0, _⟩ => rfl)))

/-- The gradient of the mean of squares. -/
theorem v40 (t : Fin 8192) (k : Fin 1024) : val_main_v40 (F := Ideal) x0 x1 x2 x3 x4 x6 (ix2 (n0 := 8192) (n1 := 1024) t k)
    = dms (e x3 x4 x6 t) (row (X x0 x1 x2) t) := by
  rw [val_main_v40_apply, val_main_v39_apply]
  refine (congrArg₂ (fun p q : EReal => p + q) Ideal.ofBits_zero_f32 (Fin.sum_univ_one _)).trans ((zero_add _).trans ?_)
  rw [val_main_v38_apply, val_main_v36_apply, val_main_v37_apply, val_main_v32_apply, val_main_v31_apply]
  have h : idx_main_v39 (idx_main_v40 (ix2 (n0 := 8192) (n1 := 1024) t k)) 0 = ix2 (n0 := 8192) (n1 := 1) t 0 :=
    funext fun a => Fin.ext (by match a with | ⟨0, _⟩ => rfl | ⟨1, _⟩ => rfl)
  rw [h, v16]
  refine congrArg (fun p : EReal => Ideal.div (p * _) len) ?_
  refine (congrArg₂ (fun p q : EReal => p + q) Ideal.ofBits_zero_f32 (Finset.sum_congr rfl fun j _ => ?_)).trans (zero_add _)
  have h2 : idx_main_v31 (idx_main_v32 (ix2 (n0 := 8192) (n1 := 1) t 0)) j = ix2 (n0 := 8192) (n1 := 1024) t j :=
    funext fun a => Fin.ext (by match a with | ⟨0, _⟩ => simp | ⟨1, _⟩ => rfl)
  rw [h2, val_main_v30_apply, v28]
  rfl

theorem v44 (he : ∀ t k, IsNum (e x3 x4 x6 t k)) (hx : ∀ t k, IsNum (row (X x0 x1 x2) t k)) (i : S8192x1024.Idx) :
    val_main_v44 (F := Ideal) x0 x1 x2 x3 x4 x5 x6 i = dx x6 x4 (X x0 x1 x2) x3 x5 i := by
  obtain ⟨t, k, rfl⟩ : ∃ (t : Fin 8192) (k : Fin 1024), i = ix2 t k := ⟨i 0, i 1, (ix2_eta i).symm⟩
  rw [val_main_v44_apply, val_main_v43_apply, val_main_v42_apply, val_main_v41_apply, val_main_v35_apply, val_main_v34_apply, v28, v40, val_main_v33_apply]
  have h : idx_main_v33 (ix2 (n0 := 8192) (n1 := 1024) t k) = ix2 (n0 := 8192) (n1 := 1) t 0 :=
    funext fun a => Fin.ext (by match a with | ⟨0, _⟩ => rfl | ⟨1, _⟩ => rfl)
  rw [h, v13]
  exact dxRow_add (x5 (ix2 t k)) (e x3 x4 x6 t) (row (X x0 x1 x2) t) (he t) (hx t) k

theorem v48 (he : ∀ t k, IsNum (e x3 x4 x6 t k)) (hx : ∀ t k, IsNum (row (X x0 x1 x2) t k)) (i : S8192x1024.Idx) :
    val_main_v48 (F := Ideal) x0 x1 x2 x3 x4 x5 x6 i = da x6 x4 (X x0 x1 x2) x3 x5 x2 i := by
  rw [val_main_v48_apply]
  show val_main_v46 (F := Ideal) x0 x1 x2 x3 x4 x5 x6 i = _
  rw [val_main_v46_apply]
  refine Finset.sum_congr rfl fun k _ => congrArg₂ (fun p q : EReal => p * q) ?_ ?_
  · rw [val_main_v45_apply, v44 x0 x1 x2 x3 x4 x5 x6 he hx]
    refine congrArg (dx x6 x4 (X x0 x1 x2) x3 x5) (funext fun a => Fin.ext ?_)
    have := (i 0).isLt
    have := k.isLt
    match a with
    | ⟨0, _⟩ => simp [idx_main_v45, lidx_main_v46]; try omega
    | ⟨1, _⟩ => simp [idx_main_v45, lidx_main_v46]; try omega
  · exact congrArg x2 (funext fun a => Fin.ext (by match a with | ⟨0, _⟩ => rfl | ⟨1, _⟩ => rfl))

theorem v47 (i : S1x1024.Idx) : val_main_v47 (F := Ideal) x0 x1 x2 x4 x6 i = dg x6 x4 (X x0 x1 x2) i := by
  obtain ⟨u, k, rfl⟩ : ∃ (u : Fin 1) (k : Fin 1024), i = ix2 u k := ⟨i 0, i 1, (ix2_eta i).symm⟩
  rw [val_main_v47_apply, val_main_v29_apply]
  refine (congrArg₂ (fun p q : EReal => p + q) Ideal.ofBits_zero_f32 (Fin.sum_univ_one _)).trans ((zero_add _).trans ?_)
  rw [val_main_v26_apply, val_main_v25_apply]
  refine (congrArg₂ (fun p q : EReal => p + q) Ideal.ofBits_zero_f32 (Finset.sum_congr rfl fun t _ => ?_)).trans (zero_add _)
  have h : idx_main_v25 (idx_main_v26 (idx_main_v29 (idx_main_v47 (ix2 (n0 := 1) (n1 := 1024) u k)) 0)) t = ix2 (n0 := 8192) (n1 := 1024) t k := by
    have := u.isLt
    have := k.isLt
    refine funext fun a => Fin.ext ?_
    match a with
    | ⟨0, _⟩ => rfl
    | ⟨1, _⟩ => simp [idx_main_v25, idx_main_v26, idx_main_v29, idx_main_v47]; try omega
  rw [h, val_main_v24_apply, v18, v23]
  exact mul_comm _ _

end Cert.Dh3RefIdeal.Rms

namespace Cert.Dh3Ideal.Rms

open Cert.Dh3Ideal Cert.Dh3Ideal.Gen Idealize.ShloMosaic Idealize.ShloMosaic.TcCoe Idealize.SL.Sem
open Cert.Rms

/-- The side conditions the precondition states. -/
theorem preFacts : Cert.Pre_finite_mlp.Facts where
  bitsLt_bf16_f32 := by decide
  bcast_S_S8192x1024 := by decide
  bcast_S_S1024x1024 := by decide
  bcast_S_S1024 := by decide
  bcast_S_S1024x4096 := by decide
  bcast_S_S8192x4096 := by decide

theorem frame_p : Cert.quiescent_Dh3 (hDh3 := Cert.Dh3.Gen.facts) := fun m ρ _ => Cert.Dh3.Gen.frame m ρ

theorem frame_pi : Cert.quiescent_Dh3Ideal (hDh3Ideal := Cert.Dh3Ideal.Gen.facts) := fun m ρ _ => Cert.Dh3Ideal.Gen.frame m ρ

theorem frame_pi_pre : Cert.quiescent_Dh3Ideal_pre_finite_mlp (hDh3Ideal := Cert.Dh3Ideal.Gen.facts) (hPre_finite_mlp := preFacts) :=
  fun m ρ _ => Cert.Dh3Ideal.Gen.frame m ρ

/-- The reference's frame: host operations only, no semaphore. -/
theorem frame_ri : Cert.quiescent_Dh3RefIdeal (hDh3RefIdeal := Cert.Dh3RefIdeal.Gen.facts) := fun m ρ _ =>
  (θ_run (Cert.Dh3RefIdeal.defs (F := Ideal)) _ _).mono (fun r h => ⟨fun c => (h c).2.2.2, Idealize.ShloMosaic.sem_eq_zero_of_no_sems (by decide) r.2⟩)
    (Cert.Dh3RefIdeal.Value.run (F := Ideal) m ρ)

theorem frame_ri_pre : Cert.quiescent_Dh3RefIdeal_pre_finite_mlp (hDh3RefIdeal := Cert.Dh3RefIdeal.Gen.facts) (hPre_finite_mlp := preFacts) :=
  fun m ρ _ => frame_ri m ρ trivial

variable (m : (ℓ : Loc nD τ sig) → Buf (Elt Ideal) ℓ) (c : Dev nD)

/-- Under the precondition the rows hold real numbers. -/
theorem nums (hpre : Cert.Pre_Dh3Ideal_finite_mlp (hPre_finite_mlp := preFacts) m) :
    (∀ t k, IsNum (Cert.Dh3RefIdeal.Rms.e (m ((c : Thread nD τ).loc main_arg3)) (m ((c : Thread nD τ).loc main_arg4)) (m ((c : Thread nD τ).loc main_arg6)) t k))
    ∧ ∀ t k, IsNum (row (xA m c) t k) := by
  obtain ⟨h0, h1, h2, h3, h4, h6⟩ := hpre c
  have n0 : ∀ i, IsNum (m ((c : Thread nD τ).loc main_arg0) i) := fun i => IsNum.of_bit (congrFun h0 i)
  have n1 : ∀ i, IsNum (m ((c : Thread nD τ).loc main_arg1) i) := fun i => IsNum.of_bit (congrFun h1 i)
  have n2 : ∀ i, IsNum (m ((c : Thread nD τ).loc main_arg2) i) := fun i => IsNum.of_bit (congrFun h2 i)
  have n3 : ∀ i, IsNum (m ((c : Thread nD τ).loc main_arg3) i) := fun i => IsNum.of_bit (congrFun h3 i)
  have n4 : ∀ i, IsNum (m ((c : Thread nD τ).loc main_arg4) i) := fun i => IsNum.of_bit (congrFun h4 i)
  have n6 : ∀ i, IsNum (m ((c : Thread nD τ).loc main_arg6) i) := fun i => IsNum.of_bit (congrFun h6 i)
  refine ⟨fun t k => (IsNum.sum fun j => (n6 _).mul (n4 _)).mul (n3 _), fun t k => ?_⟩
  unfold row xA
  rw [Cert.Dh3RefIdeal.Read.val_main_v5_apply, Cert.Dh3RefIdeal.Read.val_main_v4_apply]
  exact (n1 _).add (IsNum.sum fun j => (n0 _).mul (n2 _))

theorem algebraic : Cert.algebraic_Dh3Ideal_Dh3RefIdeal_pre_finite_mlp (hDh3Ideal := Cert.Dh3Ideal.Gen.facts)
    (hDh3RefIdeal := Cert.Dh3RefIdeal.Gen.facts) (hPre_finite_mlp := preFacts) := by
  intro m ρ m' ρ' hpre hagree
  refine ⟨_, _, _, Cert.Dh3Ideal.Value.run_blocks m ρ, ?_⟩
  refine (θ_run (Cert.Dh3RefIdeal.defs (F := Ideal)) _ _).mono (fun r h c => ?_) (Cert.Dh3RefIdeal.Value.run (F := Ideal) m' ρ')
  obtain ⟨e0, e1, e2, e3, e4, e5, e6⟩ := hagree c
  obtain ⟨h0, h1, h2, k⟩ := h c
  obtain ⟨he, hx⟩ := nums m c hpre
  refine ⟨h0.trans ?_, h1.trans ?_, h2.trans ?_, k⟩
  · rw [Cert.Dh3RefIdeal.Read.val_main_v44_eq, e0, e1, e2, e3, e4, e5, e6, arr6 m c]
    exact funext fun i => Cert.Dh3RefIdeal.Rms.v44 _ _ _ _ _ _ _ he hx i
  · refine (Cert.Dh3RefIdeal.Read.val_main_v47_eq _ _ _ _ _).trans ?_
    rw [e0, e1, e2, e4, e6, arr7 m c]
    exact funext fun i => Cert.Dh3RefIdeal.Rms.v47 _ _ _ _ _ i
  · rw [Cert.Dh3RefIdeal.Read.val_main_v48_eq, e0, e1, e2, e3, e4, e5, e6, arr8 m c]
    exact funext fun i => Cert.Dh3RefIdeal.Rms.v48 _ _ _ _ _ _ _ he hx i

end Cert.Dh3Ideal.Rms

end
-- ==== Proof.Rms.Dh2.lean ====
/-
  The gradient of the residual stream behind the cross attention's norm, tile by tile of tokens: the kernel's side.
-/
module

public import proofs.«01_k».proof.Defs
public import proofs.«01_k».proof.Proof.Gen.Dh2.Frame
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Rms.Row
public import Idealize.ShloMosaic.Lib.Pipeline.ValueKit
public import Idealize.ShloMosaic.Lib.MatmulPlain
public import Idealize.ShloMosaic.Lib.Claim

@[expose] public section

set_option maxRecDepth 16384

noncomputable section

namespace Cert.Dh2Ideal.Rms

open Cert.Dh2Ideal Cert.Dh2Ideal.Gen Idealize.ShloMosaic Idealize.ShloMosaic.TcCoe Idealize.SL.Sem
open Cert.Rms
open scoped BigOperators

/-- The gradient of the normed row. -/
def dh (du : FVec Ideal S8192x1024 .bf16) (w : FVec Ideal S1024x1024 .bf16) (t : Fin 8192) (k : Fin 1024) : EReal :=
  ∑ j : Fin 1024, (du (ix2 (n0 := 8192) (n1 := 1024) t j) : EReal) * w (ix2 (n0 := 1024) (n1 := 1024) k j)

/-- A row of the residual stream. -/
def row (x : FVec Ideal S8192x1024 .f32) (t : Fin 8192) (k : Fin 1024) : EReal := x (ix2 (n0 := 8192) (n1 := 1024) t k)

/-- The gradient of the residual stream. -/
def dx (du : FVec Ideal S8192x1024 .bf16) (w : FVec Ideal S1024x1024 .bf16) (x : FVec Ideal S8192x1024 .f32) (g : FVec Ideal S1024 .f32)
    (d : FVec Ideal S8192x1024 .f32) : FVec Ideal S8192x1024 .f32 := fun i =>
  (d i : EReal) + dxRow (fun k => dh du w (i 0) k * g (ix1 (n0 := 1024) k)) (row x (i 0)) (i 1)

/-- The gradient of the norm's gain. -/
def dg (du : FVec Ideal S8192x1024 .bf16) (w : FVec Ideal S1024x1024 .bf16) (x : FVec Ideal S8192x1024 .f32) : FVec Ideal S1x1024 .f32 := fun i =>
  ∑ t : Fin 8192, dh du w t (i 1) * (row x t (i 1) * rstd (row x t))

/-- The gradient of what the product before the residual stream multiplies. -/
def da (du : FVec Ideal S8192x1024 .bf16) (w : FVec Ideal S1024x1024 .bf16) (x : FVec Ideal S8192x1024 .f32) (g : FVec Ideal S1024 .f32)
    (d : FVec Ideal S8192x1024 .f32) (wo : FVec Ideal S1024x1024 .bf16) : FVec Ideal S8192x1024 .bf16 := fun i =>
  ∑ k : Fin 1024, (dx du w x g d (ix2 (n0 := 8192) (n1 := 1024) (i 0) k) : EReal) * wo (ix2 (n0 := 1024) (n1 := 1024) (i 1) k)

/-! A tile's blocks, entry by entry. -/

theorem pay3 (a : FVec Ideal S512x1024 .bf16) (b : FVec Ideal S1024x1024 .bf16) (s : Fin 512) (k : Fin 1024) :
    k0_pay3 (F := Ideal) a b (ix2 s k) = ∑ j : Fin 1024, (a (ix2 s j) : EReal) * b (ix2 k j) := by
  unfold k0_pay3
  exact (Ideal.matmul_transposedRhs_apply _ _ _ _ _ _).trans ((congrArg₂ (· + ·) Ideal.ofBits_zero_f32 rfl).trans (zero_add _))

theorem pay5 (x : FVec Ideal S512x1024 .f32) (s : Fin 512) (u : Fin 1) :
    k0_pay5 (F := Ideal) x (ix2 s u) = rstd fun k => x (ix2 s k) := by
  unfold rstd ms len eps
  pointwise [k0_pay5, k0_pay4]

theorem pay6 (x : FVec Ideal S512x1024 .f32) (s : Fin 512) (k : Fin 1024) :
    k0_pay6 (F := Ideal) x (ix2 s k) = (x (ix2 s k) : EReal) * rstd fun k => x (ix2 s k) := by
  rw [← pay5 x s 0]
  pointwise [k0_pay6, k0_pay4]

theorem pay7 (a : FVec Ideal S512x1024 .bf16) (b : FVec Ideal S1024x1024 .bf16) (x : FVec Ideal S512x1024 .f32) (u : Fin 1) (k : Fin 1024) :
    k0_pay7 (F := Ideal) a b x (ix2 u k)
      = ∑ s : Fin 512, (k0_pay3 (F := Ideal) a b (ix2 s k) : EReal) * k0_pay6 (F := Ideal) x (ix2 s k) := by
  unfold k0_pay7
  generalize k0_pay3 (F := Ideal) a b = p
  generalize k0_pay6 (F := Ideal) x = q
  pointwise

theorem pay8 (a : FVec Ideal S512x1024 .bf16) (b : FVec Ideal S1024x1024 .bf16) (x : FVec Ideal S512x1024 .f32) (g : FVec Ideal S1x1024 .f32)
    (d : FVec Ideal S512x1024 .f32) (s : Fin 512) (k : Fin 1024) :
    k0_pay8 (F := Ideal) a b x g d (ix2 s k)
      = (d (ix2 s k) : EReal) + dxRow (fun k => (k0_pay3 (F := Ideal) a b (ix2 s k) : EReal) * g (ix2 0 k)) (fun k => x (ix2 s k)) k := by
  unfold dxRow
  simp only [← pay6 x s]
  rw [← pay5 x s 0]
  unfold k0_pay8 len
  generalize k0_pay3 (F := Ideal) a b = p
  generalize k0_pay6 (F := Ideal) x = q
  generalize k0_pay5 (F := Ideal) x = r
  pointwise

theorem pay1 (a : FVec Ideal S512x1024 .bf16) (b : FVec Ideal S1024x1024 .bf16) (x : FVec Ideal S512x1024 .f32) (g : FVec Ideal S1x1024 .f32)
    (d : FVec Ideal S512x1024 .f32) (wo : FVec Ideal S1024x1024 .bf16) (s : Fin 512) (l : Fin 1024) :
    k0_pay1 (F := Ideal) (k0_pay9 (F := Ideal) a b x g d) wo (ix2 s l)
      = ∑ k : Fin 1024, (k0_pay8 (F := Ideal) a b x g d (ix2 s k) : EReal) * wo (ix2 l k) := by
  unfold k0_pay1 k0_pay9
  exact (Ideal.matmul_transposedRhs_apply none (k0_pay8 (F := Ideal) a b x g d) _ _ _ _).trans ((congrArg₂ (· + ·) Ideal.ofBits_zero_f32 rfl).trans (zero_add _))

theorem pay2 (p q : FVec Ideal S1x1024 .f32) (y : S1x1024.Idx) : k0_pay2 (F := Ideal) p q y = (q y : EReal) + p y := by
  pointwise [k0_pay2]

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] ∧ win0_8.index t = ![t.val, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (j : Fin 1024) (x : FVec Ideal S8192x1024 .bf16) (ht : t.val < 16) :
    (win0_0.blk t).view.read (Elt Ideal) x (ix2 s j) = x (ix2 (n0 := 8192) (n1 := 1024) ⟨512 * t.val + s.val, by omega⟩ j) := by
  have hs := s.isLt
  have hj := j.isLt
  blk_ext [idx t]

theorem read1 (t : Fin cfg0.N) (k : Fin 1024) (j : Fin 1024) (x : FVec Ideal S1024x1024 .bf16) :
    (win0_1.blk t).view.read (Elt Ideal) x (ix2 k j) = x (ix2 (n0 := 1024) (n1 := 1024) k j) := by
  have hk := k.isLt
  have hj := j.isLt
  blk_ext [idx t]

theorem read2 (t : Fin cfg0.N) (s : Fin 512) (k : Fin 1024) (x : FVec Ideal S8192x1024 .f32) (ht : t.val < 16) :
    (win0_2.blk t).view.read (Elt Ideal) x (ix2 s k) = x (ix2 (n0 := 8192) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

theorem read4 (t : Fin cfg0.N) (s : Fin 512) (k : Fin 1024) (x : FVec Ideal S8192x1024 .f32) (ht : t.val < 16) :
    (win0_4.blk t).view.read (Elt Ideal) x (ix2 s k) = x (ix2 (n0 := 8192) (n1 := 1024) ⟨512 * t.val + s.val, by omega⟩ k) := by
  have hs := s.isLt
  have hk := k.isLt
  blk_ext [idx t]

theorem read5 (t : Fin cfg0.N) (l : Fin 1024) (k : Fin 1024) (x : FVec Ideal S1024x1024 .bf16) :
    (win0_5.blk t).view.read (Elt Ideal) x (ix2 l k) = x (ix2 (n0 := 1024) (n1 := 1024) l k) := by
  have hl := l.isLt
  have hk := k.isLt
  blk_ext [idx t]

/-- The arrays the call reads: the residual stream is made by the host, the gain only reshaped. -/
abbrev duA : FVec Ideal S8192x1024 .bf16 := m ((c : Thread nD τ).loc main_arg6)

abbrev wA : FVec Ideal S1024x1024 .bf16 := m ((c : Thread nD τ).loc main_arg4)

abbrev xA : FVec Ideal S8192x1024 .f32 := Cert.Dh2RefIdeal.Read.val_main_v5 (F := Ideal) (m ((c : Thread nD τ).loc main_arg0))
  (m ((c : Thread nD τ).loc main_arg1)) (m ((c : Thread nD τ).loc main_arg2))

abbrev gA : FVec Ideal S1024 .f32 := m ((c : Thread nD τ).loc main_arg3)

abbrev dA : FVec Ideal S8192x1024 .f32 := m ((c : Thread nD τ).loc main_arg5)

abbrev woA : FVec Ideal S1024x1024 .bf16 := m ((c : Thread nD τ).loc main_arg2)

def gRow (g : FVec Ideal S1024 .f32) : FVec Ideal S1x1024 .f32 := fun i => g (ix1 (n0 := 1024) (i 1))

theorem V_stream : V m c main_v3 = xA m c := by
  unfold V
  entry_read
  rfl

theorem V_gain : V m c main_v4 = gRow (gA m c) := by
  unfold V
  entry_read
  funext i
  idx_vars i
  pointwise [gRow]

theorem iblk0 (t : Fin cfg0.N) : iblk m c 0 t = (win0_0.blk t).view.read (Elt Ideal) (duA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := by
  rw [← V_stream]
  rfl

theorem iblk3 (t : Fin cfg0.N) : iblk m c 3 t = (win0_3.blk t).view.read (Elt Ideal) (gRow (gA m c)) := by
  rw [← V_gain]
  rfl

theorem iblk4 (t : Fin cfg0.N) : iblk m c 4 t = (win0_4.blk t).view.read (Elt Ideal) (dA m c) := rfl

theorem iblk5 (t : Fin cfg0.N) : iblk m c 5 t = (win0_5.blk t).view.read (Elt Ideal) (woA m c) := rfl

/-- A point's normed rows' gradient. -/
theorem at3 (t : Fin cfg0.N) (ht : t.val < 16) (s : Fin 512) (k : Fin 1024) :
    k0_pay3 (F := Ideal) (iblk m c 0 t) (iblk m c 1 t) (ix2 s k) = dh (duA m c) (wA m c) ⟨512 * t.val + s.val, by omega⟩ k := by
  rw [pay3, iblk0, iblk1]
  exact Finset.sum_congr rfl fun j _ => congrArg₂ (fun p q : EReal => p * q) (read0 t s j _ ht) (read1 t k j _)

theorem atRow (t : Fin cfg0.N) (ht : t.val < 16) (s : Fin 512) :
    (fun k : Fin 1024 => ((iblk m c 2 t : FVec Ideal S512x1024 .f32) (ix2 s k) : EReal)) = row (xA m c) ⟨512 * t.val + s.val, by omega⟩ := by
  rw [iblk2]
  exact funext fun k => read2 t s k _ ht

/-- A point's rows of the residual stream's gradient. -/
theorem at8 (t : Fin cfg0.N) (ht : t.val < 16) (s : Fin 512) (k : Fin 1024) :
    k0_pay8 (F := Ideal) (iblk m c 0 t) (iblk m c 1 t) (iblk m c 2 t) (iblk m c 3 t) (iblk m c 4 t) (ix2 s k)
      = dx (duA m c) (wA m c) (xA m c) (gA m c) (dA m c) (ix2 (n0 := 8192) (n1 := 1024) ⟨512 * t.val + s.val, by omega⟩ k) := by
  rw [pay8, atRow m c t ht s]
  simp only [at3 m c t ht s]
  have e3 : ∀ j : Fin 1024, ((iblk m c 3 t : FVec Ideal S1x1024 .f32) (ix2 0 j) : EReal) = gA m c (ix1 (n0 := 1024) j) := fun j => by
    rw [iblk3]
    exact read3 t 0 j _
  have e4 : ((iblk m c 4 t : FVec Ideal S512x1024 .f32) (ix2 s k) : EReal) = dA m c (ix2 (n0 := 8192) (n1 := 1024) ⟨512 * t.val + s.val, by omega⟩ k) := by
    rw [iblk4]
    exact read4 t s k _ ht
  simp only [e3]
  exact congrArg (fun q : EReal => q + _) e4

/-- A point's part of the gain's gradient. -/
theorem at7 (t : Fin cfg0.N) (ht : t.val < 16) (u : Fin 1) (k : Fin 1024) :
    k0_pay7 (F := Ideal) (iblk m c 0 t) (iblk m c 1 t) (iblk m c 2 t) (ix2 u k)
      = ∑ s : Fin 512, (fun r : Fin 8192 => dh (duA m c) (wA m c) r k * (row (xA m c) r k * rstd (row (xA m c) r)))
        ⟨512 * t.val + s.val, by omega⟩ := by
  rw [pay7]
  refine Finset.sum_congr rfl fun s _ => ?_
  rw [at3 m c t ht s k, pay6, atRow m c t ht s, congrFun (atRow m c t ht s) k]

/-- What the points up to one leave of the gain's gradient. -/
theorem acc : ∀ (n : ℕ) (h : n < cfg0.N) (u : Fin 1) (k : Fin 1024), ((outsAt0 m c n h).2.1 : FVec Ideal S1x1024 .f32) (ix2 u k)
      = ∑ r ∈ Finset.range (512 * n + 512), onNat (fun r : Fin 8192 => dh (duA m c) (wA m c) r k * (row (xA m c) r k * rstd (row (xA m c) r))) r
  | 0, h, u, k => by
    have e := outsAt0_A m c ⟨0, h⟩ (by norm_num) (by norm_num)
    have ht := lt ⟨0, h⟩
    rw [sum_tile _ _ (by omega), show outsAt0 m c 0 h = _ from e]
    frame_out
    refine (at7 m c ⟨0, h⟩ ht u k).trans ?_
    simp
  | n + 1, h, u, k => by
    have ht := lt ⟨n + 1, h⟩
    have ht' : n + 1 < 16 := ht
    have e := outsAt0_B m c ⟨n + 1, h⟩ (by show ¬(n + 1) % 16 = 0; omega) (by show 1 ≤ n + 1; omega)
    rw [sum_tile _ _ (by omega), show outsAt0 m c (n + 1) h = _ from e]
    frame_out
    rw [pay2]
    refine congrArg₂ (fun p q : EReal => p + q) ?_ (at7 m c ⟨n + 1, h⟩ ht u k)
    exact (acc n (by omega) u k)

/-- The kernel's results. -/
theorem arr6 : (dats m 0 c).arrAt 6 cfg0.N = dx (duA m c) (wA m c) (xA m c) (gA m c) (dA m c) := by
  refine (dats m 0 c).arrAt_eq_of_covers 6 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_6.blk t).view.emb (ix2 s l) = ix2 (n0 := 8192) (n1 := 1024) ⟨512 * t.val + s.val, by omega⟩ l := by
    blk_ext [idx t]
  refine Eq.trans ?_ (congrArg (dx _ _ _ _ _) e.symm)
  show ((dats m 0 c).after 6 t : FVec Ideal S512x1024 .f32) (ix2 s l) = _
  rw [after0_6]
  by_cases h : t.val % 16 = 0
  · rw [outsAt0_A m c t h (by omega)]
    frame_out
    exact at8 m c t hN s l
  · rw [outsAt0_B m c t h (by omega)]
    frame_out
    exact at8 m c t hN s l

theorem arr7 : (dats m 0 c).arrAt 7 cfg0.N = dg (duA m c) (wA m c) (xA m c) := by
  refine (dats m 0 c).arrAt_eq_of_covers 7 _ (by decide +kernel) fun t hf y => ?_
  have hN := lt t
  have h := (flush0_7 t).mp hf
  obtain ⟨u, l, rfl⟩ : ∃ (u : Fin 1) (l : Fin 1024), y = ix2 u l := ⟨y 0, y 1, (ix2_eta y).symm⟩
  have hu := u.isLt
  have hl := l.isLt
  have e : (win0_7.blk t).view.emb (ix2 u l) = ix2 (n0 := 1) (n1 := 1024) u l := by
    blk_ext [idx t]
  refine Eq.trans ?_ (congrArg (dg _ _ _) e.symm)
  show ((dats m 0 c).after 7 t : FVec Ideal S1x1024 .f32) (ix2 u l) = _
  rw [after0_7, acc m c t.val t.isLt u l, show 512 * t.val + 512 = 8192 by omega]
  exact sum_onNat _

theorem arr8 : (dats m 0 c).arrAt 8 cfg0.N = da (duA m c) (wA m c) (xA m c) (gA m c) (dA m c) (woA m c) := by
  refine (dats m 0 c).arrAt_eq_of_covers 8 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_8.blk t).view.emb (ix2 s l) = ix2 (n0 := 8192) (n1 := 1024) ⟨512 * t.val + s.val, by omega⟩ l := by
    blk_ext [idx t]
  refine Eq.trans ?_ (congrArg (da _ _ _ _ _ _) e.symm)
  have key : (k0_pay1 (F := Ideal) (k0_pay9 (F := Ideal) (iblk m c 0 t) (iblk m c 1 t) (iblk m c 2 t) (iblk m c 3 t) (iblk m c 4 t)) (iblk m c 5 t)) (ix2 s l)
      = da (duA m c) (wA m c) (xA m c) (gA m c) (dA m c) (woA m c) (ix2 (n0 := 8192) (n1 := 1024) ⟨512 * t.val + s.val, by omega⟩ l) := by
    rw [pay1, iblk5]
    exact Finset.sum_congr rfl fun k _ => congrArg₂ (fun p q : EReal => p * q) (at8 m c t hN s k) (read5 t l k _)
  show ((dats m 0 c).after 8 t : FVec Ideal S512x1024 .bf16) (ix2 s l) = _
  rw [after0_8]
  by_cases h : t.val % 16 = 0
  · rw [outsAt0_A m c t h (by omega)]
    frame_out
    exact key
  · rw [outsAt0_B m c t h (by omega)]
    frame_out
    exact key

end Cert.Dh2Ideal.Rms

end
-- ==== Proof.Rms.Dh2Ref.lean ====
/-
  The reference's gradient behind the cross attention's norm, and the claims of the call.
-/
module

public import proofs.«01_k».proof.Proof.Rms.Dh2
public import proofs.«01_k».proof.Pre_finite_xattn

@[expose] public section

set_option maxRecDepth 16384

noncomputable section

namespace Cert.Dh2RefIdeal.Rms

open Cert.Dh2RefIdeal Cert.Dh2RefIdeal.Gen Cert.Dh2RefIdeal.Read Idealize.ShloMosaic Idealize.SL.Sem
open Cert.Rms Cert.Dh2Ideal.Rms
open scoped BigOperators

variable (x0 : (⟨S8192x1024, .bf16⟩ : BufTy).Contents (Elt Ideal)) (x1 : (⟨S8192x1024, .f32⟩ : BufTy).Contents (Elt Ideal))
  (x2 : (⟨S1024x1024, .bf16⟩ : BufTy).Contents (Elt Ideal)) (x3 : (⟨S1024, .f32⟩ : BufTy).Contents (Elt Ideal))
  (x4 : (⟨S1024x1024, .bf16⟩ : BufTy).Contents (Elt Ideal)) (x5 : (⟨S8192x1024, .f32⟩ : BufTy).Contents (Elt Ideal))
  (x6 : (⟨S8192x1024, .bf16⟩ : BufTy).Contents (Elt Ideal))

/-- The residual stream. -/
abbrev X : FVec Ideal S8192x1024 .f32 := val_main_v5 (F := Ideal) x0 x1 x2

/-- The gradient of the normed row, times the gain. -/
abbrev e (t : Fin 8192) : Fin 1024 → EReal := fun k => dh x6 x4 t k * x3 (ix1 (n0 := 1024) k)

theorem v12 (t : Fin 8192) (u : Fin 1) : val_main_v12 (F := Ideal) x0 x1 x2 (ix2 (n0 := 8192) (n1 := 1) t u) = ms (row (X x0 x1 x2) t) := by
  rw [val_main_v12_apply, val_main_v10_apply, val_main_v8_apply, val_main_v7_apply, val_main_v9_apply, val_main_v11_apply]
  refine congrArg₂ (fun p q : EReal => Ideal.div p len + q) ?_ rfl
  refine (congrArg₂ (fun p q : EReal => p + q) Ideal.ofBits_zero_f32 (Finset.sum_congr rfl fun k _ => ?_)).trans (zero_add _)
  rw [val_main_v6_apply]
  have h : idx_main_v7 (idx_main_v8 (ix2 (n0 := 8192) (n1 := 1) t u)) k = ix2 (n0 := 8192) (n1 := 1024) t k :=
    funext fun a => Fin.ext (by match a with | ⟨0, _⟩ => rfl | ⟨1, _⟩ => rfl)
  rw [h]
  rfl

theorem v13 (t : Fin 8192) (u : Fin 1) : val_main_v13 (F := Ideal) x0 x1 x2 (ix2 (n0 := 8192) (n1 := 1) t u) = rstd (row (X x0 x1 x2) t) := by
  rw [val_main_v13_apply, v12]
  rfl

theorem v16 (t : Fin 8192) (u : Fin 1) : val_main_v16 (F := Ideal) x0 x1 x2 (ix2 (n0 := 8192) (n1 := 1) t u)
    = minusHalf * Ideal.div (rstd (row (X x0 x1 x2) t)) (ms (row (X x0 x1 x2) t)) := by
  rw [val_main_v16_apply, val_main_v14_apply, v12, v13, val_main_v15_apply]
  rfl

theorem v18 (t : Fin 8192) (k : Fin 1024) : val_main_v18 (F := Ideal) x0 x1 x2 (ix2 (n0 := 8192) (n1 := 1024) t k)
    = row (X x0 x1 x2) t k * rstd (row (X x0 x1 x2) t) := by
  rw [val_main_v18_apply, val_main_v17_apply]
  have h : idx_main_v17 (ix2 (n0 := 8192) (n1 := 1024) t k) = ix2 (n0 := 8192) (n1 := 1) t 0 :=
    funext fun a => Fin.ext (by match a with | ⟨0, _⟩ => rfl | ⟨1, _⟩ => rfl)
  rw [h, v13]
  rfl

theorem v23 (t : Fin 8192) (k : Fin 1024) : val_main_v23 (F := Ideal) x4 x6 (ix2 (n0 := 8192) (n1 := 1024) t k) = dh x6 x4 t k := by
  rw [val_main_v23_apply]
  refine Finset.sum_congr rfl fun j _ => congrArg₂ (fun p q : EReal => p * q) ?_ ?_
  · exact congrArg x6 (funext fun a => Fin.ext (by match a with | ⟨0, _⟩ => rfl | ⟨1, _⟩ => rfl))
  · exact congrArg x4 (funext fun a => Fin.ext (by match a with | ⟨0, _⟩ => rfl | ⟨1, _⟩ => rfl))

theorem v28 (t : Fin 8192) (k : Fin 1024) : val_main_v28 (F := Ideal) x3 x4 x6 (ix2 (n0 := 8192) (n1 := 1024) t k) = e x3 x4 x6 t k := by
  rw [val_main_v28_apply, v23, val_main_v27_apply, val_main_v19_apply]
  exact congrArg (fun q : EReal => dh x6 x4 t k * q) (congrArg x3 (funext fun a => Fin.ext (by match a with | ⟨0, _⟩ => rfl)))

/-- The gradient of the mean of squares. -/
theorem v40 (t : Fin 8192) (k : Fin 1024) : val_main_v40 (F := Ideal) x0 x1 x2 x3 x4 x6 (ix2 (n0 := 8192) (n1 := 1024) t k)
    = dms (e x3 x4 x6 t) (row (X x0 x1 x2) t) := by
  rw [val_main_v40_apply, val_main_v39_apply]
  refine (congrArg₂ (fun p q : EReal => p + q) Ideal.ofBits_zero_f32 (Fin.sum_univ_one _)).trans ((zero_add _).trans ?_)
  rw [val_main_v38_apply, val_main_v36_apply, val_main_v37_apply, val_main_v32_apply, val_main_v31_apply]
  have h : idx_main_v39 (idx_main_v40 (ix2 (n0 := 8192) (n1 := 1024) t k)) 0 = ix2 (n0 := 8192) (n1 := 1) t 0 :=
    funext fun a => Fin.ext (by match a with | ⟨0, _⟩ => rfl | ⟨1, _⟩ => rfl)
  rw [h, v16]
  refine congrArg (fun p : EReal => Ideal.div (p * _) len) ?_
  refine (congrArg₂ (fun p q : EReal => p + q) Ideal.ofBits_zero_f32 (Finset.sum_congr rfl fun j _ => ?_)).trans (zero_add _)
  have h2 : idx_main_v31 (idx_main_v32 (ix2 (n0 := 8192) (n1 := 1) t 0)) j = ix2 (n0 := 8192) (n1 := 1024) t j :=
    funext fun a => Fin.ext (by match a with | ⟨0, _⟩ => simp | ⟨1, _⟩ => rfl)
  rw [h2, val_main_v30_apply, v28]
  rfl

theorem v44 (he : ∀ t k, IsNum (e x3 x4 x6 t k)) (hx : ∀ t k, IsNum (row (X x0 x1 x2) t k)) (i : S8192x1024.Idx) :
    val_main_v44 (F := Ideal) x0 x1 x2 x3 x4 x5 x6 i = dx x6 x4 (X x0 x1 x2) x3 x5 i := by
  obtain ⟨t, k, rfl⟩ : ∃ (t : Fin 8192) (k : Fin 1024), i = ix2 t k := ⟨i 0, i 1, (ix2_eta i).symm⟩
  rw [val_main_v44_apply, val_main_v43_apply, val_main_v42_apply, val_main_v41_apply, val_main_v35_apply, val_main_v34_apply, v28, v40, val_main_v33_apply]
  have h : idx_main_v33 (ix2 (n0 := 8192) (n1 := 1024) t k) = ix2 (n0 := 8192) (n1 := 1) t 0 :=
    funext fun a => Fin.ext (by match a with | ⟨0, _⟩ => rfl | ⟨1, _⟩ => rfl)
  rw [h, v13]
  exact dxRow_add (x5 (ix2 t k)) (e x3 x4 x6 t) (row (X x0 x1 x2) t) (he t) (hx t) k

theorem v48 (he : ∀ t k, IsNum (e x3 x4 x6 t k)) (hx : ∀ t k, IsNum (row (X x0 x1 x2) t k)) (i : S8192x1024.Idx) :
    val_main_v48 (F := Ideal) x0 x1 x2 x3 x4 x5 x6 i = da x6 x4 (X x0 x1 x2) x3 x5 x2 i := by
  rw [val_main_v48_apply]
  show val_main_v46 (F := Ideal) x0 x1 x2 x3 x4 x5 x6 i = _
  rw [val_main_v46_apply]
  refine Finset.sum_congr rfl fun k _ => congrArg₂ (fun p q : EReal => p * q) ?_ ?_
  · rw [val_main_v45_apply, v44 x0 x1 x2 x3 x4 x5 x6 he hx]
    refine congrArg (dx x6 x4 (X x0 x1 x2) x3 x5) (funext fun a => Fin.ext ?_)
    have := (i 0).isLt
    have := k.isLt
    match a with
    | ⟨0, _⟩ => simp [idx_main_v45, lidx_main_v46]; try omega
    | ⟨1, _⟩ => simp [idx_main_v45, lidx_main_v46]; try omega
  · exact congrArg x2 (funext fun a => Fin.ext (by match a with | ⟨0, _⟩ => rfl | ⟨1, _⟩ => rfl))

theorem v47 (i : S1x1024.Idx) : val_main_v47 (F := Ideal) x0 x1 x2 x4 x6 i = dg x6 x4 (X x0 x1 x2) i := by
  obtain ⟨u, k, rfl⟩ : ∃ (u : Fin 1) (k : Fin 1024), i = ix2 u k := ⟨i 0, i 1, (ix2_eta i).symm⟩
  rw [val_main_v47_apply, val_main_v29_apply]
  refine (congrArg₂ (fun p q : EReal => p + q) Ideal.ofBits_zero_f32 (Fin.sum_univ_one _)).trans ((zero_add _).trans ?_)
  rw [val_main_v26_apply, val_main_v25_apply]
  refine (congrArg₂ (fun p q : EReal => p + q) Ideal.ofBits_zero_f32 (Finset.sum_congr rfl fun t _ => ?_)).trans (zero_add _)
  have h : idx_main_v25 (idx_main_v26 (idx_main_v29 (idx_main_v47 (ix2 (n0 := 1) (n1 := 1024) u k)) 0)) t = ix2 (n0 := 8192) (n1 := 1024) t k := by
    have := u.isLt
    have := k.isLt
    refine funext fun a => Fin.ext ?_
    match a with
    | ⟨0, _⟩ => rfl
    | ⟨1, _⟩ => simp [idx_main_v25, idx_main_v26, idx_main_v29, idx_main_v47]; try omega
  rw [h, val_main_v24_apply, v18, v23]
  exact mul_comm _ _

end Cert.Dh2RefIdeal.Rms

namespace Cert.Dh2Ideal.Rms

open Cert.Dh2Ideal Cert.Dh2Ideal.Gen Idealize.ShloMosaic Idealize.ShloMosaic.TcCoe Idealize.SL.Sem
open Cert.Rms

/-- The side conditions the precondition states. -/
theorem preFacts : Cert.Pre_finite_xattn.Facts where
  bitsLt_bf16_f32 := by decide
  bcast_S_S8192x1024 := by decide
  bcast_S_S1024x1024 := by decide
  bcast_S_S1024 := by decide

theorem frame_p : Cert.quiescent_Dh2 (hDh2 := Cert.Dh2.Gen.facts) := fun m ρ _ => Cert.Dh2.Gen.frame m ρ

theorem frame_pi : Cert.quiescent_Dh2Ideal (hDh2Ideal := Cert.Dh2Ideal.Gen.facts) := fun m ρ _ => Cert.Dh2Ideal.Gen.frame m ρ

theorem frame_pi_pre : Cert.quiescent_Dh2Ideal_pre_finite_xattn (hDh2Ideal := Cert.Dh2Ideal.Gen.facts) (hPre_finite_xattn := preFacts) :=
  fun m ρ _ => Cert.Dh2Ideal.Gen.frame m ρ

/-- The reference's frame: host operations only, no semaphore. -/
theorem frame_ri : Cert.quiescent_Dh2RefIdeal (hDh2RefIdeal := Cert.Dh2RefIdeal.Gen.facts) := fun m ρ _ =>
  (θ_run (Cert.Dh2RefIdeal.defs (F := Ideal)) _ _).mono (fun r h => ⟨fun c => (h c).2.2.2, Idealize.ShloMosaic.sem_eq_zero_of_no_sems (by decide) r.2⟩)
    (Cert.Dh2RefIdeal.Value.run (F := Ideal) m ρ)

theorem frame_ri_pre : Cert.quiescent_Dh2RefIdeal_pre_finite_xattn (hDh2RefIdeal := Cert.Dh2RefIdeal.Gen.facts) (hPre_finite_xattn := preFacts) :=
  fun m ρ _ => frame_ri m ρ trivial

variable (m : (ℓ : Loc nD τ sig) → Buf (Elt Ideal) ℓ) (c : Dev nD)

/-- Under the precondition the rows hold real numbers. -/
theorem nums (hpre : Cert.Pre_Dh2Ideal_finite_xattn (hPre_finite_xattn := preFacts) m) :
    (∀ t k, IsNum (Cert.Dh2RefIdeal.Rms.e (m ((c : Thread nD τ).loc main_arg3)) (m ((c : Thread nD τ).loc main_arg4)) (m ((c : Thread nD τ).loc main_arg6)) t k))
    ∧ ∀ t k, IsNum (row (xA m c) t k) := by
  obtain ⟨h0, h1, h2, h3, h4, h6⟩ := hpre c
  have n0 : ∀ i, IsNum (m ((c : Thread nD τ).loc main_arg0) i) := fun i => IsNum.of_bit (congrFun h0 i)
  have n1 : ∀ i, IsNum (m ((c : Thread nD τ).loc main_arg1) i) := fun i => IsNum.of_bit (congrFun h1 i)
  have n2 : ∀ i, IsNum (m ((c : Thread nD τ).loc main_arg2) i) := fun i => IsNum.of_bit (congrFun h2 i)
  have n3 : ∀ i, IsNum (m ((c : Thread nD τ).loc main_arg3) i) := fun i => IsNum.of_bit (congrFun h3 i)
  have n4 : ∀ i, IsNum (m ((c : Thread nD τ).loc main_arg4) i) := fun i => IsNum.of_bit (congrFun h4 i)
  have n6 : ∀ i, IsNum (m ((c : Thread nD τ).loc main_arg6) i) := fun i => IsNum.of_bit (congrFun h6 i)
  refine ⟨fun t k => (IsNum.sum fun j => (n6 _).mul (n4 _)).mul (n3 _), fun t k => ?_⟩
  unfold row xA
  rw [Cert.Dh2RefIdeal.Read.val_main_v5_apply, Cert.Dh2RefIdeal.Read.val_main_v4_apply]
  exact (n1 _).add (IsNum.sum fun j => (n0 _).mul (n2 _))

theorem algebraic : Cert.algebraic_Dh2Ideal_Dh2RefIdeal_pre_finite_xattn (hDh2Ideal := Cert.Dh2Ideal.Gen.facts)
    (hDh2RefIdeal := Cert.Dh2RefIdeal.Gen.facts) (hPre_finite_xattn := preFacts) := by
  intro m ρ m' ρ' hpre hagree
  refine ⟨_, _, _, Cert.Dh2Ideal.Value.run_blocks m ρ, ?_⟩
  refine (θ_run (Cert.Dh2RefIdeal.defs (F := Ideal)) _ _).mono (fun r h c => ?_) (Cert.Dh2RefIdeal.Value.run (F := Ideal) m' ρ')
  obtain ⟨e0, e1, e2, e3, e4, e5, e6⟩ := hagree c
  obtain ⟨h0, h1, h2, k⟩ := h c
  obtain ⟨he, hx⟩ := nums m c hpre
  refine ⟨h0.trans ?_, h1.trans ?_, h2.trans ?_, k⟩
  · rw [Cert.Dh2RefIdeal.Read.val_main_v44_eq, e0, e1, e2, e3, e4, e5, e6, arr6 m c]
    exact funext fun i => Cert.Dh2RefIdeal.Rms.v44 _ _ _ _ _ _ _ he hx i
  · refine (Cert.Dh2RefIdeal.Read.val_main_v47_eq _ _ _ _ _).trans ?_
    rw [e0, e1, e2, e4, e6, arr7 m c]
    exact funext fun i => Cert.Dh2RefIdeal.Rms.v47 _ _ _ _ _ i
  · rw [Cert.Dh2RefIdeal.Read.val_main_v48_eq, e0, e1, e2, e3, e4, e5, e6, arr8 m c]
    exact funext fun i => Cert.Dh2RefIdeal.Rms.v48 _ _ _ _ _ _ _ he hx i

end Cert.Dh2Ideal.Rms

end
-- ==== Proof.Rms.Dmem.lean ====
/-
  The gradient of the memory behind its norm, tile by tile of its rows.
-/
module

public import proofs.«01_k».proof.Defs
public import proofs.«01_k».proof.Proof.Gen.Dmem.Frame
public import proofs.«01_k».proof.Proof.Gen.DmemIdeal.Value
public import proofs.«01_k».proof.Proof.Gen.DmemRefIdeal.Run
public import proofs.«01_k».proof.Proof.Gen.DmemRefIdeal.Read
public import proofs.«01_k».proof.Proof.Rms.Row
public import proofs.«01_k».proof.Pre_finite_memory
public import Idealize.ShloMosaic.Lib.Pipeline.ValueKit
public import Idealize.ShloMosaic.Lib.MatmulPlain
public import Idealize.ShloMosaic.Lib.Claim

@[expose] public section

set_option maxRecDepth 16384

noncomputable section

namespace Cert.DmemIdeal.Rms

open Cert.DmemIdeal Cert.DmemIdeal.Gen Idealize.ShloMosaic Idealize.ShloMosaic.TcCoe Idealize.SL.Sem
open Cert.Rms
open scoped BigOperators

/-- The gradient of the normed row. -/
def dh (du : FVec Ideal S1024x2048 .f32) (w : FVec Ideal S1024x2048 .bf16) (t : Fin 1024) (k : Fin 1024) : EReal :=
  ∑ j : Fin 2048, (du (ix2 (n0 := 1024) (n1 := 2048) t j) : EReal) * w (ix2 (n0 := 1024) (n1 := 2048) k j)

/-- A row of the memory. -/
def row (x : FVec Ideal S1024x1024 .f32) (t : Fin 1024) (k : Fin 1024) : EReal := x (ix2 (n0 := 1024) (n1 := 1024) t k)

/-- The gradient of the memory. -/
def dx (du : FVec Ideal S1024x2048 .f32) (w : FVec Ideal S1024x2048 .bf16) (x : FVec Ideal S1024x1024 .f32) (g : FVec Ideal S1024 .f32) : FVec Ideal S1024x1024 .f32 := fun i =>
  dxRow (fun k => dh du w (i 0) k * g (ix1 (n0 := 1024) k)) (row x (i 0)) (i 1)

/-- The gradient of the norm's gain. -/
def dg (du : FVec Ideal S1024x2048 .f32) (w : FVec Ideal S1024x2048 .bf16) (x : FVec Ideal S1024x1024 .f32) : FVec Ideal S1x1024 .f32 := fun i =>
  ∑ t : Fin 1024, dh du w t (i 1) * (row x t (i 1) * rstd (row x t))

/-! A tile's blocks, entry by entry. -/

theorem pay2 (a : FVec Ideal S512x2048 .f32) (b : FVec Ideal S1024x2048 .bf16) (s : Fin 512) (k : Fin 1024) :
    k0_pay2 (F := Ideal) a b (ix2 s k) = ∑ j : Fin 2048, (a (ix2 s j) : EReal) * b (ix2 k j) := by
  unfold k0_pay2
  exact (Ideal.matmul_transposedRhs_apply none a _ _ _ _).trans ((congrArg₂ (· + ·) Ideal.ofBits_zero_f32 rfl).trans (zero_add _))

theorem pay3 (x : FVec Ideal S512x1024 .f32) (s : Fin 512) (u : Fin 1) :
    k0_pay3 (F := Ideal) x (ix2 s u) = rstd fun k => x (ix2 s k) := by
  unfold rstd ms len eps
  pointwise [k0_pay3]

theorem pay4 (x : FVec Ideal S512x1024 .f32) (s : Fin 512) (k : Fin 1024) :
    k0_pay4 (F := Ideal) x (ix2 s k) = (x (ix2 s k) : EReal) * rstd fun k => x (ix2 s k) := by
  rw [← pay3 x s 0]
  pointwise [k0_pay4]

theorem pay6 (a : FVec Ideal S512x2048 .f32) (b : FVec Ideal S1024x2048 .bf16) (x : FVec Ideal S512x1024 .f32) (u : Fin 1) (k : Fin 1024) :
    k0_pay6 (F := Ideal) a b x (ix2 u k)
      = ∑ s : Fin 512, (k0_pay2 (F := Ideal) a b (ix2 s k) : EReal) * k0_pay4 (F := Ideal) x (ix2 s k) := by
  unfold k0_pay6
  generalize k0_pay2 (F := Ideal) a b = p
  generalize k0_pay4 (F := Ideal) x = q
  pointwise

theorem pay5 (a : FVec Ideal S512x2048 .f32) (b : FVec Ideal S1024x2048 .bf16) (x : FVec Ideal S512x1024 .f32) (g : FVec Ideal S1x1024 .f32) (s : Fin 512) (k : Fin 1024) :
    k0_pay5 (F := Ideal) a b x g (ix2 s k)
      = dxRow (fun k => (k0_pay2 (F := Ideal) a b (ix2 s k) : EReal) * g (ix2 0 k)) (fun k => x (ix2 s k)) k := by
  unfold dxRow
  simp only [← pay4 x s]
  rw [← pay3 x s 0]
  unfold k0_pay5 len
  generalize k0_pay2 (F := Ideal) a b = p
  generalize k0_pay4 (F := Ideal) x = q
  generalize k0_pay3 (F := Ideal) x = r
  pointwise

theorem payacc (p q : FVec Ideal S1x1024 .f32) (y : S1x1024.Idx) : k0_pay1 (F := Ideal) p q y = (q y : EReal) + p y := by
  pointwise [k0_pay1]

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem lt : ∀ t : Fin cfg0.N, t.val < 2 := (by decide +kernel : ∀ t : Fin grid0.N, t.val < 2)

theorem read0 (t : Fin cfg0.N) (s : Fin 512) (j : Fin 2048) (x : FVec Ideal S1024x2048 .f32) (ht : t.val < 2) :
    (win0_0.blk t).view.read (Elt Ideal) x (ix2 s j) = x (ix2 (n0 := 1024) (n1 := 2048) ⟨512 * t.val + s.val, by omega⟩ j) := by
  have hs := s.isLt
  have hj := j.isLt
  blk_ext [idx t]

theorem read1 (t : Fin cfg0.N) (k : Fin 1024) (j : Fin 2048) (x : FVec Ideal S1024x2048 .bf16) :
    (win0_1.blk t).view.read (Elt Ideal) x (ix2 k j) = x (ix2 (n0 := 1024) (n1 := 2048) k j) := by
  have hk := k.isLt
  have hj := j.isLt
  blk_ext [idx t]

theorem read2 (t : Fin cfg0.N) (s : Fin 512) (k : Fin 1024) (x : FVec Ideal S1024x1024 .f32) (ht : t.val < 2) :
    (win0_2.blk t).view.read (Elt Ideal) x (ix2 s k) = x (ix2 (n0 := 1024) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

/-- The arrays the call reads: the gain is only reshaped by the host. -/
abbrev duA : FVec Ideal S1024x2048 .f32 := m ((c : Thread nD τ).loc main_arg3)

abbrev wA : FVec Ideal S1024x2048 .bf16 := m ((c : Thread nD τ).loc main_arg2)

abbrev xA : FVec Ideal S1024x1024 .f32 := m ((c : Thread nD τ).loc main_arg0)

abbrev gA : FVec Ideal S1024 .f32 := m ((c : Thread nD τ).loc main_arg1)

def gRow (g : FVec Ideal S1024 .f32) : FVec Ideal S1x1024 .f32 := fun i => g (ix1 (n0 := 1024) (i 1))

theorem V_gain : V m c main_v0 = gRow (gA m c) := by
  unfold V
  entry_read
  funext i
  idx_vars i
  pointwise [gRow]

theorem iblk0 (t : Fin cfg0.N) : iblk m c 0 t = (win0_0.blk t).view.read (Elt Ideal) (duA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := rfl

theorem iblk3 (t : Fin cfg0.N) : iblk m c 3 t = (win0_3.blk t).view.read (Elt Ideal) (gRow (gA m c)) := by
  rw [← V_gain]
  rfl

/-- A point's normed rows' gradient. -/
theorem at2 (t : Fin cfg0.N) (ht : t.val < 2) (s : Fin 512) (k : Fin 1024) :
    k0_pay2 (F := Ideal) (iblk m c 0 t) (iblk m c 1 t) (ix2 s k) = dh (duA m c) (wA m c) ⟨512 * t.val + s.val, by omega⟩ k := by
  rw [pay2, iblk0, iblk1]
  exact Finset.sum_congr rfl fun j _ => congrArg₂ (fun p q : EReal => p * q) (read0 t s j _ ht) (read1 t k j _)

theorem atRow (t : Fin cfg0.N) (ht : t.val < 2) (s : Fin 512) :
    (fun k : Fin 1024 => ((iblk m c 2 t : FVec Ideal S512x1024 .f32) (ix2 s k) : EReal)) = row (xA m c) ⟨512 * t.val + s.val, by omega⟩ := by
  rw [iblk2]
  exact funext fun k => read2 t s k _ ht

/-- A point's rows of the memory's gradient. -/
theorem at5 (t : Fin cfg0.N) (ht : t.val < 2) (s : Fin 512) (k : Fin 1024) :
    k0_pay5 (F := Ideal) (iblk m c 0 t) (iblk m c 1 t) (iblk m c 2 t) (iblk m c 3 t) (ix2 s k)
      = dx (duA m c) (wA m c) (xA m c) (gA m c) (ix2 (n0 := 1024) (n1 := 1024) ⟨512 * t.val + s.val, by omega⟩ k) := by
  rw [pay5, atRow m c t ht s]
  simp only [at2 m c t ht s]
  have e3 : ∀ j : Fin 1024, ((iblk m c 3 t : FVec Ideal S1x1024 .f32) (ix2 0 j) : EReal) = gA m c (ix1 (n0 := 1024) j) := fun j => by
    rw [iblk3]
    exact read3 t 0 j _
  simp only [e3]
  rfl

/-- A point's part of the gain's gradient. -/
theorem at6 (t : Fin cfg0.N) (ht : t.val < 2) (u : Fin 1) (k : Fin 1024) :
    k0_pay6 (F := Ideal) (iblk m c 0 t) (iblk m c 1 t) (iblk m c 2 t) (ix2 u k)
      = ∑ s : Fin 512, (fun r : Fin 1024 => dh (duA m c) (wA m c) r k * (row (xA m c) r k * rstd (row (xA m c) r)))
        ⟨512 * t.val + s.val, by omega⟩ := by
  rw [pay6]
  refine Finset.sum_congr rfl fun s _ => ?_
  rw [at2 m c t ht s k, pay4, atRow m c t ht s, congrFun (atRow m c t ht s) k]

/-- What the points up to one leave of the gain's gradient. -/
theorem acc : ∀ (n : ℕ) (h : n < cfg0.N) (u : Fin 1) (k : Fin 1024), ((outsAt0 m c n h).2 : FVec Ideal S1x1024 .f32) (ix2 u k)
      = ∑ r ∈ Finset.range (512 * n + 512), onNat (fun r : Fin 1024 => dh (duA m c) (wA m c) r k * (row (xA m c) r k * rstd (row (xA m c) r))) r
  | 0, h, u, k => by
    have e := outsAt0_A m c ⟨0, h⟩ rfl (by show ¬0 % 2 = 1; omega)
    have ht := lt ⟨0, h⟩
    rw [sum_tile _ _ (by omega), show outsAt0 m c 0 h = _ from e]
    frame_out
    refine (at6 m c ⟨0, h⟩ ht u k).trans ?_
    simp
  | n + 1, h, u, k => by
    have ht := lt ⟨n + 1, h⟩
    have ht' : n + 1 < 2 := ht
    have e := outsAt0_B m c ⟨n + 1, h⟩ (by show ¬(n + 1) % 2 = 0; omega) (by show (n + 1) % 2 = 1; omega)
    rw [sum_tile _ _ (by omega), show outsAt0 m c (n + 1) h = _ from e]
    frame_out
    rw [payacc]
    refine congrArg₂ (fun p q : EReal => p + q) ?_ (at6 m c ⟨n + 1, h⟩ ht u k)
    exact (acc n (by omega) u k)

/-- The kernel's results. -/
theorem arr4 : (dats m 0 c).arrAt 4 cfg0.N = dx (duA m c) (wA m c) (xA m c) (gA m c) := by
  refine (dats m 0 c).arrAt_eq_of_covers 4 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_4.blk t).view.emb (ix2 s l) = ix2 (n0 := 1024) (n1 := 1024) ⟨512 * t.val + s.val, by omega⟩ l := by
    blk_ext [idx t]
  refine Eq.trans ?_ (congrArg (dx _ _ _ _) e.symm)
  show ((dats m 0 c).after 4 t : FVec Ideal S512x1024 .f32) (ix2 s l) = _
  rw [after0_4]
  by_cases h : t.val % 2 = 0
  · rw [outsAt0_A m c t h (by omega)]
    frame_out
    exact at5 m c t hN s l
  · rw [outsAt0_B m c t h (by omega)]
    frame_out
    exact at5 m c t hN s l

theorem arr5 : (dats m 0 c).arrAt 5 cfg0.N = dg (duA m c) (wA m c) (xA m c) := by
  refine (dats m 0 c).arrAt_eq_of_covers 5 _ (by decide +kernel) fun t hf y => ?_
  have hN := lt t
  have h := (flush0_5 t).mp hf
  obtain ⟨u, l, rfl⟩ : ∃ (u : Fin 1) (l : Fin 1024), y = ix2 u l := ⟨y 0, y 1, (ix2_eta y).symm⟩
  have hu := u.isLt
  have hl := l.isLt
  have e : (win0_5.blk t).view.emb (ix2 u l) = ix2 (n0 := 1) (n1 := 1024) u l := by
    blk_ext [idx t]
  refine Eq.trans ?_ (congrArg (dg _ _ _) e.symm)
  show ((dats m 0 c).after 5 t : FVec Ideal S1x1024 .f32) (ix2 u l) = _
  rw [after0_5, acc m c t.val t.isLt u l, show 512 * t.val + 512 = 1024 by omega]
  exact sum_onNat _

end Cert.DmemIdeal.Rms

namespace Cert.DmemRefIdeal.Rms

open Cert.DmemRefIdeal Cert.DmemRefIdeal.Gen Cert.DmemRefIdeal.Read Idealize.ShloMosaic Idealize.SL.Sem
open Cert.Rms Cert.DmemIdeal.Rms
open scoped BigOperators

variable (x0 : (⟨S1024x1024, .f32⟩ : BufTy).Contents (Elt Ideal)) (x1 : (⟨S1024, .f32⟩ : BufTy).Contents (Elt Ideal))
  (x2 : (⟨S1024x2048, .bf16⟩ : BufTy).Contents (Elt Ideal)) (x3 : (⟨S1024x2048, .f32⟩ : BufTy).Contents (Elt Ideal))

/-- The gradient of the normed row, times the gain. -/
abbrev e (t : Fin 1024) : Fin 1024 → EReal := fun k => dh x3 x2 t k * x1 (ix1 (n0 := 1024) k)

theorem v6 (t : Fin 1024) (u : Fin 1) : val_main_v6 (F := Ideal) x0 (ix2 (n0 := 1024) (n1 := 1) t u) = ms (row x0 t) := by
  rw [val_main_v6_apply, val_main_v4_apply, val_main_v2_apply, val_main_v1_apply, val_main_v3_apply, val_main_v5_apply]
  refine congrArg₂ (fun p q : EReal => Ideal.div p len + q) ?_ rfl
  refine (congrArg₂ (fun p q : EReal => p + q) Ideal.ofBits_zero_f32 (Finset.sum_congr rfl fun k _ => ?_)).trans (zero_add _)
  rw [val_main_v0_apply]
  have h : idx_main_v1 (idx_main_v2 (ix2 (n0 := 1024) (n1 := 1) t u)) k = ix2 (n0 := 1024) (n1 := 1024) t k :=
    funext fun a => Fin.ext (by match a with | ⟨0, _⟩ => rfl | ⟨1, _⟩ => rfl)
  rw [h]
  rfl

theorem v7 (t : Fin 1024) (u : Fin 1) : val_main_v7 (F := Ideal) x0 (ix2 (n0 := 1024) (n1 := 1) t u) = rstd (row x0 t) := by
  rw [val_main_v7_apply, v6]
  rfl

theorem v10 (t : Fin 1024) (u : Fin 1) : val_main_v10 (F := Ideal) x0 (ix2 (n0 := 1024) (n1 := 1) t u)
    = minusHalf * Ideal.div (rstd (row x0 t)) (ms (row x0 t)) := by
  rw [val_main_v10_apply, val_main_v8_apply, v6, v7, val_main_v9_apply]
  rfl

theorem v12 (t : Fin 1024) (k : Fin 1024) : val_main_v12 (F := Ideal) x0 (ix2 (n0 := 1024) (n1 := 1024) t k)
    = row x0 t k * rstd (row x0 t) := by
  rw [val_main_v12_apply, val_main_v11_apply]
  have h : idx_main_v11 (ix2 (n0 := 1024) (n1 := 1024) t k) = ix2 (n0 := 1024) (n1 := 1) t 0 :=
    funext fun a => Fin.ext (by match a with | ⟨0, _⟩ => rfl | ⟨1, _⟩ => rfl)
  rw [h, v7]
  rfl

theorem v18 (t : Fin 1024) (k : Fin 1024) : val_main_v18 (F := Ideal) x2 x3 (ix2 (n0 := 1024) (n1 := 1024) t k) = dh x3 x2 t k := by
  rw [val_main_v18_apply]
  refine Finset.sum_congr rfl fun j _ => congrArg₂ (fun p q : EReal => p * q) ?_ ?_
  · exact congrArg x3 (funext fun a => Fin.ext (by match a with | ⟨0, _⟩ => rfl | ⟨1, _⟩ => rfl))
  · exact congrArg x2 (funext fun a => Fin.ext (by match a with | ⟨0, _⟩ => rfl | ⟨1, _⟩ => rfl))

theorem v23 (t : Fin 1024) (k : Fin 1024) : val_main_v23 (F := Ideal) x1 x2 x3 (ix2 (n0 := 1024) (n1 := 1024) t k) = e x1 x2 x3 t k := by
  rw [val_main_v23_apply, v18, val_main_v22_apply, val_main_v13_apply]
  exact congrArg (fun q : EReal => dh x3 x2 t k * q) (congrArg x1 (funext fun a => Fin.ext (by match a with | ⟨0, _⟩ => rfl)))

/-- The gradient of the mean of squares. -/
theorem v34 (t : Fin 1024) (k : Fin 1024) : val_main_v34 (F := Ideal) x0 x1 x2 x3 (ix2 (n0 := 1024) (n1 := 1024) t k)
    = dms (e x1 x2 x3 t) (row x0 t) := by
  rw [val_main_v34_apply, val_main_v33_apply]
  refine (congrArg₂ (fun p q : EReal => p + q) Ideal.ofBits_zero_f32 (Fin.sum_univ_one _)).trans ((zero_add _).trans ?_)
  rw [val_main_v32_apply, val_main_v30_apply, val_main_v31_apply, val_main_v27_apply, val_main_v26_apply]
  have h : idx_main_v33 (idx_main_v34 (ix2 (n0 := 1024) (n1 := 1024) t k)) 0 = ix2 (n0 := 1024) (n1 := 1) t 0 :=
    funext fun a => Fin.ext (by match a with | ⟨0, _⟩ => rfl | ⟨1, _⟩ => rfl)
  rw [h, v10]
  refine congrArg (fun p : EReal => Ideal.div (p * _) len) ?_
  refine (congrArg₂ (fun p q : EReal => p + q) Ideal.ofBits_zero_f32 (Finset.sum_congr rfl fun j _ => ?_)).trans (zero_add _)
  have h2 : idx_main_v26 (idx_main_v27 (ix2 (n0 := 1024) (n1 := 1) t 0)) j = ix2 (n0 := 1024) (n1 := 1024) t j :=
    funext fun a => Fin.ext (by match a with | ⟨0, _⟩ => simp | ⟨1, _⟩ => rfl)
  rw [h2, val_main_v25_apply, v23]
  rfl

theorem v38 (he : ∀ t k, IsNum (e x1 x2 x3 t k)) (hx : ∀ t k, IsNum (row x0 t k)) (i : S1024x1024.Idx) :
    val_main_v38 (F := Ideal) x0 x1 x2 x3 i = dx x3 x2 x0 x1 i := by
  obtain ⟨t, k, rfl⟩ : ∃ (t : Fin 1024) (k : Fin 1024), i = ix2 t k := ⟨i 0, i 1, (ix2_eta i).symm⟩
  rw [val_main_v38_apply, val_main_v37_apply, val_main_v36_apply, val_main_v35_apply, val_main_v29_apply, v23, v34, val_main_v28_apply]
  have h : idx_main_v28 (ix2 (n0 := 1024) (n1 := 1024) t k) = ix2 (n0 := 1024) (n1 := 1) t 0 :=
    funext fun a => Fin.ext (by match a with | ⟨0, _⟩ => rfl | ⟨1, _⟩ => rfl)
  rw [h, v7]
  exact dxRow_eq (e x1 x2 x3 t) (row x0 t) (he t) (hx t) k

theorem v39 (i : S1x1024.Idx) : val_main_v39 (F := Ideal) x0 x2 x3 i = dg x3 x2 x0 i := by
  obtain ⟨u, k, rfl⟩ : ∃ (u : Fin 1) (k : Fin 1024), i = ix2 u k := ⟨i 0, i 1, (ix2_eta i).symm⟩
  rw [val_main_v39_apply, val_main_v24_apply]
  refine (congrArg₂ (fun p q : EReal => p + q) Ideal.ofBits_zero_f32 (Fin.sum_univ_one _)).trans ((zero_add _).trans ?_)
  rw [val_main_v21_apply, val_main_v20_apply]
  refine (congrArg₂ (fun p q : EReal => p + q) Ideal.ofBits_zero_f32 (Finset.sum_congr rfl fun t _ => ?_)).trans (zero_add _)
  have h : idx_main_v20 (idx_main_v21 (idx_main_v24 (idx_main_v39 (ix2 (n0 := 1) (n1 := 1024) u k)) 0)) t = ix2 (n0 := 1024) (n1 := 1024) t k := by
    have := u.isLt
    have := k.isLt
    refine funext fun a => Fin.ext ?_
    match a with
    | ⟨0, _⟩ => rfl
    | ⟨1, _⟩ => simp [idx_main_v20, idx_main_v21, idx_main_v24, idx_main_v39]; try omega
  rw [h, val_main_v19_apply, v12, v18]
  exact mul_comm _ _

end Cert.DmemRefIdeal.Rms

namespace Cert.DmemIdeal.Rms

open Cert.DmemIdeal Cert.DmemIdeal.Gen Idealize.ShloMosaic Idealize.ShloMosaic.TcCoe Idealize.SL.Sem
open Cert.Rms

/-- The side conditions the precondition states. -/
theorem preFacts : Cert.Pre_finite_memory.Facts where
  bcast_S_S1024x1024 := by decide
  bcast_S_S1024 := by decide
  bitsLt_bf16_f32 := by decide
  bcast_S_S1024x2048 := by decide

theorem frame_p : Cert.quiescent_Dmem (hDmem := Cert.Dmem.Gen.facts) := fun m ρ _ => Cert.Dmem.Gen.frame m ρ

theorem frame_pi : Cert.quiescent_DmemIdeal (hDmemIdeal := Cert.DmemIdeal.Gen.facts) := fun m ρ _ => Cert.DmemIdeal.Gen.frame m ρ

theorem frame_pi_pre : Cert.quiescent_DmemIdeal_pre_finite_memory (hDmemIdeal := Cert.DmemIdeal.Gen.facts) (hPre_finite_memory := preFacts) :=
  fun m ρ _ => Cert.DmemIdeal.Gen.frame m ρ

/-- The reference's frame: host operations only, no semaphore. -/
theorem frame_ri : Cert.quiescent_DmemRefIdeal (hDmemRefIdeal := Cert.DmemRefIdeal.Gen.facts) := fun m ρ _ =>
  (θ_run (Cert.DmemRefIdeal.defs (F := Ideal)) _ _).mono (fun r h => ⟨fun c => (h c).2.2, Idealize.ShloMosaic.sem_eq_zero_of_no_sems (by decide) r.2⟩)
    (Cert.DmemRefIdeal.Value.run (F := Ideal) m ρ)

theorem frame_ri_pre : Cert.quiescent_DmemRefIdeal_pre_finite_memory (hDmemRefIdeal := Cert.DmemRefIdeal.Gen.facts) (hPre_finite_memory := preFacts) :=
  fun m ρ _ => frame_ri m ρ trivial

variable (m : (ℓ : Loc nD τ sig) → Buf (Elt Ideal) ℓ) (c : Dev nD)

/-- Under the precondition the rows hold real numbers. -/
theorem nums (hpre : Cert.Pre_DmemIdeal_finite_memory (hPre_finite_memory := preFacts) m) :
    (∀ t k, IsNum (Cert.DmemRefIdeal.Rms.e (m ((c : Thread nD τ).loc main_arg1)) (m ((c : Thread nD τ).loc main_arg2)) (m ((c : Thread nD τ).loc main_arg3)) t k))
    ∧ ∀ t k, IsNum (row (xA m c) t k) := by
  obtain ⟨h0, h1, h2, h3⟩ := hpre c
  have n1 : ∀ i, IsNum (m ((c : Thread nD τ).loc main_arg1) i) := fun i => IsNum.of_bit (congrFun h1 i)
  have n2 : ∀ i, IsNum (m ((c : Thread nD τ).loc main_arg2) i) := fun i => IsNum.of_bit (congrFun h2 i)
  have n3 : ∀ i, IsNum (m ((c : Thread nD τ).loc main_arg3) i) := fun i => IsNum.of_bit (congrFun h3 i)
  exact ⟨fun t k => (IsNum.sum fun j => (n3 _).mul (n2 _)).mul (n1 _), fun t k => IsNum.of_bit (congrFun h0 _)⟩

theorem algebraic : Cert.algebraic_DmemIdeal_DmemRefIdeal_pre_finite_memory (hDmemIdeal := Cert.DmemIdeal.Gen.facts)
    (hDmemRefIdeal := Cert.DmemRefIdeal.Gen.facts) (hPre_finite_memory := preFacts) := by
  intro m ρ m' ρ' hpre hagree
  refine ⟨_, _, Cert.DmemIdeal.Value.run_blocks m ρ, ?_⟩
  refine (θ_run (Cert.DmemRefIdeal.defs (F := Ideal)) _ _).mono (fun r h c => ?_) (Cert.DmemRefIdeal.Value.run (F := Ideal) m' ρ')
  obtain ⟨e0, e1, e2, e3⟩ := hagree c
  obtain ⟨h0, h1, k⟩ := h c
  obtain ⟨he, hx⟩ := nums m c hpre
  refine ⟨h0.trans ?_, h1.trans ?_, k⟩
  · rw [Cert.DmemRefIdeal.Read.val_main_v38_eq, e0, e1, e2, e3, arr4 m c]
    exact funext fun i => Cert.DmemRefIdeal.Rms.v38 _ _ _ _ he hx i
  · refine (Cert.DmemRefIdeal.Read.val_main_v39_eq _ _ _).trans ?_
    rw [e0, e2, e3, arr5 m c]
    exact funext fun i => Cert.DmemRefIdeal.Rms.v39 _ _ _ i

end Cert.DmemIdeal.Rms

end
-- ==== Proof.Rms.Dh1.lean ====
/-
  The gradient of the layer's input behind its norm, tile by tile of tokens: the kernel's side.
-/
module

public import proofs.«01_k».proof.Defs
public import proofs.«01_k».proof.Proof.Gen.Dh1.Frame
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Rms.Row
public import Idealize.ShloMosaic.Lib.Pipeline.ValueKit
public import Idealize.ShloMosaic.Lib.MatmulPlain
public import Idealize.ShloMosaic.Lib.KernelVsHost
public import Idealize.ShloMosaic.Lib.Claim

@[expose] public section

set_option maxRecDepth 16384

noncomputable section

namespace Cert.Dh1Ideal.Rms

open Cert.Dh1Ideal Cert.Dh1Ideal.Gen Idealize.ShloMosaic Idealize.ShloMosaic.TcCoe Idealize.SL.Sem
open Cert.Rms
open scoped BigOperators

/-- The gradient of the normed row: six pieces of 512 columns and the gates' eight. -/
def dh (P : Fin 6 → FVec Ideal S8192x512 .bf16) (G : FVec Ideal S8192x128 .bf16) (w : FVec Ideal S1024x3080 .bf16) (t : Fin 8192) (k : Fin 1024) : EReal :=
  (∑ p : Fin 6, ∑ j : Fin 512, (P p (ix2 (n0 := 8192) (n1 := 512) t j) : EReal) * w (ix2 (n0 := 1024) (n1 := 3080) k ⟨512 * p.val + j.val, by omega⟩))
    + ∑ j : Fin 8, (G (ix2 (n0 := 8192) (n1 := 128) t ⟨j.val, by omega⟩) : EReal) * w (ix2 (n0 := 1024) (n1 := 3080) k ⟨3072 + j.val, by omega⟩)

/-- A row of the layer's input. -/
def row (x : FVec Ideal S8192x1024 .f32) (t : Fin 8192) (k : Fin 1024) : EReal := x (ix2 (n0 := 8192) (n1 := 1024) t k)

/-- The gradient of the layer's input. -/
def dx (P : Fin 6 → FVec Ideal S8192x512 .bf16) (G : FVec Ideal S8192x128 .bf16) (w : FVec Ideal S1024x3080 .bf16) (x : FVec Ideal S8192x1024 .f32) (g : FVec Ideal S1024 .f32)
    (d : FVec Ideal S8192x1024 .f32) : FVec Ideal S8192x1024 .f32 := fun i =>
  (d i : EReal) + dxRow (fun k => dh P G w (i 0) k * g (ix1 (n0 := 1024) k)) (row x (i 0)) (i 1)

/-- The gradient of the norm's gain. -/
def dg (P : Fin 6 → FVec Ideal S8192x512 .bf16) (G : FVec Ideal S8192x128 .bf16) (w : FVec Ideal S1024x3080 .bf16) (x : FVec Ideal S8192x1024 .f32) : FVec Ideal S1x1024 .f32 := fun i =>
  ∑ t : Fin 8192, dh P G w t (i 1) * (row x t (i 1) * rstd (row x t))

/-! A tile's blocks, entry by entry. -/

theorem mm (a : FVec Ideal S512x512 .bf16) (b : FVec Ideal S1024x512 .bf16) (s : Fin 512) (k : Fin 1024) :
    matmul dot_S512x512_S1024x512_S512x1024_1_1_0_0_n_n none a b (constant (F := Ideal) S512x1024 .f32 0x00000000#32) (ix2 s k)
      = ∑ j : Fin 512, (a (ix2 s j) : EReal) * b (ix2 k j) :=
  (Ideal.matmul_transposedRhs_apply _ _ _ _ _ _).trans ((congrArg₂ (· + ·) Ideal.ofBits_zero_f32 rfl).trans (zero_add _))

theorem pay2 (a0 a1 a2 a3 a4 : FVec Ideal S512x512 .bf16) (b0 b1 b2 b3 b4 : FVec Ideal S1024x512 .bf16) (s : Fin 512) (k : Fin 1024) :
    k0_pay2 (F := Ideal) a0 b0 a1 b1 a2 b2 a3 b3 a4 b4 (ix2 s k)
      = ((((∑ j : Fin 512, (a0 (ix2 s j) : EReal) * b0 (ix2 k j)) + ∑ j : Fin 512, (a1 (ix2 s j) : EReal) * b1 (ix2 k j)) + ∑ j : Fin 512, (a2 (ix2 s j) : EReal) * b2 (ix2 k j)) + ∑ j : Fin 512, (a3 (ix2 s j) : EReal) * b3 (ix2 k j)) + ∑ j : Fin 512, (a4 (ix2 s j) : EReal) * b4 (ix2 k j) := by
  rw [← mm a0, ← mm a1, ← mm a2, ← mm a3, ← mm a4]
  have e : ∀ b : FVec Ideal S1024x512 .bf16, shapeCast S1024x512 b shapeCasts_S1024x512_S1024x512 = b := fun b => by
    funext i
    idx_vars i
    pointwise
  unfold k0_pay2
  simp only [e]
  rfl

theorem pay3 (a : FVec Ideal S512x512 .bf16) (b : FVec Ideal S1024x512 .bf16) (s : Fin 512) (k : Fin 1024) :
    k0_pay3 (F := Ideal) a b (ix2 s k) = ∑ j : Fin 512, (a (ix2 s j) : EReal) * b (ix2 k j) := by
  rw [← mm a]
  have e : shapeCast S1024x512 b shapeCasts_S1024x512_S1024x512 = b := by
    funext i
    idx_vars i
    pointwise
  unfold k0_pay3
  rw [e]

theorem pay4 (u v : FVec Ideal S512x1024 .f32) (a : FVec Ideal S512x128 .bf16) (b : FVec Ideal S1024x128 .bf16) (s : Fin 512) (k : Fin 1024) :
    k0_pay4 (F := Ideal) u v a b (ix2 s k) = ((u (ix2 s k) : EReal) + v (ix2 s k)) + ∑ j : Fin 128, (a (ix2 s j) : EReal) * b (ix2 k j) := by
  have e : shapeCast S1024x128 b shapeCasts_S1024x128_S1024x128 = b := by
    funext i
    idx_vars i
    pointwise
  unfold k0_pay4
  rw [e]
  refine congrArg (fun q : EReal => ((u (ix2 s k) : EReal) + v (ix2 s k)) + q) ?_
  exact (Ideal.matmul_transposedRhs_apply _ _ _ _ _ _).trans ((congrArg₂ (· + ·) Ideal.ofBits_zero_f32 rfl).trans (zero_add _))

theorem pay5 (x : FVec Ideal S512x1024 .f32) (s : Fin 512) (u : Fin 1) :
    k0_pay5 (F := Ideal) x (ix2 s u) = rstd fun k => x (ix2 s k) := by
  unfold rstd ms len eps
  pointwise [k0_pay5]

theorem pay6 (x : FVec Ideal S512x1024 .f32) (s : Fin 512) (k : Fin 1024) :
    k0_pay6 (F := Ideal) x (ix2 s k) = (x (ix2 s k) : EReal) * rstd fun k => x (ix2 s k) := by
  rw [← pay5 x s 0]
  pointwise [k0_pay6]

theorem pay7 (u v : FVec Ideal S512x1024 .f32) (a : FVec Ideal S512x128 .bf16) (b : FVec Ideal S1024x128 .bf16) (x : FVec Ideal S512x1024 .f32) (z : Fin 1) (k : Fin 1024) :
    k0_pay7 (F := Ideal) u v a b x (ix2 z k)
      = ∑ s : Fin 512, (k0_pay4 (F := Ideal) u v a b (ix2 s k) : EReal) * k0_pay6 (F := Ideal) x (ix2 s k) := by
  unfold k0_pay7
  generalize k0_pay4 (F := Ideal) u v a b = p
  generalize k0_pay6 (F := Ideal) x = q
  pointwise

theorem pay8 (u v : FVec Ideal S512x1024 .f32) (a : FVec Ideal S512x128 .bf16) (b : FVec Ideal S1024x128 .bf16) (x : FVec Ideal S512x1024 .f32)
    (g : FVec Ideal S1x1024 .f32) (d : FVec Ideal S512x1024 .f32) (s : Fin 512) (k : Fin 1024) :
    k0_pay8 (F := Ideal) u v a b x g d (ix2 s k)
      = (d (ix2 s k) : EReal) + dxRow (fun k => (k0_pay4 (F := Ideal) u v a b (ix2 s k) : EReal) * g (ix2 0 k)) (fun k => x (ix2 s k)) k := by
  unfold dxRow
  simp only [← pay6 x s]
  rw [← pay5 x s 0]
  unfold k0_pay8 len
  generalize k0_pay4 (F := Ideal) u v a b = p
  generalize k0_pay6 (F := Ideal) x = q
  generalize k0_pay5 (F := Ideal) x = r
  pointwise

theorem pay1 (p q : FVec Ideal S1x1024 .f32) (y : S1x1024.Idx) : k0_pay1 (F := Ideal) p q y = (q y : EReal) + p y := by
  idx_vars y
  pointwise [k0_pay1]

variable (m : (ℓ : Loc nD τ sig) → Buf (Elt Ideal) ℓ) (c : Dev nD)

/-- Every window's block index. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (k : Fin 512) (x : FVec Ideal S8192x512 .bf16) (ht : t.val < 16) :
    (win0_0.blk t).view.read (Elt Ideal) x (ix2 s k) = x (ix2 (n0 := 8192) (n1 := 512) ⟨512 * t.val + s.val, by omega⟩ k) := by
  have hs := s.isLt
  have hk := k.isLt
  blk_ext [idx t]

theorem read1 (t : Fin cfg0.N) (s : Fin 512) (k : Fin 512) (x : FVec Ideal S8192x512 .bf16) (ht : t.val < 16) :
    (win0_1.blk t).view.read (Elt Ideal) x (ix2 s k) = x (ix2 (n0 := 8192) (n1 := 512) ⟨512 * t.val + s.val, by omega⟩ k) := by
  have hs := s.isLt
  have hk := k.isLt
  blk_ext [idx t]

theorem read2 (t : Fin cfg0.N) (s : Fin 512) (k : Fin 512) (x : FVec Ideal S8192x512 .bf16) (ht : t.val < 16) :
    (win0_2.blk t).view.read (Elt Ideal) x (ix2 s k) = x (ix2 (n0 := 8192) (n1 := 512) ⟨512 * t.val + s.val, by omega⟩ k) := by
  have hs := s.isLt
  have hk := k.isLt
  blk_ext [idx t]

theorem read3 (t : Fin cfg0.N) (s : Fin 512) (k : Fin 512) (x : FVec Ideal S8192x512 .bf16) (ht : t.val < 16) :
    (win0_3.blk t).view.read (Elt Ideal) x (ix2 s k) = x (ix2 (n0 := 8192) (n1 := 512) ⟨512 * t.val + s.val, by omega⟩ k) := by
  have hs := s.isLt
  have hk := k.isLt
  blk_ext [idx t]

theorem read4 (t : Fin cfg0.N) (s : Fin 512) (k : Fin 512) (x : FVec Ideal S8192x512 .bf16) (ht : t.val < 16) :
    (win0_4.blk t).view.read (Elt Ideal) x (ix2 s k) = x (ix2 (n0 := 8192) (n1 := 512) ⟨512 * t.val + s.val, by omega⟩ k) := by
  have hs := s.isLt
  have hk := k.isLt
  blk_ext [idx t]

theorem read5 (t : Fin cfg0.N) (s : Fin 512) (k : Fin 512) (x : FVec Ideal S8192x512 .bf16) (ht : t.val < 16) :
    (win0_5.blk t).view.read (Elt Ideal) x (ix2 s k) = x (ix2 (n0 := 8192) (n1 := 512) ⟨512 * t.val + s.val, by omega⟩ k) := by
  have hs := s.isLt
  have hk := k.isLt
  blk_ext [idx t]

theorem read6 (t : Fin cfg0.N) (s : Fin 512) (k : Fin 128) (x : FVec Ideal S8192x128 .bf16) (ht : t.val < 16) :
    (win0_6.blk t).view.read (Elt Ideal) x (ix2 s k) = x (ix2 (n0 := 8192) (n1 := 128) ⟨512 * t.val + s.val, by omega⟩ k) := by
  have hs := s.isLt
  have hk := k.isLt
  blk_ext [idx t]

theorem read7 (t : Fin cfg0.N) (k : Fin 1024) (j : Fin 3200) (x : FVec Ideal S1024x3200 .bf16) :
    (win0_7.blk t).view.read (Elt Ideal) x (ix2 k j) = x (ix2 (n0 := 1024) (n1 := 3200) k j) := by
  have hk := k.isLt
  have hj := j.isLt
  blk_ext [idx t]

theorem read8 (t : Fin cfg0.N) (s : Fin 512) (k : Fin 1024) (x : FVec Ideal S8192x1024 .f32) (ht : t.val < 16) :
    (win0_8.blk t).view.read (Elt Ideal) x (ix2 s k) = x (ix2 (n0 := 8192) (n1 := 1024) ⟨512 * t.val + s.val, by omega⟩ k) := by
  have hs := s.isLt
  have hk := k.isLt
  blk_ext [idx t]

theorem read9 (t : Fin cfg0.N) (u : Fin 1) (k : Fin 1024) (x : FVec Ideal S1x1024 .f32) :
    (win0_9.blk t).view.read (Elt Ideal) x (ix2 u k) = x (ix2 (n0 := 1) (n1 := 1024) u k) := by
  have hu := u.isLt
  have hk := k.isLt
  blk_ext [idx t]

theorem read10 (t : Fin cfg0.N) (s : Fin 512) (k : Fin 1024) (x : FVec Ideal S8192x1024 .f32) (ht : t.val < 16) :
    (win0_10.blk t).view.read (Elt Ideal) x (ix2 s k) = x (ix2 (n0 := 8192) (n1 := 1024) ⟨512 * t.val + s.val, by omega⟩ k) := by
  have hs := s.isLt
  have hk := k.isLt
  blk_ext [idx t]

/-- The arrays the call reads: the weight is padded by the host, the gain only reshaped. -/
abbrev PA : Fin 6 → FVec Ideal S8192x512 .bf16 := ![m ((c : Thread nD τ).loc main_arg4), m ((c : Thread nD τ).loc main_arg5),
  m ((c : Thread nD τ).loc main_arg6), m ((c : Thread nD τ).loc main_arg7), m ((c : Thread nD τ).loc main_arg8), m ((c : Thread nD τ).loc main_arg9)]

abbrev GA : FVec Ideal S8192x128 .bf16 := m ((c : Thread nD τ).loc main_arg10)

abbrev wA : FVec Ideal S1024x3080 .bf16 := m ((c : Thread nD τ).loc main_arg2)

abbrev xA : FVec Ideal S8192x1024 .f32 := m ((c : Thread nD τ).loc main_arg0)

abbrev gA : FVec Ideal S1024 .f32 := m ((c : Thread nD τ).loc main_arg1)

abbrev dA : FVec Ideal S8192x1024 .f32 := m ((c : Thread nD τ).loc main_arg3)

def gRow (g : FVec Ideal S1024 .f32) : FVec Ideal S1x1024 .f32 := fun i => g (ix1 (n0 := 1024) (i 1))

/-- The weight with 120 columns of zeros behind it. -/
def wide (w : FVec Ideal S1024x3080 .bf16) : FVec Ideal S1024x3200 .bf16 := fun i =>
  if h : (i 1).val < 3080 then w (ix2 (n0 := 1024) (n1 := 3080) (i 0) ⟨(i 1).val, h⟩) else (0 : EReal)

theorem wide_eq {v : FVec Ideal S_ .bf16} (hv : ∀ i, (v i : EReal) = 0) (w : FVec Ideal S1024x3080 .bf16) :
    pad S1024x3200 ![0, 0] ![0, 120] ![0, 0] w v pads_S1024x3080_S1024x3200_000_01200 h_S_ = wide w := by
  funext i
  obtain ⟨k, j, rfl⟩ : ∃ (k : Fin 1024) (j : Fin 3200), i = ix2 k j := ⟨i 0, i 1, (ix2_eta i).symm⟩
  unfold wide
  by_cases h : j.val < 3080
  · rw [dif_pos (show ((ix2 k j : S1024x3200.Idx) 1).val < 3080 from h)]
    refine pad_apply_of_inside _ _ _ _ _ _ _ _ _ fun a => ?_
    match a with
    | ⟨0, _⟩ => show k.val = 0 + k.val * (0 + 1); omega
    | ⟨1, _⟩ => show j.val = 0 + j.val * (0 + 1); omega
  · rw [dif_neg (show ¬((ix2 k j : S1024x3200.Idx) 1).val < 3080 from h)]
    refine (pad_apply_of_not_inside _ _ _ _ _ _ _ _ (1 : Fin 2) fun hin => h ?_).trans (hv _)
    have e : (j.val - 0) / (0 + 1) < 3080 := hin.2.2
    omega

/-- The padding's value. -/
theorem fillZero (i : S_.Idx) : ((sitofp .bf16 (constantI S_ 32 0#32) : FVec Ideal S_ .bf16) i : EReal) = 0 := by
  show (((0#32 : BitVec 32).toInt : ℝ) : EReal) = 0
  simp

theorem V_wide : V m c main_v0 = wide (wA m c) := by
  refine Eq.trans ?_ (wide_eq fillZero (wA m c))
  unfold V
  simp only [hostOps0, hostOps0_1, hostOps0_2, List.flatten_cons, List.flatten_nil, List.append_nil, List.cons_append, List.nil_append, StableHlo.TRef.binary, StableHlo.TRef.unary,
    StableHlo.TRef.toBuf, StableHlo.TRef.ofBuf, cast_eq]
  after_results

theorem V_gain : V m c main_v1 = gRow (gA m c) := by
  unfold V
  simp only [hostOps0, hostOps0_1, hostOps0_2, List.flatten_cons, List.flatten_nil, List.append_nil, List.cons_append, List.nil_append, StableHlo.TRef.binary, StableHlo.TRef.unary,
    StableHlo.TRef.toBuf, StableHlo.TRef.ofBuf, cast_eq]
  after_results
  funext i
  idx_vars i
  pointwise [gRow]

theorem iblk0 (t : Fin cfg0.N) : iblk m c 0 t = (win0_0.blk t).view.read (Elt Ideal) (PA m c 0) := rfl

theorem iblk1 (t : Fin cfg0.N) : iblk m c 1 t = (win0_1.blk t).view.read (Elt Ideal) (PA m c 1) := rfl

theorem iblk2 (t : Fin cfg0.N) : iblk m c 2 t = (win0_2.blk t).view.read (Elt Ideal) (PA m c 2) := rfl

theorem iblk3 (t : Fin cfg0.N) : iblk m c 3 t = (win0_3.blk t).view.read (Elt Ideal) (PA m c 3) := rfl

theorem iblk4 (t : Fin cfg0.N) : iblk m c 4 t = (win0_4.blk t).view.read (Elt Ideal) (PA m c 4) := rfl

theorem iblk5 (t : Fin cfg0.N) : iblk m c 5 t = (win0_5.blk t).view.read (Elt Ideal) (PA m c 5) := rfl

theorem iblk6 (t : Fin cfg0.N) : iblk m c 6 t = (win0_6.blk t).view.read (Elt Ideal) (GA m c) := rfl

theorem iblk7 (t : Fin cfg0.N) : iblk m c 7 t = (win0_7.blk t).view.read (Elt Ideal) (wide (wA m c)) := by
  rw [← V_wide]
  rfl

theorem iblk8 (t : Fin cfg0.N) : iblk m c 8 t = (win0_8.blk t).view.read (Elt Ideal) (xA m c) := rfl

theorem iblk9 (t : Fin cfg0.N) : iblk m c 9 t = (win0_9.blk t).view.read (Elt Ideal) (gRow (gA m c)) := by
  rw [← V_gain]
  rfl

theorem iblk10 (t : Fin cfg0.N) : iblk m c 10 t = (win0_10.blk t).view.read (Elt Ideal) (dA m c) := rfl

/-- The columns of a point's weight that its products take. -/
def Cut (w : FVec Ideal S1024x3200 .bf16) (b0 b1 b2 b3 b4 b5 : FVec Ideal S1024x512 .bf16) (bg : FVec Ideal S1024x128 .bf16) : Prop :=
  (∀ (k : Fin 1024) (j : Fin 512), b0 (ix2 k j) = w (ix2 (n0 := 1024) (n1 := 3200) k ⟨0 + j.val, by omega⟩))
    ∧ (∀ (k : Fin 1024) (j : Fin 512), b1 (ix2 k j) = w (ix2 (n0 := 1024) (n1 := 3200) k ⟨512 + j.val, by omega⟩))
    ∧ (∀ (k : Fin 1024) (j : Fin 512), b2 (ix2 k j) = w (ix2 (n0 := 1024) (n1 := 3200) k ⟨1024 + j.val, by omega⟩))
    ∧ (∀ (k : Fin 1024) (j : Fin 512), b3 (ix2 k j) = w (ix2 (n0 := 1024) (n1 := 3200) k ⟨1536 + j.val, by omega⟩))
    ∧ (∀ (k : Fin 1024) (j : Fin 512), b4 (ix2 k j) = w (ix2 (n0 := 1024) (n1 := 3200) k ⟨2048 + j.val, by omega⟩))
    ∧ (∀ (k : Fin 1024) (j : Fin 512), b5 (ix2 k j) = w (ix2 (n0 := 1024) (n1 := 3200) k ⟨2560 + j.val, by omega⟩))
    ∧ ∀ (k : Fin 1024) (j : Fin 128), bg (ix2 k j) = w (ix2 (n0 := 1024) (n1 := 3200) k ⟨3072 + j.val, by omega⟩)

theorem cut (w : FVec Ideal S1024x3200 .bf16) : Cut w
    (View.ld (Val := Elt Ideal) (e' := .bf16) w (Rect.unit (s := S1024x3200) ![0, 0] S1024x512.size inb_S1024x3200_S1024x512_0_0))
    (View.ld (Val := Elt Ideal) (e' := .bf16) w (Rect.unit (s := S1024x3200) ![0, 512] S1024x512.size inb_S1024x3200_S1024x512_0_512))
    (View.ld (Val := Elt Ideal) (e' := .bf16) w (Rect.unit (s := S1024x3200) ![0, 1024] S1024x512.size inb_S1024x3200_S1024x512_0_1024))
    (View.ld (Val := Elt Ideal) (e' := .bf16) w (Rect.unit (s := S1024x3200) ![0, 1536] S1024x512.size inb_S1024x3200_S1024x512_0_1536))
    (View.ld (Val := Elt Ideal) (e' := .bf16) w (Rect.unit (s := S1024x3200) ![0, 2048] S1024x512.size inb_S1024x3200_S1024x512_0_2048))
    (View.ld (Val := Elt Ideal) (e' := .bf16) w (Rect.unit (s := S1024x3200) ![0, 2560] S1024x512.size inb_S1024x3200_S1024x512_0_2560))
    (View.ld (Val := Elt Ideal) (e' := .bf16) w (Rect.unit (s := S1024x3200) ![0, 3072] S1024x128.size inb_S1024x3200_S1024x128_0_3072)) := by
  refine ⟨fun k j => ?_, fun k j => ?_, fun k j => ?_, fun k j => ?_, fun k j => ?_, fun k j => ?_, fun k j => ?_⟩
  · exact congrArg w (funext fun a => Fin.ext (by
      match a with
      | ⟨0, _⟩ => show 0 + 1 * k.val = k.val; omega
      | ⟨1, _⟩ => show 0 + 1 * j.val = 0 + j.val; omega))
  · exact congrArg w (funext fun a => Fin.ext (by
      match a with
      | ⟨0, _⟩ => show 0 + 1 * k.val = k.val; omega
      | ⟨1, _⟩ => show 512 + 1 * j.val = 512 + j.val; omega))
  · exact congrArg w (funext fun a => Fin.ext (by
      match a with
      | ⟨0, _⟩ => show 0 + 1 * k.val = k.val; omega
      | ⟨1, _⟩ => show 1024 + 1 * j.val = 1024 + j.val; omega))
  · exact congrArg w (funext fun a => Fin.ext (by
      match a with
      | ⟨0, _⟩ => show 0 + 1 * k.val = k.val; omega
      | ⟨1, _⟩ => show 1536 + 1 * j.val = 1536 + j.val; omega))
  · exact congrArg w (funext fun a => Fin.ext (by
      match a with
      | ⟨0, _⟩ => show 0 + 1 * k.val = k.val; omega
      | ⟨1, _⟩ => show 2048 + 1 * j.val = 2048 + j.val; omega))
  · exact congrArg w (funext fun a => Fin.ext (by
      match a with
      | ⟨0, _⟩ => show 0 + 1 * k.val = k.val; omega
      | ⟨1, _⟩ => show 2560 + 1 * j.val = 2560 + j.val; omega))
  · exact congrArg w (funext fun a => Fin.ext (by
      match a with
      | ⟨0, _⟩ => show 0 + 1 * k.val = k.val; omega
      | ⟨1, _⟩ => show 3072 + 1 * j.val = 3072 + j.val; omega))

theorem wide_in (w : FVec Ideal S1024x3080 .bf16) (k : Fin 1024) (j : ℕ) (h : j < 3080) :
    (wide w (ix2 (n0 := 1024) (n1 := 3200) k ⟨j, by omega⟩) : EReal) = w (ix2 (n0 := 1024) (n1 := 3080) k ⟨j, h⟩) := by
  unfold wide
  exact dif_pos h

theorem wide_out (w : FVec Ideal S1024x3080 .bf16) (k : Fin 1024) (j : ℕ) (h : 3080 ≤ j) (h' : j < 3200) :
    (wide w (ix2 (n0 := 1024) (n1 := 3200) k ⟨j, h'⟩) : EReal) = 0 := by
  unfold wide
  exact dif_neg (show ¬j < 3080 by omega)

/-- A sum over the padded gates' columns meets only eight of them. -/
theorem gates (f g : Fin 128 → EReal) (h : ∀ j : Fin 128, 8 ≤ j.val → g j = 0) :
    ∑ j, f j * g j = ∑ j : Fin 8, f ⟨j.val, by omega⟩ * g ⟨j.val, by omega⟩ := by
  refine (Fin.sum_univ_add (a := 8) (b := 120) fun j => f j * g j).trans ?_
  have z : ∑ i : Fin 120, f (Fin.natAdd 8 i) * g (Fin.natAdd 8 i) = 0 :=
    Finset.sum_eq_zero fun i _ => by
      rw [h (Fin.natAdd 8 i) (by simp), mul_zero]
  exact (congrArg₂ (fun p q : EReal => p + q) rfl z).trans (add_zero _)

section Point
variable {b0 b1 b2 b3 b4 b5 : FVec Ideal S1024x512 .bf16} {bg : FVec Ideal S1024x128 .bf16}

/-- A point's rows of the normed input's gradient. -/
theorem at4 (t : Fin cfg0.N) (ht : t.val < 16) (hc : Cut (iblk m c 7 t) b0 b1 b2 b3 b4 b5 bg) (s : Fin 512) (k : Fin 1024) :
    k0_pay4 (F := Ideal) (k0_pay2 (F := Ideal) (iblk m c 0 t) b0 (iblk m c 1 t) b1 (iblk m c 2 t) b2 (iblk m c 3 t) b3 (iblk m c 4 t) b4)
      (k0_pay3 (F := Ideal) (iblk m c 5 t) b5) (iblk m c 6 t) bg (ix2 s k)
      = dh (PA m c) (GA m c) (wA m c) ⟨512 * t.val + s.val, by omega⟩ k := by
  obtain ⟨h0, h1, h2, h3, h4, h5, hg⟩ := hc
  rw [pay4, pay2, pay3]
  unfold dh
  rw [Fin.sum_univ_six]
  have hw : ∀ (k : Fin 1024) (j : ℕ) (h : j < 3200), ((iblk m c 7 t : FVec Ideal S1024x3200 .bf16) (ix2 (n0 := 1024) (n1 := 3200) k ⟨j, h⟩) : EReal)
      = wide (wA m c) (ix2 (n0 := 1024) (n1 := 3200) k ⟨j, h⟩) := fun k j h => by
    rw [iblk7]
    exact read7 t k ⟨j, h⟩ _
  have e0 : ∀ a : FVec Ideal S512x512 .bf16, a = (win0_0.blk t).view.read (Elt Ideal) (PA m c 0) → ∑ j : Fin 512, (a (ix2 s j) : EReal) * b0 (ix2 k j)
      = ∑ j : Fin 512, (PA m c 0 (ix2 (n0 := 8192) (n1 := 512) ⟨512 * t.val + s.val, by omega⟩ j) : EReal)
        * wA m c (ix2 (n0 := 1024) (n1 := 3080) k ⟨512 * (0 : Fin 6).val + j.val, by have : (0 : Fin 6).val = 0 := rfl; omega⟩) := by
    intro a ha
    refine Finset.sum_congr rfl fun j _ => ?_
    rw [ha, h0, hw, wide_in _ _ _ (by omega)]
    exact congrArg₂ (fun p q : EReal => p * q) (read0 t s j _ ht) rfl
  have e1 : ∀ a : FVec Ideal S512x512 .bf16, a = (win0_1.blk t).view.read (Elt Ideal) (PA m c 1) → ∑ j : Fin 512, (a (ix2 s j) : EReal) * b1 (ix2 k j)
      = ∑ j : Fin 512, (PA m c 1 (ix2 (n0 := 8192) (n1 := 512) ⟨512 * t.val + s.val, by omega⟩ j) : EReal)
        * wA m c (ix2 (n0 := 1024) (n1 := 3080) k ⟨512 * (1 : Fin 6).val + j.val, by have : (1 : Fin 6).val = 1 := rfl; omega⟩) := by
    intro a ha
    refine Finset.sum_congr rfl fun j _ => ?_
    rw [ha, h1, hw, wide_in _ _ _ (by omega)]
    exact congrArg₂ (fun p q : EReal => p * q) (read1 t s j _ ht) rfl
  have e2 : ∀ a : FVec Ideal S512x512 .bf16, a = (win0_2.blk t).view.read (Elt Ideal) (PA m c 2) → ∑ j : Fin 512, (a (ix2 s j) : EReal) * b2 (ix2 k j)
      = ∑ j : Fin 512, (PA m c 2 (ix2 (n0 := 8192) (n1 := 512) ⟨512 * t.val + s.val, by omega⟩ j) : EReal)
        * wA m c (ix2 (n0 := 1024) (n1 := 3080) k ⟨512 * (2 : Fin 6).val + j.val, by have : (2 : Fin 6).val = 2 := rfl; omega⟩) := by
    intro a ha
    refine Finset.sum_congr rfl fun j _ => ?_
    rw [ha, h2, hw, wide_in _ _ _ (by omega)]
    exact congrArg₂ (fun p q : EReal => p * q) (read2 t s j _ ht) rfl
  have e3 : ∀ a : FVec Ideal S512x512 .bf16, a = (win0_3.blk t).view.read (Elt Ideal) (PA m c 3) → ∑ j : Fin 512, (a (ix2 s j) : EReal) * b3 (ix2 k j)
      = ∑ j : Fin 512, (PA m c 3 (ix2 (n0 := 8192) (n1 := 512) ⟨512 * t.val + s.val, by omega⟩ j) : EReal)
        * wA m c (ix2 (n0 := 1024) (n1 := 3080) k ⟨512 * (3 : Fin 6).val + j.val, by have : (3 : Fin 6).val = 3 := rfl; omega⟩) := by
    intro a ha
    refine Finset.sum_congr rfl fun j _ => ?_
    rw [ha, h3, hw, wide_in _ _ _ (by omega)]
    exact congrArg₂ (fun p q : EReal => p * q) (read3 t s j _ ht) rfl
  have e4 : ∀ a : FVec Ideal S512x512 .bf16, a = (win0_4.blk t).view.read (Elt Ideal) (PA m c 4) → ∑ j : Fin 512, (a (ix2 s j) : EReal) * b4 (ix2 k j)
      = ∑ j : Fin 512, (PA m c 4 (ix2 (n0 := 8192) (n1 := 512) ⟨512 * t.val + s.val, by omega⟩ j) : EReal)
        * wA m c (ix2 (n0 := 1024) (n1 := 3080) k ⟨512 * (4 : Fin 6).val + j.val, by have : (4 : Fin 6).val = 4 := rfl; omega⟩) := by
    intro a ha
    refine Finset.sum_congr rfl fun j _ => ?_
    rw [ha, h4, hw, wide_in _ _ _ (by omega)]
    exact congrArg₂ (fun p q : EReal => p * q) (read4 t s j _ ht) rfl
  have e5 : ∀ a : FVec Ideal S512x512 .bf16, a = (win0_5.blk t).view.read (Elt Ideal) (PA m c 5) → ∑ j : Fin 512, (a (ix2 s j) : EReal) * b5 (ix2 k j)
      = ∑ j : Fin 512, (PA m c 5 (ix2 (n0 := 8192) (n1 := 512) ⟨512 * t.val + s.val, by omega⟩ j) : EReal)
        * wA m c (ix2 (n0 := 1024) (n1 := 3080) k ⟨512 * (5 : Fin 6).val + j.val, by have : (5 : Fin 6).val = 5 := rfl; omega⟩) := by
    intro a ha
    refine Finset.sum_congr rfl fun j _ => ?_
    rw [ha, h5, hw, wide_in _ _ _ (by omega)]
    exact congrArg₂ (fun p q : EReal => p * q) (read5 t s j _ ht) rfl
  have eg : ∀ a : FVec Ideal S512x128 .bf16, a = (win0_6.blk t).view.read (Elt Ideal) (GA m c) → ∑ j : Fin 128, (a (ix2 s j) : EReal) * bg (ix2 k j)
      = ∑ j : Fin 8, (GA m c (ix2 (n0 := 8192) (n1 := 128) ⟨512 * t.val + s.val, by omega⟩ ⟨j.val, by omega⟩) : EReal)
        * wA m c (ix2 (n0 := 1024) (n1 := 3080) k ⟨3072 + j.val, by omega⟩) := by
    intro a ha
    refine (gates _ (fun j => bg (ix2 k j)) fun j hj => ?_).trans (Finset.sum_congr rfl fun j _ => ?_)
    · rw [hg, hw, wide_out _ _ _ (by omega)]
    · rw [ha, hg, hw, wide_in _ _ _ (by show 3072 + j.val < 3080; omega)]
      exact congrArg₂ (fun p q : EReal => p * q) (read6 t s ⟨j.val, by omega⟩ _ ht) rfl
  rw [e0 _ (iblk0 m c t), e1 _ (iblk1 m c t), e2 _ (iblk2 m c t), e3 _ (iblk3 m c t), e4 _ (iblk4 m c t), e5 _ (iblk5 m c t), eg _ (iblk6 m c t)]

theorem atRow (t : Fin cfg0.N) (ht : t.val < 16) (s : Fin 512) :
    (fun k : Fin 1024 => ((iblk m c 8 t : FVec Ideal S512x1024 .f32) (ix2 s k) : EReal)) = row (xA m c) ⟨512 * t.val + s.val, by omega⟩ := by
  rw [iblk8]
  exact funext fun k => read8 t s k _ ht

/-- A point's rows of the input's gradient. -/
theorem at8 (t : Fin cfg0.N) (ht : t.val < 16) (hc : Cut (iblk m c 7 t) b0 b1 b2 b3 b4 b5 bg) (s : Fin 512) (k : Fin 1024) :
    k0_pay8 (F := Ideal) (k0_pay2 (F := Ideal) (iblk m c 0 t) b0 (iblk m c 1 t) b1 (iblk m c 2 t) b2 (iblk m c 3 t) b3 (iblk m c 4 t) b4)
      (k0_pay3 (F := Ideal) (iblk m c 5 t) b5) (iblk m c 6 t) bg (iblk m c 8 t) (iblk m c 9 t) (iblk m c 10 t) (ix2 s k)
      = dx (PA m c) (GA m c) (wA m c) (xA m c) (gA m c) (dA m c) (ix2 (n0 := 8192) (n1 := 1024) ⟨512 * t.val + s.val, by omega⟩ k) := by
  rw [pay8, atRow m c t ht s]
  simp only [at4 m c t ht hc s]
  have e3 : ∀ j : Fin 1024, ((iblk m c 9 t : FVec Ideal S1x1024 .f32) (ix2 0 j) : EReal) = gA m c (ix1 (n0 := 1024) j) := fun j => by
    rw [iblk9]
    exact read9 t 0 j _
  have e4 : ((iblk m c 10 t : FVec Ideal S512x1024 .f32) (ix2 s k) : EReal) = dA m c (ix2 (n0 := 8192) (n1 := 1024) ⟨512 * t.val + s.val, by omega⟩ k) := by
    rw [iblk10]
    exact read10 t s k _ ht
  simp only [e3]
  exact congrArg (fun q : EReal => q + _) e4

/-- A point's part of the gain's gradient. -/
theorem at7 (t : Fin cfg0.N) (ht : t.val < 16) (hc : Cut (iblk m c 7 t) b0 b1 b2 b3 b4 b5 bg) (u : Fin 1) (k : Fin 1024) :
    k0_pay7 (F := Ideal) (k0_pay2 (F := Ideal) (iblk m c 0 t) b0 (iblk m c 1 t) b1 (iblk m c 2 t) b2 (iblk m c 3 t) b3 (iblk m c 4 t) b4)
      (k0_pay3 (F := Ideal) (iblk m c 5 t) b5) (iblk m c 6 t) bg (iblk m c 8 t) (ix2 u k)
      = ∑ s : Fin 512, (fun r : Fin 8192 => dh (PA m c) (GA m c) (wA m c) r k * (row (xA m c) r k * rstd (row (xA m c) r)))
        ⟨512 * t.val + s.val, by omega⟩ := by
  rw [pay7]
  refine Finset.sum_congr rfl fun s _ => ?_
  rw [at4 m c t ht hc s k, pay6, atRow m c t ht s, congrFun (atRow m c t ht s) k]

end Point

/-- What the points up to one leave of the gain's gradient. -/
theorem acc : ∀ (n : ℕ) (h : n < cfg0.N) (u : Fin 1) (k : Fin 1024), ((outsAt0 m c n h).2 : FVec Ideal S1x1024 .f32) (ix2 u k)
      = ∑ r ∈ Finset.range (512 * n + 512), onNat (fun r : Fin 8192 => dh (PA m c) (GA m c) (wA m c) r k * (row (xA m c) r k * rstd (row (xA m c) r))) r
  | 0, h, u, k => by
    have e := outsAt0_A m c ⟨0, h⟩ (by norm_num) (by norm_num)
    have ht := lt ⟨0, h⟩
    rw [sum_tile _ _ (by omega), show outsAt0 m c 0 h = _ from e]
    frame_out
    refine (at7 m c ⟨0, h⟩ ht (cut _) u k).trans ?_
    simp
  | n + 1, h, u, k => by
    have ht := lt ⟨n + 1, h⟩
    have ht' : n + 1 < 16 := ht
    have e := outsAt0_B m c ⟨n + 1, h⟩ (by show ¬(n + 1) % 16 = 0; omega) (by show 1 ≤ n + 1; omega)
    rw [sum_tile _ _ (by omega), show outsAt0 m c (n + 1) h = _ from e]
    frame_out
    rw [pay1]
    refine congrArg₂ (fun p q : EReal => p + q) ?_ (at7 m c ⟨n + 1, h⟩ ht (cut _) u k)
    exact (acc n (by omega) u k)

/-- The kernel's results. -/
theorem arr11 : (dats m 0 c).arrAt 11 cfg0.N = dx (PA m c) (GA m c) (wA m c) (xA m c) (gA m c) (dA m c) := by
  refine (dats m 0 c).arrAt_eq_of_covers 11 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_11.blk t).view.emb (ix2 s l) = ix2 (n0 := 8192) (n1 := 1024) ⟨512 * t.val + s.val, by omega⟩ l := by
    blk_ext [idx t]
  refine Eq.trans ?_ (congrArg (dx _ _ _ _ _ _) e.symm)
  show ((dats m 0 c).after 11 t : FVec Ideal S512x1024 .f32) (ix2 s l) = _
  rw [after0_11]
  by_cases h : t.val % 16 = 0
  · rw [outsAt0_A m c t h (by omega)]
    frame_out
    exact at8 m c t hN (cut _) s l
  · rw [outsAt0_B m c t h (by omega)]
    frame_out
    exact at8 m c t hN (cut _) s l

theorem arr12 : (dats m 0 c).arrAt 12 cfg0.N = dg (PA m c) (GA m c) (wA m c) (xA m c) := by
  refine (dats m 0 c).arrAt_eq_of_covers 12 _ (by decide +kernel) fun t hf y => ?_
  have hN := lt t
  have h := (flush0_12 t).mp hf
  obtain ⟨u, l, rfl⟩ : ∃ (u : Fin 1) (l : Fin 1024), y = ix2 u l := ⟨y 0, y 1, (ix2_eta y).symm⟩
  have hu := u.isLt
  have hl := l.isLt
  have e : (win0_12.blk t).view.emb (ix2 u l) = ix2 (n0 := 1) (n1 := 1024) u l := by
    blk_ext [idx t]
  refine Eq.trans ?_ (congrArg (dg _ _ _ _) e.symm)
  show ((dats m 0 c).after 12 t : FVec Ideal S1x1024 .f32) (ix2 u l) = _
  rw [after0_12, acc m c t.val t.isLt u l, show 512 * t.val + 512 = 8192 by omega]
  exact sum_onNat _

end Cert.Dh1Ideal.Rms

end
-- ==== Proof.Rms.Dh1Ref.lean ====
/-
  The reference's gradient behind the layer's first norm, and the claims of the call.
-/
module

public import proofs.«01_k».proof.Proof.Rms.Dh1
public import proofs.«01_k».proof.Pre_finite_input

@[expose] public section

set_option maxRecDepth 16384

noncomputable section

namespace Cert.Dh1RefIdeal.Rms

open Cert.Dh1RefIdeal Cert.Dh1RefIdeal.Gen Cert.Dh1RefIdeal.Read Idealize.ShloMosaic Idealize.SL.Sem
open Cert.Rms Cert.Dh1Ideal.Rms
open scoped BigOperators

variable (x0 : (⟨S8192x1024, .f32⟩ : BufTy).Contents (Elt Ideal)) (x1 : (⟨S1024, .f32⟩ : BufTy).Contents (Elt Ideal))
  (x2 : (⟨S1024x3080, .bf16⟩ : BufTy).Contents (Elt Ideal)) (x3 : (⟨S8192x1024, .f32⟩ : BufTy).Contents (Elt Ideal))
  (x4 x5 x6 x7 x8 x9 : (⟨S8192x512, .bf16⟩ : BufTy).Contents (Elt Ideal)) (x10 : (⟨S8192x128, .bf16⟩ : BufTy).Contents (Elt Ideal))

/-- The gradient of the normed row, times the gain. -/
abbrev e (t : Fin 8192) : Fin 1024 → EReal := fun k => dh ![x4, x5, x6, x7, x8, x9] x10 x2 t k * x1 (ix1 (n0 := 1024) k)

theorem v9 (t : Fin 8192) (u : Fin 1) : val_main_v9 (F := Ideal) x0 (ix2 (n0 := 8192) (n1 := 1) t u) = ms (row x0 t) := by
  rw [val_main_v9_apply, val_main_v7_apply, val_main_v5_apply, val_main_v4_apply, val_main_v6_apply, val_main_v8_apply]
  refine congrArg₂ (fun p q : EReal => Ideal.div p len + q) ?_ rfl
  refine (congrArg₂ (fun p q : EReal => p + q) Ideal.ofBits_zero_f32 (Finset.sum_congr rfl fun k _ => ?_)).trans (zero_add _)
  rw [val_main_v3_apply]
  have h : idx_main_v4 (idx_main_v5 (ix2 (n0 := 8192) (n1 := 1) t u)) k = ix2 (n0 := 8192) (n1 := 1024) t k :=
    funext fun a => Fin.ext (by match a with | ⟨0, _⟩ => rfl | ⟨1, _⟩ => rfl)
  rw [h]
  rfl

theorem v10 (t : Fin 8192) (u : Fin 1) : val_main_v10 (F := Ideal) x0 (ix2 (n0 := 8192) (n1 := 1) t u) = rstd (row x0 t) := by
  rw [val_main_v10_apply, v9]
  rfl

theorem v13 (t : Fin 8192) (u : Fin 1) : val_main_v13 (F := Ideal) x0 (ix2 (n0 := 8192) (n1 := 1) t u)
    = minusHalf * Ideal.div (rstd (row x0 t)) (ms (row x0 t)) := by
  rw [val_main_v13_apply, val_main_v11_apply, v9, v10, val_main_v12_apply]
  rfl

theorem v15 (t : Fin 8192) (k : Fin 1024) : val_main_v15 (F := Ideal) x0 (ix2 (n0 := 8192) (n1 := 1024) t k)
    = row x0 t k * rstd (row x0 t) := by
  rw [val_main_v15_apply, val_main_v14_apply]
  have h : idx_main_v14 (ix2 (n0 := 8192) (n1 := 1024) t k) = ix2 (n0 := 8192) (n1 := 1) t 0 :=
    funext fun a => Fin.ext (by match a with | ⟨0, _⟩ => rfl | ⟨1, _⟩ => rfl)
  rw [h, v10]
  rfl

/-- The pieces of the columns' gradient. -/
abbrev parts : List ((s : Shape) × (s.Idx → Elt Ideal .bf16)) :=
  [⟨S8192x512, x4⟩, ⟨S8192x512, x5⟩, ⟨S8192x512, x6⟩, ⟨S8192x512, x7⟩, ⟨S8192x512, x8⟩, ⟨S8192x512, x9⟩, ⟨S8192x8, val_main_v0 (F := Ideal) x10⟩]

/-- The reference's columns are the pieces side by side. -/
theorem v1_piece (t : Fin 8192) (p : Fin 6) (j : Fin 512) : val_main_v1 (F := Ideal) x4 x5 x6 x7 x8 x9 x10 (ix2 (n0 := 8192) (n1 := 3080) t ⟨512 * p.val + j.val, by omega⟩)
    = (![x4, x5, x6, x7, x8, x9] : Fin 6 → FVec Ideal S8192x512 .bf16) p (ix2 (n0 := 8192) (n1 := 512) t j) := by
  unfold val_main_v1
  match p with
    | 0 => exact concatenate_apply_piece (t := S8192x3080) (1 : Fin 2) (parts x4 x5 x6 x7 x8 x9 x10) concatenates_S8192x512_S8192x512_S8192x512_S8192x512_S8192x512_S8192x512_S8192x8_S8192x3080_d1 _ 0 (show 0 < 7 by decide) S8192x512 x4 rfl rfl 0 rfl (ix2 (n0 := 8192) (n1 := 512) t j) (fun b hb => by
        match b with
        | ⟨0, _⟩ => rfl
        | ⟨1, _⟩ => exact absurd rfl hb) rfl
    | 1 => exact concatenate_apply_piece (t := S8192x3080) (1 : Fin 2) (parts x4 x5 x6 x7 x8 x9 x10) concatenates_S8192x512_S8192x512_S8192x512_S8192x512_S8192x512_S8192x512_S8192x8_S8192x3080_d1 _ 1 (show 1 < 7 by decide) S8192x512 x5 rfl rfl 512 rfl (ix2 (n0 := 8192) (n1 := 512) t j) (fun b hb => by
        match b with
        | ⟨0, _⟩ => rfl
        | ⟨1, _⟩ => exact absurd rfl hb) rfl
    | 2 => exact concatenate_apply_piece (t := S8192x3080) (1 : Fin 2) (parts x4 x5 x6 x7 x8 x9 x10) concatenates_S8192x512_S8192x512_S8192x512_S8192x512_S8192x512_S8192x512_S8192x8_S8192x3080_d1 _ 2 (show 2 < 7 by decide) S8192x512 x6 rfl rfl 1024 rfl (ix2 (n0 := 8192) (n1 := 512) t j) (fun b hb => by
        match b with
        | ⟨0, _⟩ => rfl
        | ⟨1, _⟩ => exact absurd rfl hb) rfl
    | 3 => exact concatenate_apply_piece (t := S8192x3080) (1 : Fin 2) (parts x4 x5 x6 x7 x8 x9 x10) concatenates_S8192x512_S8192x512_S8192x512_S8192x512_S8192x512_S8192x512_S8192x8_S8192x3080_d1 _ 3 (show 3 < 7 by decide) S8192x512 x7 rfl rfl 1536 rfl (ix2 (n0 := 8192) (n1 := 512) t j) (fun b hb => by
        match b with
        | ⟨0, _⟩ => rfl
        | ⟨1, _⟩ => exact absurd rfl hb) rfl
    | 4 => exact concatenate_apply_piece (t := S8192x3080) (1 : Fin 2) (parts x4 x5 x6 x7 x8 x9 x10) concatenates_S8192x512_S8192x512_S8192x512_S8192x512_S8192x512_S8192x512_S8192x8_S8192x3080_d1 _ 4 (show 4 < 7 by decide) S8192x512 x8 rfl rfl 2048 rfl (ix2 (n0 := 8192) (n1 := 512) t j) (fun b hb => by
        match b with
        | ⟨0, _⟩ => rfl
        | ⟨1, _⟩ => exact absurd rfl hb) rfl
    | 5 => exact concatenate_apply_piece (t := S8192x3080) (1 : Fin 2) (parts x4 x5 x6 x7 x8 x9 x10) concatenates_S8192x512_S8192x512_S8192x512_S8192x512_S8192x512_S8192x512_S8192x8_S8192x3080_d1 _ 5 (show 5 < 7 by decide) S8192x512 x9 rfl rfl 2560 rfl (ix2 (n0 := 8192) (n1 := 512) t j) (fun b hb => by
        match b with
        | ⟨0, _⟩ => rfl
        | ⟨1, _⟩ => exact absurd rfl hb) rfl

theorem v1_gate (t : Fin 8192) (j : Fin 8) : val_main_v1 (F := Ideal) x4 x5 x6 x7 x8 x9 x10 (ix2 (n0 := 8192) (n1 := 3080) t ⟨3072 + j.val, by omega⟩)
    = x10 (ix2 (n0 := 8192) (n1 := 128) t ⟨j.val, by omega⟩) := by
  unfold val_main_v1
  refine (concatenate_apply_piece (t := S8192x3080) (1 : Fin 2) (parts x4 x5 x6 x7 x8 x9 x10) concatenates_S8192x512_S8192x512_S8192x512_S8192x512_S8192x512_S8192x512_S8192x8_S8192x3080_d1 _ 6 (show 6 < 7 by decide) S8192x8 (val_main_v0 (F := Ideal) x10) rfl rfl 3072 rfl (ix2 (n0 := 8192) (n1 := 8) t j) (fun b hb => by
    match b with
    | ⟨0, _⟩ => rfl
    | ⟨1, _⟩ => exact absurd rfl hb) rfl).trans ?_
  rw [val_main_v0_apply]
  exact congrArg x10 (funext fun a => Fin.ext (by match a with | ⟨0, _⟩ => simp | ⟨1, _⟩ => simp))

/-- A sum over all columns, piece by piece. -/
theorem pieces (f : Fin 3080 → EReal) :
    ∑ j, f j = (∑ p : Fin 6, ∑ j : Fin 512, f ⟨512 * p.val + j.val, by omega⟩) + ∑ j : Fin 8, f ⟨3072 + j.val, by omega⟩ := by
  rw [← sum_onNat f, Fin.sum_univ_six]
  refine (sum_tile f 3072 (w := 8) (by omega)).trans (congrArg₂ (fun q q' : EReal => q + q') ?_ rfl)
  refine (sum_tile f 2560 (w := 512) (by omega)).trans (congrArg₂ (fun q q' : EReal => q + q') ?_ rfl)
  refine (sum_tile f 2048 (w := 512) (by omega)).trans (congrArg₂ (fun q q' : EReal => q + q') ?_ rfl)
  refine (sum_tile f 1536 (w := 512) (by omega)).trans (congrArg₂ (fun q q' : EReal => q + q') ?_ rfl)
  refine (sum_tile f 1024 (w := 512) (by omega)).trans (congrArg₂ (fun q q' : EReal => q + q') ?_ rfl)
  refine (sum_tile f 512 (w := 512) (by omega)).trans (congrArg₂ (fun q q' : EReal => q + q') ?_ rfl)
  refine (sum_tile f 0 (w := 512) (by omega)).trans ?_
  simp

theorem v21 (t : Fin 8192) (k : Fin 1024) : val_main_v21 (F := Ideal) x2 x4 x5 x6 x7 x8 x9 x10 (ix2 (n0 := 8192) (n1 := 1024) t k) = dh ![x4, x5, x6, x7, x8, x9] x10 x2 t k := by
  rw [val_main_v21_apply, pieces]
  have hl : ∀ j : Fin 3080, val_main_v2 (F := Ideal) x4 x5 x6 x7 x8 x9 x10 (lidx_main_v21 (ix2 (n0 := 8192) (n1 := 1024) t k) j)
      = val_main_v1 (F := Ideal) x4 x5 x6 x7 x8 x9 x10 (ix2 (n0 := 8192) (n1 := 3080) t j) := fun j =>
    congrArg (val_main_v1 (F := Ideal) x4 x5 x6 x7 x8 x9 x10) (funext fun a => Fin.ext (by match a with | ⟨0, _⟩ => rfl | ⟨1, _⟩ => rfl))
  have hr : ∀ j : Fin 3080, val_main_v19 (F := Ideal) x2 (ridx_main_v21 (ix2 (n0 := 8192) (n1 := 1024) t k) j)
      = x2 (ix2 (n0 := 1024) (n1 := 3080) k j) := fun j =>
    congrArg x2 (funext fun a => Fin.ext (by match a with | ⟨0, _⟩ => rfl | ⟨1, _⟩ => rfl))
  simp only [hl, hr, v1_piece, v1_gate]
  rfl

theorem v26 (t : Fin 8192) (k : Fin 1024) : val_main_v26 (F := Ideal) x1 x2 x4 x5 x6 x7 x8 x9 x10 (ix2 (n0 := 8192) (n1 := 1024) t k) = e x1 x2 x4 x5 x6 x7 x8 x9 x10 t k := by
  rw [val_main_v26_apply, v21, val_main_v25_apply, val_main_v16_apply]
  exact congrArg (fun q : EReal => dh ![x4, x5, x6, x7, x8, x9] x10 x2 t k * q) (congrArg x1 (funext fun a => Fin.ext (by match a with | ⟨0, _⟩ => rfl)))

/-- The gradient of the mean of squares. -/
theorem v38 (t : Fin 8192) (k : Fin 1024) : val_main_v38 (F := Ideal) x0 x1 x2 x4 x5 x6 x7 x8 x9 x10 (ix2 (n0 := 8192) (n1 := 1024) t k)
    = dms (e x1 x2 x4 x5 x6 x7 x8 x9 x10 t) (row x0 t) := by
  rw [val_main_v38_apply, val_main_v37_apply]
  refine (congrArg₂ (fun p q : EReal => p + q) Ideal.ofBits_zero_f32 (Fin.sum_univ_one _)).trans ((zero_add _).trans ?_)
  rw [val_main_v36_apply, val_main_v34_apply, val_main_v35_apply, val_main_v30_apply, val_main_v29_apply]
  have h : idx_main_v37 (idx_main_v38 (ix2 (n0 := 8192) (n1 := 1024) t k)) 0 = ix2 (n0 := 8192) (n1 := 1) t 0 :=
    funext fun a => Fin.ext (by match a with | ⟨0, _⟩ => rfl | ⟨1, _⟩ => rfl)
  rw [h, v13]
  refine congrArg (fun p : EReal => Ideal.div (p * _) len) ?_
  refine (congrArg₂ (fun p q : EReal => p + q) Ideal.ofBits_zero_f32 (Finset.sum_congr rfl fun j _ => ?_)).trans (zero_add _)
  have h2 : idx_main_v29 (idx_main_v30 (ix2 (n0 := 8192) (n1 := 1) t 0)) j = ix2 (n0 := 8192) (n1 := 1024) t j :=
    funext fun a => Fin.ext (by match a with | ⟨0, _⟩ => simp | ⟨1, _⟩ => rfl)
  rw [h2, val_main_v28_apply, v26]
  rfl

theorem v42 (he : ∀ t k, IsNum (e x1 x2 x4 x5 x6 x7 x8 x9 x10 t k)) (hx : ∀ t k, IsNum (row x0 t k)) (i : S8192x1024.Idx) :
    val_main_v42 (F := Ideal) x0 x1 x2 x3 x4 x5 x6 x7 x8 x9 x10 i = dx ![x4, x5, x6, x7, x8, x9] x10 x2 x0 x1 x3 i := by
  obtain ⟨t, k, rfl⟩ : ∃ (t : Fin 8192) (k : Fin 1024), i = ix2 t k := ⟨i 0, i 1, (ix2_eta i).symm⟩
  rw [val_main_v42_apply, val_main_v41_apply, val_main_v40_apply, val_main_v39_apply, val_main_v33_apply, val_main_v32_apply, v26, v38, val_main_v31_apply]
  have h : idx_main_v31 (ix2 (n0 := 8192) (n1 := 1024) t k) = ix2 (n0 := 8192) (n1 := 1) t 0 :=
    funext fun a => Fin.ext (by match a with | ⟨0, _⟩ => rfl | ⟨1, _⟩ => rfl)
  rw [h, v10]
  exact dxRow_add (x3 (ix2 t k)) (e x1 x2 x4 x5 x6 x7 x8 x9 x10 t) (row x0 t) (he t) (hx t) k

theorem v43 (i : S1x1024.Idx) : val_main_v43 (F := Ideal) x0 x2 x4 x5 x6 x7 x8 x9 x10 i = dg ![x4, x5, x6, x7, x8, x9] x10 x2 x0 i := by
  obtain ⟨u, k, rfl⟩ : ∃ (u : Fin 1) (k : Fin 1024), i = ix2 u k := ⟨i 0, i 1, (ix2_eta i).symm⟩
  rw [val_main_v43_apply, val_main_v27_apply]
  refine (congrArg₂ (fun p q : EReal => p + q) Ideal.ofBits_zero_f32 (Fin.sum_univ_one _)).trans ((zero_add _).trans ?_)
  rw [val_main_v24_apply, val_main_v23_apply]
  refine (congrArg₂ (fun p q : EReal => p + q) Ideal.ofBits_zero_f32 (Finset.sum_congr rfl fun t _ => ?_)).trans (zero_add _)
  have h : idx_main_v23 (idx_main_v24 (idx_main_v27 (idx_main_v43 (ix2 (n0 := 1) (n1 := 1024) u k)) 0)) t = ix2 (n0 := 8192) (n1 := 1024) t k := by
    have := u.isLt
    have := k.isLt
    refine funext fun a => Fin.ext ?_
    match a with
    | ⟨0, _⟩ => rfl
    | ⟨1, _⟩ => simp [idx_main_v23, idx_main_v24, idx_main_v27, idx_main_v43]; try omega
  rw [h, val_main_v22_apply, v15, v21]
  exact mul_comm _ _

end Cert.Dh1RefIdeal.Rms

namespace Cert.Dh1Ideal.Rms

open Cert.Dh1Ideal Cert.Dh1Ideal.Gen Idealize.ShloMosaic Idealize.ShloMosaic.TcCoe Idealize.SL.Sem
open Cert.Rms

/-- The side conditions the precondition states. -/
theorem preFacts : Cert.Pre_finite_input.Facts where
  bcast_S_S8192x1024 := by decide
  bcast_S_S1024 := by decide
  bitsLt_bf16_f32 := by decide
  bcast_S_S1024x3080 := by decide
  bcast_S_S8192x512 := by decide
  bcast_S_S8192x128 := by decide

theorem frame_p : Cert.quiescent_Dh1 (hDh1 := Cert.Dh1.Gen.facts) := fun m ρ _ => Cert.Dh1.Gen.frame m ρ

theorem frame_pi : Cert.quiescent_Dh1Ideal (hDh1Ideal := Cert.Dh1Ideal.Gen.facts) := fun m ρ _ => Cert.Dh1Ideal.Gen.frame m ρ

theorem frame_pi_pre : Cert.quiescent_Dh1Ideal_pre_finite_input (hDh1Ideal := Cert.Dh1Ideal.Gen.facts) (hPre_finite_input := preFacts) :=
  fun m ρ _ => Cert.Dh1Ideal.Gen.frame m ρ

/-- The reference's frame: host operations only, no semaphore. -/
theorem frame_ri : Cert.quiescent_Dh1RefIdeal (hDh1RefIdeal := Cert.Dh1RefIdeal.Gen.facts) := fun m ρ _ =>
  (θ_run (Cert.Dh1RefIdeal.defs (F := Ideal)) _ _).mono (fun r h => ⟨fun c => (h c).2.2, Idealize.ShloMosaic.sem_eq_zero_of_no_sems (by decide) r.2⟩)
    (Cert.Dh1RefIdeal.Value.run (F := Ideal) m ρ)

theorem frame_ri_pre : Cert.quiescent_Dh1RefIdeal_pre_finite_input (hDh1RefIdeal := Cert.Dh1RefIdeal.Gen.facts) (hPre_finite_input := preFacts) :=
  fun m ρ _ => frame_ri m ρ trivial

variable (m : (ℓ : Loc nD τ sig) → Buf (Elt Ideal) ℓ) (c : Dev nD)

/-- Under the precondition the rows hold real numbers. -/
theorem nums (hpre : Cert.Pre_Dh1Ideal_finite_input (hPre_finite_input := preFacts) m) :
    (∀ t k, IsNum (Cert.Dh1RefIdeal.Rms.e (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) t k))
    ∧ ∀ t k, IsNum (row (xA m c) t k) := by
  obtain ⟨h0, h1, h2, h4, h5, h6, h7, h8, h9, h10⟩ := hpre c
  have n1 : ∀ i, IsNum (m ((c : Thread nD τ).loc main_arg1) i) := fun i => IsNum.of_bit (congrFun h1 i)
  have n2 : ∀ i, IsNum (m ((c : Thread nD τ).loc main_arg2) i) := fun i => IsNum.of_bit (congrFun h2 i)
  have n4 : ∀ i, IsNum (m ((c : Thread nD τ).loc main_arg4) i) := fun i => IsNum.of_bit (congrFun h4 i)
  have n5 : ∀ i, IsNum (m ((c : Thread nD τ).loc main_arg5) i) := fun i => IsNum.of_bit (congrFun h5 i)
  have n6 : ∀ i, IsNum (m ((c : Thread nD τ).loc main_arg6) i) := fun i => IsNum.of_bit (congrFun h6 i)
  have n7 : ∀ i, IsNum (m ((c : Thread nD τ).loc main_arg7) i) := fun i => IsNum.of_bit (congrFun h7 i)
  have n8 : ∀ i, IsNum (m ((c : Thread nD τ).loc main_arg8) i) := fun i => IsNum.of_bit (congrFun h8 i)
  have n9 : ∀ i, IsNum (m ((c : Thread nD τ).loc main_arg9) i) := fun i => IsNum.of_bit (congrFun h9 i)
  have n10 : ∀ i, IsNum (m ((c : Thread nD τ).loc main_arg10) i) := fun i => IsNum.of_bit (congrFun h10 i)
  have nP : ∀ (p : Fin 6) i, IsNum (PA m c p i) := fun p i => by
    match p with
    | 0 => exact n4 i
    | 1 => exact n5 i
    | 2 => exact n6 i
    | 3 => exact n7 i
    | 4 => exact n8 i
    | 5 => exact n9 i
  exact ⟨fun t k => ((IsNum.sum fun p => IsNum.sum fun j => (nP p _).mul (n2 _)).add (IsNum.sum fun j => (n10 _).mul (n2 _))).mul (n1 _),
    fun t k => IsNum.of_bit (congrFun h0 _)⟩

theorem algebraic : Cert.algebraic_Dh1Ideal_Dh1RefIdeal_pre_finite_input (hDh1Ideal := Cert.Dh1Ideal.Gen.facts)
    (hDh1RefIdeal := Cert.Dh1RefIdeal.Gen.facts) (hPre_finite_input := preFacts) := by
  intro m ρ m' ρ' hpre hagree
  refine ⟨_, _, Cert.Dh1Ideal.Value.run_blocks m ρ, ?_⟩
  refine (θ_run (Cert.Dh1RefIdeal.defs (F := Ideal)) _ _).mono (fun r h c => ?_) (Cert.Dh1RefIdeal.Value.run (F := Ideal) m' ρ')
  obtain ⟨e0, e1, e2, e3, e4, e5, e6, e7, e8, e9, e10⟩ := hagree c
  obtain ⟨h0, h1, k⟩ := h c
  obtain ⟨he, hx⟩ := nums m c hpre
  refine ⟨h0.trans ?_, h1.trans ?_, k⟩
  · rw [Cert.Dh1RefIdeal.Read.val_main_v42_eq, e0, e1, e2, e3, e4, e5, e6, e7, e8, e9, e10, arr11 m c]
    exact funext fun i => Cert.Dh1RefIdeal.Rms.v42 _ _ _ _ _ _ _ _ _ _ _ he hx i
  · refine (Cert.Dh1RefIdeal.Read.val_main_v43_eq _ _ _ _ _ _ _ _ _).trans ?_
    rw [e0, e2, e4, e5, e6, e7, e8, e9, e10, arr12 m c]
    exact funext fun i => Cert.Dh1RefIdeal.Rms.v43 _ _ _ _ _ _ _ _ _ i

end Cert.Dh1Ideal.Rms

end
-- ==== Proof.Prod.WinDil.lean ====
/-
  The input weight's gradient of the dilated attention's columns: blocks of tokens added up in a scratch, piece by piece of columns.
-/
module

public import proofs.«01_k».proof.Defs
public import proofs.«01_k».proof.Proof.Gen.WinDil.Frame
public import proofs.«01_k».proof.Proof.Gen.WinDilIdeal.Value
public import proofs.«01_k».proof.Proof.Gen.WinDilRefIdeal.Run
public import proofs.«01_k».proof.Proof.Gen.WinDilRefIdeal.Read
public import proofs.«01_k».proof.Proof.Rms.Row
public import proofs.«01_k».proof.Proof.Fox.Tile
public import Idealize.ShloMosaic.Lib.Pipeline.ValueKit
public import Idealize.ShloMosaic.Lib.Pipeline.ReadBack
public import Idealize.ShloMosaic.Lib.Claim

@[expose] public section

set_option maxRecDepth 16384

noncomputable section

namespace Cert.WinDilIdeal.Prod

open Cert.WinDilIdeal Cert.WinDilIdeal.Gen Idealize.ShloMosaic Idealize.ShloMosaic.TcCoe Idealize.SL.Sem
open Cert.Rms
open scoped BigOperators

/-- The gradients of the projected columns, side by side. -/
def cols (p : FVec Ideal S8192x512 .bf16) (q : FVec Ideal S8192x512 .bf16) (r : FVec Ideal S8192x512 .bf16) (t : Fin 8192) (l : Fin 1536) : EReal :=
  if h0 : l.val < 512 then p (ix2 (n0 := 8192) (n1 := 512) t ⟨l.val, by omega⟩)
  else if h1 : l.val < 1024 then q (ix2 (n0 := 8192) (n1 := 512) t ⟨l.val - 512, by omega⟩)
  else r (ix2 (n0 := 8192) (n1 := 512) t ⟨l.val - 1024, by omega⟩)

/-- The weight's gradient. -/
def prod (x : FVec Ideal S8192x1024 .bf16) (p : FVec Ideal S8192x512 .bf16) (q : FVec Ideal S8192x512 .bf16) (r : FVec Ideal S8192x512 .bf16) : FVec Ideal S1024x1536 .bf16 :=
  fun i => ∑ t : Fin 8192, x (ix2 (n0 := 8192) (n1 := 1024) t (i 0)) * cols p q r t (i 1)

/-! A block of tokens' part, piece by piece of columns. -/

theorem pay2 (a : FVec Ideal S2048x1024 .bf16) (b : FVec Ideal S2048x512 .bf16) (k : Fin 1024) (l : Fin 512) :
    k0_pay2 (F := Ideal) a b (ix2 k l) = ∑ s : Fin 2048, a (ix2 s k) * b (ix2 s l) := by
  unfold k0_pay2
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay3 (a : FVec Ideal S2048x1024 .bf16) (b : FVec Ideal S2048x512 .bf16) (k : Fin 1024) (l : Fin 512) :
    k0_pay3 (F := Ideal) a b (ix2 k l) = k0_pay2 (F := Ideal) a b (ix2 k l) := by
  unfold k0_pay3
  generalize k0_pay2 (F := Ideal) a b = d
  pointwise

theorem pay4 (a : FVec Ideal S2048x1024 .bf16) (b : FVec Ideal S2048x512 .bf16) (v : FVec Ideal S1024x512 .f32) (k : Fin 1024) (l : Fin 512) :
    k0_pay4 (F := Ideal) a b v (ix2 k l) = (v (ix2 k l) : EReal) + k0_pay2 (F := Ideal) a b (ix2 k l) := by
  unfold k0_pay4
  generalize k0_pay2 (F := Ideal) a b = d
  pointwise

theorem pay5 (a : FVec Ideal S2048x1024 .bf16) (b : FVec Ideal S2048x512 .bf16) (k : Fin 1024) (l : Fin 512) :
    k0_pay5 (F := Ideal) a b (ix2 k l) = ∑ s : Fin 2048, a (ix2 s k) * b (ix2 s l) := by
  unfold k0_pay5
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay6 (a : FVec Ideal S2048x1024 .bf16) (b : FVec Ideal S2048x512 .bf16) (k : Fin 1024) (l : Fin 512) :
    k0_pay6 (F := Ideal) a b (ix2 k l) = k0_pay5 (F := Ideal) a b (ix2 k l) := by
  unfold k0_pay6
  generalize k0_pay5 (F := Ideal) a b = d
  pointwise

theorem pay7 (a : FVec Ideal S2048x1024 .bf16) (b : FVec Ideal S2048x512 .bf16) (v : FVec Ideal S1024x512 .f32) (k : Fin 1024) (l : Fin 512) :
    k0_pay7 (F := Ideal) a b v (ix2 k l) = (v (ix2 k l) : EReal) + k0_pay5 (F := Ideal) a b (ix2 k l) := by
  unfold k0_pay7
  generalize k0_pay5 (F := Ideal) a b = d
  pointwise

theorem pay8 (a : FVec Ideal S2048x1024 .bf16) (b : FVec Ideal S2048x512 .bf16) (k : Fin 1024) (l : Fin 512) :
    k0_pay8 (F := Ideal) a b (ix2 k l) = ∑ s : Fin 2048, a (ix2 s k) * b (ix2 s l) := by
  unfold k0_pay8
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay9 (a : FVec Ideal S2048x1024 .bf16) (b : FVec Ideal S2048x512 .bf16) (k : Fin 1024) (l : Fin 512) :
    k0_pay9 (F := Ideal) a b (ix2 k l) = k0_pay8 (F := Ideal) a b (ix2 k l) := by
  unfold k0_pay9
  generalize k0_pay8 (F := Ideal) a b = d
  pointwise

theorem pay10 (a : FVec Ideal S2048x1024 .bf16) (b : FVec Ideal S2048x512 .bf16) (v : FVec Ideal S1024x512 .f32) (k : Fin 1024) (l : Fin 512) :
    k0_pay10 (F := Ideal) a b v (ix2 k l) = (v (ix2 k l) : EReal) + k0_pay8 (F := Ideal) a b (ix2 k l) := by
  unfold k0_pay10
  generalize k0_pay8 (F := Ideal) a b = d
  pointwise

variable (m : (ℓ : Loc nD τ sig) → Buf (Elt Ideal) ℓ) (c : Dev nD)

/-- Every window's block index. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] :=
  (by decide +kernel : ∀ t : Fin grid0.N, _)

theorem lt : ∀ t : Fin cfg0.N, t.val < 4 := (by decide +kernel : ∀ t : Fin grid0.N, t.val < 4)

theorem read0 (t : Fin cfg0.N) (s : Fin 2048) (k : Fin 1024) (x : FVec Ideal S8192x1024 .bf16) (ht : t.val < 4) :
    (win0_0.blk t).view.read (Elt Ideal) x (ix2 s k) = x (ix2 (n0 := 8192) (n1 := 1024) ⟨2048 * t.val + s.val, by omega⟩ k) := by
  have hs := s.isLt
  have hk := k.isLt
  blk_ext [idx t]

theorem read1 (t : Fin cfg0.N) (s : Fin 2048) (k : Fin 512) (x : FVec Ideal S8192x512 .bf16) (ht : t.val < 4) :
    (win0_1.blk t).view.read (Elt Ideal) x (ix2 s k) = x (ix2 (n0 := 8192) (n1 := 512) ⟨2048 * t.val + s.val, by omega⟩ k) := by
  have hs := s.isLt
  have hk := k.isLt
  blk_ext [idx t]

theorem read2 (t : Fin cfg0.N) (s : Fin 2048) (k : Fin 512) (x : FVec Ideal S8192x512 .bf16) (ht : t.val < 4) :
    (win0_2.blk t).view.read (Elt Ideal) x (ix2 s k) = x (ix2 (n0 := 8192) (n1 := 512) ⟨2048 * t.val + s.val, by omega⟩ k) := by
  have hs := s.isLt
  have hk := k.isLt
  blk_ext [idx t]

theorem read3 (t : Fin cfg0.N) (s : Fin 2048) (k : Fin 512) (x : FVec Ideal S8192x512 .bf16) (ht : t.val < 4) :
    (win0_3.blk t).view.read (Elt Ideal) x (ix2 s k) = x (ix2 (n0 := 8192) (n1 := 512) ⟨2048 * t.val + s.val, by omega⟩ k) := by
  have hs := s.isLt
  have hk := k.isLt
  blk_ext [idx t]

/-- The arrays the call reads. -/
abbrev xA : FVec Ideal S8192x1024 .bf16 := m ((c : Thread nD τ).loc main_arg0)

abbrev pA : FVec Ideal S8192x512 .bf16 := m ((c : Thread nD τ).loc main_arg2)

abbrev qA : FVec Ideal S8192x512 .bf16 := m ((c : Thread nD τ).loc main_arg3)

abbrev rA : FVec Ideal S8192x512 .bf16 := m ((c : Thread nD τ).loc main_arg4)

theorem iblk0 (t : Fin cfg0.N) : iblk m c 0 t = (win0_0.blk t).view.read (Elt Ideal) (xA m c) := rfl

theorem iblk1 (t : Fin cfg0.N) : iblk m c 1 t = (win0_1.blk t).view.read (Elt Ideal) (pA m c) := rfl

theorem iblk2 (t : Fin cfg0.N) : iblk m c 2 t = (win0_2.blk t).view.read (Elt Ideal) (qA m c) := rfl

theorem iblk3 (t : Fin cfg0.N) : iblk m c 3 t = (win0_3.blk t).view.read (Elt Ideal) (rA m c) := rfl

/-- What the points up to one have added up. -/
def upto (n : ℕ) : FVec Ideal S1024x1536 .f32 := fun i =>
  ∑ r ∈ Finset.range (2048 * n + 2048), onNat (fun t : Fin 8192 => xA m c (ix2 (n0 := 8192) (n1 := 1024) t (i 0)) * cols (pA m c) (qA m c) (rA m c) t (i 1)) r

theorem upto_zero (k : Fin 1024) (l : Fin 1536) : upto m c 0 (ix2 k l)
    = ∑ s : Fin 2048, xA m c (ix2 (n0 := 8192) (n1 := 1024) ⟨2048 * 0 + s.val, by omega⟩ k) * cols (pA m c) (qA m c) (rA m c) ⟨2048 * 0 + s.val, by omega⟩ l := by
  unfold upto
  exact (sum_tile _ (2048 * 0) (by omega)).trans ((congrArg₂ (fun p q : EReal => p + q) (Finset.sum_range_zero _) rfl).trans (zero_add _))

theorem upto_succ (n : ℕ) (h : n + 1 < 4) (k : Fin 1024) (l : Fin 1536) : upto m c (n + 1) (ix2 k l)
    = (upto m c n (ix2 k l) : EReal) + ∑ s : Fin 2048, xA m c (ix2 (n0 := 8192) (n1 := 1024) ⟨2048 * (n + 1) + s.val, by omega⟩ k)
        * cols (pA m c) (qA m c) (rA m c) ⟨2048 * (n + 1) + s.val, by omega⟩ l := by
  unfold upto
  exact sum_tile _ _ (by omega)

theorem cols0 (t : Fin 8192) (l : Fin 512) : cols (pA m c) (qA m c) (rA m c) t ⟨0 + l.val, by omega⟩ = pA m c (ix2 (n0 := 8192) (n1 := 512) t l) := by
  unfold cols
  rw [dif_pos (show 0 + l.val < 512 by omega)]
  exact congrArg (pA m c) (congrArg (ix2 t) (Fin.ext (by show _ = l.val; simp)))

theorem at0 (t : Fin cfg0.N) (ht : t.val < 4) (k : Fin 1024) (l : Fin 512) :
    k0_pay2 (F := Ideal) (iblk m c 0 t) (iblk m c 1 t) (ix2 k l)
      = ∑ s : Fin 2048, xA m c (ix2 (n0 := 8192) (n1 := 1024) ⟨2048 * t.val + s.val, by omega⟩ k)
          * cols (pA m c) (qA m c) (rA m c) ⟨2048 * t.val + s.val, by omega⟩ ⟨0 + l.val, by omega⟩ := by
  rw [pay2]
  refine Finset.sum_congr rfl fun s _ => ?_
  rw [iblk0, iblk1, cols0]
  exact congrArg₂ (fun p q : EReal => p * q) (read0 t s k _ ht) (read1 t s l _ ht)

theorem cols1 (t : Fin 8192) (l : Fin 512) : cols (pA m c) (qA m c) (rA m c) t ⟨512 + l.val, by omega⟩ = qA m c (ix2 (n0 := 8192) (n1 := 512) t l) := by
  unfold cols
  rw [dif_neg (show ¬(512 + l.val < 512) by omega), dif_pos (show 512 + l.val < 1024 by omega)]
  exact congrArg (qA m c) (congrArg (ix2 t) (Fin.ext (by show _ = l.val; simp)))

theorem at1 (t : Fin cfg0.N) (ht : t.val < 4) (k : Fin 1024) (l : Fin 512) :
    k0_pay5 (F := Ideal) (iblk m c 0 t) (iblk m c 2 t) (ix2 k l)
      = ∑ s : Fin 2048, xA m c (ix2 (n0 := 8192) (n1 := 1024) ⟨2048 * t.val + s.val, by omega⟩ k)
          * cols (pA m c) (qA m c) (rA m c) ⟨2048 * t.val + s.val, by omega⟩ ⟨512 + l.val, by omega⟩ := by
  rw [pay5]
  refine Finset.sum_congr rfl fun s _ => ?_
  rw [iblk0, iblk2, cols1]
  exact congrArg₂ (fun p q : EReal => p * q) (read0 t s k _ ht) (read2 t s l _ ht)

theorem cols2 (t : Fin 8192) (l : Fin 512) : cols (pA m c) (qA m c) (rA m c) t ⟨1024 + l.val, by omega⟩ = rA m c (ix2 (n0 := 8192) (n1 := 512) t l) := by
  unfold cols
  rw [dif_neg (show ¬(1024 + l.val < 512) by omega), dif_neg (show ¬(1024 + l.val < 1024) by omega)]
  exact congrArg (rA m c) (congrArg (ix2 t) (Fin.ext (by show _ = l.val; simp)))

theorem at2 (t : Fin cfg0.N) (ht : t.val < 4) (k : Fin 1024) (l : Fin 512) :
    k0_pay8 (F := Ideal) (iblk m c 0 t) (iblk m c 3 t) (ix2 k l)
      = ∑ s : Fin 2048, xA m c (ix2 (n0 := 8192) (n1 := 1024) ⟨2048 * t.val + s.val, by omega⟩ k)
          * cols (pA m c) (qA m c) (rA m c) ⟨2048 * t.val + s.val, by omega⟩ ⟨1024 + l.val, by omega⟩ := by
  rw [pay8]
  refine Finset.sum_congr rfl fun s _ => ?_
  rw [iblk0, iblk3, cols2]
  exact congrArg₂ (fun p q : EReal => p * q) (read0 t s k _ ht) (read3 t s l _ ht)

/-- The pieces written side by side are one array. -/
theorem fill (a0 : FVec Ideal S1024x512 .f32) (a1 : FVec Ideal S1024x512 .f32) (a2 : FVec Ideal S1024x512 .f32) (G : FVec Ideal S1024x1536 .f32)
    (h0 : ∀ (k : Fin 1024) (l : Fin 512), (a0 (ix2 k l) : EReal) = G (ix2 (n0 := 1024) (n1 := 1536) k ⟨0 + l.val, by omega⟩))
    (h1 : ∀ (k : Fin 1024) (l : Fin 512), (a1 (ix2 k l) : EReal) = G (ix2 (n0 := 1024) (n1 := 1536) k ⟨512 + l.val, by omega⟩))
    (h2 : ∀ (k : Fin 1024) (l : Fin 512), (a2 (ix2 k l) : EReal) = G (ix2 (n0 := 1024) (n1 := 1536) k ⟨1024 + l.val, by omega⟩)) :
    (View.canon (Val := Elt Ideal) (s := S1024x1536) (e := .f32)
      [⟨Rect.unit (s := S1024x1536) ![0, 1024] ![1024, 512] inb_S1024x1536_S1024x512_0_1024, a2⟩,
        ⟨Rect.unit (s := S1024x1536) ![0, 512] ![1024, 512] inb_S1024x1536_S1024x512_0_512, a1⟩,
        ⟨Rect.unit (s := S1024x1536) ![0, 0] ![1024, 512] inb_S1024x1536_S1024x512_0_0, a0⟩] : FVec Ideal S1024x1536 .f32) = G := by
  funext y
  refine View.canon_apply_of_pieces (Val := Elt Ideal) (e := .f32) G _ (fun p hp x => ?_) y (View.cover_of_tiledBy _ ![1024, 128] (by sl_kernel_rfl) y)
  simp only [List.mem_cons, List.not_mem_nil, or_false] at hp
  rcases hp with rfl | rfl | rfl
  · obtain ⟨k, l, rfl⟩ : ∃ (k : Fin 1024) (l : Fin 512), x = ix2 k l := ⟨x 0, x 1, (ix2_eta x).symm⟩
    exact (h2 k l).trans (congrArg G (funext fun a => Fin.ext (by
      match a with
      | ⟨0, _⟩ => show k.val = 0 + 1 * k.val; omega
      | ⟨1, _⟩ => show 1024 + l.val = 1024 + 1 * l.val; omega)))
  · obtain ⟨k, l, rfl⟩ : ∃ (k : Fin 1024) (l : Fin 512), x = ix2 k l := ⟨x 0, x 1, (ix2_eta x).symm⟩
    exact (h1 k l).trans (congrArg G (funext fun a => Fin.ext (by
      match a with
      | ⟨0, _⟩ => show k.val = 0 + 1 * k.val; omega
      | ⟨1, _⟩ => show 512 + l.val = 512 + 1 * l.val; omega)))
  · obtain ⟨k, l, rfl⟩ : ∃ (k : Fin 1024) (l : Fin 512), x = ix2 k l := ⟨x 0, x 1, (ix2_eta x).symm⟩
    exact (h0 k l).trans (congrArg G (funext fun a => Fin.ext (by
      match a with
      | ⟨0, _⟩ => show k.val = 0 + 1 * k.val; omega
      | ⟨1, _⟩ => show 0 + l.val = 0 + 1 * l.val; omega)))

/-- The scratch after a point. -/
theorem acc : ∀ (n : ℕ) (h : n < cfg0.N), ((outsAt0 m c n h).2 : FVec Ideal S1024x1536 .f32) = upto m c n
  | 0, h => by
    have e := outsAt0_A m c ⟨0, h⟩ rfl (by norm_num) rfl (by norm_num) rfl (by norm_num) (by norm_num)
    rw [show outsAt0 m c 0 h = _ from e]
    frame_out
    refine fill _ _ _ _ (fun k l => ?_) (fun k l => ?_) (fun k l => ?_)
    · rw [pay3]
      exact (at0 m c ⟨0, h⟩ (by norm_num) k l).trans (upto_zero m c k _).symm
    · rw [pay6]
      exact (at1 m c ⟨0, h⟩ (by norm_num) k l).trans (upto_zero m c k _).symm
    · rw [pay9]
      exact (at2 m c ⟨0, h⟩ (by norm_num) k l).trans (upto_zero m c k _).symm
  | n + 1, h => by
    have ht' : n + 1 < 4 := lt ⟨n + 1, h⟩
    have ih := acc n (Nat.lt_of_succ_lt h)
    by_cases h3 : (n + 1) % 4 = 3
    · have e := outsAt0_C m c ⟨n + 1, h⟩ (by show ¬(n + 1) % 4 = 0; omega) (by show 1 ≤ n + 1; omega) (by show ¬(n + 1) % 4 = 0; omega) (by show 1 ≤ n + 1; omega) (by show ¬(n + 1) % 4 = 0; omega) (by show 1 ≤ n + 1; omega) h3
      rw [show outsAt0 m c (n + 1) h = _ from e]
      frame_out
      simp only [Nat.add_sub_cancel, read_unread_whole, ih]
      refine fill _ _ _ _ (fun k l => ?_) (fun k l => ?_) (fun k l => ?_)
      · rw [pay4, at0 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 0 + 1 * l.val = 0 + l.val; omega)))
      · rw [pay7, at1 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 512 + 1 * l.val = 512 + l.val; omega)))
      · rw [pay10, at2 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1024 + 1 * l.val = 1024 + l.val; omega)))
    · have e := outsAt0_B m c ⟨n + 1, h⟩ (by show ¬(n + 1) % 4 = 0; omega) (by show 1 ≤ n + 1; omega) (by show ¬(n + 1) % 4 = 0; omega) (by show 1 ≤ n + 1; omega) (by show ¬(n + 1) % 4 = 0; omega) (by show 1 ≤ n + 1; omega) h3
      rw [show outsAt0 m c (n + 1) h = _ from e]
      frame_out
      simp only [Nat.add_sub_cancel, read_unread_whole, ih]
      refine fill _ _ _ _ (fun k l => ?_) (fun k l => ?_) (fun k l => ?_)
      · rw [pay4, at0 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 0 + 1 * l.val = 0 + l.val; omega)))
      · rw [pay7, at1 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 512 + 1 * l.val = 512 + l.val; omega)))
      · rw [pay10, at2 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1024 + 1 * l.val = 1024 + l.val; omega)))

/-- The scratch read back whole. -/
theorem whole_read (L : List (View.Piece (Elt Ideal) S1024x1536 .f32)) :
    (View.whole cc0_scratch0).readCov L (Rect.unit (s := S1024x1536) ![0, 0] ![1024, 1536] inb_S1024x1536_S1024x1536_0_0).toLoadRect = View.canon L := by
  rw [View.readCov_eq_canon']
  funext y
  refine congrArg (View.canon L) (funext fun a => Fin.ext ?_)
  match a with
  | ⟨0, _⟩ => show 0 + 1 * (y 0).val = (y 0).val; omega
  | ⟨1, _⟩ => show 0 + 1 * (y 1).val = (y 1).val; omega

theorem last (t : Fin cfg0.N) (h3 : t.val = 3) : ((outsAt0 m c t.val t.isLt).1 : FVec Ideal S1024x1536 .bf16) = k0_pay1 (F := Ideal) (upto m c t.val) := by
  rw [← acc m c t.val t.isLt]
  have e := outsAt0_C m c t (by omega) (by omega) (by omega) (by omega) (by omega) (by omega) (by omega)
  rw [show outsAt0 m c t.val t.isLt = _ from e]
  frame_out
  rw [whole_read]

theorem arr : (dats m 0 c).arrAt 4 cfg0.N = prod (xA m c) (pA m c) (qA m c) (rA m c) := by
  refine (dats m 0 c).arrAt_eq_of_covers 4 _ (by decide +kernel) fun t hf y => ?_
  have hN := lt t
  have h3 : t.val = 3 := by
    have h5 := (flush0_4 t).mp hf
    omega
  obtain ⟨k, l, rfl⟩ : ∃ (k : Fin 1024) (l : Fin 1536), y = ix2 k l := ⟨y 0, y 1, (ix2_eta y).symm⟩
  have hk := k.isLt
  have hl := l.isLt
  have e : (win0_4.blk t).view.emb (ix2 k l) = ix2 (n0 := 1024) (n1 := 1536) k l := by
    blk_ext [idx t]
  refine Eq.trans ?_ (congrArg (prod _ _ _ _) e.symm)
  show ((dats m 0 c).after 4 t : FVec Ideal S1024x1536 .bf16) (ix2 k l) = _
  rw [after0_4, last m c t h3]
  unfold k0_pay1
  show upto m c t.val (ix2 k l) = _
  rw [h3]
  unfold upto prod
  exact sum_onNat _

end Cert.WinDilIdeal.Prod

namespace Cert.WinDilRefIdeal.Prod

open Cert.WinDilRefIdeal Cert.WinDilRefIdeal.Gen Cert.WinDilRefIdeal.Read Idealize.ShloMosaic Idealize.ShloMosaic.TcCoe Idealize.SL.Sem
open Cert.WinDilIdeal.Prod
open scoped BigOperators

variable (x0 : (⟨S8192x1024, .bf16⟩ : BufTy).Contents (Elt Ideal)) (x2 : (⟨S8192x512, .bf16⟩ : BufTy).Contents (Elt Ideal)) (x3 : (⟨S8192x512, .bf16⟩ : BufTy).Contents (Elt Ideal)) (x4 : (⟨S8192x512, .bf16⟩ : BufTy).Contents (Elt Ideal))

theorem v0 (t : Fin 8192) (l : Fin 1536) : val_main_v0 (F := Ideal) x2 x3 x4 (ix2 (n0 := 8192) (n1 := 1536) t l) = cols x2 x3 x4 t l := by
  unfold val_main_v0 cols
  by_cases h0 : l.val < 512
  · rw [dif_pos h0]
    exact concatenate_apply_piece (t := S8192x1536) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩] concatenates_S8192x512_S8192x512_S8192x512_S8192x1536_d1
      (ix2 (n0 := 8192) (n1 := 1536) t l) 0 (show 0 < 3 by decide) S8192x512 x2 rfl rfl 0 rfl
      (ix2 (n0 := 8192) (n1 := 512) t ⟨l.val, by omega⟩) (fun b hb => by
        match b with
        | ⟨0, _⟩ => rfl
        | ⟨1, _⟩ => exact absurd rfl hb) (by show 0 + (l.val) = l.val; omega)
  · rw [dif_neg h0]
    by_cases h1 : l.val < 1024
    · rw [dif_pos h1]
      exact concatenate_apply_piece (t := S8192x1536) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩] concatenates_S8192x512_S8192x512_S8192x512_S8192x1536_d1
        (ix2 (n0 := 8192) (n1 := 1536) t l) 1 (show 1 < 3 by decide) S8192x512 x3 rfl rfl 512 rfl
        (ix2 (n0 := 8192) (n1 := 512) t ⟨l.val - 512, by omega⟩) (fun b hb => by
          match b with
          | ⟨0, _⟩ => rfl
          | ⟨1, _⟩ => exact absurd rfl hb) (by show 512 + (l.val - 512) = l.val; omega)
    · rw [dif_neg h1]
      exact concatenate_apply_piece (t := S8192x1536) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩] concatenates_S8192x512_S8192x512_S8192x512_S8192x1536_d1
        (ix2 (n0 := 8192) (n1 := 1536) t l) 2 (show 2 < 3 by decide) S8192x512 x4 rfl rfl 1024 rfl
        (ix2 (n0 := 8192) (n1 := 512) t ⟨l.val - 1024, by omega⟩) (fun b hb => by
          match b with
          | ⟨0, _⟩ => rfl
          | ⟨1, _⟩ => exact absurd rfl hb) (by show 1024 + (l.val - 1024) = l.val; omega)

theorem v7 (i : S1024x1536.Idx) : val_main_v7 (F := Ideal) x0 x2 x3 x4 i = prod x0 x2 x3 x4 i := by
  rw [val_main_v7_apply, val_main_v6_apply]
  refine (val_main_v5_apply x0 x2 x3 x4 (idx_main_v6 i)).trans (Finset.sum_congr rfl fun t _ => (mul_comm _ _).trans (congrArg₂ (fun p q : EReal => p * q) ?_ ?_))
  · exact congrArg x0 (funext fun a => Fin.ext (by match a with | ⟨0, _⟩ => rfl | ⟨1, _⟩ => rfl))
  · refine Eq.trans ?_ (v0 x2 x3 x4 t (i 1))
    exact congrArg (val_main_v0 (F := Ideal) x2 x3 x4) (funext fun a => Fin.ext (by match a with | ⟨0, _⟩ => rfl | ⟨1, _⟩ => rfl))

end Cert.WinDilRefIdeal.Prod

namespace Cert.WinDilIdeal.Prod

open Cert.WinDilIdeal Cert.WinDilIdeal.Gen Idealize.ShloMosaic Idealize.ShloMosaic.TcCoe Idealize.SL.Sem

theorem frame_p : Cert.quiescent_WinDil (hWinDil := Cert.WinDil.Gen.facts) := fun m ρ _ => Cert.WinDil.Gen.frame m ρ

theorem frame_pi : Cert.quiescent_WinDilIdeal (hWinDilIdeal := Cert.WinDilIdeal.Gen.facts) := fun m ρ _ => Cert.WinDilIdeal.Gen.frame m ρ

/-- The reference's frame: host operations only, no semaphore. -/
theorem frame_ri : Cert.quiescent_WinDilRefIdeal (hWinDilRefIdeal := Cert.WinDilRefIdeal.Gen.facts) := fun m ρ _ =>
  (θ_run (Cert.WinDilRefIdeal.defs (F := Ideal)) _ _).mono (fun r h => ⟨fun c => (h c).2, Idealize.ShloMosaic.sem_eq_zero_of_no_sems (by decide) r.2⟩)
    (Cert.WinDilRefIdeal.Value.run (F := Ideal) m ρ)

theorem algebraic : Cert.algebraic_WinDilIdeal_WinDilRefIdeal (hWinDilIdeal := Cert.WinDilIdeal.Gen.facts) (hWinDilRefIdeal := Cert.WinDilRefIdeal.Gen.facts) := by
  intro m ρ m' ρ' _ hagree
  refine ⟨_, Cert.WinDilIdeal.Value.run_blocks m ρ, ?_⟩
  refine (θ_run (Cert.WinDilRefIdeal.defs (F := Ideal)) _ _).mono (fun r h c => ?_) (Cert.WinDilRefIdeal.Value.run (F := Ideal) m' ρ')
  obtain ⟨e0, e1, e2, e3, e4⟩ := hagree c
  obtain ⟨h0, k⟩ := h c
  refine ⟨h0.trans ?_, k⟩
  refine (Cert.WinDilRefIdeal.Read.val_main_v7_eq _ _ _ _).trans ?_
  rw [e0, e2, e3, e4, arr m c]
  exact funext fun i => Cert.WinDilRefIdeal.Prod.v7 _ _ _ _ i

end Cert.WinDilIdeal.Prod

end
-- ==== Proof.Prod.WinFox.lean ====
/-
  The input weight's gradient of the forgetting attention's columns: blocks of tokens added up in a scratch, piece by piece of columns.
-/
module

public import proofs.«01_k».proof.Defs
public import proofs.«01_k».proof.Proof.Gen.WinFox.Frame
public import proofs.«01_k».proof.Proof.Gen.WinFoxIdeal.Value
public import proofs.«01_k».proof.Proof.Gen.WinFoxRefIdeal.Run
public import proofs.«01_k».proof.Proof.Gen.WinFoxRefIdeal.Read
public import proofs.«01_k».proof.Proof.Rms.Row
public import proofs.«01_k».proof.Proof.Fox.Tile
public import Idealize.ShloMosaic.Lib.Pipeline.ValueKit
public import Idealize.ShloMosaic.Lib.Pipeline.ReadBack
public import Idealize.ShloMosaic.Lib.Claim

@[expose] public section

set_option maxRecDepth 16384

noncomputable section

namespace Cert.WinFoxIdeal.Prod

open Cert.WinFoxIdeal Cert.WinFoxIdeal.Gen Idealize.ShloMosaic Idealize.ShloMosaic.TcCoe Idealize.SL.Sem
open Cert.Rms
open scoped BigOperators

/-- The gradients of the projected columns, side by side. -/
def cols (p : FVec Ideal S8192x512 .bf16) (q : FVec Ideal S8192x512 .bf16) (r : FVec Ideal S8192x512 .bf16) (g : FVec Ideal S8192x128 .bf16) (t : Fin 8192) (l : Fin 1664) : EReal :=
  if h0 : l.val < 512 then p (ix2 (n0 := 8192) (n1 := 512) t ⟨l.val, by omega⟩)
  else if h1 : l.val < 1024 then q (ix2 (n0 := 8192) (n1 := 512) t ⟨l.val - 512, by omega⟩)
  else if h2 : l.val < 1536 then r (ix2 (n0 := 8192) (n1 := 512) t ⟨l.val - 1024, by omega⟩)
  else g (ix2 (n0 := 8192) (n1 := 128) t ⟨l.val - 1536, by omega⟩)

/-- The weight's gradient. -/
def prod (x : FVec Ideal S8192x1024 .bf16) (p : FVec Ideal S8192x512 .bf16) (q : FVec Ideal S8192x512 .bf16) (r : FVec Ideal S8192x512 .bf16) (g : FVec Ideal S8192x128 .bf16) : FVec Ideal S1024x1664 .bf16 :=
  fun i => ∑ t : Fin 8192, x (ix2 (n0 := 8192) (n1 := 1024) t (i 0)) * cols p q r g t (i 1)

/-! A block of tokens' part, piece by piece of columns. -/

theorem pay4 (a : FVec Ideal S2048x1024 .bf16) (b : FVec Ideal S2048x512 .bf16) (k : Fin 1024) (l : Fin 512) :
    k0_pay4 (F := Ideal) a b (ix2 k l) = ∑ s : Fin 2048, a (ix2 s k) * b (ix2 s l) := by
  unfold k0_pay4
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay5 (a : FVec Ideal S2048x1024 .bf16) (b : FVec Ideal S2048x512 .bf16) (k : Fin 1024) (l : Fin 512) :
    k0_pay5 (F := Ideal) a b (ix2 k l) = k0_pay4 (F := Ideal) a b (ix2 k l) := by
  unfold k0_pay5
  generalize k0_pay4 (F := Ideal) a b = d
  pointwise

theorem pay6 (a : FVec Ideal S2048x1024 .bf16) (b : FVec Ideal S2048x512 .bf16) (v : FVec Ideal S1024x512 .f32) (k : Fin 1024) (l : Fin 512) :
    k0_pay6 (F := Ideal) a b v (ix2 k l) = (v (ix2 k l) : EReal) + k0_pay4 (F := Ideal) a b (ix2 k l) := by
  unfold k0_pay6
  generalize k0_pay4 (F := Ideal) a b = d
  pointwise

theorem pay7 (a : FVec Ideal S2048x1024 .bf16) (b : FVec Ideal S2048x512 .bf16) (k : Fin 1024) (l : Fin 512) :
    k0_pay7 (F := Ideal) a b (ix2 k l) = ∑ s : Fin 2048, a (ix2 s k) * b (ix2 s l) := by
  unfold k0_pay7
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay8 (a : FVec Ideal S2048x1024 .bf16) (b : FVec Ideal S2048x512 .bf16) (k : Fin 1024) (l : Fin 512) :
    k0_pay8 (F := Ideal) a b (ix2 k l) = k0_pay7 (F := Ideal) a b (ix2 k l) := by
  unfold k0_pay8
  generalize k0_pay7 (F := Ideal) a b = d
  pointwise

theorem pay9 (a : FVec Ideal S2048x1024 .bf16) (b : FVec Ideal S2048x512 .bf16) (v : FVec Ideal S1024x512 .f32) (k : Fin 1024) (l : Fin 512) :
    k0_pay9 (F := Ideal) a b v (ix2 k l) = (v (ix2 k l) : EReal) + k0_pay7 (F := Ideal) a b (ix2 k l) := by
  unfold k0_pay9
  generalize k0_pay7 (F := Ideal) a b = d
  pointwise

theorem pay10 (a : FVec Ideal S2048x1024 .bf16) (b : FVec Ideal S2048x512 .bf16) (k : Fin 1024) (l : Fin 512) :
    k0_pay10 (F := Ideal) a b (ix2 k l) = ∑ s : Fin 2048, a (ix2 s k) * b (ix2 s l) := by
  unfold k0_pay10
  show FloatOps.matmul (Cert.KernelIdeal.Fox.dotTN 1024 2048 512) none a b (constant S1024x512 .f32 0x00000000#32) (ix2 k l) = _
  exact (Cert.KernelIdeal.Fox.matmul_dotTN_apply _ _ _ _ _ _).trans ((congrArg₂ (· + ·) Ideal.ofBits_zero_f32 rfl).trans (zero_add _))

theorem pay11 (a : FVec Ideal S2048x1024 .bf16) (b : FVec Ideal S2048x512 .bf16) (k : Fin 1024) (l : Fin 512) :
    k0_pay11 (F := Ideal) a b (ix2 k l) = k0_pay10 (F := Ideal) a b (ix2 k l) := by
  unfold k0_pay11
  generalize k0_pay10 (F := Ideal) a b = d
  pointwise

theorem pay12 (a : FVec Ideal S2048x1024 .bf16) (b : FVec Ideal S2048x512 .bf16) (v : FVec Ideal S1024x512 .f32) (k : Fin 1024) (l : Fin 512) :
    k0_pay12 (F := Ideal) a b v (ix2 k l) = (v (ix2 k l) : EReal) + k0_pay10 (F := Ideal) a b (ix2 k l) := by
  unfold k0_pay12
  generalize k0_pay10 (F := Ideal) a b = d
  pointwise

theorem pay13 (a : FVec Ideal S2048x1024 .bf16) (b : FVec Ideal S2048x128 .bf16) (k : Fin 1024) (l : Fin 128) :
    k0_pay13 (F := Ideal) a b (ix2 k l) = ∑ s : Fin 2048, a (ix2 s k) * b (ix2 s l) := by
  unfold k0_pay13
  show FloatOps.matmul (Cert.KernelIdeal.Fox.dotTN 1024 2048 128) none a b (constant S1024x128 .f32 0x00000000#32) (ix2 k l) = _
  exact (Cert.KernelIdeal.Fox.matmul_dotTN_apply _ _ _ _ _ _).trans ((congrArg₂ (· + ·) Ideal.ofBits_zero_f32 rfl).trans (zero_add _))

theorem pay1 (d : FVec Ideal S1024x128 .f32) (k : Fin 1024) (l : Fin 128) : k0_pay1 (F := Ideal) d (ix2 k l) = d (ix2 k l) := by
  unfold k0_pay1
  pointwise

theorem pay2 (d v : FVec Ideal S1024x128 .f32) (k : Fin 1024) (l : Fin 128) :
    k0_pay2 (F := Ideal) d v (ix2 k l) = (v (ix2 k l) : EReal) + d (ix2 k l) := by
  unfold k0_pay2
  pointwise

variable (m : (ℓ : Loc nD τ sig) → Buf (Elt Ideal) ℓ) (c : Dev nD)

/-- Every window's block index. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] :=
  (by decide +kernel : ∀ t : Fin grid0.N, _)

theorem lt : ∀ t : Fin cfg0.N, t.val < 4 := (by decide +kernel : ∀ t : Fin grid0.N, t.val < 4)

theorem read0 (t : Fin cfg0.N) (s : Fin 2048) (k : Fin 1024) (x : FVec Ideal S8192x1024 .bf16) (ht : t.val < 4) :
    (win0_0.blk t).view.read (Elt Ideal) x (ix2 s k) = x (ix2 (n0 := 8192) (n1 := 1024) ⟨2048 * t.val + s.val, by omega⟩ k) := by
  have hs := s.isLt
  have hk := k.isLt
  blk_ext [idx t]

theorem read1 (t : Fin cfg0.N) (s : Fin 2048) (k : Fin 512) (x : FVec Ideal S8192x512 .bf16) (ht : t.val < 4) :
    (win0_1.blk t).view.read (Elt Ideal) x (ix2 s k) = x (ix2 (n0 := 8192) (n1 := 512) ⟨2048 * t.val + s.val, by omega⟩ k) := by
  have hs := s.isLt
  have hk := k.isLt
  blk_ext [idx t]

theorem read2 (t : Fin cfg0.N) (s : Fin 2048) (k : Fin 512) (x : FVec Ideal S8192x512 .bf16) (ht : t.val < 4) :
    (win0_2.blk t).view.read (Elt Ideal) x (ix2 s k) = x (ix2 (n0 := 8192) (n1 := 512) ⟨2048 * t.val + s.val, by omega⟩ k) := by
  have hs := s.isLt
  have hk := k.isLt
  blk_ext [idx t]

theorem read3 (t : Fin cfg0.N) (s : Fin 2048) (k : Fin 512) (x : FVec Ideal S8192x512 .bf16) (ht : t.val < 4) :
    (win0_3.blk t).view.read (Elt Ideal) x (ix2 s k) = x (ix2 (n0 := 8192) (n1 := 512) ⟨2048 * t.val + s.val, by omega⟩ k) := by
  have hs := s.isLt
  have hk := k.isLt
  blk_ext [idx t]

theorem read4 (t : Fin cfg0.N) (s : Fin 2048) (k : Fin 128) (x : FVec Ideal S8192x128 .bf16) (ht : t.val < 4) :
    (win0_4.blk t).view.read (Elt Ideal) x (ix2 s k) = x (ix2 (n0 := 8192) (n1 := 128) ⟨2048 * t.val + s.val, by omega⟩ k) := by
  have hs := s.isLt
  have hk := k.isLt
  blk_ext [idx t]

/-- The arrays the call reads. -/
abbrev xA : FVec Ideal S8192x1024 .bf16 := m ((c : Thread nD τ).loc main_arg0)

abbrev pA : FVec Ideal S8192x512 .bf16 := m ((c : Thread nD τ).loc main_arg2)

abbrev qA : FVec Ideal S8192x512 .bf16 := m ((c : Thread nD τ).loc main_arg3)

abbrev rA : FVec Ideal S8192x512 .bf16 := m ((c : Thread nD τ).loc main_arg4)

abbrev gA : FVec Ideal S8192x128 .bf16 := m ((c : Thread nD τ).loc main_arg5)

theorem iblk0 (t : Fin cfg0.N) : iblk m c 0 t = (win0_0.blk t).view.read (Elt Ideal) (xA m c) := rfl

theorem iblk1 (t : Fin cfg0.N) : iblk m c 1 t = (win0_1.blk t).view.read (Elt Ideal) (pA m c) := rfl

theorem iblk2 (t : Fin cfg0.N) : iblk m c 2 t = (win0_2.blk t).view.read (Elt Ideal) (qA m c) := rfl

theorem iblk3 (t : Fin cfg0.N) : iblk m c 3 t = (win0_3.blk t).view.read (Elt Ideal) (rA m c) := rfl

theorem iblk4 (t : Fin cfg0.N) : iblk m c 4 t = (win0_4.blk t).view.read (Elt Ideal) (gA m c) := rfl

/-- What the points up to one have added up. -/
def upto (n : ℕ) : FVec Ideal S1024x1664 .f32 := fun i =>
  ∑ r ∈ Finset.range (2048 * n + 2048), onNat (fun t : Fin 8192 => xA m c (ix2 (n0 := 8192) (n1 := 1024) t (i 0)) * cols (pA m c) (qA m c) (rA m c) (gA m c) t (i 1)) r

theorem upto_zero (k : Fin 1024) (l : Fin 1664) : upto m c 0 (ix2 k l)
    = ∑ s : Fin 2048, xA m c (ix2 (n0 := 8192) (n1 := 1024) ⟨2048 * 0 + s.val, by omega⟩ k) * cols (pA m c) (qA m c) (rA m c) (gA m c) ⟨2048 * 0 + s.val, by omega⟩ l := by
  unfold upto
  exact (sum_tile _ (2048 * 0) (by omega)).trans ((congrArg₂ (fun p q : EReal => p + q) (Finset.sum_range_zero _) rfl).trans (zero_add _))

theorem upto_succ (n : ℕ) (h : n + 1 < 4) (k : Fin 1024) (l : Fin 1664) : upto m c (n + 1) (ix2 k l)
    = (upto m c n (ix2 k l) : EReal) + ∑ s : Fin 2048, xA m c (ix2 (n0 := 8192) (n1 := 1024) ⟨2048 * (n + 1) + s.val, by omega⟩ k)
        * cols (pA m c) (qA m c) (rA m c) (gA m c) ⟨2048 * (n + 1) + s.val, by omega⟩ l := by
  unfold upto
  exact sum_tile _ _ (by omega)

theorem cols0 (t : Fin 8192) (l : Fin 512) : cols (pA m c) (qA m c) (rA m c) (gA m c) t ⟨0 + l.val, by omega⟩ = pA m c (ix2 (n0 := 8192) (n1 := 512) t l) := by
  unfold cols
  rw [dif_pos (show 0 + l.val < 512 by omega)]
  exact congrArg (pA m c) (congrArg (ix2 t) (Fin.ext (by show _ = l.val; simp)))

theorem at0 (t : Fin cfg0.N) (ht : t.val < 4) (k : Fin 1024) (l : Fin 512) :
    k0_pay4 (F := Ideal) (iblk m c 0 t) (iblk m c 1 t) (ix2 k l)
      = ∑ s : Fin 2048, xA m c (ix2 (n0 := 8192) (n1 := 1024) ⟨2048 * t.val + s.val, by omega⟩ k)
          * cols (pA m c) (qA m c) (rA m c) (gA m c) ⟨2048 * t.val + s.val, by omega⟩ ⟨0 + l.val, by omega⟩ := by
  rw [pay4]
  refine Finset.sum_congr rfl fun s _ => ?_
  rw [iblk0, iblk1, cols0]
  exact congrArg₂ (fun p q : EReal => p * q) (read0 t s k _ ht) (read1 t s l _ ht)

theorem cols1 (t : Fin 8192) (l : Fin 512) : cols (pA m c) (qA m c) (rA m c) (gA m c) t ⟨512 + l.val, by omega⟩ = qA m c (ix2 (n0 := 8192) (n1 := 512) t l) := by
  unfold cols
  rw [dif_neg (show ¬(512 + l.val < 512) by omega), dif_pos (show 512 + l.val < 1024 by omega)]
  exact congrArg (qA m c) (congrArg (ix2 t) (Fin.ext (by show _ = l.val; simp)))

theorem at1 (t : Fin cfg0.N) (ht : t.val < 4) (k : Fin 1024) (l : Fin 512) :
    k0_pay7 (F := Ideal) (iblk m c 0 t) (iblk m c 2 t) (ix2 k l)
      = ∑ s : Fin 2048, xA m c (ix2 (n0 := 8192) (n1 := 1024) ⟨2048 * t.val + s.val, by omega⟩ k)
          * cols (pA m c) (qA m c) (rA m c) (gA m c) ⟨2048 * t.val + s.val, by omega⟩ ⟨512 + l.val, by omega⟩ := by
  rw [pay7]
  refine Finset.sum_congr rfl fun s _ => ?_
  rw [iblk0, iblk2, cols1]
  exact congrArg₂ (fun p q : EReal => p * q) (read0 t s k _ ht) (read2 t s l _ ht)

theorem cols2 (t : Fin 8192) (l : Fin 512) : cols (pA m c) (qA m c) (rA m c) (gA m c) t ⟨1024 + l.val, by omega⟩ = rA m c (ix2 (n0 := 8192) (n1 := 512) t l) := by
  unfold cols
  rw [dif_neg (show ¬(1024 + l.val < 512) by omega), dif_neg (show ¬(1024 + l.val < 1024) by omega), dif_pos (show 1024 + l.val < 1536 by omega)]
  exact congrArg (rA m c) (congrArg (ix2 t) (Fin.ext (by show _ = l.val; simp)))

theorem at2 (t : Fin cfg0.N) (ht : t.val < 4) (k : Fin 1024) (l : Fin 512) :
    k0_pay10 (F := Ideal) (iblk m c 0 t) (iblk m c 3 t) (ix2 k l)
      = ∑ s : Fin 2048, xA m c (ix2 (n0 := 8192) (n1 := 1024) ⟨2048 * t.val + s.val, by omega⟩ k)
          * cols (pA m c) (qA m c) (rA m c) (gA m c) ⟨2048 * t.val + s.val, by omega⟩ ⟨1024 + l.val, by omega⟩ := by
  rw [pay10]
  refine Finset.sum_congr rfl fun s _ => ?_
  rw [iblk0, iblk3, cols2]
  exact congrArg₂ (fun p q : EReal => p * q) (read0 t s k _ ht) (read3 t s l _ ht)

theorem cols3 (t : Fin 8192) (l : Fin 128) : cols (pA m c) (qA m c) (rA m c) (gA m c) t ⟨1536 + l.val, by omega⟩ = gA m c (ix2 (n0 := 8192) (n1 := 128) t l) := by
  unfold cols
  rw [dif_neg (show ¬(1536 + l.val < 512) by omega), dif_neg (show ¬(1536 + l.val < 1024) by omega), dif_neg (show ¬(1536 + l.val < 1536) by omega)]
  exact congrArg (gA m c) (congrArg (ix2 t) (Fin.ext (by show _ = l.val; simp)))

theorem at3 (t : Fin cfg0.N) (ht : t.val < 4) (k : Fin 1024) (l : Fin 128) :
    k0_pay13 (F := Ideal) (iblk m c 0 t) (iblk m c 4 t) (ix2 k l)
      = ∑ s : Fin 2048, xA m c (ix2 (n0 := 8192) (n1 := 1024) ⟨2048 * t.val + s.val, by omega⟩ k)
          * cols (pA m c) (qA m c) (rA m c) (gA m c) ⟨2048 * t.val + s.val, by omega⟩ ⟨1536 + l.val, by omega⟩ := by
  rw [pay13]
  refine Finset.sum_congr rfl fun s _ => ?_
  rw [iblk0, iblk4, cols3]
  exact congrArg₂ (fun p q : EReal => p * q) (read0 t s k _ ht) (read4 t s l _ ht)

/-- The pieces written side by side are one array. -/
theorem fill (a0 : FVec Ideal S1024x512 .f32) (a1 : FVec Ideal S1024x512 .f32) (a2 : FVec Ideal S1024x512 .f32) (a3 : FVec Ideal S1024x128 .f32) (G : FVec Ideal S1024x1664 .f32)
    (h0 : ∀ (k : Fin 1024) (l : Fin 512), (a0 (ix2 k l) : EReal) = G (ix2 (n0 := 1024) (n1 := 1664) k ⟨0 + l.val, by omega⟩))
    (h1 : ∀ (k : Fin 1024) (l : Fin 512), (a1 (ix2 k l) : EReal) = G (ix2 (n0 := 1024) (n1 := 1664) k ⟨512 + l.val, by omega⟩))
    (h2 : ∀ (k : Fin 1024) (l : Fin 512), (a2 (ix2 k l) : EReal) = G (ix2 (n0 := 1024) (n1 := 1664) k ⟨1024 + l.val, by omega⟩))
    (h3 : ∀ (k : Fin 1024) (l : Fin 128), (a3 (ix2 k l) : EReal) = G (ix2 (n0 := 1024) (n1 := 1664) k ⟨1536 + l.val, by omega⟩)) :
    (View.canon (Val := Elt Ideal) (s := S1024x1664) (e := .f32)
      [⟨Rect.unit (s := S1024x1664) ![0, 1536] ![1024, 128] inb_S1024x1664_S1024x128_0_1536, a3⟩,
        ⟨Rect.unit (s := S1024x1664) ![0, 1024] ![1024, 512] inb_S1024x1664_S1024x512_0_1024, a2⟩,
        ⟨Rect.unit (s := S1024x1664) ![0, 512] ![1024, 512] inb_S1024x1664_S1024x512_0_512, a1⟩,
        ⟨Rect.unit (s := S1024x1664) ![0, 0] ![1024, 512] inb_S1024x1664_S1024x512_0_0, a0⟩] : FVec Ideal S1024x1664 .f32) = G := by
  funext y
  refine View.canon_apply_of_pieces (Val := Elt Ideal) (e := .f32) G _ (fun p hp x => ?_) y (View.cover_of_tiledBy _ ![1024, 128] (by sl_kernel_rfl) y)
  simp only [List.mem_cons, List.not_mem_nil, or_false] at hp
  rcases hp with rfl | rfl | rfl | rfl
  · obtain ⟨k, l, rfl⟩ : ∃ (k : Fin 1024) (l : Fin 128), x = ix2 k l := ⟨x 0, x 1, (ix2_eta x).symm⟩
    exact (h3 k l).trans (congrArg G (funext fun a => Fin.ext (by
      match a with
      | ⟨0, _⟩ => show k.val = 0 + 1 * k.val; omega
      | ⟨1, _⟩ => show 1536 + l.val = 1536 + 1 * l.val; omega)))
  · obtain ⟨k, l, rfl⟩ : ∃ (k : Fin 1024) (l : Fin 512), x = ix2 k l := ⟨x 0, x 1, (ix2_eta x).symm⟩
    exact (h2 k l).trans (congrArg G (funext fun a => Fin.ext (by
      match a with
      | ⟨0, _⟩ => show k.val = 0 + 1 * k.val; omega
      | ⟨1, _⟩ => show 1024 + l.val = 1024 + 1 * l.val; omega)))
  · obtain ⟨k, l, rfl⟩ : ∃ (k : Fin 1024) (l : Fin 512), x = ix2 k l := ⟨x 0, x 1, (ix2_eta x).symm⟩
    exact (h1 k l).trans (congrArg G (funext fun a => Fin.ext (by
      match a with
      | ⟨0, _⟩ => show k.val = 0 + 1 * k.val; omega
      | ⟨1, _⟩ => show 512 + l.val = 512 + 1 * l.val; omega)))
  · obtain ⟨k, l, rfl⟩ : ∃ (k : Fin 1024) (l : Fin 512), x = ix2 k l := ⟨x 0, x 1, (ix2_eta x).symm⟩
    exact (h0 k l).trans (congrArg G (funext fun a => Fin.ext (by
      match a with
      | ⟨0, _⟩ => show k.val = 0 + 1 * k.val; omega
      | ⟨1, _⟩ => show 0 + l.val = 0 + 1 * l.val; omega)))

/-- The scratch after a point. -/
theorem acc : ∀ (n : ℕ) (h : n < cfg0.N), ((outsAt0 m c n h).2 : FVec Ideal S1024x1664 .f32) = upto m c n
  | 0, h => by
    have e := outsAt0_A m c ⟨0, h⟩ rfl (by norm_num) rfl (by norm_num) rfl (by norm_num) rfl (by norm_num) (by norm_num)
    rw [show outsAt0 m c 0 h = _ from e]
    frame_out
    refine fill _ _ _ _ _ (fun k l => ?_) (fun k l => ?_) (fun k l => ?_) (fun k l => ?_)
    · rw [pay5]
      exact (at0 m c ⟨0, h⟩ (by norm_num) k l).trans (upto_zero m c k _).symm
    · rw [pay8]
      exact (at1 m c ⟨0, h⟩ (by norm_num) k l).trans (upto_zero m c k _).symm
    · rw [pay11]
      exact (at2 m c ⟨0, h⟩ (by norm_num) k l).trans (upto_zero m c k _).symm
    · rw [pay1]
      exact (at3 m c ⟨0, h⟩ (by norm_num) k l).trans (upto_zero m c k _).symm
  | n + 1, h => by
    have ht' : n + 1 < 4 := lt ⟨n + 1, h⟩
    have ih := acc n (Nat.lt_of_succ_lt h)
    by_cases h3 : (n + 1) % 4 = 3
    · have e := outsAt0_C m c ⟨n + 1, h⟩ (by show ¬(n + 1) % 4 = 0; omega) (by show 1 ≤ n + 1; omega) (by show ¬(n + 1) % 4 = 0; omega) (by show 1 ≤ n + 1; omega) (by show ¬(n + 1) % 4 = 0; omega) (by show 1 ≤ n + 1; omega) (by show ¬(n + 1) % 4 = 0; omega) (by show 1 ≤ n + 1; omega) h3
      rw [show outsAt0 m c (n + 1) h = _ from e]
      frame_out
      simp only [Nat.add_sub_cancel, read_unread_whole, ih]
      refine fill _ _ _ _ _ (fun k l => ?_) (fun k l => ?_) (fun k l => ?_) (fun k l => ?_)
      · rw [pay6, at0 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 0 + 1 * l.val = 0 + l.val; omega)))
      · rw [pay9, at1 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 512 + 1 * l.val = 512 + l.val; omega)))
      · rw [pay12, at2 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1024 + 1 * l.val = 1024 + l.val; omega)))
      · rw [pay2, at3 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1536 + 1 * l.val = 1536 + l.val; omega)))
    · have e := outsAt0_B m c ⟨n + 1, h⟩ (by show ¬(n + 1) % 4 = 0; omega) (by show 1 ≤ n + 1; omega) (by show ¬(n + 1) % 4 = 0; omega) (by show 1 ≤ n + 1; omega) (by show ¬(n + 1) % 4 = 0; omega) (by show 1 ≤ n + 1; omega) (by show ¬(n + 1) % 4 = 0; omega) (by show 1 ≤ n + 1; omega) h3
      rw [show outsAt0 m c (n + 1) h = _ from e]
      frame_out
      simp only [Nat.add_sub_cancel, read_unread_whole, ih]
      refine fill _ _ _ _ _ (fun k l => ?_) (fun k l => ?_) (fun k l => ?_) (fun k l => ?_)
      · rw [pay6, at0 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 0 + 1 * l.val = 0 + l.val; omega)))
      · rw [pay9, at1 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 512 + 1 * l.val = 512 + l.val; omega)))
      · rw [pay12, at2 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1024 + 1 * l.val = 1024 + l.val; omega)))
      · rw [pay2, at3 m c ⟨n + 1, h⟩ ht' k l, upto_succ m c n ht' k _]
        refine congrArg₂ (fun p q : EReal => p + q) ?_ rfl
        exact (congrArg (upto m c n) (funext fun a => Fin.ext (by
          match a with
          | ⟨0, _⟩ => show 0 + 1 * k.val = k.val; omega
          | ⟨1, _⟩ => show 1536 + 1 * l.val = 1536 + l.val; omega)))

/-- The scratch read back whole. -/
theorem whole_read (L : List (View.Piece (Elt Ideal) S1024x1664 .f32)) :
    (View.whole cc0_scratch0).readCov L (Rect.unit (s := S1024x1664) ![0, 0] ![1024, 1664] inb_S1024x1664_S1024x1664_0_0).toLoadRect = View.canon L := by
  rw [View.readCov_eq_canon']
  funext y
  refine congrArg (View.canon L) (funext fun a => Fin.ext ?_)
  match a with
  | ⟨0, _⟩ => show 0 + 1 * (y 0).val = (y 0).val; omega
  | ⟨1, _⟩ => show 0 + 1 * (y 1).val = (y 1).val; omega

theorem last (t : Fin cfg0.N) (h3 : t.val = 3) : ((outsAt0 m c t.val t.isLt).1 : FVec Ideal S1024x1664 .bf16) = k0_pay3 (F := Ideal) (upto m c t.val) := by
  rw [← acc m c t.val t.isLt]
  have e := outsAt0_C m c t (by omega) (by omega) (by omega) (by omega) (by omega) (by omega) (by omega) (by omega) (by omega)
  rw [show outsAt0 m c t.val t.isLt = _ from e]
  frame_out
  rw [whole_read]

theorem arr : (dats m 0 c).arrAt 5 cfg0.N = prod (xA m c) (pA m c) (qA m c) (rA m c) (gA m c) := by
  refine (dats m 0 c).arrAt_eq_of_covers 5 _ (by decide +kernel) fun t hf y => ?_
  have hN := lt t
  have h3 : t.val = 3 := by
    have h5 := (flush0_5 t).mp hf
    omega
  obtain ⟨k, l, rfl⟩ : ∃ (k : Fin 1024) (l : Fin 1664), y = ix2 k l := ⟨y 0, y 1, (ix2_eta y).symm⟩
  have hk := k.isLt
  have hl := l.isLt
  have e : (win0_5.blk t).view.emb (ix2 k l) = ix2 (n0 := 1024) (n1 := 1664) k l := by
    blk_ext [idx t]
  refine Eq.trans ?_ (congrArg (prod _ _ _ _ _) e.symm)
  show ((dats m 0 c).after 5 t : FVec Ideal S1024x1664 .bf16) (ix2 k l) = _
  rw [after0_5, last m c t h3]
  unfold k0_pay3
  show upto m c t.val (ix2 k l) = _
  rw [h3]
  unfold upto prod
  exact sum_onNat _

end Cert.WinFoxIdeal.Prod

namespace Cert.WinFoxRefIdeal.Prod

open Cert.WinFoxRefIdeal Cert.WinFoxRefIdeal.Gen Cert.WinFoxRefIdeal.Read Idealize.ShloMosaic Idealize.ShloMosaic.TcCoe Idealize.SL.Sem
open Cert.WinFoxIdeal.Prod
open scoped BigOperators

variable (x0 : (⟨S8192x1024, .bf16⟩ : BufTy).Contents (Elt Ideal)) (x2 : (⟨S8192x512, .bf16⟩ : BufTy).Contents (Elt Ideal)) (x3 : (⟨S8192x512, .bf16⟩ : BufTy).Contents (Elt Ideal)) (x4 : (⟨S8192x512, .bf16⟩ : BufTy).Contents (Elt Ideal)) (x5 : (⟨S8192x128, .bf16⟩ : BufTy).Contents (Elt Ideal))

theorem v0 (t : Fin 8192) (l : Fin 1664) : val_main_v0 (F := Ideal) x2 x3 x4 x5 (ix2 (n0 := 8192) (n1 := 1664) t l) = cols x2 x3 x4 x5 t l := by
  unfold val_main_v0 cols
  by_cases h0 : l.val < 512
  · rw [dif_pos h0]
    exact concatenate_apply_piece (t := S8192x1664) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩, ⟨S8192x128, (x5 : (⟨S8192x128, .bf16⟩ : BufTy).Contents (Elt Ideal))⟩] concatenates_S8192x512_S8192x512_S8192x512_S8192x128_S8192x1664_d1
      (ix2 (n0 := 8192) (n1 := 1664) t l) 0 (show 0 < 4 by decide) S8192x512 x2 rfl rfl 0 rfl
      (ix2 (n0 := 8192) (n1 := 512) t ⟨l.val, by omega⟩) (fun b hb => by
        match b with
        | ⟨0, _⟩ => rfl
        | ⟨1, _⟩ => exact absurd rfl hb) (by show 0 + (l.val) = l.val; omega)
  · rw [dif_neg h0]
    by_cases h1 : l.val < 1024
    · rw [dif_pos h1]
      exact concatenate_apply_piece (t := S8192x1664) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩, ⟨S8192x128, (x5 : (⟨S8192x128, .bf16⟩ : BufTy).Contents (Elt Ideal))⟩] concatenates_S8192x512_S8192x512_S8192x512_S8192x128_S8192x1664_d1
        (ix2 (n0 := 8192) (n1 := 1664) t l) 1 (show 1 < 4 by decide) S8192x512 x3 rfl rfl 512 rfl
        (ix2 (n0 := 8192) (n1 := 512) t ⟨l.val - 512, by omega⟩) (fun b hb => by
          match b with
          | ⟨0, _⟩ => rfl
          | ⟨1, _⟩ => exact absurd rfl hb) (by show 512 + (l.val - 512) = l.val; omega)
    · rw [dif_neg h1]
      by_cases h2 : l.val < 1536
      · rw [dif_pos h2]
        exact concatenate_apply_piece (t := S8192x1664) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩, ⟨S8192x128, (x5 : (⟨S8192x128, .bf16⟩ : BufTy).Contents (Elt Ideal))⟩] concatenates_S8192x512_S8192x512_S8192x512_S8192x128_S8192x1664_d1
          (ix2 (n0 := 8192) (n1 := 1664) t l) 2 (show 2 < 4 by decide) S8192x512 x4 rfl rfl 1024 rfl
          (ix2 (n0 := 8192) (n1 := 512) t ⟨l.val - 1024, by omega⟩) (fun b hb => by
            match b with
            | ⟨0, _⟩ => rfl
            | ⟨1, _⟩ => exact absurd rfl hb) (by show 1024 + (l.val - 1024) = l.val; omega)
      · rw [dif_neg h2]
        exact concatenate_apply_piece (t := S8192x1664) (1 : Fin 2) [⟨S8192x512, (x2 : (⟨S8192x512, .bf16⟩ : BufTy).Contents (Elt Ideal))⟩, ⟨S8192x512, (x3 : (⟨S8192x512, .bf16⟩ : BufTy).Contents (Elt Ideal))⟩, ⟨S8192x512, (x4 : (⟨S8192x512, .bf16⟩ : BufTy).Contents (Elt Ideal))⟩, ⟨S8192x128, (x5 : (⟨S8192x128, .bf16⟩ : BufTy).Contents (Elt Ideal))⟩] concatenates_S8192x512_S8192x512_S8192x512_S8192x128_S8192x1664_d1
          (ix2 (n0 := 8192) (n1 := 1664) t l) 3 (show 3 < 4 by decide) S8192x128 x5 rfl rfl 1536 rfl
          (ix2 (n0 := 8192) (n1 := 128) t ⟨l.val - 1536, by omega⟩) (fun b hb => by
            match b with
            | ⟨0, _⟩ => rfl
            | ⟨1, _⟩ => exact absurd rfl hb) (by show 1536 + (l.val - 1536) = l.val; omega)

theorem v7 (i : S1024x1664.Idx) : val_main_v7 (F := Ideal) x0 x2 x3 x4 x5 i = prod x0 x2 x3 x4 x5 i := by
  rw [val_main_v7_apply, val_main_v6_apply]
  refine (val_main_v5_apply x0 x2 x3 x4 x5 (idx_main_v6 i)).trans (Finset.sum_congr rfl fun t _ => (mul_comm _ _).trans (congrArg₂ (fun p q : EReal => p * q) ?_ ?_))
  · exact congrArg x0 (funext fun a => Fin.ext (by match a with | ⟨0, _⟩ => rfl | ⟨1, _⟩ => rfl))
  · refine Eq.trans ?_ (v0 x2 x3 x4 x5 t (i 1))
    exact congrArg (val_main_v0 (F := Ideal) x2 x3 x4 x5) (funext fun a => Fin.ext (by match a with | ⟨0, _⟩ => rfl | ⟨1, _⟩ => rfl))

end Cert.WinFoxRefIdeal.Prod

namespace Cert.WinFoxIdeal.Prod

open Cert.WinFoxIdeal Cert.WinFoxIdeal.Gen Idealize.ShloMosaic Idealize.ShloMosaic.TcCoe Idealize.SL.Sem

theorem frame_p : Cert.quiescent_WinFox (hWinFox := Cert.WinFox.Gen.facts) := fun m ρ _ => Cert.WinFox.Gen.frame m ρ

theorem frame_pi : Cert.quiescent_WinFoxIdeal (hWinFoxIdeal := Cert.WinFoxIdeal.Gen.facts) := fun m ρ _ => Cert.WinFoxIdeal.Gen.frame m ρ

/-- The reference's frame: host operations only, no semaphore. -/
theorem frame_ri : Cert.quiescent_WinFoxRefIdeal (hWinFoxRefIdeal := Cert.WinFoxRefIdeal.Gen.facts) := fun m ρ _ =>
  (θ_run (Cert.WinFoxRefIdeal.defs (F := Ideal)) _ _).mono (fun r h => ⟨fun c => (h c).2, Idealize.ShloMosaic.sem_eq_zero_of_no_sems (by decide) r.2⟩)
    (Cert.WinFoxRefIdeal.Value.run (F := Ideal) m ρ)

theorem algebraic : Cert.algebraic_WinFoxIdeal_WinFoxRefIdeal (hWinFoxIdeal := Cert.WinFoxIdeal.Gen.facts) (hWinFoxRefIdeal := Cert.WinFoxRefIdeal.Gen.facts) := by
  intro m ρ m' ρ' _ hagree
  refine ⟨_, Cert.WinFoxIdeal.Value.run_blocks m ρ, ?_⟩
  refine (θ_run (Cert.WinFoxRefIdeal.defs (F := Ideal)) _ _).mono (fun r h c => ?_) (Cert.WinFoxRefIdeal.Value.run (F := Ideal) m' ρ')
  obtain ⟨e0, e1, e2, e3, e4, e5⟩ := hagree c
  obtain ⟨h0, k⟩ := h c
  refine ⟨h0.trans ?_, k⟩
  refine (Cert.WinFoxRefIdeal.Read.val_main_v7_eq _ _ _ _ _).trans ?_
  rw [e0, e2, e3, e4, e5, arr m c]
  exact funext fun i => Cert.WinFoxRefIdeal.Prod.v7 _ _ _ _ _ i

end Cert.WinFoxIdeal.Prod

end
-- ==== Proof.Fwd.Fxo.lean ====
/-
  The forward call behind the cross attention: the residual stream, its norm, and the hidden layer.
-/
module

public import proofs.«01_k».proof.Defs
public import proofs.«01_k».proof.Proof.Gen.Fxo.Frame
public import proofs.«01_k».proof.Proof.Gen.FxoIdeal.Value
public import proofs.«01_k».proof.Proof.Gen.FxoRefIdeal.Run
public import proofs.«01_k».proof.Proof.Gen.FxoRefIdeal.Read
public import proofs.«01_k».proof.Proof.Rms.Row
public import Idealize.ShloMosaic.Lib.Pipeline.ValueKit
public import Idealize.ShloMosaic.Lib.MatmulPlain
public import Idealize.ShloMosaic.Lib.Claim

@[expose] public section

set_option maxRecDepth 16384

noncomputable section

namespace Cert.FxoIdeal.Fwd

open Cert.FxoIdeal Cert.FxoIdeal.Gen Idealize.ShloMosaic Idealize.ShloMosaic.TcCoe Idealize.SL.Sem
open Cert.Rms
open scoped BigOperators

/-- The residual stream's rows after the product. -/
def stream (a : FVec Ideal S8192x1024 .bf16) (w : FVec Ideal S1024x1024 .bf16) (x : FVec Ideal S8192x1024 .f32) (t : Fin 8192) (k : Fin 1024) : EReal :=
  (x (ix2 (n0 := 8192) (n1 := 1024) t k) : EReal) + ∑ j : Fin 1024, a (ix2 (n0 := 8192) (n1 := 1024) t j) * w (ix2 (n0 := 1024) (n1 := 1024) j k)

/-- A row's norm, times the gain. -/
def norm (r : Fin 1024 → EReal) (g : FVec Ideal S1024 .f32) (k : Fin 1024) : EReal := (r k * rstd r) * g (ix1 (n0 := 1024) k)

def res (a : FVec Ideal S8192x1024 .bf16) (w : FVec Ideal S1024x1024 .bf16) (x : FVec Ideal S8192x1024 .f32) : FVec Ideal S8192x1024 .f32 :=
  fun i => stream a w x (i 0) (i 1)

def normed (a : FVec Ideal S8192x1024 .bf16) (w : FVec Ideal S1024x1024 .bf16) (x : FVec Ideal S8192x1024 .f32) (g : FVec Ideal S1024 .f32) :
    FVec Ideal S8192x1024 .bf16 := fun i => norm (stream a w x (i 0)) g (i 1)

/-- The product behind the norm, no less than zero. -/
def out (a : FVec Ideal S8192x1024 .bf16) (w : FVec Ideal S1024x1024 .bf16) (x : FVec Ideal S8192x1024 .f32) (g : FVec Ideal S1024 .f32)
    (w2 : FVec Ideal S1024x4096 .bf16) : FVec Ideal S8192x4096 .bf16 := fun i =>
  max (∑ k : Fin 1024, norm (stream a w x (i 0)) g k * w2 (ix2 (n0 := 1024) (n1 := 4096) k (i 1))) (Ideal.ofBits .f32 0x00000000#32)

/-! A tile's blocks, entry by entry. -/

theorem pay1 (x : FVec Ideal S512x1024 .f32) (a : FVec Ideal S512x1024 .bf16) (w : FVec Ideal S1024x1024 .bf16) (s : Fin 512) (k : Fin 1024) :
    k0_pay1 (F := Ideal) x a w (ix2 s k) = (x (ix2 s k) : EReal) + ∑ j : Fin 1024, a (ix2 s j) * w (ix2 j k) := by
  unfold k0_pay1
  refine congrArg (fun q : EReal => x (ix2 s k) + q) ?_
  exact (Ideal.matmul_plain_apply _ _ _ _ _ _).trans ((congrArg₂ (· + ·) Ideal.ofBits_zero_f32 rfl).trans (zero_add _))

theorem pay2 (x : FVec Ideal S512x1024 .f32) (a : FVec Ideal S512x1024 .bf16) (w : FVec Ideal S1024x1024 .bf16) (g : FVec Ideal S1x1024 .f32) (s : Fin 512) (k : Fin 1024) :
    k0_pay2 (F := Ideal) x a w g (ix2 s k)
      = ((k0_pay1 (F := Ideal) x a w (ix2 s k) : EReal) * rstd fun k => k0_pay1 (F := Ideal) x a w (ix2 s k)) * g (ix2 0 k) := by
  unfold rstd ms len eps k0_pay2
  generalize k0_pay1 (F := Ideal) x a w = p
  pointwise

theorem pay3 (x : FVec Ideal S512x1024 .f32) (a : FVec Ideal S512x1024 .bf16) (w : FVec Ideal S1024x1024 .bf16) (g : FVec Ideal S1x1024 .f32)
    (w2 : FVec Ideal S1024x4096 .bf16) (s : Fin 512) (l : Fin 4096) :
    k0_pay3 (F := Ideal) x a w g w2 (ix2 s l)
      = max (∑ k : Fin 1024, (k0_pay2 (F := Ideal) x a w g (ix2 s k) : EReal) * w2 (ix2 k l)) (Ideal.ofBits .f32 0x00000000#32) := by
  unfold k0_pay3
  exact congrArg (fun q : EReal => max q (Ideal.ofBits .f32 0x00000000#32)) ((Ideal.matmul_plain_apply none (k0_pay2 (F := Ideal) x a w g) _ _ _ _).trans ((congrArg₂ (· + ·) Ideal.ofBits_zero_f32 rfl).trans (zero_add _)))

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (k : Fin 1024) (x : FVec Ideal S8192x1024 .bf16) (ht : t.val < 16) :
    (win0_0.blk t).view.read (Elt Ideal) x (ix2 s k) = x (ix2 (n0 := 8192) (n1 := 1024) ⟨512 * t.val + s.val, by omega⟩ k) := by
  have hs := s.isLt
  have hk := k.isLt
  blk_ext [idx t]

theorem read1 (t : Fin cfg0.N) (j k : Fin 1024) (x : FVec Ideal S1024x1024 .bf16) :
    (win0_1.blk t).view.read (Elt Ideal) x (ix2 j k) = x (ix2 (n0 := 1024) (n1 := 1024) j k) := by
  have hj := j.isLt
  have hk := k.isLt
  blk_ext [idx t]

theorem read2 (t : Fin cfg0.N) (s : Fin 512) (k : Fin 1024) (x : FVec Ideal S8192x1024 .f32) (ht : t.val < 16) :
    (win0_2.blk t).view.read (Elt Ideal) x (ix2 s k) = x (ix2 (n0 := 8192) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

theorem read4 (t : Fin cfg0.N) (k : Fin 1024) (l : Fin 4096) (x : FVec Ideal S1024x4096 .bf16) :
    (win0_4.blk t).view.read (Elt Ideal) x (ix2 k l) = x (ix2 (n0 := 1024) (n1 := 4096) k l) := by
  have hk := k.isLt
  have hl := l.isLt
  blk_ext [idx t]

/-- The arrays the call reads: the gain is only reshaped by the host. -/
abbrev aA : FVec Ideal S8192x1024 .bf16 := m ((c : Thread nD τ).loc main_arg0)

abbrev wA : FVec Ideal S1024x1024 .bf16 := m ((c : Thread nD τ).loc main_arg2)

abbrev xA : FVec Ideal S8192x1024 .f32 := m ((c : Thread nD τ).loc main_arg1)

abbrev gA : FVec Ideal S1024 .f32 := m ((c : Thread nD τ).loc main_arg3)

abbrev w2A : FVec Ideal S1024x4096 .bf16 := m ((c : Thread nD τ).loc main_arg4)

def gRow (g : FVec Ideal S1024 .f32) : FVec Ideal S1x1024 .f32 := fun i => g (ix1 (n0 := 1024) (i 1))

theorem V_gain : V m c main_v0 = gRow (gA m c) := by
  unfold V
  entry_read
  funext i
  idx_vars i
  pointwise [gRow]

theorem iblk0 (t : Fin cfg0.N) : iblk m c 0 t = (win0_0.blk t).view.read (Elt Ideal) (aA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := rfl

theorem iblk3 (t : Fin cfg0.N) : iblk m c 3 t = (win0_3.blk t).view.read (Elt Ideal) (gRow (gA m c)) := by
  rw [← V_gain]
  rfl

theorem iblk4 (t : Fin cfg0.N) : iblk m c 4 t = (win0_4.blk t).view.read (Elt Ideal) (w2A m c) := rfl

/-- A point's rows of the residual stream. -/
theorem at1 (t : Fin cfg0.N) (ht : t.val < 16) (s : Fin 512) (k : Fin 1024) :
    k0_pay1 (F := Ideal) (iblk m c 2 t) (iblk m c 0 t) (iblk m c 1 t) (ix2 s k) = stream (aA m c) (wA m c) (xA m c) ⟨512 * t.val + s.val, by omega⟩ k := by
  rw [pay1, iblk0, iblk1, iblk2]
  exact congrArg₂ (fun p q : EReal => p + q) (read2 t s k _ ht)
    (Finset.sum_congr rfl fun j _ => congrArg₂ (fun p q : EReal => p * q) (read0 t s j _ ht) (read1 t j k _))

/-- A point's normed rows. -/
theorem at2 (t : Fin cfg0.N) (ht : t.val < 16) (s : Fin 512) (k : Fin 1024) :
    k0_pay2 (F := Ideal) (iblk m c 2 t) (iblk m c 0 t) (iblk m c 1 t) (iblk m c 3 t) (ix2 s k)
      = norm (stream (aA m c) (wA m c) (xA m c) ⟨512 * t.val + s.val, by omega⟩) (gA m c) k := by
  rw [pay2]
  simp only [at1 m c t ht s]
  rw [iblk3]
  unfold norm
  exact congrArg₂ (fun p q : EReal => p * q) rfl (read3 t 0 k _)

/-- A point's rows of the product behind the norm. -/
theorem at3 (t : Fin cfg0.N) (ht : t.val < 16) (s : Fin 512) (l : Fin 4096) :
    k0_pay3 (F := Ideal) (iblk m c 2 t) (iblk m c 0 t) (iblk m c 1 t) (iblk m c 3 t) (iblk m c 4 t) (ix2 s l)
      = out (aA m c) (wA m c) (xA m c) (gA m c) (w2A m c) (ix2 (n0 := 8192) (n1 := 4096) ⟨512 * t.val + s.val, by omega⟩ l) := by
  rw [pay3, iblk4]
  refine congrArg (fun q : EReal => max q (Ideal.ofBits .f32 0x00000000#32)) (Finset.sum_congr rfl fun k _ => congrArg₂ (fun p q : EReal => p * q) (at2 m c t ht s k) (read4 t k l _))

/-- The kernel's results. -/
theorem arr5 : (dats m 0 c).arrAt 5 cfg0.N = res (aA m c) (wA m c) (xA m c) := by
  refine (dats m 0 c).arrAt_eq_of_covers 5 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_5.blk t).view.emb (ix2 s l) = ix2 (n0 := 8192) (n1 := 1024) ⟨512 * t.val + s.val, by omega⟩ l := by
    blk_ext [idx t]
  refine Eq.trans ?_ (congrArg (res _ _ _) e.symm)
  show ((dats m 0 c).after 5 t : FVec Ideal S512x1024 .f32) (ix2 s l) = _
  rw [after0_5]
  frame_out
  exact at1 m c t hN s l

theorem arr6 : (dats m 0 c).arrAt 6 cfg0.N = normed (aA m c) (wA m c) (xA m c) (gA m c) := by
  refine (dats m 0 c).arrAt_eq_of_covers 6 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_6.blk t).view.emb (ix2 s l) = ix2 (n0 := 8192) (n1 := 1024) ⟨512 * t.val + s.val, by omega⟩ l := by
    blk_ext [idx t]
  refine Eq.trans ?_ (congrArg (normed _ _ _ _) e.symm)
  show ((dats m 0 c).after 6 t : FVec Ideal S512x1024 .bf16) (ix2 s l) = _
  rw [after0_6]
  frame_out
  exact at2 m c t hN s l

theorem arr7 : (dats m 0 c).arrAt 7 cfg0.N = out (aA m c) (wA m c) (xA m c) (gA m c) (w2A m c) := by
  refine (dats m 0 c).arrAt_eq_of_covers 7 _ (by decide +kernel) fun t _ y => ?_
  have hN := lt t
  obtain ⟨s, l, rfl⟩ : ∃ (s : Fin 512) (l : Fin 4096), y = ix2 s l := ⟨y 0, y 1, (ix2_eta y).symm⟩
  have hs := s.isLt
  have hl := l.isLt
  have e : (win0_7.blk t).view.emb (ix2 s l) = ix2 (n0 := 8192) (n1 := 4096) ⟨512 * t.val + s.val, by omega⟩ l := by
    blk_ext [idx t]
  refine Eq.trans ?_ (congrArg (out _ _ _ _ _) e.symm)
  show ((dats m 0 c).after 7 t : FVec Ideal S512x4096 .bf16) (ix2 s l) = _
  rw [after0_7]
  frame_out
  exact at3 m c t hN s l

end Cert.FxoIdeal.Fwd

namespace Cert.FxoRefIdeal.Fwd

open Cert.FxoRefIdeal Cert.FxoRefIdeal.Gen Cert.FxoRefIdeal.Read Idealize.ShloMosaic Idealize.SL.Sem
open Cert.Rms Cert.FxoIdeal.Fwd
open scoped BigOperators

variable (x0 : (⟨S8192x1024, .bf16⟩ : BufTy).Contents (Elt Ideal)) (x1 : (⟨S8192x1024, .f32⟩ : BufTy).Contents (Elt Ideal))
  (x2 : (⟨S1024x1024, .bf16⟩ : BufTy).Contents (Elt Ideal)) (x3 : (⟨S1024, .f32⟩ : BufTy).Contents (Elt Ideal))
  (x4 : (⟨S1024x4096, .bf16⟩ : BufTy).Contents (Elt Ideal))

theorem v4 (t : Fin 8192) (k : Fin 1024) : val_main_v4 (F := Ideal) x0 x1 x2 (ix2 (n0 := 8192) (n1 := 1024) t k) = stream x0 x2 x1 t k := by
  rw [val_main_v4_apply, val_main_v3_apply]
  refine congrArg (fun q : EReal => x1 (ix2 t k) + q) (Finset.sum_congr rfl fun j _ => congrArg₂ (fun p q : EReal => p * q) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

theorem v12 (t : Fin 8192) (u : Fin 1) : val_main_v12 (F := Ideal) x0 x1 x2 (ix2 (n0 := 8192) (n1 := 1) t u) = rstd (stream x0 x2 x1 t) := by
  rw [val_main_v12_apply, val_main_v11_apply, val_main_v9_apply, val_main_v7_apply, val_main_v6_apply, val_main_v8_apply, val_main_v10_apply]
  refine congrArg (fun p : EReal => Ideal.rsqrt (Ideal.div p len + eps)) ?_
  refine (congrArg₂ (fun p q : EReal => p + q) Ideal.ofBits_zero_f32 (Finset.sum_congr rfl fun k _ => ?_)).trans (zero_add _)
  rw [val_main_v5_apply]
  have h : idx_main_v6 (idx_main_v7 (ix2 (n0 := 8192) (n1 := 1) t u)) k = ix2 (n0 := 8192) (n1 := 1024) t k :=
    funext fun a => Fin.ext (by match a with | ⟨0, _⟩ => rfl | ⟨1, _⟩ => rfl)
  rw [h, v4]
  rfl

theorem v17 (t : Fin 8192) (k : Fin 1024) : val_main_v17 (F := Ideal) x0 x1 x2 x3 (ix2 (n0 := 8192) (n1 := 1024) t k) = norm (stream x0 x2 x1 t) x3 k := by
  rw [val_main_v17_apply, val_main_v14_apply, v4, val_main_v13_apply, val_main_v16_apply, val_main_v15_apply]
  have h : idx_main_v13 (ix2 (n0 := 8192) (n1 := 1024) t k) = ix2 (n0 := 8192) (n1 := 1) t 0 :=
    funext fun a => Fin.ext (by match a with | ⟨0, _⟩ => rfl | ⟨1, _⟩ => rfl)
  rw [h, v12]
  exact congrArg (fun q : EReal => (stream x0 x2 x1 t k * rstd (stream x0 x2 x1 t)) * q) (congrArg x3 (funext fun a => Fin.ext (by match a with | ⟨0, _⟩ => rfl)))

theorem last (i : S8192x4096.Idx) : val_main_v21 (F := Ideal) x0 x1 x2 x3 x4 i = out x0 x2 x1 x3 x4 i := by
  obtain ⟨t, l, rfl⟩ : ∃ (t : Fin 8192) (l : Fin 4096), i = ix2 t l := ⟨i 0, i 1, (ix2_eta i).symm⟩
  rw [val_main_v21_apply]
  refine congrArg (fun q : EReal => max q (Ideal.ofBits .f32 0x00000000#32)) (Eq.trans (val_main_v19_apply x0 x1 x2 x3 x4 (ix2 t l)) ?_)
  refine Finset.sum_congr rfl fun k _ => congrArg₂ (fun p q : EReal => p * q) ?_ ?_
  · have h : lidx_main_v19 (ix2 (n0 := 8192) (n1 := 4096) t l) k = ix2 (n0 := 8192) (n1 := 1024) t k :=
      funext fun a => Fin.ext (by match a with | ⟨0, _⟩ => rfl | ⟨1, _⟩ => rfl)
    rw [h, v17]
    rfl
  · exact congrArg x4 (funext fun a => Fin.ext (by match a with | ⟨0, _⟩ => rfl | ⟨1, _⟩ => rfl))

end Cert.FxoRefIdeal.Fwd

namespace Cert.FxoIdeal.Fwd

open Cert.FxoIdeal Cert.FxoIdeal.Gen Idealize.ShloMosaic Idealize.ShloMosaic.TcCoe Idealize.SL.Sem

theorem frame_p : Cert.quiescent_Fxo (hFxo := Cert.Fxo.Gen.facts) := fun m ρ _ => Cert.Fxo.Gen.frame m ρ

theorem frame_pi : Cert.quiescent_FxoIdeal (hFxoIdeal := Cert.FxoIdeal.Gen.facts) := fun m ρ _ => Cert.FxoIdeal.Gen.frame m ρ

/-- The reference's frame: host operations only, no semaphore. -/
theorem frame_ri : Cert.quiescent_FxoRefIdeal (hFxoRefIdeal := Cert.FxoRefIdeal.Gen.facts) := fun m ρ _ =>
  (θ_run (Cert.FxoRefIdeal.defs (F := Ideal)) _ _).mono (fun r h => ⟨fun c => (h c).2.2.2, Idealize.ShloMosaic.sem_eq_zero_of_no_sems (by decide) r.2⟩)
    (Cert.FxoRefIdeal.Value.run (F := Ideal) m ρ)

theorem algebraic : Cert.algebraic_FxoIdeal_FxoRefIdeal (hFxoIdeal := Cert.FxoIdeal.Gen.facts) (hFxoRefIdeal := Cert.FxoRefIdeal.Gen.facts) := by
  intro m ρ m' ρ' _ hagree
  refine ⟨_, _, _, Cert.FxoIdeal.Value.run_blocks m ρ, ?_⟩
  refine (θ_run (Cert.FxoRefIdeal.defs (F := Ideal)) _ _).mono (fun r h c => ?_) (Cert.FxoRefIdeal.Value.run (F := Ideal) m' ρ')
  obtain ⟨e0, e1, e2, e3, e4⟩ := hagree c
  obtain ⟨h0, h1, h2, k⟩ := h c
  refine ⟨h0.trans ?_, h1.trans ?_, h2.trans ?_, k⟩
  · refine (Cert.FxoRefIdeal.Read.val_main_v4_eq _ _ _).trans ?_
    rw [e0, e1, e2, arr5 m c]
    refine funext fun i => ?_
    obtain ⟨t, l, rfl⟩ : ∃ (t : Fin 8192) (l : Fin 1024), i = ix2 t l := ⟨i 0, i 1, (ix2_eta i).symm⟩
    exact Cert.FxoRefIdeal.Fwd.v4 _ _ _ t l
  · refine (Cert.FxoRefIdeal.Read.val_main_v18_eq _ _ _ _).trans ?_
    rw [e0, e1, e2, e3, arr6 m c]
    refine funext fun i => ?_
    obtain ⟨t, l, rfl⟩ : ∃ (t : Fin 8192) (l : Fin 1024), i = ix2 t l := ⟨i 0, i 1, (ix2_eta i).symm⟩
    exact Cert.FxoRefIdeal.Fwd.v17 _ _ _ _ t l
  · refine (Cert.FxoRefIdeal.Read.val_main_v21_eq _ _ _ _ _).trans ?_
    rw [e0, e1, e2, e3, e4, arr7 m c]
    exact funext fun i => Cert.FxoRefIdeal.Fwd.last _ _ _ _ _ i

end Cert.FxoIdeal.Fwd

end
-- ==== Proof.Fwd.Fout.lean ====
/-
  The forward call behind the mixers: the residual stream, its norm, and the cross attention's queries.
-/
module

public import proofs.«01_k».proof.Defs
public import proofs.«01_k».proof.Proof.Gen.Fout.Frame
public import proofs.«01_k».proof.Proof.Gen.FoutIdeal.Value
public import proofs.«01_k».proof.Proof.Gen.FoutRefIdeal.Run
public import proofs.«01_k».proof.Proof.Gen.FoutRefIdeal.Read
public import proofs.«01_k».proof.Proof.Rms.Row
public import Idealize.ShloMosaic.Lib.Pipeline.ValueKit
public import Idealize.ShloMosaic.Lib.MatmulPlain
public import Idealize.ShloMosaic.Lib.Claim

@[expose] public section

set_option maxRecDepth 16384

noncomputable section

namespace Cert.FoutIdeal.Fwd

open Cert.FoutIdeal Cert.FoutIdeal.Gen Idealize.ShloMosaic Idealize.ShloMosaic.TcCoe Idealize.SL.Sem
open Cert.Rms
open scoped BigOperators

/-- The residual stream's rows after the product. -/
def stream (a : FVec Ideal S8192x1024 .bf16) (w : FVec Ideal S1024x1024 .bf16) (x : FVec Ideal S8192x1024 .f32) (t : Fin 8192) (k : Fin 1024) : EReal :=
  (x (ix2 (n0 := 8192) (n1 := 1024) t k) : EReal) + ∑ j : Fin 1024, a (ix2 (n0 := 8192) (n1 := 1024) t j) * w (ix2 (n0 := 1024) (n1 := 1024) j k)

/-- A row's norm, times the gain. -/
def norm (r : Fin 1024 → EReal) (g : FVec Ideal S1024 .f32) (k : Fin 1024) : EReal := (r k * rstd r) * g (ix1 (n0 := 1024) k)

def res (a : FVec Ideal S8192x1024 .bf16) (w : FVec Ideal S1024x1024 .bf16) (x : FVec Ideal S8192x1024 .f32) : FVec Ideal S8192x1024 .f32 :=
  fun i => stream a w x (i 0) (i 1)

def normed (a : FVec Ideal S8192x1024 .bf16) (w : FVec Ideal S1024x1024 .bf16) (x : FVec Ideal S8192x1024 .f32) (g : FVec Ideal S1024 .f32) :
    FVec Ideal S8192x1024 .bf16 := fun i => norm (stream a w x (i 0)) g (i 1)

/-- The product behind the norm. -/
def out (a : FVec Ideal S8192x1024 .bf16) (w : FVec Ideal S1024x1024 .bf16) (x : FVec Ideal S8192x1024 .f32) (g : FVec Ideal S1024 .f32)
    (w2 : FVec Ideal S1024x1024 .bf16) : FVec Ideal S8192x1024 .bf16 := fun i =>
  ∑ k : Fin 1024, norm (stream a w x (i 0)) g k * w2 (ix2 (n0 := 1024) (n1 := 1024) k (i 1))

/-! A tile's blocks, entry by entry. -/

theorem pay1 (x : FVec Ideal S512x1024 .f32) (a : FVec Ideal S512x1024 .bf16) (w : FVec Ideal S1024x1024 .bf16) (s : Fin 512) (k : Fin 1024) :
    k0_pay1 (F := Ideal) x a w (ix2 s k) = (x (ix2 s k) : EReal) + ∑ j : Fin 1024, a (ix2 s j) * w (ix2 j k) := by
  unfold k0_pay1
  refine congrArg (fun q : EReal => x (ix2 s k) + q) ?_
  exact (Ideal.matmul_plain_apply _ _ _ _ _ _).trans ((congrArg₂ (· + ·) Ideal.ofBits_zero_f32 rfl).trans (zero_add _))

theorem pay2 (x : FVec Ideal S512x1024 .f32) (a : FVec Ideal S512x1024 .bf16) (w : FVec Ideal S1024x1024 .bf16) (g : FVec Ideal S1x1024 .f32) (s : Fin 512) (k : Fin 1024) :
    k0_pay2 (F := Ideal) x a w g (ix2 s k)
      = ((k0_pay1 (F := Ideal) x a w (ix2 s k) : EReal) * rstd fun k => k0_pay1 (F := Ideal) x a w (ix2 s k)) * g (ix2 0 k) := by
  unfold rstd ms len eps k0_pay2
  generalize k0_pay1 (F := Ideal) x a w = p
  pointwise

theorem pay3 (x : FVec Ideal S512x1024 .f32) (a : FVec Ideal S512x1024 .bf16) (w : FVec Ideal S1024x1024 .bf16) (g : FVec Ideal S1x1024 .f32)
    (w2 : FVec Ideal S1024x1024 .bf16) (s : Fin 512) (l : Fin 1024) :
    k0_pay3 (F := Ideal) x a w g w2 (ix2 s l)
      = ∑ k : Fin 1024, (k0_pay2 (F := Ideal) x a w g (ix2 s k) : EReal) * w2 (ix2 k l) := by
  unfold k0_pay3
  exact (Ideal.matmul_plain_apply none (k0_pay2 (F := Ideal) x a w g) _ _ _ _).trans ((congrArg₂ (· + ·) Ideal.ofBits_zero_f32 rfl).trans (zero_add _))

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (k : Fin 1024) (x : FVec Ideal S8192x1024 .bf16) (ht : t.val < 16) :
    (win0_0.blk t).view.read (Elt Ideal) x (ix2 s k) = x (ix2 (n0 := 8192) (n1 := 1024) ⟨512 * t.val + s.val, by omega⟩ k) := by
  have hs := s.isLt
  have hk := k.isLt
  blk_ext [idx t]

theorem read1 (t : Fin cfg0.N) (j k : Fin 1024) (x : FVec Ideal S1024x1024 .bf16) :
    (win0_1.blk t).view.read (Elt Ideal) x (ix2 j k) = x (ix2 (n0 := 1024) (n1 := 1024) j k) := by
  have hj := j.isLt
  have hk := k.isLt
  blk_ext [idx t]

theorem read2 (t : Fin cfg0.N) (s : Fin 512) (k : Fin 1024) (x : FVec Ideal S8192x1024 .f32) (ht : t.val < 16) :
    (win0_2.blk t).view.read (Elt Ideal) x (ix2 s k) = x (ix2 (n0 := 8192) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

theorem read4 (t : Fin cfg0.N) (k : Fin 1024) (l : Fin 1024) (x : FVec Ideal S1024x1024 .bf16) :
    (win0_4.blk t).view.read (Elt Ideal) x (ix2 k l) = x (ix2 (n0 := 1024) (n1 := 1024) k l) := by
  have hk := k.isLt
  have hl := l.isLt
  blk_ext [idx t]

/-- The arrays the call reads: the gain is only reshaped by the host. -/
abbrev aA : FVec Ideal S8192x1024 .bf16 := m ((c : Thread nD τ).loc main_arg0)

abbrev wA : FVec Ideal S1024x1024 .bf16 := m ((c : Thread nD τ).loc main_arg2)

abbrev xA : FVec Ideal S8192x1024 .f32 := m ((c : Thread nD τ).loc main_arg1)

abbrev gA : FVec Ideal S1024 .f32 := m ((c : Thread nD τ).loc main_arg3)

abbrev w2A : FVec Ideal S1024x1024 .bf16 := m ((c : Thread nD τ).loc main_arg4)

def gRow (g : FVec Ideal S1024 .f32) : FVec Ideal S1x1024 .f32 := fun i => g (ix1 (n0 := 1024) (i 1))

theorem V_gain : V m c main_v0 = gRow (gA m c) := by
  unfold V
  entry_read
  funext i
  idx_vars i
  pointwise [gRow]

theorem iblk0 (t : Fin cfg0.N) : iblk m c 0 t = (win0_0.blk t).view.read (Elt Ideal) (aA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := rfl

theorem iblk3 (t : Fin cfg0.N) : iblk m c 3 t = (win0_3.blk t).view.read (Elt Ideal) (gRow (gA m c)) := by
  rw [← V_gain]
  rfl

theorem iblk4 (t : Fin cfg0.N) : iblk m c 4 t = (win0_4.blk t).view.read (Elt Ideal) (w2A m c) := rfl

/-- A point's rows of the residual stream. -/
theorem at1 (t : Fin cfg0.N) (ht : t.val < 16) (s : Fin 512) (k : Fin 1024) :
    k0_pay1 (F := Ideal) (iblk m c 2 t) (iblk m c 0 t) (iblk m c 1 t) (ix2 s k) = stream (aA m c) (wA m c) (xA m c) ⟨512 * t.val + s.val, by omega⟩ k := by
  rw [pay1, iblk0, iblk1, iblk2]
  exact congrArg₂ (fun p q : EReal => p + q) (read2 t s k _ ht)
    (Finset.sum_congr rfl fun j _ => congrArg₂ (fun p q : EReal => p * q) (read0 t s j _ ht) (read1 t j k _))

/-- A point's normed rows. -/
theorem at2 (t : Fin cfg0.N) (ht : t.val < 16) (s : Fin 512) (k : Fin 1024) :
    k0_pay2 (F := Ideal) (iblk m c 2 t) (iblk m c 0 t) (iblk m c 1 t) (iblk m c 3 t) (ix2 s k)
      = norm (stream (aA m c) (wA m c) (xA m c) ⟨512 * t.val + s.val, by omega⟩) (gA m c) k := by
  rw [pay2]
  simp only [at1 m c t ht s]
  rw [iblk3]
  unfold norm
  exact congrArg₂ (fun p q : EReal => p * q) rfl (read3 t 0 k _)

/-- A point's rows of the product behind the norm. -/
theorem at3 (t : Fin cfg0.N) (ht : t.val < 16) (s : Fin 512) (l : Fin 1024) :
    k0_pay3 (F := Ideal) (iblk m c 2 t) (iblk m c 0 t) (iblk m c 1 t) (iblk m c 3 t) (iblk m c 4 t) (ix2 s l)
      = out (aA m c) (wA m c) (xA m c) (gA m c) (w2A m c) (ix2 (n0 := 8192) (n1 := 1024) ⟨512 * t.val + s.val, by omega⟩ l) := by
  rw [pay3, iblk4]
  refine (Finset.sum_congr rfl fun k _ => congrArg₂ (fun p q : EReal => p * q) (at2 m c t ht s k) (read4 t k l _))

/-- The kernel's results. -/
theorem arr5 : (dats m 0 c).arrAt 5 cfg0.N = res (aA m c) (wA m c) (xA m c) := by
  refine (dats m 0 c).arrAt_eq_of_covers 5 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_5.blk t).view.emb (ix2 s l) = ix2 (n0 := 8192) (n1 := 1024) ⟨512 * t.val + s.val, by omega⟩ l := by
    blk_ext [idx t]
  refine Eq.trans ?_ (congrArg (res _ _ _) e.symm)
  show ((dats m 0 c).after 5 t : FVec Ideal S512x1024 .f32) (ix2 s l) = _
  rw [after0_5]
  frame_out
  exact at1 m c t hN s l

theorem arr6 : (dats m 0 c).arrAt 6 cfg0.N = normed (aA m c) (wA m c) (xA m c) (gA m c) := by
  refine (dats m 0 c).arrAt_eq_of_covers 6 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_6.blk t).view.emb (ix2 s l) = ix2 (n0 := 8192) (n1 := 1024) ⟨512 * t.val + s.val, by omega⟩ l := by
    blk_ext [idx t]
  refine Eq.trans ?_ (congrArg (normed _ _ _ _) e.symm)
  show ((dats m 0 c).after 6 t : FVec Ideal S512x1024 .bf16) (ix2 s l) = _
  rw [after0_6]
  frame_out
  exact at2 m c t hN s l

theorem arr7 : (dats m 0 c).arrAt 7 cfg0.N = out (aA m c) (wA m c) (xA m c) (gA m c) (w2A m c) := by
  refine (dats m 0 c).arrAt_eq_of_covers 7 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_7.blk t).view.emb (ix2 s l) = ix2 (n0 := 8192) (n1 := 1024) ⟨512 * t.val + s.val, by omega⟩ l := by
    blk_ext [idx t]
  refine Eq.trans ?_ (congrArg (out _ _ _ _ _) e.symm)
  show ((dats m 0 c).after 7 t : FVec Ideal S512x1024 .bf16) (ix2 s l) = _
  rw [after0_7]
  frame_out
  exact at3 m c t hN s l

end Cert.FoutIdeal.Fwd

namespace Cert.FoutRefIdeal.Fwd

open Cert.FoutRefIdeal Cert.FoutRefIdeal.Gen Cert.FoutRefIdeal.Read Idealize.ShloMosaic Idealize.SL.Sem
open Cert.Rms Cert.FoutIdeal.Fwd
open scoped BigOperators

variable (x0 : (⟨S8192x1024, .bf16⟩ : BufTy).Contents (Elt Ideal)) (x1 : (⟨S8192x1024, .f32⟩ : BufTy).Contents (Elt Ideal))
  (x2 : (⟨S1024x1024, .bf16⟩ : BufTy).Contents (Elt Ideal)) (x3 : (⟨S1024, .f32⟩ : BufTy).Contents (Elt Ideal))
  (x4 : (⟨S1024x1024, .bf16⟩ : BufTy).Contents (Elt Ideal))

theorem v4 (t : Fin 8192) (k : Fin 1024) : val_main_v4 (F := Ideal) x0 x1 x2 (ix2 (n0 := 8192) (n1 := 1024) t k) = stream x0 x2 x1 t k := by
  rw [val_main_v4_apply, val_main_v3_apply]
  refine congrArg (fun q : EReal => x1 (ix2 t k) + q) (Finset.sum_congr rfl fun j _ => congrArg₂ (fun p q : EReal => p * q) ?_ ?_)
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

theorem v12 (t : Fin 8192) (u : Fin 1) : val_main_v12 (F := Ideal) x0 x1 x2 (ix2 (n0 := 8192) (n1 := 1) t u) = rstd (stream x0 x2 x1 t) := by
  rw [val_main_v12_apply, val_main_v11_apply, val_main_v9_apply, val_main_v7_apply, val_main_v6_apply, val_main_v8_apply, val_main_v10_apply]
  refine congrArg (fun p : EReal => Ideal.rsqrt (Ideal.div p len + eps)) ?_
  refine (congrArg₂ (fun p q : EReal => p + q) Ideal.ofBits_zero_f32 (Finset.sum_congr rfl fun k _ => ?_)).trans (zero_add _)
  rw [val_main_v5_apply]
  have h : idx_main_v6 (idx_main_v7 (ix2 (n0 := 8192) (n1 := 1) t u)) k = ix2 (n0 := 8192) (n1 := 1024) t k :=
    funext fun a => Fin.ext (by match a with | ⟨0, _⟩ => rfl | ⟨1, _⟩ => rfl)
  rw [h, v4]
  rfl

theorem v17 (t : Fin 8192) (k : Fin 1024) : val_main_v17 (F := Ideal) x0 x1 x2 x3 (ix2 (n0 := 8192) (n1 := 1024) t k) = norm (stream x0 x2 x1 t) x3 k := by
  rw [val_main_v17_apply, val_main_v14_apply, v4, val_main_v13_apply, val_main_v16_apply, val_main_v15_apply]
  have h : idx_main_v13 (ix2 (n0 := 8192) (n1 := 1024) t k) = ix2 (n0 := 8192) (n1 := 1) t 0 :=
    funext fun a => Fin.ext (by match a with | ⟨0, _⟩ => rfl | ⟨1, _⟩ => rfl)
  rw [h, v12]
  exact congrArg (fun q : EReal => (stream x0 x2 x1 t k * rstd (stream x0 x2 x1 t)) * q) (congrArg x3 (funext fun a => Fin.ext (by match a with | ⟨0, _⟩ => rfl)))

theorem last (i : S8192x1024.Idx) : val_main_v20 (F := Ideal) x0 x1 x2 x3 x4 i = out x0 x2 x1 x3 x4 i := by
  obtain ⟨t, l, rfl⟩ : ∃ (t : Fin 8192) (l : Fin 1024), i = ix2 t l := ⟨i 0, i 1, (ix2_eta i).symm⟩
  rw [val_main_v20_apply]
  refine (Eq.trans (val_main_v19_apply x0 x1 x2 x3 x4 (ix2 t l)) ?_)
  refine Finset.sum_congr rfl fun k _ => congrArg₂ (fun p q : EReal => p * q) ?_ ?_
  · have h : lidx_main_v19 (ix2 (n0 := 8192) (n1 := 1024) t l) k = ix2 (n0 := 8192) (n1 := 1024) t k :=
      funext fun a => Fin.ext (by match a with | ⟨0, _⟩ => rfl | ⟨1, _⟩ => rfl)
    rw [h, v17]
    rfl
  · exact congrArg x4 (funext fun a => Fin.ext (by match a with | ⟨0, _⟩ => rfl | ⟨1, _⟩ => rfl))

end Cert.FoutRefIdeal.Fwd

namespace Cert.FoutIdeal.Fwd

open Cert.FoutIdeal Cert.FoutIdeal.Gen Idealize.ShloMosaic Idealize.ShloMosaic.TcCoe Idealize.SL.Sem

theorem frame_p : Cert.quiescent_Fout (hFout := Cert.Fout.Gen.facts) := fun m ρ _ => Cert.Fout.Gen.frame m ρ

theorem frame_pi : Cert.quiescent_FoutIdeal (hFoutIdeal := Cert.FoutIdeal.Gen.facts) := fun m ρ _ => Cert.FoutIdeal.Gen.frame m ρ

/-- The reference's frame: host operations only, no semaphore. -/
theorem frame_ri : Cert.quiescent_FoutRefIdeal (hFoutRefIdeal := Cert.FoutRefIdeal.Gen.facts) := fun m ρ _ =>
  (θ_run (Cert.FoutRefIdeal.defs (F := Ideal)) _ _).mono (fun r h => ⟨fun c => (h c).2.2.2, Idealize.ShloMosaic.sem_eq_zero_of_no_sems (by decide) r.2⟩)
    (Cert.FoutRefIdeal.Value.run (F := Ideal) m ρ)

theorem algebraic : Cert.algebraic_FoutIdeal_FoutRefIdeal (hFoutIdeal := Cert.FoutIdeal.Gen.facts) (hFoutRefIdeal := Cert.FoutRefIdeal.Gen.facts) := by
  intro m ρ m' ρ' _ hagree
  refine ⟨_, _, _, Cert.FoutIdeal.Value.run_blocks m ρ, ?_⟩
  refine (θ_run (Cert.FoutRefIdeal.defs (F := Ideal)) _ _).mono (fun r h c => ?_) (Cert.FoutRefIdeal.Value.run (F := Ideal) m' ρ')
  obtain ⟨e0, e1, e2, e3, e4⟩ := hagree c
  obtain ⟨h0, h1, h2, k⟩ := h c
  refine ⟨h0.trans ?_, h1.trans ?_, h2.trans ?_, k⟩
  · refine (Cert.FoutRefIdeal.Read.val_main_v4_eq _ _ _).trans ?_
    rw [e0, e1, e2, arr5 m c]
    refine funext fun i => ?_
    obtain ⟨t, l, rfl⟩ : ∃ (t : Fin 8192) (l : Fin 1024), i = ix2 t l := ⟨i 0, i 1, (ix2_eta i).symm⟩
    exact Cert.FoutRefIdeal.Fwd.v4 _ _ _ t l
  · refine (Cert.FoutRefIdeal.Read.val_main_v18_eq _ _ _ _).trans ?_
    rw [e0, e1, e2, e3, arr6 m c]
    refine funext fun i => ?_
    obtain ⟨t, l, rfl⟩ : ∃ (t : Fin 8192) (l : Fin 1024), i = ix2 t l := ⟨i 0, i 1, (ix2_eta i).symm⟩
    exact Cert.FoutRefIdeal.Fwd.v17 _ _ _ _ t l
  · refine (Cert.FoutRefIdeal.Read.val_main_v20_eq _ _ _ _ _).trans ?_
    rw [e0, e1, e2, e3, e4, arr7 m c]
    exact funext fun i => Cert.FoutRefIdeal.Fwd.last _ _ _ _ _ i

end Cert.FoutIdeal.Fwd

end
-- ==== Proof.Fwd.Fin.lean ====
/-
  The layer's first products: the mixers' columns and the gates', tile by tile of tokens, and the claims of the call.
-/
module

public import proofs.«01_k».proof.Defs
public import proofs.«01_k».proof.Proof.Gen.Fin.Frame
public import proofs.«01_k».proof.Proof.Gen.FinIdeal.Value
public import proofs.«01_k».proof.Proof.Gen.FinRefIdeal.Run
public import proofs.«01_k».proof.Proof.Gen.FinRefIdeal.Read
public import Idealize.ShloMosaic.Lib.Pipeline.ValueKit
public import Idealize.ShloMosaic.Lib.Pipeline.ReadBack
public import Idealize.ShloMosaic.Lib.MatmulPlain
public import Idealize.ShloMosaic.Lib.KernelVsHost
public import Idealize.ShloMosaic.Lib.Claim

@[expose] public section

set_option maxRecDepth 16384

noncomputable section

namespace Cert.FinIdeal.Fwd

open Cert.FinIdeal Cert.FinIdeal.Gen Idealize.ShloMosaic Idealize.ShloMosaic.TcCoe Idealize.SL.Sem
open scoped BigOperators

/-- An entry of the product. -/
def prod (h : FVec Ideal S8192x1024 .bf16) (w : FVec Ideal S1024x3080 .bf16) (t : Fin 8192) (j : Fin 3080) : EReal :=
  ∑ k : Fin 1024, (h (ix2 (n0 := 8192) (n1 := 1024) t k) : EReal) * w (ix2 (n0 := 1024) (n1 := 3080) k j)

def mixers (h : FVec Ideal S8192x1024 .bf16) (w : FVec Ideal S1024x3080 .bf16) : FVec Ideal S8192x3072 .bf16 :=
  fun i => prod h w (i 0) ⟨(i 1).val, lt_of_lt_of_le (i 1).isLt (by decide)⟩

/-- The gates' eight columns, with zeros behind them. -/
def gates (h : FVec Ideal S8192x1024 .bf16) (w : FVec Ideal S1024x3080 .bf16) : FVec Ideal S8192x128 .f32 :=
  fun i => if hj : (i 1).val < 8 then prod h w (i 0) ⟨3072 + (i 1).val, by omega⟩ else (0 : EReal)

/-! A tile's blocks, entry by entry. -/

theorem pay1 (a : FVec Ideal S512x1024 .bf16) : k0_pay1 (F := Ideal) a = a := by
  funext i
  idx_vars i
  pointwise [k0_pay1]

theorem pay2 (a : FVec Ideal S512x1024 .bf16) (b : FVec Ideal S1024x128 .bf16) (s : Fin 512) (j : Fin 128) :
    k0_pay2 (F := Ideal) a b (ix2 s j) = ∑ k : Fin 1024, (a (ix2 s k) : EReal) * b (ix2 k j) := by
  have e : shapeCast S1024x128 b shapeCasts_S1024x128_S1024x128 = b := by
    funext i
    idx_vars i
    pointwise
  unfold k0_pay2
  rw [e]
  exact (Ideal.matmul_plain_apply none a b _ _ _).trans ((congrArg₂ (· + ·) Ideal.ofBits_zero_f32 rfl).trans (zero_add _))

theorem pay3 (a : FVec Ideal S512x1024 .bf16) (b : FVec Ideal S1024x3072 .bf16) (s : Fin 512) (j : Fin 3072) :
    k0_pay3 (F := Ideal) a b (ix2 s j) = ∑ k : Fin 1024, (a (ix2 s k) : EReal) * b (ix2 k j) := by
  have e : shapeCast S1024x3072 b shapeCasts_S1024x3072_S1024x3072 = b := by
    funext i
    idx_vars i
    pointwise
  unfold k0_pay3
  rw [e]
  exact (Ideal.matmul_plain_apply none a b _ _ _).trans ((congrArg₂ (· + ·) Ideal.ofBits_zero_f32 rfl).trans (zero_add _))

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (k : Fin 1024) (x : FVec Ideal S8192x1024 .bf16) (ht : t.val < 16) :
    (win0_0.blk t).view.read (Elt Ideal) x (ix2 s k) = x (ix2 (n0 := 8192) (n1 := 1024) ⟨512 * t.val + s.val, by omega⟩ k) := by
  have hs := s.isLt
  have hk := k.isLt
  blk_ext [idx t]

theorem read2 (t : Fin cfg0.N) (k : Fin 1024) (j : Fin 3072) (x : FVec Ideal S1024x3072 .bf16) :
    (win0_2.blk t).view.read (Elt Ideal) x (ix2 k j) = x (ix2 (n0 := 1024) (n1 := 3072) k j) := by
  have hk := k.isLt
  have hj := j.isLt
  blk_ext [idx t]

theorem read3 (t : Fin cfg0.N) (k : Fin 1024) (j : Fin 128) (x : FVec Ideal S1024x128 .bf16) :
    (win0_3.blk t).view.read (Elt Ideal) x (ix2 k j) = x (ix2 (n0 := 1024) (n1 := 128) k j) := by
  have hk := k.isLt
  have hj := j.isLt
  blk_ext [idx t]

/-- The arrays the call reads: the weight is padded by the host and cut behind the mixers' columns. -/
abbrev hA : FVec Ideal S8192x1024 .bf16 := m ((c : Thread nD τ).loc main_arg0)

abbrev wA : FVec Ideal S1024x3080 .bf16 := m ((c : Thread nD τ).loc main_arg2)

/-- The weight with 120 columns of zeros behind it. -/
def wide (w : FVec Ideal S1024x3080 .bf16) : FVec Ideal S1024x3200 .bf16 := fun i =>
  if h : (i 1).val < 3080 then w (ix2 (n0 := 1024) (n1 := 3080) (i 0) ⟨(i 1).val, h⟩) else (0 : EReal)

def left (w : FVec Ideal S1024x3080 .bf16) : FVec Ideal S1024x3072 .bf16 := fun i =>
  wide w (ix2 (n0 := 1024) (n1 := 3200) (i 0) ⟨(i 1).val, lt_of_lt_of_le (i 1).isLt (by decide)⟩)

def right (w : FVec Ideal S1024x3080 .bf16) : FVec Ideal S1024x128 .bf16 := fun i =>
  wide w (ix2 (n0 := 1024) (n1 := 3200) (i 0) ⟨3072 + (i 1).val, by have h : (i 1).val < 128 := (i 1).isLt; omega⟩)

theorem wide_eq {v : FVec Ideal S_ .bf16} (hv : ∀ i, (v i : EReal) = 0) (w : FVec Ideal S1024x3080 .bf16) :
    pad S1024x3200 ![0, 0] ![0, 120] ![0, 0] w v pads_S1024x3080_S1024x3200_000_01200 h_S_ = wide w := by
  funext i
  obtain ⟨k, j, rfl⟩ : ∃ (k : Fin 1024) (j : Fin 3200), i = ix2 k j := ⟨i 0, i 1, (ix2_eta i).symm⟩
  unfold wide
  by_cases h : j.val < 3080
  · rw [dif_pos (show ((ix2 k j : S1024x3200.Idx) 1).val < 3080 from h)]
    refine pad_apply_of_inside _ _ _ _ _ _ _ _ _ fun a => ?_
    match a with
    | ⟨0, _⟩ => show k.val = 0 + k.val * (0 + 1); omega
    | ⟨1, _⟩ => show j.val = 0 + j.val * (0 + 1); omega
  · rw [dif_neg (show ¬((ix2 k j : S1024x3200.Idx) 1).val < 3080 from h)]
    refine (pad_apply_of_not_inside _ _ _ _ _ _ _ _ (1 : Fin 2) fun hin => h ?_).trans (hv _)
    have e : (j.val - 0) / (0 + 1) < 3080 := hin.2.2
    omega

/-- The padding's value. -/
theorem fillZero (i : S_.Idx) : ((sitofp .bf16 (constantI S_ 32 0#32) : FVec Ideal S_ .bf16) i : EReal) = 0 := by
  show (((0#32 : BitVec 32).toInt : ℝ) : EReal) = 0
  simp

theorem V_left : V m c main_v1 = left (wA m c) := by
  unfold V
  simp only [hostOps0, hostOps0_1, hostOps0_2, List.flatten_cons, List.flatten_nil, List.append_nil, List.cons_append, List.nil_append, StableHlo.TRef.binary, StableHlo.TRef.unary,
    StableHlo.TRef.toBuf, StableHlo.TRef.ofBuf, cast_eq]
  after_results
  refine Eq.trans ?_ (congrArg (fun w => extractStridedSlice S1024x3072 ![0, 0] w slices_S1024x3200_S1024x3072_0_0) (wide_eq fillZero (wA m c))) |>.trans ?_
  · rfl
  · funext i
    idx_vars i
    pointwise [left]

theorem V_right : V m c main_v2 = right (wA m c) := by
  unfold V
  simp only [hostOps0, hostOps0_1, hostOps0_2, List.flatten_cons, List.flatten_nil, List.append_nil, List.cons_append, List.nil_append, StableHlo.TRef.binary, StableHlo.TRef.unary,
    StableHlo.TRef.toBuf, StableHlo.TRef.ofBuf, cast_eq]
  after_results
  refine Eq.trans ?_ (congrArg (fun w => extractStridedSlice S1024x128 ![0, 3072] w slices_S1024x3200_S1024x128_0_3072) (wide_eq fillZero (wA m c))) |>.trans ?_
  · rfl
  · funext i
    idx_vars i
    pointwise [right]

theorem iblk0 (t : Fin cfg0.N) : iblk m c 0 t = (win0_0.blk t).view.read (Elt Ideal) (hA m c) := rfl

theorem iblk2 (t : Fin cfg0.N) : iblk m c 2 t = (win0_2.blk t).view.read (Elt Ideal) (left (wA m c)) := by
  rw [← V_left]
  rfl

theorem iblk3 (t : Fin cfg0.N) : iblk m c 3 t = (win0_3.blk t).view.read (Elt Ideal) (right (wA m c)) := by
  rw [← V_right]
  rfl

/-- A point's rows of the mixers' columns. -/
theorem at3 (t : Fin cfg0.N) (ht : t.val < 16) (s : Fin 512) (j : Fin 3072) :
    k0_pay3 (F := Ideal) (iblk m c 0 t) (iblk m c 2 t) (ix2 s j)
      = mixers (hA m c) (wA m c) (ix2 (n0 := 8192) (n1 := 3072) ⟨512 * t.val + s.val, by omega⟩ j) := by
  rw [pay3, iblk0, iblk2]
  unfold mixers
  refine Finset.sum_congr rfl fun k _ => congrArg₂ (fun p q : EReal => p * q) (read0 t s k _ ht) ((read2 t k j _).trans ?_)
  unfold left wide
  exact dif_pos (show j.val < 3080 by omega)

/-- A point's rows of the gates' columns. -/
theorem at2 (t : Fin cfg0.N) (ht : t.val < 16) (s : Fin 512) (j : Fin 128) :
    k0_pay2 (F := Ideal) (iblk m c 0 t) (iblk m c 3 t) (ix2 s j)
      = gates (hA m c) (wA m c) (ix2 (n0 := 8192) (n1 := 128) ⟨512 * t.val + s.val, by omega⟩ j) := by
  rw [pay2, iblk0, iblk3]
  unfold gates
  by_cases h : j.val < 8
  · refine Eq.trans ?_ (dif_pos (show ((ix2 (n0 := 8192) (n1 := 128) ⟨512 * t.val + s.val, by omega⟩ j : S8192x128.Idx) 1).val < 8 from h)).symm
    refine Finset.sum_congr rfl fun k _ => congrArg₂ (fun p q : EReal => p * q) (read0 t s k _ ht) ((read3 t k j _).trans ?_)
    unfold right wide
    exact dif_pos (show 3072 + j.val < 3080 by omega)
  · refine Eq.trans ?_ (dif_neg (show ¬((ix2 (n0 := 8192) (n1 := 128) ⟨512 * t.val + s.val, by omega⟩ j : S8192x128.Idx) 1).val < 8 from h)).symm
    refine Finset.sum_eq_zero fun k _ => ?_
    have z : (win0_3.blk t).view.read (Elt Ideal) (right (wA m c)) (ix2 k j) = (0 : EReal) := by
      refine (read3 t k j _).trans ?_
      unfold right wide
      exact dif_neg (show ¬3072 + j.val < 3080 by omega)
    exact (congrArg₂ (fun p q : EReal => p * q) rfl z).trans (mul_zero _)

/-- The kernel's results. -/
theorem arr4 : (dats m 0 c).arrAt 4 cfg0.N = mixers (hA m c) (wA m c) := by
  refine (dats m 0 c).arrAt_eq_of_covers 4 _ (by decide +kernel) fun t _ y => ?_
  have hN := lt t
  obtain ⟨s, l, rfl⟩ : ∃ (s : Fin 512) (l : Fin 3072), y = ix2 s l := ⟨y 0, y 1, (ix2_eta y).symm⟩
  have hs := s.isLt
  have hl := l.isLt
  have e : (win0_4.blk t).view.emb (ix2 s l) = ix2 (n0 := 8192) (n1 := 3072) ⟨512 * t.val + s.val, by omega⟩ l := by
    blk_ext [idx t]
  refine Eq.trans ?_ (congrArg (mixers _ _) e.symm)
  show ((dats m 0 c).after 4 t : FVec Ideal S512x3072 .bf16) (ix2 s l) = _
  rw [after0_4]
  unfold outsAt0
  frame_out
  rw [pay1]
  exact at3 m c t hN s l

theorem arr5 : (dats m 0 c).arrAt 5 cfg0.N = gates (hA m c) (wA m c) := by
  refine (dats m 0 c).arrAt_eq_of_covers 5 _ (by decide +kernel) fun t _ y => ?_
  have hN := lt t
  obtain ⟨s, l, rfl⟩ : ∃ (s : Fin 512) (l : Fin 128), y = ix2 s l := ⟨y 0, y 1, (ix2_eta y).symm⟩
  have hs := s.isLt
  have hl := l.isLt
  have e : (win0_5.blk t).view.emb (ix2 s l) = ix2 (n0 := 8192) (n1 := 128) ⟨512 * t.val + s.val, by omega⟩ l := by
    blk_ext [idx t]
  refine Eq.trans ?_ (congrArg (gates _ _) e.symm)
  show ((dats m 0 c).after 5 t : FVec Ideal S512x128 .f32) (ix2 s l) = _
  rw [after0_5]
  unfold outsAt0
  frame_out
  exact at2 m c t hN s l

end Cert.FinIdeal.Fwd

namespace Cert.FinRefIdeal.Fwd

open Cert.FinRefIdeal Cert.FinRefIdeal.Gen Cert.FinRefIdeal.Read Idealize.ShloMosaic Idealize.ShloMosaic.TcCoe Idealize.SL.Sem
open Cert.FinIdeal.Fwd

variable (x0 : (⟨S8192x1024, .bf16⟩ : BufTy).Contents (Elt Ideal)) (x2 : (⟨S1024x3080, .bf16⟩ : BufTy).Contents (Elt Ideal))

theorem v2 (t : Fin 8192) (j : Fin 3080) : val_main_v2 (F := Ideal) x0 x2 (ix2 (n0 := 8192) (n1 := 3080) t j) = prod x0 x2 t j := by
  rw [val_main_v2_apply]
  refine Finset.sum_congr rfl fun k _ => congrArg₂ (fun p q : EReal => p * q) ?_ ?_
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

theorem v4 (i : S8192x3072.Idx) : val_main_v4 (F := Ideal) x0 x2 i = mixers x0 x2 i := by
  rw [val_main_v4_apply, val_main_v3_apply]
  exact (congrArg (val_main_v2 (F := Ideal) x0 x2) (funext fun a => Fin.ext (by match a with | ⟨0, _⟩ => rfl | ⟨1, _⟩ => rfl))).trans
    (v2 x0 x2 (i 0) ⟨(i 1).val, lt_of_lt_of_le (i 1).isLt (by decide)⟩)

theorem v6 (i : S8192x128.Idx) : val_main_v6 (F := Ideal) x0 x2 i = gates x0 x2 i := by
  obtain ⟨t, j, rfl⟩ : ∃ (t : Fin 8192) (j : Fin 128), i = ix2 t j := ⟨i 0, i 1, (ix2_eta i).symm⟩
  unfold val_main_v6 gates
  by_cases h : j.val < 8
  · refine Eq.trans ?_ (dif_pos (show ((ix2 t j : S8192x128.Idx) 1).val < 8 from h)).symm
    refine (pad_apply_of_inside _ _ _ _ _ _ _ _ (ix2 (n0 := 8192) (n1 := 8) t ⟨j.val, h⟩) fun a => ?_).trans ?_
    · match a with
      | ⟨0, _⟩ => show t.val = 0 + t.val * (0 + 1); omega
      | ⟨1, _⟩ => show j.val = 0 + j.val * (0 + 1); omega
    · rw [val_main_v5_apply]
      exact (congrArg (val_main_v2 (F := Ideal) x0 x2) (funext fun a => Fin.ext (by match a with | ⟨0, _⟩ => rfl | ⟨1, _⟩ => rfl))).trans
        (v2 x0 x2 t ⟨3072 + j.val, by omega⟩)
  · refine Eq.trans ?_ (dif_neg (show ¬((ix2 t j : S8192x128.Idx) 1).val < 8 from h)).symm
    refine (pad_apply_of_not_inside _ _ _ _ _ _ _ _ (1 : Fin 2) fun hin => h ?_).trans ?_
    · have e : (j.val - 0) / (0 + 1) < 8 := hin.2.2
      omega
    · rw [val_main_call0_v0_apply]
      show (((val_main_c (F := Ideal) _ : BitVec 32).toInt : ℝ) : EReal) = 0
      have z : (val_main_c (F := Ideal) (Shape.Idx.first h_S_) : BitVec 32).toInt = 0 := rfl
      rw [z]
      simp

end Cert.FinRefIdeal.Fwd

namespace Cert.FinIdeal.Fwd

open Cert.FinIdeal Cert.FinIdeal.Gen Idealize.ShloMosaic Idealize.ShloMosaic.TcCoe Idealize.SL.Sem

theorem frame_p : Cert.quiescent_Fin (hFin := Cert.Fin.Gen.facts) := fun m ρ _ => Cert.Fin.Gen.frame m ρ

theorem frame_pi : Cert.quiescent_FinIdeal (hFinIdeal := Cert.FinIdeal.Gen.facts) := fun m ρ _ => Cert.FinIdeal.Gen.frame m ρ

/-- The reference's frame: host operations only, no semaphore. -/
theorem frame_ri : Cert.quiescent_FinRefIdeal (hFinRefIdeal := Cert.FinRefIdeal.Gen.facts) := fun m ρ _ =>
  (θ_run (Cert.FinRefIdeal.defs (F := Ideal)) _ _).mono (fun r h => ⟨fun c => (h c).2.2, Idealize.ShloMosaic.sem_eq_zero_of_no_sems (by decide) r.2⟩)
    (Cert.FinRefIdeal.Value.run (F := Ideal) m ρ)

theorem algebraic : Cert.algebraic_FinIdeal_FinRefIdeal (hFinIdeal := Cert.FinIdeal.Gen.facts) (hFinRefIdeal := Cert.FinRefIdeal.Gen.facts) := by
  intro m ρ m' ρ' _ hagree
  refine ⟨_, _, Cert.FinIdeal.Value.run_blocks m ρ, ?_⟩
  refine (θ_run (Cert.FinRefIdeal.defs (F := Ideal)) _ _).mono (fun r h c => ?_) (Cert.FinRefIdeal.Value.run (F := Ideal) m' ρ')
  obtain ⟨e0, e1, e2⟩ := hagree c
  obtain ⟨h0, h1, k⟩ := h c
  refine ⟨h0.trans ?_, h1.trans ?_, k⟩
  · refine (Cert.FinRefIdeal.Read.val_main_v4_eq _ _).trans ?_
    rw [e0, e2, arr4 m c]
    exact funext fun i => Cert.FinRefIdeal.Fwd.v4 _ _ i
  · refine (Cert.FinRefIdeal.Read.val_main_v6_eq _ _).trans ?_
    rw [e0, e2, arr5 m c]
    exact funext fun i => Cert.FinRefIdeal.Fwd.v6 _ _ i

end Cert.FinIdeal.Fwd

end
-- ==== Proof.Fwd.Fdown.lean ====
/-
  The last product with the loss: the loss, and its gradient in the residual stream and in the last norm's gain.
-/
module

public import proofs.«01_k».proof.Defs
public import proofs.«01_k».proof.Proof.Gen.Fdown.Frame
public import proofs.«01_k».proof.Proof.Gen.FdownIdeal.Value
public import proofs.«01_k».proof.Proof.Gen.FdownRefIdeal.Run
public import proofs.«01_k».proof.Proof.Gen.FdownRefIdeal.Read
public import proofs.«01_k».proof.Proof.Rms.Row
public import proofs.«01_k».proof.Pre_finite_loss
public import Idealize.ShloMosaic.Lib.Pipeline.ValueKit
public import Idealize.ShloMosaic.Lib.MatmulPlain
public import Idealize.ShloMosaic.Lib.Claim

@[expose] public section

set_option maxRecDepth 16384

noncomputable section

namespace Cert.FdownIdeal.Fwd

open Cert.FdownIdeal Cert.FdownIdeal.Gen Idealize.ShloMosaic Idealize.ShloMosaic.TcCoe Idealize.SL.Sem
open Cert.Rms
open scoped BigOperators

/-- The constants of the loss: a half, and one over the row's length. -/
def half : EReal := Ideal.ofBits .f32 0x3F000000#32

def inv : EReal := Ideal.ofBits .f32 0x3A800000#32

theorem half_eq : half = ((1 / 2 : ℝ) : EReal) := by
  unfold half
  simp [Ideal.ofBits, Ideal.ieee, -EReal.coe_mul]; norm_num

theorem inv_eq : inv = ((1 / 1024 : ℝ) : EReal) := by
  unfold inv
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem IsNum.sub {x y : EReal} (hx : IsNum x) (hy : IsNum y) : IsNum (x - y) := by
  obtain ⟨a, rfl⟩ := hx
  obtain ⟨b, rfl⟩ := hy
  exact ⟨a - b, (EReal.coe_sub a b).symm⟩

theorem IsNum.div_len {x : EReal} (hx : IsNum x) : IsNum (Ideal.div x len) := by
  obtain ⟨a, rfl⟩ := hx
  exact ⟨a / 1024, by rw [len_eq, Cert.Fox.div_coe_coe _ (by norm_num)]⟩

/-- A half of a sum of real numbers is the sum of their halves. -/
theorem half_sum {n : ℕ} (f : Fin n → EReal) (h : ∀ k, IsNum (f k)) : half * ∑ k, f k = ∑ k, half * f k := by
  obtain ⟨r, rfl⟩ := row_coe h
  rw [half_eq, Cert.Fox.sum_eq_coe (F := fun k => ((r k : ℝ) : EReal)) (f := r) (fun _ _ => rfl),
    Cert.Fox.sum_eq_coe (F := fun k => ((1 / 2 : ℝ) : EReal) * ((r k : ℝ) : EReal)) (f := fun k => 1 / 2 * r k) (fun _ _ => (EReal.coe_mul _ _).symm),
    ← EReal.coe_mul, Finset.mul_sum]

/-- The derivative of half the mean of squares is the error over the row's length. -/
theorem scale_eq {x : EReal} (hx : IsNum x) :
    Ideal.div (Ideal.ofBits .f32 0x3F000000#32 * Ideal.ofBits .f32 0x3F800000#32) len * (Ideal.ofBits .f32 0x40000000#32 * x) = x * inv := by
  obtain ⟨r, rfl⟩ := hx
  rw [show Ideal.ofBits .f32 0x3F000000#32 = ((1 / 2 : ℝ) : EReal) from half_eq, one_eq, two_eq, len_eq, inv_eq, ← EReal.coe_mul,
    Cert.Fox.div_coe_coe _ (by norm_num), ← EReal.coe_mul, ← EReal.coe_mul, ← EReal.coe_mul]
  refine congrArg _ ?_
  ring

/-- The residual stream's rows after the product of the squared activations. -/
def stream (a : FVec Ideal S8192x4096 .bf16) (w : FVec Ideal S4096x1024 .bf16) (x : FVec Ideal S8192x1024 .f32) (t : Fin 8192) (k : Fin 1024) : EReal :=
  (x (ix2 (n0 := 8192) (n1 := 1024) t k) : EReal)
    + ∑ j : Fin 4096, (a (ix2 (n0 := 8192) (n1 := 4096) t j) * a (ix2 (n0 := 8192) (n1 := 4096) t j)) * w (ix2 (n0 := 4096) (n1 := 1024) j k)

/-- A row's error: its norm times the gain, less the target. -/
def err (r : Fin 1024 → EReal) (g : FVec Ideal S1024 .f32) (y : FVec Ideal S8192x1024 .f32) (t : Fin 8192) (k : Fin 1024) : EReal :=
  (r k * rstd r) * g (ix1 (n0 := 1024) k) - y (ix2 (n0 := 8192) (n1 := 1024) t k)

/-- The error's gradient. -/
def dy (r : Fin 1024 → EReal) (g : FVec Ideal S1024 .f32) (y : FVec Ideal S8192x1024 .f32) (t : Fin 8192) (k : Fin 1024) : EReal :=
  err r g y t k * inv

/-- A row's mean of squares. -/
def sq (r : Fin 1024 → EReal) (g : FVec Ideal S1024 .f32) (y : FVec Ideal S8192x1024 .f32) (t : Fin 8192) : EReal :=
  Ideal.div (∑ k, err r g y t k * err r g y t k) len

section
variable (a : FVec Ideal S8192x4096 .bf16) (w : FVec Ideal S4096x1024 .bf16) (x : FVec Ideal S8192x1024 .f32) (g : FVec Ideal S1024 .f32)
  (y : FVec Ideal S8192x1024 .f32)

/-- The gradient of the residual stream. -/
def dx : FVec Ideal S8192x1024 .f32 := fun i =>
  dxRow (fun k => dy (stream a w x (i 0)) g y (i 0) k * g (ix1 (n0 := 1024) k)) (stream a w x (i 0)) (i 1)

def dxb : FVec Ideal S8192x1024 .bf16 := fun i => dx a w x g y i

/-- A token's part of the gain's gradient. -/
def dgAt (k : Fin 1024) (t : Fin 8192) : EReal := dy (stream a w x t) g y t k * (stream a w x t k * rstd (stream a w x t))

def dg : FVec Ideal S1x1024 .f32 := fun i => ∑ t : Fin 8192, dgAt a w x g y (i 1) t

/-- The loss. -/
def loss : FVec Ideal S8x128 .f32 := fun _ => half * ∑ t : Fin 8192, sq (stream a w x t) g y t
end

/-! A tile's blocks, entry by entry. -/

section
variable (a : FVec Ideal S512x4096 .bf16) (x : FVec Ideal S512x1024 .f32) (w : FVec Ideal S4096x1024 .bf16) (g : FVec Ideal S1x1024 .f32)
  (y : FVec Ideal S512x1024 .f32)

theorem pay7 (s : Fin 512) (k : Fin 1024) :
    k0_pay7 (F := Ideal) a x w (ix2 s k) = (x (ix2 s k) : EReal) + ∑ j : Fin 4096, (a (ix2 s j) * a (ix2 s j)) * w (ix2 j k) := by
  unfold k0_pay7
  refine congrArg (fun q : EReal => x (ix2 s k) + q) ?_
  exact (Ideal.matmul_plain_apply none (fun i => (a i : EReal) * a i) w _ s k).trans ((congrArg₂ (· + ·) Ideal.ofBits_zero_f32 rfl).trans (zero_add _))

theorem pay9 (s : Fin 512) (u : Fin 1) : k0_pay9 (F := Ideal) a x w (ix2 s u) = rstd fun k => k0_pay7 (F := Ideal) a x w (ix2 s k) := by
  unfold rstd ms len eps k0_pay9
  generalize k0_pay7 (F := Ideal) a x w = p
  pointwise

theorem pay10 (s : Fin 512) (k : Fin 1024) : k0_pay10 (F := Ideal) a x w (ix2 s k)
    = (k0_pay7 (F := Ideal) a x w (ix2 s k) : EReal) * rstd fun k => k0_pay7 (F := Ideal) a x w (ix2 s k) := by
  rw [← pay9 a x w s 0]
  unfold k0_pay10
  generalize k0_pay9 (F := Ideal) a x w = q
  generalize k0_pay7 (F := Ideal) a x w = p
  pointwise

theorem pay11 (s : Fin 512) (k : Fin 1024) : k0_pay11 (F := Ideal) a x w g y (ix2 s k)
    = (k0_pay10 (F := Ideal) a x w (ix2 s k) : EReal) * g (ix2 0 k) - y (ix2 s k) := by
  unfold k0_pay11 k0_pay8
  generalize k0_pay10 (F := Ideal) a x w = p
  pointwise

theorem pay12 (u v : Fin 1) : k0_pay12 (F := Ideal) a x w g y (ix2 u v)
    = half * ∑ s : Fin 512, Ideal.div (∑ k : Fin 1024, (k0_pay11 (F := Ideal) a x w g y (ix2 s k) : EReal) * k0_pay11 (F := Ideal) a x w g y (ix2 s k)) len := by
  unfold half len k0_pay12
  generalize k0_pay11 (F := Ideal) a x w g y = p
  pointwise

theorem pay13 (s : Fin 512) (k : Fin 1024) : k0_pay13 (F := Ideal) a x w g y (ix2 s k) = (k0_pay11 (F := Ideal) a x w g y (ix2 s k) : EReal) * inv := by
  unfold inv k0_pay13
  generalize k0_pay11 (F := Ideal) a x w g y = p
  pointwise

theorem pay14 (s : Fin 512) (k : Fin 1024) : k0_pay14 (F := Ideal) a x w g y (ix2 s k) = (k0_pay13 (F := Ideal) a x w g y (ix2 s k) : EReal) * g (ix2 0 k) := by
  unfold k0_pay14 k0_pay8
  generalize k0_pay13 (F := Ideal) a x w g y = p
  pointwise

theorem pay15 (s : Fin 512) : k0_pay15 (F := Ideal) a x w g y (ix1 s)
    = ∑ k : Fin 1024, (k0_pay14 (F := Ideal) a x w g y (ix2 s k) : EReal) * k0_pay10 (F := Ideal) a x w (ix2 s k) := by
  unfold k0_pay15
  generalize k0_pay14 (F := Ideal) a x w g y = p
  generalize k0_pay10 (F := Ideal) a x w = q
  pointwise

theorem pay1 (s : Fin 512) (k : Fin 1024) :
    k0_pay1 (F := Ideal) (k0_pay9 (F := Ideal) a x w) (k0_pay10 (F := Ideal) a x w) (k0_pay14 (F := Ideal) a x w g y) (k0_pay15 (F := Ideal) a x w g y) (ix2 s k)
      = dxRow (fun k => k0_pay14 (F := Ideal) a x w g y (ix2 s k)) (fun k => k0_pay7 (F := Ideal) a x w (ix2 s k)) k := by
  unfold dxRow
  simp only [← pay10 a x w s]
  rw [← pay9 a x w s 0, ← pay15 a x w g y s]
  unfold k0_pay1 len
  generalize k0_pay9 (F := Ideal) a x w = r
  generalize k0_pay10 (F := Ideal) a x w = q
  generalize k0_pay14 (F := Ideal) a x w g y = p
  generalize k0_pay15 (F := Ideal) a x w g y = v
  pointwise
end

theorem pay2 (r : FVec Ideal S512x1 .f32) (q p : FVec Ideal S512x1024 .f32) (v : FVec Ideal S512 .f32) (i : S512x1024.Idx) :
    k0_pay2 (F := Ideal) r q p v i = k0_pay1 (F := Ideal) r q p v i := rfl

theorem pay3 (q p : FVec Ideal S512x1024 .f32) (u : Fin 1) (k : Fin 1024) :
    k0_pay3 (F := Ideal) q p (ix2 u k) = ∑ s : Fin 512, (p (ix2 s k) : EReal) * q (ix2 s k) := by
  pointwise [k0_pay3]

theorem pay4 (v : FVec Ideal S1x1 .f32) (u : Fin 8) (l : Fin 128) : k0_pay4 (F := Ideal) v (ix2 u l) = v (ix2 0 0) := by
  pointwise [k0_pay4]

theorem pay5 (q p : FVec Ideal S512x1024 .f32) (z : FVec Ideal S1x1024 .f32) (i : S1x1024.Idx) :
    k0_pay5 (F := Ideal) q p z i = (z i : EReal) + k0_pay3 (F := Ideal) q p i := by
  unfold k0_pay5
  generalize k0_pay3 (F := Ideal) q p = o
  pointwise

theorem pay6 (v : FVec Ideal S1x1 .f32) (z : FVec Ideal S8x128 .f32) (i : S8x128.Idx) :
    k0_pay6 (F := Ideal) v z i = (z i : EReal) + k0_pay4 (F := Ideal) v i := by
  unfold k0_pay6
  generalize k0_pay4 (F := Ideal) v = o
  pointwise

variable (m : (ℓ : Loc nD τ sig) → Buf (Elt Ideal) ℓ) (c : Dev nD)

/-- Every window's block index. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

theorem lt : ∀ t : Fin cfg0.N, t.val < 16 := (by decide +kernel : ∀ t : Fin grid0.N, t.val < 16)

theorem read0 (t : Fin cfg0.N) (s : Fin 512) (j : Fin 4096) (x : FVec Ideal S8192x4096 .bf16) (ht : t.val < 16) :
    (win0_0.blk t).view.read (Elt Ideal) x (ix2 s j) = x (ix2 (n0 := 8192) (n1 := 4096) ⟨512 * t.val + s.val, by omega⟩ j) := by
  have hs := s.isLt
  have hj := j.isLt
  blk_ext [idx t]

theorem read1 (t : Fin cfg0.N) (j : Fin 4096) (k : Fin 1024) (x : FVec Ideal S4096x1024 .bf16) :
    (win0_1.blk t).view.read (Elt Ideal) x (ix2 j k) = x (ix2 (n0 := 4096) (n1 := 1024) j k) := by
  have hk := k.isLt
  have hj := j.isLt
  blk_ext [idx t]

theorem read2 (t : Fin cfg0.N) (s : Fin 512) (k : Fin 1024) (x : FVec Ideal S8192x1024 .f32) (ht : t.val < 16) :
    (win0_2.blk t).view.read (Elt Ideal) x (ix2 s k) = x (ix2 (n0 := 8192) (n1 := 1024) ⟨512 * t.val + s.val, by omega⟩ k) := by
  have hs := s.isLt
  have hk := k.isLt
  blk_ext [idx t]

theorem read3 (t : Fin cfg0.N) (u : Fin 1) (k : Fin 1024) (x : FVec Ideal S1x1024 .f32) :
    (win0_3.blk t).view.read (Elt Ideal) x (ix2 u k) = x (ix2 (n0 := 1) (n1 := 1024) u k) := by
  have hu := u.isLt
  have hk := k.isLt
  blk_ext [idx t]

theorem read4 (t : Fin cfg0.N) (s : Fin 512) (k : Fin 1024) (x : FVec Ideal S8192x1024 .f32) (ht : t.val < 16) :
    (win0_4.blk t).view.read (Elt Ideal) x (ix2 s k) = x (ix2 (n0 := 8192) (n1 := 1024) ⟨512 * t.val + s.val, by omega⟩ k) := by
  have hs := s.isLt
  have hk := k.isLt
  blk_ext [idx t]

/-- The arrays the call reads: the gain is only reshaped by the host. -/
abbrev aA : FVec Ideal S8192x4096 .bf16 := m ((c : Thread nD τ).loc main_arg0)

abbrev wA : FVec Ideal S4096x1024 .bf16 := m ((c : Thread nD τ).loc main_arg1)

abbrev xA : FVec Ideal S8192x1024 .f32 := m ((c : Thread nD τ).loc main_arg2)

abbrev gA : FVec Ideal S1024 .f32 := m ((c : Thread nD τ).loc main_arg3)

abbrev yA : FVec Ideal S8192x1024 .f32 := m ((c : Thread nD τ).loc main_arg4)

def gRow (g : FVec Ideal S1024 .f32) : FVec Ideal S1x1024 .f32 := fun i => g (ix1 (n0 := 1024) (i 1))

theorem V_gain : V m c main_v0 = gRow (gA m c) := by
  unfold V
  entry_read
  funext i
  idx_vars i
  pointwise [gRow]

theorem iblk0 (t : Fin cfg0.N) : iblk m c 0 t = (win0_0.blk t).view.read (Elt Ideal) (aA m c) := rfl

theorem iblk1 (t : Fin cfg0.N) : iblk m c 1 t = (win0_1.blk t).view.read (Elt Ideal) (wA m c) := rfl

theorem iblk2 (t : Fin cfg0.N) : iblk m c 2 t = (win0_2.blk t).view.read (Elt Ideal) (xA m c) := rfl

theorem iblk3 (t : Fin cfg0.N) : iblk m c 3 t = (win0_3.blk t).view.read (Elt Ideal) (gRow (gA m c)) := by
  rw [← V_gain]
  rfl

theorem iblk4 (t : Fin cfg0.N) : iblk m c 4 t = (win0_4.blk t).view.read (Elt Ideal) (yA m c) := rfl

/-- A point's rows of the residual stream. -/
theorem at7 (t : Fin cfg0.N) (ht : t.val < 16) (s : Fin 512) :
    (fun k : Fin 1024 => (k0_pay7 (F := Ideal) (iblk m c 0 t) (iblk m c 2 t) (iblk m c 1 t) (ix2 s k) : EReal))
      = stream (aA m c) (wA m c) (xA m c) ⟨512 * t.val + s.val, by omega⟩ := by
  refine funext fun k => ?_
  rw [pay7, iblk0, iblk1, iblk2]
  refine congrArg₂ (fun p q : EReal => p + q) (read2 t s k _ ht) (Finset.sum_congr rfl fun j _ => ?_)
  exact congrArg₂ (fun p q : EReal => (p * p) * q) (read0 t s j _ ht) (read1 t j k _)

theorem at3 (t : Fin cfg0.N) (u : Fin 1) (k : Fin 1024) : ((iblk m c 3 t : FVec Ideal S1x1024 .f32) (ix2 u k) : EReal) = gA m c (ix1 (n0 := 1024) k) := by
  rw [iblk3]
  exact read3 t u k _

theorem at4 (t : Fin cfg0.N) (ht : t.val < 16) (s : Fin 512) (k : Fin 1024) : ((iblk m c 4 t : FVec Ideal S512x1024 .f32) (ix2 s k) : EReal)
    = yA m c (ix2 (n0 := 8192) (n1 := 1024) ⟨512 * t.val + s.val, by omega⟩ k) := by
  rw [iblk4]
  exact read4 t s k _ ht

/-- A point's normed rows. -/
theorem at10 (t : Fin cfg0.N) (ht : t.val < 16) (s : Fin 512) (k : Fin 1024) :
    k0_pay10 (F := Ideal) (iblk m c 0 t) (iblk m c 2 t) (iblk m c 1 t) (ix2 s k)
      = stream (aA m c) (wA m c) (xA m c) ⟨512 * t.val + s.val, by omega⟩ k * rstd (stream (aA m c) (wA m c) (xA m c) ⟨512 * t.val + s.val, by omega⟩) := by
  rw [pay10, at7 m c t ht s]
  exact congrArg (fun p : EReal => p * _) (congrFun (at7 m c t ht s) k)

/-- A point's errors. -/
theorem at11 (t : Fin cfg0.N) (ht : t.val < 16) (s : Fin 512) (k : Fin 1024) :
    k0_pay11 (F := Ideal) (iblk m c 0 t) (iblk m c 2 t) (iblk m c 1 t) (iblk m c 3 t) (iblk m c 4 t) (ix2 s k)
      = err (stream (aA m c) (wA m c) (xA m c) ⟨512 * t.val + s.val, by omega⟩) (gA m c) (yA m c) ⟨512 * t.val + s.val, by omega⟩ k := by
  rw [pay11, at10 m c t ht s k]
  exact congrArg₂ (fun p q : EReal => _ * p - q) (at3 m c t 0 k) (at4 m c t ht s k)

theorem at13 (t : Fin cfg0.N) (ht : t.val < 16) (s : Fin 512) (k : Fin 1024) :
    k0_pay13 (F := Ideal) (iblk m c 0 t) (iblk m c 2 t) (iblk m c 1 t) (iblk m c 3 t) (iblk m c 4 t) (ix2 s k)
      = dy (stream (aA m c) (wA m c) (xA m c) ⟨512 * t.val + s.val, by omega⟩) (gA m c) (yA m c) ⟨512 * t.val + s.val, by omega⟩ k := by
  rw [pay13, at11 m c t ht s k]
  rfl

theorem at14 (t : Fin cfg0.N) (ht : t.val < 16) (s : Fin 512) (k : Fin 1024) :
    k0_pay14 (F := Ideal) (iblk m c 0 t) (iblk m c 2 t) (iblk m c 1 t) (iblk m c 3 t) (iblk m c 4 t) (ix2 s k)
      = dy (stream (aA m c) (wA m c) (xA m c) ⟨512 * t.val + s.val, by omega⟩) (gA m c) (yA m c) ⟨512 * t.val + s.val, by omega⟩ k * gA m c (ix1 (n0 := 1024) k) := by
  rw [pay14, at13 m c t ht s k]
  exact congrArg (fun p : EReal => _ * p) (at3 m c t 0 k)

/-- A point's rows of the residual stream's gradient. -/
theorem at1 (t : Fin cfg0.N) (ht : t.val < 16) (s : Fin 512) (k : Fin 1024) :
    k0_pay1 (F := Ideal) (k0_pay9 (F := Ideal) (iblk m c 0 t) (iblk m c 2 t) (iblk m c 1 t)) (k0_pay10 (F := Ideal) (iblk m c 0 t) (iblk m c 2 t) (iblk m c 1 t))
      (k0_pay14 (F := Ideal) (iblk m c 0 t) (iblk m c 2 t) (iblk m c 1 t) (iblk m c 3 t) (iblk m c 4 t))
      (k0_pay15 (F := Ideal) (iblk m c 0 t) (iblk m c 2 t) (iblk m c 1 t) (iblk m c 3 t) (iblk m c 4 t)) (ix2 s k)
      = dx (aA m c) (wA m c) (xA m c) (gA m c) (yA m c) (ix2 (n0 := 8192) (n1 := 1024) ⟨512 * t.val + s.val, by omega⟩ k) := by
  rw [pay1, at7 m c t ht s, show (fun k : Fin 1024 => (k0_pay14 (F := Ideal) (iblk m c 0 t) (iblk m c 2 t) (iblk m c 1 t) (iblk m c 3 t) (iblk m c 4 t) (ix2 s k) : EReal)) = _ from
    funext fun k => at14 m c t ht s k]
  rfl

/-- A point's part of the gain's gradient. -/
theorem atg (t : Fin cfg0.N) (ht : t.val < 16) (u : Fin 1) (k : Fin 1024) :
    k0_pay3 (F := Ideal) (k0_pay10 (F := Ideal) (iblk m c 0 t) (iblk m c 2 t) (iblk m c 1 t))
      (k0_pay13 (F := Ideal) (iblk m c 0 t) (iblk m c 2 t) (iblk m c 1 t) (iblk m c 3 t) (iblk m c 4 t)) (ix2 u k)
      = ∑ s : Fin 512, dgAt (aA m c) (wA m c) (xA m c) (gA m c) (yA m c) k ⟨512 * t.val + s.val, by omega⟩ := by
  rw [pay3]
  refine Finset.sum_congr rfl fun s _ => ?_
  rw [at13 m c t ht s k, at10 m c t ht s k]
  rfl

/-- A token's part of the loss. -/
def lossAt (a : FVec Ideal S8192x4096 .bf16) (w : FVec Ideal S4096x1024 .bf16) (x : FVec Ideal S8192x1024 .f32) (g : FVec Ideal S1024 .f32)
    (y : FVec Ideal S8192x1024 .f32) (t : Fin 8192) : EReal := half * sq (stream a w x t) g y t

/-- A point's part of the loss. -/
theorem atl (hs : ∀ t, IsNum (sq (stream (aA m c) (wA m c) (xA m c) t) (gA m c) (yA m c) t)) (t : Fin cfg0.N) (ht : t.val < 16) (u : Fin 8) (l : Fin 128) :
    k0_pay4 (F := Ideal) (k0_pay12 (F := Ideal) (iblk m c 0 t) (iblk m c 2 t) (iblk m c 1 t) (iblk m c 3 t) (iblk m c 4 t)) (ix2 u l)
      = ∑ s : Fin 512, lossAt (aA m c) (wA m c) (xA m c) (gA m c) (yA m c) ⟨512 * t.val + s.val, by omega⟩ := by
  rw [pay4, pay12]
  simp only [at11 m c t ht]
  exact half_sum (fun s : Fin 512 => sq (stream (aA m c) (wA m c) (xA m c) ⟨512 * t.val + s.val, by omega⟩) (gA m c) (yA m c) ⟨512 * t.val + s.val, by omega⟩) fun s => hs _

/-- What the points up to one leave of the gain's gradient. -/
theorem accg : ∀ (n : ℕ) (h : n < cfg0.N) (u : Fin 1) (k : Fin 1024), ((outsAt0 m c n h).2.2.1 : FVec Ideal S1x1024 .f32) (ix2 u k)
      = ∑ r ∈ Finset.range (512 * n + 512), onNat (dgAt (aA m c) (wA m c) (xA m c) (gA m c) (yA m c) k) r
  | 0, h, u, k => by
    have e := outsAt0_A m c ⟨0, h⟩ rfl (by show ¬1 ≤ 0; omega)
    have ht := lt ⟨0, h⟩
    rw [sum_tile _ _ (by omega), show outsAt0 m c 0 h = _ from e]
    frame_out
    refine (atg m c ⟨0, h⟩ ht u k).trans ?_
    simp
  | n + 1, h, u, k => by
    have ht := lt ⟨n + 1, h⟩
    have ht' : n + 1 < 16 := ht
    have e := outsAt0_B m c ⟨n + 1, h⟩ (by show ¬(n + 1) % 16 = 0; omega) (by show 1 ≤ n + 1; omega)
    rw [sum_tile _ _ (by omega), show outsAt0 m c (n + 1) h = _ from e]
    frame_out
    rw [pay5]
    exact congrArg₂ (fun p q : EReal => p + q) (accg n (by omega) u k) (atg m c ⟨n + 1, h⟩ ht u k)

/-- What the points up to one leave of the loss. -/
theorem accl (hs : ∀ t, IsNum (sq (stream (aA m c) (wA m c) (xA m c) t) (gA m c) (yA m c) t)) :
    ∀ (n : ℕ) (h : n < cfg0.N) (u : Fin 8) (l : Fin 128), ((outsAt0 m c n h).2.2.2 : FVec Ideal S8x128 .f32) (ix2 u l)
      = ∑ r ∈ Finset.range (512 * n + 512), onNat (lossAt (aA m c) (wA m c) (xA m c) (gA m c) (yA m c)) r
  | 0, h, u, l => by
    have e := outsAt0_A m c ⟨0, h⟩ rfl (by show ¬1 ≤ 0; omega)
    have ht := lt ⟨0, h⟩
    rw [sum_tile _ _ (by omega), show outsAt0 m c 0 h = _ from e]
    frame_out
    refine (atl m c hs ⟨0, h⟩ ht u l).trans ?_
    simp
  | n + 1, h, u, l => by
    have ht := lt ⟨n + 1, h⟩
    have ht' : n + 1 < 16 := ht
    have e := outsAt0_B m c ⟨n + 1, h⟩ (by show ¬(n + 1) % 16 = 0; omega) (by show 1 ≤ n + 1; omega)
    rw [sum_tile _ _ (by omega), show outsAt0 m c (n + 1) h = _ from e]
    frame_out
    rw [pay6]
    exact congrArg₂ (fun p q : EReal => p + q) (accl hs n (by omega) u l) (atl m c hs ⟨n + 1, h⟩ ht u l)

/-- The kernel's results. -/
theorem arr5 : (dats m 0 c).arrAt 5 cfg0.N = dx (aA m c) (wA m c) (xA m c) (gA m c) (yA m c) := by
  refine (dats m 0 c).arrAt_eq_of_covers 5 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_5.blk t).view.emb (ix2 s l) = ix2 (n0 := 8192) (n1 := 1024) ⟨512 * t.val + s.val, by omega⟩ l := by
    blk_ext [idx t]
  refine Eq.trans ?_ (congrArg (dx _ _ _ _ _) e.symm)
  show ((dats m 0 c).after 5 t : FVec Ideal S512x1024 .f32) (ix2 s l) = _
  rw [after0_5]
  by_cases h : t.val % 16 = 0
  · rw [outsAt0_A m c t h (by omega)]
    frame_out
    exact at1 m c t hN s l
  · rw [outsAt0_B m c t h (by omega)]
    frame_out
    exact at1 m c t hN s l

theorem arr6 : (dats m 0 c).arrAt 6 cfg0.N = dxb (aA m c) (wA m c) (xA m c) (gA m c) (yA m c) := by
  refine (dats m 0 c).arrAt_eq_of_covers 6 _ (by decide +kernel) fun t _ y => ?_
  have hN := lt t
  obtain ⟨s, l, rfl⟩ : ∃ (s : Fin 512) (l : Fin 1024), y = ix2 s l := ⟨y 0, y 1, (ix2_eta y).symm⟩
  have hs := s.isLt
  have hl := l.isLt
  have e : (win0_6.blk t).view.emb (ix2 s l) = ix2 (n0 := 8192) (n1 := 1024) ⟨512 * t.val + s.val, by omega⟩ l := by
    blk_ext [idx t]
  refine Eq.trans ?_ (congrArg (dxb _ _ _ _ _) e.symm)
  show ((dats m 0 c).after 6 t : FVec Ideal S512x1024 .bf16) (ix2 s l) = _
  rw [after0_6]
  by_cases h : t.val % 16 = 0
  · rw [outsAt0_A m c t h (by omega)]
    frame_out
    exact (pay2 _ _ _ _ _).trans (at1 m c t hN s l)
  · rw [outsAt0_B m c t h (by omega)]
    frame_out
    exact (pay2 _ _ _ _ _).trans (at1 m c t hN s l)

theorem arr7 : (dats m 0 c).arrAt 7 cfg0.N = dg (aA m c) (wA m c) (xA m c) (gA m c) (yA m c) := by
  refine (dats m 0 c).arrAt_eq_of_covers 7 _ (by decide +kernel) fun t hf y => ?_
  have hN := lt t
  have h := (flush0_7 t).mp hf
  obtain ⟨u, l, rfl⟩ : ∃ (u : Fin 1) (l : Fin 1024), y = ix2 u l := ⟨y 0, y 1, (ix2_eta y).symm⟩
  have hu := u.isLt
  have hl := l.isLt
  have e : (win0_7.blk t).view.emb (ix2 u l) = ix2 (n0 := 1) (n1 := 1024) u l := by
    blk_ext [idx t]
  refine Eq.trans ?_ (congrArg (dg _ _ _ _ _) e.symm)
  show ((dats m 0 c).after 7 t : FVec Ideal S1x1024 .f32) (ix2 u l) = _
  rw [after0_7, accg m c t.val t.isLt u l, show 512 * t.val + 512 = 8192 by omega]
  exact sum_onNat _

theorem arr8 (hs : ∀ t, IsNum (sq (stream (aA m c) (wA m c) (xA m c) t) (gA m c) (yA m c) t)) :
    (dats m 0 c).arrAt 8 cfg0.N = loss (aA m c) (wA m c) (xA m c) (gA m c) (yA m c) := by
  refine (dats m 0 c).arrAt_eq_of_covers 8 _ (by decide +kernel) fun t hf y => ?_
  have hN := lt t
  have h := (flush0_8 t).mp hf
  obtain ⟨u, l, rfl⟩ : ∃ (u : Fin 8) (l : Fin 128), y = ix2 u l := ⟨y 0, y 1, (ix2_eta y).symm⟩
  show ((dats m 0 c).after 8 t : FVec Ideal S8x128 .f32) (ix2 u l) = _
  rw [after0_8, accl m c hs t.val t.isLt u l, show 512 * t.val + 512 = 8192 by omega]
  exact (sum_onNat _).trans (half_sum _ hs).symm

end Cert.FdownIdeal.Fwd

namespace Cert.FdownRefIdeal.Fwd

open Cert.FdownRefIdeal Cert.FdownRefIdeal.Gen Cert.FdownRefIdeal.Read Idealize.ShloMosaic Idealize.SL.Sem
open Cert.Rms Cert.FdownIdeal.Fwd
open scoped BigOperators

variable (x0 : (⟨S8192x4096, .bf16⟩ : BufTy).Contents (Elt Ideal)) (x1 : (⟨S4096x1024, .bf16⟩ : BufTy).Contents (Elt Ideal))
  (x2 : (⟨S8192x1024, .f32⟩ : BufTy).Contents (Elt Ideal)) (x3 : (⟨S1024, .f32⟩ : BufTy).Contents (Elt Ideal))
  (x4 : (⟨S8192x1024, .f32⟩ : BufTy).Contents (Elt Ideal))

/-- A row of the residual stream. -/
abbrev row (t : Fin 8192) : Fin 1024 → EReal := stream x0 x1 x2 t

theorem v4 (t : Fin 8192) (k : Fin 1024) : val_main_v4 (F := Ideal) x0 x1 x2 (ix2 (n0 := 8192) (n1 := 1024) t k) = row x0 x1 x2 t k := by
  rw [val_main_v4_apply, val_main_v3_apply]
  refine congrArg (fun q : EReal => _ + q) (Finset.sum_congr rfl fun j _ => ?_)
  rw [val_main_v2_apply]
  have h : lidx_main_v3 (ix2 (n0 := 8192) (n1 := 1024) t k) j = ix2 (n0 := 8192) (n1 := 4096) t j :=
    funext fun a => Fin.ext (by match a with | ⟨0, _⟩ => rfl | ⟨1, _⟩ => rfl)
  have h2 : ridx_main_v3 (ix2 (n0 := 8192) (n1 := 1024) t k) j = ix2 (n0 := 4096) (n1 := 1024) j k :=
    funext fun a => Fin.ext (by match a with | ⟨0, _⟩ => rfl | ⟨1, _⟩ => rfl)
  rw [h, h2]
  rfl

theorem v11 (t : Fin 8192) (u : Fin 1) : val_main_v11 (F := Ideal) x0 x1 x2 (ix2 (n0 := 8192) (n1 := 1) t u) = ms (row x0 x1 x2 t) := by
  rw [val_main_v11_apply, val_main_v9_apply, val_main_v7_apply, val_main_v6_apply, val_main_v8_apply, val_main_v10_apply]
  refine congrArg₂ (fun p q : EReal => Ideal.div p len + q) ?_ rfl
  refine (congrArg₂ (fun p q : EReal => p + q) Ideal.ofBits_zero_f32 (Finset.sum_congr rfl fun k _ => ?_)).trans (zero_add _)
  have h : idx_main_v6 (idx_main_v7 (ix2 (n0 := 8192) (n1 := 1) t u)) k = ix2 (n0 := 8192) (n1 := 1024) t k :=
    funext fun a => Fin.ext (by match a with | ⟨0, _⟩ => rfl | ⟨1, _⟩ => rfl)
  rw [h, val_main_v5_apply, v4]
  rfl

theorem v12 (t : Fin 8192) (u : Fin 1) : val_main_v12 (F := Ideal) x0 x1 x2 (ix2 (n0 := 8192) (n1 := 1) t u) = rstd (row x0 x1 x2 t) := by
  rw [val_main_v12_apply, v11]
  rfl

theorem v15 (t : Fin 8192) (u : Fin 1) : val_main_v15 (F := Ideal) x0 x1 x2 (ix2 (n0 := 8192) (n1 := 1) t u)
    = minusHalf * Ideal.div (rstd (row x0 x1 x2 t)) (ms (row x0 x1 x2 t)) := by
  rw [val_main_v15_apply, val_main_v13_apply, v11, v12, val_main_v14_apply]
  rfl

theorem v17 (t : Fin 8192) (k : Fin 1024) : val_main_v17 (F := Ideal) x0 x1 x2 (ix2 (n0 := 8192) (n1 := 1024) t k)
    = row x0 x1 x2 t k * rstd (row x0 x1 x2 t) := by
  rw [val_main_v17_apply, val_main_v16_apply]
  have h : idx_main_v16 (ix2 (n0 := 8192) (n1 := 1024) t k) = ix2 (n0 := 8192) (n1 := 1) t 0 :=
    funext fun a => Fin.ext (by match a with | ⟨0, _⟩ => rfl | ⟨1, _⟩ => rfl)
  rw [h, v12, v4]
  rfl

theorem v21 (t : Fin 8192) (k : Fin 1024) : val_main_v21 (F := Ideal) x0 x1 x2 x3 x4 (ix2 (n0 := 8192) (n1 := 1024) t k)
    = err (row x0 x1 x2 t) x3 x4 t k := by
  rw [val_main_v21_apply, val_main_v20_apply, v17, val_main_v19_apply, val_main_v18_apply]
  exact congrArg (fun q : EReal => (row x0 x1 x2 t k * rstd (row x0 x1 x2 t)) * q - _) (congrArg x3 (funext fun a => Fin.ext (by match a with | ⟨0, _⟩ => rfl)))

/-- A sum over the tokens' indices. -/
theorem sum_tokens (f : S8192.Idx → EReal) : ∑ j : S8192.Idx, f j = ∑ t : Fin 8192, f (ix1 (n0 := 8192) t) :=
  (Equiv.sum_comp (⟨fun t => ix1 (n0 := 8192) t, fun j => j 0, fun _ => rfl, fun j => ix1_eta j⟩ : Fin 8192 ≃ S8192.Idx) f).symm

/-- The loss. -/
theorem v58 (i : S8x128.Idx) : val_main_v58 (F := Ideal) x0 x1 x2 x3 x4 i = loss x0 x1 x2 x3 x4 i := by
  rw [val_main_v58_apply, val_main_v29_apply, val_main_v28_apply, sum_tokens]
  refine congrArg (fun q : EReal => half * q) ?_
  refine (congrArg₂ (fun p q : EReal => p + q) Ideal.ofBits_zero_f32 (Finset.sum_congr rfl fun t _ => ?_)).trans (zero_add _)
  rw [val_main_v27_apply, val_main_v25_apply, val_main_v26_apply]
  refine congrArg (fun q : EReal => Ideal.div q len) ?_
  refine (congrArg₂ (fun p q : EReal => p + q) Ideal.ofBits_zero_f32 (Finset.sum_congr rfl fun k _ => ?_)).trans (zero_add _)
  have h : idx_main_v25 (ix1 (n0 := 8192) t) k = ix2 (n0 := 8192) (n1 := 1024) t k :=
    funext fun a => Fin.ext (by match a with | ⟨0, _⟩ => rfl | ⟨1, _⟩ => rfl)
  rw [h, val_main_v22_apply, v21]
  rfl

variable (hn : ∀ t k, IsNum (err (row x0 x1 x2 t) x3 x4 t k))

include hn in
theorem v35 (t : Fin 8192) (k : Fin 1024) : val_main_v35 (F := Ideal) x0 x1 x2 x3 x4 (ix2 (n0 := 8192) (n1 := 1024) t k)
    = dy (row x0 x1 x2 t) x3 x4 t k := by
  rw [val_main_v35_apply, val_main_v34_apply, val_main_v33_apply, val_main_v31_apply, val_main_v30_apply, val_main_v32_apply, val_main_v24_apply,
    v21, val_main_v23_apply]
  exact scale_eq (hn t k)

include hn in
theorem v57 (i : S1x1024.Idx) : val_main_v57 (F := Ideal) x0 x1 x2 x3 x4 i = dg x0 x1 x2 x3 x4 i := by
  obtain ⟨u, k, rfl⟩ : ∃ (u : Fin 1) (k : Fin 1024), i = ix2 u k := ⟨i 0, i 1, (ix2_eta i).symm⟩
  rw [val_main_v57_apply, val_main_v41_apply]
  refine (congrArg₂ (fun p q : EReal => p + q) Ideal.ofBits_zero_f32 (Fin.sum_univ_one _)).trans ((zero_add _).trans ?_)
  rw [val_main_v38_apply, val_main_v37_apply]
  refine (congrArg₂ (fun p q : EReal => p + q) Ideal.ofBits_zero_f32 (Finset.sum_congr rfl fun t _ => ?_)).trans (zero_add _)
  have h : idx_main_v37 (idx_main_v38 (idx_main_v41 (idx_main_v57 (ix2 (n0 := 1) (n1 := 1024) u k)) 0)) t = ix2 (n0 := 8192) (n1 := 1024) t k := by
    have := u.isLt
    have := k.isLt
    refine funext fun a => Fin.ext ?_
    match a with
    | ⟨0, _⟩ => rfl
    | ⟨1, _⟩ => simp [idx_main_v37, idx_main_v38, idx_main_v41, idx_main_v57]; try omega
  rw [h, val_main_v36_apply, v17, v35 x0 x1 x2 x3 x4 hn]
  exact mul_comm _ _

/-- The gradient of the normed row, times the gain. -/
abbrev e (t : Fin 8192) : Fin 1024 → EReal := fun k => dy (row x0 x1 x2 t) x3 x4 t k * x3 (ix1 (n0 := 1024) k)

include hn in
theorem v40 (t : Fin 8192) (k : Fin 1024) : val_main_v40 (F := Ideal) x0 x1 x2 x3 x4 (ix2 (n0 := 8192) (n1 := 1024) t k) = e x0 x1 x2 x3 x4 t k := by
  rw [val_main_v40_apply, v35 x0 x1 x2 x3 x4 hn, val_main_v39_apply, val_main_v18_apply]
  exact congrArg (fun q : EReal => dy (row x0 x1 x2 t) x3 x4 t k * q) (congrArg x3 (funext fun a => Fin.ext (by match a with | ⟨0, _⟩ => rfl)))

include hn in
/-- The gradient of the mean of squares. -/
theorem v51 (t : Fin 8192) (k : Fin 1024) : val_main_v51 (F := Ideal) x0 x1 x2 x3 x4 (ix2 (n0 := 8192) (n1 := 1024) t k)
    = dms (e x0 x1 x2 x3 x4 t) (row x0 x1 x2 t) := by
  rw [val_main_v51_apply, val_main_v50_apply]
  refine (congrArg₂ (fun p q : EReal => p + q) Ideal.ofBits_zero_f32 (Fin.sum_univ_one _)).trans ((zero_add _).trans ?_)
  rw [val_main_v49_apply, val_main_v47_apply, val_main_v48_apply, val_main_v44_apply, val_main_v43_apply]
  have h : idx_main_v50 (idx_main_v51 (ix2 (n0 := 8192) (n1 := 1024) t k)) 0 = ix2 (n0 := 8192) (n1 := 1) t 0 :=
    funext fun a => Fin.ext (by match a with | ⟨0, _⟩ => rfl | ⟨1, _⟩ => rfl)
  rw [h, v15]
  refine congrArg (fun p : EReal => Ideal.div (p * _) len) ?_
  refine (congrArg₂ (fun p q : EReal => p + q) Ideal.ofBits_zero_f32 (Finset.sum_congr rfl fun j _ => ?_)).trans (zero_add _)
  have h2 : idx_main_v43 (idx_main_v44 (ix2 (n0 := 8192) (n1 := 1) t 0)) j = ix2 (n0 := 8192) (n1 := 1024) t j :=
    funext fun a => Fin.ext (by match a with | ⟨0, _⟩ => simp | ⟨1, _⟩ => rfl)
  rw [h2, val_main_v42_apply, v40 x0 x1 x2 x3 x4 hn, v4]
  rfl

include hn in
theorem v55 (he : ∀ t k, IsNum (e x0 x1 x2 x3 x4 t k)) (hx : ∀ t k, IsNum (row x0 x1 x2 t k)) (i : S8192x1024.Idx) :
    val_main_v55 (F := Ideal) x0 x1 x2 x3 x4 i = dx x0 x1 x2 x3 x4 i := by
  obtain ⟨t, k, rfl⟩ : ∃ (t : Fin 8192) (k : Fin 1024), i = ix2 t k := ⟨i 0, i 1, (ix2_eta i).symm⟩
  rw [val_main_v55_apply, val_main_v54_apply, val_main_v53_apply, val_main_v52_apply, val_main_v46_apply, v40 x0 x1 x2 x3 x4 hn,
    v51 x0 x1 x2 x3 x4 hn, val_main_v45_apply, v4]
  have h : idx_main_v45 (ix2 (n0 := 8192) (n1 := 1024) t k) = ix2 (n0 := 8192) (n1 := 1) t 0 :=
    funext fun a => Fin.ext (by match a with | ⟨0, _⟩ => rfl | ⟨1, _⟩ => rfl)
  rw [h, v12]
  exact dxRow_eq (e x0 x1 x2 x3 x4 t) (row x0 x1 x2 t) (he t) (hx t) k

end Cert.FdownRefIdeal.Fwd

namespace Cert.FdownIdeal.Fwd

open Cert.FdownIdeal Cert.FdownIdeal.Gen Idealize.ShloMosaic Idealize.ShloMosaic.TcCoe Idealize.SL.Sem
open Cert.Rms

/-- The side conditions the precondition states. -/
theorem preFacts : Cert.Pre_finite_loss.Facts where
  bitsLt_bf16_f32 := by decide
  bcast_S_S8192x4096 := by decide
  bcast_S_S4096x1024 := by decide
  bcast_S_S8192x1024 := by decide
  bcast_S_S1024 := by decide

theorem frame_p : Cert.quiescent_Fdown (hFdown := Cert.Fdown.Gen.facts) := fun m ρ _ => Cert.Fdown.Gen.frame m ρ

theorem frame_pi : Cert.quiescent_FdownIdeal (hFdownIdeal := Cert.FdownIdeal.Gen.facts) := fun m ρ _ => Cert.FdownIdeal.Gen.frame m ρ

theorem frame_pi_pre : Cert.quiescent_FdownIdeal_pre_finite_loss (hFdownIdeal := Cert.FdownIdeal.Gen.facts) (hPre_finite_loss := preFacts) :=
  fun m ρ _ => Cert.FdownIdeal.Gen.frame m ρ

/-- The reference's frame: host operations only, no semaphore. -/
theorem frame_ri : Cert.quiescent_FdownRefIdeal (hFdownRefIdeal := Cert.FdownRefIdeal.Gen.facts) := fun m ρ _ =>
  (θ_run (Cert.FdownRefIdeal.defs (F := Ideal)) _ _).mono (fun r h => ⟨fun c => (h c).2.2.2.2, Idealize.ShloMosaic.sem_eq_zero_of_no_sems (by decide) r.2⟩)
    (Cert.FdownRefIdeal.Value.run (F := Ideal) m ρ)

theorem frame_ri_pre : Cert.quiescent_FdownRefIdeal_pre_finite_loss (hFdownRefIdeal := Cert.FdownRefIdeal.Gen.facts) (hPre_finite_loss := preFacts) :=
  fun m ρ _ => frame_ri m ρ trivial

variable (m : (ℓ : Loc nD τ sig) → Buf (Elt Ideal) ℓ) (c : Dev nD)

/-- Under the precondition the residual stream and the errors are real numbers. -/
theorem nums (hpre : Cert.Pre_FdownIdeal_finite_loss (hPre_finite_loss := preFacts) m) :
    (∀ k, IsNum (gA m c (ix1 (n0 := 1024) k)))
    ∧ (∀ t k, IsNum (stream (aA m c) (wA m c) (xA m c) t k)) ∧ ∀ t k, IsNum (err (stream (aA m c) (wA m c) (xA m c) t) (gA m c) (yA m c) t k) := by
  obtain ⟨h0, h1, h2, h3, h4⟩ := hpre c
  have n0 : ∀ i, IsNum (aA m c i) := fun i => IsNum.of_bit (congrFun h0 i)
  have n1 : ∀ i, IsNum (wA m c i) := fun i => IsNum.of_bit (congrFun h1 i)
  have n2 : ∀ i, IsNum (xA m c i) := fun i => IsNum.of_bit (congrFun h2 i)
  have n3 : ∀ i, IsNum (gA m c i) := fun i => IsNum.of_bit (congrFun h3 i)
  have n4 : ∀ i, IsNum (yA m c i) := fun i => IsNum.of_bit (congrFun h4 i)
  have hx : ∀ t k, IsNum (stream (aA m c) (wA m c) (xA m c) t k) := fun t k => (n2 _).add (IsNum.sum fun j => ((n0 _).mul (n0 _)).mul (n1 _))
  exact ⟨fun k => n3 _, hx, fun t k => IsNum.sub (((hx t k).mul (rstd_num (hx t))).mul (n3 _)) (n4 _)⟩

theorem algebraic : Cert.algebraic_FdownIdeal_FdownRefIdeal_pre_finite_loss (hFdownIdeal := Cert.FdownIdeal.Gen.facts)
    (hFdownRefIdeal := Cert.FdownRefIdeal.Gen.facts) (hPre_finite_loss := preFacts) := by
  intro m ρ m' ρ' hpre hagree
  refine ⟨_, _, _, _, Cert.FdownIdeal.Value.run_blocks m ρ, ?_⟩
  refine (θ_run (Cert.FdownRefIdeal.defs (F := Ideal)) _ _).mono (fun r h c => ?_) (Cert.FdownRefIdeal.Value.run (F := Ideal) m' ρ')
  obtain ⟨e0, e1, e2, e3, e4⟩ := hagree c
  obtain ⟨h0, h1, h2, h3, k⟩ := h c
  obtain ⟨hg, hx, hn⟩ := nums m c hpre
  have he : ∀ t k, IsNum (Cert.FdownRefIdeal.Fwd.e (aA m c) (wA m c) (xA m c) (gA m c) (yA m c) t k) :=
    fun t k => ((hn t k).mul ⟨_, inv_eq⟩).mul (hg k)
  have hs : ∀ t, IsNum (sq (stream (aA m c) (wA m c) (xA m c) t) (gA m c) (yA m c) t) :=
    fun t => IsNum.div_len (IsNum.sum fun k => (hn t k).mul (hn t k))
  refine ⟨h0.trans ?_, h1.trans ?_, h2.trans ?_, h3.trans ?_, k⟩
  · rw [Cert.FdownRefIdeal.Read.val_main_v55_eq, e0, e1, e2, e3, e4, arr5 m c]
    exact funext fun i => Cert.FdownRefIdeal.Fwd.v55 _ _ _ _ _ hn he hx i
  · rw [Cert.FdownRefIdeal.Read.val_main_v56_eq, e0, e1, e2, e3, e4, arr6 m c]
    exact funext fun i => (Cert.FdownRefIdeal.Read.val_main_v56_apply _ _ _ _ _ i).trans (Cert.FdownRefIdeal.Fwd.v55 _ _ _ _ _ hn he hx i)
  · refine (Cert.FdownRefIdeal.Read.val_main_v57_eq _ _ _ _ _).trans ?_
    rw [e0, e1, e2, e3, e4, arr7 m c]
    exact funext fun i => Cert.FdownRefIdeal.Fwd.v57 _ _ _ _ _ hn i
  · refine (Cert.FdownRefIdeal.Read.val_main_v58_eq _ _ _ _ _).trans ?_
    rw [e0, e1, e2, e3, e4, arr8 m c hs]
    exact funext fun i => Cert.FdownRefIdeal.Fwd.v58 _ _ _ _ _ i

end Cert.FdownIdeal.Fwd

end
-- ==== Proof.Fwd.Fxattn.lean ====
/-
  The cross attention's forward call: every query row's softmax over the memory's keys, head by head, times the values.
-/
module

public import proofs.«01_k».proof.Defs
public import proofs.«01_k».proof.Proof.Gen.Fxattn.Frame
public import proofs.«01_k».proof.Proof.Gen.FxattnIdeal.Value
public import proofs.«01_k».proof.Proof.Gen.FxattnRefIdeal.Run
public import proofs.«01_k».proof.Proof.Gen.FxattnRefIdeal.Read
public import proofs.«01_k».proof.Proof.Rms.Row
public import proofs.«01_k».proof.Pre_finite_scores
public import Idealize.ShloMosaic.Lib.Pipeline.ValueKit
public import Idealize.ShloMosaic.Lib.MatmulPlain
public import Idealize.ShloMosaic.Lib.Claim

@[expose] public section

set_option maxRecDepth 16384

noncomputable section

namespace Cert.FxattnIdeal.Fwd

open Cert.FxattnIdeal Cert.FxattnIdeal.Gen Idealize.ShloMosaic Idealize.ShloMosaic.TcCoe Idealize.SL.Sem
open Cert.Rms
open scoped BigOperators

/-- The scores' factor, and the value the row maximum starts from. -/
def scale : EReal := Ideal.ofBits .f32 0x3D800000#32

def low : EReal := Ideal.ofBits .f32 0xFF800000#32

theorem scale_eq : scale = ((1 / 16 : ℝ) : EReal) := by
  unfold scale
  simp [Ideal.ofBits, Ideal.ieee, -EReal.coe_mul]; norm_num

theorem low_eq : low = ⊥ := by
  unfold low
  simp [Ideal.ofBits, Ideal.ieee]

theorem one_eq : Ideal.ofBits .f32 0x3F800000#32 = ((1 : ℝ) : EReal) := by
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

/-- A row's largest score. -/
def top (s : Fin 256 → EReal) : EReal := Finset.univ.fold max low s

/-- The numerators of a row's softmax. -/
def ex (s : Fin 256 → EReal) (j : Fin 256) : EReal := Ideal.exp (s j - top s)

/-- A row of attention, as the kernel computes it: the values' sum under the numerators, divided last. -/
def soft (s v : Fin 256 → EReal) : EReal := (∑ j, ex s j * v j) * Ideal.div (Ideal.ofBits .f32 0x3F800000#32) (∑ j, ex s j)

/-- The largest of finitely many real scores is a real number. -/
theorem top_num {s : Fin 256 → EReal} (hs : ∀ j, IsNum (s j)) : IsNum (top s) := by
  unfold top
  rw [low_eq]
  have h1 : (⊥ : EReal) < Finset.univ.fold max ⊥ s := by
    refine (Finset.lt_fold_max _).mpr (Or.inr ⟨0, Finset.mem_univ _, ?_⟩)
    obtain ⟨r, hr⟩ := hs 0
    rw [hr]
    exact EReal.bot_lt_coe r
  have h2 : Finset.univ.fold max ⊥ s < (⊤ : EReal) := by
    refine (Finset.fold_max_lt _).mpr ⟨bot_lt_top, fun j _ => ?_⟩
    obtain ⟨r, hr⟩ := hs j
    rw [hr]
    exact EReal.coe_lt_top r
  exact ⟨_, (EReal.coe_toReal h2.ne h1.ne').symm⟩

/-- A nonnegative real factor goes into a sum of extended reals. -/
theorem sum_mul_coe (f : Fin 256 → EReal) (a : ℝ) (ha : 0 ≤ a) : (∑ j, f j) * ((a : ℝ) : EReal) = ∑ j, f j * ((a : ℝ) : EReal) := by
  classical
  induction (Finset.univ : Finset (Fin 256)) using Finset.induction_on with
  | empty => simp
  | insert i u hi ih =>
    rw [Finset.sum_insert hi, Finset.sum_insert hi, ← ih]
    exact EReal.right_distrib_of_nonneg_of_ne_top (EReal.coe_nonneg.mpr ha) (EReal.coe_ne_top a) _ _

/-- The numerators are positive reals when the scores are real. -/
theorem ex_pos {s : Fin 256 → EReal} (hs : ∀ j, IsNum (s j)) : ∃ r : Fin 256 → ℝ, (∀ j, 0 < r j) ∧ ∀ j, ex s j = ((r j : ℝ) : EReal) := by
  obtain ⟨p, hp⟩ := row_coe hs
  obtain ⟨M, hM⟩ := top_num hs
  refine ⟨fun j => Real.exp (p j - M), fun j => Real.exp_pos _, fun j => ?_⟩
  unfold ex
  rw [hM, hp]
  rfl

/-- Dividing every numerator first gives the same row. -/
theorem soft_eq (s v : Fin 256 → EReal) (hs : ∀ j, IsNum (s j)) : (∑ j, v j * Ideal.div (ex s j) (∑ k, ex s k)) = soft s v := by
  obtain ⟨r, hr, he⟩ := ex_pos hs
  have hL : (∑ k, ex s k) = (((∑ k, r k : ℝ)) : EReal) := by
    rw [Finset.sum_congr rfl fun k _ => he k]
    exact (map_sum (⟨⟨Real.toEReal, EReal.coe_zero⟩, EReal.coe_add⟩ : ℝ →+ EReal) _ _).symm
  have hpos : 0 < ∑ k, r k := Finset.sum_pos (fun k _ => hr k) Finset.univ_nonempty
  have hne : (((∑ k, r k : ℝ)) : EReal) ≠ 0 := fun h => hpos.ne' (EReal.coe_eq_zero.mp h)
  have hd : ∀ x : EReal, Ideal.div x (∑ k, ex s k) = x * (((∑ k, r k)⁻¹ : ℝ) : EReal) := fun x => by
    rw [hL]
    unfold Ideal.div
    rw [if_neg hne, EReal.coe_inv]
  unfold soft
  rw [hd, one_eq, EReal.coe_one, one_mul, sum_mul_coe _ _ (inv_nonneg.mpr hpos.le)]
  refine Finset.sum_congr rfl fun j _ => ?_
  rw [hd]
  rw [← mul_assoc, mul_comm (v j)]

/-- The score of key `j` for query row `t` in head `h`. -/
def score (q : FVec Ideal S8192x1024 .bf16) (kv : FVec Ideal S1024x2048 .bf16) (t : Fin 8192) (h : Fin 4) (j : Fin 256) : EReal :=
  (∑ e : Fin 256, q (ix2 (n0 := 8192) (n1 := 1024) t ⟨256 * h.val + e.val, by omega⟩)
    * kv (ix2 (n0 := 1024) (n1 := 2048) ⟨256 * (t.val / 2048) + j.val, by omega⟩ ⟨256 * h.val + e.val, by omega⟩)) * scale

/-- The value of key `j` at column `l`, for query row `t`. -/
def value (kv : FVec Ideal S1024x2048 .bf16) (t : Fin 8192) (l : Fin 1024) (j : Fin 256) : EReal :=
  kv (ix2 (n0 := 1024) (n1 := 2048) ⟨256 * (t.val / 2048) + j.val, by omega⟩ ⟨1024 + l.val, by omega⟩)

/-- The attention's result. -/
def att (q : FVec Ideal S8192x1024 .bf16) (kv : FVec Ideal S1024x2048 .bf16) : FVec Ideal S8192x1024 .bf16 := fun i =>
  soft (score q kv (i 0) ⟨(i 1).val / 256, by have h : (i 1).val < 1024 := (i 1).isLt; omega⟩) (value kv (i 0) (i 1))

/-! A tile's blocks, entry by entry. -/

theorem mm1 (a : FVec Ideal S1024x256 .bf16) (b : FVec Ideal S256x256 .bf16) (s : Fin 1024) (j : Fin 256) :
    matmul dot_S1024x256_S256x256_S1024x256_1_1_0_0_n_n none a b (constant (F := Ideal) S1024x256 .f32 0x00000000#32) (ix2 s j)
      = ∑ e : Fin 256, (a (ix2 s e) : EReal) * b (ix2 j e) :=
  (Ideal.matmul_transposedRhs_apply _ _ _ _ _ _).trans ((congrArg₂ (· + ·) Ideal.ofBits_zero_f32 rfl).trans (zero_add _))

theorem mm2 (a : FVec Ideal S1024x256 .bf16) (b : FVec Ideal S256x256 .bf16) (s : Fin 1024) (l : Fin 256) :
    matmul dot_S1024x256_S256x256_S1024x256_1_0_0_1_n_n none a b (constant (F := Ideal) S1024x256 .f32 0x00000000#32) (ix2 s l)
      = ∑ j : Fin 256, (a (ix2 s j) : EReal) * b (ix2 j l) :=
  (Ideal.matmul_plain_apply _ _ _ _ _ _).trans ((congrArg₂ (· + ·) Ideal.ofBits_zero_f32 rfl).trans (zero_add _))

theorem pay3 (q : FVec Ideal S1024x256 .bf16) (k : FVec Ideal S256x256 .bf16) (s : Fin 1024) (j : Fin 256) :
    k0_pay3 (F := Ideal) q k (ix2 s j) = ex (fun j => (∑ e : Fin 256, (q (ix2 s e) : EReal) * k (ix2 j e)) * scale) j := by
  simp only [← mm1]
  unfold k0_pay3 ex top scale low
  generalize matmul dot_S1024x256_S256x256_S1024x256_1_1_0_0_n_n none q k (constant (F := Ideal) S1024x256 .f32 0x00000000#32) = p
  pointwise

theorem pay4 (q : FVec Ideal S1024x256 .bf16) (k : FVec Ideal S256x256 .bf16) (s : Fin 1024) (u : Fin 1) :
    k0_pay4 (F := Ideal) q k (ix2 s u) = ∑ j : Fin 256, (k0_pay3 (F := Ideal) q k (ix2 s j) : EReal) := by
  unfold k0_pay4
  generalize k0_pay3 (F := Ideal) q k = p
  pointwise

theorem pay6 (l : FVec Ideal S1024x1 .f32) (p : FVec Ideal S1024x256 .bf16) (v : FVec Ideal S256x256 .bf16) (s : Fin 1024) (d : Fin 256) :
    k0_pay6 (F := Ideal) l p v (ix2 s d)
      = (∑ j : Fin 256, (p (ix2 s j) : EReal) * v (ix2 j d)) * Ideal.div (Ideal.ofBits .f32 0x3F800000#32) (l (ix2 s 0)) := by
  rw [← mm2]
  unfold k0_pay6
  generalize matmul dot_S1024x256_S256x256_S1024x256_1_0_0_1_n_n none p v (constant (F := Ideal) S1024x256 .f32 0x00000000#32) = w
  pointwise

theorem pay2 (q : FVec Ideal S1024x256 .bf16) (k v : FVec Ideal S256x256 .bf16) (s : Fin 1024) (d : Fin 256) :
    k0_pay2 (F := Ideal) q k v (ix2 s d)
      = soft (fun j => (∑ e : Fin 256, (q (ix2 s e) : EReal) * k (ix2 j e)) * scale) (fun j => v (ix2 j d)) := by
  have e : k0_pay2 (F := Ideal) q k v = k0_pay6 (F := Ideal) (k0_pay4 q k) (k0_pay5 q k) v := rfl
  rw [e, pay6, pay4]
  simp only [pay3]
  unfold soft
  refine congrArg₂ (fun a b : EReal => a * b) (Finset.sum_congr rfl fun j _ => congrArg₂ (fun a b : EReal => a * b) ?_ rfl) rfl
  exact pay3 q k s j

/-- A block's result, from the blocks of the queries and of the memory. -/
def blk (x : FVec Ideal S1024x1024 .bf16) (y : FVec Ideal S256x2048 .bf16) : FVec Ideal S1024x1024 .bf16 := fun i =>
  soft (fun j => (∑ e : Fin 256, (x (ix2 (n0 := 1024) (n1 := 1024) (i 0) ⟨256 * ((i 1).val / 256) + e.val, by have h : (i 1).val < 1024 := (i 1).isLt; omega⟩) : EReal)
      * y (ix2 (n0 := 256) (n1 := 2048) j ⟨256 * ((i 1).val / 256) + e.val, by have h : (i 1).val < 1024 := (i 1).isLt; omega⟩)) * scale)
    (fun j => y (ix2 (n0 := 256) (n1 := 2048) j ⟨1024 + (i 1).val, by have h : (i 1).val < 1024 := (i 1).isLt; omega⟩))

/-- A head's columns of it. -/
theorem head (h : Fin 4) (x : FVec Ideal S1024x1024 .bf16) (y : FVec Ideal S256x2048 .bf16) (q : FVec Ideal S1024x256 .bf16) (k v : FVec Ideal S256x256 .bf16)
    (hq : ∀ (s : Fin 1024) (e : Fin 256), q (ix2 s e) = x (ix2 (n0 := 1024) (n1 := 1024) s ⟨256 * h.val + e.val, by omega⟩))
    (hk : ∀ (j : Fin 256) (e : Fin 256), k (ix2 j e) = y (ix2 (n0 := 256) (n1 := 2048) j ⟨256 * h.val + e.val, by omega⟩))
    (hv : ∀ (j : Fin 256) (d : Fin 256), v (ix2 j d) = y (ix2 (n0 := 256) (n1 := 2048) j ⟨1024 + (256 * h.val + d.val), by omega⟩))
    (s : Fin 1024) (d : Fin 256) :
    k0_pay2 (F := Ideal) q k v (ix2 s d) = blk x y (ix2 (n0 := 1024) (n1 := 1024) s ⟨256 * h.val + d.val, by omega⟩) := by
  rw [pay2]
  simp only [hq, hk, hv]
  have hd : (256 * h.val + d.val) / 256 = h.val := by omega
  refine congrArg₂ soft (funext fun j => congrArg (fun a : EReal => a * scale) (Finset.sum_congr rfl fun e _ => ?_)) rfl
  refine congrArg₂ (fun a b : EReal => a * b) (congrArg x (congrArg (ix2 s) (Fin.ext ?_))) (congrArg y (congrArg (ix2 j) (Fin.ext ?_)))
  · show 256 * h.val + e.val = 256 * ((256 * h.val + d.val) / 256) + e.val
    rw [hd]
  · show 256 * h.val + e.val = 256 * ((256 * h.val + d.val) / 256) + e.val
    rw [hd]

/-- The four heads run the same chain. -/
theorem pay1_eq (q : FVec Ideal S1024x256 .bf16) (k v : FVec Ideal S256x256 .bf16) :
    k0_pay1 (F := Ideal) (k0_pay8 q k) (k0_pay9 (F := Ideal)) v = k0_pay2 q k v := rfl

theorem pay7_eq (q : FVec Ideal S1024x256 .bf16) (k v : FVec Ideal S256x256 .bf16) : k0_pay7 (F := Ideal) q k v = k0_pay2 q k v := rfl

theorem pay6_eq (q : FVec Ideal S1024x256 .bf16) (k v : FVec Ideal S256x256 .bf16) :
    k0_pay6 (F := Ideal) (k0_pay4 q k) (k0_pay5 q k) v = k0_pay2 q k v := rfl

/-- Pieces written side by side are one array. -/
theorem fill (a0 a1 a2 a3 : FVec Ideal S1024x256 .bf16) (G : FVec Ideal S1024x1024 .bf16)
    (h0 : ∀ (s : Fin 1024) (d : Fin 256), (a0 (ix2 s d) : EReal) = G (ix2 (n0 := 1024) (n1 := 1024) s ⟨256 * (0 : Fin 4).val + d.val, by omega⟩))
    (h1 : ∀ (s : Fin 1024) (d : Fin 256), (a1 (ix2 s d) : EReal) = G (ix2 (n0 := 1024) (n1 := 1024) s ⟨256 * (1 : Fin 4).val + d.val, by omega⟩))
    (h2 : ∀ (s : Fin 1024) (d : Fin 256), (a2 (ix2 s d) : EReal) = G (ix2 (n0 := 1024) (n1 := 1024) s ⟨256 * (2 : Fin 4).val + d.val, by omega⟩))
    (h3 : ∀ (s : Fin 1024) (d : Fin 256), (a3 (ix2 s d) : EReal) = G (ix2 (n0 := 1024) (n1 := 1024) s ⟨256 * (3 : Fin 4).val + d.val, by omega⟩)) :
    (View.canon (Val := Elt Ideal) (s := S1024x1024) (e := .bf16) [⟨r0_9, a3⟩, ⟨r0_6, a2⟩, ⟨r0_3, a1⟩, ⟨r0_0, a0⟩] : FVec Ideal S1024x1024 .bf16) = G := by
  funext i
  refine View.canon_apply_of_pieces (Val := Elt Ideal) (e := .bf16) G _ (fun p hp z => ?_) i (cover0_2 _ _ _ _ i)
  simp only [List.mem_cons, List.not_mem_nil, or_false] at hp
  rcases hp with rfl | rfl | rfl | rfl
  · obtain ⟨s, d, rfl⟩ : ∃ (s : Fin 1024) (d : Fin 256), z = ix2 s d := ⟨z 0, z 1, (ix2_eta z).symm⟩
    exact (h3 s d).trans (congrArg G (funext fun a => Fin.ext (by
      match a with
      | ⟨0, _⟩ => show s.val = 0 + 1 * s.val; omega
      | ⟨1, _⟩ => show 256 * 3 + d.val = 768 + 1 * d.val; omega)))
  · obtain ⟨s, d, rfl⟩ : ∃ (s : Fin 1024) (d : Fin 256), z = ix2 s d := ⟨z 0, z 1, (ix2_eta z).symm⟩
    exact (h2 s d).trans (congrArg G (funext fun a => Fin.ext (by
      match a with
      | ⟨0, _⟩ => show s.val = 0 + 1 * s.val; omega
      | ⟨1, _⟩ => show 256 * 2 + d.val = 512 + 1 * d.val; omega)))
  · obtain ⟨s, d, rfl⟩ : ∃ (s : Fin 1024) (d : Fin 256), z = ix2 s d := ⟨z 0, z 1, (ix2_eta z).symm⟩
    exact (h1 s d).trans (congrArg G (funext fun a => Fin.ext (by
      match a with
      | ⟨0, _⟩ => show s.val = 0 + 1 * s.val; omega
      | ⟨1, _⟩ => show 256 * 1 + d.val = 256 + 1 * d.val; omega)))
  · obtain ⟨s, d, rfl⟩ : ∃ (s : Fin 1024) (d : Fin 256), z = ix2 s d := ⟨z 0, z 1, (ix2_eta z).symm⟩
    exact (h0 s d).trans (congrArg G (funext fun a => Fin.ext (by
      match a with
      | ⟨0, _⟩ => show s.val = 0 + 1 * s.val; omega
      | ⟨1, _⟩ => show 256 * 0 + d.val = 0 + 1 * d.val; omega)))

theorem head0 (x : FVec Ideal S1024x1024 .bf16) (y : FVec Ideal S256x2048 .bf16) (s : Fin 1024) (d : Fin 256) :
    k0_pay2 (F := Ideal) (View.ld (Val := Elt Ideal) (e' := .bf16) x r0_0) (View.ld (Val := Elt Ideal) (e' := .bf16) y r0_1)
      (View.ld (Val := Elt Ideal) (e' := .bf16) y r0_2) (ix2 s d)
      = blk x y (ix2 (n0 := 1024) (n1 := 1024) s ⟨256 * (0 : Fin 4).val + d.val, by omega⟩) := by
  refine head 0 x y _ _ _ (fun s e => ?_) (fun j e => ?_) (fun j e => ?_) s d
  · exact congrArg x (funext fun a => Fin.ext (by
      match a with
      | ⟨0, _⟩ => show 0 + 1 * s.val = s.val; omega
      | ⟨1, _⟩ => show 0 + 1 * e.val = 256 * 0 + e.val; omega))
  · exact congrArg y (funext fun a => Fin.ext (by
      match a with
      | ⟨0, _⟩ => show 0 + 1 * j.val = j.val; omega
      | ⟨1, _⟩ => show 0 + 1 * e.val = 256 * 0 + e.val; omega))
  · exact congrArg y (funext fun a => Fin.ext (by
      match a with
      | ⟨0, _⟩ => show 0 + 1 * j.val = j.val; omega
      | ⟨1, _⟩ => show 1024 + 1 * e.val = 1024 + (256 * 0 + e.val); omega))

theorem head1 (x : FVec Ideal S1024x1024 .bf16) (y : FVec Ideal S256x2048 .bf16) (s : Fin 1024) (d : Fin 256) :
    k0_pay2 (F := Ideal) (View.ld (Val := Elt Ideal) (e' := .bf16) x r0_3) (View.ld (Val := Elt Ideal) (e' := .bf16) y r0_4)
      (View.ld (Val := Elt Ideal) (e' := .bf16) y r0_5) (ix2 s d)
      = blk x y (ix2 (n0 := 1024) (n1 := 1024) s ⟨256 * (1 : Fin 4).val + d.val, by omega⟩) := by
  refine head 1 x y _ _ _ (fun s e => ?_) (fun j e => ?_) (fun j e => ?_) s d
  · exact congrArg x (funext fun a => Fin.ext (by
      match a with
      | ⟨0, _⟩ => show 0 + 1 * s.val = s.val; omega
      | ⟨1, _⟩ => show 256 + 1 * e.val = 256 * 1 + e.val; omega))
  · exact congrArg y (funext fun a => Fin.ext (by
      match a with
      | ⟨0, _⟩ => show 0 + 1 * j.val = j.val; omega
      | ⟨1, _⟩ => show 256 + 1 * e.val = 256 * 1 + e.val; omega))
  · exact congrArg y (funext fun a => Fin.ext (by
      match a with
      | ⟨0, _⟩ => show 0 + 1 * j.val = j.val; omega
      | ⟨1, _⟩ => show 1280 + 1 * e.val = 1024 + (256 * 1 + e.val); omega))

theorem head2 (x : FVec Ideal S1024x1024 .bf16) (y : FVec Ideal S256x2048 .bf16) (s : Fin 1024) (d : Fin 256) :
    k0_pay2 (F := Ideal) (View.ld (Val := Elt Ideal) (e' := .bf16) x r0_6) (View.ld (Val := Elt Ideal) (e' := .bf16) y r0_7)
      (View.ld (Val := Elt Ideal) (e' := .bf16) y r0_8) (ix2 s d)
      = blk x y (ix2 (n0 := 1024) (n1 := 1024) s ⟨256 * (2 : Fin 4).val + d.val, by omega⟩) := by
  refine head 2 x y _ _ _ (fun s e => ?_) (fun j e => ?_) (fun j e => ?_) s d
  · exact congrArg x (funext fun a => Fin.ext (by
      match a with
      | ⟨0, _⟩ => show 0 + 1 * s.val = s.val; omega
      | ⟨1, _⟩ => show 512 + 1 * e.val = 256 * 2 + e.val; omega))
  · exact congrArg y (funext fun a => Fin.ext (by
      match a with
      | ⟨0, _⟩ => show 0 + 1 * j.val = j.val; omega
      | ⟨1, _⟩ => show 512 + 1 * e.val = 256 * 2 + e.val; omega))
  · exact congrArg y (funext fun a => Fin.ext (by
      match a with
      | ⟨0, _⟩ => show 0 + 1 * j.val = j.val; omega
      | ⟨1, _⟩ => show 1536 + 1 * e.val = 1024 + (256 * 2 + e.val); omega))

theorem head3 (x : FVec Ideal S1024x1024 .bf16) (y : FVec Ideal S256x2048 .bf16) (s : Fin 1024) (d : Fin 256) :
    k0_pay2 (F := Ideal) (View.ld (Val := Elt Ideal) (e' := .bf16) x r0_9) (View.ld (Val := Elt Ideal) (e' := .bf16) y r0_10)
      (View.ld (Val := Elt Ideal) (e' := .bf16) y r0_11) (ix2 s d)
      = blk x y (ix2 (n0 := 1024) (n1 := 1024) s ⟨256 * (3 : Fin 4).val + d.val, by omega⟩) := by
  refine head 3 x y _ _ _ (fun s e => ?_) (fun j e => ?_) (fun j e => ?_) s d
  · exact congrArg x (funext fun a => Fin.ext (by
      match a with
      | ⟨0, _⟩ => show 0 + 1 * s.val = s.val; omega
      | ⟨1, _⟩ => show 768 + 1 * e.val = 256 * 3 + e.val; omega))
  · exact congrArg y (funext fun a => Fin.ext (by
      match a with
      | ⟨0, _⟩ => show 0 + 1 * j.val = j.val; omega
      | ⟨1, _⟩ => show 768 + 1 * e.val = 256 * 3 + e.val; omega))
  · exact congrArg y (funext fun a => Fin.ext (by
      match a with
      | ⟨0, _⟩ => show 0 + 1 * j.val = j.val; omega
      | ⟨1, _⟩ => show 1792 + 1 * e.val = 1024 + (256 * 3 + e.val); omega))

/-- What the body leaves in its output block. -/
theorem out_eq (x : FVec Ideal S1024x1024 .bf16) (y : FVec Ideal S256x2048 .bf16) : out0_2 (F := Ideal) x y = blk x y := by
  unfold out0_2
  rw [pay1_eq, pay7_eq, pay6_eq]
  exact fill _ _ _ _ _ (head0 x y) (head1 x y) (head2 x y) (head3 x y)

variable (m : (ℓ : Loc nD τ sig) → Buf (Elt Ideal) ℓ) (c : Dev nD)

/-- Every window's block index: two points share a batch's keys and values. -/
theorem idx : ∀ t : Fin cfg0.N, win0_0.index t = ![t.val, 0] ∧ win0_1.index t = ![t.val / 2, 0] ∧ win0_2.index t = ![t.val, 0] :=
  (by decide +kernel : ∀ t : Fin grid0.N, _)

theorem lt : ∀ t : Fin cfg0.N, t.val < 8 := (by decide +kernel : ∀ t : Fin grid0.N, t.val < 8)

theorem read0 (t : Fin cfg0.N) (s : Fin 1024) (k : Fin 1024) (x : FVec Ideal S8192x1024 .bf16) (ht : t.val < 8) :
    (win0_0.blk t).view.read (Elt Ideal) x (ix2 s k) = x (ix2 (n0 := 8192) (n1 := 1024) ⟨1024 * t.val + s.val, by omega⟩ k) := by
  have hs := s.isLt
  have hk := k.isLt
  blk_ext [idx t]

theorem read1 (t : Fin cfg0.N) (j : Fin 256) (k : Fin 2048) (x : FVec Ideal S1024x2048 .bf16) (ht : t.val < 8) :
    (win0_1.blk t).view.read (Elt Ideal) x (ix2 j k) = x (ix2 (n0 := 1024) (n1 := 2048) ⟨256 * (t.val / 2) + j.val, by omega⟩ k) := by
  have hs := j.isLt
  have hk := k.isLt
  blk_ext [idx t]

/-- The arrays the call reads. -/
abbrev qA : FVec Ideal S8192x1024 .bf16 := m ((c : Thread nD τ).loc main_arg0)

abbrev kvA : FVec Ideal S1024x2048 .bf16 := m ((c : Thread nD τ).loc main_arg1)

theorem iblk0 (t : Fin cfg0.N) : iblk m c 0 t = (win0_0.blk t).view.read (Elt Ideal) (qA m c) := rfl

theorem iblk1 (t : Fin cfg0.N) : iblk m c 1 t = (win0_1.blk t).view.read (Elt Ideal) (kvA m c) := rfl

/-- A point's rows of the result. -/
theorem at2 (t : Fin cfg0.N) (ht : t.val < 8) (s l : Fin 1024) :
    blk (iblk m c 0 t) (iblk m c 1 t) (ix2 s l) = att (qA m c) (kvA m c) (ix2 (n0 := 8192) (n1 := 1024) ⟨1024 * t.val + s.val, by omega⟩ l) := by
  have hs := s.isLt
  have hd : t.val / 2 = (1024 * t.val + s.val) / 2048 := by omega
  have row : ∀ (j : Fin 256) (k : Fin 2048), kvA m c (ix2 (n0 := 1024) (n1 := 2048) ⟨256 * (t.val / 2) + j.val, by omega⟩ k)
      = kvA m c (ix2 (n0 := 1024) (n1 := 2048) ⟨256 * ((1024 * t.val + s.val) / 2048) + j.val, by omega⟩ k) := fun j k =>
    congrArg (fun i => kvA m c (ix2 (n0 := 1024) (n1 := 2048) i k)) (Fin.ext (by
      show 256 * (t.val / 2) + j.val = 256 * ((1024 * t.val + s.val) / 2048) + j.val
      rw [hd]))
  rw [iblk0, iblk1]
  refine congrArg₂ soft (funext fun j => congrArg (fun a : EReal => a * scale) (Finset.sum_congr rfl fun e _ => ?_)) (funext fun j => ?_)
  · exact congrArg₂ (fun a b : EReal => a * b) (read0 t s _ _ ht) ((read1 t j _ _ ht).trans (row j _))
  · exact (read1 t j _ _ ht).trans (row j _)

/-- The kernel's result. -/
theorem arr2 : (dats m 0 c).arrAt 2 cfg0.N = att (qA m c) (kvA m c) := by
  refine (dats m 0 c).arrAt_eq_of_covers 2 _ (by decide +kernel) fun t _ y => ?_
  have hN := lt t
  obtain ⟨s, l, rfl⟩ : ∃ (s l : Fin 1024), y = ix2 s l := ⟨y 0, y 1, (ix2_eta y).symm⟩
  have hs := s.isLt
  have hl := l.isLt
  have e : (win0_2.blk t).view.emb (ix2 s l) = ix2 (n0 := 8192) (n1 := 1024) ⟨1024 * t.val + s.val, by omega⟩ l := by
    blk_ext [idx t]
  refine Eq.trans ?_ (congrArg (att _ _) e.symm)
  show ((dats m 0 c).after 2 t : FVec Ideal S1024x1024 .bf16) (ix2 s l) = _
  rw [after0_2, out_eq]
  exact at2 m c t hN s l

end Cert.FxattnIdeal.Fwd

namespace Cert.FxattnRefIdeal.Fwd

open Cert.FxattnRefIdeal Cert.FxattnRefIdeal.Gen Cert.FxattnRefIdeal.Read Idealize.ShloMosaic Idealize.SL.Sem
open Cert.Rms Cert.FxattnIdeal.Fwd
open scoped BigOperators

variable (x0 : (⟨S8192x1024, .bf16⟩ : BufTy).Contents (Elt Ideal)) (x1 : (⟨S1024x2048, .bf16⟩ : BufTy).Contents (Elt Ideal))

/-- A score, in the reference's layout: batch, head, position, key. -/
theorem v9 (b h : Fin 4) (s : Fin 2048) (j : Fin 256) :
    val_main_v9 (F := Ideal) x0 x1 (ix4 (n0 := 4) (n1 := 4) (n2 := 2048) (n3 := 256) b h s j) = score x0 x1 ⟨2048 * b.val + s.val, by omega⟩ h j := by
  rw [val_main_v9_apply, val_main_v7_apply, val_main_v8_apply]
  have hd : ∀ x : EReal, Ideal.div x (Ideal.ofBits .f32 0x41800000#32) = x * scale := fun x => by
    rw [sixteen_eq, scale_eq]
    unfold Ideal.div
    rw [if_neg (fun h => by have := EReal.coe_eq_zero.mp h; norm_num at this), ← EReal.coe_inv]
    norm_num
  refine (hd _).trans ?_
  unfold score
  refine congrArg (fun a : EReal => a * scale) (Finset.sum_congr rfl fun e _ => ?_)
  rw [val_main_v2_apply, val_main_v0_apply, val_main_v5_apply, val_main_v3_apply, val_main_v1_apply]
  refine congrArg₂ (fun a b : EReal => a * b) (congrArg x0 (funext fun a => Fin.ext ?_)) (congrArg x1 (funext fun a => Fin.ext ?_))
  · have he := e.isLt
    have hh := h.isLt
    match a with
    | ⟨0, _⟩ => show (((b.val * 2048 + s.val) * 4 + h.val) * 256 + e.val) / 1024 = 2048 * b.val + s.val; omega
    | ⟨1, _⟩ => show (((b.val * 2048 + s.val) * 4 + h.val) * 256 + e.val) % 1024 = 256 * h.val + e.val; omega
  · have he := e.isLt
    have hh := h.isLt
    have hs := s.isLt
    match a with
    | ⟨0, _⟩ => show (((b.val * 256 + j.val) * 4 + h.val) * 256 + e.val) / 1024 = 256 * ((2048 * b.val + s.val) / 2048) + j.val; omega
    | ⟨1, _⟩ => show (((b.val * 256 + j.val) * 4 + h.val) * 256 + e.val) % 1024 = 256 * h.val + e.val; omega

/-- A row's largest score. -/
theorem v12 (b h : Fin 4) (s : Fin 2048) :
    val_main_v12 (F := Ideal) x0 x1 (ix3 (n0 := 4) (n1 := 4) (n2 := 2048) b h s) = top (score x0 x1 ⟨2048 * b.val + s.val, by omega⟩ h) := by
  have e : val_main_v10 (F := Ideal) x0 x1 (ix3 (n0 := 4) (n1 := 4) (n2 := 2048) b h s)
      = top fun j => val_main_v9 (F := Ideal) x0 x1 (ix4 (n0 := 4) (n1 := 4) (n2 := 2048) (n3 := 256) b h s j) := by
    unfold val_main_v10 val_main_cst_0 top low
    generalize val_main_v9 (F := Ideal) x0 x1 = p
    pointwise
  rw [val_main_v12_apply, e]
  simp only [v9]
  have e' : (val_main_v11 (F := Ideal) (ix3 (n0 := 4) (n1 := 4) (n2 := 2048) b h s) : EReal) = ⊥ := low_eq
  rw [e']
  exact max_eq_right bot_le

/-- A row's numerators. -/
theorem v16 (b h : Fin 4) (s : Fin 2048) (j : Fin 256) :
    val_main_v16 (F := Ideal) x0 x1 (ix4 (n0 := 4) (n1 := 4) (n2 := 2048) (n3 := 256) b h s j) = ex (score x0 x1 ⟨2048 * b.val + s.val, by omega⟩ h) j := by
  rw [val_main_v16_apply, val_main_v15_apply, v9, val_main_v14_apply, val_main_v13_apply]
  have e : idx_main_v13 (idx_main_v14 (ix4 (n0 := 4) (n1 := 4) (n2 := 2048) (n3 := 256) b h s j)) = ix3 (n0 := 4) (n1 := 4) (n2 := 2048) b h s :=
    funext fun a => Fin.ext (by match a with | ⟨0, _⟩ => rfl | ⟨1, _⟩ => rfl | ⟨2, _⟩ => rfl)
  rw [e, v12]
  rfl

/-- A row's weights. -/
theorem v20 (b h : Fin 4) (s : Fin 2048) (j : Fin 256) :
    val_main_v20 (F := Ideal) x0 x1 (ix4 (n0 := 4) (n1 := 4) (n2 := 2048) (n3 := 256) b h s j)
      = Ideal.div (ex (score x0 x1 ⟨2048 * b.val + s.val, by omega⟩ h) j) (∑ k, ex (score x0 x1 ⟨2048 * b.val + s.val, by omega⟩ h) k) := by
  rw [val_main_v20_apply, v16, val_main_v19_apply, val_main_v18_apply, val_main_v17_apply]
  refine congrArg (fun a : EReal => Ideal.div (ex (score x0 x1 ⟨2048 * b.val + s.val, by omega⟩ h) j) a) ?_
  refine (congrArg₂ (fun p q : EReal => p + q) Ideal.ofBits_zero_f32 (Finset.sum_congr rfl fun k _ => ?_)).trans (zero_add _)
  have e : idx_main_v17 (idx_main_v18 (idx_main_v19 (ix4 (n0 := 4) (n1 := 4) (n2 := 2048) (n3 := 256) b h s j))) k
      = ix4 (n0 := 4) (n1 := 4) (n2 := 2048) (n3 := 256) b h s k :=
    funext fun a => Fin.ext (by match a with | ⟨0, _⟩ => rfl | ⟨1, _⟩ => rfl | ⟨2, _⟩ => rfl | ⟨3, _⟩ => rfl)
  rw [e, v16]

/-- The reference's result. -/
theorem v24 (hs : ∀ t h j, IsNum (score x0 x1 t h j)) (i : S8192x1024.Idx) : val_main_v24 (F := Ideal) x0 x1 i = att x0 x1 i := by
  obtain ⟨t, l, rfl⟩ : ∃ (t : Fin 8192) (l : Fin 1024), i = ix2 t l := ⟨i 0, i 1, (ix2_eta i).symm⟩
  have ht := t.isLt
  have hl := l.isLt
  rw [val_main_v24_apply]
  refine Eq.trans (val_main_v23_apply x0 x1 (ix2 t l)) ?_
  rw [val_main_v22_apply, val_main_v21_apply]
  have et : (⟨2048 * (t.val / 2048) + t.val % 2048, by omega⟩ : Fin 8192) = t := Fin.ext (by show 2048 * (t.val / 2048) + t.val % 2048 = t.val; omega)
  refine Eq.trans (Finset.sum_congr rfl fun j _ => congrArg₂ (fun a b : EReal => a * b) (?_ : _ = value x1 t l j)
    (?_ : _ = Ideal.div (ex (score x0 x1 t ⟨l.val / 256, by omega⟩) j) (∑ k, ex (score x0 x1 t ⟨l.val / 256, by omega⟩) k)))
    (soft_eq _ _ fun j => hs _ _ j)
  · rw [val_main_v6_apply, val_main_v4_apply, val_main_v1_apply]
    have hj := j.isLt
    refine congrArg x1 (funext fun a => Fin.ext ?_)
    match a with
    | ⟨0, _⟩ =>
      show (((((t.val * 1024 + l.val) / 2097152) * 256 + j.val) * 4 + (t.val * 1024 + l.val) / 256 % 4) * 256 + (t.val * 1024 + l.val) % 256) / 1024
        = 256 * (t.val / 2048) + j.val
      omega
    | ⟨1, _⟩ =>
      show 1024 + (((((t.val * 1024 + l.val) / 2097152) * 256 + j.val) * 4 + (t.val * 1024 + l.val) / 256 % 4) * 256 + (t.val * 1024 + l.val) % 256) % 1024
        = 1024 + l.val
      omega
  · have e : ridx_main_v21 (idx_main_v22 (idx_main_v23 (ix2 t l))) j
        = ix4 (n0 := 4) (n1 := 4) (n2 := 2048) (n3 := 256) ⟨t.val / 2048, by omega⟩ ⟨l.val / 256, by omega⟩ ⟨t.val % 2048, by omega⟩ j :=
      funext fun a => Fin.ext (by
        match a with
        | ⟨0, _⟩ => show (t.val * 1024 + l.val) / 2097152 = t.val / 2048; omega
        | ⟨1, _⟩ => show (t.val * 1024 + l.val) / 256 % 4 = l.val / 256; omega
        | ⟨2, _⟩ => show (t.val * 1024 + l.val) / 1024 % 2048 = t.val % 2048; omega
        | ⟨3, _⟩ => rfl)
    rw [e, v20]
    simp only [et]

end Cert.FxattnRefIdeal.Fwd

namespace Cert.FxattnIdeal.Fwd

open Cert.FxattnIdeal Cert.FxattnIdeal.Gen Idealize.ShloMosaic Idealize.ShloMosaic.TcCoe Idealize.SL.Sem
open Cert.Rms

/-- The side conditions the precondition states. -/
theorem preFacts : Cert.Pre_finite_scores.Facts where
  slices_S1024x2048_S1024x1024_0_0 := by decide
  bitsLt_bf16_f32 := by decide
  bcast_S_S8192x1024 := by decide
  bcast_S_S1024x1024 := by decide

theorem frame_p : Cert.quiescent_Fxattn (hFxattn := Cert.Fxattn.Gen.facts) := fun m ρ _ => Cert.Fxattn.Gen.frame m ρ

theorem frame_pi : Cert.quiescent_FxattnIdeal (hFxattnIdeal := Cert.FxattnIdeal.Gen.facts) := fun m ρ _ => Cert.FxattnIdeal.Gen.frame m ρ

theorem frame_pi_pre : Cert.quiescent_FxattnIdeal_pre_finite_scores (hFxattnIdeal := Cert.FxattnIdeal.Gen.facts) (hPre_finite_scores := preFacts) :=
  fun m ρ _ => Cert.FxattnIdeal.Gen.frame m ρ

/-- The reference's frame: host operations only, no semaphore. -/
theorem frame_ri : Cert.quiescent_FxattnRefIdeal (hFxattnRefIdeal := Cert.FxattnRefIdeal.Gen.facts) := fun m ρ _ =>
  (θ_run (Cert.FxattnRefIdeal.defs (F := Ideal)) _ _).mono (fun r h => ⟨fun c => (h c).2, Idealize.ShloMosaic.sem_eq_zero_of_no_sems (by decide) r.2⟩)
    (Cert.FxattnRefIdeal.Value.run (F := Ideal) m ρ)

theorem frame_ri_pre : Cert.quiescent_FxattnRefIdeal_pre_finite_scores (hFxattnRefIdeal := Cert.FxattnRefIdeal.Gen.facts) (hPre_finite_scores := preFacts) :=
  fun m ρ _ => frame_ri m ρ trivial

variable (m : (ℓ : Loc nD τ sig) → Buf (Elt Ideal) ℓ) (c : Dev nD)

/-- Under the precondition every score is a real number. -/
theorem nums (hpre : Cert.Pre_FxattnIdeal_finite_scores (hPre_finite_scores := preFacts) m) :
    ∀ t h j, IsNum (score (qA m c) (kvA m c) t h j) := by
  obtain ⟨h0, h1⟩ := hpre c
  have n0 : ∀ i, IsNum (qA m c i) := fun i => IsNum.of_bit (congrFun h0 i)
  have n1 : ∀ (j k : Fin 1024), IsNum (kvA m c (ix2 (n0 := 1024) (n1 := 2048) j ⟨k.val, by omega⟩)) := fun j k => by
    have e := IsNum.of_bit (congrFun h1 (ix2 j k))
    have es : (extractStridedSlice Cert.Pre_finite_scores.S1024x1024 ![0, 0] (kvA m c) preFacts.slices_S1024x2048_S1024x1024_0_0 (ix2 (n0 := 1024) (n1 := 1024) j k) : EReal)
        = kvA m c (ix2 (n0 := 1024) (n1 := 2048) j ⟨k.val, by omega⟩) :=
      extractStridedSlice_apply ![0, 0] (kvA m c) preFacts.slices_S1024x2048_S1024x1024_0_0 _ _ (fun a => by
        match a with
        | ⟨0, _⟩ => exact (Nat.zero_add _).symm
        | ⟨1, _⟩ => exact (Nat.zero_add _).symm)
    exact es ▸ e
  intro t h j
  unfold score
  refine (IsNum.sum fun e => (n0 _).mul (n1 _ ⟨256 * h.val + e.val, by omega⟩)).mul ⟨_, scale_eq⟩

theorem algebraic : Cert.algebraic_FxattnIdeal_FxattnRefIdeal_pre_finite_scores (hFxattnIdeal := Cert.FxattnIdeal.Gen.facts)
    (hFxattnRefIdeal := Cert.FxattnRefIdeal.Gen.facts) (hPre_finite_scores := preFacts) := by
  intro m ρ m' ρ' hpre hagree
  refine ⟨_, Cert.FxattnIdeal.Value.run_blocks m ρ, ?_⟩
  refine (θ_run (Cert.FxattnRefIdeal.defs (F := Ideal)) _ _).mono (fun r h c => ?_) (Cert.FxattnRefIdeal.Value.run (F := Ideal) m' ρ')
  obtain ⟨e0, e1⟩ := hagree c
  obtain ⟨h0, k⟩ := h c
  refine ⟨h0.trans ?_, k⟩
  refine (Cert.FxattnRefIdeal.Read.val_main_v24_eq _ _).trans ?_
  rw [e0, e1, arr2 m c]
  exact funext fun i => Cert.FxattnRefIdeal.Fwd.v24 _ _ (nums m c hpre) i

end Cert.FxattnIdeal.Fwd

end
-- ==== Proof.lean ====
/-
  The proof of `Cert.Claim`: the backward call of the forgetting attention and the backward products run, leave their
  arguments, and compute the gradients of the reference's lines. Proof/Fox holds the attention's mathematics, Proof/Prod
  the products', Proof/Rms the norms' gradients,
  Proof/Fwd the forward calls; here they are put together.
-/
module

public import proofs.«01_k».proof.Defs
public import proofs.«01_k».proof.Proof.Fox.Claims
public import proofs.«01_k».proof.Proof.Prod.Dact
public import proofs.«01_k».proof.Proof.Prod.Wdown
public import proofs.«01_k».proof.Proof.Prod.Wup
public import proofs.«01_k».proof.Proof.Prod.Wxo
public import proofs.«01_k».proof.Proof.Prod.Wxq
public import proofs.«01_k».proof.Proof.Prod.Wkv
public import proofs.«01_k».proof.Proof.Rms.Dh3Ref
public import proofs.«01_k».proof.Proof.Rms.Dh2Ref
public import proofs.«01_k».proof.Proof.Rms.Dmem
public import proofs.«01_k».proof.Proof.Rms.Dh1Ref
public import proofs.«01_k».proof.Proof.Prod.WinDil
public import proofs.«01_k».proof.Proof.Prod.WinFox
public import proofs.«01_k».proof.Proof.Fwd.Fxo
public import proofs.«01_k».proof.Proof.Fwd.Fout
public import proofs.«01_k».proof.Proof.Fwd.Fin
public import proofs.«01_k».proof.Proof.Fwd.Fdown
public import proofs.«01_k».proof.Proof.Fwd.Fxattn
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Dact.Gen.facts, Cert.DactIdeal.Gen.facts, Cert.DactRefIdeal.Gen.facts,
    Cert.Wdown.Gen.facts, Cert.WdownIdeal.Gen.facts, Cert.WdownRefIdeal.Gen.facts,
    Cert.Wup.Gen.facts, Cert.WupIdeal.Gen.facts, Cert.WupRefIdeal.Gen.facts,
    Cert.Wxo.Gen.facts, Cert.WxoIdeal.Gen.facts, Cert.WxoRefIdeal.Gen.facts,
    Cert.Wxq.Gen.facts, Cert.WxqIdeal.Gen.facts, Cert.WxqRefIdeal.Gen.facts,
    Cert.Wkv.Gen.facts, Cert.WkvIdeal.Gen.facts, Cert.WkvRefIdeal.Gen.facts,
    Cert.Dh3.Gen.facts, Cert.Dh3Ideal.Gen.facts, Cert.Dh3RefIdeal.Gen.facts,
    Cert.Dh2.Gen.facts, Cert.Dh2Ideal.Gen.facts, Cert.Dh2RefIdeal.Gen.facts,
    Cert.Dmem.Gen.facts, Cert.DmemIdeal.Gen.facts, Cert.DmemRefIdeal.Gen.facts,
    Cert.Dh1.Gen.facts, Cert.Dh1Ideal.Gen.facts, Cert.Dh1RefIdeal.Gen.facts,
    Cert.WinDil.Gen.facts, Cert.WinDilIdeal.Gen.facts, Cert.WinDilRefIdeal.Gen.facts,
    Cert.WinFox.Gen.facts, Cert.WinFoxIdeal.Gen.facts, Cert.WinFoxRefIdeal.Gen.facts,
    Cert.Fxo.Gen.facts, Cert.FxoIdeal.Gen.facts, Cert.FxoRefIdeal.Gen.facts,
    Cert.Fout.Gen.facts, Cert.FoutIdeal.Gen.facts, Cert.FoutRefIdeal.Gen.facts,
    Cert.Fin.Gen.facts, Cert.FinIdeal.Gen.facts, Cert.FinRefIdeal.Gen.facts,
    Cert.Fdown.Gen.facts, Cert.FdownIdeal.Gen.facts, Cert.FdownRefIdeal.Gen.facts,
    Cert.Fxattn.Gen.facts, Cert.FxattnIdeal.Gen.facts, Cert.FxattnRefIdeal.Gen.facts,
    Cert.Fox.preFacts, Cert.Dh3Ideal.Rms.preFacts, Cert.Dh2Ideal.Rms.preFacts, Cert.DmemIdeal.Rms.preFacts, Cert.Dh1Ideal.Rms.preFacts, Cert.FdownIdeal.Fwd.preFacts, Cert.FxattnIdeal.Fwd.preFacts,
    Cert.Fox.frame_p, Cert.Fox.frame_pi, Cert.Fox.frame_pi_pre, Cert.Fox.frame_ri, Cert.Fox.frame_ri_pre,
    Cert.DactIdeal.Prod.frame_p, Cert.DactIdeal.Prod.frame_pi, Cert.DactIdeal.Prod.frame_ri,
    Cert.WdownIdeal.Prod.frame_p, Cert.WdownIdeal.Prod.frame_pi, Cert.WdownIdeal.Prod.frame_ri,
    Cert.WupIdeal.Prod.frame_p, Cert.WupIdeal.Prod.frame_pi, Cert.WupIdeal.Prod.frame_ri,
    Cert.WxoIdeal.Prod.frame_p, Cert.WxoIdeal.Prod.frame_pi, Cert.WxoIdeal.Prod.frame_ri,
    Cert.WxqIdeal.Prod.frame_p, Cert.WxqIdeal.Prod.frame_pi, Cert.WxqIdeal.Prod.frame_ri,
    Cert.WkvIdeal.Prod.frame_p, Cert.WkvIdeal.Prod.frame_pi, Cert.WkvIdeal.Prod.frame_ri,
    Cert.Dh3Ideal.Rms.frame_p, Cert.Dh3Ideal.Rms.frame_pi, Cert.Dh3Ideal.Rms.frame_pi_pre, Cert.Dh3Ideal.Rms.frame_ri, Cert.Dh3Ideal.Rms.frame_ri_pre,
    Cert.Dh2Ideal.Rms.frame_p, Cert.Dh2Ideal.Rms.frame_pi, Cert.Dh2Ideal.Rms.frame_pi_pre, Cert.Dh2Ideal.Rms.frame_ri, Cert.Dh2Ideal.Rms.frame_ri_pre,
    Cert.DmemIdeal.Rms.frame_p, Cert.DmemIdeal.Rms.frame_pi, Cert.DmemIdeal.Rms.frame_pi_pre, Cert.DmemIdeal.Rms.frame_ri, Cert.DmemIdeal.Rms.frame_ri_pre,
    Cert.Dh1Ideal.Rms.frame_p, Cert.Dh1Ideal.Rms.frame_pi, Cert.Dh1Ideal.Rms.frame_pi_pre, Cert.Dh1Ideal.Rms.frame_ri, Cert.Dh1Ideal.Rms.frame_ri_pre,
    Cert.WinDilIdeal.Prod.frame_p, Cert.WinDilIdeal.Prod.frame_pi, Cert.WinDilIdeal.Prod.frame_ri,
    Cert.WinFoxIdeal.Prod.frame_p, Cert.WinFoxIdeal.Prod.frame_pi, Cert.WinFoxIdeal.Prod.frame_ri,
    Cert.FxoIdeal.Fwd.frame_p, Cert.FxoIdeal.Fwd.frame_pi, Cert.FxoIdeal.Fwd.frame_ri,
    Cert.FoutIdeal.Fwd.frame_p, Cert.FoutIdeal.Fwd.frame_pi, Cert.FoutIdeal.Fwd.frame_ri,
    Cert.FinIdeal.Fwd.frame_p, Cert.FinIdeal.Fwd.frame_pi, Cert.FinIdeal.Fwd.frame_ri,
    Cert.FdownIdeal.Fwd.frame_p, Cert.FdownIdeal.Fwd.frame_pi, Cert.FdownIdeal.Fwd.frame_pi_pre, Cert.FdownIdeal.Fwd.frame_ri, Cert.FdownIdeal.Fwd.frame_ri_pre,
    Cert.FxattnIdeal.Fwd.frame_p, Cert.FxattnIdeal.Fwd.frame_pi, Cert.FxattnIdeal.Fwd.frame_pi_pre, Cert.FxattnIdeal.Fwd.frame_ri, Cert.FxattnIdeal.Fwd.frame_ri_pre,
    trivial, Cert.Fox.algebraic,
    trivial, Cert.DactIdeal.Prod.algebraic,
    trivial, Cert.WdownIdeal.Prod.algebraic,
    trivial, Cert.WupIdeal.Prod.algebraic,
    trivial, Cert.WxoIdeal.Prod.algebraic,
    trivial, Cert.WxqIdeal.Prod.algebraic,
    trivial, Cert.WkvIdeal.Prod.algebraic,
    trivial, Cert.Dh3Ideal.Rms.algebraic,
    trivial, Cert.Dh2Ideal.Rms.algebraic,
    trivial, Cert.DmemIdeal.Rms.algebraic,
    trivial, Cert.Dh1Ideal.Rms.algebraic,
    trivial, Cert.WinDilIdeal.Prod.algebraic,
    trivial, Cert.WinFoxIdeal.Prod.algebraic,
    trivial, Cert.FxoIdeal.Fwd.algebraic,
    trivial, Cert.FoutIdeal.Fwd.algebraic,
    trivial, Cert.FinIdeal.Fwd.algebraic,
    trivial, Cert.FdownIdeal.Fwd.algebraic,
    trivial, Cert.FxattnIdeal.Fwd.algebraic⟩

end Cert.Proof

end
